-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3)
      ∧ r.2.mem ((c.tc : Thread Cert.Kernel37.nD Cert.Kernel37.τ).loc Cert.Kernel37.main_arg4) = m ((c.tc : Thread Cert.Kernel37.nD Cert.Kernel37.τ).loc Cert.Kernel37.main_arg4)
      ∧ r.2.mem ((c.tc : Thread Cert.Kernel37.nD Cert.Kernel37.τ).loc Cert.Kernel37.main_arg5) = m ((c.tc : Thread Cert.Kernel37.nD Cert.Kernel37.τ).loc Cert.Kernel37.main_arg5)
      ∧ r.2.mem ((c.tc : Thread Cert.Kernel37.nD Cert.Kernel37.τ).loc Cert.Kernel37.main_arg6) = m ((c.tc : Thread Cert.Kernel37.nD Cert.Kernel37.τ).loc Cert.Kernel37.main_arg6))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
      ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4)
      ∧ r.2.mem ((c.tc : Thread Cert.Kernel37Ideal.nD Cert.Kernel37Ideal.τ).loc Cert.Kernel37Ideal.main_arg5) = m ((c.tc : Thread Cert.Kernel37Ideal.nD Cert.Kernel37Ideal.τ).loc Cert.Kernel37Ideal.main_arg5)
      ∧ r.2.mem ((c.tc : Thread Cert.Kernel37Ideal.nD Cert.Kernel37Ideal.τ).loc Cert.Kernel37Ideal.main_arg6) = m ((c.tc : Thread Cert.Kernel37Ideal.nD Cert.Kernel37Ideal.τ).loc Cert.Kernel37Ideal.main_arg6))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3)
      ∧ r.2.mem ((c.tc : Thread Cert.Reference37Ideal.nD Cert.Reference37Ideal.τ).loc Cert.Reference37Ideal.main_arg4) = m ((c.tc : Thread Cert.Reference37Ideal.nD Cert.Reference37Ideal.τ).loc Cert.Reference37Ideal.main_arg4)
      ∧ r.2.mem ((c.tc : Thread Cert.Reference37Ideal.nD Cert.Reference37Ideal.τ).loc Cert.Reference37Ideal.main_arg5) = m ((c.tc : Thread Cert.Reference37Ideal.nD Cert.Reference37Ideal.τ).loc Cert.Reference37Ideal.main_arg5)
      ∧ r.2.mem ((c.tc : Thread Cert.Reference37Ideal.nD Cert.Reference37Ideal.τ).loc Cert.Reference37Ideal.main_arg6) = m ((c.tc : Thread Cert.Reference37Ideal.nD Cert.Reference37Ideal.τ).loc Cert.Reference37Ideal.main_arg6))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4)
      ∧ r.2.mem ((c.tc : Thread Cert.Kernel38.nD Cert.Kernel38.τ).loc Cert.Kernel38.main_arg5) = m ((c.tc : Thread Cert.Kernel38.nD Cert.Kernel38.τ).loc Cert.Kernel38.main_arg5)
      ∧ r.2.mem ((c.tc : Thread Cert.Kernel38.nD Cert.Kernel38.τ).loc Cert.Kernel38.main_arg6) = m ((c.tc : Thread Cert.Kernel38.nD Cert.Kernel38.τ).loc Cert.Kernel38.main_arg6))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
      ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5)
      ∧ r.2.mem ((c.tc : Thread Cert.Kernel38Ideal.nD Cert.Kernel38Ideal.τ).loc Cert.Kernel38Ideal.main_arg6) = m ((c.tc : Thread Cert.Kernel38Ideal.nD Cert.Kernel38Ideal.τ).loc Cert.Kernel38Ideal.main_arg6))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4)
      ∧ r.2.mem ((c.tc : Thread Cert.Reference38Ideal.nD Cert.Reference38Ideal.τ).loc Cert.Reference38Ideal.main_arg5) = m ((c.tc : Thread Cert.Reference38Ideal.nD Cert.Reference38Ideal.τ).loc Cert.Reference38Ideal.main_arg5)
      ∧ r.2.mem ((c.tc : Thread Cert.Reference38Ideal.nD Cert.Reference38Ideal.τ).loc Cert.Reference38Ideal.main_arg6) = m ((c.tc : Thread Cert.Reference38Ideal.nD Cert.Reference38Ideal.τ).loc Cert.Reference38Ideal.main_arg6))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3)
      ∧ r.2.mem ((c.tc : Thread Cert.Kernel39.nD Cert.Kernel39.τ).loc Cert.Kernel39.main_arg4) = m ((c.tc : Thread Cert.Kernel39.nD Cert.Kernel39.τ).loc Cert.Kernel39.main_arg4)
      ∧ r.2.mem ((c.tc : Thread Cert.Kernel39.nD Cert.Kernel39.τ).loc Cert.Kernel39.main_arg5) = m ((c.tc : Thread Cert.Kernel39.nD Cert.Kernel39.τ).loc Cert.Kernel39.main_arg5)
      ∧ r.2.mem ((c.tc : Thread Cert.Kernel39.nD Cert.Kernel39.τ).loc Cert.Kernel39.main_arg6) = m ((c.tc : Thread Cert.Kernel39.nD Cert.Kernel39.τ).loc Cert.Kernel39.main_arg6))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
      ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
      ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4)
      ∧ r.2.mem ((c.tc : Thread Cert.Reference39Ideal.nD Cert.Reference39Ideal.τ).loc Cert.Reference39Ideal.main_arg5) = m ((c.tc : Thread Cert.Reference39Ideal.nD Cert.Reference39Ideal.τ).loc Cert.Reference39Ideal.main_arg5)
      ∧ r.2.mem ((c.tc : Thread Cert.Reference39Ideal.nD Cert.Reference39Ideal.τ).loc Cert.Reference39Ideal.main_arg6) = m ((c.tc : Thread Cert.Reference39Ideal.nD Cert.Reference39Ideal.τ).loc Cert.Reference39Ideal.main_arg6))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4)
      ∧ r.2.mem ((c.tc : Thread Cert.Kernel40.nD Cert.Kernel40.τ).loc Cert.Kernel40.main_arg5) = m ((c.tc : Thread Cert.Kernel40.nD Cert.Kernel40.τ).loc Cert.Kernel40.main_arg5)
      ∧ r.2.mem ((c.tc : Thread Cert.Kernel40.nD Cert.Kernel40.τ).loc Cert.Kernel40.main_arg6) = m ((c.tc : Thread Cert.Kernel40.nD Cert.Kernel40.τ).loc Cert.Kernel40.main_arg6))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
      ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5)
      ∧ r.2.mem ((c.tc : Thread Cert.Kernel40Ideal.nD Cert.Kernel40Ideal.τ).loc Cert.Kernel40Ideal.main_arg6) = m ((c.tc : Thread Cert.Kernel40Ideal.nD Cert.Kernel40Ideal.τ).loc Cert.Kernel40Ideal.main_arg6))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4)
      ∧ r.2.mem ((c.tc : Thread Cert.Reference40Ideal.nD Cert.Reference40Ideal.τ).loc Cert.Reference40Ideal.main_arg5) = m ((c.tc : Thread Cert.Reference40Ideal.nD Cert.Reference40Ideal.τ).loc Cert.Reference40Ideal.main_arg5)
      ∧ r.2.mem ((c.tc : Thread Cert.Reference40Ideal.nD Cert.Reference40Ideal.τ).loc Cert.Reference40Ideal.main_arg6) = m ((c.tc : Thread Cert.Reference40Ideal.nD Cert.Reference40Ideal.τ).loc Cert.Reference40Ideal.main_arg6))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3)
      ∧ r.2.mem ((c.tc : Thread Cert.Kernel41.nD Cert.Kernel41.τ).loc Cert.Kernel41.main_arg4) = m ((c.tc : Thread Cert.Kernel41.nD Cert.Kernel41.τ).loc Cert.Kernel41.main_arg4)
      ∧ r.2.mem ((c.tc : Thread Cert.Kernel41.nD Cert.Kernel41.τ).loc Cert.Kernel41.main_arg5) = m ((c.tc : Thread Cert.Kernel41.nD Cert.Kernel41.τ).loc Cert.Kernel41.main_arg5)
      ∧ r.2.mem ((c.tc : Thread Cert.Kernel41.nD Cert.Kernel41.τ).loc Cert.Kernel41.main_arg6) = m ((c.tc : Thread Cert.Kernel41.nD Cert.Kernel41.τ).loc Cert.Kernel41.main_arg6))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
      ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
      ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
      ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3)
      ∧ r.2.mem ((c.tc : Thread Cert.Reference41Ideal.nD Cert.Reference41Ideal.τ).loc Cert.Reference41Ideal.main_arg4) = m ((c.tc : Thread Cert.Reference41Ideal.nD Cert.Reference41Ideal.τ).loc Cert.Reference41Ideal.main_arg4)
      ∧ r.2.mem ((c.tc : Thread Cert.Reference41Ideal.nD Cert.Reference41Ideal.τ).loc Cert.Reference41Ideal.main_arg5) = m ((c.tc : Thread Cert.Reference41Ideal.nD Cert.Reference41Ideal.τ).loc Cert.Reference41Ideal.main_arg5)
      ∧ r.2.mem ((c.tc : Thread Cert.Reference41Ideal.nD Cert.Reference41Ideal.τ).loc Cert.Reference41Ideal.main_arg6) = m ((c.tc : Thread Cert.Reference41Ideal.nD Cert.Reference41Ideal.τ).loc Cert.Reference41Ideal.main_arg6))
      ∧ r.2.sem = fun _ => 0)

def preserves_Kernel_KernelIdeal : Prop :=
  True

def algebraic_KernelIdeal_ReferenceIdeal_on_diag_blocks_pre_finite [hKernelIdeal : Cert.KernelIdeal.Facts] [hReferenceIdeal : Cert.ReferenceIdeal.Facts] [hPre_finite : Cert.Pre_finite.Facts] [hOn_diag_blocks : Cert.On_diag_blocks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 2304]⟩ : Shape).Idx, (Cert.On_diag_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v18_0) i = v0 c i)
          ∧ (∀ i : (⟨2, ![256, 256]⟩ : Shape).Idx, (Cert.On_diag_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v18_1) i = v1 c i)
          ∧ (∀ i : (⟨2, ![1, 256]⟩ : Shape).Idx, (Cert.On_diag_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.KernelIdeal.nD Cert.KernelIdeal.τ).loc Cert.KernelIdeal.main_v18_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 2304]⟩ : Shape).Idx, (Cert.On_diag_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v143) i = v0 c i)
          ∧ (∀ i : (⟨2, ![256, 256]⟩ : Shape).Idx, (Cert.On_diag_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v145) i = v1 c i)
          ∧ (∀ i : (⟨2, ![1, 256]⟩ : Shape).Idx, (Cert.On_diag_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.ReferenceIdeal.nD Cert.ReferenceIdeal.τ).loc Cert.ReferenceIdeal.main_v146) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "gelu_ca" .f32 0x3D122279#32 ((80338380498831 / 2251799813685248 : ℝ) : EReal)
  ∧ IdealRules.named_const.Statement Cert.Kernel2Ideal.κ "gelu_3ca" .f32 0x3DDB33B6#32 ((241015141496493 / 2251799813685248 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v32_0)) (v1 : (c : Dev Cert.Kernel2Ideal.nD) → Buf (Elt Ideal) ((c.tc : Thread Cert.Kernel2Ideal.nD Cert.Kernel2Ideal.τ).loc Cert.Kernel2Ideal.main_v32_1)) (v2 : (c : Dev Cert.Kernel2Ideal.nD) → Buf (Elt Ideal) ((c.tc : Thread Cert.Kernel2Ideal.nD Cert.Kernel2Ideal.τ).loc Cert.Kernel2Ideal.main_v32_2)) (v3 : (c : Dev Cert.Kernel2Ideal.nD) → Buf (Elt Ideal) ((c.tc : Thread Cert.Kernel2Ideal.nD Cert.Kernel2Ideal.τ).loc Cert.Kernel2Ideal.main_v32_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v32_0) = v0 c
          ∧ r.2.mem ((c.tc : Thread Cert.Kernel2Ideal.nD Cert.Kernel2Ideal.τ).loc Cert.Kernel2Ideal.main_v32_1) = v1 c
          ∧ r.2.mem ((c.tc : Thread Cert.Kernel2Ideal.nD Cert.Kernel2Ideal.τ).loc Cert.Kernel2Ideal.main_v32_2) = v2 c
          ∧ r.2.mem ((c.tc : Thread Cert.Kernel2Ideal.nD Cert.Kernel2Ideal.τ).loc Cert.Kernel2Ideal.main_v32_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v111) = v0 c
          ∧ r.2.mem ((c.tc : Thread Cert.Reference2Ideal.nD Cert.Reference2Ideal.τ).loc Cert.Reference2Ideal.main_v112) = v1 c
          ∧ r.2.mem ((c.tc : Thread Cert.Reference2Ideal.nD Cert.Reference2Ideal.τ).loc Cert.Reference2Ideal.main_v113) = v2 c
          ∧ r.2.mem ((c.tc : Thread Cert.Reference2Ideal.nD Cert.Reference2Ideal.τ).loc Cert.Reference2Ideal.main_v114) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_on_first_slabs [hKernel6Ideal : Cert.Kernel6Ideal.Facts] [hReference6Ideal : Cert.Reference6Ideal.Facts] [hOn_first_slabs : Cert.On_first_slabs.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨3, ![4, 1024, 1408]⟩ : Shape).Idx, (Cert.On_first_slabs.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) i = 1#1 → r.2.mem ((c.tc : Thread Cert.Kernel6Ideal.nD Cert.Kernel6Ideal.τ).loc Cert.Kernel6Ideal.main_v0) i = v0 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨3, ![4, 1024, 1408]⟩ : Shape).Idx, (Cert.On_first_slabs.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) i = 1#1 → r.2.mem ((c.tc : Thread Cert.Reference6Ideal.nD Cert.Reference6Ideal.τ).loc Cert.Reference6Ideal.main_v16) i = v0 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v40) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v39) = v0 c
          ∧ r.2.mem ((c.tc : Thread Cert.Reference10Ideal.nD Cert.Reference10Ideal.τ).loc Cert.Reference10Ideal.main_v40) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v16) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v10)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v10) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v10)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v10) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v2_0)) (v1 : (c : Dev Cert.Kernel18Ideal.nD) → Buf (Elt Ideal) ((c.tc : Thread Cert.Kernel18Ideal.nD Cert.Kernel18Ideal.τ).loc Cert.Kernel18Ideal.main_v2_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2_0) = v0 c
          ∧ r.2.mem ((c.tc : Thread Cert.Kernel18Ideal.nD Cert.Kernel18Ideal.τ).loc Cert.Kernel18Ideal.main_v2_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v15) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v13) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v10)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v10) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13) = v0 c
          ∧ r.2.mem ((c.tc : Thread Cert.Reference22Ideal.nD Cert.Reference22Ideal.τ).loc Cert.Reference22Ideal.main_v14) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v1_1)) (v2 : (c : Dev Cert.Kernel23Ideal.nD) → Buf (Elt Ideal) ((c.tc : Thread Cert.Kernel23Ideal.nD Cert.Kernel23Ideal.τ).loc Cert.Kernel23Ideal.main_v1_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v1_1) = v1 c
          ∧ r.2.mem ((c.tc : Thread Cert.Kernel23Ideal.nD Cert.Kernel23Ideal.τ).loc Cert.Kernel23Ideal.main_v1_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v50) = v0 c
          ∧ r.2.mem ((c.tc : Thread Cert.Reference23Ideal.nD Cert.Reference23Ideal.τ).loc Cert.Reference23Ideal.main_v51) = v1 c
          ∧ r.2.mem ((c.tc : Thread Cert.Reference23Ideal.nD Cert.Reference23Ideal.τ).loc Cert.Reference23Ideal.main_v52) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v1_0)) (v1 : (c : Dev Cert.Kernel24Ideal.nD) → Buf (Elt Ideal) ((c.tc : Thread Cert.Kernel24Ideal.nD Cert.Kernel24Ideal.τ).loc Cert.Kernel24Ideal.main_v1_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1_0) = v0 c
          ∧ r.2.mem ((c.tc : Thread Cert.Kernel24Ideal.nD Cert.Kernel24Ideal.τ).loc Cert.Kernel24Ideal.main_v1_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v7) = v0 c
          ∧ r.2.mem ((c.tc : Thread Cert.Reference24Ideal.nD Cert.Reference24Ideal.τ).loc Cert.Reference24Ideal.main_v21) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v7) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v13) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v4_0)) (v1 : (c : Dev Cert.Kernel31Ideal.nD) → Buf (Elt Ideal) ((c.tc : Thread Cert.Kernel31Ideal.nD Cert.Kernel31Ideal.τ).loc Cert.Kernel31Ideal.main_v4_1)) (v2 : (c : Dev Cert.Kernel31Ideal.nD) → Buf (Elt Ideal) ((c.tc : Thread Cert.Kernel31Ideal.nD Cert.Kernel31Ideal.τ).loc Cert.Kernel31Ideal.main_v4_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v4_0) = v0 c
          ∧ r.2.mem ((c.tc : Thread Cert.Kernel31Ideal.nD Cert.Kernel31Ideal.τ).loc Cert.Kernel31Ideal.main_v4_1) = v1 c
          ∧ r.2.mem ((c.tc : Thread Cert.Kernel31Ideal.nD Cert.Kernel31Ideal.τ).loc Cert.Kernel31Ideal.main_v4_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v24) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v26) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v4_0)) (v1 : (c : Dev Cert.Kernel32Ideal.nD) → Buf (Elt Ideal) ((c.tc : Thread Cert.Kernel32Ideal.nD Cert.Kernel32Ideal.τ).loc Cert.Kernel32Ideal.main_v4_1)) (v2 : (c : Dev Cert.Kernel32Ideal.nD) → Buf (Elt Ideal) ((c.tc : Thread Cert.Kernel32Ideal.nD Cert.Kernel32Ideal.τ).loc Cert.Kernel32Ideal.main_v4_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v4_0) = v0 c
          ∧ r.2.mem ((c.tc : Thread Cert.Kernel32Ideal.nD Cert.Kernel32Ideal.τ).loc Cert.Kernel32Ideal.main_v4_1) = v1 c
          ∧ r.2.mem ((c.tc : Thread Cert.Kernel32Ideal.nD Cert.Kernel32Ideal.τ).loc Cert.Kernel32Ideal.main_v4_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v24) = v0 c
          ∧ r.2.mem ((c.tc : Thread Cert.Reference32Ideal.nD Cert.Reference32Ideal.τ).loc Cert.Reference32Ideal.main_v25) = v1 c
          ∧ r.2.mem ((c.tc : Thread Cert.Reference32Ideal.nD Cert.Reference32Ideal.τ).loc Cert.Reference32Ideal.main_v26) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v4_0)) (v1 : (c : Dev Cert.Kernel33Ideal.nD) → Buf (Elt Ideal) ((c.tc : Thread Cert.Kernel33Ideal.nD Cert.Kernel33Ideal.τ).loc Cert.Kernel33Ideal.main_v4_1)) (v2 : (c : Dev Cert.Kernel33Ideal.nD) → Buf (Elt Ideal) ((c.tc : Thread Cert.Kernel33Ideal.nD Cert.Kernel33Ideal.τ).loc Cert.Kernel33Ideal.main_v4_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v4_0) = v0 c
          ∧ r.2.mem ((c.tc : Thread Cert.Kernel33Ideal.nD Cert.Kernel33Ideal.τ).loc Cert.Kernel33Ideal.main_v4_1) = v1 c
          ∧ r.2.mem ((c.tc : Thread Cert.Kernel33Ideal.nD Cert.Kernel33Ideal.τ).loc Cert.Kernel33Ideal.main_v4_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v24) = v0 c
          ∧ r.2.mem ((c.tc : Thread Cert.Reference33Ideal.nD Cert.Reference33Ideal.τ).loc Cert.Reference33Ideal.main_v25) = v1 c
          ∧ r.2.mem ((c.tc : Thread Cert.Reference33Ideal.nD Cert.Reference33Ideal.τ).loc Cert.Reference33Ideal.main_v26) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v4_0)) (v1 : (c : Dev Cert.Kernel34Ideal.nD) → Buf (Elt Ideal) ((c.tc : Thread Cert.Kernel34Ideal.nD Cert.Kernel34Ideal.τ).loc Cert.Kernel34Ideal.main_v4_1)) (v2 : (c : Dev Cert.Kernel34Ideal.nD) → Buf (Elt Ideal) ((c.tc : Thread Cert.Kernel34Ideal.nD Cert.Kernel34Ideal.τ).loc Cert.Kernel34Ideal.main_v4_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v4_0) = v0 c
          ∧ r.2.mem ((c.tc : Thread Cert.Kernel34Ideal.nD Cert.Kernel34Ideal.τ).loc Cert.Kernel34Ideal.main_v4_1) = v1 c
          ∧ r.2.mem ((c.tc : Thread Cert.Kernel34Ideal.nD Cert.Kernel34Ideal.τ).loc Cert.Kernel34Ideal.main_v4_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v24) = v0 c
          ∧ r.2.mem ((c.tc : Thread Cert.Reference34Ideal.nD Cert.Reference34Ideal.τ).loc Cert.Reference34Ideal.main_v25) = v1 c
          ∧ r.2.mem ((c.tc : Thread Cert.Reference34Ideal.nD Cert.Reference34Ideal.τ).loc Cert.Reference34Ideal.main_v26) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v4_0)) (v1 : (c : Dev Cert.Kernel35Ideal.nD) → Buf (Elt Ideal) ((c.tc : Thread Cert.Kernel35Ideal.nD Cert.Kernel35Ideal.τ).loc Cert.Kernel35Ideal.main_v4_1)) (v2 : (c : Dev Cert.Kernel35Ideal.nD) → Buf (Elt Ideal) ((c.tc : Thread Cert.Kernel35Ideal.nD Cert.Kernel35Ideal.τ).loc Cert.Kernel35Ideal.main_v4_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v4_0) = v0 c
          ∧ r.2.mem ((c.tc : Thread Cert.Kernel35Ideal.nD Cert.Kernel35Ideal.τ).loc Cert.Kernel35Ideal.main_v4_1) = v1 c
          ∧ r.2.mem ((c.tc : Thread Cert.Kernel35Ideal.nD Cert.Kernel35Ideal.τ).loc Cert.Kernel35Ideal.main_v4_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v24) = v0 c
          ∧ r.2.mem ((c.tc : Thread Cert.Reference35Ideal.nD Cert.Reference35Ideal.τ).loc Cert.Reference35Ideal.main_v25) = v1 c
          ∧ r.2.mem ((c.tc : Thread Cert.Reference35Ideal.nD Cert.Reference35Ideal.τ).loc Cert.Reference35Ideal.main_v26) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v4_0)) (v1 : (c : Dev Cert.Kernel36Ideal.nD) → Buf (Elt Ideal) ((c.tc : Thread Cert.Kernel36Ideal.nD Cert.Kernel36Ideal.τ).loc Cert.Kernel36Ideal.main_v4_1)) (v2 : (c : Dev Cert.Kernel36Ideal.nD) → Buf (Elt Ideal) ((c.tc : Thread Cert.Kernel36Ideal.nD Cert.Kernel36Ideal.τ).loc Cert.Kernel36Ideal.main_v4_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v4_0) = v0 c
          ∧ r.2.mem ((c.tc : Thread Cert.Kernel36Ideal.nD Cert.Kernel36Ideal.τ).loc Cert.Kernel36Ideal.main_v4_1) = v1 c
          ∧ r.2.mem ((c.tc : Thread Cert.Kernel36Ideal.nD Cert.Kernel36Ideal.τ).loc Cert.Kernel36Ideal.main_v4_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v24) = v0 c
          ∧ r.2.mem ((c.tc : Thread Cert.Reference36Ideal.nD Cert.Reference36Ideal.τ).loc Cert.Reference36Ideal.main_v25) = v1 c
          ∧ r.2.mem ((c.tc : Thread Cert.Reference36Ideal.nD Cert.Reference36Ideal.τ).loc Cert.Reference36Ideal.main_v26) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)
      ∧ m' ((c.tc : Thread Cert.Reference37Ideal.nD Cert.Reference37Ideal.τ).loc Cert.Reference37Ideal.main_arg4) = m ((c.tc : Thread Cert.Kernel37Ideal.nD Cert.Kernel37Ideal.τ).loc Cert.Kernel37Ideal.main_arg4)
      ∧ m' ((c.tc : Thread Cert.Reference37Ideal.nD Cert.Reference37Ideal.τ).loc Cert.Reference37Ideal.main_arg5) = m ((c.tc : Thread Cert.Kernel37Ideal.nD Cert.Kernel37Ideal.τ).loc Cert.Kernel37Ideal.main_arg5)
      ∧ m' ((c.tc : Thread Cert.Reference37Ideal.nD Cert.Reference37Ideal.τ).loc Cert.Reference37Ideal.main_arg6) = m ((c.tc : Thread Cert.Kernel37Ideal.nD Cert.Kernel37Ideal.τ).loc Cert.Kernel37Ideal.main_arg6)) →
    ∃ (v0 : (c : Dev Cert.Kernel37Ideal.nD) → Buf (Elt Ideal) ((c.tc : Thread Cert.Kernel37Ideal.nD Cert.Kernel37Ideal.τ).loc Cert.Kernel37Ideal.main_v3_0)) (v1 : (c : Dev Cert.Kernel37Ideal.nD) → Buf (Elt Ideal) ((c.tc : Thread Cert.Kernel37Ideal.nD Cert.Kernel37Ideal.τ).loc Cert.Kernel37Ideal.main_v3_1)) (v2 : (c : Dev Cert.Kernel37Ideal.nD) → Buf (Elt Ideal) ((c.tc : Thread Cert.Kernel37Ideal.nD Cert.Kernel37Ideal.τ).loc Cert.Kernel37Ideal.main_v3_2)) (v3 : (c : Dev Cert.Kernel37Ideal.nD) → Buf (Elt Ideal) ((c.tc : Thread Cert.Kernel37Ideal.nD Cert.Kernel37Ideal.τ).loc Cert.Kernel37Ideal.main_v3_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v3_0) = v0 c
          ∧ r.2.mem ((c.tc : Thread Cert.Kernel37Ideal.nD Cert.Kernel37Ideal.τ).loc Cert.Kernel37Ideal.main_v3_1) = v1 c
          ∧ r.2.mem ((c.tc : Thread Cert.Kernel37Ideal.nD Cert.Kernel37Ideal.τ).loc Cert.Kernel37Ideal.main_v3_2) = v2 c
          ∧ r.2.mem ((c.tc : Thread Cert.Kernel37Ideal.nD Cert.Kernel37Ideal.τ).loc Cert.Kernel37Ideal.main_v3_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
          ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4)
          ∧ r.2.mem ((c.tc : Thread Cert.Kernel37Ideal.nD Cert.Kernel37Ideal.τ).loc Cert.Kernel37Ideal.main_arg5) = m ((c.tc : Thread Cert.Kernel37Ideal.nD Cert.Kernel37Ideal.τ).loc Cert.Kernel37Ideal.main_arg5)
          ∧ r.2.mem ((c.tc : Thread Cert.Kernel37Ideal.nD Cert.Kernel37Ideal.τ).loc Cert.Kernel37Ideal.main_arg6) = m ((c.tc : Thread Cert.Kernel37Ideal.nD Cert.Kernel37Ideal.τ).loc Cert.Kernel37Ideal.main_arg6))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v4) = v0 c
          ∧ r.2.mem ((c.tc : Thread Cert.Reference37Ideal.nD Cert.Reference37Ideal.τ).loc Cert.Reference37Ideal.main_v28) = v1 c
          ∧ r.2.mem ((c.tc : Thread Cert.Reference37Ideal.nD Cert.Reference37Ideal.τ).loc Cert.Reference37Ideal.main_v9) = v2 c
          ∧ r.2.mem ((c.tc : Thread Cert.Reference37Ideal.nD Cert.Reference37Ideal.τ).loc Cert.Reference37Ideal.main_v15) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3)
          ∧ r.2.mem ((c.tc : Thread Cert.Reference37Ideal.nD Cert.Reference37Ideal.τ).loc Cert.Reference37Ideal.main_arg4) = m' ((c.tc : Thread Cert.Reference37Ideal.nD Cert.Reference37Ideal.τ).loc Cert.Reference37Ideal.main_arg4)
          ∧ r.2.mem ((c.tc : Thread Cert.Reference37Ideal.nD Cert.Reference37Ideal.τ).loc Cert.Reference37Ideal.main_arg5) = m' ((c.tc : Thread Cert.Reference37Ideal.nD Cert.Reference37Ideal.τ).loc Cert.Reference37Ideal.main_arg5)
          ∧ r.2.mem ((c.tc : Thread Cert.Reference37Ideal.nD Cert.Reference37Ideal.τ).loc Cert.Reference37Ideal.main_arg6) = m' ((c.tc : Thread Cert.Reference37Ideal.nD Cert.Reference37Ideal.τ).loc Cert.Reference37Ideal.main_arg6))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)
      ∧ m' ((c.tc : Thread Cert.Reference38Ideal.nD Cert.Reference38Ideal.τ).loc Cert.Reference38Ideal.main_arg5) = m ((c.tc : Thread Cert.Kernel38Ideal.nD Cert.Kernel38Ideal.τ).loc Cert.Kernel38Ideal.main_arg5)
      ∧ m' ((c.tc : Thread Cert.Reference38Ideal.nD Cert.Reference38Ideal.τ).loc Cert.Reference38Ideal.main_arg6) = m ((c.tc : Thread Cert.Kernel38Ideal.nD Cert.Kernel38Ideal.τ).loc Cert.Kernel38Ideal.main_arg6)) →
    ∃ (v0 : (c : Dev Cert.Kernel38Ideal.nD) → Buf (Elt Ideal) ((c.tc : Thread Cert.Kernel38Ideal.nD Cert.Kernel38Ideal.τ).loc Cert.Kernel38Ideal.main_v3_0)) (v1 : (c : Dev Cert.Kernel38Ideal.nD) → Buf (Elt Ideal) ((c.tc : Thread Cert.Kernel38Ideal.nD Cert.Kernel38Ideal.τ).loc Cert.Kernel38Ideal.main_v3_1)) (v2 : (c : Dev Cert.Kernel38Ideal.nD) → Buf (Elt Ideal) ((c.tc : Thread Cert.Kernel38Ideal.nD Cert.Kernel38Ideal.τ).loc Cert.Kernel38Ideal.main_v3_2)) (v3 : (c : Dev Cert.Kernel38Ideal.nD) → Buf (Elt Ideal) ((c.tc : Thread Cert.Kernel38Ideal.nD Cert.Kernel38Ideal.τ).loc Cert.Kernel38Ideal.main_v3_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v3_0) = v0 c
          ∧ r.2.mem ((c.tc : Thread Cert.Kernel38Ideal.nD Cert.Kernel38Ideal.τ).loc Cert.Kernel38Ideal.main_v3_1) = v1 c
          ∧ r.2.mem ((c.tc : Thread Cert.Kernel38Ideal.nD Cert.Kernel38Ideal.τ).loc Cert.Kernel38Ideal.main_v3_2) = v2 c
          ∧ r.2.mem ((c.tc : Thread Cert.Kernel38Ideal.nD Cert.Kernel38Ideal.τ).loc Cert.Kernel38Ideal.main_v3_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
          ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5)
          ∧ r.2.mem ((c.tc : Thread Cert.Kernel38Ideal.nD Cert.Kernel38Ideal.τ).loc Cert.Kernel38Ideal.main_arg6) = m ((c.tc : Thread Cert.Kernel38Ideal.nD Cert.Kernel38Ideal.τ).loc Cert.Kernel38Ideal.main_arg6))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v4) = v0 c
          ∧ r.2.mem ((c.tc : Thread Cert.Reference38Ideal.nD Cert.Reference38Ideal.τ).loc Cert.Reference38Ideal.main_v28) = v1 c
          ∧ r.2.mem ((c.tc : Thread Cert.Reference38Ideal.nD Cert.Reference38Ideal.τ).loc Cert.Reference38Ideal.main_v9) = v2 c
          ∧ r.2.mem ((c.tc : Thread Cert.Reference38Ideal.nD Cert.Reference38Ideal.τ).loc Cert.Reference38Ideal.main_v15) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4)
          ∧ r.2.mem ((c.tc : Thread Cert.Reference38Ideal.nD Cert.Reference38Ideal.τ).loc Cert.Reference38Ideal.main_arg5) = m' ((c.tc : Thread Cert.Reference38Ideal.nD Cert.Reference38Ideal.τ).loc Cert.Reference38Ideal.main_arg5)
          ∧ r.2.mem ((c.tc : Thread Cert.Reference38Ideal.nD Cert.Reference38Ideal.τ).loc Cert.Reference38Ideal.main_arg6) = m' ((c.tc : Thread Cert.Reference38Ideal.nD Cert.Reference38Ideal.τ).loc Cert.Reference38Ideal.main_arg6))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)
      ∧ m' ((c.tc : Thread Cert.Reference39Ideal.nD Cert.Reference39Ideal.τ).loc Cert.Reference39Ideal.main_arg4) = m ((c.tc : Thread Cert.Kernel39Ideal.nD Cert.Kernel39Ideal.τ).loc Cert.Kernel39Ideal.main_arg4)
      ∧ m' ((c.tc : Thread Cert.Reference39Ideal.nD Cert.Reference39Ideal.τ).loc Cert.Reference39Ideal.main_arg5) = m ((c.tc : Thread Cert.Kernel39Ideal.nD Cert.Kernel39Ideal.τ).loc Cert.Kernel39Ideal.main_arg5)
      ∧ m' ((c.tc : Thread Cert.Reference39Ideal.nD Cert.Reference39Ideal.τ).loc Cert.Reference39Ideal.main_arg6) = m ((c.tc : Thread Cert.Kernel39Ideal.nD Cert.Kernel39Ideal.τ).loc Cert.Kernel39Ideal.main_arg6)) →
    ∃ (v0 : (c : Dev Cert.Kernel39Ideal.nD) → Buf (Elt Ideal) ((c.tc : Thread Cert.Kernel39Ideal.nD Cert.Kernel39Ideal.τ).loc Cert.Kernel39Ideal.main_v3_0)) (v1 : (c : Dev Cert.Kernel39Ideal.nD) → Buf (Elt Ideal) ((c.tc : Thread Cert.Kernel39Ideal.nD Cert.Kernel39Ideal.τ).loc Cert.Kernel39Ideal.main_v3_1)) (v2 : (c : Dev Cert.Kernel39Ideal.nD) → Buf (Elt Ideal) ((c.tc : Thread Cert.Kernel39Ideal.nD Cert.Kernel39Ideal.τ).loc Cert.Kernel39Ideal.main_v3_2)) (v3 : (c : Dev Cert.Kernel39Ideal.nD) → Buf (Elt Ideal) ((c.tc : Thread Cert.Kernel39Ideal.nD Cert.Kernel39Ideal.τ).loc Cert.Kernel39Ideal.main_v3_3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v3_0) = v0 c
          ∧ r.2.mem ((c.tc : Thread Cert.Kernel39Ideal.nD Cert.Kernel39Ideal.τ).loc Cert.Kernel39Ideal.main_v3_1) = v1 c
          ∧ r.2.mem ((c.tc : Thread Cert.Kernel39Ideal.nD Cert.Kernel39Ideal.τ).loc Cert.Kernel39Ideal.main_v3_2) = v2 c
          ∧ r.2.mem ((c.tc : Thread Cert.Kernel39Ideal.nD Cert.Kernel39Ideal.τ).loc Cert.Kernel39Ideal.main_v3_3) = v3 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
          ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
          ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
          ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v4) = v0 c
          ∧ r.2.mem ((c.tc : Thread Cert.Reference39Ideal.nD Cert.Reference39Ideal.τ).loc Cert.Reference39Ideal.main_v28) = v1 c
          ∧ r.2.mem ((c.tc : Thread Cert.Reference39Ideal.nD Cert.Reference39Ideal.τ).loc Cert.Reference39Ideal.main_v9) = v2 c
          ∧ r.2.mem ((c.tc : Thread Cert.Reference39Ideal.nD Cert.Reference39Ideal.τ).loc Cert.Reference39Ideal.main_v15) = v3 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3)
          ∧ r.2.mem ((c.tc : Thread Cert.Reference39Ideal.nD Cert.Reference39Ideal.τ).loc Cert.Reference39Ideal.main_arg4) = m' ((c.tc : Thread Cert.Reference39Ideal.nD Cert.Reference39Ideal.τ).loc Cert.Reference39Ideal.main_arg4)
          ∧ r.2.mem ((c.tc : Thread Cert.Reference39Ideal.nD Cert.Reference39Ideal.τ).loc Cert.Reference39Ideal.main_arg5) = m' ((c.tc : Thread Cert.Reference39Ideal.nD Cert.Reference39Ideal.τ).loc Cert.Reference39Ideal.main_arg5)
          ∧ r.2.mem ((c.tc : Thread Cert.Reference39Ideal.nD Cert.Reference39Ideal.τ).loc Cert.Reference39Ideal.main_arg6) = m' ((c.tc : Thread Cert.Reference39Ideal.nD Cert.Reference39Ideal.τ).loc Cert.Reference39Ideal.main_arg6))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)
      ∧ m' ((c.tc : Thread Cert.Reference40Ideal.nD Cert.Reference40Ideal.τ).loc Cert.Reference40Ideal.main_arg5) = m ((c.tc : Thread Cert.Kernel40Ideal.nD Cert.Kernel40Ideal.τ).loc Cert.Kernel40Ideal.main_arg5)
      ∧ m' ((c.tc : Thread Cert.Reference40Ideal.nD Cert.Reference40Ideal.τ).loc Cert.Reference40Ideal.main_arg6) = m ((c.tc : Thread Cert.Kernel40Ideal.nD Cert.Kernel40Ideal.τ).loc Cert.Kernel40Ideal.main_arg6)) →
    ∃ (v0 : (c : Dev Cert.Kernel40Ideal.nD) → Buf (Elt Ideal) ((c.tc : Thread Cert.Kernel40Ideal.nD Cert.Kernel40Ideal.τ).loc Cert.Kernel40Ideal.main_v3_0)) (v1 : (c : Dev Cert.Kernel40Ideal.nD) → Buf (Elt Ideal) ((c.tc : Thread Cert.Kernel40Ideal.nD Cert.Kernel40Ideal.τ).loc Cert.Kernel40Ideal.main_v3_1)) (v2 : (c : Dev Cert.Kernel40Ideal.nD) → Buf (Elt Ideal) ((c.tc : Thread Cert.Kernel40Ideal.nD Cert.Kernel40Ideal.τ).loc Cert.Kernel40Ideal.main_v3_2)) (v3 : (c : Dev Cert.Kernel40Ideal.nD) → Buf (Elt Ideal) ((c.tc : Thread Cert.Kernel40Ideal.nD Cert.Kernel40Ideal.τ).loc Cert.Kernel40Ideal.main_v3_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v3_0) = v0 c
          ∧ r.2.mem ((c.tc : Thread Cert.Kernel40Ideal.nD Cert.Kernel40Ideal.τ).loc Cert.Kernel40Ideal.main_v3_1) = v1 c
          ∧ r.2.mem ((c.tc : Thread Cert.Kernel40Ideal.nD Cert.Kernel40Ideal.τ).loc Cert.Kernel40Ideal.main_v3_2) = v2 c
          ∧ r.2.mem ((c.tc : Thread Cert.Kernel40Ideal.nD Cert.Kernel40Ideal.τ).loc Cert.Kernel40Ideal.main_v3_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
          ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5)
          ∧ r.2.mem ((c.tc : Thread Cert.Kernel40Ideal.nD Cert.Kernel40Ideal.τ).loc Cert.Kernel40Ideal.main_arg6) = m ((c.tc : Thread Cert.Kernel40Ideal.nD Cert.Kernel40Ideal.τ).loc Cert.Kernel40Ideal.main_arg6))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v4) = v0 c
          ∧ r.2.mem ((c.tc : Thread Cert.Reference40Ideal.nD Cert.Reference40Ideal.τ).loc Cert.Reference40Ideal.main_v28) = v1 c
          ∧ r.2.mem ((c.tc : Thread Cert.Reference40Ideal.nD Cert.Reference40Ideal.τ).loc Cert.Reference40Ideal.main_v9) = v2 c
          ∧ r.2.mem ((c.tc : Thread Cert.Reference40Ideal.nD Cert.Reference40Ideal.τ).loc Cert.Reference40Ideal.main_v15) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4)
          ∧ r.2.mem ((c.tc : Thread Cert.Reference40Ideal.nD Cert.Reference40Ideal.τ).loc Cert.Reference40Ideal.main_arg5) = m' ((c.tc : Thread Cert.Reference40Ideal.nD Cert.Reference40Ideal.τ).loc Cert.Reference40Ideal.main_arg5)
          ∧ r.2.mem ((c.tc : Thread Cert.Reference40Ideal.nD Cert.Reference40Ideal.τ).loc Cert.Reference40Ideal.main_arg6) = m' ((c.tc : Thread Cert.Reference40Ideal.nD Cert.Reference40Ideal.τ).loc Cert.Reference40Ideal.main_arg6))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)
      ∧ m' ((c.tc : Thread Cert.Reference41Ideal.nD Cert.Reference41Ideal.τ).loc Cert.Reference41Ideal.main_arg4) = m ((c.tc : Thread Cert.Kernel41Ideal.nD Cert.Kernel41Ideal.τ).loc Cert.Kernel41Ideal.main_arg4)
      ∧ m' ((c.tc : Thread Cert.Reference41Ideal.nD Cert.Reference41Ideal.τ).loc Cert.Reference41Ideal.main_arg5) = m ((c.tc : Thread Cert.Kernel41Ideal.nD Cert.Kernel41Ideal.τ).loc Cert.Kernel41Ideal.main_arg5)
      ∧ m' ((c.tc : Thread Cert.Reference41Ideal.nD Cert.Reference41Ideal.τ).loc Cert.Reference41Ideal.main_arg6) = m ((c.tc : Thread Cert.Kernel41Ideal.nD Cert.Kernel41Ideal.τ).loc Cert.Kernel41Ideal.main_arg6)) →
    ∃ (v0 : (c : Dev Cert.Kernel41Ideal.nD) → Buf (Elt Ideal) ((c.tc : Thread Cert.Kernel41Ideal.nD Cert.Kernel41Ideal.τ).loc Cert.Kernel41Ideal.main_v3_0)) (v1 : (c : Dev Cert.Kernel41Ideal.nD) → Buf (Elt Ideal) ((c.tc : Thread Cert.Kernel41Ideal.nD Cert.Kernel41Ideal.τ).loc Cert.Kernel41Ideal.main_v3_1)) (v2 : (c : Dev Cert.Kernel41Ideal.nD) → Buf (Elt Ideal) ((c.tc : Thread Cert.Kernel41Ideal.nD Cert.Kernel41Ideal.τ).loc Cert.Kernel41Ideal.main_v3_2)) (v3 : (c : Dev Cert.Kernel41Ideal.nD) → Buf (Elt Ideal) ((c.tc : Thread Cert.Kernel41Ideal.nD Cert.Kernel41Ideal.τ).loc Cert.Kernel41Ideal.main_v3_3)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v3_0) = v0 c
          ∧ r.2.mem ((c.tc : Thread Cert.Kernel41Ideal.nD Cert.Kernel41Ideal.τ).loc Cert.Kernel41Ideal.main_v3_1) = v1 c
          ∧ r.2.mem ((c.tc : Thread Cert.Kernel41Ideal.nD Cert.Kernel41Ideal.τ).loc Cert.Kernel41Ideal.main_v3_2) = v2 c
          ∧ r.2.mem ((c.tc : Thread Cert.Kernel41Ideal.nD Cert.Kernel41Ideal.τ).loc Cert.Kernel41Ideal.main_v3_3) = v3 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
          ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
          ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
          ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v4) = v0 c
          ∧ r.2.mem ((c.tc : Thread Cert.Reference41Ideal.nD Cert.Reference41Ideal.τ).loc Cert.Reference41Ideal.main_v28) = v1 c
          ∧ r.2.mem ((c.tc : Thread Cert.Reference41Ideal.nD Cert.Reference41Ideal.τ).loc Cert.Reference41Ideal.main_v9) = v2 c
          ∧ r.2.mem ((c.tc : Thread Cert.Reference41Ideal.nD Cert.Reference41Ideal.τ).loc Cert.Reference41Ideal.main_v15) = v3 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3)
          ∧ r.2.mem ((c.tc : Thread Cert.Reference41Ideal.nD Cert.Reference41Ideal.τ).loc Cert.Reference41Ideal.main_arg4) = m' ((c.tc : Thread Cert.Reference41Ideal.nD Cert.Reference41Ideal.τ).loc Cert.Reference41Ideal.main_arg4)
          ∧ r.2.mem ((c.tc : Thread Cert.Reference41Ideal.nD Cert.Reference41Ideal.τ).loc Cert.Reference41Ideal.main_arg5) = m' ((c.tc : Thread Cert.Reference41Ideal.nD Cert.Reference41Ideal.τ).loc Cert.Reference41Ideal.main_arg5)
          ∧ r.2.mem ((c.tc : Thread Cert.Reference41Ideal.nD Cert.Reference41Ideal.τ).loc Cert.Reference41Ideal.main_arg6) = m' ((c.tc : Thread Cert.Reference41Ideal.nD Cert.Reference41Ideal.τ).loc Cert.Reference41Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hPre_finite : Cert.Pre_finite.Facts) (hPre_finite2 : Cert.Pre_finite2.Facts) (hOn_diag_blocks : Cert.On_diag_blocks.Facts) (hOn_first_slabs : Cert.On_first_slabs.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ preserves_Kernel_KernelIdeal
    ∧ algebraic_KernelIdeal_ReferenceIdeal_on_diag_blocks_pre_finite (hKernelIdeal := hKernelIdeal) (hReferenceIdeal := hReferenceIdeal) (hPre_finite := hPre_finite) (hOn_diag_blocks := hOn_diag_blocks)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_first_slabs (hKernel6Ideal := hKernel6Ideal) (hReference6Ideal := hReference6Ideal) (hOn_first_slabs := hOn_first_slabs)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
-- ==== On_diag_blocks.lean ====
abbrev S4096x2304 : Shape := ⟨2, ![4096, 2304]⟩
abbrev S4096x1024 : Shape := ⟨2, ![4096, 1024]⟩
abbrev S4x64x64 : Shape := ⟨3, ![4, 64, 64]⟩
abbrev S256 : Shape := ⟨1, ![256]⟩
abbrev S_ : Shape := ⟨0, ![]⟩
abbrev S256x256 : Shape := ⟨2, ![256, 256]⟩
abbrev S1x256 : Shape := ⟨2, ![1, 256]⟩

class Facts : Prop where
  bcast_S_S4096x2304 : S_.BroadcastsInDim S4096x2304 (![] : Fin 0 → Fin S4096x2304.rank)
  bcast_S_S256x256 : S_.BroadcastsInDim S256x256 (![] : Fin 0 → Fin S256x256.rank)
  bcast_S_S1x256 : S_.BroadcastsInDim S1x256 (![] : Fin 0 → Fin S1x256.rank)

variable [Facts]

def fn {F : FTy → Type} [FloatOps F] (main_arg0 : FVec F S4096x2304 .f32) (main_arg1 : FVec F S4096x2304 .bf16) (main_arg2 : FVec F S4096x1024 .f32) (main_arg3 : FVec F S4x64x64 .f32) (main_arg4 : FVec F S256 .f32) : IVec S4096x2304 1 × IVec S256x256 1 × IVec S1x256 1 :=
  let main_v0 : IVec S4096x2304 32 := iotaInDim S4096x2304 32 0
  let main_c : IVec S_ 32 := constantI S_ 32 0#32
  let main_v1 : IVec S4096x2304 32 := broadcastInDim S4096x2304 ![] bcast_S_S4096x2304 main_c
  let main_v2 : IVec S4096x2304 1 := cmpi .sge main_v0 main_v1
  let main_v3 : IVec S256x256 32 := iotaInDim S256x256 32 0
  let main_c_0 : IVec S_ 32 := constantI S_ 32 6#32
  let main_v4 : IVec S256x256 32 := broadcastInDim S256x256 ![] bcast_S_S256x256 main_c_0
  let main_v5 : IVec S256x256 32 := Host.shrui main_v3 main_v4
  let main_v6 : IVec S256x256 32 := iotaInDim S256x256 32 1
  let main_c_1 : IVec S_ 32 := constantI S_ 32 6#32
  let main_v7 : IVec S256x256 32 := broadcastInDim S256x256 ![] bcast_S_S256x256 main_c_1
  let main_v8 : IVec S256x256 32 := Host.shrui main_v6 main_v7
  let main_v9 : IVec S256x256 1 := cmpi .eq main_v5 main_v8
  let main_v10 : IVec S1x256 32 := iotaInDim S1x256 32 0
  let main_c_2 : IVec S_ 32 := constantI S_ 32 0#32
  let main_v11 : IVec S1x256 32 := broadcastInDim S1x256 ![] bcast_S_S1x256 main_c_2
  let main_v12 : IVec S1x256 1 := cmpi .sge main_v10 main_v11
  (main_v2, main_v9, main_v12)
-- ==== On_first_slabs.lean ====
abbrev S4096x1024 : Shape := ⟨2, ![4096, 1024]⟩
abbrev S4096x2816 : Shape := ⟨2, ![4096, 2816]⟩
abbrev S1024x5632 : Shape := ⟨2, ![1024, 5632]⟩
abbrev S4x1024x1408 : Shape := ⟨3, ![4, 1024, 1408]⟩
abbrev S_ : Shape := ⟨0, ![]⟩

class Facts : Prop where
  bcast_S_S4x1024x1408 : S_.BroadcastsInDim S4x1024x1408 (![] : Fin 0 → Fin S4x1024x1408.rank)

variable [Facts]

def fn {F : FTy → Type} [FloatOps F] (main_arg0 : FVec F S4096x1024 .bf16) (main_arg1 : FVec F S4096x2816 .bf16) (main_arg2 : FVec F S1024x5632 .f32) : IVec S4x1024x1408 1 :=
  let main_v0 : IVec S4x1024x1408 32 := iotaInDim S4x1024x1408 32 0
  let main_c : IVec S_ 32 := constantI S_ 32 2#32
  let main_v1 : IVec S4x1024x1408 32 := broadcastInDim S4x1024x1408 ![] bcast_S_S4x1024x1408 main_c
  let main_v2 : IVec S4x1024x1408 1 := cmpi .slt main_v0 main_v1
  main_v2
-- ==== Pre_finite.lean ====
abbrev S4096x2304 : Shape := ⟨2, ![4096, 2304]⟩
abbrev S4096x1024 : Shape := ⟨2, ![4096, 1024]⟩
abbrev S4x64x64 : Shape := ⟨3, ![4, 64, 64]⟩
abbrev S256 : Shape := ⟨1, ![256]⟩
abbrev S4096x256 : Shape := ⟨2, ![4096, 256]⟩
abbrev S_ : Shape := ⟨0, ![]⟩

class Facts : Prop where
  slices_S4096x2304_S4096x256_0_2048 : S4096x2304.Slices ![0, 2048] S4096x256
  bcast_S_S4096x256 : S_.BroadcastsInDim S4096x256 (![] : Fin 0 → Fin S4096x256.rank)
  slices_S4096x1024_S4096x256_0_768 : S4096x1024.Slices ![0, 768] S4096x256
  bcast_S_S4x64x64 : S_.BroadcastsInDim S4x64x64 (![] : Fin 0 → Fin S4x64x64.rank)
  bcast_S_S256 : S_.BroadcastsInDim S256 (![] : Fin 0 → Fin S256.rank)

variable [Facts]

def fn_part1 {F : FTy → Type} [FloatOps F] (main_arg3 : FVec F S4x64x64 .f32) (main_arg4 : FVec F S256 .f32) (main_v6 : IVec S4096x256 1) (main_v13 : IVec S4096x256 1) (main_v15 : IVec S4x64x64 1) (main_v17 : FVec F S4x64x64 .f32) : IVec S4096x256 1 × IVec S4096x256 1 × IVec S4x64x64 1 × IVec S256 1 :=
  let main_v18 : IVec S4x64x64 1 := cmpf .ogt main_arg3 main_v17
  let main_v19 : IVec S4x64x64 1 := andi main_v15 main_v18
  let main_cst_5 : FVec F S_ .f32 := constant S_ .f32 0x7F800000#32
  let main_v20 : FVec F S256 .f32 := broadcastInDim S256 ![] bcast_S_S256 main_cst_5
  let main_v21 : IVec S256 1 := cmpf .olt main_arg4 main_v20
  let main_cst_6 : FVec F S_ .f32 := constant S_ .f32 0x7F800000#32
  let main_v22 : FVec F S_ .f32 := Host.negf main_cst_6
  let main_v23 : FVec F S256 .f32 := broadcastInDim S256 ![] bcast_S_S256 main_v22
  let main_v24 : IVec S256 1 := cmpf .ogt main_arg4 main_v23
  let main_v25 : IVec S256 1 := andi main_v21 main_v24
  (main_v6, main_v13, main_v19, main_v25)

def fn {F : FTy → Type} [FloatOps F] (main_arg0 : FVec F S4096x2304 .f32) (main_arg1 : FVec F S4096x2304 .bf16) (main_arg2 : FVec F S4096x1024 .f32) (main_arg3 : FVec F S4x64x64 .f32) (main_arg4 : FVec F S256 .f32) : IVec S4096x256 1 × IVec S4096x256 1 × IVec S4x64x64 1 × IVec S256 1 :=
  let main_v0 : FVec F S4096x256 .f32 := (extractStridedSlice S4096x256 ![0, 2048] · slices_S4096x2304_S4096x256_0_2048) main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_cst_0 : FVec F S_ .f32 := constant S_ .f32 0x7F800000#32
  let main_v3 : FVec F S_ .f32 := Host.negf main_cst_0
  let main_v4 : FVec F S4096x256 .f32 := broadcastInDim S4096x256 ![] bcast_S_S4096x256 main_v3
  let main_v5 : IVec S4096x256 1 := cmpf .ogt main_v0 main_v4
  let main_v6 : IVec S4096x256 1 := andi main_v2 main_v5
  let main_v7 : FVec F S4096x256 .f32 := (extractStridedSlice S4096x256 ![0, 768] · slices_S4096x1024_S4096x256_0_768) main_arg2
  let main_cst_1 : FVec F S_ .f32 := constant S_ .f32 0x7F800000#32
  let main_v8 : FVec F S4096x256 .f32 := broadcastInDim S4096x256 ![] bcast_S_S4096x256 main_cst_1
  let main_v9 : IVec S4096x256 1 := cmpf .olt main_v7 main_v8
  let main_cst_2 : FVec F S_ .f32 := constant S_ .f32 0x7F800000#32
  let main_v10 : FVec F S_ .f32 := Host.negf main_cst_2
  let main_v11 : FVec F S4096x256 .f32 := broadcastInDim S4096x256 ![] bcast_S_S4096x256 main_v10
  let main_v12 : IVec S4096x256 1 := cmpf .ogt main_v7 main_v11
  let main_v13 : IVec S4096x256 1 := andi main_v9 main_v12
  let main_cst_3 : FVec F S_ .f32 := constant S_ .f32 0x7F800000#32
  let main_v14 : FVec F S4x64x64 .f32 := broadcastInDim S4x64x64 ![] bcast_S_S4x64x64 main_cst_3
  let main_v15 : IVec S4x64x64 1 := cmpf .olt main_arg3 main_v14
  let main_cst_4 : FVec F S_ .f32 := constant S_ .f32 0x7F800000#32
  let main_v16 : FVec F S_ .f32 := Host.negf main_cst_4
  let main_v17 : FVec F S4x64x64 .f32 := broadcastInDim S4x64x64 ![] bcast_S_S4x64x64 main_v16
  fn_part1 (F := F) main_arg3 main_arg4 main_v6 main_v13 main_v15 main_v17
-- ==== Pre_finite2.lean ====
abbrev S4096x1024 : Shape := ⟨2, ![4096, 1024]⟩
abbrev S2816x1024 : Shape := ⟨2, ![2816, 1024]⟩
abbrev S4096x2816 : Shape := ⟨2, ![4096, 2816]⟩
abbrev S3x5632 : Shape := ⟨2, ![3, 5632]⟩
abbrev S5632 : Shape := ⟨1, ![5632]⟩
abbrev S_ : Shape := ⟨0, ![]⟩

class Facts : Prop where
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)
  bcast_S_S3x5632 : S_.BroadcastsInDim S3x5632 (![] : Fin 0 → Fin S3x5632.rank)
  bcast_S_S5632 : S_.BroadcastsInDim S5632 (![] : Fin 0 → Fin S5632.rank)

variable [Facts]

def fn_part1 {F : FTy → Type} [FloatOps F] (main_arg3 : FVec F S4096x2816 .f32) (main_arg4 : FVec F S3x5632 .f32) (main_arg5 : FVec F S5632 .f32) (main_v5 : IVec S4096x1024 1) (main_v11 : IVec S2816x1024 1) (main_v17 : IVec S4096x2816 1) : IVec S4096x1024 1 × IVec S2816x1024 1 × IVec S4096x2816 1 × IVec S4096x2816 1 × IVec S3x5632 1 × IVec S5632 1 :=
  let main_cst_5 : FVec F S_ .f32 := constant S_ .f32 0x7F800000#32
  let main_v18 : FVec F S4096x2816 .f32 := broadcastInDim S4096x2816 ![] bcast_S_S4096x2816 main_cst_5
  let main_v19 : IVec S4096x2816 1 := cmpf .olt main_arg3 main_v18
  let main_cst_6 : FVec F S_ .f32 := constant S_ .f32 0x7F800000#32
  let main_v20 : FVec F S_ .f32 := Host.negf main_cst_6
  let main_v21 : FVec F S4096x2816 .f32 := broadcastInDim S4096x2816 ![] bcast_S_S4096x2816 main_v20
  let main_v22 : IVec S4096x2816 1 := cmpf .ogt main_arg3 main_v21
  let main_v23 : IVec S4096x2816 1 := andi main_v19 main_v22
  let main_cst_7 : FVec F S_ .f32 := constant S_ .f32 0x7F800000#32
  let main_v24 : FVec F S3x5632 .f32 := broadcastInDim S3x5632 ![] bcast_S_S3x5632 main_cst_7
  let main_v25 : IVec S3x5632 1 := cmpf .olt main_arg4 main_v24
  let main_cst_8 : FVec F S_ .f32 := constant S_ .f32 0x7F800000#32
  let main_v26 : FVec F S_ .f32 := Host.negf main_cst_8
  let main_v27 : FVec F S3x5632 .f32 := broadcastInDim S3x5632 ![] bcast_S_S3x5632 main_v26
  let main_v28 : IVec S3x5632 1 := cmpf .ogt main_arg4 main_v27
  let main_v29 : IVec S3x5632 1 := andi main_v25 main_v28
  let main_cst_9 : FVec F S_ .f32 := constant S_ .f32 0x7F800000#32
  let main_v30 : FVec F S5632 .f32 := broadcastInDim S5632 ![] bcast_S_S5632 main_cst_9
  let main_v31 : IVec S5632 1 := cmpf .olt main_arg5 main_v30
  let main_cst_10 : FVec F S_ .f32 := constant S_ .f32 0x7F800000#32
  let main_v32 : FVec F S_ .f32 := Host.negf main_cst_10
  let main_v33 : FVec F S5632 .f32 := broadcastInDim S5632 ![] bcast_S_S5632 main_v32
  let main_v34 : IVec S5632 1 := cmpf .ogt main_arg5 main_v33
  let main_v35 : IVec S5632 1 := andi main_v31 main_v34
  (main_v5, main_v11, main_v17, main_v23, main_v29, main_v35)

def fn {F : FTy → Type} [FloatOps F] (main_arg0 : FVec F S4096x1024 .f32) (main_arg1 : FVec F S2816x1024 .f32) (main_arg2 : FVec F S4096x2816 .f32) (main_arg3 : FVec F S4096x2816 .f32) (main_arg4 : FVec F S3x5632 .f32) (main_arg5 : FVec F S5632 .f32) : IVec S4096x1024 1 × IVec S2816x1024 1 × IVec S4096x2816 1 × IVec S4096x2816 1 × IVec S3x5632 1 × IVec S5632 1 :=
  let main_cst : FVec F S_ .f32 := constant S_ .f32 0x7F800000#32
  let main_v0 : FVec F S4096x1024 .f32 := broadcastInDim S4096x1024 ![] bcast_S_S4096x1024 main_cst
  let main_v1 : IVec S4096x1024 1 := cmpf .olt main_arg0 main_v0
  let main_cst_0 : FVec F S_ .f32 := constant S_ .f32 0x7F800000#32
  let main_v2 : FVec F S_ .f32 := Host.negf main_cst_0
  let main_v3 : FVec F S4096x1024 .f32 := broadcastInDim S4096x1024 ![] bcast_S_S4096x1024 main_v2
  let main_v4 : IVec S4096x1024 1 := cmpf .ogt main_arg0 main_v3
  let main_v5 : IVec S4096x1024 1 := andi main_v1 main_v4
  let main_cst_1 : FVec F S_ .f32 := constant S_ .f32 0x7F800000#32
  let main_v6 : FVec F S2816x1024 .f32 := broadcastInDim S2816x1024 ![] bcast_S_S2816x1024 main_cst_1
  let main_v7 : IVec S2816x1024 1 := cmpf .olt main_arg1 main_v6
  let main_cst_2 : FVec F S_ .f32 := constant S_ .f32 0x7F800000#32
  let main_v8 : FVec F S_ .f32 := Host.negf main_cst_2
  let main_v9 : FVec F S2816x1024 .f32 := broadcastInDim S2816x1024 ![] bcast_S_S2816x1024 main_v8
  let main_v10 : IVec S2816x1024 1 := cmpf .ogt main_arg1 main_v9
  let main_v11 : IVec S2816x1024 1 := andi main_v7 main_v10
  let main_cst_3 : FVec F S_ .f32 := constant S_ .f32 0x7F800000#32
  let main_v12 : FVec F S4096x2816 .f32 := broadcastInDim S4096x2816 ![] bcast_S_S4096x2816 main_cst_3
  let main_v13 : IVec S4096x2816 1 := cmpf .olt main_arg2 main_v12
  let main_cst_4 : FVec F S_ .f32 := constant S_ .f32 0x7F800000#32
  let main_v14 : FVec F S_ .f32 := Host.negf main_cst_4
  let main_v15 : FVec F S4096x2816 .f32 := broadcastInDim S4096x2816 ![] bcast_S_S4096x2816 main_v14
  let main_v16 : IVec S4096x2816 1 := cmpf .ogt main_arg2 main_v15
  let main_v17 : IVec S4096x2816 1 := andi main_v13 main_v16
  fn_part1 (F := F) main_arg3 main_arg4 main_arg5 main_v5 main_v11 main_v17
-- ==== Kernel.lean ====
abbrev S4096x2304 : Shape := ⟨2, ![4096, 2304]⟩
abbrev S4096x1024 : Shape := ⟨2, ![4096, 1024]⟩
abbrev S4x64x64 : Shape := ⟨3, ![4, 64, 64]⟩
abbrev S256 : Shape := ⟨1, ![256]⟩
abbrev S1x4x64x64 : Shape := ⟨4, ![1, 4, 64, 64]⟩
abbrev S4x4 : Shape := ⟨2, ![4, 4]⟩
abbrev S_ : Shape := ⟨0, ![]⟩
abbrev S1x4x1x4x1 : Shape := ⟨5, ![1, 4, 1, 4, 1]⟩
abbrev S1x4x64x1x64 : Shape := ⟨5, ![1, 4, 64, 1, 64]⟩
abbrev S1x4x64x4x64 : Shape := ⟨5, ![1, 4, 64, 4, 64]⟩
abbrev S1x256x256 : Shape := ⟨3, ![1, 256, 256]⟩
abbrev S256x256 : Shape := ⟨2, ![256, 256]⟩
abbrev S1x256 : Shape := ⟨2, ![1, 256]⟩
abbrev S512x256 : Shape := ⟨2, ![512, 256]⟩
abbrev S16x256 : Shape := ⟨2, ![16, 256]⟩
abbrev S528x256 : Shape := ⟨2, ![528, 256]⟩

abbrev nBuf : Space → Nat
  | .hbm => 27
  | .vmem => 15
  | .smem => 0
  | _ => 0

abbrev bufTy : (tb : Table) → Fin (tcTables nBuf tb) → BufTy
  | .hbm, ⟨0, _⟩ => ⟨S4096x2304, .f32⟩
  | .hbm, ⟨1, _⟩ => ⟨S4096x2304, .bf16⟩
  | .hbm, ⟨2, _⟩ => ⟨S4096x1024, .f32⟩
  | .hbm, ⟨3, _⟩ => ⟨S4x64x64, .f32⟩
  | .hbm, ⟨4, _⟩ => ⟨S256, .f32⟩
  | .hbm, ⟨5, _⟩ => ⟨S1x4x64x64, .f32⟩
  | .hbm, ⟨6, _⟩ => ⟨S4x4, .i32⟩
  | .hbm, ⟨7, _⟩ => ⟨S4x4, .i32⟩
  | .hbm, ⟨8, _⟩ => ⟨S_, .i32⟩
  | .hbm, ⟨9, _⟩ => ⟨S4x4, .i32⟩
  | .hbm, ⟨10, _⟩ => ⟨S4x4, .i32⟩
  | .hbm, ⟨11, _⟩ => ⟨S4x4, .i1⟩
  | .hbm, ⟨12, _⟩ => ⟨S4x4, .f32⟩
  | .hbm, ⟨13, _⟩ => ⟨S1x4x1x4x1, .f32⟩
  | .hbm, ⟨14, _⟩ => ⟨S1x4x64x1x64, .f32⟩
  | .hbm, ⟨15, _⟩ => ⟨S1x4x64x4x64, .f32⟩
  | .hbm, ⟨16, _⟩ => ⟨S1x4x64x4x64, .f32⟩
  | .hbm, ⟨17, _⟩ => ⟨S1x4x64x4x64, .f32⟩
  | .hbm, ⟨18, _⟩ => ⟨S1x256x256, .f32⟩
  | .hbm, ⟨19, _⟩ => ⟨S1x256x256, .bf16⟩
  | .hbm, ⟨20, _⟩ => ⟨S256x256, .bf16⟩
  | .hbm, ⟨21, _⟩ => ⟨S1x256x256, .bf16⟩
  | .hbm, ⟨22, _⟩ => ⟨S256x256, .bf16⟩
  | .hbm, ⟨23, _⟩ => ⟨S1x256, .f32⟩
  | .hbm, ⟨24, _⟩ => ⟨S4096x2304, .bf16⟩
  | .hbm, ⟨25, _⟩ => ⟨S256x256, .f32⟩
  | .hbm, ⟨26, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S16x256, .f32⟩
  | .local _ .vmem, ⟨3, _⟩ => ⟨S16x256, .f32⟩
  | .local _ .vmem, ⟨4, _⟩ => ⟨S512x256, .f32⟩
  | .local _ .vmem, ⟨5, _⟩ => ⟨S512x256, .f32⟩
  | .local _ .vmem, ⟨6, _⟩ => ⟨S256x256, .bf16⟩
  | .local _ .vmem, ⟨7, _⟩ => ⟨S256x256, .bf16⟩
  | .local _ .vmem, ⟨8, _⟩ => ⟨S1x256, .f32⟩
  | .local _ .vmem, ⟨9, _⟩ => ⟨S512x256, .bf16⟩
  | .local _ .vmem, ⟨10, _⟩ => ⟨S512x256, .bf16⟩
  | .local _ .vmem, ⟨11, _⟩ => ⟨S256x256, .f32⟩
  | .local _ .vmem, ⟨12, _⟩ => ⟨S1x256, .f32⟩
  | .local _ .vmem, ⟨13, _⟩ => ⟨S528x256, .f32⟩
  | .local _ .vmem, ⟨14, _⟩ => ⟨S16x256, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let c0_i32 : BitVec 32 := 0#32
  ![v0.toNat, c8_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c8_i32 : BitVec 32 := 8#32
  let c0_i32_0 : BitVec 32 := 0#32
  ![v3.toNat, c8_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let c0_i32 : BitVec 32 := 0#32
  ![v0.toNat, c8_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x2304 : Shape := ⟨2, ![4096, 2304]⟩
abbrev S4096x1024 : Shape := ⟨2, ![4096, 1024]⟩
abbrev S4x64x64 : Shape := ⟨3, ![4, 64, 64]⟩
abbrev S256 : Shape := ⟨1, ![256]⟩
abbrev S4096x256 : Shape := ⟨2, ![4096, 256]⟩
abbrev S1x4096x256 : Shape := ⟨3, ![1, 4096, 256]⟩
abbrev S_ : Shape := ⟨0, ![]⟩
abbrev S4096 : Shape := ⟨1, ![4096]⟩
abbrev S1x4096x1 : Shape := ⟨3, ![1, 4096, 1]⟩
abbrev S1x4096x64 : Shape := ⟨3, ![1, 4096, 64]⟩
abbrev S1x2x64 : Shape := ⟨3, ![1, 2, 64]⟩
abbrev S1x4094x64 : Shape := ⟨3, ![1, 4094, 64]⟩
abbrev S1x4x64 : Shape := ⟨3, ![1, 4, 64]⟩
abbrev S1x4092x64 : Shape := ⟨3, ![1, 4092, 64]⟩
abbrev S1x8x64 : Shape := ⟨3, ![1, 8, 64]⟩
abbrev S1x4088x64 : Shape := ⟨3, ![1, 4088, 64]⟩
abbrev S1x16x64 : Shape := ⟨3, ![1, 16, 64]⟩
abbrev S1x4080x64 : Shape := ⟨3, ![1, 4080, 64]⟩
abbrev S1x4096x1x64 : Shape := ⟨4, ![1, 4096, 1, 64]⟩
abbrev S1x4096x4x64 : Shape := ⟨4, ![1, 4096, 4, 64]⟩
abbrev S4x64x1x4096 : Shape := ⟨4, ![4, 64, 1, 4096]⟩
abbrev S1x1x256 : Shape := ⟨3, ![1, 1, 256]⟩
abbrev S1x256 : Shape := ⟨2, ![1, 256]⟩
abbrev S4x1x4096x64 : Shape := ⟨4, ![4, 1, 4096, 64]⟩
abbrev S4096x2048 : Shape := ⟨2, ![4096, 2048]⟩
abbrev S256x64 : Shape := ⟨2, ![256, 64]⟩
abbrev S256x256 : Shape := ⟨2, ![256, 256]⟩

abbrev nBuf : Space → Nat
  | .hbm => 183
  | .vmem => 0
  | .smem => 0
  | _ => 0

abbrev hbmTy0_0 (i : Nat) : BufTy := match i % 128 with
  | 0 => ⟨S4096x2304, .f32⟩
  | 1 => ⟨S4096x2304, .bf16⟩
  | 2 => ⟨S4096x1024, .f32⟩
  | 3 => ⟨S4x64x64, .f32⟩
  | 4 => ⟨S256, .f32⟩
  | 5 => ⟨S4096x256, .f32⟩
  | 6 => ⟨S1x4096x256, .f32⟩
  | 7 => ⟨S4096x256, .f32⟩
  | 8 => ⟨S1x4096x256, .f32⟩
  | 9 => ⟨S_, .f32⟩
  | 10 => ⟨S_, .f32⟩
  | 11 => ⟨S1x4096x256, .f32⟩
  | 12 => ⟨S4096, .f32⟩
  | 13 => ⟨S_, .f32⟩
  | 14 => ⟨S4096, .f32⟩
  | 15 => ⟨S4096, .f32⟩
  | 16 => ⟨S1x4096x1, .f32⟩
  | 17 => ⟨S1x4096x64, .f32⟩
  | 18 => ⟨S1x2x64, .f32⟩
  | 19 => ⟨S_, .f32⟩
  | 20 => ⟨S1x2x64, .f32⟩
  | 21 => ⟨S1x4094x64, .f32⟩
  | 22 => ⟨S1x4096x64, .f32⟩
  | 23 => ⟨S_, .f32⟩
  | 24 => ⟨S1x2x64, .f32⟩
  | 25 => ⟨S1x4096x64, .f32⟩
  | 26 => ⟨S_, .f32⟩
  | 27 => ⟨S1x4096x1, .f32⟩
  | 28 => ⟨S1x4096x1, .f32⟩
  | 29 => ⟨S1x4096x64, .f32⟩
  | 30 => ⟨S1x4096x64, .f32⟩
  | 31 => ⟨S1x4096x64, .f32⟩
  | 32 => ⟨S1x4096x64, .f32⟩
  | 33 => ⟨S1x4096x64, .f32⟩
  | 34 => ⟨S1x4x64, .f32⟩
  | 35 => ⟨S_, .f32⟩
  | 36 => ⟨S1x4x64, .f32⟩
  | 37 => ⟨S1x4092x64, .f32⟩
  | 38 => ⟨S1x4096x64, .f32⟩
  | 39 => ⟨S_, .f32⟩
  | 40 => ⟨S1x4x64, .f32⟩
  | 41 => ⟨S1x4096x64, .f32⟩
  | 42 => ⟨S_, .f32⟩
  | 43 => ⟨S1x4096x1, .f32⟩
  | 44 => ⟨S1x4096x1, .f32⟩
  | 45 => ⟨S1x4096x64, .f32⟩
  | 46 => ⟨S1x4096x64, .f32⟩
  | 47 => ⟨S1x4096x64, .f32⟩
  | 48 => ⟨S1x4096x64, .f32⟩
  | 49 => ⟨S1x4096x64, .f32⟩
  | 50 => ⟨S1x8x64, .f32⟩
  | 51 => ⟨S_, .f32⟩
  | 52 => ⟨S1x8x64, .f32⟩
  | 53 => ⟨S1x4088x64, .f32⟩
  | 54 => ⟨S1x4096x64, .f32⟩
  | 55 => ⟨S_, .f32⟩
  | 56 => ⟨S1x8x64, .f32⟩
  | 57 => ⟨S1x4096x64, .f32⟩
  | 58 => ⟨S_, .f32⟩
  | 59 => ⟨S1x4096x1, .f32⟩
  | 60 => ⟨S1x4096x1, .f32⟩
  | 61 => ⟨S1x4096x64, .f32⟩
  | 62 => ⟨S1x4096x64, .f32⟩
  | 63 => ⟨S1x4096x64, .f32⟩
  | 64 => ⟨S1x4096x64, .f32⟩
  | 65 => ⟨S1x4096x64, .f32⟩
  | 66 => ⟨S1x16x64, .f32⟩
  | 67 => ⟨S_, .f32⟩
  | 68 => ⟨S1x16x64, .f32⟩
  | 69 => ⟨S1x4080x64, .f32⟩
  | 70 => ⟨S1x4096x64, .f32⟩
  | 71 => ⟨S_, .f32⟩
  | 72 => ⟨S1x16x64, .f32⟩
  | 73 => ⟨S1x4096x64, .f32⟩
  | 74 => ⟨S_, .f32⟩
  | 75 => ⟨S1x4096x1, .f32⟩
  | 76 => ⟨S1x4096x1, .f32⟩
  | 77 => ⟨S1x4096x64, .f32⟩
  | 78 => ⟨S1x4096x64, .f32⟩
  | 79 => ⟨S1x4096x64, .f32⟩
  | 80 => ⟨S1x4096x64, .f32⟩
  | 81 => ⟨S1x4096x1x64, .f32⟩
  | 82 => ⟨S1x4096x1x64, .f32⟩
  | 83 => ⟨S1x4096x1x64, .f32⟩
  | 84 => ⟨S1x4096x1x64, .f32⟩
  | 85 => ⟨S1x4096x4x64, .f32⟩
  | 86 => ⟨S4x64x1x4096, .f32⟩
  | 87 => ⟨S1x4096x4x64, .f32⟩
  | 88 => ⟨S1x4096x256, .f32⟩
  | 89 => ⟨S1x1x256, .f32⟩
  | 90 => ⟨S1x4096x256, .f32⟩
  | 91 => ⟨S1x4096x256, .f32⟩
  | 92 => ⟨S1x4096x256, .f32⟩
  | 93 => ⟨S_, .f32⟩
  | 94 => ⟨S1x256, .f32⟩
  | 95 => ⟨S1x1x256, .f32⟩
  | 96 => ⟨S1x4096x256, .f32⟩
  | 97 => ⟨S1x4096x256, .f32⟩
  | 98 => ⟨S_, .f32⟩
  | 99 => ⟨S256, .f32⟩
  | 100 => ⟨S1x4096x4x64, .f32⟩
  | 101 => ⟨S4x64x1x4096, .f32⟩
  | 102 => ⟨S4x1x4096x64, .f32⟩
  | 103 => ⟨S1x4096x4x64, .f32⟩
  | 104 => ⟨S4x64x64, .f32⟩
  | 105 => ⟨S4x64x64, .f32⟩
  | 106 => ⟨S1x4096x1x64, .f32⟩
  | 107 => ⟨S1x4096x64, .f32⟩
  | 108 => ⟨S1x4096x1x64, .f32⟩
  | 109 => ⟨S1x4096x64, .f32⟩
  | 110 => ⟨S1x4096x1x64, .f32⟩
  | 111 => ⟨S1x4096x64, .f32⟩
  | 112 => ⟨S1x4096x1x64, .f32⟩
  | 113 => ⟨S1x4096x64, .f32⟩
  | 114 => ⟨S1x4096x64, .f32⟩
  | 115 => ⟨S_, .f32⟩
  | 116 => ⟨S1x4096x256, .f32⟩
  | 117 => ⟨S1x4096x64, .f32⟩
  | 118 => ⟨S1x4096x64, .f32⟩
  | 119 => ⟨S1x4096x64, .f32⟩
  | 120 => ⟨S1x16x64, .f32⟩
  | 121 => ⟨S1x4080x64, .f32⟩
  | 122 => ⟨S_, .f32⟩
  | 123 => ⟨S1x4096x64, .f32⟩
  | 124 => ⟨S1x4096x64, .f32⟩
  | 125 => ⟨S_, .f32⟩
  | 126 => ⟨S1x4096x256, .f32⟩
  | 127 => ⟨S1x4096x64, .f32⟩
  | _ => ⟨S4096x2304, .f32⟩

abbrev hbmTy0_1 (i : Nat) : BufTy := match i % 128 with
  | 0 => ⟨S_, .f32⟩
  | 1 => ⟨S1x4096x256, .f32⟩
  | 2 => ⟨S1x4096x256, .f32⟩
  | 3 => ⟨S1x4096x64, .f32⟩
  | 4 => ⟨S1x4096x64, .f32⟩
  | 5 => ⟨S1x4096x64, .f32⟩
  | 6 => ⟨S1x8x64, .f32⟩
  | 7 => ⟨S1x4088x64, .f32⟩
  | 8 => ⟨S_, .f32⟩
  | 9 => ⟨S1x4096x64, .f32⟩
  | 10 => ⟨S1x4096x64, .f32⟩
  | 11 => ⟨S_, .f32⟩
  | 12 => ⟨S1x4096x256, .f32⟩
  | 13 => ⟨S1x4096x256, .f32⟩
  | 14 => ⟨S1x4096x64, .f32⟩
  | 15 => ⟨S_, .f32⟩
  | 16 => ⟨S1x4096x256, .f32⟩
  | 17 => ⟨S1x4096x256, .f32⟩
  | 18 => ⟨S1x4096x64, .f32⟩
  | 19 => ⟨S1x4096x64, .f32⟩
  | 20 => ⟨S1x4096x64, .f32⟩
  | 21 => ⟨S1x4x64, .f32⟩
  | 22 => ⟨S1x4092x64, .f32⟩
  | 23 => ⟨S_, .f32⟩
  | 24 => ⟨S1x4096x64, .f32⟩
  | 25 => ⟨S1x4096x64, .f32⟩
  | 26 => ⟨S_, .f32⟩
  | 27 => ⟨S1x4096x256, .f32⟩
  | 28 => ⟨S1x4096x256, .f32⟩
  | 29 => ⟨S1x4096x64, .f32⟩
  | 30 => ⟨S_, .f32⟩
  | 31 => ⟨S1x4096x256, .f32⟩
  | 32 => ⟨S1x4096x256, .f32⟩
  | 33 => ⟨S1x4096x64, .f32⟩
  | 34 => ⟨S1x4096x64, .f32⟩
  | 35 => ⟨S1x4096x64, .f32⟩
  | 36 => ⟨S1x2x64, .f32⟩
  | 37 => ⟨S1x4094x64, .f32⟩
  | 38 => ⟨S_, .f32⟩
  | 39 => ⟨S1x4096x64, .f32⟩
  | 40 => ⟨S1x4096x64, .f32⟩
  | 41 => ⟨S_, .f32⟩
  | 42 => ⟨S1x4096x256, .f32⟩
  | 43 => ⟨S1x4096x256, .f32⟩
  | 44 => ⟨S_, .f32⟩
  | 45 => ⟨S_, .f32⟩
  | 46 => ⟨S1x4096x256, .f32⟩
  | 47 => ⟨S1x4096x256, .f32⟩
  | 48 => ⟨S4096x2048, .bf16⟩
  | 49 => ⟨S4096x256, .f32⟩
  | 50 => ⟨S4096x256, .bf16⟩
  | 51 => ⟨S4096x2304, .bf16⟩
  | 52 => ⟨S256x64, .f32⟩
  | 53 => ⟨S256x256, .f32⟩
  | 54 => ⟨S1x256, .f32⟩
  | _ => ⟨S4096x2304, .f32⟩

abbrev hbmTy (i : Nat) : BufTy := match i / 128 with
  | 0 => hbmTy0_0 i
  | 1 => hbmTy0_1 i
  | _ => ⟨S4096x2304, .f32⟩

abbrev bufTy : (tb : Table) → Fin (tcTables nBuf tb) → BufTy
  | .hbm, ⟨i, _⟩ => hbmTy i
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_12 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_13 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_14 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_15 : Ref sig .tc := ⟨.hbm, 122, rfl⟩
abbrev main_v99 : Ref sig .tc := ⟨.hbm, 123, rfl⟩
abbrev main_v100 : Ref sig .tc := ⟨.hbm, 124, rfl⟩
abbrev main_cst_16 : Ref sig .tc := ⟨.hbm, 125, rfl⟩
abbrev main_v101 : Ref sig .tc := ⟨.hbm, 126, rfl⟩
abbrev main_v102 : Ref sig .tc := ⟨.hbm, 127, rfl⟩
abbrev main_cst_17 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_18 : Ref sig .tc := ⟨.hbm, 136, rfl⟩
abbrev main_v110 : Ref sig .tc := ⟨.hbm, 137, rfl⟩
abbrev main_v111 : Ref sig .tc := ⟨.hbm, 138, rfl⟩
abbrev main_cst_19 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_20 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_21 : Ref sig .tc := ⟨.hbm, 151, rfl⟩
abbrev main_v122 : Ref sig .tc := ⟨.hbm, 152, rfl⟩
abbrev main_v123 : Ref sig .tc := ⟨.hbm, 153, rfl⟩
abbrev main_cst_22 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_23 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_cst_24 : Ref sig .tc := ⟨.hbm, 166, rfl⟩
abbrev main_v134 : Ref sig .tc := ⟨.hbm, 167, rfl⟩
abbrev main_v135 : Ref sig .tc := ⟨.hbm, 168, rfl⟩
abbrev main_cst_25 : Ref sig .tc := ⟨.hbm, 169, rfl⟩
abbrev main_v136 : Ref sig .tc := ⟨.hbm, 170, rfl⟩
abbrev main_v137 : Ref sig .tc := ⟨.hbm, 171, rfl⟩
abbrev main_call1_call0_cst : Ref sig .tc := ⟨.hbm, 172, rfl⟩
abbrev main_call1_call0_v0 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x2816 : Shape := ⟨2, ![4096, 2816]⟩
abbrev S3x5632 : Shape := ⟨2, ![3, 5632]⟩
abbrev S5632 : Shape := ⟨1, ![5632]⟩
abbrev S4096x5632 : Shape := ⟨2, ![4096, 5632]⟩
abbrev S1x4096x5632 : Shape := ⟨3, ![1, 4096, 5632]⟩
abbrev S_ : Shape := ⟨0, ![]⟩
abbrev S1x2x5632 : Shape := ⟨3, ![1, 2, 5632]⟩
abbrev S1x4098x5632 : Shape := ⟨3, ![1, 4098, 5632]⟩
abbrev S1x5632 : Shape := ⟨2, ![1, 5632]⟩
abbrev S1x1x5632 : Shape := ⟨3, ![1, 1, 5632]⟩
abbrev S8x2816 : Shape := ⟨2, ![8, 2816]⟩
abbrev S256x1024 : Shape := ⟨2, ![256, 1024]⟩
abbrev S1408x1024 : Shape := ⟨2, ![1408, 1024]⟩
abbrev S256x1408 : Shape := ⟨2, ![256, 1408]⟩
abbrev S3x1408 : Shape := ⟨2, ![3, 1408]⟩
abbrev S8x1408 : Shape := ⟨2, ![8, 1408]⟩
abbrev S264x1408 : Shape := ⟨2, ![264, 1408]⟩
abbrev S1x1408 : Shape := ⟨2, ![1, 1408]⟩
abbrev S1408 : Shape := ⟨1, ![1408]⟩

abbrev nBuf : Space → Nat
  | .hbm => 43
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x2816, .f32⟩
  | .hbm, ⟨3, _⟩ => ⟨S4096x2816, .f32⟩
  | .hbm, ⟨4, _⟩ => ⟨S3x5632, .f32⟩
  | .hbm, ⟨5, _⟩ => ⟨S5632, .f32⟩
  | .hbm, ⟨6, _⟩ => ⟨S4096x5632, .f32⟩
  | .hbm, ⟨7, _⟩ => ⟨S1x4096x5632, .f32⟩
  | .hbm, ⟨8, _⟩ => ⟨S_, .f32⟩
  | .hbm, ⟨9, _⟩ => ⟨S1x2x5632, .f32⟩
  | .hbm, ⟨10, _⟩ => ⟨S1x4098x5632, .f32⟩
  | .hbm, ⟨11, _⟩ => ⟨S1x4096x5632, .f32⟩
  | .hbm, ⟨12, _⟩ => ⟨S1x5632, .f32⟩
  | .hbm, ⟨13, _⟩ => ⟨S5632, .f32⟩
  | .hbm, ⟨14, _⟩ => ⟨S1x1x5632, .f32⟩
  | .hbm, ⟨15, _⟩ => ⟨S1x4096x5632, .f32⟩
  | .hbm, ⟨16, _⟩ => ⟨S1x4096x5632, .f32⟩
  | .hbm, ⟨17, _⟩ => ⟨S1x1x5632, .f32⟩
  | .hbm, ⟨18, _⟩ => ⟨S1x4096x5632, .f32⟩
  | .hbm, ⟨19, _⟩ => ⟨S1x4096x5632, .f32⟩
  | .hbm, ⟨20, _⟩ => ⟨S1x4096x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S1x4096x5632, .f32⟩
  | .hbm, ⟨25, _⟩ => ⟨S1x4096x5632, .f32⟩
  | .hbm, ⟨26, _⟩ => ⟨S1x4096x5632, .f32⟩
  | .hbm, ⟨27, _⟩ => ⟨S1x4096x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S1x4096x5632, .f32⟩
  | .hbm, ⟨32, _⟩ => ⟨S1x4096x5632, .f32⟩
  | .hbm, ⟨33, _⟩ => ⟨S1x4096x5632, .f32⟩
  | .hbm, ⟨34, _⟩ => ⟨S4096x5632, .f32⟩
  | .hbm, ⟨35, _⟩ => ⟨S4096x5632, .bf16⟩
  | .hbm, ⟨36, _⟩ => ⟨S4096x2816, .bf16⟩
  | .hbm, ⟨37, _⟩ => ⟨S4096x2816, .bf16⟩
  | .hbm, ⟨38, _⟩ => ⟨S2816x1024, .bf16⟩
  | .hbm, ⟨39, _⟩ => ⟨S4096x2816, .bf16⟩
  | .hbm, ⟨40, _⟩ => ⟨S4096x2816, .bf16⟩
  | .hbm, ⟨41, _⟩ => ⟨S8x2816, .f32⟩
  | .hbm, ⟨42, _⟩ => ⟨S8x2816, .f32⟩
  | .local _ .vmem, ⟨0, _⟩ => ⟨S256x1024, .f32⟩
  | .local _ .vmem, ⟨1, _⟩ => ⟨S256x1024, .f32⟩
  | .local _ .vmem, ⟨2, _⟩ => ⟨S1408x1024, .bf16⟩
  | .local _ .vmem, ⟨3, _⟩ => ⟨S1408x1024, .bf16⟩
  | .local _ .vmem, ⟨4, _⟩ => ⟨S256x1408, .bf16⟩
  | .local _ .vmem, ⟨5, _⟩ => ⟨S256x1408, .bf16⟩
  | .local _ .vmem, ⟨6, _⟩ => ⟨S256x1408, .bf16⟩
  | .local _ .vmem, ⟨7, _⟩ => ⟨S256x1408, .bf16⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S3x1408, .f32⟩
  | .local _ .vmem, ⟨13, _⟩ => ⟨S3x1408, .f32⟩
  | .local _ .vmem, ⟨14, _⟩ => ⟨S3x1408, .f32⟩
  | .local _ .vmem, ⟨15, _⟩ => ⟨S3x1408, .f32⟩
  | .local _ .vmem, ⟨16, _⟩ => ⟨S256x1408, .bf16⟩
  | .local _ .vmem, ⟨17, _⟩ => ⟨S256x1408, .bf16⟩
  | .local _ .vmem, ⟨18, _⟩ => ⟨S256x1408, .bf16⟩
  | .local _ .vmem, ⟨19, _⟩ => ⟨S256x1408, .bf16⟩
  | .local _ .vmem, ⟨20, _⟩ => ⟨S8x1408, .f32⟩
  | .local _ .vmem, ⟨21, _⟩ => ⟨S8x1408, .f32⟩
  | .local _ .vmem, ⟨22, _⟩ => ⟨S8x1408, .f32⟩
  | .local _ .vmem, ⟨23, _⟩ => ⟨S8x1408, .f32⟩
  | .local _ .vmem, ⟨24, _⟩ => ⟨S264x1408, .f32⟩
  | .local _ .vmem, ⟨25, _⟩ => ⟨S8x1408, .f32⟩
  | .local _ .vmem, ⟨26, _⟩ => ⟨S8x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32_0 : Ref sig .tc := ⟨.hbm, 39, rfl⟩
abbrev main_v32_1 : Ref sig .tc := ⟨.hbm, 40, rfl⟩
abbrev main_v32_2 : Ref sig .tc := ⟨.hbm, 41, rfl⟩
abbrev main_v32_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Kernel2Ideal.lean ====
variable {F : FTy → Type} [FloatOps F] [Named F]
def κ : String → Option EReal := fun
  | "gelu_3ca" => some ((241015141496493 / 2251799813685248 : ℝ) : EReal)
  | "gelu_ca" => some ((80338380498831 / 2251799813685248 : ℝ) : EReal)
  | _ => none
-- ==== Reference2Ideal.lean ====
abbrev S4096x1024 : Shape := ⟨2, ![4096, 1024]⟩
abbrev S2816x1024 : Shape := ⟨2, ![2816, 1024]⟩
abbrev S4096x2816 : Shape := ⟨2, ![4096, 2816]⟩
abbrev S3x5632 : Shape := ⟨2, ![3, 5632]⟩
abbrev S5632 : Shape := ⟨1, ![5632]⟩
abbrev S4096x5632 : Shape := ⟨2, ![4096, 5632]⟩
abbrev S1x4096x5632 : Shape := ⟨3, ![1, 4096, 5632]⟩
abbrev S_ : Shape := ⟨0, ![]⟩
abbrev S1x2x5632 : Shape := ⟨3, ![1, 2, 5632]⟩
abbrev S1x4098x5632 : Shape := ⟨3, ![1, 4098, 5632]⟩
abbrev S1x5632 : Shape := ⟨2, ![1, 5632]⟩
abbrev S1x1x5632 : Shape := ⟨3, ![1, 1, 5632]⟩
abbrev S1x4096x2816 : Shape := ⟨3, ![1, 4096, 2816]⟩
abbrev S1x4096x1024 : Shape := ⟨3, ![1, 4096, 1024]⟩
abbrev S4x5632 : Shape := ⟨2, ![4, 5632]⟩
abbrev S8x5632 : Shape := ⟨2, ![8, 5632]⟩
abbrev S8x2816 : Shape := ⟨2, ![8, 2816]⟩

abbrev nBuf : Space → Nat
  | .hbm => 148
  | .vmem => 0
  | .smem => 0
  | _ => 0

abbrev hbmTy0_0 (i : Nat) : BufTy := match i % 128 with
  | 0 => ⟨S4096x1024, .f32⟩
  | 1 => ⟨S2816x1024, .f32⟩
  | 2 => ⟨S4096x2816, .f32⟩
  | 3 => ⟨S4096x2816, .f32⟩
  | 4 => ⟨S3x5632, .f32⟩
  | 5 => ⟨S5632, .f32⟩
  | 6 => ⟨S4096x5632, .f32⟩
  | 7 => ⟨S1x4096x5632, .f32⟩
  | 8 => ⟨S_, .f32⟩
  | 9 => ⟨S1x2x5632, .f32⟩
  | 10 => ⟨S1x4098x5632, .f32⟩
  | 11 => ⟨S_, .f32⟩
  | 12 => ⟨S1x2x5632, .f32⟩
  | 13 => ⟨S1x4096x5632, .f32⟩
  | 14 => ⟨S1x5632, .f32⟩
  | 15 => ⟨S5632, .f32⟩
  | 16 => ⟨S1x1x5632, .f32⟩
  | 17 => ⟨S1x4096x5632, .f32⟩
  | 18 => ⟨S1x4096x5632, .f32⟩
  | 19 => ⟨S1x1x5632, .f32⟩
  | 20 => ⟨S1x4096x5632, .f32⟩
  | 21 => ⟨S1x4096x5632, .f32⟩
  | 22 => ⟨S1x4096x5632, .f32⟩
  | 23 => ⟨S1x5632, .f32⟩
  | 24 => ⟨S5632, .f32⟩
  | 25 => ⟨S1x1x5632, .f32⟩
  | 26 => ⟨S1x4096x5632, .f32⟩
  | 27 => ⟨S1x4096x5632, .f32⟩
  | 28 => ⟨S1x4096x5632, .f32⟩
  | 29 => ⟨S1x4096x5632, .f32⟩
  | 30 => ⟨S1x5632, .f32⟩
  | 31 => ⟨S5632, .f32⟩
  | 32 => ⟨S1x1x5632, .f32⟩
  | 33 => ⟨S1x4096x5632, .f32⟩
  | 34 => ⟨S1x4096x5632, .f32⟩
  | 35 => ⟨S1x4096x5632, .f32⟩
  | 36 => ⟨S1x4096x2816, .f32⟩
  | 37 => ⟨S1x4096x2816, .f32⟩
  | 38 => ⟨S1x4096x2816, .f32⟩
  | 39 => ⟨S1x4096x2816, .f32⟩
  | 40 => ⟨S1x4096x2816, .f32⟩
  | 41 => ⟨S_, .f32⟩
  | 42 => ⟨S1x4096x2816, .f32⟩
  | 43 => ⟨S1x4096x2816, .f32⟩
  | 44 => ⟨S_, .f32⟩
  | 45 => ⟨S1x4096x2816, .f32⟩
  | 46 => ⟨S1x4096x2816, .f32⟩
  | 47 => ⟨S1x4096x2816, .f32⟩
  | 48 => ⟨S_, .f32⟩
  | 49 => ⟨S1x4096x2816, .f32⟩
  | 50 => ⟨S1x4096x2816, .f32⟩
  | 51 => ⟨S1x4096x2816, .f32⟩
  | 52 => ⟨S_, .f32⟩
  | 53 => ⟨S1x4096x2816, .f32⟩
  | 54 => ⟨S1x4096x2816, .f32⟩
  | 55 => ⟨S_, .f32⟩
  | 56 => ⟨S1x4096x2816, .f32⟩
  | 57 => ⟨S1x4096x2816, .f32⟩
  | 58 => ⟨S1x4096x2816, .f32⟩
  | 59 => ⟨S_, .f32⟩
  | 60 => ⟨S1x4096x2816, .f32⟩
  | 61 => ⟨S1x4096x2816, .f32⟩
  | 62 => ⟨S_, .f32⟩
  | 63 => ⟨S1x4096x2816, .f32⟩
  | 64 => ⟨S1x4096x2816, .f32⟩
  | 65 => ⟨S1x4096x2816, .f32⟩
  | 66 => ⟨S1x4096x2816, .f32⟩
  | 67 => ⟨S1x4096x1024, .f32⟩
  | 68 => ⟨S1x4096x1024, .f32⟩
  | 69 => ⟨S1x4096x2816, .f32⟩
  | 70 => ⟨S1x4096x2816, .f32⟩
  | 71 => ⟨S1x4096x2816, .f32⟩
  | 72 => ⟨S1x4096x2816, .f32⟩
  | 73 => ⟨S1x4096x2816, .f32⟩
  | 74 => ⟨S_, .f32⟩
  | 75 => ⟨S1x4096x2816, .f32⟩
  | 76 => ⟨S1x4096x2816, .f32⟩
  | 77 => ⟨S1x4096x2816, .f32⟩
  | 78 => ⟨S_, .f32⟩
  | 79 => ⟨S1x4096x2816, .f32⟩
  | 80 => ⟨S1x4096x2816, .f32⟩
  | 81 => ⟨S1x4096x2816, .f32⟩
  | 82 => ⟨S_, .f32⟩
  | 83 => ⟨S1x4096x2816, .f32⟩
  | 84 => ⟨S1x4096x2816, .f32⟩
  | 85 => ⟨S1x4096x2816, .f32⟩
  | 86 => ⟨S1x4096x2816, .f32⟩
  | 87 => ⟨S1x4096x5632, .f32⟩
  | 88 => ⟨S1x4096x5632, .f32⟩
  | 89 => ⟨S_, .f32⟩
  | 90 => ⟨S1x5632, .f32⟩
  | 91 => ⟨S1x1x5632, .f32⟩
  | 92 => ⟨S1x4096x5632, .f32⟩
  | 93 => ⟨S1x4096x5632, .f32⟩
  | 94 => ⟨S_, .f32⟩
  | 95 => ⟨S5632, .f32⟩
  | 96 => ⟨S1x5632, .f32⟩
  | 97 => ⟨S_, .f32⟩
  | 98 => ⟨S3x5632, .f32⟩
  | 99 => ⟨S_, .f32⟩
  | 100 => ⟨S1x4098x5632, .f32⟩
  | 101 => ⟨S1x4096x5632, .f32⟩
  | 102 => ⟨S_, .f32⟩
  | 103 => ⟨S1x5632, .f32⟩
  | 104 => ⟨S1x1x5632, .f32⟩
  | 105 => ⟨S1x4096x5632, .f32⟩
  | 106 => ⟨S1x4096x5632, .f32⟩
  | 107 => ⟨S_, .f32⟩
  | 108 => ⟨S5632, .f32⟩
  | 109 => ⟨S1x5632, .f32⟩
  | 110 => ⟨S_, .f32⟩
  | 111 => ⟨S3x5632, .f32⟩
  | 112 => ⟨S3x5632, .f32⟩
  | 113 => ⟨S_, .f32⟩
  | 114 => ⟨S1x4098x5632, .f32⟩
  | 115 => ⟨S1x4098x5632, .f32⟩
  | 116 => ⟨S_, .f32⟩
  | 117 => ⟨S1x5632, .f32⟩
  | 118 => ⟨S1x1x5632, .f32⟩
  | 119 => ⟨S_, .f32⟩
  | 120 => ⟨S5632, .f32⟩
  | 121 => ⟨S1x4096x5632, .f32⟩
  | 122 => ⟨S_, .f32⟩
  | 123 => ⟨S1x5632, .f32⟩
  | 124 => ⟨S1x1x5632, .f32⟩
  | 125 => ⟨S1x4096x5632, .f32⟩
  | 126 => ⟨S1x4096x5632, .f32⟩
  | 127 => ⟨S_, .f32⟩
  | _ => ⟨S4096x1024, .f32⟩

abbrev hbmTy0_1 (i : Nat) : BufTy := match i % 128 with
  | 0 => ⟨S5632, .f32⟩
  | 1 => ⟨S1x5632, .f32⟩
  | 2 => ⟨S_, .f32⟩
  | 3 => ⟨S3x5632, .f32⟩
  | 4 => ⟨S3x5632, .f32⟩
  | 5 => ⟨S_, .f32⟩
  | 6 => ⟨S1x4098x5632, .f32⟩
  | 7 => ⟨S1x4098x5632, .f32⟩
  | 8 => ⟨S1x2x5632, .f32⟩
  | 9 => ⟨S1x4096x5632, .f32⟩
  | 10 => ⟨S1x5632, .f32⟩
  | 11 => ⟨S_, .f32⟩
  | 12 => ⟨S4x5632, .f32⟩
  | 13 => ⟨S8x5632, .f32⟩
  | 14 => ⟨S4096x5632, .f32⟩
  | 15 => ⟨S4096x5632, .bf16⟩
  | 16 => ⟨S4096x2816, .bf16⟩
  | 17 => ⟨S4096x2816, .bf16⟩
  | 18 => ⟨S8x2816, .f32⟩
  | 19 => ⟨S8x2816, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_12 : Ref sig .tc := ⟨.hbm, 94, rfl⟩
abbrev main_v75 : Ref sig .tc := ⟨.hbm, 95, rfl⟩
abbrev main_v76 : Ref sig .tc := ⟨.hbm, 96, rfl⟩
abbrev main_cst_13 : Ref sig .tc := ⟨.hbm, 97, rfl⟩
abbrev main_v77 : Ref sig .tc := ⟨.hbm, 98, rfl⟩
abbrev main_cst_14 : Ref sig .tc := ⟨.hbm, 99, rfl⟩
abbrev main_v78 : Ref sig .tc := ⟨.hbm, 100, rfl⟩
abbrev main_v79 : Ref sig .tc := ⟨.hbm, 101, rfl⟩
abbrev main_cst_15 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_16 : Ref sig .tc := ⟨.hbm, 107, rfl⟩
abbrev main_v84 : Ref sig .tc := ⟨.hbm, 108, rfl⟩
abbrev main_v85 : Ref sig .tc := ⟨.hbm, 109, rfl⟩
abbrev main_cst_17 : Ref sig .tc := ⟨.hbm, 110, rfl⟩
abbrev main_v86 : Ref sig .tc := ⟨.hbm, 111, rfl⟩
abbrev main_v87 : Ref sig .tc := ⟨.hbm, 112, rfl⟩
abbrev main_cst_18 : Ref sig .tc := ⟨.hbm, 113, rfl⟩
abbrev main_v88 : Ref sig .tc := ⟨.hbm, 114, rfl⟩
abbrev main_v89 : Ref sig .tc := ⟨.hbm, 115, rfl⟩
abbrev main_cst_19 : Ref sig .tc := ⟨.hbm, 116, rfl⟩
abbrev main_v90 : Ref sig .tc := ⟨.hbm, 117, rfl⟩
abbrev main_v91 : Ref sig .tc := ⟨.hbm, 118, rfl⟩
abbrev main_cst_20 : Ref sig .tc := ⟨.hbm, 119, rfl⟩
abbrev main_v92 : Ref sig .tc := ⟨.hbm, 120, rfl⟩
abbrev main_v93 : Ref sig .tc := ⟨.hbm, 121, rfl⟩
abbrev main_cst_21 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_22 : Ref sig .tc := ⟨.hbm, 127, rfl⟩
abbrev main_v98 : Ref sig .tc := ⟨.hbm, 128, rfl⟩
abbrev main_v99 : Ref sig .tc := ⟨.hbm, 129, rfl⟩
abbrev main_cst_23 : Ref sig .tc := ⟨.hbm, 130, rfl⟩
abbrev main_v100 : Ref sig .tc := ⟨.hbm, 131, rfl⟩
abbrev main_v101 : Ref sig .tc := ⟨.hbm, 132, rfl⟩
abbrev main_cst_24 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_25 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩

abbrev nD : Nat := 1
abbrev τ : Topo := Topo.v7x

variable {F : FTy → Type} [FloatOps F]
-- ==== Kernel3.lean ====
abbrev S4096x2816 : Shape := ⟨2, ![4096, 2816]⟩
abbrev S1024x5632 : Shape := ⟨2, ![1024, 5632]⟩
abbrev S4096x1024 : Shape := ⟨2, ![4096, 1024]⟩
abbrev S1024 : Shape := ⟨1, ![1024]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S1x1024 : Shape := ⟨2, ![1, 1024]⟩
abbrev S512x2816 : Shape := ⟨2, ![512, 2816]⟩
abbrev S2x1024x1408 : Shape := ⟨3, ![2, 1024, 1408]⟩
abbrev S512x1024 : Shape := ⟨2, ![512, 1024]⟩
abbrev S512x1408 : Shape := ⟨2, ![512, 1408]⟩
abbrev S512 : Shape := ⟨1, ![512]⟩
abbrev S512x1 : Shape := ⟨2, ![512, 1]⟩

abbrev nBuf : Space → Nat
  | .hbm => 19
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S1024x5632, .bf16⟩
  | .hbm, ⟨7, _⟩ => ⟨S1024x1408, .bf16⟩
  | .hbm, ⟨8, _⟩ => ⟨S1024x1408, .bf16⟩
  | .hbm, ⟨9, _⟩ => ⟨S1024x1408, .bf16⟩
  | .hbm, ⟨10, _⟩ => ⟨S1024x1408, .bf16⟩
  | .hbm, ⟨11, _⟩ => ⟨S1x1024x1408, .bf16⟩
  | .hbm, ⟨12, _⟩ => ⟨S1x1024x1408, .bf16⟩
  | .hbm, ⟨13, _⟩ => ⟨S1x1024x1408, .bf16⟩
  | .hbm, ⟨14, _⟩ => ⟨S1x1024x1408, .bf16⟩
  | .hbm, ⟨15, _⟩ => ⟨S4x1024x1408, .bf16⟩
  | .hbm, ⟨16, _⟩ => ⟨S1x1024, .f32⟩
  | .hbm, ⟨17, _⟩ => ⟨S4096x1024, .f32⟩
  | .hbm, ⟨18, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2x1024x1408, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_24 : BitVec 32 := 0#32
  let v48 : BitVec 1 := Scalar.cmpi .ne v47 c0_i32_24
  v48

def k0_cond2 (i : grid0.Coords) : BitVec 1 :=
  let arg0 : BitVec 32 := BitVec.ofNat 32 (i 0).val
  let c0_i32 : BitVec 32 := 0#32
  let v46 : BitVec 1 := Scalar.cmpi .eq arg0 c0_i32
  let v_true : BitVec 1 := 1#1
  let v49 : BitVec 1 := Scalar.xori v46 v_true
  let v50 : BitVec 32 := Scalar.extui v49
  let c0_i32_25 : BitVec 32 := 0#32
  let v51 : BitVec 1 := Scalar.cmpi .ne v50 c0_i32_25
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference3Ideal.lean ====
abbrev S4096x2816 : Shape := ⟨2, ![4096, 2816]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2816 : Shape := ⟨2, ![1024, 2816]⟩

abbrev nBuf : Space → Nat
  | .hbm => 58
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x2816, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .hbm, ⟨3, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .f32⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4096x1024 : Shape := ⟨2, ![4096, 1024]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .hbm, ⟨3, _⟩ => ⟨S4096x2816, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x2816 : Shape := ⟨2, ![4096, 2816]⟩
abbrev S1024x5632 : Shape := ⟨2, ![1024, 5632]⟩
abbrev S4096x1024 : Shape := ⟨2, ![4096, 1024]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S1024x2816 : Shape := ⟨2, ![1024, 2816]⟩
abbrev S2x1024x1408 : Shape := ⟨3, ![2, 1024, 1408]⟩
abbrev S1024x1024 : Shape := ⟨2, ![1024, 1024]⟩

abbrev nBuf : Space → Nat
  | .hbm => 14
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .f32⟩
  | .hbm, ⟨2, _⟩ => ⟨S4096x1024, .f32⟩
  | .hbm, ⟨3, _⟩ => ⟨S1024x5632, .bf16⟩
  | .hbm, ⟨4, _⟩ => ⟨S1024x1408, .bf16⟩
  | .hbm, ⟨5, _⟩ => ⟨S1024x1408, .bf16⟩
  | .hbm, ⟨6, _⟩ => ⟨S1024x1408, .bf16⟩
  | .hbm, ⟨7, _⟩ => ⟨S1024x1408, .bf16⟩
  | .hbm, ⟨8, _⟩ => ⟨S1x1024x1408, .bf16⟩
  | .hbm, ⟨9, _⟩ => ⟨S1x1024x1408, .bf16⟩
  | .hbm, ⟨10, _⟩ => ⟨S1x1024x1408, .bf16⟩
  | .hbm, ⟨11, _⟩ => ⟨S1x1024x1408, .bf16⟩
  | .hbm, ⟨12, _⟩ => ⟨S4x1024x1408, .bf16⟩
  | .hbm, ⟨13, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2x1024x1408, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S1024x5632 : Shape := ⟨2, ![1024, 5632]⟩
abbrev S4096x1024 : Shape := ⟨2, ![4096, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .f32⟩
  | .hbm, ⟨2, _⟩ => ⟨S4096x1024, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S4096x2816 : Shape := ⟨2, ![4096, 2816]⟩
abbrev S1024x5632 : Shape := ⟨2, ![1024, 5632]⟩
abbrev S4x1024x1408 : Shape := ⟨3, ![4, 1024, 1408]⟩
abbrev S4096x1408 : Shape := ⟨2, ![4096, 1408]⟩
abbrev S1x1024x1408 : Shape := ⟨3, ![1, 1024, 1408]⟩
abbrev S1024x1408 : Shape := ⟨2, ![1024, 1408]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x5632, .f32⟩
  | .hbm, ⟨3, _⟩ => ⟨S4x1024x1408, .bf16⟩
  | .local _ .vmem, ⟨0, _⟩ => ⟨S4096x1024, .bf16⟩
  | .local _ .vmem, ⟨1, _⟩ => ⟨S4096x1408, .bf16⟩
  | .local _ .vmem, ⟨2, _⟩ => ⟨S4096x1408, .bf16⟩
  | .local _ .vmem, ⟨3, _⟩ => ⟨S1x1024x1408, .bf16⟩
  | .local _ .vmem, ⟨4, _⟩ => ⟨S1x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg0.toNat, v28.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S4096x2816 : Shape := ⟨2, ![4096, 2816]⟩
abbrev S1024x5632 : Shape := ⟨2, ![1024, 5632]⟩
abbrev S1024x2816 : Shape := ⟨2, ![1024, 2816]⟩
abbrev S2816x1024 : Shape := ⟨2, ![2816, 1024]⟩
abbrev S_ : Shape := ⟨0, ![]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x5632, .f32⟩
  | .hbm, ⟨3, _⟩ => ⟨S4096x1024, .f32⟩
  | .hbm, ⟨4, _⟩ => ⟨S1024x2816, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S_, .f32⟩
  | .hbm, ⟨10, _⟩ => ⟨S1024x5632, .f32⟩
  | .hbm, ⟨11, _⟩ => ⟨S1024x5632, .bf16⟩
  | .hbm, ⟨12, _⟩ => ⟨S1024x1408, .bf16⟩
  | .hbm, ⟨13, _⟩ => ⟨S1024x1408, .bf16⟩
  | .hbm, ⟨14, _⟩ => ⟨S1024x1408, .bf16⟩
  | .hbm, ⟨15, _⟩ => ⟨S1024x1408, .bf16⟩
  | .hbm, ⟨16, _⟩ => ⟨S1x1024x1408, .bf16⟩
  | .hbm, ⟨17, _⟩ => ⟨S1x1024x1408, .bf16⟩
  | .hbm, ⟨18, _⟩ => ⟨S1x1024x1408, .bf16⟩
  | .hbm, ⟨19, _⟩ => ⟨S1x1024x1408, .bf16⟩
  | .hbm, ⟨20, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel7.lean ====
abbrev S4096x1024 : Shape := ⟨2, ![4096, 1024]⟩
abbrev S4096x2816 : Shape := ⟨2, ![4096, 2816]⟩
abbrev S1024x5632 : Shape := ⟨2, ![1024, 5632]⟩
abbrev S4x1024x1408 : Shape := ⟨3, ![4, 1024, 1408]⟩
abbrev S4096x1408 : Shape := ⟨2, ![4096, 1408]⟩
abbrev S1x1024x1408 : Shape := ⟨3, ![1, 1024, 1408]⟩
abbrev S1024x1408 : Shape := ⟨2, ![1024, 1408]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x5632, .f32⟩
  | .hbm, ⟨3, _⟩ => ⟨S4x1024x1408, .bf16⟩
  | .hbm, ⟨4, _⟩ => ⟨S4x1024x1408, .bf16⟩
  | .local _ .vmem, ⟨0, _⟩ => ⟨S4096x1024, .bf16⟩
  | .local _ .vmem, ⟨1, _⟩ => ⟨S4096x1408, .bf16⟩
  | .local _ .vmem, ⟨2, _⟩ => ⟨S4096x1408, .bf16⟩
  | .local _ .vmem, ⟨3, _⟩ => ⟨S1x1024x1408, .bf16⟩
  | .local _ .vmem, ⟨4, _⟩ => ⟨S1x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c2_i32_5 : BitVec 32 := 2#32
  let v18 : BitVec 32 := Scalar.addi arg1 c2_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v17.toNat, arg0.toNat, v28.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x2816 : Shape := ⟨2, ![4096, 2816]⟩
abbrev S1024x5632 : Shape := ⟨2, ![1024, 5632]⟩
abbrev S4x1024x1408 : Shape := ⟨3, ![4, 1024, 1408]⟩
abbrev S1024x2816 : Shape := ⟨2, ![1024, 2816]⟩
abbrev S2816x1024 : Shape := ⟨2, ![2816, 1024]⟩
abbrev S_ : Shape := ⟨0, ![]⟩
abbrev S1024x1408 : Shape := ⟨2, ![1024, 1408]⟩
abbrev S1x1024x1408 : Shape := ⟨3, ![1, 1024, 1408]⟩
abbrev S2x1024x1408 : Shape := ⟨3, ![2, 1024, 1408]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x5632, .f32⟩
  | .hbm, ⟨3, _⟩ => ⟨S4x1024x1408, .bf16⟩
  | .hbm, ⟨4, _⟩ => ⟨S4096x1024, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S_, .f32⟩
  | .hbm, ⟨11, _⟩ => ⟨S1024x5632, .f32⟩
  | .hbm, ⟨12, _⟩ => ⟨S1024x5632, .bf16⟩
  | .hbm, ⟨13, _⟩ => ⟨S1024x1408, .bf16⟩
  | .hbm, ⟨14, _⟩ => ⟨S1024x1408, .bf16⟩
  | .hbm, ⟨15, _⟩ => ⟨S1024x1408, .bf16⟩
  | .hbm, ⟨16, _⟩ => ⟨S1024x1408, .bf16⟩
  | .hbm, ⟨17, _⟩ => ⟨S1x1024x1408, .bf16⟩
  | .hbm, ⟨18, _⟩ => ⟨S1x1024x1408, .bf16⟩
  | .hbm, ⟨19, _⟩ => ⟨S1x1024x1408, .bf16⟩
  | .hbm, ⟨20, _⟩ => ⟨S1x1024x1408, .bf16⟩
  | .hbm, ⟨21, _⟩ => ⟨S4x1024x1408, .bf16⟩
  | .hbm, ⟨22, _⟩ => ⟨S2x1024x1408, .bf16⟩
  | .hbm, ⟨23, _⟩ => ⟨S2x1024x1408, .bf16⟩
  | .hbm, ⟨24, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel8.lean ====
abbrev S4096x2304 : Shape := ⟨2, ![4096, 2304]⟩
abbrev S1024x2304 : Shape := ⟨2, ![1024, 2304]⟩
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x2304, .bf16⟩
  | .hbm, ⟨6, _⟩ => ⟨S1x1024, .f32⟩
  | .hbm, ⟨7, _⟩ => ⟨S4096x1024, .f32⟩
  | .hbm, ⟨8, _⟩ => ⟨S1x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_17 : BitVec 32 := 0#32
  let v41 : BitVec 1 := Scalar.cmpi .ne v40 c0_i32_17
  v41

def k0_cond2 (i : grid0.Coords) : BitVec 1 :=
  let arg0 : BitVec 32 := BitVec.ofNat 32 (i 0).val
  let c0_i32 : BitVec 32 := 0#32
  let v39 : BitVec 1 := Scalar.cmpi .eq arg0 c0_i32
  let v_true : BitVec 1 := 1#1
  let v42 : BitVec 1 := Scalar.xori v39 v_true
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference8Ideal.lean ====
abbrev S4096x2304 : Shape := ⟨2, ![4096, 2304]⟩
abbrev S1024x2304 : Shape := ⟨2, ![1024, 2304]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2304, .f32⟩
  | .hbm, ⟨26, _⟩ => ⟨S4096x2304, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel9.lean ====
abbrev S4096x1024 : Shape := ⟨2, ![4096, 1024]⟩
abbrev S4096x2304 : Shape := ⟨2, ![4096, 2304]⟩
abbrev S1024x2304 : Shape := ⟨2, ![1024, 2304]⟩
abbrev S4096x768 : Shape := ⟨2, ![4096, 768]⟩
abbrev S1024x768 : Shape := ⟨2, ![1024, 768]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S1024x2304, .f32⟩
  | .hbm, ⟨3, _⟩ => ⟨S1024x2304, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .bf16⟩
  | .local _ .vmem, ⟨4, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S4096x2304 : Shape := ⟨2, ![4096, 2304]⟩
abbrev S1024x2304 : Shape := ⟨2, ![1024, 2304]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S1024x2304, .f32⟩
  | .hbm, ⟨3, _⟩ => ⟨S4096x1024, .f32⟩
  | .hbm, ⟨4, _⟩ => ⟨S4096x2304, .f32⟩
  | .hbm, ⟨5, _⟩ => ⟨S4096x2304, .f32⟩
  | .hbm, ⟨6, _⟩ => ⟨S2304x1024, .f32⟩
  | .hbm, ⟨7, _⟩ => ⟨S1024x2304, .f32⟩
  | .hbm, ⟨8, _⟩ => ⟨S1024x2304, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_17 : BitVec 32 := 0#32
  let v41 : BitVec 1 := Scalar.cmpi .ne v40 c0_i32_17
  v41

def k0_cond2 (i : grid0.Coords) : BitVec 1 :=
  let arg0 : BitVec 32 := BitVec.ofNat 32 (i 0).val
  let c0_i32 : BitVec 32 := 0#32
  let v39 : BitVec 1 := Scalar.cmpi .eq arg0 c0_i32
  let v_true : BitVec 1 := 1#1
  let v42 : BitVec 1 := Scalar.xori v39 v_true
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference10Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .bf16⟩
  | .local _ .vmem, ⟨0, _⟩ => ⟨S4096x256, .f32⟩
  | .local _ .vmem, ⟨1, _⟩ => ⟨S4096x256, .f32⟩
  | .local _ .vmem, ⟨2, _⟩ => ⟨S4096x1024, .f32⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .hbm, ⟨3, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S2816x1024, .bf16⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference14Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel15.lean ====
abbrev S4096x1024 : Shape := ⟨2, ![4096, 1024]⟩
abbrev S1024x5632 : Shape := ⟨2, ![1024, 5632]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S4096x2816 : Shape := ⟨2, ![4096, 2816]⟩
abbrev S2048x1024 : Shape := ⟨2, ![2048, 1024]⟩
abbrev S2048x1408 : Shape := ⟨2, ![2048, 1408]⟩

abbrev nBuf : Space → Nat
  | .hbm => 13
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S1024x5632, .bf16⟩
  | .hbm, ⟨3, _⟩ => ⟨S1024x1408, .bf16⟩
  | .hbm, ⟨4, _⟩ => ⟨S1024x1408, .bf16⟩
  | .hbm, ⟨5, _⟩ => ⟨S1024x1408, .bf16⟩
  | .hbm, ⟨6, _⟩ => ⟨S1024x1408, .bf16⟩
  | .hbm, ⟨7, _⟩ => ⟨S1x1024x1408, .bf16⟩
  | .hbm, ⟨8, _⟩ => ⟨S1x1024x1408, .bf16⟩
  | .hbm, ⟨9, _⟩ => ⟨S1x1024x1408, .bf16⟩
  | .hbm, ⟨10, _⟩ => ⟨S1x1024x1408, .bf16⟩
  | .hbm, ⟨11, _⟩ => ⟨S4x1024x1408, .bf16⟩
  | .hbm, ⟨12, _⟩ => ⟨S4096x2816, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .f32⟩
  | .local _ .vmem, ⟨5, _⟩ => ⟨S2048x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S4096x1024 : Shape := ⟨2, ![4096, 1024]⟩
abbrev S1024x5632 : Shape := ⟨2, ![1024, 5632]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S4096x2816 : Shape := ⟨2, ![4096, 2816]⟩
abbrev S2048x1024 : Shape := ⟨2, ![2048, 1024]⟩
abbrev S2048x1408 : Shape := ⟨2, ![2048, 1408]⟩

abbrev nBuf : Space → Nat
  | .hbm => 13
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S1024x5632, .bf16⟩
  | .hbm, ⟨3, _⟩ => ⟨S1024x1408, .bf16⟩
  | .hbm, ⟨4, _⟩ => ⟨S1024x1408, .bf16⟩
  | .hbm, ⟨5, _⟩ => ⟨S1024x1408, .bf16⟩
  | .hbm, ⟨6, _⟩ => ⟨S1024x1408, .bf16⟩
  | .hbm, ⟨7, _⟩ => ⟨S1x1024x1408, .bf16⟩
  | .hbm, ⟨8, _⟩ => ⟨S1x1024x1408, .bf16⟩
  | .hbm, ⟨9, _⟩ => ⟨S1x1024x1408, .bf16⟩
  | .hbm, ⟨10, _⟩ => ⟨S1x1024x1408, .bf16⟩
  | .hbm, ⟨11, _⟩ => ⟨S4x1024x1408, .bf16⟩
  | .hbm, ⟨12, _⟩ => ⟨S4096x2816, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .f32⟩
  | .local _ .vmem, ⟨5, _⟩ => ⟨S2048x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c2_i32_5 : BitVec 32 := 2#32
  let v18 : BitVec 32 := Scalar.addi arg1 c2_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4096x1024 : Shape := ⟨2, ![4096, 1024]⟩
abbrev S1024x2304 : Shape := ⟨2, ![1024, 2304]⟩
abbrev S4096x2304 : Shape := ⟨2, ![4096, 2304]⟩
abbrev S2048x1024 : Shape := ⟨2, ![2048, 1024]⟩
abbrev S1024x768 : Shape := ⟨2, ![1024, 768]⟩
abbrev S2048x768 : Shape := ⟨2, ![2048, 768]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .f32⟩
  | .hbm, ⟨2, _⟩ => ⟨S1024x2304, .bf16⟩
  | .hbm, ⟨3, _⟩ => ⟨S4096x2304, .f32⟩
  | .local _ .vmem, ⟨0, _⟩ => ⟨S2048x1024, .bf16⟩
  | .local _ .vmem, ⟨1, _⟩ => ⟨S2048x1024, .bf16⟩
  | .local _ .vmem, ⟨2, _⟩ => ⟨S1024x768, .bf16⟩
  | .local _ .vmem, ⟨3, _⟩ => ⟨S1024x768, .bf16⟩
  | .local _ .vmem, ⟨4, _⟩ => ⟨S2048x768, .f32⟩
  | .local _ .vmem, ⟨5, _⟩ => ⟨S2048x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .f32⟩
  | .hbm, ⟨2, _⟩ => ⟨S4096x1024, .f32⟩
  | .hbm, ⟨3, _⟩ => ⟨S4096x2304, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference18Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel20.lean ====
abbrev S4096x256 : Shape := ⟨2, ![4096, 256]⟩
abbrev S4096x1024 : Shape := ⟨2, ![4096, 1024]⟩
abbrev S256x1024 : Shape := ⟨2, ![256, 1024]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S256x1024, .f32⟩
  | .hbm, ⟨3, _⟩ => ⟨S4x256x256, .bf16⟩
  | .local _ .vmem, ⟨0, _⟩ => ⟨S4096x256, .f32⟩
  | .local _ .vmem, ⟨1, _⟩ => ⟨S4096x256, .bf16⟩
  | .local _ .vmem, ⟨2, _⟩ => ⟨S4096x256, .bf16⟩
  | .local _ .vmem, ⟨3, _⟩ => ⟨S1x256x256, .bf16⟩
  | .local _ .vmem, ⟨4, _⟩ => ⟨S1x256x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg0.toNat, v28.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S256x256 : Shape := ⟨2, ![256, 256]⟩
abbrev S1x256x256 : Shape := ⟨3, ![1, 256, 256]⟩
abbrev S4x256x256 : Shape := ⟨3, ![4, 256, 256]⟩

abbrev nBuf : Space → Nat
  | .hbm => 17
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S256x1024, .f32⟩
  | .hbm, ⟨3, _⟩ => ⟨S4096x1024, .f32⟩
  | .hbm, ⟨4, _⟩ => ⟨S4096x1024, .f32⟩
  | .hbm, ⟨5, _⟩ => ⟨S1024x256, .f32⟩
  | .hbm, ⟨6, _⟩ => ⟨S256x1024, .f32⟩
  | .hbm, ⟨7, _⟩ => ⟨S256x1024, .bf16⟩
  | .hbm, ⟨8, _⟩ => ⟨S256x256, .bf16⟩
  | .hbm, ⟨9, _⟩ => ⟨S256x256, .bf16⟩
  | .hbm, ⟨10, _⟩ => ⟨S256x256, .bf16⟩
  | .hbm, ⟨11, _⟩ => ⟨S256x256, .bf16⟩
  | .hbm, ⟨12, _⟩ => ⟨S1x256x256, .bf16⟩
  | .hbm, ⟨13, _⟩ => ⟨S1x256x256, .bf16⟩
  | .hbm, ⟨14, _⟩ => ⟨S1x256x256, .bf16⟩
  | .hbm, ⟨15, _⟩ => ⟨S1x256x256, .bf16⟩
  | .hbm, ⟨16, _⟩ => ⟨S4x256x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel21.lean ====
abbrev S4096x256 : Shape := ⟨2, ![4096, 256]⟩
abbrev S256x1024 : Shape := ⟨2, ![256, 1024]⟩
abbrev S256x256 : Shape := ⟨2, ![256, 256]⟩
abbrev S1x256x256 : Shape := ⟨3, ![1, 256, 256]⟩
abbrev S4x256x256 : Shape := ⟨3, ![4, 256, 256]⟩
abbrev S4096x1024 : Shape := ⟨2, ![4096, 1024]⟩
abbrev S2048x256 : Shape := ⟨2, ![2048, 256]⟩

abbrev nBuf : Space → Nat
  | .hbm => 13
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S256x1024, .bf16⟩
  | .hbm, ⟨3, _⟩ => ⟨S256x256, .bf16⟩
  | .hbm, ⟨4, _⟩ => ⟨S256x256, .bf16⟩
  | .hbm, ⟨5, _⟩ => ⟨S256x256, .bf16⟩
  | .hbm, ⟨6, _⟩ => ⟨S256x256, .bf16⟩
  | .hbm, ⟨7, _⟩ => ⟨S1x256x256, .bf16⟩
  | .hbm, ⟨8, _⟩ => ⟨S1x256x256, .bf16⟩
  | .hbm, ⟨9, _⟩ => ⟨S1x256x256, .bf16⟩
  | .hbm, ⟨10, _⟩ => ⟨S1x256x256, .bf16⟩
  | .hbm, ⟨11, _⟩ => ⟨S4x256x256, .bf16⟩
  | .hbm, ⟨12, _⟩ => ⟨S4096x1024, .f32⟩
  | .local _ .vmem, ⟨0, _⟩ => ⟨S2048x256, .f32⟩
  | .local _ .vmem, ⟨1, _⟩ => ⟨S2048x256, .f32⟩
  | .local _ .vmem, ⟨2, _⟩ => ⟨S1x256x256, .bf16⟩
  | .local _ .vmem, ⟨3, _⟩ => ⟨S1x256x256, .bf16⟩
  | .local _ .vmem, ⟨4, _⟩ => ⟨S2048x256, .f32⟩
  | .local _ .vmem, ⟨5, _⟩ => ⟨S2048x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi arg1 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi v18 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  ![v17.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S4096x1024 : Shape := ⟨2, ![4096, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference22Ideal.lean ====
abbrev S4096x1024 : Shape := ⟨2, ![4096, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel23.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_16 : BitVec 32 := 0#32
  let v50 : BitVec 1 := Scalar.cmpi .ne v49 c0_i32_16
  v50

def k0_cond2 (i : grid0.Coords) : BitVec 1 :=
  let arg0 : BitVec 32 := BitVec.ofNat 32 (i 0).val
  let c0_i32_17 : BitVec 32 := 0#32
  let v51 : BitVec 1 := Scalar.cmpi .sgt arg0 c0_i32_17
  let v52 : BitVec 32 := Scalar.extui v51
  let c0_i32_18 : BitVec 32 := 0#32
  let v53 : BitVec 1 := Scalar.cmpi .ne v52 c0_i32_18
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference23Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel24.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference24Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel25.lean ====
abbrev S4096x1024 : Shape := ⟨2, ![4096, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference25Ideal.lean ====
abbrev S4096x1024 : Shape := ⟨2, ![4096, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel26.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel27.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference29Ideal.lean ====
abbrev S4x5632 : Shape := ⟨2, ![4, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S_, .f32⟩
  | .hbm, ⟨5, _⟩ => ⟨S4x5632, .f32⟩
  | .hbm, ⟨6, _⟩ => ⟨S4x5632, .f32⟩
  | .hbm, ⟨7, _⟩ => ⟨S_, .f32⟩
  | .hbm, ⟨8, _⟩ => ⟨S4x5632, .f32⟩
  | .hbm, ⟨9, _⟩ => ⟨S4x5632, .f32⟩
  | .hbm, ⟨10, _⟩ => ⟨S4x5632, .f32⟩
  | .hbm, ⟨11, _⟩ => ⟨S_, .f32⟩
  | .hbm, ⟨12, _⟩ => ⟨S4x5632, .f32⟩
  | .hbm, ⟨13, _⟩ => ⟨S4x5632, .f32⟩
  | .hbm, ⟨14, _⟩ => ⟨S4x5632, .f32⟩
  | .hbm, ⟨15, _⟩ => ⟨S_, .f32⟩
  | .hbm, ⟨16, _⟩ => ⟨S4x5632, .f32⟩
  | .hbm, ⟨17, _⟩ => ⟨S4x5632, .f32⟩
  | .hbm, ⟨18, _⟩ => ⟨S4x5632, .f32⟩
  | .hbm, ⟨19, _⟩ => ⟨S_, .f32⟩
  | .hbm, ⟨20, _⟩ => ⟨S4x5632, .f32⟩
  | .hbm, ⟨21, _⟩ => ⟨S4x5632, .f32⟩
  | .hbm, ⟨22, _⟩ => ⟨S_, .f32⟩
  | .hbm, ⟨23, _⟩ => ⟨S4x5632, .f32⟩
  | .hbm, ⟨24, _⟩ => ⟨S4x5632, .f32⟩
  | .hbm, ⟨25, _⟩ => ⟨S4x5632, .f32⟩
  | .hbm, ⟨26, _⟩ => ⟨S_, .f32⟩
  | .hbm, ⟨27, _⟩ => ⟨S4x5632, .f32⟩
  | .hbm, ⟨28, _⟩ => ⟨S4x5632, .f32⟩
  | .hbm, ⟨29, _⟩ => ⟨S4x5632, .f32⟩
  | .hbm, ⟨30, _⟩ => ⟨S_, .f32⟩
  | .hbm, ⟨31, _⟩ => ⟨S4x5632, .f32⟩
  | .hbm, ⟨32, _⟩ => ⟨S4x5632, .f32⟩
  | .hbm, ⟨33, _⟩ => ⟨S4x5632, .f32⟩
  | .hbm, ⟨34, _⟩ => ⟨S_, .f32⟩
  | .hbm, ⟨35, _⟩ => ⟨S4x5632, .f32⟩
  | .hbm, ⟨36, _⟩ => ⟨S4x5632, .f32⟩
  | _, _ => ⟨S4x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S4x64 : Shape := ⟨2, ![4, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference30Ideal.lean ====
abbrev S4x64 : Shape := ⟨2, ![4, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S_, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S4x64, .f32⟩
  | .hbm, ⟨9, _⟩ => ⟨S4x64, .f32⟩
  | .hbm, ⟨10, _⟩ => ⟨S4x64, .f32⟩
  | .hbm, ⟨11, _⟩ => ⟨S_, .f32⟩
  | .hbm, ⟨12, _⟩ => ⟨S4x64, .f32⟩
  | .hbm, ⟨13, _⟩ => ⟨S4x64, .f32⟩
  | .hbm, ⟨14, _⟩ => ⟨S4x64, .f32⟩
  | .hbm, ⟨15, _⟩ => ⟨S_, .f32⟩
  | .hbm, ⟨16, _⟩ => ⟨S4x64, .f32⟩
  | .hbm, ⟨17, _⟩ => ⟨S4x64, .f32⟩
  | .hbm, ⟨18, _⟩ => ⟨S4x64, .f32⟩
  | .hbm, ⟨19, _⟩ => ⟨S_, .f32⟩
  | .hbm, ⟨20, _⟩ => ⟨S4x64, .f32⟩
  | .hbm, ⟨21, _⟩ => ⟨S4x64, .f32⟩
  | .hbm, ⟨22, _⟩ => ⟨S_, .f32⟩
  | .hbm, ⟨23, _⟩ => ⟨S4x64, .f32⟩
  | .hbm, ⟨24, _⟩ => ⟨S4x64, .f32⟩
  | .hbm, ⟨25, _⟩ => ⟨S4x64, .f32⟩
  | .hbm, ⟨26, _⟩ => ⟨S_, .f32⟩
  | .hbm, ⟨27, _⟩ => ⟨S4x64, .f32⟩
  | .hbm, ⟨28, _⟩ => ⟨S4x64, .f32⟩
  | .hbm, ⟨29, _⟩ => ⟨S4x64, .f32⟩
  | .hbm, ⟨30, _⟩ => ⟨S_, .f32⟩
  | .hbm, ⟨31, _⟩ => ⟨S4x64, .f32⟩
  | .hbm, ⟨32, _⟩ => ⟨S4x64, .f32⟩
  | .hbm, ⟨33, _⟩ => ⟨S4x64, .f32⟩
  | .hbm, ⟨34, _⟩ => ⟨S_, .f32⟩
  | .hbm, ⟨35, _⟩ => ⟨S4x64, .f32⟩
  | .hbm, ⟨36, _⟩ => ⟨S4x64, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S4x4x64x64 : Shape := ⟨4, ![4, 4, 64, 64]⟩
abbrev S1024x64 : Shape := ⟨2, ![1024, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x4x64x64, .f32⟩
  | .hbm, ⟨1, _⟩ => ⟨S4x4x64x64, .f32⟩
  | .hbm, ⟨2, _⟩ => ⟨S4x4x64x64, .f32⟩
  | .hbm, ⟨3, _⟩ => ⟨S4x4x64x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | _, _ => ⟨S4x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference31Ideal.lean ====
abbrev S4x4x64x64 : Shape := ⟨4, ![4, 4, 64, 64]⟩
abbrev S_ : Shape := ⟨0, ![]⟩
abbrev S1024x64 : Shape := ⟨2, ![1024, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x4x64x64, .f32⟩
  | .hbm, ⟨1, _⟩ => ⟨S4x4x64x64, .f32⟩
  | .hbm, ⟨2, _⟩ => ⟨S4x4x64x64, .f32⟩
  | .hbm, ⟨3, _⟩ => ⟨S4x4x64x64, .f32⟩
  | .hbm, ⟨4, _⟩ => ⟨S_, .f32⟩
  | .hbm, ⟨5, _⟩ => ⟨S4x4x64x64, .f32⟩
  | .hbm, ⟨6, _⟩ => ⟨S4x4x64x64, .f32⟩
  | .hbm, ⟨7, _⟩ => ⟨S_, .f32⟩
  | .hbm, ⟨8, _⟩ => ⟨S4x4x64x64, .f32⟩
  | .hbm, ⟨9, _⟩ => ⟨S4x4x64x64, .f32⟩
  | .hbm, ⟨10, _⟩ => ⟨S4x4x64x64, .f32⟩
  | .hbm, ⟨11, _⟩ => ⟨S_, .f32⟩
  | .hbm, ⟨12, _⟩ => ⟨S4x4x64x64, .f32⟩
  | .hbm, ⟨13, _⟩ => ⟨S4x4x64x64, .f32⟩
  | .hbm, ⟨14, _⟩ => ⟨S4x4x64x64, .f32⟩
  | .hbm, ⟨15, _⟩ => ⟨S_, .f32⟩
  | .hbm, ⟨16, _⟩ => ⟨S4x4x64x64, .f32⟩
  | .hbm, ⟨17, _⟩ => ⟨S4x4x64x64, .f32⟩
  | .hbm, ⟨18, _⟩ => ⟨S4x4x64x64, .f32⟩
  | .hbm, ⟨19, _⟩ => ⟨S_, .f32⟩
  | .hbm, ⟨20, _⟩ => ⟨S4x4x64x64, .f32⟩
  | .hbm, ⟨21, _⟩ => ⟨S4x4x64x64, .f32⟩
  | .hbm, ⟨22, _⟩ => ⟨S_, .f32⟩
  | .hbm, ⟨23, _⟩ => ⟨S4x4x64x64, .f32⟩
  | .hbm, ⟨24, _⟩ => ⟨S4x4x64x64, .f32⟩
  | .hbm, ⟨25, _⟩ => ⟨S4x4x64x64, .f32⟩
  | .hbm, ⟨26, _⟩ => ⟨S_, .f32⟩
  | .hbm, ⟨27, _⟩ => ⟨S4x4x64x64, .f32⟩
  | .hbm, ⟨28, _⟩ => ⟨S4x4x64x64, .f32⟩
  | .hbm, ⟨29, _⟩ => ⟨S4x4x64x64, .f32⟩
  | .hbm, ⟨30, _⟩ => ⟨S_, .f32⟩
  | .hbm, ⟨31, _⟩ => ⟨S4x4x64x64, .f32⟩
  | .hbm, ⟨32, _⟩ => ⟨S4x4x64x64, .f32⟩
  | .hbm, ⟨33, _⟩ => ⟨S4x4x64x64, .f32⟩
  | .hbm, ⟨34, _⟩ => ⟨S_, .f32⟩
  | .hbm, ⟨35, _⟩ => ⟨S4x4x64x64, .f32⟩
  | .hbm, ⟨36, _⟩ => ⟨S4x4x64x64, .f32⟩
  | .hbm, ⟨37, _⟩ => ⟨S1024x64, .f32⟩
  | .hbm, ⟨38, _⟩ => ⟨S1024x64, .f32⟩
  | .hbm, ⟨39, _⟩ => ⟨S1024x64, .f32⟩
  | _, _ => ⟨S4x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel32.lean ====
abbrev S4x4x128x128 : Shape := ⟨4, ![4, 4, 128, 128]⟩
abbrev S2048x128 : Shape := ⟨2, ![2048, 128]⟩
abbrev S1024x128 : Shape := ⟨2, ![1024, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S4x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference32Ideal.lean ====
abbrev S4x4x128x128 : Shape := ⟨4, ![4, 4, 128, 128]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S_, .f32⟩
  | .hbm, ⟨5, _⟩ => ⟨S4x4x128x128, .f32⟩
  | .hbm, ⟨6, _⟩ => ⟨S4x4x128x128, .f32⟩
  | .hbm, ⟨7, _⟩ => ⟨S_, .f32⟩
  | .hbm, ⟨8, _⟩ => ⟨S4x4x128x128, .f32⟩
  | .hbm, ⟨9, _⟩ => ⟨S4x4x128x128, .f32⟩
  | .hbm, ⟨10, _⟩ => ⟨S4x4x128x128, .f32⟩
  | .hbm, ⟨11, _⟩ => ⟨S_, .f32⟩
  | .hbm, ⟨12, _⟩ => ⟨S4x4x128x128, .f32⟩
  | .hbm, ⟨13, _⟩ => ⟨S4x4x128x128, .f32⟩
  | .hbm, ⟨14, _⟩ => ⟨S4x4x128x128, .f32⟩
  | .hbm, ⟨15, _⟩ => ⟨S_, .f32⟩
  | .hbm, ⟨16, _⟩ => ⟨S4x4x128x128, .f32⟩
  | .hbm, ⟨17, _⟩ => ⟨S4x4x128x128, .f32⟩
  | .hbm, ⟨18, _⟩ => ⟨S4x4x128x128, .f32⟩
  | .hbm, ⟨19, _⟩ => ⟨S_, .f32⟩
  | .hbm, ⟨20, _⟩ => ⟨S4x4x128x128, .f32⟩
  | .hbm, ⟨21, _⟩ => ⟨S4x4x128x128, .f32⟩
  | .hbm, ⟨22, _⟩ => ⟨S_, .f32⟩
  | .hbm, ⟨23, _⟩ => ⟨S4x4x128x128, .f32⟩
  | .hbm, ⟨24, _⟩ => ⟨S4x4x128x128, .f32⟩
  | .hbm, ⟨25, _⟩ => ⟨S4x4x128x128, .f32⟩
  | .hbm, ⟨26, _⟩ => ⟨S_, .f32⟩
  | .hbm, ⟨27, _⟩ => ⟨S4x4x128x128, .f32⟩
  | .hbm, ⟨28, _⟩ => ⟨S4x4x128x128, .f32⟩
  | .hbm, ⟨29, _⟩ => ⟨S4x4x128x128, .f32⟩
  | .hbm, ⟨30, _⟩ => ⟨S_, .f32⟩
  | .hbm, ⟨31, _⟩ => ⟨S4x4x128x128, .f32⟩
  | .hbm, ⟨32, _⟩ => ⟨S4x4x128x128, .f32⟩
  | .hbm, ⟨33, _⟩ => ⟨S4x4x128x128, .f32⟩
  | .hbm, ⟨34, _⟩ => ⟨S_, .f32⟩
  | .hbm, ⟨35, _⟩ => ⟨S4x4x128x128, .f32⟩
  | .hbm, ⟨36, _⟩ => ⟨S4x4x128x128, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S4x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel33.lean ====
abbrev S4x4x128 : Shape := ⟨3, ![4, 4, 128]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference33Ideal.lean ====
abbrev S4x4x128 : Shape := ⟨3, ![4, 4, 128]⟩
abbrev S_ : Shape := ⟨0, ![]⟩
abbrev S16x128 : Shape := ⟨2, ![16, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S_, .f32⟩
  | .hbm, ⟨5, _⟩ => ⟨S4x4x128, .f32⟩
  | .hbm, ⟨6, _⟩ => ⟨S4x4x128, .f32⟩
  | .hbm, ⟨7, _⟩ => ⟨S_, .f32⟩
  | .hbm, ⟨8, _⟩ => ⟨S4x4x128, .f32⟩
  | .hbm, ⟨9, _⟩ => ⟨S4x4x128, .f32⟩
  | .hbm, ⟨10, _⟩ => ⟨S4x4x128, .f32⟩
  | .hbm, ⟨11, _⟩ => ⟨S_, .f32⟩
  | .hbm, ⟨12, _⟩ => ⟨S4x4x128, .f32⟩
  | .hbm, ⟨13, _⟩ => ⟨S4x4x128, .f32⟩
  | .hbm, ⟨14, _⟩ => ⟨S4x4x128, .f32⟩
  | .hbm, ⟨15, _⟩ => ⟨S_, .f32⟩
  | .hbm, ⟨16, _⟩ => ⟨S4x4x128, .f32⟩
  | .hbm, ⟨17, _⟩ => ⟨S4x4x128, .f32⟩
  | .hbm, ⟨18, _⟩ => ⟨S4x4x128, .f32⟩
  | .hbm, ⟨19, _⟩ => ⟨S_, .f32⟩
  | .hbm, ⟨20, _⟩ => ⟨S4x4x128, .f32⟩
  | .hbm, ⟨21, _⟩ => ⟨S4x4x128, .f32⟩
  | .hbm, ⟨22, _⟩ => ⟨S_, .f32⟩
  | .hbm, ⟨23, _⟩ => ⟨S4x4x128, .f32⟩
  | .hbm, ⟨24, _⟩ => ⟨S4x4x128, .f32⟩
  | .hbm, ⟨25, _⟩ => ⟨S4x4x128, .f32⟩
  | .hbm, ⟨26, _⟩ => ⟨S_, .f32⟩
  | .hbm, ⟨27, _⟩ => ⟨S4x4x128, .f32⟩
  | .hbm, ⟨28, _⟩ => ⟨S4x4x128, .f32⟩
  | .hbm, ⟨29, _⟩ => ⟨S4x4x128, .f32⟩
  | .hbm, ⟨30, _⟩ => ⟨S_, .f32⟩
  | .hbm, ⟨31, _⟩ => ⟨S4x4x128, .f32⟩
  | .hbm, ⟨32, _⟩ => ⟨S4x4x128, .f32⟩
  | .hbm, ⟨33, _⟩ => ⟨S4x4x128, .f32⟩
  | .hbm, ⟨34, _⟩ => ⟨S_, .f32⟩
  | .hbm, ⟨35, _⟩ => ⟨S4x4x128, .f32⟩
  | .hbm, ⟨36, _⟩ => ⟨S4x4x128, .f32⟩
  | .hbm, ⟨37, _⟩ => ⟨S16x128, .f32⟩
  | .hbm, ⟨38, _⟩ => ⟨S16x128, .f32⟩
  | .hbm, ⟨39, _⟩ => ⟨S16x128, .f32⟩
  | _, _ => ⟨S4x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel34.lean ====
abbrev S4x4x64 : Shape := ⟨3, ![4, 4, 64]⟩
abbrev S16x64 : Shape := ⟨2, ![16, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x4x64, .f32⟩
  | .hbm, ⟨1, _⟩ => ⟨S4x4x64, .f32⟩
  | .hbm, ⟨2, _⟩ => ⟨S4x4x64, .f32⟩
  | .hbm, ⟨3, _⟩ => ⟨S4x4x64, .f32⟩
  | .hbm, ⟨4, _⟩ => ⟨S16x64, .f32⟩
  | .hbm, ⟨5, _⟩ => ⟨S16x64, .f32⟩
  | .hbm, ⟨6, _⟩ => ⟨S16x64, .f32⟩
  | .hbm, ⟨7, _⟩ => ⟨S16x64, .f32⟩
  | .hbm, ⟨8, _⟩ => ⟨S16x64, .f32⟩
  | .hbm, ⟨9, _⟩ => ⟨S16x64, .f32⟩
  | .hbm, ⟨10, _⟩ => ⟨S16x64, .f32⟩
  | .local _ .vmem, ⟨0, _⟩ => ⟨S16x64, .f32⟩
  | .local _ .vmem, ⟨1, _⟩ => ⟨S16x64, .f32⟩
  | .local _ .vmem, ⟨2, _⟩ => ⟨S16x64, .f32⟩
  | .local _ .vmem, ⟨3, _⟩ => ⟨S16x64, .f32⟩
  | .local _ .vmem, ⟨4, _⟩ => ⟨S16x64, .f32⟩
  | .local _ .vmem, ⟨5, _⟩ => ⟨S16x64, .f32⟩
  | .local _ .vmem, ⟨6, _⟩ => ⟨S16x64, .f32⟩
  | _, _ => ⟨S4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference34Ideal.lean ====
abbrev S4x4x64 : Shape := ⟨3, ![4, 4, 64]⟩
abbrev S_ : Shape := ⟨0, ![]⟩
abbrev S16x64 : Shape := ⟨2, ![16, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x4x64, .f32⟩
  | .hbm, ⟨1, _⟩ => ⟨S4x4x64, .f32⟩
  | .hbm, ⟨2, _⟩ => ⟨S4x4x64, .f32⟩
  | .hbm, ⟨3, _⟩ => ⟨S4x4x64, .f32⟩
  | .hbm, ⟨4, _⟩ => ⟨S_, .f32⟩
  | .hbm, ⟨5, _⟩ => ⟨S4x4x64, .f32⟩
  | .hbm, ⟨6, _⟩ => ⟨S4x4x64, .f32⟩
  | .hbm, ⟨7, _⟩ => ⟨S_, .f32⟩
  | .hbm, ⟨8, _⟩ => ⟨S4x4x64, .f32⟩
  | .hbm, ⟨9, _⟩ => ⟨S4x4x64, .f32⟩
  | .hbm, ⟨10, _⟩ => ⟨S4x4x64, .f32⟩
  | .hbm, ⟨11, _⟩ => ⟨S_, .f32⟩
  | .hbm, ⟨12, _⟩ => ⟨S4x4x64, .f32⟩
  | .hbm, ⟨13, _⟩ => ⟨S4x4x64, .f32⟩
  | .hbm, ⟨14, _⟩ => ⟨S4x4x64, .f32⟩
  | .hbm, ⟨15, _⟩ => ⟨S_, .f32⟩
  | .hbm, ⟨16, _⟩ => ⟨S4x4x64, .f32⟩
  | .hbm, ⟨17, _⟩ => ⟨S4x4x64, .f32⟩
  | .hbm, ⟨18, _⟩ => ⟨S4x4x64, .f32⟩
  | .hbm, ⟨19, _⟩ => ⟨S_, .f32⟩
  | .hbm, ⟨20, _⟩ => ⟨S4x4x64, .f32⟩
  | .hbm, ⟨21, _⟩ => ⟨S4x4x64, .f32⟩
  | .hbm, ⟨22, _⟩ => ⟨S_, .f32⟩
  | .hbm, ⟨23, _⟩ => ⟨S4x4x64, .f32⟩
  | .hbm, ⟨24, _⟩ => ⟨S4x4x64, .f32⟩
  | .hbm, ⟨25, _⟩ => ⟨S4x4x64, .f32⟩
  | .hbm, ⟨26, _⟩ => ⟨S_, .f32⟩
  | .hbm, ⟨27, _⟩ => ⟨S4x4x64, .f32⟩
  | .hbm, ⟨28, _⟩ => ⟨S4x4x64, .f32⟩
  | .hbm, ⟨29, _⟩ => ⟨S4x4x64, .f32⟩
  | .hbm, ⟨30, _⟩ => ⟨S_, .f32⟩
  | .hbm, ⟨31, _⟩ => ⟨S4x4x64, .f32⟩
  | .hbm, ⟨32, _⟩ => ⟨S4x4x64, .f32⟩
  | .hbm, ⟨33, _⟩ => ⟨S4x4x64, .f32⟩
  | .hbm, ⟨34, _⟩ => ⟨S_, .f32⟩
  | .hbm, ⟨35, _⟩ => ⟨S4x4x64, .f32⟩
  | .hbm, ⟨36, _⟩ => ⟨S4x4x64, .f32⟩
  | .hbm, ⟨37, _⟩ => ⟨S16x64, .f32⟩
  | .hbm, ⟨38, _⟩ => ⟨S16x64, .f32⟩
  | .hbm, ⟨39, _⟩ => ⟨S16x64, .f32⟩
  | _, _ => ⟨S4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel35.lean ====
abbrev S4x3x1408 : Shape := ⟨3, ![4, 3, 1408]⟩
abbrev S12x1408 : Shape := ⟨2, ![12, 1408]⟩

abbrev nBuf : Space → Nat
  | .hbm => 11
  | .vmem => 7
  | .smem => 0
  | _ => 0

abbrev bufTy : (tb : Table) → Fin (tcTables nBuf tb) → BufTy
  | .hbm, ⟨0, _⟩ => ⟨S4x3x1408, .f32⟩
  | .hbm, ⟨1, _⟩ => ⟨S4x3x1408, .f32⟩
  | .hbm, ⟨2, _⟩ => ⟨S4x3x1408, .f32⟩
  | .hbm, ⟨3, _⟩ => ⟨S4x3x1408, .f32⟩
  | .hbm, ⟨4, _⟩ => ⟨S12x1408, .f32⟩
  | .hbm, ⟨5, _⟩ => ⟨S12x1408, .f32⟩
  | .hbm, ⟨6, _⟩ => ⟨S12x1408, .f32⟩
  | .hbm, ⟨7, _⟩ => ⟨S12x1408, .f32⟩
  | .hbm, ⟨8, _⟩ => ⟨S12x1408, .f32⟩
  | .hbm, ⟨9, _⟩ => ⟨S12x1408, .f32⟩
  | .hbm, ⟨10, _⟩ => ⟨S12x1408, .f32⟩
  | .local _ .vmem, ⟨0, _⟩ => ⟨S12x1408, .f32⟩
  | .local _ .vmem, ⟨1, _⟩ => ⟨S12x1408, .f32⟩
  | .local _ .vmem, ⟨2, _⟩ => ⟨S12x1408, .f32⟩
  | .local _ .vmem, ⟨3, _⟩ => ⟨S12x1408, .f32⟩
  | .local _ .vmem, ⟨4, _⟩ => ⟨S12x1408, .f32⟩
  | .local _ .vmem, ⟨5, _⟩ => ⟨S12x1408, .f32⟩
  | .local _ .vmem, ⟨6, _⟩ => ⟨S12x1408, .f32⟩
  | _, _ => ⟨S4x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference35Ideal.lean ====
abbrev S4x3x1408 : Shape := ⟨3, ![4, 3, 1408]⟩
abbrev S_ : Shape := ⟨0, ![]⟩
abbrev S12x1408 : Shape := ⟨2, ![12, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x3x1408, .f32⟩
  | .hbm, ⟨1, _⟩ => ⟨S4x3x1408, .f32⟩
  | .hbm, ⟨2, _⟩ => ⟨S4x3x1408, .f32⟩
  | .hbm, ⟨3, _⟩ => ⟨S4x3x1408, .f32⟩
  | .hbm, ⟨4, _⟩ => ⟨S_, .f32⟩
  | .hbm, ⟨5, _⟩ => ⟨S4x3x1408, .f32⟩
  | .hbm, ⟨6, _⟩ => ⟨S4x3x1408, .f32⟩
  | .hbm, ⟨7, _⟩ => ⟨S_, .f32⟩
  | .hbm, ⟨8, _⟩ => ⟨S4x3x1408, .f32⟩
  | .hbm, ⟨9, _⟩ => ⟨S4x3x1408, .f32⟩
  | .hbm, ⟨10, _⟩ => ⟨S4x3x1408, .f32⟩
  | .hbm, ⟨11, _⟩ => ⟨S_, .f32⟩
  | .hbm, ⟨12, _⟩ => ⟨S4x3x1408, .f32⟩
  | .hbm, ⟨13, _⟩ => ⟨S4x3x1408, .f32⟩
  | .hbm, ⟨14, _⟩ => ⟨S4x3x1408, .f32⟩
  | .hbm, ⟨15, _⟩ => ⟨S_, .f32⟩
  | .hbm, ⟨16, _⟩ => ⟨S4x3x1408, .f32⟩
  | .hbm, ⟨17, _⟩ => ⟨S4x3x1408, .f32⟩
  | .hbm, ⟨18, _⟩ => ⟨S4x3x1408, .f32⟩
  | .hbm, ⟨19, _⟩ => ⟨S_, .f32⟩
  | .hbm, ⟨20, _⟩ => ⟨S4x3x1408, .f32⟩
  | .hbm, ⟨21, _⟩ => ⟨S4x3x1408, .f32⟩
  | .hbm, ⟨22, _⟩ => ⟨S_, .f32⟩
  | .hbm, ⟨23, _⟩ => ⟨S4x3x1408, .f32⟩
  | .hbm, ⟨24, _⟩ => ⟨S4x3x1408, .f32⟩
  | .hbm, ⟨25, _⟩ => ⟨S4x3x1408, .f32⟩
  | .hbm, ⟨26, _⟩ => ⟨S_, .f32⟩
  | .hbm, ⟨27, _⟩ => ⟨S4x3x1408, .f32⟩
  | .hbm, ⟨28, _⟩ => ⟨S4x3x1408, .f32⟩
  | .hbm, ⟨29, _⟩ => ⟨S4x3x1408, .f32⟩
  | .hbm, ⟨30, _⟩ => ⟨S_, .f32⟩
  | .hbm, ⟨31, _⟩ => ⟨S4x3x1408, .f32⟩
  | .hbm, ⟨32, _⟩ => ⟨S4x3x1408, .f32⟩
  | .hbm, ⟨33, _⟩ => ⟨S4x3x1408, .f32⟩
  | .hbm, ⟨34, _⟩ => ⟨S_, .f32⟩
  | .hbm, ⟨35, _⟩ => ⟨S4x3x1408, .f32⟩
  | .hbm, ⟨36, _⟩ => ⟨S4x3x1408, .f32⟩
  | .hbm, ⟨37, _⟩ => ⟨S12x1408, .f32⟩
  | .hbm, ⟨38, _⟩ => ⟨S12x1408, .f32⟩
  | .hbm, ⟨39, _⟩ => ⟨S12x1408, .f32⟩
  | _, _ => ⟨S4x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel36.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference36Ideal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel37.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 23
  | .vmem => 32
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S4x256x1024, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 1 → Memref sig .tc .vmem S1x256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 1 → Memref sig .tc .vmem S1x256x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S256x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x256x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1x256x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S1x256x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S1x256x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S1x256x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S1x256x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 1 → Memref sig .tc .vmem S1x256x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S256x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1x256x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S1x256x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S1x256x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S1x256x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S1x256x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S1x256x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]
-- ==== Reference37Ideal.lean ====
abbrev S4x256x1024 : Shape := ⟨3, ![4, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S4x256x1024, .f32⟩
  | .hbm, ⟨6, _⟩ => ⟨S4x256x1024, .f32⟩
  | .hbm, ⟨7, _⟩ => ⟨S1x256x1024, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S4x256x1024, .f32⟩
  | .hbm, ⟨12, _⟩ => ⟨S_, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .hbm, ⟨23, _⟩ => ⟨S_, .f32⟩
  | .hbm, ⟨24, _⟩ => ⟨S4x256x1024, .f32⟩
  | .hbm, ⟨25, _⟩ => ⟨S4x256x1024, .f32⟩
  | .hbm, ⟨26, _⟩ => ⟨S4x256x1024, .f32⟩
  | .hbm, ⟨27, _⟩ => ⟨S_, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S4x256x1024, .f32⟩
  | .hbm, ⟨38, _⟩ => ⟨S_, .f32⟩
  | .hbm, ⟨39, _⟩ => ⟨S4x256x1024, .f32⟩
  | .hbm, ⟨40, _⟩ => ⟨S4x256x1024, .f32⟩
  | .hbm, ⟨41, _⟩ => ⟨S4x256x1024, .f32⟩
  | .hbm, ⟨42, _⟩ => ⟨S_, .f32⟩
  | .hbm, ⟨43, _⟩ => ⟨S4x256x1024, .f32⟩
  | .hbm, ⟨44, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel38.lean ====
abbrev S4x1024x576 : Shape := ⟨3, ![4, 1024, 576]⟩
abbrev S1024x576 : Shape := ⟨2, ![1024, 576]⟩
abbrev S1x256x576 : Shape := ⟨3, ![1, 256, 576]⟩
abbrev S256x576 : Shape := ⟨2, ![256, 576]⟩

abbrev nBuf : Space → Nat
  | .hbm => 23
  | .vmem => 64
  | .smem => 0
  | _ => 0

abbrev bufTy : (tb : Table) → Fin (tcTables nBuf tb) → BufTy
  | .hbm, ⟨0, _⟩ => ⟨S4x1024x576, .f32⟩
  | .hbm, ⟨1, _⟩ => ⟨S1024x576, .f32⟩
  | .hbm, ⟨2, _⟩ => ⟨S1024x576, .f32⟩
  | .hbm, ⟨3, _⟩ => ⟨S1024x576, .f32⟩
  | .hbm, ⟨4, _⟩ => ⟨S1024x576, .f32⟩
  | .hbm, ⟨5, _⟩ => ⟨S4x1024x576, .f32⟩
  | .hbm, ⟨6, _⟩ => ⟨S4x1024x576, .f32⟩
  | .hbm, ⟨7, _⟩ => ⟨S4x1024x576, .f32⟩
  | .hbm, ⟨8, _⟩ => ⟨S4x1024x576, .f32⟩
  | .hbm, ⟨9, _⟩ => ⟨S4x1024x576, .f32⟩
  | .hbm, ⟨10, _⟩ => ⟨S4x1024x576, .f32⟩
  | .hbm, ⟨11, _⟩ => ⟨S4x1024x576, .f32⟩
  | .hbm, ⟨12, _⟩ => ⟨S4x1024x576, .f32⟩
  | .hbm, ⟨13, _⟩ => ⟨S4x1024x576, .f32⟩
  | .hbm, ⟨14, _⟩ => ⟨S4x1024x576, .f32⟩
  | .hbm, ⟨15, _⟩ => ⟨S4x1024x576, .f32⟩
  | .hbm, ⟨16, _⟩ => ⟨S4x1024x576, .f32⟩
  | .hbm, ⟨17, _⟩ => ⟨S4x1024x576, .f32⟩
  | .hbm, ⟨18, _⟩ => ⟨S4x1024x576, .f32⟩
  | .hbm, ⟨19, _⟩ => ⟨S4x1024x576, .f32⟩
  | .hbm, ⟨20, _⟩ => ⟨S4x1024x576, .f32⟩
  | .hbm, ⟨21, _⟩ => ⟨S4x1024x576, .f32⟩
  | .hbm, ⟨22, _⟩ => ⟨S4x1024x576, .f32⟩
  | .local _ .vmem, ⟨0, _⟩ => ⟨S1x256x576, .f32⟩
  | .local _ .vmem, ⟨1, _⟩ => ⟨S1x256x576, .f32⟩
  | .local _ .vmem, ⟨2, _⟩ => ⟨S256x576, .f32⟩
  | .local _ .vmem, ⟨3, _⟩ => ⟨S256x576, .f32⟩
  | .local _ .vmem, ⟨4, _⟩ => ⟨S1x256x576, .f32⟩
  | .local _ .vmem, ⟨5, _⟩ => ⟨S1x256x576, .f32⟩
  | .local _ .vmem, ⟨6, _⟩ => ⟨S1x256x576, .f32⟩
  | .local _ .vmem, ⟨7, _⟩ => ⟨S1x256x576, .f32⟩
  | .local _ .vmem, ⟨8, _⟩ => ⟨S1x256x576, .f32⟩
  | .local _ .vmem, ⟨9, _⟩ => ⟨S1x256x576, .f32⟩
  | .local _ .vmem, ⟨10, _⟩ => ⟨S1x256x576, .f32⟩
  | .local _ .vmem, ⟨11, _⟩ => ⟨S1x256x576, .f32⟩
  | .local _ .vmem, ⟨12, _⟩ => ⟨S1x256x576, .f32⟩
  | .local _ .vmem, ⟨13, _⟩ => ⟨S1x256x576, .f32⟩
  | .local _ .vmem, ⟨14, _⟩ => ⟨S1x256x576, .f32⟩
  | .local _ .vmem, ⟨15, _⟩ => ⟨S1x256x576, .f32⟩
  | .local _ .vmem, ⟨16, _⟩ => ⟨S1x256x576, .f32⟩
  | .local _ .vmem, ⟨17, _⟩ => ⟨S1x256x576, .f32⟩
  | .local _ .vmem, ⟨18, _⟩ => ⟨S256x576, .f32⟩
  | .local _ .vmem, ⟨19, _⟩ => ⟨S256x576, .f32⟩
  | .local _ .vmem, ⟨20, _⟩ => ⟨S1x256x576, .f32⟩
  | .local _ .vmem, ⟨21, _⟩ => ⟨S1x256x576, .f32⟩
  | .local _ .vmem, ⟨22, _⟩ => ⟨S1x256x576, .f32⟩
  | .local _ .vmem, ⟨23, _⟩ => ⟨S1x256x576, .f32⟩
  | .local _ .vmem, ⟨24, _⟩ => ⟨S1x256x576, .f32⟩
  | .local _ .vmem, ⟨25, _⟩ => ⟨S1x256x576, .f32⟩
  | .local _ .vmem, ⟨26, _⟩ => ⟨S1x256x576, .f32⟩
  | .local _ .vmem, ⟨27, _⟩ => ⟨S1x256x576, .f32⟩
  | .local _ .vmem, ⟨28, _⟩ => ⟨S1x256x576, .f32⟩
  | .local _ .vmem, ⟨29, _⟩ => ⟨S1x256x576, .f32⟩
  | .local _ .vmem, ⟨30, _⟩ => ⟨S1x256x576, .f32⟩
  | .local _ .vmem, ⟨31, _⟩ => ⟨S1x256x576, .f32⟩
  | .local _ .vmem, ⟨32, _⟩ => ⟨S1x256x576, .f32⟩
  | .local _ .vmem, ⟨33, _⟩ => ⟨S1x256x576, .f32⟩
  | .local _ .vmem, ⟨34, _⟩ => ⟨S256x576, .f32⟩
  | .local _ .vmem, ⟨35, _⟩ => ⟨S256x576, .f32⟩
  | .local _ .vmem, ⟨36, _⟩ => ⟨S1x256x576, .f32⟩
  | .local _ .vmem, ⟨37, _⟩ => ⟨S1x256x576, .f32⟩
  | .local _ .vmem, ⟨38, _⟩ => ⟨S1x256x576, .f32⟩
  | .local _ .vmem, ⟨39, _⟩ => ⟨S1x256x576, .f32⟩
  | .local _ .vmem, ⟨40, _⟩ => ⟨S1x256x576, .f32⟩
  | .local _ .vmem, ⟨41, _⟩ => ⟨S1x256x576, .f32⟩
  | .local _ .vmem, ⟨42, _⟩ => ⟨S1x256x576, .f32⟩
  | .local _ .vmem, ⟨43, _⟩ => ⟨S1x256x576, .f32⟩
  | .local _ .vmem, ⟨44, _⟩ => ⟨S1x256x576, .f32⟩
  | .local _ .vmem, ⟨45, _⟩ => ⟨S1x256x576, .f32⟩
  | .local _ .vmem, ⟨46, _⟩ => ⟨S1x256x576, .f32⟩
  | .local _ .vmem, ⟨47, _⟩ => ⟨S1x256x576, .f32⟩
  | .local _ .vmem, ⟨48, _⟩ => ⟨S1x256x576, .f32⟩
  | .local _ .vmem, ⟨49, _⟩ => ⟨S1x256x576, .f32⟩
  | .local _ .vmem, ⟨50, _⟩ => ⟨S256x576, .f32⟩
  | .local _ .vmem, ⟨51, _⟩ => ⟨S256x576, .f32⟩
  | .local _ .vmem, ⟨52, _⟩ => ⟨S1x256x576, .f32⟩
  | .local _ .vmem, ⟨53, _⟩ => ⟨S1x256x576, .f32⟩
  | .local _ .vmem, ⟨54, _⟩ => ⟨S1x256x576, .f32⟩
  | .local _ .vmem, ⟨55, _⟩ => ⟨S1x256x576, .f32⟩
  | .local _ .vmem, ⟨56, _⟩ => ⟨S1x256x576, .f32⟩
  | .local _ .vmem, ⟨57, _⟩ => ⟨S1x256x576, .f32⟩
  | .local _ .vmem, ⟨58, _⟩ => ⟨S1x256x576, .f32⟩
  | .local _ .vmem, ⟨59, _⟩ => ⟨S1x256x576, .f32⟩
  | .local _ .vmem, ⟨60, _⟩ => ⟨S1x256x576, .f32⟩
  | .local _ .vmem, ⟨61, _⟩ => ⟨S1x256x576, .f32⟩
  | .local _ .vmem, ⟨62, _⟩ => ⟨S1x256x576, .f32⟩
  | .local _ .vmem, ⟨63, _⟩ => ⟨S1x256x576, .f32⟩
  | _, _ => ⟨S4x1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x256x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S1x256x576 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x576 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x576 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x576 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x576 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x576 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x576 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x576 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S1x256x576 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x576 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x576 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x576 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x576 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x576 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x576 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x576 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S1x256x576 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x576 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256x576 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256x576 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256x576 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256x576 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256x576 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x256x576 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference38Ideal.lean ====
abbrev S4x1024x576 : Shape := ⟨3, ![4, 1024, 576]⟩
abbrev S1024x576 : Shape := ⟨2, ![1024, 576]⟩
abbrev S1x1024x576 : Shape := ⟨3, ![1, 1024, 576]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x576, .f32⟩
  | .hbm, ⟨1, _⟩ => ⟨S1024x576, .f32⟩
  | .hbm, ⟨2, _⟩ => ⟨S1024x576, .f32⟩
  | .hbm, ⟨3, _⟩ => ⟨S1024x576, .f32⟩
  | .hbm, ⟨4, _⟩ => ⟨S1024x576, .f32⟩
  | .hbm, ⟨5, _⟩ => ⟨S4x1024x576, .f32⟩
  | .hbm, ⟨6, _⟩ => ⟨S4x1024x576, .f32⟩
  | .hbm, ⟨7, _⟩ => ⟨S1x1024x576, .f32⟩
  | .hbm, ⟨8, _⟩ => ⟨S1x1024x576, .f32⟩
  | .hbm, ⟨9, _⟩ => ⟨S1x1024x576, .f32⟩
  | .hbm, ⟨10, _⟩ => ⟨S1x1024x576, .f32⟩
  | .hbm, ⟨11, _⟩ => ⟨S4x1024x576, .f32⟩
  | .hbm, ⟨12, _⟩ => ⟨S_, .f32⟩
  | .hbm, ⟨13, _⟩ => ⟨S4x1024x576, .f32⟩
  | .hbm, ⟨14, _⟩ => ⟨S4x1024x576, .f32⟩
  | .hbm, ⟨15, _⟩ => ⟨S_, .f32⟩
  | .hbm, ⟨16, _⟩ => ⟨S4x1024x576, .f32⟩
  | .hbm, ⟨17, _⟩ => ⟨S4x1024x576, .f32⟩
  | .hbm, ⟨18, _⟩ => ⟨S4x1024x576, .f32⟩
  | .hbm, ⟨19, _⟩ => ⟨S_, .f32⟩
  | .hbm, ⟨20, _⟩ => ⟨S4x1024x576, .f32⟩
  | .hbm, ⟨21, _⟩ => ⟨S4x1024x576, .f32⟩
  | .hbm, ⟨22, _⟩ => ⟨S4x1024x576, .f32⟩
  | .hbm, ⟨23, _⟩ => ⟨S_, .f32⟩
  | .hbm, ⟨24, _⟩ => ⟨S4x1024x576, .f32⟩
  | .hbm, ⟨25, _⟩ => ⟨S4x1024x576, .f32⟩
  | .hbm, ⟨26, _⟩ => ⟨S4x1024x576, .f32⟩
  | .hbm, ⟨27, _⟩ => ⟨S_, .f32⟩
  | .hbm, ⟨28, _⟩ => ⟨S4x1024x576, .f32⟩
  | .hbm, ⟨29, _⟩ => ⟨S4x1024x576, .f32⟩
  | .hbm, ⟨30, _⟩ => ⟨S_, .f32⟩
  | .hbm, ⟨31, _⟩ => ⟨S4x1024x576, .f32⟩
  | .hbm, ⟨32, _⟩ => ⟨S4x1024x576, .f32⟩
  | .hbm, ⟨33, _⟩ => ⟨S4x1024x576, .f32⟩
  | .hbm, ⟨34, _⟩ => ⟨S_, .f32⟩
  | .hbm, ⟨35, _⟩ => ⟨S4x1024x576, .f32⟩
  | .hbm, ⟨36, _⟩ => ⟨S4x1024x576, .f32⟩
  | .hbm, ⟨37, _⟩ => ⟨S4x1024x576, .f32⟩
  | .hbm, ⟨38, _⟩ => ⟨S_, .f32⟩
  | .hbm, ⟨39, _⟩ => ⟨S4x1024x576, .f32⟩
  | .hbm, ⟨40, _⟩ => ⟨S4x1024x576, .f32⟩
  | .hbm, ⟨41, _⟩ => ⟨S4x1024x576, .f32⟩
  | .hbm, ⟨42, _⟩ => ⟨S_, .f32⟩
  | .hbm, ⟨43, _⟩ => ⟨S4x1024x576, .f32⟩
  | .hbm, ⟨44, _⟩ => ⟨S4x1024x576, .f32⟩
  | _, _ => ⟨S4x1024x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel39.lean ====
abbrev S4x1024x1408 : Shape := ⟨3, ![4, 1024, 1408]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 23
  | .vmem => 64
  | .smem => 0
  | _ => 0

abbrev bufTy : (tb : Table) → Fin (tcTables nBuf tb) → BufTy
  | .hbm, ⟨0, _⟩ => ⟨S4x1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S4x1024x1408, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S4x1024x1408, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S4x1024x1408, .f32⟩
  | .hbm, ⟨20, _⟩ => ⟨S4x1024x1408, .f32⟩
  | .hbm, ⟨21, _⟩ => ⟨S4x1024x1408, .f32⟩
  | .hbm, ⟨22, _⟩ => ⟨S4x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S256x1408, .f32⟩
  | .local _ .vmem, ⟨3, _⟩ => ⟨S256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S256x1408, .f32⟩
  | .local _ .vmem, ⟨19, _⟩ => ⟨S256x1408, .f32⟩
  | .local _ .vmem, ⟨20, _⟩ => ⟨S1x256x1408, .f32⟩
  | .local _ .vmem, ⟨21, _⟩ => ⟨S1x256x1408, .f32⟩
  | .local _ .vmem, ⟨22, _⟩ => ⟨S1x256x1408, .f32⟩
  | .local _ .vmem, ⟨23, _⟩ => ⟨S1x256x1408, .f32⟩
  | .local _ .vmem, ⟨24, _⟩ => ⟨S1x256x1408, .f32⟩
  | .local _ .vmem, ⟨25, _⟩ => ⟨S1x256x1408, .f32⟩
  | .local _ .vmem, ⟨26, _⟩ => ⟨S1x256x1408, .f32⟩
  | .local _ .vmem, ⟨27, _⟩ => ⟨S1x256x1408, .f32⟩
  | .local _ .vmem, ⟨28, _⟩ => ⟨S1x256x1408, .f32⟩
  | .local _ .vmem, ⟨29, _⟩ => ⟨S1x256x1408, .f32⟩
  | .local _ .vmem, ⟨30, _⟩ => ⟨S1x256x1408, .f32⟩
  | .local _ .vmem, ⟨31, _⟩ => ⟨S1x256x1408, .f32⟩
  | .local _ .vmem, ⟨32, _⟩ => ⟨S1x256x1408, .f32⟩
  | .local _ .vmem, ⟨33, _⟩ => ⟨S1x256x1408, .f32⟩
  | .local _ .vmem, ⟨34, _⟩ => ⟨S256x1408, .f32⟩
  | .local _ .vmem, ⟨35, _⟩ => ⟨S256x1408, .f32⟩
  | .local _ .vmem, ⟨36, _⟩ => ⟨S1x256x1408, .f32⟩
  | .local _ .vmem, ⟨37, _⟩ => ⟨S1x256x1408, .f32⟩
  | .local _ .vmem, ⟨38, _⟩ => ⟨S1x256x1408, .f32⟩
  | .local _ .vmem, ⟨39, _⟩ => ⟨S1x256x1408, .f32⟩
  | .local _ .vmem, ⟨40, _⟩ => ⟨S1x256x1408, .f32⟩
  | .local _ .vmem, ⟨41, _⟩ => ⟨S1x256x1408, .f32⟩
  | .local _ .vmem, ⟨42, _⟩ => ⟨S1x256x1408, .f32⟩
  | .local _ .vmem, ⟨43, _⟩ => ⟨S1x256x1408, .f32⟩
  | .local _ .vmem, ⟨44, _⟩ => ⟨S1x256x1408, .f32⟩
  | .local _ .vmem, ⟨45, _⟩ => ⟨S1x256x1408, .f32⟩
  | .local _ .vmem, ⟨46, _⟩ => ⟨S1x256x1408, .f32⟩
  | .local _ .vmem, ⟨47, _⟩ => ⟨S1x256x1408, .f32⟩
  | .local _ .vmem, ⟨48, _⟩ => ⟨S1x256x1408, .f32⟩
  | .local _ .vmem, ⟨49, _⟩ => ⟨S1x256x1408, .f32⟩
  | .local _ .vmem, ⟨50, _⟩ => ⟨S256x1408, .f32⟩
  | .local _ .vmem, ⟨51, _⟩ => ⟨S256x1408, .f32⟩
  | .local _ .vmem, ⟨52, _⟩ => ⟨S1x256x1408, .f32⟩
  | .local _ .vmem, ⟨53, _⟩ => ⟨S1x256x1408, .f32⟩
  | .local _ .vmem, ⟨54, _⟩ => ⟨S1x256x1408, .f32⟩
  | .local _ .vmem, ⟨55, _⟩ => ⟨S1x256x1408, .f32⟩
  | .local _ .vmem, ⟨56, _⟩ => ⟨S1x256x1408, .f32⟩
  | .local _ .vmem, ⟨57, _⟩ => ⟨S1x256x1408, .f32⟩
  | .local _ .vmem, ⟨58, _⟩ => ⟨S1x256x1408, .f32⟩
  | .local _ .vmem, ⟨59, _⟩ => ⟨S1x256x1408, .f32⟩
  | .local _ .vmem, ⟨60, _⟩ => ⟨S1x256x1408, .f32⟩
  | .local _ .vmem, ⟨61, _⟩ => ⟨S1x256x1408, .f32⟩
  | .local _ .vmem, ⟨62, _⟩ => ⟨S1x256x1408, .f32⟩
  | .local _ .vmem, ⟨63, _⟩ => ⟨S1x256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S1x256x1408 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1408 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x1408 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S1x256x1408 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1408 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x1408 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x1408 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x1408 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x1408 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x1408 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S1x256x1408 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1408 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256x1408 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256x1408 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256x1408 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256x1408 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x256x1408 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference39Ideal.lean ====
abbrev S4x1024x1408 : Shape := ⟨3, ![4, 1024, 1408]⟩
abbrev S1024x1408 : Shape := ⟨2, ![1024, 1408]⟩
abbrev S1x1024x1408 : Shape := ⟨3, ![1, 1024, 1408]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S4x1024x1408, .f32⟩
  | .hbm, ⟨6, _⟩ => ⟨S4x1024x1408, .f32⟩
  | .hbm, ⟨7, _⟩ => ⟨S1x1024x1408, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S4x1024x1408, .f32⟩
  | .hbm, ⟨12, _⟩ => ⟨S_, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S4x1024x1408, .f32⟩
  | .hbm, ⟨23, _⟩ => ⟨S_, .f32⟩
  | .hbm, ⟨24, _⟩ => ⟨S4x1024x1408, .f32⟩
  | .hbm, ⟨25, _⟩ => ⟨S4x1024x1408, .f32⟩
  | .hbm, ⟨26, _⟩ => ⟨S4x1024x1408, .f32⟩
  | .hbm, ⟨27, _⟩ => ⟨S_, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4x1024x1408, .f32⟩
  | .hbm, ⟨38, _⟩ => ⟨S_, .f32⟩
  | .hbm, ⟨39, _⟩ => ⟨S4x1024x1408, .f32⟩
  | .hbm, ⟨40, _⟩ => ⟨S4x1024x1408, .f32⟩
  | .hbm, ⟨41, _⟩ => ⟨S4x1024x1408, .f32⟩
  | .hbm, ⟨42, _⟩ => ⟨S_, .f32⟩
  | .hbm, ⟨43, _⟩ => ⟨S4x1024x1408, .f32⟩
  | .hbm, ⟨44, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel40.lean ====
abbrev S4x704x1024 : Shape := ⟨3, ![4, 704, 1024]⟩
abbrev S704x1024 : Shape := ⟨2, ![704, 1024]⟩
abbrev S1x64x1024 : Shape := ⟨3, ![1, 64, 1024]⟩
abbrev S64x1024 : Shape := ⟨2, ![64, 1024]⟩

abbrev nBuf : Space → Nat
  | .hbm => 23
  | .vmem => 64
  | .smem => 0
  | _ => 0

abbrev bufTy : (tb : Table) → Fin (tcTables nBuf tb) → BufTy
  | .hbm, ⟨0, _⟩ => ⟨S4x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S4x704x1024, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S4x704x1024, .f32⟩
  | .hbm, ⟨20, _⟩ => ⟨S4x704x1024, .f32⟩
  | .hbm, ⟨21, _⟩ => ⟨S4x704x1024, .f32⟩
  | .hbm, ⟨22, _⟩ => ⟨S4x704x1024, .f32⟩
  | .local _ .vmem, ⟨0, _⟩ => ⟨S1x64x1024, .f32⟩
  | .local _ .vmem, ⟨1, _⟩ => ⟨S1x64x1024, .f32⟩
  | .local _ .vmem, ⟨2, _⟩ => ⟨S64x1024, .f32⟩
  | .local _ .vmem, ⟨3, _⟩ => ⟨S64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .vmem, ⟨18, _⟩ => ⟨S64x1024, .f32⟩
  | .local _ .vmem, ⟨19, _⟩ => ⟨S64x1024, .f32⟩
  | .local _ .vmem, ⟨20, _⟩ => ⟨S1x64x1024, .f32⟩
  | .local _ .vmem, ⟨21, _⟩ => ⟨S1x64x1024, .f32⟩
  | .local _ .vmem, ⟨22, _⟩ => ⟨S1x64x1024, .f32⟩
  | .local _ .vmem, ⟨23, _⟩ => ⟨S1x64x1024, .f32⟩
  | .local _ .vmem, ⟨24, _⟩ => ⟨S1x64x1024, .f32⟩
  | .local _ .vmem, ⟨25, _⟩ => ⟨S1x64x1024, .f32⟩
  | .local _ .vmem, ⟨26, _⟩ => ⟨S1x64x1024, .f32⟩
  | .local _ .vmem, ⟨27, _⟩ => ⟨S1x64x1024, .f32⟩
  | .local _ .vmem, ⟨28, _⟩ => ⟨S1x64x1024, .f32⟩
  | .local _ .vmem, ⟨29, _⟩ => ⟨S1x64x1024, .f32⟩
  | .local _ .vmem, ⟨30, _⟩ => ⟨S1x64x1024, .f32⟩
  | .local _ .vmem, ⟨31, _⟩ => ⟨S1x64x1024, .f32⟩
  | .local _ .vmem, ⟨32, _⟩ => ⟨S1x64x1024, .f32⟩
  | .local _ .vmem, ⟨33, _⟩ => ⟨S1x64x1024, .f32⟩
  | .local _ .vmem, ⟨34, _⟩ => ⟨S64x1024, .f32⟩
  | .local _ .vmem, ⟨35, _⟩ => ⟨S64x1024, .f32⟩
  | .local _ .vmem, ⟨36, _⟩ => ⟨S1x64x1024, .f32⟩
  | .local _ .vmem, ⟨37, _⟩ => ⟨S1x64x1024, .f32⟩
  | .local _ .vmem, ⟨38, _⟩ => ⟨S1x64x1024, .f32⟩
  | .local _ .vmem, ⟨39, _⟩ => ⟨S1x64x1024, .f32⟩
  | .local _ .vmem, ⟨40, _⟩ => ⟨S1x64x1024, .f32⟩
  | .local _ .vmem, ⟨41, _⟩ => ⟨S1x64x1024, .f32⟩
  | .local _ .vmem, ⟨42, _⟩ => ⟨S1x64x1024, .f32⟩
  | .local _ .vmem, ⟨43, _⟩ => ⟨S1x64x1024, .f32⟩
  | .local _ .vmem, ⟨44, _⟩ => ⟨S1x64x1024, .f32⟩
  | .local _ .vmem, ⟨45, _⟩ => ⟨S1x64x1024, .f32⟩
  | .local _ .vmem, ⟨46, _⟩ => ⟨S1x64x1024, .f32⟩
  | .local _ .vmem, ⟨47, _⟩ => ⟨S1x64x1024, .f32⟩
  | .local _ .vmem, ⟨48, _⟩ => ⟨S1x64x1024, .f32⟩
  | .local _ .vmem, ⟨49, _⟩ => ⟨S1x64x1024, .f32⟩
  | .local _ .vmem, ⟨50, _⟩ => ⟨S64x1024, .f32⟩
  | .local _ .vmem, ⟨51, _⟩ => ⟨S64x1024, .f32⟩
  | .local _ .vmem, ⟨52, _⟩ => ⟨S1x64x1024, .f32⟩
  | .local _ .vmem, ⟨53, _⟩ => ⟨S1x64x1024, .f32⟩
  | .local _ .vmem, ⟨54, _⟩ => ⟨S1x64x1024, .f32⟩
  | .local _ .vmem, ⟨55, _⟩ => ⟨S1x64x1024, .f32⟩
  | .local _ .vmem, ⟨56, _⟩ => ⟨S1x64x1024, .f32⟩
  | .local _ .vmem, ⟨57, _⟩ => ⟨S1x64x1024, .f32⟩
  | .local _ .vmem, ⟨58, _⟩ => ⟨S1x64x1024, .f32⟩
  | .local _ .vmem, ⟨59, _⟩ => ⟨S1x64x1024, .f32⟩
  | .local _ .vmem, ⟨60, _⟩ => ⟨S1x64x1024, .f32⟩
  | .local _ .vmem, ⟨61, _⟩ => ⟨S1x64x1024, .f32⟩
  | .local _ .vmem, ⟨62, _⟩ => ⟨S1x64x1024, .f32⟩
  | .local _ .vmem, ⟨63, _⟩ => ⟨S1x64x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![11], ![false]⟩

def cc1_transform_0 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 2 → Memref sig .tc .vmem S1x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x64x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![11], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 2 → Memref sig .tc .vmem S1x64x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x64x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x64x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x64x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x64x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x64x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x64x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![11], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S1x64x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x64x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x64x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x64x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x64x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x64x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x64x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference40Ideal.lean ====
abbrev S4x704x1024 : Shape := ⟨3, ![4, 704, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S4x704x1024, .f32⟩
  | .hbm, ⟨6, _⟩ => ⟨S4x704x1024, .f32⟩
  | .hbm, ⟨7, _⟩ => ⟨S1x704x1024, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S4x704x1024, .f32⟩
  | .hbm, ⟨12, _⟩ => ⟨S_, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S4x704x1024, .f32⟩
  | .hbm, ⟨23, _⟩ => ⟨S_, .f32⟩
  | .hbm, ⟨24, _⟩ => ⟨S4x704x1024, .f32⟩
  | .hbm, ⟨25, _⟩ => ⟨S4x704x1024, .f32⟩
  | .hbm, ⟨26, _⟩ => ⟨S4x704x1024, .f32⟩
  | .hbm, ⟨27, _⟩ => ⟨S_, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S4x704x1024, .f32⟩
  | .hbm, ⟨38, _⟩ => ⟨S_, .f32⟩
  | .hbm, ⟨39, _⟩ => ⟨S4x704x1024, .f32⟩
  | .hbm, ⟨40, _⟩ => ⟨S4x704x1024, .f32⟩
  | .hbm, ⟨41, _⟩ => ⟨S4x704x1024, .f32⟩
  | .hbm, ⟨42, _⟩ => ⟨S_, .f32⟩
  | .hbm, ⟨43, _⟩ => ⟨S4x704x1024, .f32⟩
  | .hbm, ⟨44, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel41.lean ====
abbrev S4x256x256 : Shape := ⟨3, ![4, 256, 256]⟩
abbrev S256x256 : Shape := ⟨2, ![256, 256]⟩
abbrev S1x256x256 : Shape := ⟨3, ![1, 256, 256]⟩

abbrev nBuf : Space → Nat
  | .hbm => 23
  | .vmem => 32
  | .smem => 0
  | _ => 0

abbrev bufTy : (tb : Table) → Fin (tcTables nBuf tb) → BufTy
  | .hbm, ⟨0, _⟩ => ⟨S4x256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S4x256x256, .f32⟩
  | .hbm, ⟨6, _⟩ => ⟨S4x256x256, .f32⟩
  | .hbm, ⟨7, _⟩ => ⟨S4x256x256, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S4x256x256, .f32⟩
  | .hbm, ⟨12, _⟩ => ⟨S4x256x256, .f32⟩
  | .hbm, ⟨13, _⟩ => ⟨S4x256x256, .f32⟩
  | .hbm, ⟨14, _⟩ => ⟨S4x256x256, .f32⟩
  | .hbm, ⟨15, _⟩ => ⟨S4x256x256, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S4x256x256, .f32⟩
  | .hbm, ⟨20, _⟩ => ⟨S4x256x256, .f32⟩
  | .hbm, ⟨21, _⟩ => ⟨S4x256x256, .f32⟩
  | .hbm, ⟨22, _⟩ => ⟨S4x256x256, .f32⟩
  | .local _ .vmem, ⟨0, _⟩ => ⟨S1x256x256, .f32⟩
  | .local _ .vmem, ⟨1, _⟩ => ⟨S256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | .local _ .vmem, ⟨24, _⟩ => ⟨S1x256x256, .f32⟩
  | .local _ .vmem, ⟨25, _⟩ => ⟨S256x256, .f32⟩
  | .local _ .vmem, ⟨26, _⟩ => ⟨S1x256x256, .f32⟩
  | .local _ .vmem, ⟨27, _⟩ => ⟨S1x256x256, .f32⟩
  | .local _ .vmem, ⟨28, _⟩ => ⟨S1x256x256, .f32⟩
  | .local _ .vmem, ⟨29, _⟩ => ⟨S1x256x256, .f32⟩
  | .local _ .vmem, ⟨30, _⟩ => ⟨S1x256x256, .f32⟩
  | .local _ .vmem, ⟨31, _⟩ => ⟨S1x256x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_8 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_9 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_10 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_11 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage1_0 : Fin 1 → Memref sig .tc .vmem S1x256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage2_0 : Fin 1 → Memref sig .tc .vmem S1x256x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1x256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S1x256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S1x256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S1x256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S1x256x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 1 → Memref sig .tc .vmem S1x256x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1x256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S1x256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S1x256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S1x256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S1x256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S1x256x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]
-- ==== Reference41Ideal.lean ====
abbrev S4x256x256 : Shape := ⟨3, ![4, 256, 256]⟩
abbrev S256x256 : Shape := ⟨2, ![256, 256]⟩
abbrev S1x256x256 : Shape := ⟨3, ![1, 256, 256]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S4x256x256, .f32⟩
  | .hbm, ⟨6, _⟩ => ⟨S4x256x256, .f32⟩
  | .hbm, ⟨7, _⟩ => ⟨S1x256x256, .f32⟩
  | .hbm, ⟨8, _⟩ => ⟨S1x256x256, .f32⟩
  | .hbm, ⟨9, _⟩ => ⟨S1x256x256, .f32⟩
  | .hbm, ⟨10, _⟩ => ⟨S1x256x256, .f32⟩
  | .hbm, ⟨11, _⟩ => ⟨S4x256x256, .f32⟩
  | .hbm, ⟨12, _⟩ => ⟨S_, .f32⟩
  | .hbm, ⟨13, _⟩ => ⟨S4x256x256, .f32⟩
  | .hbm, ⟨14, _⟩ => ⟨S4x256x256, .f32⟩
  | .hbm, ⟨15, _⟩ => ⟨S_, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S_, .f32⟩
  | .hbm, ⟨20, _⟩ => ⟨S4x256x256, .f32⟩
  | .hbm, ⟨21, _⟩ => ⟨S4x256x256, .f32⟩
  | .hbm, ⟨22, _⟩ => ⟨S4x256x256, .f32⟩
  | .hbm, ⟨23, _⟩ => ⟨S_, .f32⟩
  | .hbm, ⟨24, _⟩ => ⟨S4x256x256, .f32⟩
  | .hbm, ⟨25, _⟩ => ⟨S4x256x256, .f32⟩
  | .hbm, ⟨26, _⟩ => ⟨S4x256x256, .f32⟩
  | .hbm, ⟨27, _⟩ => ⟨S_, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S_, .f32⟩
  | .hbm, ⟨35, _⟩ => ⟨S4x256x256, .f32⟩
  | .hbm, ⟨36, _⟩ => ⟨S4x256x256, .f32⟩
  | .hbm, ⟨37, _⟩ => ⟨S4x256x256, .f32⟩
  | .hbm, ⟨38, _⟩ => ⟨S_, .f32⟩
  | .hbm, ⟨39, _⟩ => ⟨S4x256x256, .f32⟩
  | .hbm, ⟨40, _⟩ => ⟨S4x256x256, .f32⟩
  | .hbm, ⟨41, _⟩ => ⟨S4x256x256, .f32⟩
  | .hbm, ⟨42, _⟩ => ⟨S_, .f32⟩
  | .hbm, ⟨43, _⟩ => ⟨S4x256x256, .f32⟩
  | .hbm, ⟨44, _⟩ => ⟨S4x256x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.PoolBody.lean ====
module

public import proofs.«01_k».proof.Proof.Gen.KernelIdeal.Frame
public import Idealize.ShloMosaic.Lib.Pipeline.Value
public import Idealize.ShloMosaic.Lib.Tactic

/-! What one grid point of the pooling mixer's backward call leaves in each output block and in the carried scratch,
as a plain function of the blocks it reads. -/

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A load of a whole rank-two buffer reads its contents. -/
theorem ldz {d : Fin 2 → Nat} {e : EltTy} (inb : ∀ a, (![0, 0] : Fin 2 → Nat) a + d a ≤ d a)
    (X : Shape.Idx ⟨2, d⟩ → Elt F e) : View.ld X (Rect.unit (s := ⟨2, d⟩) ![0, 0] d inb) = X :=
  View.ld_unit_zero (S := ⟨2, d⟩) hz inb X

/-- A load of a whole rank-two scratch after some stores reads what the stores leave. -/
theorem rcz {d : Fin 2 → Nat} {e : EltTy} (v : View sig .tc .vmem ⟨2, d⟩ e) (L : List (View.Piece (Elt F) ⟨2, d⟩ e))
    (inb : ∀ a, (![0, 0] : Fin 2 → Nat) a + d a ≤ d a) :
    v.readCov L (Rect.unit (s := ⟨2, d⟩) ![0, 0] d inb).toLoadRect = View.canon L :=
  (View.readCov_eq_canon' v L _).trans (View.ld_unit_zero (S := ⟨2, d⟩) hz inb _)

/-- The scratch after the halo rows and the block are stored behind each other. -/
def ext (i : grid0.Coords) (x1 : Vec F S16x256 .f32) (x0 : Vec F S512x256 .f32) : Vec F S528x256 .f32 :=
  View.canon [⟨Rect.unit (s := S528x256) ![16, 0] S512x256.size inb_S528x256_S512x256_16_0, k0_pay10 x0⟩,
    ⟨Rect.unit (s := S528x256) ![0, 0] S16x256.size inb_S528x256_S16x256_0_0, k0_pay9 (Scalar.cmpi .eq (Scalar.subi 7#32 (BitVec.ofNat 32 (i 0).val)) 0#32) x1⟩]

/-- The pooled block. -/
def pb (i : grid0.Coords) (x1 : Vec F S16x256 .f32) (x0 : Vec F S512x256 .f32) : FVec F S512x256 .bf16 :=
  k0_pay11 k0_pay5 k0_pay6 k0_pay7 (k0_pay8 (F := F) i) x0 (ext i x1 x0)

/-- The scratch after the divided gradient and the carried rows are stored behind each other, over what it held. -/
def ext2 (i : grid0.Coords) (x1 : Vec F S16x256 .f32) (x0 x2 : Vec F S512x256 .f32) (x5 : Vec F S1x256 .f32) (x4 : Vec F S256x256 .bf16) (xs : Vec F S16x256 .f32) :
    Vec F S528x256 .f32 :=
  View.canon [⟨Rect.unit (s := S528x256) ![512, 0] S16x256.size inb_S528x256_S16x256_512_0, k0_pay20 xs⟩,
    ⟨Rect.unit (s := S528x256) ![0, 0] S512x256.size inb_S528x256_S512x256_0_0, k0_pay19 (k0_pay8 (F := F) i) x2 x5 x4⟩,
    ⟨Rect.unit (s := S528x256) ![16, 0] S512x256.size inb_S528x256_S512x256_16_0, k0_pay10 x0⟩,
    ⟨Rect.unit (s := S528x256) ![0, 0] S16x256.size inb_S528x256_S16x256_0_0, k0_pay9 (Scalar.cmpi .eq (Scalar.subi 7#32 (BitVec.ofNat 32 (i 0).val)) 0#32) x1⟩]

/-- The block of the gradient. -/
def o6 (i : grid0.Coords) (x1 : Vec F S16x256 .f32) (x0 x2 : Vec F S512x256 .f32) (x5 : Vec F S1x256 .f32) (x4 : Vec F S256x256 .bf16) (xs : Vec F S16x256 .f32) :
    Vec F S512x256 .bf16 :=
  k0_pay1 k0_pay5 k0_pay6 k0_pay7 (k0_pay17 x2 x5 x4) (k0_pay22 (ext2 i x1 x0 x2 x5 x4 xs)) (k0_pay23 (ext2 i x1 x0 x2 x5 x4 xs))

/-- The weight's gradient after the point. -/
def o7 (i : grid0.Coords) (x1 : Vec F S16x256 .f32) (x0 x2 : Vec F S512x256 .f32) (x5 : Vec F S1x256 .f32) (xo : Vec F S256x256 .f32) : Vec F S256x256 .f32 :=
  k0_pay16 (pb i x1 x0) x2 x5 xo

/-- The scale's gradient after the point. -/
def o8 (i : grid0.Coords) (x1 : Vec F S16x256 .f32) (x0 x2 : Vec F S512x256 .f32) (x3 : Vec F S256x256 .bf16) (xo : Vec F S1x256 .f32) : Vec F S1x256 .f32 :=
  k0_pay14 (k0_pay12 xo) (k0_pay13 k0_pay5 k0_pay6 k0_pay7 (k0_pay8 (F := F) i) x0 (ext i x1 x0) x2 x3)

/-- The carried rows after the point. -/
def s1 (i : grid0.Coords) (x2 : Vec F S512x256 .f32) (x5 : Vec F S1x256 .f32) (x4 : Vec F S256x256 .bf16) : Vec F S16x256 .f32 :=
  k0_pay21 (k0_pay8 (F := F) i) x2 x5 x4

section
variable (c : Dev nD) (i : grid0.Coords) (arg1 : Memref sig .tc .vmem S512x256 .f32) (harg1 : arg1.IsWhole) (arg2 : Memref sig .tc .vmem S16x256 .f32) (harg2 : arg2.IsWhole) (arg3 : Memref sig .tc .vmem S512x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256 .f32) (harg6 : arg6.IsWhole) (arg8 : Memref sig .tc .vmem S512x256 .bf16) (harg8 : arg8.IsWhole) (arg9 : Memref sig .tc .vmem S256x256 .f32) (harg9 : arg9.IsWhole) (arg10 : Memref sig .tc .vmem S1x256 .f32) (harg10 : arg10.IsWhole) (arg11 : Memref sig .tc .vmem S528x256 .f32) (harg11 : arg11.IsWhole) (arg12 : Memref sig .tc .vmem S16x256 .f32) (harg12 : arg12.IsWhole) (hc0 : cond0_0 i) (x0 : Vec F S512x256 .f32) (x1 : Vec F S16x256 .f32) (x2 : Vec F S512x256 .f32) (x3 : Vec F S256x256 .bf16) (x4 : Vec F S256x256 .bf16) (x5 : Vec F S1x256 .f32)

theorem out0_A_6_eq :
    out0_A_6 c i arg1 harg1 arg2 harg2 arg3 harg3 arg4 harg4 arg5 harg5 arg6 harg6 arg8 harg8 arg9 harg9 arg10 harg10 arg11 harg11 arg12 harg12 hc0 x0 x1 x2 x3 x4 x5 = o6 i x1 x0 x2 x5 x4 k0_pay2 := by
  unfold out0_A_6
  rw [View.read_writes_junk_eq_canon]
  unfold kernelRun0_A
  dsimp only
  sl_unfold_words
  rw [View.canon_unit_zero hz]
  simp only [View.readAt_eq_ld, Memref.IsWhole.read_unread, ldz, rcz]
  try rw [View.canon_unit_zero (S := S16x256) hz]
  try rw [View.canon_unit_zero (S := S256x256) hz]
  try rw [View.canon_unit_zero (S := S1x256) hz]
  rfl

theorem out0_A_7_eq :
    out0_A_7 c i arg1 harg1 arg2 harg2 arg3 harg3 arg4 harg4 arg5 harg5 arg6 harg6 arg8 harg8 arg9 harg9 arg10 harg10 arg11 harg11 arg12 harg12 hc0 x0 x1 x2 x3 x4 x5 = o7 i x1 x0 x2 x5 k0_pay3 := by
  unfold out0_A_7
  rw [View.read_writes_junk_eq_canon]
  unfold kernelRun0_A
  dsimp only
  sl_unfold_words
  rw [View.canon_cons_unit_zero hz]
  simp only [View.readAt_eq_ld, Memref.IsWhole.read_unread, ldz, rcz]
  try rw [View.canon_unit_zero (S := S16x256) hz]
  try rw [View.canon_unit_zero (S := S256x256) hz]
  try rw [View.canon_unit_zero (S := S1x256) hz]
  rfl

theorem out0_A_8_eq :
    out0_A_8 c i arg1 harg1 arg2 harg2 arg3 harg3 arg4 harg4 arg5 harg5 arg6 harg6 arg8 harg8 arg9 harg9 arg10 harg10 arg11 harg11 arg12 harg12 hc0 x0 x1 x2 x3 x4 x5 = o8 i x1 x0 x2 x3 k0_pay4 := by
  unfold out0_A_8
  rw [View.read_writes_junk_eq_canon]
  unfold kernelRun0_A
  dsimp only
  sl_unfold_words
  rw [View.canon_cons_unit_zero hz]
  simp only [View.readAt_eq_ld, Memref.IsWhole.read_unread, ldz, rcz]
  try rw [View.canon_unit_zero (S := S16x256) hz]
  try rw [View.canon_unit_zero (S := S256x256) hz]
  try rw [View.canon_unit_zero (S := S1x256) hz]
  rfl

theorem sout0_A_1_eq :
    sout0_A_1 c i arg1 harg1 arg2 harg2 arg3 harg3 arg4 harg4 arg5 harg5 arg6 harg6 arg8 harg8 arg9 harg9 arg10 harg10 arg11 harg11 arg12 harg12 hc0 x0 x1 x2 x3 x4 x5 = s1 i x2 x5 x4 := by
  unfold sout0_A_1
  rw [View.read_writes_junk_eq_canon]
  unfold kernelRun0_A
  dsimp only
  sl_unfold_words
  rw [View.canon_cons_unit_zero hz]
  simp only [View.readAt_eq_ld, Memref.IsWhole.read_unread, ldz, rcz]
  try rw [View.canon_unit_zero (S := S16x256) hz]
  try rw [View.canon_unit_zero (S := S256x256) hz]
  try rw [View.canon_unit_zero (S := S1x256) hz]
  rfl

end

section
variable (c : Dev nD) (i : grid0.Coords) (arg1 : Memref sig .tc .vmem S512x256 .f32) (harg1 : arg1.IsWhole) (arg2 : Memref sig .tc .vmem S16x256 .f32) (harg2 : arg2.IsWhole) (arg3 : Memref sig .tc .vmem S512x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256 .f32) (harg6 : arg6.IsWhole) (arg8 : Memref sig .tc .vmem S512x256 .bf16) (harg8 : arg8.IsWhole) (arg9 : Memref sig .tc .vmem S256x256 .f32) (harg9 : arg9.IsWhole) (arg10 : Memref sig .tc .vmem S1x256 .f32) (harg10 : arg10.IsWhole) (arg11 : Memref sig .tc .vmem S528x256 .f32) (harg11 : arg11.IsWhole) (arg12 : Memref sig .tc .vmem S16x256 .f32) (harg12 : arg12.IsWhole) (hc0 : ¬cond0_0 i) (x0 : Vec F S512x256 .f32) (x1 : Vec F S16x256 .f32) (x2 : Vec F S512x256 .f32) (x3 : Vec F S256x256 .bf16) (x4 : Vec F S256x256 .bf16) (x5 : Vec F S1x256 .f32) (xo7 : Vec F S256x256 .f32) (xo8 : Vec F S1x256 .f32) (xs1 : Vec F S16x256 .f32)

theorem out0_B_6_eq :
    out0_B_6 c i arg1 harg1 arg2 harg2 arg3 harg3 arg4 harg4 arg5 harg5 arg6 harg6 arg8 harg8 arg9 harg9 arg10 harg10 arg11 harg11 arg12 harg12 hc0 x0 x1 x2 x3 x4 x5 xo7 xo8 xs1 = o6 i x1 x0 x2 x5 x4 xs1 := by
  unfold out0_B_6
  rw [View.read_writes_junk_eq_canon]
  unfold kernelRun0_B
  dsimp only
  sl_unfold_words
  rw [View.canon_unit_zero hz]
  simp only [View.readAt_eq_ld, Memref.IsWhole.read_unread, ldz, rcz]
  try rw [View.canon_unit_zero (S := S16x256) hz]
  try rw [View.canon_unit_zero (S := S256x256) hz]
  try rw [View.canon_unit_zero (S := S1x256) hz]
  rfl

theorem out0_B_7_eq :
    out0_B_7 c i arg1 harg1 arg2 harg2 arg3 harg3 arg4 harg4 arg5 harg5 arg6 harg6 arg8 harg8 arg9 harg9 arg10 harg10 arg11 harg11 arg12 harg12 hc0 x0 x1 x2 x3 x4 x5 xo7 xo8 xs1 = o7 i x1 x0 x2 x5 xo7 := by
  unfold out0_B_7
  rw [View.read_writes_junk_eq_canon]
  unfold kernelRun0_B
  dsimp only
  sl_unfold_words
  rw [View.canon_unit_zero hz]
  simp only [View.readAt_eq_ld, Memref.IsWhole.read_unread, ldz, rcz]
  try rw [View.canon_unit_zero (S := S16x256) hz]
  try rw [View.canon_unit_zero (S := S256x256) hz]
  try rw [View.canon_unit_zero (S := S1x256) hz]
  rfl

theorem out0_B_8_eq :
    out0_B_8 c i arg1 harg1 arg2 harg2 arg3 harg3 arg4 harg4 arg5 harg5 arg6 harg6 arg8 harg8 arg9 harg9 arg10 harg10 arg11 harg11 arg12 harg12 hc0 x0 x1 x2 x3 x4 x5 xo7 xo8 xs1 = o8 i x1 x0 x2 x3 xo8 := by
  unfold out0_B_8
  rw [View.read_writes_junk_eq_canon]
  unfold kernelRun0_B
  dsimp only
  sl_unfold_words
  rw [View.canon_unit_zero hz]
  simp only [View.readAt_eq_ld, Memref.IsWhole.read_unread, ldz, rcz]
  try rw [View.canon_unit_zero (S := S16x256) hz]
  try rw [View.canon_unit_zero (S := S256x256) hz]
  try rw [View.canon_unit_zero (S := S1x256) hz]
  rfl

theorem sout0_B_1_eq :
    sout0_B_1 c i arg1 harg1 arg2 harg2 arg3 harg3 arg4 harg4 arg5 harg5 arg6 harg6 arg8 harg8 arg9 harg9 arg10 harg10 arg11 harg11 arg12 harg12 hc0 x0 x1 x2 x3 x4 x5 xo7 xo8 xs1 = s1 i x2 x5 x4 := by
  unfold sout0_B_1
  rw [View.read_writes_junk_eq_canon]
  unfold kernelRun0_B
  dsimp only
  sl_unfold_words
  rw [View.canon_unit_zero hz]
  simp only [View.readAt_eq_ld, Memref.IsWhole.read_unread, ldz, rcz]
  try rw [View.canon_unit_zero (S := S16x256) hz]
  try rw [View.canon_unit_zero (S := S256x256) hz]
  try rw [View.canon_unit_zero (S := S1x256) hz]
  rfl

end

end Cert.KernelIdeal.Body

end
-- ==== Proof.PoolMath.lean ====
module

public import Idealize.ShloMosaic.PureOps.Ideal.Laws
public import Mathlib.Algebra.BigOperators.Intervals
public import Mathlib.Algebra.Order.BigOperators.Group.LocallyFinite

/-! The pooling mixer's gradient over the reals, for one sequence of 4096 tokens and 256 channels: the means over the last
2, 4, 8 or 16 tokens, the gradients they give, and the prefix sums which compute the same numbers. -/

@[expose] public section

noncomputable section

namespace Cert.Pool

open Finset

theorem coe_sum {ι : Type} (s : Finset ι) (f : ι → ℝ) : ((∑ i ∈ s, f i : ℝ) : EReal) = ∑ i ∈ s, (f i : EReal) := by
  classical
  induction s using Finset.induction with
  | empty => simp
  | insert a s h ih => rw [sum_insert h, sum_insert h, EReal.coe_add, ih]

/-- The sum from a tile's first token is the tile's sum and the sum behind it. -/
theorem sum_tile (f : ℕ → ℝ) (a : ℕ) (h : a + 512 ≤ 4096) : (∑ p ∈ Ico (a + 512) 4096, f p) + ∑ r : Fin 512, f (a + r.val) = ∑ p ∈ Ico a 4096, f p := by
  rw [← sum_Ico_consecutive f (Nat.le_add_right a 512) h, add_comm, sum_Ico_eq_sum_range f a, Nat.add_sub_cancel_left, sum_range]

/-- The window of a channel: 2, 4, 8 or 16 tokens by the head it lies in. -/
def win (d : Fin 256) : ℕ := if d.val < 64 then 2 else if d.val < 128 then 4 else if d.val < 192 then 8 else 16

theorem win_pos (d : Fin 256) : 0 < win d := by unfold win; split_ifs <;> norm_num
theorem win_le (d : Fin 256) : win d ≤ 16 := by unfold win; split_ifs <;> norm_num

/-- The tokens in the window that ends at token `p`. -/
def cnt (p : ℕ) (d : Fin 256) : ℝ := min ((p : ℝ) + 1) (win d : ℝ)

theorem cnt_pos (p : ℕ) (d : Fin 256) : 0 < cnt p d :=
  lt_min (by positivity) (by exact_mod_cast win_pos d)

theorem cnt_ne (p : ℕ) (d : Fin 256) : cnt p d ≠ 0 := (cnt_pos p d).ne'

variable (X DY : ℕ → Fin 256 → ℝ) (S : Fin 256 → ℝ) (W : Fin 256 → Fin 256 → ℝ)

/-- The tokens behind sixteen rows of zeros. -/
def xp (p : ℕ) (d : Fin 256) : ℝ := if p < 16 then 0 else X (p - 16) d

/-- The mean over the window, less the token. -/
def pool (p : ℕ) (d : Fin 256) : ℝ := (∑ k ∈ range (win d), xp X (p + 16 - k) d) / cnt p d - X p d

/-- The incoming gradient times the scale. -/
def dyw (p : ℕ) (e : Fin 256) : ℝ := DY p e * S e

/-- The pooled values' gradient. -/
def dpool (p : ℕ) (d : Fin 256) : ℝ := ∑ e, dyw DY S p e * W d e

/-- The means' gradient by the window's size; nothing behind the last token. -/
def en (p : ℕ) (d : Fin 256) : ℝ := if p < 4096 then dpool DY S W p d / cnt p d else 0

/-- The tokens' gradient. -/
def dz (p : ℕ) (d : Fin 256) : ℝ := (∑ k ∈ range (win d), en DY S W (p + k) d) - dpool DY S W p d

/-- The weight's gradient over the tokens `a, …, 4095`. -/
def dwd (a : ℕ) (d e : Fin 256) : ℝ := ∑ p ∈ Ico a 4096, pool X p d * dyw DY S p e

/-- The scale's gradient over the tokens `a, …, 4095`. -/
def dsc (a : ℕ) (e : Fin 256) : ℝ := ∑ p ∈ Ico a 4096, DY p e * ∑ d, pool X p d * W d e

/-- One step of a rolling sum backwards: the value and the one `s` rows before. -/
def dn (s : ℕ) (f : ℕ → ℝ) (q : ℕ) : ℝ := f q + f (q - s)

/-- One step of a rolling sum forwards. -/
def up (s : ℕ) (f : ℕ → ℝ) (q : ℕ) : ℝ := f q + f (q + s)

theorem dn2 (f : ℕ → ℝ) (q : ℕ) : dn 1 f q = ∑ k ∈ range 2, f (q - k) := by
  simp [dn, sum_range_succ]
theorem dn4 (f : ℕ → ℝ) (q : ℕ) : dn 2 (dn 1 f) q = ∑ k ∈ range 4, f (q - k) := by
  simp [dn, sum_range_succ, Nat.sub_sub]; ring
theorem dn8 (f : ℕ → ℝ) (q : ℕ) : dn 4 (dn 2 (dn 1 f)) q = ∑ k ∈ range 8, f (q - k) := by
  simp [dn, sum_range_succ, Nat.sub_sub]; ring
theorem dn16 (f : ℕ → ℝ) (q : ℕ) : dn 8 (dn 4 (dn 2 (dn 1 f))) q = ∑ k ∈ range 16, f (q - k) := by
  simp [dn, sum_range_succ, Nat.sub_sub]; ring
theorem up2 (f : ℕ → ℝ) (q : ℕ) : up 1 f q = ∑ k ∈ range 2, f (q + k) := by
  simp [up, sum_range_succ]
theorem up4 (f : ℕ → ℝ) (q : ℕ) : up 2 (up 1 f) q = ∑ k ∈ range 4, f (q + k) := by
  simp [up, sum_range_succ, Nat.add_assoc]; ring
theorem up8 (f : ℕ → ℝ) (q : ℕ) : up 4 (up 2 (up 1 f)) q = ∑ k ∈ range 8, f (q + k) := by
  simp [up, sum_range_succ, Nat.add_assoc]; ring
theorem up16 (f : ℕ → ℝ) (q : ℕ) : up 8 (up 4 (up 2 (up 1 f))) q = ∑ k ∈ range 16, f (q + k) := by
  simp [up, sum_range_succ, Nat.add_assoc]; ring

/-- A window's sum is a prefix sum less the prefix sum `w` tokens before. -/
theorem prefix_window (f : ℕ → ℝ) (w p : ℕ) (hw : w ≤ 16) :
    (∑ q ∈ range (p + 1), f q) - (if p < w then 0 else ∑ q ∈ range (p - w + 1), f q)
      = ∑ k ∈ range w, (if p + 16 - k < 16 then 0 else f (p + 16 - k - 16)) := by
  have h1 : ∀ n, (∑ k ∈ range n, (if p + 16 - k < 16 then 0 else f (p + 16 - k - 16)))
      = ∑ k ∈ range n, (if p < k then 0 else f (p - k)) := fun n =>
    sum_congr rfl fun k _ => by
      by_cases h : p < k
      · rw [if_pos h, if_pos (by omega)]
      · rw [if_neg h, if_neg (by omega)]; congr 1; omega
  rw [h1]
  clear h1 hw
  induction w with
  | zero => simp
  | succ w ih =>
    rw [sum_range_succ (n := w), ← ih]
    by_cases h : p < w
    · rw [if_pos h, if_pos h, if_pos (by omega)]; ring
    · rw [if_neg h, if_neg h]
      by_cases h' : p < w + 1
      · obtain rfl : p = w := by omega
        simp
      · rw [if_neg h', show p - (w + 1) + 1 = p - w by omega, sum_range_succ (n := p - w)]; ring

/-- A window's sum forwards is a suffix sum of the difference with the value `w` tokens later. -/
theorem suffix_window (f : ℕ → ℝ) (hf : ∀ q, 4096 ≤ q → f q = 0) (w p : ℕ) (hp : p ≤ 4096) :
    (∑ q ∈ Ico p 4096, (f q + -(if q + w < 4096 then f (q + w) else 0))) = ∑ k ∈ range w, f (p + k) := by
  have h1 : ∀ q, (if q + w < 4096 then f (q + w) else 0) = f (q + w) := fun q => by
    split_ifs with h
    · rfl
    · exact (hf _ (by omega)).symm
  simp only [h1]
  rw [sum_add_distrib, sum_neg_distrib]
  have h2 : ∀ n, (∑ q ∈ Ico p 4096, f q) - (∑ q ∈ Ico p 4096, f (q + n)) = ∑ k ∈ range n, f (p + k) := by
    intro n
    induction n with
    | zero => simp
    | succ n ih =>
      rw [sum_range_succ, ← ih]
      have a : (∑ q ∈ Ico p 4096, f (q + n)) = f (p + n) + ∑ q ∈ Ico p 4096, f (q + (n + 1)) := by
        rcases Nat.lt_or_ge p 4096 with h | h
        · rw [sum_eq_sum_Ico_succ_bot h (fun q => f (q + n))]
          congr 1
          have e : ∀ q, f (q + (n + 1)) = (fun q => f (q + n)) (q + 1) := fun q => by simp only; congr 1; omega
          simp only [e]
          rw [sum_Ico_add' (fun q => f (q + n)) p 4096 1, sum_Ico_succ_top (show p + 1 ≤ 4096 by omega) (fun q => f (q + n)), hf (4096 + n) (by omega), add_zero]
        · rw [Ico_eq_empty (by omega), sum_empty, sum_empty, hf _ (by omega), add_zero]
      rw [a]; ring
  rw [← h2]; ring

end Cert.Pool

end
-- ==== Proof.PoolPoint.lean ====
module

public import proofs.«01_k».proof.Proof.PoolBody
public import proofs.«01_k».proof.Proof.PoolMath
public import Idealize.ShloMosaic.PureOps.Ideal.Laws
public import Idealize.ShloMosaic.Lib.Pointwise
public import Idealize.ShloMosaic.Lib.KernelVsHost

/-! One grid point of the pooling mixer's backward call at the exact instance: the block it writes, what it adds to the two
accumulated gradients and the rows it carries on, in real numbers. -/

@[expose] public section
set_option maxRecDepth 16384
noncomputable section
namespace Cert.KernelIdeal.Body
open Cert.KernelIdeal Cert.KernelIdeal.Gen Idealize.ShloMosaic Idealize.ShloMosaic.TcCoe Idealize.SL.Sem
open Cert.Pool

theorem m5 : ∀ d : Fin 256, k0_pay5 (ix2 (0 : Fin 1) d) = if d.val < 64 then 1#1 else 0#1 := by decide +kernel
theorem m6 : ∀ d : Fin 256, k0_pay6 (ix2 (0 : Fin 1) d) = if 64 ≤ d.val ∧ d.val < 128 then 1#1 else 0#1 := by decide +kernel
theorem m7 : ∀ d : Fin 256, k0_pay7 (ix2 (0 : Fin 1) d) = if 128 ≤ d.val ∧ d.val < 192 then 1#1 else 0#1 := by decide +kernel

/-- The choice by head. -/
theorem pick {α : Type} (d : Fin 256) (a b c e : α) (g : ℕ → α) (h2 : a = g 2) (h4 : b = g 4) (h8 : c = g 8) (h16 : e = g 16) :
    Scalar.select (k0_pay5 (ix2 (0 : Fin 1) d)) a (Scalar.select (k0_pay6 (ix2 (0 : Fin 1) d)) b (Scalar.select (k0_pay7 (ix2 (0 : Fin 1) d)) c e)) = g (win d) := by
  rw [m5, m6, m7, win, h2, h4, h8, h16]
  by_cases a1 : d.val < 64
  · simp [a1, Scalar.select]
  by_cases a2 : d.val < 128
  · have : 64 ≤ d.val := by omega
    simp [a1, a2, this, Scalar.select]
  by_cases a3 : d.val < 192
  · have : 128 ≤ d.val := by omega
    simp [a1, a2, a3, this, Scalar.select]
  · simp [a1, a2, a3, Scalar.select]

/-! ## The window's size -/

/-- The first token of grid point `i`'s block. -/
def base (i : grid0.Coords) : ℕ := 512 * (7 - (i 0).val)

theorem lt8 (i : grid0.Coords) : (i 0).val < 8 := (i 0).isLt

theorem pos_word (i : grid0.Coords) (r : Fin 512) :
    (IntOp.addi (Scalar.addi (Scalar.muli (Scalar.subi (7#32) (BitVec.ofNat 32 (i 0).val)) 512#32) 1#32) (BitVec.ofNat 32 r.val)).toInt = (base i + r.val + 1 : ℕ) := by
  have h := lt8 i
  have hr := r.isLt
  have e : IntOp.addi (Scalar.addi (Scalar.muli (Scalar.subi (7#32) (BitVec.ofNat 32 (i 0).val)) 512#32) 1#32) (BitVec.ofNat 32 r.val) = BitVec.ofNat 32 (base i + r.val + 1) := by
    apply BitVec.eq_of_toNat_eq
    simp only [IntOp.addi, IntOp.muli, IntOp.subi, Scalar.addi, Scalar.muli, Scalar.subi, BitVec.toNat_add, BitVec.toNat_mul, BitVec.toNat_sub, BitVec.toNat_ofNat, base]
    omega
  rw [e, BitVec.toInt_eq_toNat_of_lt, BitVec.toNat_ofNat, Nat.mod_eq_of_lt]
  · unfold base; omega
  · rw [BitVec.toNat_ofNat, Nat.mod_eq_of_lt] <;> unfold base <;> omega

theorem w2 : Ideal.ofBits .f32 0x40000000#32 = ((2 : ℝ) : EReal) := by simp [Ideal.ofBits, Ideal.ieee, -EReal.coe_mul]; norm_num
theorem w4 : Ideal.ofBits .f32 0x40800000#32 = ((4 : ℝ) : EReal) := by simp [Ideal.ofBits, Ideal.ieee, -EReal.coe_mul]; norm_num
theorem w8 : Ideal.ofBits .f32 0x41000000#32 = ((8 : ℝ) : EReal) := by simp [Ideal.ofBits, Ideal.ieee, -EReal.coe_mul]; norm_num
theorem w16 : Ideal.ofBits .f32 0x41800000#32 = ((16 : ℝ) : EReal) := by simp [Ideal.ofBits, Ideal.ieee, -EReal.coe_mul]; norm_num

theorem coe_min (a b : ℝ) : min (a : EReal) (b : EReal) = ((min a b : ℝ) : EReal) := (EReal.coe_strictMono.monotone.map_min).symm

theorem cnt_apply (i : grid0.Coords) (r : Fin 512) (d : Fin 256) :
    k0_pay8 (F := Ideal) i (ix2 r d) = ((cnt (base i + r.val) d : ℝ) : EReal) := by
  pointwise [k0_pay8]
  rw [pick d _ _ _ _ (fun w => (((w : ℕ) : ℝ) : EReal)) (by rw [w2]; norm_num) (by rw [w4]; norm_num) (by rw [w8]; norm_num) (by rw [w16]; norm_num)]
  rw [show ∀ b : BitVec 32, (FloatOps.sitofp FTy.f32 b : Ideal .f32) = ((b.toInt : ℝ) : EReal) from fun _ => rfl, pos_word, coe_min]
  unfold cnt
  push_cast
  rfl

/-! ## The rolling sums -/

/-- One step of a rolling sum along the rows. -/
def roll (s : BitVec 32) (e : FVec Ideal S528x256 .f32) : FVec Ideal S528x256 .f32 :=
  addf e (dynamicRotate 0 s none e rotates_S528x256_d0)

theorem roll_apply (s : BitVec 32) (e : FVec Ideal S528x256 .f32) (j : Fin 528) (d : Fin 256) :
    roll s e (ix2 j d) = e (ix2 j d) + e (ix2 (⟨(j.val + 528 - s.toNat % 528) % 528, Nat.mod_lt _ (by norm_num)⟩ : Fin 528) d) := by
  unfold roll
  have := dynamicRotate_apply (0 : Fin S528x256.rank) s e rotates_S528x256_d0 (ix2 j d) (ix2 (⟨(j.val + 528 - s.toNat % 528) % 528, Nat.mod_lt _ (by norm_num)⟩ : Fin 528) d) (fun b => by fin_cases b <;> rfl)
  rw [← this]; rfl

/-- The rows `lo, …, hi - 1` of a column hold the reals `f`. -/
def Reads (e : FVec Ideal S528x256 .f32) (d : Fin 256) (lo hi : ℕ) (f : ℕ → ℝ) : Prop :=
  ∀ j : Fin 528, lo ≤ j.val → j.val < hi → e (ix2 j d) = ((f j.val : ℝ) : EReal)

theorem Reads.dn {e : FVec Ideal S528x256 .f32} {d : Fin 256} {lo : ℕ} {f : ℕ → ℝ} (h : Reads e d lo 528 f) (s : ℕ) (hs : s < 528) (b : BitVec 32) (hb : b.toNat = s) :
    Reads (roll b e) d (lo + s) 528 (dn s f) := fun j h1 h2 => by
  rw [roll_apply, h j (by omega) h2, h _ (by simp only [hb]; omega) (by simp only; omega)]
  unfold Pool.dn
  rw [EReal.coe_add]
  congr 3
  simp only [hb]
  congr 1
  omega

theorem Reads.up {e : FVec Ideal S528x256 .f32} {d : Fin 256} {hi : ℕ} {f : ℕ → ℝ} (s : ℕ) (h : Reads e d 0 (hi + s) f) (hh : hi + s ≤ 528) (b : BitVec 32) (hb : b.toNat + s = 528) (h0 : 0 < s) :
    Reads (roll b e) d 0 hi (up s f) := fun j h1 h2 => by
  rw [roll_apply, h j (by omega) (by omega), h _ (by omega) (by simp only; omega)]
  unfold Pool.up
  rw [EReal.coe_add]
  congr 3
  simp only
  congr 1
  omega

/-- The pooled block from its four rolling sums. -/
def fin11 (m9 m14 m19 : IVec S1x256 1) (c x : FVec Ideal S512x256 .f32) (s2 s4 s8 s16 : FVec Ideal S528x256 .f32) : FVec Ideal S512x256 .bf16 :=
  truncf .bf16 (subf (divf (extractStridedSlice S512x256 ![16, 0]
    (select (broadcastTo S528x256 (shapeCast S1x256 m9 shapeCasts_S1x256_S1x256) broadcasts_S1x256_S528x256) s2
      (select (broadcastTo S528x256 (shapeCast S1x256 m14 shapeCasts_S1x256_S1x256) broadcasts_S1x256_S528x256) s4
        (select (broadcastTo S528x256 (shapeCast S1x256 m19 shapeCasts_S1x256_S1x256) broadcasts_S1x256_S528x256) s8 s16)))
    slices_S528x256_o16_0_S512x256) c) x) bitsLt_bf16_f32

theorem pay11_eq (m9 m14 m19 : IVec S1x256 1) (c x : FVec Ideal S512x256 .f32) (e : FVec Ideal S528x256 .f32) :
    k0_pay11 (F := Ideal) m9 m14 m19 c x e
      = fin11 m9 m14 m19 c x (roll 1#32 e) (roll 2#32 (roll 1#32 e)) (roll 4#32 (roll 2#32 (roll 1#32 e))) (roll 8#32 (roll 4#32 (roll 2#32 (roll 1#32 e)))) := rfl

/-- The gradient's block from its four rolling sums. -/
def fin1 (m9 m14 m19 : IVec S1x256 1) (x : FVec Ideal S512x256 .f32) (s2 s4 s8 s16 : FVec Ideal S528x256 .f32) : FVec Ideal S512x256 .bf16 :=
  truncf .bf16 (subf (extractStridedSlice S512x256 ![0, 0]
    (select (broadcastTo S528x256 (shapeCast S1x256 m9 shapeCasts_S1x256_S1x256) broadcasts_S1x256_S528x256) s2
      (select (broadcastTo S528x256 (shapeCast S1x256 m14 shapeCasts_S1x256_S1x256) broadcasts_S1x256_S528x256) s4
        (select (broadcastTo S528x256 (shapeCast S1x256 m19 shapeCasts_S1x256_S1x256) broadcasts_S1x256_S528x256) s8 s16)))
    slices_S528x256_o0_0_S512x256) x) bitsLt_bf16_f32

theorem pay1_eq (m9 m14 m19 : IVec S1x256 1) (x : FVec Ideal S512x256 .f32) (e : FVec Ideal S528x256 .f32) :
    k0_pay1 (F := Ideal) m9 m14 m19 x (k0_pay22 e) (k0_pay23 e)
      = fin1 m9 m14 m19 x (roll 527#32 e) (roll 526#32 (roll 527#32 e)) (roll 524#32 (roll 526#32 (roll 527#32 e))) (roll 520#32 (roll 524#32 (roll 526#32 (roll 527#32 e)))) := rfl

theorem pay11_apply {c x : FVec Ideal S512x256 .f32} {e : FVec Ideal S528x256 .f32} {d : Fin 256} {f : ℕ → ℝ} (he : Reads e d 0 528 f) (r : Fin 512)
    {cr xr : ℝ} (hc : c (ix2 r d) = (cr : EReal)) (h0 : cr ≠ 0) (hx : x (ix2 r d) = (xr : EReal)) :
    k0_pay11 (F := Ideal) k0_pay5 k0_pay6 k0_pay7 c x e (ix2 r d) = (((∑ k ∈ Finset.range (win d), f (r.val + 16 - k)) / cr - xr : ℝ) : EReal) := by
  have h1 := he.dn 1 (by norm_num) 1#32 rfl
  have h2 := h1.dn 2 (by norm_num) 2#32 rfl
  have h3 := h2.dn 4 (by norm_num) 4#32 rfl
  have h4 := h3.dn 8 (by norm_num) 8#32 rfl
  rw [pay11_eq]
  generalize roll 8#32 (roll 4#32 (roll 2#32 (roll 1#32 e))) = s16 at *
  generalize roll 4#32 (roll 2#32 (roll 1#32 e)) = s8 at *
  generalize roll 2#32 (roll 1#32 e) = s4 at *
  generalize roll 1#32 e = s2 at *
  pointwise [fin11]
  have hr := r.isLt
  rw [pick d _ _ _ _ (fun w => ((∑ k ∈ Finset.range w, f (16 + r.val - k) : ℝ) : EReal))
    (by rw [h1 _ (by simp only; omega) (by simp only; omega), dn2]) (by rw [h2 _ (by simp only; omega) (by simp only; omega), dn4])
    (by rw [h3 _ (by simp only; omega) (by simp only; omega), dn8]) (by rw [h4 _ (by simp only; omega) (by simp only; omega), dn16]),
    hc, hx, Ideal.div_coe h0, ← EReal.coe_mul, ← EReal.coe_sub, mul_one_div, Nat.add_comm 16 r.val]

theorem pay1_apply {x : FVec Ideal S512x256 .f32} {e : FVec Ideal S528x256 .f32} {d : Fin 256} {f : ℕ → ℝ} (he : Reads e d 0 528 f) (r : Fin 512)
    {xr : ℝ} (hx : x (ix2 r d) = (xr : EReal)) :
    k0_pay1 (F := Ideal) k0_pay5 k0_pay6 k0_pay7 x (k0_pay22 e) (k0_pay23 e) (ix2 r d) = (((∑ k ∈ Finset.range (win d), f (r.val + k)) - xr : ℝ) : EReal) := by
  have h1 := Reads.up (hi := 527) 1 he (by norm_num) 527#32 rfl (by norm_num)
  have h2 := Reads.up (hi := 525) 2 h1 (by norm_num) 526#32 rfl (by norm_num)
  have h3 := Reads.up (hi := 521) 4 h2 (by norm_num) 524#32 rfl (by norm_num)
  have h4 := Reads.up (hi := 513) 8 h3 (by norm_num) 520#32 rfl (by norm_num)
  rw [pay1_eq]
  generalize roll 520#32 (roll 524#32 (roll 526#32 (roll 527#32 e))) = s16 at *
  generalize roll 524#32 (roll 526#32 (roll 527#32 e)) = s8 at *
  generalize roll 526#32 (roll 527#32 e) = s4 at *
  generalize roll 527#32 e = s2 at *
  pointwise [fin1]
  have hr := r.isLt
  rw [pick d _ _ _ _ (fun w => ((∑ k ∈ Finset.range w, f (r.val + k) : ℝ) : EReal))
    (by rw [h1 _ (by simp only; omega) (by simp only; omega), up2]) (by rw [h2 _ (by simp only; omega) (by simp only; omega), up4])
    (by rw [h3 _ (by simp only; omega) (by simp only; omega), up8]) (by rw [h4 _ (by simp only; omega) (by simp only; omega), up16]),
    hx, ← EReal.coe_sub]

/-! ## The scratch -/

/-- Off the rows a store writes, the scratch holds what it held. -/
theorem canon_off {off sz : Fin 2 → ℕ} {inb} (w : (Rect.unit (s := S528x256) off sz inb).shape.Idx → Ideal .f32) (L : List (View.Piece (Elt Ideal) S528x256 .f32))
    (j : Fin 528) (d : Fin 256) (h : j.val < off 0 ∨ off 0 + sz 0 ≤ j.val) :
    View.canon (⟨Rect.unit (s := S528x256) off sz inb, w⟩ :: L) (ix2 j d) = View.canon L (ix2 j d) :=
  View.canon_cons_of_not_mem _ _ fun hm => by
    have := (Rect.mem_set_unit (inb := inb).1 hm) 0
    have e : ((ix2 j d : S528x256.Idx) 0).val = j.val := rfl
    omega

/-- On the rows a store writes, the scratch holds the stored value. -/
theorem canon_on {off sz : Fin 2 → ℕ} {inb} (w : (Rect.unit (s := S528x256) off sz inb).shape.Idx → Ideal .f32) (L : List (View.Piece (Elt Ideal) S528x256 .f32))
    (j : Fin 528) (d : Fin 256) (y : (Rect.unit (s := S528x256) off sz inb).shape.Idx) (h0 : j.val = off 0 + (y 0).val) (h1 : d.val = off 1 + (y 1).val) :
    View.canon (⟨Rect.unit (s := S528x256) off sz inb, w⟩ :: L) (ix2 j d) = w y := by
  have : (ix2 j d : S528x256.Idx) = (Rect.unit (s := S528x256) off sz inb).emb y := by
    funext b; fin_cases b <;> apply Fin.ext
    · change j.val = off 0 + 1 * (y 0).val; omega
    · change d.val = off 1 + 1 * (y 1).val; omega
  rw [this]
  exact View.canon_cons_emb _ w L y

theorem not_first (i : grid0.Coords) : (Scalar.cmpi .eq (Scalar.subi 7#32 (BitVec.ofNat 32 (i 0).val)) 0#32) = if base i = 0 then 1#1 else 0#1 := by
  have : ∀ k : Fin 8, (Scalar.cmpi .eq (Scalar.subi 7#32 (BitVec.ofNat 32 k.val)) 0#32) = if 512 * (7 - k.val) = 0 then 1#1 else 0#1 := by decide +kernel
  exact this (i 0)

variable {X DY : ℕ → Fin 256 → ℝ} {S : Fin 256 → ℝ} {W : Fin 256 → Fin 256 → ℝ}

/-- The blocks of one grid point hold the reals `X`, `DY`, `S`, `W`. -/
structure Holds (X DY : ℕ → Fin 256 → ℝ) (S : Fin 256 → ℝ) (W : Fin 256 → Fin 256 → ℝ) (i : grid0.Coords) (x0 : Vec Ideal S512x256 .f32) (x1 : Vec Ideal S16x256 .f32) (x2 : Vec Ideal S512x256 .f32)
    (x3 x4 : Vec Ideal S256x256 .bf16) (x5 : Vec Ideal S1x256 .f32) : Prop where
  x0 : ∀ (r : Fin 512) (d : Fin 256), x0 (ix2 r d) = ((X (base i + r.val) d : ℝ) : EReal)
  x1 : base i ≠ 0 → ∀ (r : Fin 16) (d : Fin 256), x1 (ix2 r d) = ((X (base i + r.val - 16) d : ℝ) : EReal)
  x2 : ∀ (r : Fin 512) (d : Fin 256), x2 (ix2 r d) = ((DY (base i + r.val) d : ℝ) : EReal)
  x3 : ∀ d e : Fin 256, x3 (ix2 d e) = ((W d e : ℝ) : EReal)
  x4 : ∀ e d : Fin 256, x4 (ix2 e d) = ((W d e : ℝ) : EReal)
  x5 : ∀ e : Fin 256, x5 (ix2 (0 : Fin 1) e) = ((S e : ℝ) : EReal)

section
variable {i : grid0.Coords} {x0 : Vec Ideal S512x256 .f32} {x1 : Vec Ideal S16x256 .f32} {x2 : Vec Ideal S512x256 .f32}
  {x3 x4 : Vec Ideal S256x256 .bf16} {x5 : Vec Ideal S1x256 .f32} (h : Holds X DY S W i x0 x1 x2 x3 x4 x5)
include h

theorem ext_reads (d : Fin 256) : Reads (ext i x1 x0) d 0 528 (fun j => xp X (base i + j) d) := fun j _ _ => by
  unfold ext xp
  by_cases hj : j.val < 16
  · rw [canon_off _ _ j d (Or.inl hj)]
    refine (canon_on (off := ![0, 0]) (sz := S16x256.size) _ _ j d (ix2 (⟨j.val, hj⟩ : Fin 16) d) (Nat.zero_add j.val).symm (Nat.zero_add d.val).symm).trans ?_
    pointwise [k0_pay9]
    rw [not_first]
    by_cases hb : base i = 0
    · rw [if_pos hb, if_pos (by omega)]; simp [Scalar.select]
    · rw [if_neg hb, if_neg (by unfold base at *; omega)]
      simp only [Scalar.select]
      exact h.x1 hb ⟨j.val, hj⟩ d
  · refine (canon_on (off := ![16, 0]) (sz := S512x256.size) _ _ j d (ix2 (⟨j.val - 16, by omega⟩ : Fin 512) d) (show j.val = 16 + (j.val - 16) by omega) (Nat.zero_add d.val).symm).trans ?_
    pointwise [k0_pay10]
    rw [if_neg (by omega), h.x0]
    congr 2; simp only; omega

theorem pb_apply (r : Fin 512) (d : Fin 256) : pb i x1 x0 (ix2 r d) = ((Pool.pool X (base i + r.val) d : ℝ) : EReal) := by
  unfold pb
  rw [pay11_apply (ext_reads h d) r (cnt_apply i r d) (cnt_ne _ _) (h.x0 r d)]
  unfold Pool.pool
  congr 3
  have hr : ∀ k ∈ Finset.range (win d), base i + (r.val + 16 - k) = base i + r.val + 16 - k := fun k hk => by
    have := Finset.mem_range.1 hk; have := win_le d; omega
  exact Finset.sum_congr rfl fun k hk => by rw [hr k hk]

theorem pay17_apply (r : Fin 512) (d : Fin 256) : k0_pay17 (F := Ideal) x2 x5 x4 (ix2 r d) = ((dpool DY S W (base i + r.val) d : ℝ) : EReal) := by
  pointwise [k0_pay17, k0_pay15]
  unfold dpool dyw
  rw [Pool.coe_sum]
  exact Finset.sum_congr rfl fun e _ => by rw [h.x2, h.x5, h.x4, EReal.coe_mul, EReal.coe_mul]

theorem pay18_apply (r : Fin 512) (d : Fin 256) : k0_pay18 (F := Ideal) (k0_pay8 (F := Ideal) i) x2 x5 x4 (ix2 r d) = ((en DY S W (base i + r.val) d : ℝ) : EReal) := by
  pointwise [k0_pay18]
  rw [pay17_apply h, cnt_apply, Ideal.div_coe (cnt_ne _ _), ← EReal.coe_mul, mul_one_div]
  unfold en
  rw [if_pos (by unfold base; omega)]

theorem s1_apply (r : Fin 16) (d : Fin 256) : s1 (F := Ideal) i x2 x5 x4 (ix2 r d) = ((en DY S W (base i + r.val) d : ℝ) : EReal) := by
  unfold s1
  pointwise [k0_pay21]
  exact pay18_apply h ⟨r.val, by omega⟩ d

theorem ext2_reads {xs : Vec Ideal S16x256 .f32} (hs : ∀ (r : Fin 16) (d : Fin 256), xs (ix2 r d) = ((en DY S W (base i + 512 + r.val) d : ℝ) : EReal)) (d : Fin 256) :
    Reads (ext2 i x1 x0 x2 x5 x4 xs) d 0 528 (fun j => en DY S W (base i + j) d) := fun j _ _ => by
  unfold ext2
  by_cases hj : j.val < 512
  · rw [canon_off _ _ j d (Or.inl hj)]
    refine (canon_on (off := ![0, 0]) (sz := S512x256.size) _ _ j d (ix2 (⟨j.val, hj⟩ : Fin 512) d) (Nat.zero_add j.val).symm (Nat.zero_add d.val).symm).trans ?_
    pointwise [k0_pay19]
    exact pay18_apply h ⟨j.val, hj⟩ d
  · refine (canon_on (off := ![512, 0]) (sz := S16x256.size) _ _ j d (ix2 (⟨j.val - 512, by omega⟩ : Fin 16) d) (show j.val = 512 + (j.val - 512) by omega) (Nat.zero_add d.val).symm).trans ?_
    pointwise [k0_pay20]
    rw [hs]
    congr 2; simp only; omega

theorem o6_apply {xs : Vec Ideal S16x256 .f32} (hs : ∀ (r : Fin 16) (d : Fin 256), xs (ix2 r d) = ((en DY S W (base i + 512 + r.val) d : ℝ) : EReal)) (r : Fin 512) (d : Fin 256) :
    o6 i x1 x0 x2 x5 x4 xs (ix2 r d) = ((dz DY S W (base i + r.val) d : ℝ) : EReal) := by
  unfold o6
  rw [pay1_apply (ext2_reads h hs d) r (pay17_apply h r d)]
  unfold dz
  simp only [Nat.add_assoc]

theorem o7_apply (xo : Vec Ideal S256x256 .f32) (hi : ∀ d e, xo (ix2 d e) = ((dwd X DY S (base i + 512) d e : ℝ) : EReal)) (d e : Fin 256) :
    o7 i x1 x0 x2 x5 xo (ix2 d e) = ((dwd X DY S (base i) d e : ℝ) : EReal) := by
  unfold o7
  pointwise [k0_pay16, k0_pay15]
  rw [hi, Finset.sum_congr rfl fun (r : Fin 512) _ => (by rw [pb_apply h, h.x2, h.x5, ← EReal.coe_mul, ← EReal.coe_mul] :
    pb i x1 x0 (ix2 r d) * (x2 (ix2 r e) * x5 (ix2 (0 : Fin 1) e)) = ((Pool.pool X (base i + r.val) d * (DY (base i + r.val) e * S e) : ℝ) : EReal))]
  rw [← Pool.coe_sum, ← EReal.coe_add]
  congr 1
  unfold dwd
  have hb : base i + 512 ≤ 4096 := by unfold base; omega
  exact sum_tile _ _ hb

theorem o8_apply (xo : Vec Ideal S1x256 .f32) (hi : ∀ e, xo (ix2 (0 : Fin 1) e) = ((dsc X DY W (base i + 512) e : ℝ) : EReal)) (e : Fin 256) :
    o8 i x1 x0 x2 x3 xo (ix2 (0 : Fin 1) e) = ((dsc X DY W (base i) e : ℝ) : EReal) := by
  unfold o8
  have hp := fun r d => pb_apply h r d
  unfold pb at hp
  pointwise [k0_pay14, k0_pay12, k0_pay13]
  rw [hi, Finset.sum_congr rfl fun (r : Fin 512) _ => (by
      rw [h.x2, Finset.sum_congr rfl fun (d : Fin 256) _ => (by rw [hp, h.x3, ← EReal.coe_mul] : _ = ((Pool.pool X (base i + r.val) d * W d e : ℝ) : EReal)), ← Pool.coe_sum, ← EReal.coe_mul] :
    _ = ((DY (base i + r.val) e * ∑ d, Pool.pool X (base i + r.val) d * W d e : ℝ) : EReal))]
  rw [← Pool.coe_sum, ← EReal.coe_add]
  congr 1
  unfold dsc
  have hb : base i + 512 ≤ 4096 := by unfold base; omega
  exact sum_tile _ _ hb

end

end Cert.KernelIdeal.Body
end
-- ==== Proof.PoolValue.lean ====
module

public import proofs.«01_k».proof.Proof.PoolPoint
public import proofs.«01_k».proof.Proof.Gen.KernelIdeal.Value
public import Idealize.ShloMosaic.Lib.StableHlo.ReadAt

/-! The three arrays the pooling mixer's backward call leaves, in real numbers. -/

@[expose] public section
set_option maxRecDepth 16384
noncomputable section

namespace Cert.Pool
open Idealize.ShloMosaic

/-- The block-diagonal weight of four heads. -/
def bd (w : Fin 4 → Fin 64 → Fin 64 → ℝ) (d e : Fin 256) : ℝ :=
  if d.val / 64 = e.val / 64 then w ⟨d.val / 64, by omega⟩ ⟨d.val % 64, by omega⟩ ⟨e.val % 64, by omega⟩ else 0

/-- The parts of the arguments the call reads hold the reals `X`, `DY`, `w`, `S`. -/
structure Inputs (X DY : ℕ → Fin 256 → ℝ) (S : Fin 256 → ℝ) (w : Fin 4 → Fin 64 → Fin 64 → ℝ)
    (z : Shape.Idx ⟨2, ![4096, 2304]⟩ → EReal) (dmix : Shape.Idx ⟨2, ![4096, 1024]⟩ → EReal)
    (dw : Shape.Idx ⟨3, ![4, 64, 64]⟩ → EReal) (ds : Shape.Idx ⟨1, ![256]⟩ → EReal) : Prop where
  z : ∀ (p : Fin 4096) (d : Fin 256), z (ix2 p (⟨2048 + d.val, by omega⟩ : Fin 2304)) = ((X p.val d : ℝ) : EReal)
  dmix : ∀ (p : Fin 4096) (d : Fin 256), dmix (ix2 p (⟨768 + d.val, by omega⟩ : Fin 1024)) = ((DY p.val d : ℝ) : EReal)
  dw : ∀ (h : Fin 4) (a b : Fin 64), dw (ix3 h a b) = ((w h a b : ℝ) : EReal)
  ds : ∀ e : Fin 256, ds (ix1 e) = ((S e : ℝ) : EReal)

end Cert.Pool

namespace Cert.KernelIdeal.Body
open Cert.KernelIdeal Cert.KernelIdeal.Gen Idealize.ShloMosaic Idealize.ShloMosaic.TcCoe Idealize.SL.Sem
open Cert.Pool Cert.KernelIdeal.Value
variable (m : (ℓ : Loc nD τ sig) → Buf (Elt Ideal) ℓ)
variable {X DY : ℕ → Fin 256 → ℝ} {S : Fin 256 → ℝ} {w : Fin 4 → Fin 64 → Fin 64 → ℝ}

/-- The call's arguments on core `c` hold the reals `X`, `DY`, `S`, `w`. -/
abbrev In (X DY : ℕ → Fin 256 → ℝ) (S : Fin 256 → ℝ) (w : Fin 4 → Fin 64 → Fin 64 → ℝ) (c : Dev nD) : Prop :=
  Inputs X DY S w (m ((c : Thread nD τ).loc main_arg0)) (m ((c : Thread nD τ).loc main_arg2)) (m ((c : Thread nD τ).loc main_arg3)) (m ((c : Thread nD τ).loc main_arg4))

theorem eye (a b : ℕ) (ha : a < 4) (hb : b < 4) : (FloatOps.uitofp FTy.f32 (IntOp.cmpi CmpIPredicate.eq (IntOp.addi (BitVec.ofNat 32 a) 0#32) (BitVec.ofNat 32 b)) : Ideal .f32) = (((if a = b then 1 else 0 : ℝ)) : EReal) := by
  have : ∀ a b : Fin 4, IntOp.cmpi CmpIPredicate.eq (IntOp.addi (BitVec.ofNat 32 a.val) 0#32) (BitVec.ofNat 32 b.val) = if a.val = b.val then 1#1 else 0#1 := by decide +kernel
  have h := this ⟨a, ha⟩ ⟨b, hb⟩
  simp only at h
  rw [h]
  change (((if a = b then 1#1 else 0#1 : BitVec 1).toNat : ℝ) : EReal) = _
  split_ifs <;> simp

theorem V17 {c : Dev nD} (h : In m X DY S w c) (e : Fin 256) : (V m c main_v17 : Vec Ideal S1x256 .f32) (ix2 (0 : Fin 1) e) = ((S e : ℝ) : EReal) := by
  refine Eq.trans ?_ (h.ds e)
  unfold V
  after_reads_at

theorem bd_coe (d e : Fin 256) : (((if d.val / 64 = e.val / 64 then 1 else 0 : ℝ)) : EReal) * ((w ⟨d.val / 64, by omega⟩ ⟨d.val % 64, by omega⟩ ⟨e.val % 64, by omega⟩ : ℝ) : EReal) = ((bd w d e : ℝ) : EReal) := by
  unfold bd
  rw [← EReal.coe_mul]
  split_ifs <;> simp

theorem V14 {c : Dev nD} (h : In m X DY S w c) (d e : Fin 256) : (V m c main_v14 : Vec Ideal S256x256 .bf16) (ix2 d e) = ((bd w d e : ℝ) : EReal) := by
  unfold V
  after_reads_at
  exact (congrArg₂ (fun a b : EReal => a * b) (eye (d.val / 64) (e.val / 64) (by omega) (by omega)) (h.dw ⟨d.val / 64, by omega⟩ ⟨d.val % 64, by omega⟩ ⟨e.val % 64, by omega⟩)).trans (bd_coe d e)

theorem V16 {c : Dev nD} (h : In m X DY S w c) (e d : Fin 256) : (V m c main_v16 : Vec Ideal S256x256 .bf16) (ix2 e d) = ((bd w d e : ℝ) : EReal) := by
  unfold V
  after_reads_at
  exact (congrArg₂ (fun a b : EReal => a * b) (eye (d.val / 64) (e.val / 64) (by omega) (by omega)) (h.dw ⟨d.val / 64, by omega⟩ ⟨d.val % 64, by omega⟩ ⟨e.val % 64, by omega⟩)).trans (bd_coe d e)

/-! ## The blocks -/

theorem idx_0 : ∀ t : Fin cfg0.N, win0_0.index t 0 = 7 - t.val ∧ win0_0.index t 1 = 8 := by decide +kernel
theorem idx_1 : ∀ t : Fin cfg0.N, win0_1.index t 0 = (7 - t.val) * 32 - 1 ∧ win0_1.index t 1 = 8 := by decide +kernel
theorem idx_2 : ∀ t : Fin cfg0.N, win0_2.index t 0 = 7 - t.val ∧ win0_2.index t 1 = 3 := by decide +kernel
theorem idx_3 : ∀ t : Fin cfg0.N, win0_3.index t 0 = 0 ∧ win0_3.index t 1 = 0 := by decide +kernel
theorem idx_4 : ∀ t : Fin cfg0.N, win0_4.index t 0 = 0 ∧ win0_4.index t 1 = 0 := by decide +kernel
theorem idx_5 : ∀ t : Fin cfg0.N, win0_5.index t 0 = 0 ∧ win0_5.index t 1 = 0 := by decide +kernel
theorem idx_6 : ∀ t : Fin cfg0.N, win0_6.index t 0 = 7 - t.val ∧ win0_6.index t 1 = 8 := by decide +kernel
theorem crd : ∀ t : Fin cfg0.N, ((grid0.coords t) 0).val = t.val := by decide +kernel

theorem base_eq (t : Fin cfg0.N) : base (grid0.coords t) = 512 * (7 - t.val) := by unfold base; rw [crd]

theorem t_lt (t : Fin cfg0.N) : t.val < 8 := by have := t.isLt; have hN : cfg0.N = 8 := N_0; omega

theorem holds {c : Dev nD} (h : In m X DY S w c) (t : Fin cfg0.N) :
    Holds X DY S (bd w) (grid0.coords t) (iblk m c 0 t) (iblk m c 1 t) (iblk m c 2 t) (iblk m c 3 t) (iblk m c 4 t) (iblk m c 5 t) where
  x0 r d := by
    have ht := t_lt t
    rw [base_eq, ← h.z ⟨512 * (7 - t.val) + r.val, by omega⟩ d, ← V_main_arg0 m c]
    unfold iblk
    rw [View.read_apply]
    refine congrArg (V m c main_arg0) (funext fun a => Fin.ext ?_)
    match a with
    | ⟨0, _⟩ => show win0_0.index t 0 * 512 + 1 * r.val = 512 * (7 - t.val) + r.val; rw [(idx_0 t).1]; omega
    | ⟨1, _⟩ => show win0_0.index t 1 * 256 + 1 * d.val = 2048 + d.val; rw [(idx_0 t).2]; omega
  x1 hb r d := by
    have ht := t_lt t
    rw [base_eq] at hb ⊢
    rw [← h.z ⟨512 * (7 - t.val) + r.val - 16, by omega⟩ d, ← V_main_arg0 m c]
    unfold iblk
    rw [View.read_apply]
    refine congrArg (V m c main_arg0) (funext fun a => Fin.ext ?_)
    match a with
    | ⟨0, _⟩ => show win0_1.index t 0 * 16 + 1 * r.val = 512 * (7 - t.val) + r.val - 16; rw [(idx_1 t).1]; omega
    | ⟨1, _⟩ => show win0_1.index t 1 * 256 + 1 * d.val = 2048 + d.val; rw [(idx_1 t).2]; omega
  x2 r d := by
    have ht := t_lt t
    rw [base_eq, ← h.dmix ⟨512 * (7 - t.val) + r.val, by omega⟩ d, ← V_main_arg2 m c]
    unfold iblk
    rw [View.read_apply]
    refine congrArg (V m c main_arg2) (funext fun a => Fin.ext ?_)
    match a with
    | ⟨0, _⟩ => show win0_2.index t 0 * 512 + 1 * r.val = 512 * (7 - t.val) + r.val; rw [(idx_2 t).1]; omega
    | ⟨1, _⟩ => show win0_2.index t 1 * 256 + 1 * d.val = 768 + d.val; rw [(idx_2 t).2]; omega
  x3 d e := by
    rw [← V14 m h]
    unfold iblk
    rw [View.read_apply]
    refine congrArg (V m c main_v14) (funext fun a => Fin.ext ?_)
    match a with
    | ⟨0, _⟩ => show win0_3.index t 0 * 256 + 1 * d.val = d.val; rw [(idx_3 t).1]; omega
    | ⟨1, _⟩ => show win0_3.index t 1 * 256 + 1 * e.val = e.val; rw [(idx_3 t).2]; omega
  x4 e d := by
    rw [← V16 m h]
    unfold iblk
    rw [View.read_apply]
    refine congrArg (V m c main_v16) (funext fun a => Fin.ext ?_)
    match a with
    | ⟨0, _⟩ => show win0_4.index t 0 * 256 + 1 * e.val = e.val; rw [(idx_4 t).1]; omega
    | ⟨1, _⟩ => show win0_4.index t 1 * 256 + 1 * d.val = d.val; rw [(idx_4 t).2]; omega
  x5 e := by
    rw [← V17 m h]
    unfold iblk
    rw [View.read_apply]
    refine congrArg (V m c main_v17) (funext fun a => Fin.ext ?_)
    match a with
    | ⟨0, _⟩ => show win0_5.index t 0 * 1 + 1 * 0 = 0; rw [(idx_5 t).1]
    | ⟨1, _⟩ => show win0_5.index t 1 * 256 + 1 * e.val = e.val; rw [(idx_5 t).2]; omega

/-! ## The grid -/

/-- What a grid point leaves: its block, the two gradients over the tokens from its block on, the rows carried on. -/
structure Left (X DY : ℕ → Fin 256 → ℝ) (S : Fin 256 → ℝ) (W : Fin 256 → Fin 256 → ℝ) (b : ℕ)
    (v : Vec Ideal S512x256 .bf16 × Vec Ideal S256x256 .f32 × Vec Ideal S1x256 .f32 × Vec Ideal S16x256 .f32) : Prop where
  v6 : ∀ (r : Fin 512) (d : Fin 256), v.1 (ix2 r d) = ((dz DY S W (b + r.val) d : ℝ) : EReal)
  v7 : ∀ d e : Fin 256, v.2.1 (ix2 d e) = ((dwd X DY S b d e : ℝ) : EReal)
  v8 : ∀ e : Fin 256, v.2.2.1 (ix2 (0 : Fin 1) e) = ((dsc X DY W b e : ℝ) : EReal)
  vs : ∀ (r : Fin 16) (d : Fin 256), v.2.2.2 (ix2 r d) = ((en DY S W (b + r.val) d : ℝ) : EReal)

theorem left {c : Dev nD} (h : In m X DY S w c) : ∀ (n : ℕ) (hn : n < cfg0.N), Left X DY S (bd w) (512 * (7 - n)) (outsAt0 m c n hn)
  | 0, hn => by
    have hh := holds m h ⟨0, hn⟩
    have hb := base_eq ⟨0, hn⟩
    rw [show outsAt0 m c 0 hn = _ from outsAt0_A m c ⟨0, hn⟩ rfl, out0_A_6_eq, out0_A_7_eq, out0_A_8_eq, sout0_A_1_eq]
    have e2 : ∀ (r : Fin 16) (d : Fin 256), k0_pay2 (F := Ideal) (ix2 r d) = ((en DY S (bd w) (4096 + r.val) d : ℝ) : EReal) := fun r d => by
      pointwise [k0_pay2]; unfold en; rw [if_neg (by omega)]; simp
    have e3 : ∀ d e : Fin 256, k0_pay3 (F := Ideal) (ix2 d e) = ((dwd X DY S 4096 d e : ℝ) : EReal) := fun d e => by
      pointwise [k0_pay3]; unfold dwd; simp
    have e4 : ∀ e : Fin 256, k0_pay4 (F := Ideal) (ix2 (0 : Fin 1) e) = ((dsc X DY (bd w) 4096 e : ℝ) : EReal) := fun e => by
      pointwise [k0_pay4]; unfold dsc; simp
    have hb' : 4096 = base (grid0.coords ⟨0, hn⟩) + 512 := by rw [hb]; rfl
    rw [hb'] at e2 e3 e4
    simp only at hb
    rw [← hb]
    exact ⟨o6_apply hh e2, o7_apply hh _ e3, o8_apply hh _ e4, s1_apply hh⟩
  | n + 1, hn => by
    have hN : cfg0.N = 8 := N_0
    have hh := holds m h ⟨n + 1, hn⟩
    have hb := base_eq ⟨n + 1, hn⟩
    have ih := left h n (by omega)
    have hB : ¬(⟨n + 1, hn⟩ : Fin cfg0.N).val % 8 = 0 := by simp only; omega
    rw [show outsAt0 m c (n + 1) hn = _ from outsAt0_B m c ⟨n + 1, hn⟩ hB, out0_B_6_eq, out0_B_7_eq, out0_B_8_eq, sout0_B_1_eq]
    simp only [Nat.add_sub_cancel]
    have hs : 512 * (7 - n) = base (grid0.coords ⟨n + 1, hn⟩) + 512 := by rw [hb]; simp only; omega
    simp only at hb
    rw [hs] at ih
    rw [← hb]
    exact ⟨o6_apply hh ih.vs, o7_apply hh _ ih.v7, o8_apply hh _ ih.v8, s1_apply hh⟩

/-! ## The arrays -/

theorem mem6 (t : Fin cfg0.N) (p : Fin 4096) (q : Fin 2304) (hm : (ix2 p q : S4096x2304.Idx) ∈ ((cfg0.win 6).blk t).view.set) : 2048 ≤ q.val := by
  change (ix2 p q : S4096x2304.Idx) ∈ ((View.whole main_v18_0).slice (win0_6.rect t)).set at hm
  rw [View.set_slice_whole, Rect.mem_set_unit] at hm
  have := (hm 1).1
  change win0_6.index t 1 * 256 ≤ q.val at this
  rw [(idx_6 t).2] at this
  omega

theorem emb6 (t : Fin cfg0.N) (r : Fin 512) (d : Fin 256) (ht : t.val < 8) :
    ((cfg0.win 6).blk t).view.emb (ix2 r d) = (ix2 (⟨512 * (7 - t.val) + r.val, by omega⟩ : Fin 4096) (⟨2048 + d.val, by omega⟩ : Fin 2304) : S4096x2304.Idx) := funext fun a => Fin.ext (by
    match a with
    | ⟨0, _⟩ => show win0_6.index t 0 * 512 + 1 * r.val = 512 * (7 - t.val) + r.val; rw [(idx_6 t).1]; omega
    | ⟨1, _⟩ => show win0_6.index t 1 * 256 + 1 * d.val = 2048 + d.val; rw [(idx_6 t).2]; omega)

/-- The gradient's last 256 columns. -/
theorem final6_in {c : Dev nD} (h : In m X DY S w c) (p : Fin 4096) (d : Fin 256) :
    ((dats m 0 c).arrAt 6 cfg0.N : Vec Ideal S4096x2304 .bf16) (ix2 p (⟨2048 + d.val, by omega⟩ : Fin 2304)) = ((dz DY S (bd w) p.val d : ℝ) : EReal) := by
  have hN : cfg0.N = 8 := N_0
  let t : Fin cfg0.N := ⟨7 - p.val / 512, by omega⟩
  have hb := blocks6 m c t (flush0_6 t)
  rw [flushed6] at hb
  have hb' := congrFun hb (ix2 (⟨p.val % 512, by omega⟩ : Fin 512) d)
  rw [View.read_apply, emb6 t _ _ (by simp only [t]; omega)] at hb'
  have hp : 512 * (7 - t.val) + p.val % 512 = p.val := by simp only [t]; omega
  have e : (⟨512 * (7 - t.val) + p.val % 512, by omega⟩ : Fin 4096) = p := Fin.ext hp
  refine Eq.trans ?_ ((hb'.trans ((left m h t.val t.isLt).v6 ⟨p.val % 512, by omega⟩ d)).trans ?_)
  · simp only [e]; rfl
  · simp only [hp]

/-- The gradient's other columns are as they came. -/
theorem final6_out (c : Dev nD) (p : Fin 4096) (q : Fin 2304) (hq : q.val < 2048) :
    ((dats m 0 c).arrAt 6 cfg0.N : Vec Ideal S4096x2304 .bf16) (ix2 p q) = (m ((c : Thread nD τ).loc main_arg1) : Vec Ideal S4096x2304 .bf16) (ix2 p q) := by
  refine (entry6 m c (ix2 p q) fun t _ hm => absurd (mem6 t p q hm) (by omega)).trans ?_
  show (V m c main_v18_0 : Vec Ideal S4096x2304 .bf16) (ix2 p q) = _
  unfold V
  after_reads_at
  rfl

theorem last7 (t : Fin cfg0.N) (h : t.val % 8 = 7) : t.val = 7 := by have := t_lt t; omega

theorem idx_7 : ∀ t : Fin cfg0.N, win0_7.index t 0 = 0 ∧ win0_7.index t 1 = 0 := by decide +kernel
theorem idx_8 : ∀ t : Fin cfg0.N, win0_8.index t 0 = 0 ∧ win0_8.index t 1 = 0 := by decide +kernel

/-- The last grid point. -/
def tl : Fin cfg0.N := ⟨7, by have hN : cfg0.N = 8 := N_0; omega⟩

/-- The weight's gradient is what the last grid point leaves. -/
theorem final7 (c : Dev nD) : (dats m 0 c).arrAt 7 cfg0.N = (outsAt0 m c tl.val tl.isLt).2.1 :=
  (dats m 0 c).arrAt_eq_of_cover 7 (outsAt0 m c tl.val tl.isLt).2.1 (fun t hf => by
    obtain rfl : t = tl := Fin.ext (last7 t ((flush0_7 t).mp hf))
    rw [flushed7]
    have hz' : (fun a => win0_7.index tl a * main_v18_1.ty.shape.size a) = fun _ => 0 := funext fun a => by
      match a with
      | ⟨0, _⟩ => show win0_7.index tl 0 * 256 = 0; rw [(idx_7 tl).1]
      | ⟨1, _⟩ => show win0_7.index tl 1 * 256 = 0; rw [(idx_7 tl).2]
    exact (Memref.read_access_unit_zero (Elt Ideal) main_v18_1 hz' (fun a => by rw [congrFun hz' a]; simp) (outsAt0 m c tl.val tl.isLt).2.1).symm) fun i =>
    ⟨tl, (flush0_7 tl).mpr rfl, by
      show i ∈ ((View.whole main_v18_1).slice (win0_7.rect tl)).set
      rw [View.set_slice_whole, Rect.mem_set_unit]
      intro a
      have h0 : (i 0 : Nat) < 256 := (i 0).isLt
      have h1 : (i 1 : Nat) < 256 := (i 1).isLt
      match a with
      | ⟨0, _⟩ => show win0_7.index tl 0 * 256 ≤ (i 0 : Nat) ∧ (i 0 : Nat) < win0_7.index tl 0 * 256 + 256; rw [(idx_7 tl).1]; omega
      | ⟨1, _⟩ => show win0_7.index tl 1 * 256 ≤ (i 1 : Nat) ∧ (i 1 : Nat) < win0_7.index tl 1 * 256 + 256; rw [(idx_7 tl).2]; omega⟩

/-- The scale's gradient is what the last grid point leaves. -/
theorem final8 (c : Dev nD) : (dats m 0 c).arrAt 8 cfg0.N = (outsAt0 m c tl.val tl.isLt).2.2.1 :=
  (dats m 0 c).arrAt_eq_of_cover 8 (outsAt0 m c tl.val tl.isLt).2.2.1 (fun t hf => by
    obtain rfl : t = tl := Fin.ext (last7 t ((flush0_8 t).mp hf))
    rw [flushed8]
    have hz' : (fun a => win0_8.index tl a * main_v18_2.ty.shape.size a) = fun _ => 0 := funext fun a => by
      match a with
      | ⟨0, _⟩ => show win0_8.index tl 0 * 1 = 0; rw [(idx_8 tl).1]
      | ⟨1, _⟩ => show win0_8.index tl 1 * 256 = 0; rw [(idx_8 tl).2]
    exact (Memref.read_access_unit_zero (Elt Ideal) main_v18_2 hz' (fun a => by rw [congrFun hz' a]; simp) (outsAt0 m c tl.val tl.isLt).2.2.1).symm) fun i =>
    ⟨tl, (flush0_8 tl).mpr rfl, by
      show i ∈ ((View.whole main_v18_2).slice (win0_8.rect tl)).set
      rw [View.set_slice_whole, Rect.mem_set_unit]
      intro a
      have h0 : (i 0 : Nat) < 1 := (i 0).isLt
      have h1 : (i 1 : Nat) < 256 := (i 1).isLt
      match a with
      | ⟨0, _⟩ => show win0_8.index tl 0 * 1 ≤ (i 0 : Nat) ∧ (i 0 : Nat) < win0_8.index tl 0 * 1 + 1; rw [(idx_8 tl).1]; omega
      | ⟨1, _⟩ => show win0_8.index tl 1 * 256 ≤ (i 1 : Nat) ∧ (i 1 : Nat) < win0_8.index tl 1 * 256 + 256; rw [(idx_8 tl).2]; omega⟩

theorem final7_apply {c : Dev nD} (h : In m X DY S w c) (d e : Fin 256) :
    ((dats m 0 c).arrAt 7 cfg0.N : Vec Ideal S256x256 .f32) (ix2 d e) = ((dwd X DY S 0 d e : ℝ) : EReal) := by
  rw [final7]; exact (left m h tl.val tl.isLt).v7 d e

theorem final8_apply {c : Dev nD} (h : In m X DY S w c) (e : Fin 256) :
    ((dats m 0 c).arrAt 8 cfg0.N : Vec Ideal S1x256 .f32) (ix2 (0 : Fin 1) e) = ((dsc X DY (bd w) 0 e : ℝ) : EReal) := by
  rw [final8]; exact (left m h tl.val tl.isLt).v8 e

end Cert.KernelIdeal.Body
end
-- ==== Proof.PoolStages.lean ====
module

public import proofs.«01_k».proof.Proof.Gen.ReferenceIdeal
public import Idealize.ShloMosaic.Lib.StableHlo.Run
public import Idealize.ShloMosaic.Lib.Pipeline.Value
public import Idealize.ShloMosaic.PureOps.Ideal.Laws

/-! The reference's three results as a chain of named stages (the pooled values,
    the product with the weights, the gradients of both, and the gradient carried back through the prefix sums). -/

@[expose] public section
set_option maxRecDepth 16384
noncomputable section
namespace Cert.ReferenceIdeal.Read
open Cert.ReferenceIdeal Cert.ReferenceIdeal.Gen Idealize.ShloMosaic Idealize.ShloMosaic.TcCoe Idealize.SL.Sem Idealize.ShloMosaic.StableHlo

/-- The contents of a buffer of 32-bit numbers. -/
abbrev Arr (F : FTy → Type) (S : Shape) : Type := (⟨S, .f32⟩ : BufTy).Contents (Elt F)

section
variable {F : FTy → Type} [FloatOps F]

/-- Arrays put next to each other (`main_v13`). -/
def fn_main_v13 : Arr F S1x2x64 → Arr F S1x4094x64 → Arr F S1x4096x64 :=
  (fun a b => concatenate S1x4096x64 1 [⟨S1x2x64, a⟩, ⟨S1x4094x64, b⟩] concatenates_S1x2x64_S1x4094x64_S1x4096x64_d1)

/-- Arrays put next to each other (`main_v26`). -/
def fn_main_v26 : Arr F S1x4x64 → Arr F S1x4092x64 → Arr F S1x4096x64 :=
  (fun a b => concatenate S1x4096x64 1 [⟨S1x4x64, a⟩, ⟨S1x4092x64, b⟩] concatenates_S1x4x64_S1x4092x64_S1x4096x64_d1)

/-- Arrays put next to each other (`main_v39`). -/
def fn_main_v39 : Arr F S1x8x64 → Arr F S1x4088x64 → Arr F S1x4096x64 :=
  (fun a b => concatenate S1x4096x64 1 [⟨S1x8x64, a⟩, ⟨S1x4088x64, b⟩] concatenates_S1x8x64_S1x4088x64_S1x4096x64_d1)

/-- Arrays put next to each other (`main_v52`). -/
def fn_main_v52 : Arr F S1x16x64 → Arr F S1x4080x64 → Arr F S1x4096x64 :=
  (fun a b => concatenate S1x4096x64 1 [⟨S1x16x64, a⟩, ⟨S1x4080x64, b⟩] concatenates_S1x16x64_S1x4080x64_S1x4096x64_d1)

/-- Arrays put next to each other (`main_v65`). -/
def fn_main_v65 : (main_v61 : Ref sig .tc).ty.Contents (Elt F) → (main_v62 : Ref sig .tc).ty.Contents (Elt F) → (main_v63 : Ref sig .tc).ty.Contents (Elt F) → (main_v64 : Ref sig .tc).ty.Contents (Elt F) → (main_v65 : Ref sig .tc).ty.Contents (Elt F) :=
  (fun u0 u1 u2 u3 => (concatenate S1x4096x4x64 2 [⟨S1x4096x1x64, (u0 : Arr F S1x4096x1x64)⟩, ⟨S1x4096x1x64, (u1 : Arr F S1x4096x1x64)⟩, ⟨S1x4096x1x64, (u2 : Arr F S1x4096x1x64)⟩, ⟨S1x4096x1x64, (u3 : Arr F S1x4096x1x64)⟩] concatenates_S1x4096x1x64_S1x4096x1x64_S1x4096x1x64_S1x4096x1x64_S1x4096x4x64_d2 : Arr F S1x4096x4x64))

/-- Arrays put next to each other (`main_v143`). -/
def fn_main_v143 : (⟨S4096x2048, .bf16⟩ : BufTy).Contents (Elt F) → (⟨S4096x256, .bf16⟩ : BufTy).Contents (Elt F) → (⟨S4096x2304, .bf16⟩ : BufTy).Contents (Elt F) :=
  (fun a b => concatenate S4096x2304 1 [⟨S4096x2048, a⟩, ⟨S4096x256, b⟩] concatenates_S4096x2048_S4096x256_S4096x2304_d1)

/-- Arrays put next to each other (`main_v145`). -/
def fn_main_v145 : (main_v144 : Ref sig .tc).ty.Contents (Elt F) → (main_v144 : Ref sig .tc).ty.Contents (Elt F) → (main_v144 : Ref sig .tc).ty.Contents (Elt F) → (main_v144 : Ref sig .tc).ty.Contents (Elt F) → (main_v145 : Ref sig .tc).ty.Contents (Elt F) :=
  (fun u0 u1 u2 u3 => (concatenate S256x256 1 [⟨S256x64, (u0 : Arr F S256x64)⟩, ⟨S256x64, (u1 : Arr F S256x64)⟩, ⟨S256x64, (u2 : Arr F S256x64)⟩, ⟨S256x64, (u3 : Arr F S256x64)⟩] concatenates_S256x64_S256x64_S256x64_S256x64_S256x256_d1 : Arr F S256x256))

end

/-- The mixer's part of the incoming gradient. -/
def rDY (arg2 : FVec Ideal S4096x1024 .f32) : FVec Ideal S1x4096x256 .f32 :=
  have v0 : FVec Ideal S4096x256 .f32 := ((extractStridedSlice S4096x256 ![0, 768] · slices_S4096x1024_S4096x256_0_768)) arg2
  have v1 : FVec Ideal S1x4096x256 .f32 := (broadcastInDim S1x4096x256 ![1, 2] bcast_S4096x256_S1x4096x256_1_2) v0
  v1

/-- The mixer's part of the projection. -/
def rX (arg0 : FVec Ideal S4096x2304 .f32) : FVec Ideal S1x4096x256 .f32 :=
  have v2 : FVec Ideal S4096x256 .f32 := ((extractStridedSlice S4096x256 ![0, 2048] · slices_S4096x2304_S4096x256_0_2048)) arg0
  have v3 : FVec Ideal S1x4096x256 .f32 := (broadcastInDim S1x4096x256 ![1, 2] bcast_S4096x256_S1x4096x256_1_2) v2
  v3

/-- The prefix sums along the tokens. -/
def rCs (v3 : FVec Ideal S1x4096x256 .f32) : FVec Ideal S1x4096x256 .f32 :=
  have c0cst : FVec Ideal S_ .f32 := (constant S_ .f32 0x00000000#32)
  have c0v0 : FVec Ideal S_ .f32 := (broadcastInDim S_ ![] bcast_S_S_) c0cst
  have v4 : FVec Ideal S1x4096x256 .f32 := (fun x v => Host.reduceWindowAdd ![1, 4096, 1] ![1, 1, 1] ![0, 4095, 0] ![0, 0, 0] x v reduceWindows_S1x4096x256_S1x4096x256_w1s1p0_0_w4096s1p4095_0_w1s1p0_0 h_S_) v3 c0v0
  v4

/-- The tokens' positions, counted from one. -/
def rPos  : FVec Ideal S1x4096x1 .f32 :=
  have cst : FVec Ideal S_ .f32 := (constant S_ .f32 0x3F800000#32)
  have v6 : FVec Ideal S4096 .f32 := (broadcastInDim S4096 ![] bcast_S_S4096) cst
  have v5 : FVec Ideal S4096 .f32 := (sitofp .f32 (iotaInDim S4096 32 0))
  have v7 : FVec Ideal S4096 .f32 := (addf) v6 v5
  have v8 : FVec Ideal S1x4096x1 .f32 := (broadcastInDim S1x4096x1 ![1] bcast_S4096_S1x4096x1_1) v7
  v8

/-- The first head: means over two tokens, less the token. -/
def rP0 (v4 : FVec Ideal S1x4096x256 .f32) (v8 : FVec Ideal S1x4096x1 .f32) (v3 : FVec Ideal S1x4096x256 .f32) : FVec Ideal S1x4096x64 .f32 :=
  have v9 : FVec Ideal S1x4096x64 .f32 := ((extractStridedSlice S1x4096x64 ![0, 0, 0] · slices_S1x4096x256_S1x4096x64_0_0_0)) v4
  have cst_0 : FVec Ideal S_ .f32 := (constant S_ .f32 0x00000000#32)
  have v11 : FVec Ideal S1x2x64 .f32 := (broadcastInDim S1x2x64 ![] bcast_S_S1x2x64) cst_0
  have v12 : FVec Ideal S1x4094x64 .f32 := ((extractStridedSlice S1x4094x64 ![0, 0, 0] · slices_S1x4096x64_S1x4094x64_0_0_0)) v9
  have v13 : FVec Ideal S1x4096x64 .f32 := (fn_main_v13 (F := Ideal)) v11 v12
  have v15 : FVec Ideal S1x4096x64 .f32 := (subf) v9 v13
  have cst_2 : FVec Ideal S_ .f32 := (constant S_ .f32 0x40000000#32)
  have v16 : FVec Ideal S1x4096x1 .f32 := (broadcastInDim S1x4096x1 ![] bcast_S_S1x4096x1) cst_2
  have v17 : FVec Ideal S1x4096x1 .f32 := (minimumf) v8 v16
  have v18 : FVec Ideal S1x4096x64 .f32 := (broadcastInDim S1x4096x64 ![0, 1, 2] bcast_S1x4096x1_S1x4096x64_0_1_2) v17
  have v19 : FVec Ideal S1x4096x64 .f32 := (Host.divf) v15 v18
  have v20 : FVec Ideal S1x4096x64 .f32 := ((extractStridedSlice S1x4096x64 ![0, 0, 0] · slices_S1x4096x256_S1x4096x64_0_0_0)) v3
  have v21 : FVec Ideal S1x4096x64 .f32 := (subf) v19 v20
  v21

/-- The second head: means over four tokens, less the token. -/
def rP1 (v4 : FVec Ideal S1x4096x256 .f32) (v8 : FVec Ideal S1x4096x1 .f32) (v3 : FVec Ideal S1x4096x256 .f32) : FVec Ideal S1x4096x64 .f32 :=
  have v22 : FVec Ideal S1x4096x64 .f32 := ((extractStridedSlice S1x4096x64 ![0, 0, 64] · slices_S1x4096x256_S1x4096x64_0_0_64)) v4
  have cst_3 : FVec Ideal S_ .f32 := (constant S_ .f32 0x00000000#32)
  have v24 : FVec Ideal S1x4x64 .f32 := (broadcastInDim S1x4x64 ![] bcast_S_S1x4x64) cst_3
  have v25 : FVec Ideal S1x4092x64 .f32 := ((extractStridedSlice S1x4092x64 ![0, 0, 0] · slices_S1x4096x64_S1x4092x64_0_0_0)) v22
  have v26 : FVec Ideal S1x4096x64 .f32 := (fn_main_v26 (F := Ideal)) v24 v25
  have v28 : FVec Ideal S1x4096x64 .f32 := (subf) v22 v26
  have cst_5 : FVec Ideal S_ .f32 := (constant S_ .f32 0x40800000#32)
  have v29 : FVec Ideal S1x4096x1 .f32 := (broadcastInDim S1x4096x1 ![] bcast_S_S1x4096x1) cst_5
  have v30 : FVec Ideal S1x4096x1 .f32 := (minimumf) v8 v29
  have v31 : FVec Ideal S1x4096x64 .f32 := (broadcastInDim S1x4096x64 ![0, 1, 2] bcast_S1x4096x1_S1x4096x64_0_1_2) v30
  have v32 : FVec Ideal S1x4096x64 .f32 := (Host.divf) v28 v31
  have v33 : FVec Ideal S1x4096x64 .f32 := ((extractStridedSlice S1x4096x64 ![0, 0, 64] · slices_S1x4096x256_S1x4096x64_0_0_64)) v3
  have v34 : FVec Ideal S1x4096x64 .f32 := (subf) v32 v33
  v34

/-- The third head: means over eight tokens, less the token. -/
def rP2 (v4 : FVec Ideal S1x4096x256 .f32) (v8 : FVec Ideal S1x4096x1 .f32) (v3 : FVec Ideal S1x4096x256 .f32) : FVec Ideal S1x4096x64 .f32 :=
  have v35 : FVec Ideal S1x4096x64 .f32 := ((extractStridedSlice S1x4096x64 ![0, 0, 128] · slices_S1x4096x256_S1x4096x64_0_0_128)) v4
  have cst_6 : FVec Ideal S_ .f32 := (constant S_ .f32 0x00000000#32)
  have v37 : FVec Ideal S1x8x64 .f32 := (broadcastInDim S1x8x64 ![] bcast_S_S1x8x64) cst_6
  have v38 : FVec Ideal S1x4088x64 .f32 := ((extractStridedSlice S1x4088x64 ![0, 0, 0] · slices_S1x4096x64_S1x4088x64_0_0_0)) v35
  have v39 : FVec Ideal S1x4096x64 .f32 := (fn_main_v39 (F := Ideal)) v37 v38
  have v41 : FVec Ideal S1x4096x64 .f32 := (subf) v35 v39
  have cst_8 : FVec Ideal S_ .f32 := (constant S_ .f32 0x41000000#32)
  have v42 : FVec Ideal S1x4096x1 .f32 := (broadcastInDim S1x4096x1 ![] bcast_S_S1x4096x1) cst_8
  have v43 : FVec Ideal S1x4096x1 .f32 := (minimumf) v8 v42
  have v44 : FVec Ideal S1x4096x64 .f32 := (broadcastInDim S1x4096x64 ![0, 1, 2] bcast_S1x4096x1_S1x4096x64_0_1_2) v43
  have v45 : FVec Ideal S1x4096x64 .f32 := (Host.divf) v41 v44
  have v46 : FVec Ideal S1x4096x64 .f32 := ((extractStridedSlice S1x4096x64 ![0, 0, 128] · slices_S1x4096x256_S1x4096x64_0_0_128)) v3
  have v47 : FVec Ideal S1x4096x64 .f32 := (subf) v45 v46
  v47

/-- The fourth head: means over sixteen tokens, less the token. -/
def rP3 (v4 : FVec Ideal S1x4096x256 .f32) (v8 : FVec Ideal S1x4096x1 .f32) (v3 : FVec Ideal S1x4096x256 .f32) : FVec Ideal S1x4096x64 .f32 :=
  have v48 : FVec Ideal S1x4096x64 .f32 := ((extractStridedSlice S1x4096x64 ![0, 0, 192] · slices_S1x4096x256_S1x4096x64_0_0_192)) v4
  have cst_9 : FVec Ideal S_ .f32 := (constant S_ .f32 0x00000000#32)
  have v50 : FVec Ideal S1x16x64 .f32 := (broadcastInDim S1x16x64 ![] bcast_S_S1x16x64) cst_9
  have v51 : FVec Ideal S1x4080x64 .f32 := ((extractStridedSlice S1x4080x64 ![0, 0, 0] · slices_S1x4096x64_S1x4080x64_0_0_0)) v48
  have v52 : FVec Ideal S1x4096x64 .f32 := (fn_main_v52 (F := Ideal)) v50 v51
  have v54 : FVec Ideal S1x4096x64 .f32 := (subf) v48 v52
  have cst_11 : FVec Ideal S_ .f32 := (constant S_ .f32 0x41800000#32)
  have v55 : FVec Ideal S1x4096x1 .f32 := (broadcastInDim S1x4096x1 ![] bcast_S_S1x4096x1) cst_11
  have v56 : FVec Ideal S1x4096x1 .f32 := (minimumf) v8 v55
  have v57 : FVec Ideal S1x4096x64 .f32 := (broadcastInDim S1x4096x64 ![0, 1, 2] bcast_S1x4096x1_S1x4096x64_0_1_2) v56
  have v58 : FVec Ideal S1x4096x64 .f32 := (Host.divf) v54 v57
  have v59 : FVec Ideal S1x4096x64 .f32 := ((extractStridedSlice S1x4096x64 ![0, 0, 192] · slices_S1x4096x256_S1x4096x64_0_0_192)) v3
  have v60 : FVec Ideal S1x4096x64 .f32 := (subf) v58 v59
  v60

/-- The heads next to each other. -/
def rPool (v21 : FVec Ideal S1x4096x64 .f32) (v34 : FVec Ideal S1x4096x64 .f32) (v47 : FVec Ideal S1x4096x64 .f32) (v60 : FVec Ideal S1x4096x64 .f32) : FVec Ideal S1x4096x4x64 .f32 :=
  have v61 : FVec Ideal S1x4096x1x64 .f32 := (broadcastInDim S1x4096x1x64 ![0, 1, 3] bcast_S1x4096x64_S1x4096x1x64_0_1_3) v21
  have v62 : FVec Ideal S1x4096x1x64 .f32 := (broadcastInDim S1x4096x1x64 ![0, 1, 3] bcast_S1x4096x64_S1x4096x1x64_0_1_3) v34
  have v63 : FVec Ideal S1x4096x1x64 .f32 := (broadcastInDim S1x4096x1x64 ![0, 1, 3] bcast_S1x4096x64_S1x4096x1x64_0_1_3) v47
  have v64 : FVec Ideal S1x4096x1x64 .f32 := (broadcastInDim S1x4096x1x64 ![0, 1, 3] bcast_S1x4096x64_S1x4096x1x64_0_1_3) v60
  have v65 : FVec Ideal S1x4096x4x64 .f32 := fn_main_v65 (F := Ideal) v61 v62 v63 v64
  v65

/-- The pooled values times the weights. -/
def rY (arg3 : FVec Ideal S4x64x64 .f32) (v65 : FVec Ideal S1x4096x4x64 .f32) : FVec Ideal S1x4096x256 .f32 :=
  have v66 : FVec Ideal S4x64x1x4096 .f32 := ((fun l r => Host.dotGeneral dot_S4x64x64_S1x4096x4x64_S4x64x1x4096_1_3_2_01_0_2 none l r)) arg3 v65
  have v67 : FVec Ideal S1x4096x4x64 .f32 := ((transpose S1x4096x4x64 [2, 3, 0, 1] · transposes_S4x64x1x4096_S1x4096x4x64_2_3_0_1)) v66
  have v68 : FVec Ideal S1x4096x256 .f32 := (shapeCast S1x4096x256 · shapeCasts_S1x4096x4x64_S1x4096x256) v67
  v68

/-- The scale's gradient. -/
def rDs (v68 : FVec Ideal S1x4096x256 .f32) (v1 : FVec Ideal S1x4096x256 .f32) : FVec Ideal S1x256 .f32 :=
  have v72 : FVec Ideal S1x4096x256 .f32 := (mulf) v68 v1
  have cst_12 : FVec Ideal S_ .f32 := (constant S_ .f32 0x00000000#32)
  have v73 : FVec Ideal S1x256 .f32 := ((fun x v => Host.reduceAdd x v reducesTo_S1x4096x256_S1x256_d1 h_S_)) v72 cst_12
  have v74 : FVec Ideal S1x1x256 .f32 := (shapeCast S1x1x256 · shapeCasts_S1x256_S1x1x256) v73
  have cst_13 : FVec Ideal S_ .f32 := (constant S_ .f32 0x00000000#32)
  have v77 : FVec Ideal S256 .f32 := ((fun x v => Host.reduceAdd x v reducesTo_S1x1x256_S256_d0_1 h_S_)) v74 cst_13
  have v146 : FVec Ideal S1x256 .f32 := (shapeCast S1x256 · shapeCasts_S256_S1x256) v77
  v146

/-- The incoming gradient times the scale, by heads. -/
def rDy (v1 : FVec Ideal S1x4096x256 .f32) (arg4 : FVec Ideal S256 .f32) : FVec Ideal S4x64x1x4096 .f32 :=
  have v69 : FVec Ideal S1x1x256 .f32 := (broadcastInDim S1x1x256 ![2] bcast_S256_S1x1x256_2) arg4
  have v75 : FVec Ideal S1x4096x256 .f32 := (broadcastInDim S1x4096x256 ![0, 1, 2] bcast_S1x1x256_S1x4096x256_0_1_2) v69
  have v76 : FVec Ideal S1x4096x256 .f32 := (mulf) v1 v75
  have v78 : FVec Ideal S1x4096x4x64 .f32 := (shapeCast S1x4096x4x64 · shapeCasts_S1x4096x256_S1x4096x4x64) v76
  have v79 : FVec Ideal S4x64x1x4096 .f32 := ((transpose S4x64x1x4096 [2, 3, 0, 1] · transposes_S1x4096x4x64_S4x64x1x4096_2_3_0_1)) v78
  v79

/-- The pooled values' gradient. -/
def rG (v79 : FVec Ideal S4x64x1x4096 .f32) (arg3 : FVec Ideal S4x64x64 .f32) : FVec Ideal S1x4096x4x64 .f32 :=
  have v80 : FVec Ideal S4x1x4096x64 .f32 := ((fun l r => Host.dotGeneral dot_S4x64x1x4096_S4x64x64_S4x1x4096x64_1_2_23_1_0_0 none l r)) v79 arg3
  have v81 : FVec Ideal S1x4096x4x64 .f32 := ((transpose S1x4096x4x64 [1, 2, 0, 3] · transposes_S4x1x4096x64_S1x4096x4x64_1_2_0_3)) v80
  v81

/-- The weights' gradient, each block four times. -/
def rDw (v79 : FVec Ideal S4x64x1x4096 .f32) (v65 : FVec Ideal S1x4096x4x64 .f32) : FVec Ideal S256x256 .f32 :=
  have v82 : FVec Ideal S4x64x64 .f32 := ((fun l r => Host.dotGeneral dot_S4x64x1x4096_S1x4096x4x64_S4x64x64_23_01_1_3_0_2 none l r)) v79 v65
  have v83 : FVec Ideal S4x64x64 .f32 := ((transpose S4x64x64 [0, 2, 1] · transposes_S4x64x64_S4x64x64_0_2_1)) v82
  have v144 : FVec Ideal S256x64 .f32 := (shapeCast S256x64 · shapeCasts_S4x64x64_S256x64) v83
  have v145 : FVec Ideal S256x256 .f32 := fn_main_v145 (F := Ideal) v144 v144 v144 v144
  v145

/-- The first head's prefix sums' gradient. -/
def rC0 (v81 : FVec Ideal S1x4096x4x64 .f32) (v8 : FVec Ideal S1x4096x1 .f32) : FVec Ideal S1x4096x64 .f32 :=
  have v84 : FVec Ideal S1x4096x1x64 .f32 := ((extractStridedSlice S1x4096x1x64 ![0, 0, 0, 0] · slices_S1x4096x4x64_S1x4096x1x64_0_0_0_0)) v81
  have v85 : FVec Ideal S1x4096x64 .f32 := (shapeCast S1x4096x64 · shapeCasts_S1x4096x1x64_S1x4096x64) v84
  have cst_2 : FVec Ideal S_ .f32 := (constant S_ .f32 0x40000000#32)
  have v16 : FVec Ideal S1x4096x1 .f32 := (broadcastInDim S1x4096x1 ![] bcast_S_S1x4096x1) cst_2
  have v17 : FVec Ideal S1x4096x1 .f32 := (minimumf) v8 v16
  have v129 : FVec Ideal S1x4096x64 .f32 := (broadcastInDim S1x4096x64 ![0, 1, 2] bcast_S1x4096x1_S1x4096x64_0_1_2) v17
  have v130 : FVec Ideal S1x4096x64 .f32 := (Host.divf) v85 v129
  have v131 : FVec Ideal S1x4096x64 .f32 := (Host.negf) v130
  have v133 : FVec Ideal S1x4094x64 .f32 := ((extractStridedSlice S1x4094x64 ![0, 2, 0] · slices_S1x4096x64_S1x4094x64_0_2_0)) v131
  have cst_24 : FVec Ideal S_ .f32 := (constant S_ .f32 0x00000000#32)
  have v134 : FVec Ideal S1x4096x64 .f32 := ((fun x v => pad S1x4096x64 ![0, 0, 0] ![0, 2, 0] ![0, 0, 0] x v pads_S1x4094x64_S1x4096x64_000_020_000 h_S_)) v133 cst_24
  have v135 : FVec Ideal S1x4096x64 .f32 := (addf) v130 v134
  v135

/-- The second head's prefix sums' gradient. -/
def rC1 (v81 : FVec Ideal S1x4096x4x64 .f32) (v8 : FVec Ideal S1x4096x1 .f32) : FVec Ideal S1x4096x64 .f32 :=
  have v86 : FVec Ideal S1x4096x1x64 .f32 := ((extractStridedSlice S1x4096x1x64 ![0, 0, 1, 0] · slices_S1x4096x4x64_S1x4096x1x64_0_0_1_0)) v81
  have v87 : FVec Ideal S1x4096x64 .f32 := (shapeCast S1x4096x64 · shapeCasts_S1x4096x1x64_S1x4096x64) v86
  have cst_5 : FVec Ideal S_ .f32 := (constant S_ .f32 0x40800000#32)
  have v29 : FVec Ideal S1x4096x1 .f32 := (broadcastInDim S1x4096x1 ![] bcast_S_S1x4096x1) cst_5
  have v30 : FVec Ideal S1x4096x1 .f32 := (minimumf) v8 v29
  have v117 : FVec Ideal S1x4096x64 .f32 := (broadcastInDim S1x4096x64 ![0, 1, 2] bcast_S1x4096x1_S1x4096x64_0_1_2) v30
  have v118 : FVec Ideal S1x4096x64 .f32 := (Host.divf) v87 v117
  have v119 : FVec Ideal S1x4096x64 .f32 := (Host.negf) v118
  have v121 : FVec Ideal S1x4092x64 .f32 := ((extractStridedSlice S1x4092x64 ![0, 4, 0] · slices_S1x4096x64_S1x4092x64_0_4_0)) v119
  have cst_21 : FVec Ideal S_ .f32 := (constant S_ .f32 0x00000000#32)
  have v122 : FVec Ideal S1x4096x64 .f32 := ((fun x v => pad S1x4096x64 ![0, 0, 0] ![0, 4, 0] ![0, 0, 0] x v pads_S1x4092x64_S1x4096x64_000_040_000 h_S_)) v121 cst_21
  have v123 : FVec Ideal S1x4096x64 .f32 := (addf) v118 v122
  v123

/-- The third head's prefix sums' gradient. -/
def rC2 (v81 : FVec Ideal S1x4096x4x64 .f32) (v8 : FVec Ideal S1x4096x1 .f32) : FVec Ideal S1x4096x64 .f32 :=
  have v88 : FVec Ideal S1x4096x1x64 .f32 := ((extractStridedSlice S1x4096x1x64 ![0, 0, 2, 0] · slices_S1x4096x4x64_S1x4096x1x64_0_0_2_0)) v81
  have v89 : FVec Ideal S1x4096x64 .f32 := (shapeCast S1x4096x64 · shapeCasts_S1x4096x1x64_S1x4096x64) v88
  have cst_8 : FVec Ideal S_ .f32 := (constant S_ .f32 0x41000000#32)
  have v42 : FVec Ideal S1x4096x1 .f32 := (broadcastInDim S1x4096x1 ![] bcast_S_S1x4096x1) cst_8
  have v43 : FVec Ideal S1x4096x1 .f32 := (minimumf) v8 v42
  have v105 : FVec Ideal S1x4096x64 .f32 := (broadcastInDim S1x4096x64 ![0, 1, 2] bcast_S1x4096x1_S1x4096x64_0_1_2) v43
  have v106 : FVec Ideal S1x4096x64 .f32 := (Host.divf) v89 v105
  have v107 : FVec Ideal S1x4096x64 .f32 := (Host.negf) v106
  have v109 : FVec Ideal S1x4088x64 .f32 := ((extractStridedSlice S1x4088x64 ![0, 8, 0] · slices_S1x4096x64_S1x4088x64_0_8_0)) v107
  have cst_18 : FVec Ideal S_ .f32 := (constant S_ .f32 0x00000000#32)
  have v110 : FVec Ideal S1x4096x64 .f32 := ((fun x v => pad S1x4096x64 ![0, 0, 0] ![0, 8, 0] ![0, 0, 0] x v pads_S1x4088x64_S1x4096x64_000_080_000 h_S_)) v109 cst_18
  have v111 : FVec Ideal S1x4096x64 .f32 := (addf) v106 v110
  v111

/-- The fourth head's prefix sums' gradient. -/
def rC3 (v81 : FVec Ideal S1x4096x4x64 .f32) (v8 : FVec Ideal S1x4096x1 .f32) : FVec Ideal S1x4096x64 .f32 :=
  have v90 : FVec Ideal S1x4096x1x64 .f32 := ((extractStridedSlice S1x4096x1x64 ![0, 0, 3, 0] · slices_S1x4096x4x64_S1x4096x1x64_0_0_3_0)) v81
  have v91 : FVec Ideal S1x4096x64 .f32 := (shapeCast S1x4096x64 · shapeCasts_S1x4096x1x64_S1x4096x64) v90
  have cst_11 : FVec Ideal S_ .f32 := (constant S_ .f32 0x41800000#32)
  have v55 : FVec Ideal S1x4096x1 .f32 := (broadcastInDim S1x4096x1 ![] bcast_S_S1x4096x1) cst_11
  have v56 : FVec Ideal S1x4096x1 .f32 := (minimumf) v8 v55
  have v94 : FVec Ideal S1x4096x64 .f32 := (broadcastInDim S1x4096x64 ![0, 1, 2] bcast_S1x4096x1_S1x4096x64_0_1_2) v56
  have v95 : FVec Ideal S1x4096x64 .f32 := (Host.divf) v91 v94
  have v96 : FVec Ideal S1x4096x64 .f32 := (Host.negf) v95
  have v98 : FVec Ideal S1x4080x64 .f32 := ((extractStridedSlice S1x4080x64 ![0, 16, 0] · slices_S1x4096x64_S1x4080x64_0_16_0)) v96
  have cst_15 : FVec Ideal S_ .f32 := (constant S_ .f32 0x00000000#32)
  have v99 : FVec Ideal S1x4096x64 .f32 := ((fun x v => pad S1x4096x64 ![0, 0, 0] ![0, 16, 0] ![0, 0, 0] x v pads_S1x4080x64_S1x4096x64_000_0160_000 h_S_)) v98 cst_15
  have v100 : FVec Ideal S1x4096x64 .f32 := (addf) v95 v99
  v100

/-- The prefix sums' gradient. -/
def rC (v100 : FVec Ideal S1x4096x64 .f32) (v111 : FVec Ideal S1x4096x64 .f32) (v123 : FVec Ideal S1x4096x64 .f32) (v135 : FVec Ideal S1x4096x64 .f32) : FVec Ideal S1x4096x256 .f32 :=
  have cst_16 : FVec Ideal S_ .f32 := (constant S_ .f32 0x00000000#32)
  have v101 : FVec Ideal S1x4096x256 .f32 := ((fun x v => pad S1x4096x256 ![0, 0, 192] ![0, 0, 0] ![0, 0, 0] x v pads_S1x4096x64_S1x4096x256_000_000_19200 h_S_)) v100 cst_16
  have cst_19 : FVec Ideal S_ .f32 := (constant S_ .f32 0x00000000#32)
  have v112 : FVec Ideal S1x4096x256 .f32 := ((fun x v => pad S1x4096x256 ![0, 0, 128] ![0, 0, 64] ![0, 0, 0] x v pads_S1x4096x64_S1x4096x256_000_000_128640 h_S_)) v111 cst_19
  have v113 : FVec Ideal S1x4096x256 .f32 := (addf) v101 v112
  have cst_22 : FVec Ideal S_ .f32 := (constant S_ .f32 0x00000000#32)
  have v124 : FVec Ideal S1x4096x256 .f32 := ((fun x v => pad S1x4096x256 ![0, 0, 64] ![0, 0, 128] ![0, 0, 0] x v pads_S1x4096x64_S1x4096x256_000_000_641280 h_S_)) v123 cst_22
  have v125 : FVec Ideal S1x4096x256 .f32 := (addf) v113 v124
  have cst_25 : FVec Ideal S_ .f32 := (constant S_ .f32 0x00000000#32)
  have v136 : FVec Ideal S1x4096x256 .f32 := ((fun x v => pad S1x4096x256 ![0, 0, 0] ![0, 0, 192] ![0, 0, 0] x v pads_S1x4096x64_S1x4096x256_000_000_01920 h_S_)) v135 cst_25
  have v137 : FVec Ideal S1x4096x256 .f32 := (addf) v125 v136
  v137

/-- The pooled values' gradient with the other sign. -/
def rN (v81 : FVec Ideal S1x4096x4x64 .f32) : FVec Ideal S1x4096x256 .f32 :=
  have v90 : FVec Ideal S1x4096x1x64 .f32 := ((extractStridedSlice S1x4096x1x64 ![0, 0, 3, 0] · slices_S1x4096x4x64_S1x4096x1x64_0_0_3_0)) v81
  have v91 : FVec Ideal S1x4096x64 .f32 := (shapeCast S1x4096x64 · shapeCasts_S1x4096x1x64_S1x4096x64) v90
  have v92 : FVec Ideal S1x4096x64 .f32 := (Host.negf) v91
  have cst_14 : FVec Ideal S_ .f32 := (constant S_ .f32 0x00000000#32)
  have v93 : FVec Ideal S1x4096x256 .f32 := ((fun x v => pad S1x4096x256 ![0, 0, 192] ![0, 0, 0] ![0, 0, 0] x v pads_S1x4096x64_S1x4096x256_000_000_19200 h_S_)) v92 cst_14
  have v88 : FVec Ideal S1x4096x1x64 .f32 := ((extractStridedSlice S1x4096x1x64 ![0, 0, 2, 0] · slices_S1x4096x4x64_S1x4096x1x64_0_0_2_0)) v81
  have v89 : FVec Ideal S1x4096x64 .f32 := (shapeCast S1x4096x64 · shapeCasts_S1x4096x1x64_S1x4096x64) v88
  have v102 : FVec Ideal S1x4096x64 .f32 := (Host.negf) v89
  have cst_17 : FVec Ideal S_ .f32 := (constant S_ .f32 0x00000000#32)
  have v103 : FVec Ideal S1x4096x256 .f32 := ((fun x v => pad S1x4096x256 ![0, 0, 128] ![0, 0, 64] ![0, 0, 0] x v pads_S1x4096x64_S1x4096x256_000_000_128640 h_S_)) v102 cst_17
  have v104 : FVec Ideal S1x4096x256 .f32 := (addf) v93 v103
  have v86 : FVec Ideal S1x4096x1x64 .f32 := ((extractStridedSlice S1x4096x1x64 ![0, 0, 1, 0] · slices_S1x4096x4x64_S1x4096x1x64_0_0_1_0)) v81
  have v87 : FVec Ideal S1x4096x64 .f32 := (shapeCast S1x4096x64 · shapeCasts_S1x4096x1x64_S1x4096x64) v86
  have v114 : FVec Ideal S1x4096x64 .f32 := (Host.negf) v87
  have cst_20 : FVec Ideal S_ .f32 := (constant S_ .f32 0x00000000#32)
  have v115 : FVec Ideal S1x4096x256 .f32 := ((fun x v => pad S1x4096x256 ![0, 0, 64] ![0, 0, 128] ![0, 0, 0] x v pads_S1x4096x64_S1x4096x256_000_000_641280 h_S_)) v114 cst_20
  have v116 : FVec Ideal S1x4096x256 .f32 := (addf) v104 v115
  have v84 : FVec Ideal S1x4096x1x64 .f32 := ((extractStridedSlice S1x4096x1x64 ![0, 0, 0, 0] · slices_S1x4096x4x64_S1x4096x1x64_0_0_0_0)) v81
  have v85 : FVec Ideal S1x4096x64 .f32 := (shapeCast S1x4096x64 · shapeCasts_S1x4096x1x64_S1x4096x64) v84
  have v126 : FVec Ideal S1x4096x64 .f32 := (Host.negf) v85
  have cst_23 : FVec Ideal S_ .f32 := (constant S_ .f32 0x00000000#32)
  have v127 : FVec Ideal S1x4096x256 .f32 := ((fun x v => pad S1x4096x256 ![0, 0, 0] ![0, 0, 192] ![0, 0, 0] x v pads_S1x4096x64_S1x4096x256_000_000_01920 h_S_)) v126 cst_23
  have v128 : FVec Ideal S1x4096x256 .f32 := (addf) v116 v127
  v128

/-- The suffix sums along the tokens. -/
def rSuf (v137 : FVec Ideal S1x4096x256 .f32) : FVec Ideal S1x4096x256 .f32 :=
  have c1cst : FVec Ideal S_ .f32 := (constant S_ .f32 0x00000000#32)
  have c1v0 : FVec Ideal S_ .f32 := (broadcastInDim S_ ![] bcast_S_S_) c1cst
  have v138 : FVec Ideal S1x4096x256 .f32 := (fun x v => Host.reduceWindowAdd ![1, 4096, 1] ![1, 1, 1] ![0, 0, 0] ![0, 4095, 0] x v reduceWindows_S1x4096x256_S1x4096x256_w1s1p0_0_w4096s1p0_4095_w1s1p0_0 h_S_) v137 c1v0
  v138

/-- The projection's gradient with the mixer's part written. -/
def rDz (arg1 : FVec Ideal S4096x2304 .bf16) (v128 : FVec Ideal S1x4096x256 .f32) (v138 : FVec Ideal S1x4096x256 .f32) : FVec Ideal S4096x2304 .bf16 :=
  have v140 : FVec Ideal S4096x2048 .bf16 := ((extractStridedSlice S4096x2048 ![0, 0] · slices_S4096x2304_S4096x2048_0_0)) arg1
  have v139 : FVec Ideal S1x4096x256 .f32 := (addf) v128 v138
  have v141 : FVec Ideal S4096x256 .f32 := (shapeCast S4096x256 · shapeCasts_S1x4096x256_S4096x256) v139
  have v142 : FVec Ideal S4096x256 .bf16 := ((truncf .bf16 · bitsLt_bf16_f32)) v141
  have v143 : FVec Ideal S4096x2304 .bf16 := (fn_main_v143 (F := Ideal)) v140 v142
  v143

section
variable (m : (ℓ : Loc nD τ sig) → Buf (Elt Ideal) ℓ) (c : Dev nD)

/-- The reference's pooled values. -/
def tPool : FVec Ideal S1x4096x4x64 .f32 :=
  rPool (rP0 (rCs (rX (m ((c.tc : Thread nD τ).loc main_arg0)))) rPos (rX (m ((c.tc : Thread nD τ).loc main_arg0)))) (rP1 (rCs (rX (m ((c.tc : Thread nD τ).loc main_arg0)))) rPos (rX (m ((c.tc : Thread nD τ).loc main_arg0)))) (rP2 (rCs (rX (m ((c.tc : Thread nD τ).loc main_arg0)))) rPos (rX (m ((c.tc : Thread nD τ).loc main_arg0)))) (rP3 (rCs (rX (m ((c.tc : Thread nD τ).loc main_arg0)))) rPos (rX (m ((c.tc : Thread nD τ).loc main_arg0))))

/-- The reference's pooled values' gradient. -/
def tG : FVec Ideal S1x4096x4x64 .f32 := rG (rDy (rDY (m ((c.tc : Thread nD τ).loc main_arg2))) (m ((c.tc : Thread nD τ).loc main_arg4))) (m ((c.tc : Thread nD τ).loc main_arg3))

/-- The projection's gradient. -/
def resDz : FVec Ideal S4096x2304 .bf16 := rDz (m ((c.tc : Thread nD τ).loc main_arg1)) (rN (tG m c)) (rSuf (rC (rC3 (tG m c) rPos) (rC2 (tG m c) rPos) (rC1 (tG m c) rPos) (rC0 (tG m c) rPos)))

/-- The weights' gradient. -/
def resDw : FVec Ideal S256x256 .f32 := rDw (rDy (rDY (m ((c.tc : Thread nD τ).loc main_arg2))) (m ((c.tc : Thread nD τ).loc main_arg4))) (tPool m c)

/-- The scale's gradient. -/
def resDs : FVec Ideal S1x256 .f32 := rDs (rY (m ((c.tc : Thread nD τ).loc main_arg3)) (tPool m c)) (rDY (m ((c.tc : Thread nD τ).loc main_arg2)))
end

end Cert.ReferenceIdeal.Read
end
-- ==== Proof.PoolRef.lean ====
module

public import proofs.«01_k».proof.Proof.PoolStages
public import proofs.«01_k».proof.Proof.PoolValue
public import Idealize.ShloMosaic.Lib.Pointwise

/-! The reference's stages read at an index, in real numbers. -/

@[expose] public section
set_option maxRecDepth 16384
noncomputable section
namespace Cert.ReferenceIdeal.Read
open Cert.ReferenceIdeal Cert.ReferenceIdeal.Gen Idealize.ShloMosaic
open Cert.Pool Finset

/-- A channel of a head. -/
def lane (h : Fin 4) (a : Fin 64) : Fin 256 := ⟨h.val * 64 + a.val, by omega⟩

/-- The array holds the reals `f`, by token and channel. -/
abbrev Is (x : FVec Ideal S1x4096x256 .f32) (f : ℕ → Fin 256 → ℝ) : Prop :=
  ∀ (p : Fin 4096) (d : Fin 256), x (ix3 (0 : Fin 1) p d) = ((f p.val d : ℝ) : EReal)

/-- The array holds the reals `f`, by token, head and channel. -/
abbrev IsH (x : FVec Ideal S1x4096x4x64 .f32) (f : ℕ → Fin 256 → ℝ) : Prop :=
  ∀ (p : Fin 4096) (h : Fin 4) (a : Fin 64), x (ix4 (0 : Fin 1) p h a) = ((f p.val (lane h a) : ℝ) : EReal)

/-- The array holds one head of the reals `f`. -/
abbrev Is1 (x : FVec Ideal S1x4096x64 .f32) (h : Fin 4) (f : ℕ → Fin 256 → ℝ) : Prop :=
  ∀ (p : Fin 4096) (a : Fin 64), x (ix3 (0 : Fin 1) p a) = ((f p.val (lane h a) : ℝ) : EReal)

/-- The array holds the positions, counted from one. -/
abbrev IsPos (x : FVec Ideal S1x4096x1 .f32) : Prop :=
  ∀ p : Fin 4096, x (ix3 (0 : Fin 1) p (0 : Fin 1)) = (((p.val : ℝ) + 1 : ℝ) : EReal)

variable {X DY : ℕ → Fin 256 → ℝ} {S : Fin 256 → ℝ} {w : Fin 4 → Fin 64 → Fin 64 → ℝ}

/-! ## Window sums along the tokens -/

theorem foldl_add {ι : Type} (l : List ι) (g : ι → EReal) (a : EReal) : l.foldl (fun r n => r + g n) a = a + (l.map g).sum := by
  induction l generalizing a with
  | nil => simp
  | cons n l ih => rw [List.foldl_cons, ih, List.map_cons, List.sum_cons, add_assoc]

theorem window_sum (L H : ℕ) (x : FVec Ideal S1x4096x256 .f32) {f : ℕ → Fin 256 → ℝ} (hx : Is x f) (p : Fin 4096) (d : Fin 256)
    (h : S1x4096x256.ReduceWindows (![1, 4096, 1] : Fin 3 → ℕ) ![1, 1, 1] ![0, L, 0] ![0, H, 0] S1x4096x256) :
    Ideal.hostReduceWindowAdd ![1, 4096, 1] ![1, 1, 1] ![0, L, 0] ![0, H, 0] h x 0 (ix3 (0 : Fin 1) p d)
      = ((∑ n ∈ range 4096, (if L ≤ p.val + n ∧ p.val + n - L < 4096 then f (p.val + n - L) d else 0) : ℝ) : EReal) := by
  unfold Ideal.hostReduceWindowAdd Host.reduceWindow
  dsimp only
  have hn : (⟨S1x4096x256.rank, (![1, 4096, 1] : Fin 3 → ℕ)⟩ : Shape).numel = 4096 := by decide +kernel
  refine (foldl_add _ _ _).trans ?_
  rw [zero_add, coe_sum, sum_range]
  refine Eq.trans (congrArg List.sum (List.map_congr_left (g := fun n => ((if L ≤ p.val + n.val ∧ p.val + n.val - L < 4096 then f (p.val + n.val - L) d else 0 : ℝ) : EReal)) ?_)) ?_
  · intro n _
    have e := Shape.rowMajor_val_three ((⟨3, (![1, 4096, 1] : Fin 3 → ℕ)⟩ : Shape).rowMajor.symm n)
    rw [Equiv.apply_symm_apply] at e
    have b0 := ((⟨3, (![1, 4096, 1] : Fin 3 → ℕ)⟩ : Shape).rowMajor.symm n 0).isLt
    have b2 := ((⟨3, (![1, 4096, 1] : Fin 3 → ℕ)⟩ : Shape).rowMajor.symm n 2).isLt
    change _ < 1 at b0
    change _ < 1 at b2
    change n.val = (_ * 4096 + _) * 1 + _ at e
    have b1 : ((⟨3, (![1, 4096, 1] : Fin 3 → ℕ)⟩ : Shape).rowMajor.symm n 1).val = n.val := by omega
    by_cases hc : L ≤ p.val + n.val ∧ p.val + n.val - L < 4096
    · refine Eq.trans (dif_pos ?_) (Eq.trans ?_ (congrArg _ (if_pos hc).symm))
      rotate_left
      · refine Eq.trans (congrArg x (funext fun a => Fin.ext ?_)) (hx ⟨p.val + n.val - L, hc.2⟩ d)
        match a with
        | ⟨0, _⟩ => show 0 * 1 + ((⟨3, (![1, 4096, 1] : Fin 3 → ℕ)⟩ : Shape).rowMajor.symm n 0).val - 0 = 0; omega
        | ⟨1, _⟩ => show p.val * 1 + ((⟨3, (![1, 4096, 1] : Fin 3 → ℕ)⟩ : Shape).rowMajor.symm n 1).val - L = p.val + n.val - L; omega
        | ⟨2, _⟩ => show d.val * 1 + ((⟨3, (![1, 4096, 1] : Fin 3 → ℕ)⟩ : Shape).rowMajor.symm n 2).val - 0 = d.val; omega
      · intro a
        match a with
        | ⟨0, _⟩ => show 0 ≤ 0 * 1 + ((⟨3, (![1, 4096, 1] : Fin 3 → ℕ)⟩ : Shape).rowMajor.symm n 0).val ∧ 0 * 1 + ((⟨3, (![1, 4096, 1] : Fin 3 → ℕ)⟩ : Shape).rowMajor.symm n 0).val - 0 < 1; omega
        | ⟨1, _⟩ => show L ≤ p.val * 1 + ((⟨3, (![1, 4096, 1] : Fin 3 → ℕ)⟩ : Shape).rowMajor.symm n 1).val ∧ p.val * 1 + ((⟨3, (![1, 4096, 1] : Fin 3 → ℕ)⟩ : Shape).rowMajor.symm n 1).val - L < 4096; omega
        | ⟨2, _⟩ => show 0 ≤ d.val * 1 + ((⟨3, (![1, 4096, 1] : Fin 3 → ℕ)⟩ : Shape).rowMajor.symm n 2).val ∧ d.val * 1 + ((⟨3, (![1, 4096, 1] : Fin 3 → ℕ)⟩ : Shape).rowMajor.symm n 2).val - 0 < 256; have := d.isLt; omega
    · refine Eq.trans (dif_neg ?_) (Eq.trans EReal.coe_zero.symm (congrArg _ (if_neg hc).symm))
      · intro hin
        have h1 := hin 1
        change L ≤ p.val * 1 + ((⟨3, (![1, 4096, 1] : Fin 3 → ℕ)⟩ : Shape).rowMajor.symm n 1).val ∧ p.val * 1 + ((⟨3, (![1, 4096, 1] : Fin 3 → ℕ)⟩ : Shape).rowMajor.symm n 1).val - L < 4096 at h1
        omega
  · rw [← List.ofFn_eq_map, List.sum_ofFn]
    exact Fintype.sum_equiv (finCongr hn) _ _ fun n => rfl

/-- The window padded in front is the prefix. -/
theorem prefix_sum (f : ℕ → ℝ) (p N L : ℕ) (hp : p < N) (hL : L + 1 = N) :
    (∑ n ∈ range N, (if L ≤ p + n ∧ p + n - L < N then f (p + n - L) else 0)) = ∑ q ∈ range (p + 1), f q := by
  obtain ⟨A, rfl⟩ : ∃ A, N = A + (p + 1) := ⟨N - (p + 1), by omega⟩
  rw [sum_range_add, sum_eq_zero, zero_add]
  · refine sum_congr rfl fun q hq => ?_
    have := mem_range.1 hq
    rw [if_pos (by omega)]; congr 1; omega
  · intro n hn
    have := mem_range.1 hn
    rw [if_neg (by omega)]

/-- The window padded behind is the suffix. -/
theorem suffix_sum (f : ℕ → ℝ) (p N : ℕ) (hp : p < N) :
    (∑ n ∈ range N, (if 0 ≤ p + n ∧ p + n - 0 < N then f (p + n - 0) else 0)) = ∑ q ∈ Ico p N, f q := by
  obtain ⟨A, rfl⟩ : ∃ A, N = A + p := ⟨N - p, by omega⟩
  rw [sum_range_add, sum_Ico_eq_sum_range, sum_eq_zero (s := range p), add_zero, Nat.add_sub_cancel]
  · refine sum_congr rfl fun q hq => ?_
    have := mem_range.1 hq
    rw [if_pos (by omega)]; rfl
  · intro n hn
    rw [if_neg (by omega)]

theorem rCs_apply {x : FVec Ideal S1x4096x256 .f32} (hx : Is x X) : Is (rCs x) fun p d => ∑ q ∈ range (p + 1), X q d := by
  intro p d
  refine Eq.trans ?_ ((window_sum 4095 0 x hx p d reduceWindows_S1x4096x256_S1x4096x256_w1s1p0_0_w4096s1p4095_0_w1s1p0_0).trans ?_)
  · unfold rCs Host.reduceWindowAdd
    dsimp only
    rw [Ideal.hostReduceWindowAdd_def]
    refine congrFun (congrArg (Ideal.hostReduceWindowAdd _ _ _ _ _ x) ?_) _
    show Ideal.ofBits .f32 0x00000000#32 = 0
    simp [Ideal.ofBits, Ideal.ieee]
  · rw [prefix_sum (fun q => X q d) p.val 4096 4095 p.isLt rfl]

theorem rSuf_apply {x : FVec Ideal S1x4096x256 .f32} {f : ℕ → Fin 256 → ℝ} (hx : Is x f) : Is (rSuf x) fun p d => ∑ q ∈ Ico p 4096, f q d := by
  intro p d
  refine Eq.trans ?_ ((window_sum 0 4095 x hx p d (by decide +kernel)).trans ?_)
  · unfold rSuf Host.reduceWindowAdd
    dsimp only
    rw [Ideal.hostReduceWindowAdd_def]
    refine congrFun (congrArg (Ideal.hostReduceWindowAdd _ _ _ _ _ x) ?_) _
    show Ideal.ofBits .f32 0x00000000#32 = 0
    simp [Ideal.ofBits, Ideal.ieee]
  · rw [suffix_sum (fun q => f q d) p.val 4096 p.isLt]

end Cert.ReferenceIdeal.Read
end
-- ==== Proof.PoolRead.lean ====
module

public import proofs.«01_k».proof.Proof.PoolRef

/-! The reference's three results in real numbers. -/

@[expose] public section
set_option maxRecDepth 16384
noncomputable section
namespace Cert.ReferenceIdeal.Read
open Cert.ReferenceIdeal Cert.ReferenceIdeal.Gen Idealize.ShloMosaic
open Cert.Pool Finset

variable {X DY : ℕ → Fin 256 → ℝ} {S : Fin 256 → ℝ} {w : Fin 4 → Fin 64 → Fin 64 → ℝ}

theorem two_word : Ideal.ofBits .f32 0x40000000#32 = ((2 : ℝ) : EReal) := by simp [Ideal.ofBits, Ideal.ieee, -EReal.coe_mul]; norm_num
theorem four_word : Ideal.ofBits .f32 0x40800000#32 = ((4 : ℝ) : EReal) := by simp [Ideal.ofBits, Ideal.ieee, -EReal.coe_mul]; norm_num
theorem eight_word : Ideal.ofBits .f32 0x41000000#32 = ((8 : ℝ) : EReal) := by simp [Ideal.ofBits, Ideal.ieee, -EReal.coe_mul]; norm_num
theorem sixteen_word : Ideal.ofBits .f32 0x41800000#32 = ((16 : ℝ) : EReal) := by simp [Ideal.ofBits, Ideal.ieee, -EReal.coe_mul]; norm_num

theorem least (a b : ℝ) : min (a : EReal) (b : EReal) = ((min a b : ℝ) : EReal) := (EReal.coe_strictMono.monotone.map_min).symm

theorem pos_toInt : ∀ p : Fin 4096, (BitVec.ofNat 32 p.val).toInt = (p.val : ℤ) := fun p => by
  have := p.isLt
  rw [BitVec.toInt_eq_toNat_cond, BitVec.toNat_ofNat, Nat.mod_eq_of_lt (by omega)]
  split <;> omega

theorem rPos_apply : IsPos rPos := by
  intro p
  pointwise [rPos]
  rw [show ∀ b : BitVec 32, (FloatOps.sitofp FTy.f32 b : Ideal .f32) = ((b.toInt : ℝ) : EReal) from fun _ => rfl, pos_toInt, ← EReal.coe_one, ← EReal.coe_add]
  congr 1
  push_cast
  ring

theorem rX_apply {x : FVec Ideal S4096x2304 .f32} (h : ∀ (p : Fin 4096) (d : Fin 256), x (ix2 p (⟨2048 + d.val, by omega⟩ : Fin 2304)) = ((X p.val d : ℝ) : EReal)) : Is (rX x) X := by
  intro p d
  refine Eq.trans ?_ (h p d)
  pointwise [rX]

theorem rDY_apply {x : FVec Ideal S4096x1024 .f32} (h : ∀ (p : Fin 4096) (d : Fin 256), x (ix2 p (⟨768 + d.val, by omega⟩ : Fin 1024)) = ((DY p.val d : ℝ) : EReal)) : Is (rDY x) DY := by
  intro p d
  refine Eq.trans ?_ (h p d)
  pointwise [rDY]

theorem win_lane (h : Fin 4) (a : Fin 64) : win (lane h a) = 2 ^ (h.val + 1) := by
  have ha := a.isLt
  unfold win lane
  dsimp only
  match h with
  | 0 => rw [if_pos (by simp)]; rfl
  | 1 => rw [if_neg (by simp), if_pos (by simp; omega)]; rfl
  | 2 => rw [if_neg (by simp; omega), if_neg (by simp), if_pos (by simp; omega)]; rfl
  | 3 => rw [if_neg (by simp; omega), if_neg (by simp; omega), if_neg (by simp)]; rfl

/-- A mean over a window by two prefix sums. -/
theorem mean_eq (p : ℕ) (d : Fin 256) {n : ℕ} (hn : win d = n) {x : ℝ} (hx : ((n : ℕ) : ℝ) = x) :
    Ideal.div (((∑ q ∈ range (p + 1), X q d : ℝ) : EReal) - (if p < n then (0 : EReal) else ((∑ q ∈ range (p - n + 1), X q d : ℝ) : EReal)))
      (min (((p : ℝ) + 1 : ℝ) : EReal) (x : EReal)) - ((X p d : ℝ) : EReal) = ((pool X p d : ℝ) : EReal) := by
  subst hx
  subst hn
  have e : (if p < win d then (0 : EReal) else ((∑ q ∈ range (p - win d + 1), X q d : ℝ) : EReal))
      = ((if p < win d then 0 else ∑ q ∈ range (p - win d + 1), X q d : ℝ) : EReal) := by split_ifs <;> simp
  rw [e, least, ← EReal.coe_sub, prefix_window (fun q => X q d) (win d) p (win_le d)]
  show Ideal.div _ ((cnt p d : ℝ) : EReal) - _ = _
  rw [Ideal.div_coe (cnt_ne _ _), ← EReal.coe_mul, ← EReal.coe_sub, mul_one_div]
  rfl

theorem rP0_apply {cs : FVec Ideal S1x4096x256 .f32} {pos : FVec Ideal S1x4096x1 .f32} {x : FVec Ideal S1x4096x256 .f32}
    (hc : Is cs fun p d => ∑ q ∈ range (p + 1), X q d) (hp : IsPos pos) (hx : Is x X) : Is1 (rP0 cs pos x) 0 (pool X) := by
  intro p a
  pointwise [rP0, fn_main_v13]
  simp only [hc _ _, hp _, hx _ _, two_word, dite_eq_ite]
  have l : (lane 0 a) = ⟨a.val, by omega⟩ := Fin.ext (show 0 * 64 + a.val = a.val by omega)
  rw [← mean_eq p.val (lane 0 a) (n := 2) (win_lane _ _) (x := 2) (by norm_num), l]
  by_cases hh : p.val < 2
  · rw [dif_pos hh, if_pos hh]
  · rw [dif_neg hh, if_neg hh]

theorem rP1_apply {cs : FVec Ideal S1x4096x256 .f32} {pos : FVec Ideal S1x4096x1 .f32} {x : FVec Ideal S1x4096x256 .f32}
    (hc : Is cs fun p d => ∑ q ∈ range (p + 1), X q d) (hp : IsPos pos) (hx : Is x X) : Is1 (rP1 cs pos x) 1 (pool X) := by
  intro p a
  pointwise [rP1, fn_main_v26]
  simp only [hc _ _, hp _, hx _ _, four_word, dite_eq_ite]
  have l : (lane 1 a) = ⟨64 + a.val, by omega⟩ := Fin.ext (show 1 * 64 + a.val = 64 + a.val by omega)
  rw [← mean_eq p.val (lane 1 a) (n := 4) (win_lane _ _) (x := 4) (by norm_num), l]
  by_cases hh : p.val < 4
  · rw [dif_pos hh, if_pos hh]
  · rw [dif_neg hh, if_neg hh]

theorem rP2_apply {cs : FVec Ideal S1x4096x256 .f32} {pos : FVec Ideal S1x4096x1 .f32} {x : FVec Ideal S1x4096x256 .f32}
    (hc : Is cs fun p d => ∑ q ∈ range (p + 1), X q d) (hp : IsPos pos) (hx : Is x X) : Is1 (rP2 cs pos x) 2 (pool X) := by
  intro p a
  pointwise [rP2, fn_main_v39]
  simp only [hc _ _, hp _, hx _ _, eight_word, dite_eq_ite]
  have l : (lane 2 a) = ⟨128 + a.val, by omega⟩ := Fin.ext (show 2 * 64 + a.val = 128 + a.val by omega)
  rw [← mean_eq p.val (lane 2 a) (n := 8) (win_lane _ _) (x := 8) (by norm_num), l]
  by_cases hh : p.val < 8
  · rw [dif_pos hh, if_pos hh]
  · rw [dif_neg hh, if_neg hh]

theorem rP3_apply {cs : FVec Ideal S1x4096x256 .f32} {pos : FVec Ideal S1x4096x1 .f32} {x : FVec Ideal S1x4096x256 .f32}
    (hc : Is cs fun p d => ∑ q ∈ range (p + 1), X q d) (hp : IsPos pos) (hx : Is x X) : Is1 (rP3 cs pos x) 3 (pool X) := by
  intro p a
  pointwise [rP3, fn_main_v52]
  simp only [hc _ _, hp _, hx _ _, sixteen_word, dite_eq_ite]
  have l : (lane 3 a) = ⟨192 + a.val, by omega⟩ := Fin.ext (show 3 * 64 + a.val = 192 + a.val by omega)
  rw [← mean_eq p.val (lane 3 a) (n := 16) (win_lane _ _) (x := 16) (by norm_num), l]
  by_cases hh : p.val < 16
  · rw [dif_pos hh, if_pos hh]
  · rw [dif_neg hh, if_neg hh]

theorem rPool_apply {a b c e : FVec Ideal S1x4096x64 .f32} {f : ℕ → Fin 256 → ℝ} (ha : Is1 a 0 f) (hb : Is1 b 1 f) (hc : Is1 c 2 f) (he : Is1 e 3 f) :
    IsH (rPool a b c e) f := by
  intro p h k
  match h with
  | 0 => refine Eq.trans ?_ (ha p k); pointwise [rPool, fn_main_v65]
  | 1 => refine Eq.trans ?_ (hb p k); pointwise [rPool, fn_main_v65]
  | 2 => refine Eq.trans ?_ (hc p k); pointwise [rPool, fn_main_v65]
  | 3 => refine Eq.trans ?_ (he p k); pointwise [rPool, fn_main_v65]

/-- The lanes are the heads' channels. -/
def lanes : Fin 4 × Fin 64 ≃ Fin 256 where
  toFun x := lane x.1 x.2
  invFun d := (⟨d.val / 64, by omega⟩, ⟨d.val % 64, by omega⟩)
  left_inv x := by
    obtain ⟨h, a⟩ := x
    have := a.isLt
    refine Prod.ext (Fin.ext ?_) (Fin.ext ?_)
    · show (h.val * 64 + a.val) / 64 = h.val; omega
    · show (h.val * 64 + a.val) % 64 = a.val; omega
  right_inv d := Fin.ext (by show d.val / 64 * 64 + d.val % 64 = d.val; omega)

theorem sum_lanes (f : Fin 256 → ℝ) : ∑ d, f d = ∑ h : Fin 4, ∑ a : Fin 64, f (lane h a) := by
  rw [← lanes.sum_comp, Fintype.sum_prod_type]
  rfl

theorem bd_lane (h k : Fin 4) (a b : Fin 64) : bd w (lane h a) (lane k b) = if h = k then w h a b else 0 := by
  have ha := a.isLt
  have hb := b.isLt
  have e1 : (lane h a).val / 64 = h.val := by show (h.val * 64 + a.val) / 64 = _; omega
  have e2 : (lane k b).val / 64 = k.val := by show (k.val * 64 + b.val) / 64 = _; omega
  have e3 : (lane h a).val % 64 = a.val := by show (h.val * 64 + a.val) % 64 = _; omega
  have e4 : (lane k b).val % 64 = b.val := by show (k.val * 64 + b.val) % 64 = _; omega
  unfold bd
  simp only [e1, e2, e3, e4, Fin.val_inj]

/-- A row times the block-diagonal weight is the head's part times its block. -/
theorem row_bd (f : Fin 256 → ℝ) (k : Fin 4) (b : Fin 64) : ∑ d, f d * bd w d (lane k b) = ∑ a : Fin 64, w k a b * f (lane k a) := by
  rw [sum_lanes, sum_eq_single k]
  · exact sum_congr rfl fun a _ => by rw [bd_lane, if_pos rfl, mul_comm]
  · intro h _ hk
    exact sum_eq_zero fun a _ => by rw [bd_lane, if_neg hk, mul_zero]
  · intro h; exact absurd (mem_univ _) h

theorem col_bd (f : Fin 256 → ℝ) (k : Fin 4) (a : Fin 64) : ∑ e, f e * bd w (lane k a) e = ∑ b : Fin 64, f (lane k b) * w k a b := by
  rw [sum_lanes, sum_eq_single k]
  · exact sum_congr rfl fun b _ => by rw [bd_lane, if_pos rfl]
  · intro h _ hk
    exact sum_eq_zero fun b _ => by rw [bd_lane, if_neg (Ne.symm hk), mul_zero]
  · intro h; exact absurd (mem_univ _) h

theorem lane_div_mod (e : Fin 256) : lane ⟨e.val / 64, by omega⟩ ⟨e.val % 64, by omega⟩ = e := Fin.ext (by show e.val / 64 * 64 + e.val % 64 = e.val; omega)

theorem rY_apply {u : FVec Ideal S4x64x64 .f32} {q : FVec Ideal S1x4096x4x64 .f32} {f : ℕ → Fin 256 → ℝ}
    (hu : ∀ (h : Fin 4) (a b : Fin 64), u (ix3 h a b) = ((w h a b : ℝ) : EReal)) (hq : IsH q f) :
    Is (rY u q) fun p e => ∑ d, f p d * bd w d e := by
  intro p e
  pointwise [rY]
  simp only [hu _ _ _, hq _ _ _, ← EReal.coe_mul]
  rw [← coe_sum]
  congr 1
  rw [← row_bd (f p.val), lane_div_mod]

theorem sum_unit (v : S1x1x256.Idx → EReal) (e : Fin 256) :
    Ideal.hostReduceAdd reducesTo_S1x1x256_S256_d0_1 v 0 (ix1 e) = v (ix3 (0 : Fin 1) (0 : Fin 1) e) := by
  have hk : (S1x1x256.kept [0, 1])[0]'(by decide +kernel) = (2 : Fin 3) := by decide +kernel
  have hv : ∀ i : S1x1x256.Idx, (reducesTo_S1x1x256_S256_d0_1.drop i 0).val = (i 2).val := fun i =>
    congrArg (fun a : Fin 3 => (i a).val) hk
  have hd : ∀ i : S1x1x256.Idx, reducesTo_S1x1x256_S256_d0_1.drop i = ix1 e ↔ (i 2).val = e.val := fun i =>
    ⟨fun h => (hv i).symm.trans (congrArg (fun j : S256.Idx => (j 0).val) h), fun h => funext fun a => by
      match a with
      | ⟨0, _⟩ => exact Fin.ext ((hv i).trans h)⟩
  unfold Ideal.hostReduceAdd
  simp only [hd]
  rw [zero_add]
  refine Finset.sum_eq_single_of_mem _ (Finset.mem_filter.2 ⟨mem_univ _, rfl⟩) fun i hi hne => ?_
  refine absurd (funext fun a => ?_) hne
  have h2 := (Finset.mem_filter.1 hi).2
  match a with
  | ⟨0, _⟩ => exact Subsingleton.elim (α := Fin 1) _ _
  | ⟨1, _⟩ => exact Subsingleton.elim (α := Fin 1) _ _
  | ⟨2, _⟩ => exact Fin.ext h2

theorem rDs_apply {y dy : FVec Ideal S1x4096x256 .f32} {f : ℕ → Fin 256 → ℝ} (hy : Is y f) (hd : Is dy DY) (e : Fin 256) :
    rDs y dy (ix2 (0 : Fin 1) e) = ((∑ p ∈ Ico 0 4096, DY p e * f p e : ℝ) : EReal) := by
  have z : Ideal.ofBits .f32 0x00000000#32 = 0 := by simp [Ideal.ofBits, Ideal.ieee]
  pointwise [rDs]
  refine (sum_unit _ e).trans ?_
  pointwise
  simp only [hy _ _, hd _ _, ← EReal.coe_mul, z, zero_add]
  rw [← coe_sum, Nat.Ico_zero_eq_range, sum_range]
  congr 1
  exact sum_congr rfl fun p _ => mul_comm _ _

theorem rDy_apply {dy : FVec Ideal S1x4096x256 .f32} {s : FVec Ideal S256 .f32} (hd : Is dy DY) (hs : ∀ e : Fin 256, s (ix1 e) = ((S e : ℝ) : EReal))
    (h : Fin 4) (a : Fin 64) (p : Fin 4096) : rDy dy s (ix4 h a (0 : Fin 1) p) = ((dyw DY S p.val (lane h a) : ℝ) : EReal) := by
  pointwise [rDy]
  rw [hd, hs, ← EReal.coe_mul]
  rfl

theorem rG_apply {y : FVec Ideal S4x64x1x4096 .f32} {u : FVec Ideal S4x64x64 .f32}
    (hy : ∀ (h : Fin 4) (a : Fin 64) (p : Fin 4096), y (ix4 h a (0 : Fin 1) p) = ((dyw DY S p.val (lane h a) : ℝ) : EReal))
    (hu : ∀ (h : Fin 4) (a b : Fin 64), u (ix3 h a b) = ((w h a b : ℝ) : EReal)) : IsH (rG y u) (dpool DY S (bd w)) := by
  intro p h a
  pointwise [rG]
  simp only [hy _ _ _, hu _ _ _, ← EReal.coe_mul]
  rw [← coe_sum]
  congr 1
  exact (col_bd _ _ _).symm

theorem rDw_apply {y : FVec Ideal S4x64x1x4096 .f32} {q : FVec Ideal S1x4096x4x64 .f32} {f : ℕ → Fin 256 → ℝ}
    (hy : ∀ (h : Fin 4) (a : Fin 64) (p : Fin 4096), y (ix4 h a (0 : Fin 1) p) = ((dyw DY S p.val (lane h a) : ℝ) : EReal)) (hq : IsH q f)
    (h : Fin 4) (a b : Fin 64) : rDw y q (ix2 (lane h a) (lane h b)) = ((∑ p ∈ Ico 0 4096, f p (lane h a) * dyw DY S p (lane h b) : ℝ) : EReal) := by
  have ha := a.isLt
  have hb := b.isLt
  have fin : (∑ x : Fin 1, ∑ p : Fin 4096, y (ix4 h b x p) * q (ix4 x p h a)) = ((∑ p ∈ Ico 0 4096, f p (lane h a) * dyw DY S p (lane h b) : ℝ) : EReal) := by
    rw [Fin.sum_univ_one]
    simp only [hy _ _ _, hq _ _ _, ← EReal.coe_mul]
    rw [← coe_sum, Nat.Ico_zero_eq_range, sum_range]
    congr 1
    exact sum_congr rfl fun p _ => mul_comm _ _
  rw [← fin]
  have lb : (lane h b).val = h.val * 64 + b.val := rfl
  pointwise [rDw, fn_main_v145]
  have la : (lane h a).val = h.val * 64 + a.val := rfl
  have cg : ∀ (h1 h2 : Fin 4) (b' a' : Fin 64), h1.val = h.val → h2.val = h.val → b'.val = b.val → a'.val = a.val →
      (∑ x : Fin 1, ∑ p : Fin 4096, y (ix4 h1 b' x p) * q (ix4 x p h2 a')) = ∑ x : Fin 1, ∑ p : Fin 4096, y (ix4 h b x p) * q (ix4 x p h a) := by
    intro h1 h2 b' a' e1 e2 e3 e4
    rw [Fin.ext e1, Fin.ext e2, Fin.ext e3, Fin.ext e4]
  have hh : h.val = 0 ∨ h.val = 1 ∨ h.val = 2 ∨ h.val = 3 := by omega
  have q1 : (lane h a).val / 64 = h.val := by omega
  have q2 : (lane h a).val % 64 = a.val := by omega
  rcases hh with e | e | e | e
  · rw [dif_pos (by omega)]; exact cg _ _ _ _ q1 q1 (show (lane h b).val = b.val by omega) q2
  · rw [dif_neg (by omega), dif_pos (by omega)]; exact cg _ _ _ _ q1 q1 (show (lane h b).val - 64 = b.val by omega) q2
  · rw [dif_neg (by omega), dif_neg (by omega), dif_pos (by omega)]; exact cg _ _ _ _ q1 q1 (show (lane h b).val - 64 - 64 = b.val by omega) q2
  · rw [dif_neg (by omega), dif_neg (by omega), dif_neg (by omega)]; exact cg _ _ _ _ q1 q1 (show (lane h b).val - 64 - 64 - 64 = b.val by omega) q2

variable {W : Fin 256 → Fin 256 → ℝ}

theorem quot_eq (p : ℕ) (d : Fin 256) (hp : p < 4096) {n : ℕ} (hn : win d = n) {x : ℝ} (hx : ((n : ℕ) : ℝ) = x) :
    Ideal.div ((dpool DY S W p d : ℝ) : EReal) (min (((p : ℝ) + 1 : ℝ) : EReal) (x : EReal)) = ((en DY S W p d : ℝ) : EReal) := by
  subst hx
  subst hn
  rw [least]
  show Ideal.div _ ((cnt p d : ℝ) : EReal) = _
  rw [Ideal.div_coe (cnt_ne _ _), ← EReal.coe_mul, mul_one_div]
  unfold en
  rw [if_pos hp]

/-- The difference with the value a window later. -/
def step (f : ℕ → Fin 256 → ℝ) (p : ℕ) (d : Fin 256) : ℝ := f p d + -(if p + win d < 4096 then f (p + win d) d else 0)

theorem rC0_apply {g : FVec Ideal S1x4096x4x64 .f32} {pos : FVec Ideal S1x4096x1 .f32}
    (hg : IsH g (dpool DY S W)) (hp : IsPos pos) : Is1 (rC0 g pos) 0 (step (en DY S W)) := by
  intro p a
  pointwise [rC0]
  rw [hg, hp, two_word, quot_eq p.val (lane 0 a) p.isLt (win_lane 0 a) (by norm_num)]
  by_cases hh : p.val < 4094
  · rw [dif_pos hh, hg, hp, quot_eq _ (lane 0 a) (show 2 + p.val < 4096 by omega) (win_lane 0 a) (by norm_num)]
    unfold step
    rw [show win (lane 0 a) = 2 from win_lane _ _, if_pos (show p.val + 2 < 4096 by omega), ← EReal.coe_neg, ← EReal.coe_add, Nat.add_comm 2 p.val]
  · rw [dif_neg hh]
    unfold step
    rw [show win (lane 0 a) = 2 from win_lane _ _, if_neg (show ¬ p.val + 2 < 4096 by omega)]
    simp

theorem rC1_apply {g : FVec Ideal S1x4096x4x64 .f32} {pos : FVec Ideal S1x4096x1 .f32}
    (hg : IsH g (dpool DY S W)) (hp : IsPos pos) : Is1 (rC1 g pos) 1 (step (en DY S W)) := by
  intro p a
  pointwise [rC1]
  rw [hg, hp, four_word, quot_eq p.val (lane 1 a) p.isLt (win_lane 1 a) (by norm_num)]
  by_cases hh : p.val < 4092
  · rw [dif_pos hh, hg, hp, quot_eq _ (lane 1 a) (show 4 + p.val < 4096 by omega) (win_lane 1 a) (by norm_num)]
    unfold step
    rw [show win (lane 1 a) = 4 from win_lane _ _, if_pos (show p.val + 4 < 4096 by omega), ← EReal.coe_neg, ← EReal.coe_add, Nat.add_comm 4 p.val]
  · rw [dif_neg hh]
    unfold step
    rw [show win (lane 1 a) = 4 from win_lane _ _, if_neg (show ¬ p.val + 4 < 4096 by omega)]
    simp

theorem rC2_apply {g : FVec Ideal S1x4096x4x64 .f32} {pos : FVec Ideal S1x4096x1 .f32}
    (hg : IsH g (dpool DY S W)) (hp : IsPos pos) : Is1 (rC2 g pos) 2 (step (en DY S W)) := by
  intro p a
  pointwise [rC2]
  rw [hg, hp, eight_word, quot_eq p.val (lane 2 a) p.isLt (win_lane 2 a) (by norm_num)]
  by_cases hh : p.val < 4088
  · rw [dif_pos hh, hg, hp, quot_eq _ (lane 2 a) (show 8 + p.val < 4096 by omega) (win_lane 2 a) (by norm_num)]
    unfold step
    rw [show win (lane 2 a) = 8 from win_lane _ _, if_pos (show p.val + 8 < 4096 by omega), ← EReal.coe_neg, ← EReal.coe_add, Nat.add_comm 8 p.val]
  · rw [dif_neg hh]
    unfold step
    rw [show win (lane 2 a) = 8 from win_lane _ _, if_neg (show ¬ p.val + 8 < 4096 by omega)]
    simp

theorem rC3_apply {g : FVec Ideal S1x4096x4x64 .f32} {pos : FVec Ideal S1x4096x1 .f32}
    (hg : IsH g (dpool DY S W)) (hp : IsPos pos) : Is1 (rC3 g pos) 3 (step (en DY S W)) := by
  intro p a
  pointwise [rC3]
  rw [hg, hp, sixteen_word, quot_eq p.val (lane 3 a) p.isLt (win_lane 3 a) (by norm_num)]
  by_cases hh : p.val < 4080
  · rw [dif_pos hh, hg, hp, quot_eq _ (lane 3 a) (show 16 + p.val < 4096 by omega) (win_lane 3 a) (by norm_num)]
    unfold step
    rw [show win (lane 3 a) = 16 from win_lane _ _, if_pos (show p.val + 16 < 4096 by omega), ← EReal.coe_neg, ← EReal.coe_add, Nat.add_comm 16 p.val]
  · rw [dif_neg hh]
    unfold step
    rw [show win (lane 3 a) = 16 from win_lane _ _, if_neg (show ¬ p.val + 16 < 4096 by omega)]
    simp

theorem is_of_lanes {x : FVec Ideal S1x4096x256 .f32} {f : ℕ → Fin 256 → ℝ}
    (h : ∀ (p : Fin 4096) (h : Fin 4) (a : Fin 64), x (ix3 (0 : Fin 1) p (lane h a)) = ((f p.val (lane h a) : ℝ) : EReal)) : Is x f := fun p d => by
  rw [← lane_div_mod d]
  exact h p _ _

theorem rC_apply {a b c e : FVec Ideal S1x4096x64 .f32} {f : ℕ → Fin 256 → ℝ} (ha : Is1 a 3 f) (hb : Is1 b 2 f) (hc : Is1 c 1 f) (he : Is1 e 0 f) :
    Is (rC a b c e) f := by
  refine is_of_lanes fun p h k => ?_
  have hk := k.isLt
  have lk : (lane h k).val = h.val * 64 + k.val := rfl
  have go : ∀ (j : Fin 4) (i : Fin 64), j.val = h.val → i.val = k.val → ((f p.val (lane j i) : ℝ) : EReal) = ((f p.val (lane h k) : ℝ) : EReal) := fun j i h1 h2 => by
    rw [Fin.ext h1, Fin.ext h2]
  have hh : h.val = 0 ∨ h.val = 1 ∨ h.val = 2 ∨ h.val = 3 := by omega
  pointwise [rC]
  rcases hh with q | q | q | q
  · rw [dif_neg (by omega), dif_neg (by omega), dif_neg (by omega), dif_pos (by omega), he, zero_add, zero_add, zero_add]
    exact go _ _ q.symm (show (lane h k).val = k.val by omega)
  · rw [dif_neg (by omega), dif_neg (by omega), dif_pos (by omega), dif_neg (by omega), hc, zero_add, zero_add, add_zero]
    exact go _ _ q.symm (show (lane h k).val - 64 = k.val by omega)
  · rw [dif_neg (by omega), dif_pos (by omega), dif_neg (by omega), dif_neg (by omega), hb, zero_add, add_zero, add_zero]
    exact go _ _ q.symm (show (lane h k).val - 128 = k.val by omega)
  · rw [dif_pos (by omega), dif_neg (by omega), dif_neg (by omega), dif_neg (by omega), ha, add_zero, add_zero, add_zero]
    exact go _ _ q.symm (show (lane h k).val - 192 = k.val by omega)

theorem rN_apply {g : FVec Ideal S1x4096x4x64 .f32} {f : ℕ → Fin 256 → ℝ} (hg : IsH g f) : Is (rN g) fun p d => -f p d := by
  refine is_of_lanes fun p h k => ?_
  have hk := k.isLt
  have lk : (lane h k).val = h.val * 64 + k.val := rfl
  have go : ∀ (j : Fin 4) (i : Fin 64), j.val = h.val → i.val = k.val → -((f p.val (lane j i) : ℝ) : EReal) = ((-f p.val (lane h k) : ℝ) : EReal) := fun j i h1 h2 => by
    rw [Fin.ext h1, Fin.ext h2, EReal.coe_neg]
  have hh : h.val = 0 ∨ h.val = 1 ∨ h.val = 2 ∨ h.val = 3 := by omega
  pointwise [rN]
  rcases hh with q | q | q | q
  · rw [dif_neg (by omega), dif_neg (by omega), dif_neg (by omega), dif_pos (by omega), hg, zero_add, zero_add, zero_add]
    exact go _ _ q.symm (show (lane h k).val = k.val by omega)
  · rw [dif_neg (by omega), dif_neg (by omega), dif_pos (by omega), dif_neg (by omega), hg, zero_add, zero_add, add_zero]
    exact go _ _ q.symm (show (lane h k).val - 64 = k.val by omega)
  · rw [dif_neg (by omega), dif_pos (by omega), dif_neg (by omega), dif_neg (by omega), hg, zero_add, add_zero, add_zero]
    exact go _ _ q.symm (show (lane h k).val - 128 = k.val by omega)
  · rw [dif_pos (by omega), dif_neg (by omega), dif_neg (by omega), dif_neg (by omega), hg, add_zero, add_zero, add_zero]
    exact go _ _ q.symm (show (lane h k).val - 192 = k.val by omega)

theorem rDz_in {a : FVec Ideal S4096x2304 .bf16} {n s : FVec Ideal S1x4096x256 .f32} {f g : ℕ → Fin 256 → ℝ} (hn : Is n f) (hs : Is s g)
    (p : Fin 4096) (d : Fin 256) : rDz a n s (ix2 p (⟨2048 + d.val, by omega⟩ : Fin 2304)) = ((f p.val d + g p.val d : ℝ) : EReal) := by
  pointwise [rDz, fn_main_v143]
  rw [hn, hs, ← EReal.coe_add]

theorem rDz_out {a : FVec Ideal S4096x2304 .bf16} {n s : FVec Ideal S1x4096x256 .f32} (p : Fin 4096) (q : Fin 2304) (hq : q.val < 2048) :
    rDz a n s (ix2 p q) = a (ix2 p q) := by
  pointwise [rDz, fn_main_v143]
  rw [dif_pos hq]

/-- The suffix sums of the differences are the forward windows' sums. -/
theorem steps (p : ℕ) (hp : p < 4096) (d : Fin 256) : -dpool DY S W p d + ∑ q ∈ Ico p 4096, step (en DY S W) q d = dz DY S W p d := by
  have := suffix_window (fun q => en DY S W q d) (fun q hq => if_neg (by omega)) (win d) p (by omega)
  unfold step dz
  rw [this]
  ring

section
open Idealize.ShloMosaic.TcCoe Idealize.SL.Sem
variable (m : (ℓ : Loc nD τ sig) → Buf (Elt Ideal) ℓ)

/-- The reference's arguments on core `c` hold the reals `X`, `DY`, `S`, `w`. -/
abbrev In (X DY : ℕ → Fin 256 → ℝ) (S : Fin 256 → ℝ) (w : Fin 4 → Fin 64 → Fin 64 → ℝ) (c : Dev nD) : Prop :=
  Inputs X DY S w (m ((c.tc : Thread nD τ).loc main_arg0)) (m ((c.tc : Thread nD τ).loc main_arg2)) (m ((c.tc : Thread nD τ).loc main_arg3)) (m ((c.tc : Thread nD τ).loc main_arg4))

variable {m} {c : Dev nD} (h : In m X DY S w c)
include h

theorem tPool_apply : IsH (tPool m c) (pool X) := by
  have hx := rX_apply h.z
  have hc := rCs_apply hx
  exact rPool_apply (rP0_apply hc rPos_apply hx) (rP1_apply hc rPos_apply hx) (rP2_apply hc rPos_apply hx) (rP3_apply hc rPos_apply hx)

theorem tG_apply : IsH (tG m c) (dpool DY S (bd w)) := rG_apply (rDy_apply (rDY_apply h.dmix) h.ds) h.dw

theorem resDz_in (p : Fin 4096) (d : Fin 256) : resDz m c (ix2 p (⟨2048 + d.val, by omega⟩ : Fin 2304)) = ((dz DY S (bd w) p.val d : ℝ) : EReal) := by
  have g := tG_apply h
  refine (rDz_in (rN_apply g) (rSuf_apply (rC_apply (rC3_apply g rPos_apply) (rC2_apply g rPos_apply) (rC1_apply g rPos_apply) (rC0_apply g rPos_apply))) p d).trans ?_
  rw [steps p.val p.isLt]

omit h in
theorem resDz_out (c : Dev nD) (p : Fin 4096) (q : Fin 2304) (hq : q.val < 2048) :
    resDz m c (ix2 p q) = (m ((c.tc : Thread nD τ).loc main_arg1) : FVec Ideal S4096x2304 .bf16) (ix2 p q) := rDz_out p q hq

theorem resDw_apply (k : Fin 4) (a b : Fin 64) : resDw m c (ix2 (lane k a) (lane k b)) = ((dwd X DY S 0 (lane k a) (lane k b) : ℝ) : EReal) :=
  rDw_apply (rDy_apply (rDY_apply h.dmix) h.ds) (tPool_apply h) k a b

theorem resDs_apply (e : Fin 256) : resDs m c (ix2 (0 : Fin 1) e) = ((dsc X DY (bd w) 0 e : ℝ) : EReal) :=
  rDs_apply (rY_apply h.dw (tPool_apply h)) (rDY_apply h.dmix) e
end

end Cert.ReferenceIdeal.Read
end
-- ==== Proof.PoolRun.lean ====
module

public import proofs.«01_k».proof.Proof.PoolStages
public import Idealize.ShloMosaic.Lib.StableHlo.Run
public import Idealize.ShloMosaic.Lib.Pipeline.Value
public import Idealize.ShloMosaic.PureOps.Ideal.Laws

/-! The reference's run: its operations in order, and its three results as the chains of named stages. -/

@[expose] public section
set_option maxRecDepth 16384
noncomputable section
namespace Cert.ReferenceIdeal.Read
open Cert.ReferenceIdeal Cert.ReferenceIdeal.Gen Idealize.ShloMosaic Idealize.ShloMosaic.TcCoe Idealize.SL.Sem Idealize.ShloMosaic.StableHlo

section
variable {F : FTy → Type} [FloatOps F]

set_option maxHeartbeats 4000000 in
/-- The operations in order. -/
abbrev ops : List (HloOp τ sig (Elt F)) :=
  [ unary main_arg2 main_v0 ((extractStridedSlice S4096x256 ![0, 768] · slices_S4096x1024_S4096x256_0_768) : Arr F S4096x1024 → Arr F S4096x256),
    unary main_v0 main_v1 (broadcastInDim S1x4096x256 ![1, 2] bcast_S4096x256_S1x4096x256_1_2 : Arr F S4096x256 → Arr F S1x4096x256),
    unary main_arg0 main_v2 ((extractStridedSlice S4096x256 ![0, 2048] · slices_S4096x2304_S4096x256_0_2048) : Arr F S4096x2304 → Arr F S4096x256),
    unary main_v2 main_v3 (broadcastInDim S1x4096x256 ![1, 2] bcast_S4096x256_S1x4096x256_1_2 : Arr F S4096x256 → Arr F S1x4096x256),
    TRef.nullary (TRef.of (T := ⟨S_, .f32⟩) main_call0_call0_cst) (constant S_ .f32 0x00000000#32),
    TRef.unary (TRef.of (T := ⟨S_, .f32⟩) main_call0_call0_cst) (TRef.of (T := ⟨S_, .f32⟩) main_call0_call0_v0) (broadcastInDim S_ ![] bcast_S_S_),
    TRef.binary (TRef.of (T := ⟨S1x4096x256, .f32⟩) main_v3) (TRef.of (T := ⟨S_, .f32⟩) main_call0_call0_v0) (TRef.of (T := ⟨S1x4096x256, .f32⟩) main_v4) (fun x v => Host.reduceWindowAdd ![1, 4096, 1] ![1, 1, 1] ![0, 4095, 0] ![0, 0, 0] x v reduceWindows_S1x4096x256_S1x4096x256_w1s1p0_0_w4096s1p4095_0_w1s1p0_0 h_S_),
    nullary main_v5 (sitofp .f32 (iotaInDim S4096 32 0)),
    nullary main_cst (constant S_ .f32 0x3F800000#32),
    unary main_cst main_v6 (broadcastInDim S4096 ![] bcast_S_S4096 : Arr F S_ → Arr F S4096),
    binary main_v6 main_v5 main_v7 (addf : Arr F S4096 → Arr F S4096 → Arr F S4096),
    unary main_v7 main_v8 (broadcastInDim S1x4096x1 ![1] bcast_S4096_S1x4096x1_1 : Arr F S4096 → Arr F S1x4096x1),
    unary main_v4 main_v9 ((extractStridedSlice S1x4096x64 ![0, 0, 0] · slices_S1x4096x256_S1x4096x64_0_0_0) : Arr F S1x4096x256 → Arr F S1x4096x64),
    unary main_v9 main_v10 ((extractStridedSlice S1x2x64 ![0, 0, 0] · slices_S1x4096x64_S1x2x64_0_0_0) : Arr F S1x4096x64 → Arr F S1x2x64),
    nullary main_cst_0 (constant S_ .f32 0x00000000#32),
    unary main_cst_0 main_v11 (broadcastInDim S1x2x64 ![] bcast_S_S1x2x64 : Arr F S_ → Arr F S1x2x64),
    unary main_v9 main_v12 ((extractStridedSlice S1x4094x64 ![0, 0, 0] · slices_S1x4096x64_S1x4094x64_0_0_0) : Arr F S1x4096x64 → Arr F S1x4094x64),
    binary main_v11 main_v12 main_v13 (fn_main_v13 (F := F)),
    nullary main_cst_1 (constant S_ .f32 0x00000000#32),
    unary main_cst_1 main_v14 (broadcastInDim S1x2x64 ![] bcast_S_S1x2x64 : Arr F S_ → Arr F S1x2x64),
    binary main_v9 main_v13 main_v15 (subf : Arr F S1x4096x64 → Arr F S1x4096x64 → Arr F S1x4096x64),
    nullary main_cst_2 (constant S_ .f32 0x40000000#32),
    unary main_cst_2 main_v16 (broadcastInDim S1x4096x1 ![] bcast_S_S1x4096x1 : Arr F S_ → Arr F S1x4096x1),
    binary main_v8 main_v16 main_v17 (minimumf : Arr F S1x4096x1 → Arr F S1x4096x1 → Arr F S1x4096x1),
    unary main_v17 main_v18 (broadcastInDim S1x4096x64 ![0, 1, 2] bcast_S1x4096x1_S1x4096x64_0_1_2 : Arr F S1x4096x1 → Arr F S1x4096x64),
    binary main_v15 main_v18 main_v19 (Host.divf : Arr F S1x4096x64 → Arr F S1x4096x64 → Arr F S1x4096x64),
    unary main_v3 main_v20 ((extractStridedSlice S1x4096x64 ![0, 0, 0] · slices_S1x4096x256_S1x4096x64_0_0_0) : Arr F S1x4096x256 → Arr F S1x4096x64),
    binary main_v19 main_v20 main_v21 (subf : Arr F S1x4096x64 → Arr F S1x4096x64 → Arr F S1x4096x64),
    unary main_v4 main_v22 ((extractStridedSlice S1x4096x64 ![0, 0, 64] · slices_S1x4096x256_S1x4096x64_0_0_64) : Arr F S1x4096x256 → Arr F S1x4096x64),
    unary main_v22 main_v23 ((extractStridedSlice S1x4x64 ![0, 0, 0] · slices_S1x4096x64_S1x4x64_0_0_0) : Arr F S1x4096x64 → Arr F S1x4x64),
    nullary main_cst_3 (constant S_ .f32 0x00000000#32),
    unary main_cst_3 main_v24 (broadcastInDim S1x4x64 ![] bcast_S_S1x4x64 : Arr F S_ → Arr F S1x4x64),
    unary main_v22 main_v25 ((extractStridedSlice S1x4092x64 ![0, 0, 0] · slices_S1x4096x64_S1x4092x64_0_0_0) : Arr F S1x4096x64 → Arr F S1x4092x64),
    binary main_v24 main_v25 main_v26 (fn_main_v26 (F := F)),
    nullary main_cst_4 (constant S_ .f32 0x00000000#32),
    unary main_cst_4 main_v27 (broadcastInDim S1x4x64 ![] bcast_S_S1x4x64 : Arr F S_ → Arr F S1x4x64),
    binary main_v22 main_v26 main_v28 (subf : Arr F S1x4096x64 → Arr F S1x4096x64 → Arr F S1x4096x64),
    nullary main_cst_5 (constant S_ .f32 0x40800000#32),
    unary main_cst_5 main_v29 (broadcastInDim S1x4096x1 ![] bcast_S_S1x4096x1 : Arr F S_ → Arr F S1x4096x1),
    binary main_v8 main_v29 main_v30 (minimumf : Arr F S1x4096x1 → Arr F S1x4096x1 → Arr F S1x4096x1),
    unary main_v30 main_v31 (broadcastInDim S1x4096x64 ![0, 1, 2] bcast_S1x4096x1_S1x4096x64_0_1_2 : Arr F S1x4096x1 → Arr F S1x4096x64),
    binary main_v28 main_v31 main_v32 (Host.divf : Arr F S1x4096x64 → Arr F S1x4096x64 → Arr F S1x4096x64),
    unary main_v3 main_v33 ((extractStridedSlice S1x4096x64 ![0, 0, 64] · slices_S1x4096x256_S1x4096x64_0_0_64) : Arr F S1x4096x256 → Arr F S1x4096x64),
    binary main_v32 main_v33 main_v34 (subf : Arr F S1x4096x64 → Arr F S1x4096x64 → Arr F S1x4096x64),
    unary main_v4 main_v35 ((extractStridedSlice S1x4096x64 ![0, 0, 128] · slices_S1x4096x256_S1x4096x64_0_0_128) : Arr F S1x4096x256 → Arr F S1x4096x64),
    unary main_v35 main_v36 ((extractStridedSlice S1x8x64 ![0, 0, 0] · slices_S1x4096x64_S1x8x64_0_0_0) : Arr F S1x4096x64 → Arr F S1x8x64),
    nullary main_cst_6 (constant S_ .f32 0x00000000#32),
    unary main_cst_6 main_v37 (broadcastInDim S1x8x64 ![] bcast_S_S1x8x64 : Arr F S_ → Arr F S1x8x64),
    unary main_v35 main_v38 ((extractStridedSlice S1x4088x64 ![0, 0, 0] · slices_S1x4096x64_S1x4088x64_0_0_0) : Arr F S1x4096x64 → Arr F S1x4088x64),
    binary main_v37 main_v38 main_v39 (fn_main_v39 (F := F)),
    nullary main_cst_7 (constant S_ .f32 0x00000000#32),
    unary main_cst_7 main_v40 (broadcastInDim S1x8x64 ![] bcast_S_S1x8x64 : Arr F S_ → Arr F S1x8x64),
    binary main_v35 main_v39 main_v41 (subf : Arr F S1x4096x64 → Arr F S1x4096x64 → Arr F S1x4096x64),
    nullary main_cst_8 (constant S_ .f32 0x41000000#32),
    unary main_cst_8 main_v42 (broadcastInDim S1x4096x1 ![] bcast_S_S1x4096x1 : Arr F S_ → Arr F S1x4096x1),
    binary main_v8 main_v42 main_v43 (minimumf : Arr F S1x4096x1 → Arr F S1x4096x1 → Arr F S1x4096x1),
    unary main_v43 main_v44 (broadcastInDim S1x4096x64 ![0, 1, 2] bcast_S1x4096x1_S1x4096x64_0_1_2 : Arr F S1x4096x1 → Arr F S1x4096x64),
    binary main_v41 main_v44 main_v45 (Host.divf : Arr F S1x4096x64 → Arr F S1x4096x64 → Arr F S1x4096x64),
    unary main_v3 main_v46 ((extractStridedSlice S1x4096x64 ![0, 0, 128] · slices_S1x4096x256_S1x4096x64_0_0_128) : Arr F S1x4096x256 → Arr F S1x4096x64),
    binary main_v45 main_v46 main_v47 (subf : Arr F S1x4096x64 → Arr F S1x4096x64 → Arr F S1x4096x64),
    unary main_v4 main_v48 ((extractStridedSlice S1x4096x64 ![0, 0, 192] · slices_S1x4096x256_S1x4096x64_0_0_192) : Arr F S1x4096x256 → Arr F S1x4096x64),
    unary main_v48 main_v49 ((extractStridedSlice S1x16x64 ![0, 0, 0] · slices_S1x4096x64_S1x16x64_0_0_0) : Arr F S1x4096x64 → Arr F S1x16x64),
    nullary main_cst_9 (constant S_ .f32 0x00000000#32),
    unary main_cst_9 main_v50 (broadcastInDim S1x16x64 ![] bcast_S_S1x16x64 : Arr F S_ → Arr F S1x16x64),
    unary main_v48 main_v51 ((extractStridedSlice S1x4080x64 ![0, 0, 0] · slices_S1x4096x64_S1x4080x64_0_0_0) : Arr F S1x4096x64 → Arr F S1x4080x64),
    binary main_v50 main_v51 main_v52 (fn_main_v52 (F := F)),
    nullary main_cst_10 (constant S_ .f32 0x00000000#32),
    unary main_cst_10 main_v53 (broadcastInDim S1x16x64 ![] bcast_S_S1x16x64 : Arr F S_ → Arr F S1x16x64),
    binary main_v48 main_v52 main_v54 (subf : Arr F S1x4096x64 → Arr F S1x4096x64 → Arr F S1x4096x64),
    nullary main_cst_11 (constant S_ .f32 0x41800000#32),
    unary main_cst_11 main_v55 (broadcastInDim S1x4096x1 ![] bcast_S_S1x4096x1 : Arr F S_ → Arr F S1x4096x1),
    binary main_v8 main_v55 main_v56 (minimumf : Arr F S1x4096x1 → Arr F S1x4096x1 → Arr F S1x4096x1),
    unary main_v56 main_v57 (broadcastInDim S1x4096x64 ![0, 1, 2] bcast_S1x4096x1_S1x4096x64_0_1_2 : Arr F S1x4096x1 → Arr F S1x4096x64),
    binary main_v54 main_v57 main_v58 (Host.divf : Arr F S1x4096x64 → Arr F S1x4096x64 → Arr F S1x4096x64),
    unary main_v3 main_v59 ((extractStridedSlice S1x4096x64 ![0, 0, 192] · slices_S1x4096x256_S1x4096x64_0_0_192) : Arr F S1x4096x256 → Arr F S1x4096x64),
    binary main_v58 main_v59 main_v60 (subf : Arr F S1x4096x64 → Arr F S1x4096x64 → Arr F S1x4096x64),
    unary main_v21 main_v61 (broadcastInDim S1x4096x1x64 ![0, 1, 3] bcast_S1x4096x64_S1x4096x1x64_0_1_3 : Arr F S1x4096x64 → Arr F S1x4096x1x64),
    unary main_v34 main_v62 (broadcastInDim S1x4096x1x64 ![0, 1, 3] bcast_S1x4096x64_S1x4096x1x64_0_1_3 : Arr F S1x4096x64 → Arr F S1x4096x1x64),
    unary main_v47 main_v63 (broadcastInDim S1x4096x1x64 ![0, 1, 3] bcast_S1x4096x64_S1x4096x1x64_0_1_3 : Arr F S1x4096x64 → Arr F S1x4096x1x64),
    unary main_v60 main_v64 (broadcastInDim S1x4096x1x64 ![0, 1, 3] bcast_S1x4096x64_S1x4096x1x64_0_1_3 : Arr F S1x4096x64 → Arr F S1x4096x1x64),
    nary ![main_v61, main_v62, main_v63, main_v64] main_v65 (fun u => fn_main_v65 (F := F) (u 0) (u 1) (u 2) (u 3)),
    binary main_arg3 main_v65 main_v66 ((fun l r => Host.dotGeneral dot_S4x64x64_S1x4096x4x64_S4x64x1x4096_1_3_2_01_0_2 none l r) : Arr F S4x64x64 → Arr F S1x4096x4x64 → Arr F S4x64x1x4096),
    unary main_v66 main_v67 ((transpose S1x4096x4x64 [2, 3, 0, 1] · transposes_S4x64x1x4096_S1x4096x4x64_2_3_0_1) : Arr F S4x64x1x4096 → Arr F S1x4096x4x64),
    reshape main_v67 main_v68 (rfl : (.f32 : EltTy) = .f32) shapeCasts_S1x4096x4x64_S1x4096x256,
    unary main_arg4 main_v69 (broadcastInDim S1x1x256 ![2] bcast_S256_S1x1x256_2 : Arr F S256 → Arr F S1x1x256),
    unary main_v69 main_v70 (broadcastInDim S1x4096x256 ![0, 1, 2] bcast_S1x1x256_S1x4096x256_0_1_2 : Arr F S1x1x256 → Arr F S1x4096x256),
    binary main_v68 main_v70 main_v71 (mulf : Arr F S1x4096x256 → Arr F S1x4096x256 → Arr F S1x4096x256),
    binary main_v68 main_v1 main_v72 (mulf : Arr F S1x4096x256 → Arr F S1x4096x256 → Arr F S1x4096x256),
    nullary main_cst_12 (constant S_ .f32 0x00000000#32),
    binary main_v72 main_cst_12 main_v73 ((fun x v => Host.reduceAdd x v reducesTo_S1x4096x256_S1x256_d1 h_S_) : Arr F S1x4096x256 → Arr F S_ → Arr F S1x256),
    reshape main_v73 main_v74 (rfl : (.f32 : EltTy) = .f32) shapeCasts_S1x256_S1x1x256,
    unary main_v69 main_v75 (broadcastInDim S1x4096x256 ![0, 1, 2] bcast_S1x1x256_S1x4096x256_0_1_2 : Arr F S1x1x256 → Arr F S1x4096x256),
    binary main_v1 main_v75 main_v76 (mulf : Arr F S1x4096x256 → Arr F S1x4096x256 → Arr F S1x4096x256),
    nullary main_cst_13 (constant S_ .f32 0x00000000#32),
    binary main_v74 main_cst_13 main_v77 ((fun x v => Host.reduceAdd x v reducesTo_S1x1x256_S256_d0_1 h_S_) : Arr F S1x1x256 → Arr F S_ → Arr F S256),
    reshape main_v76 main_v78 (rfl : (.f32 : EltTy) = .f32) shapeCasts_S1x4096x256_S1x4096x4x64,
    unary main_v78 main_v79 ((transpose S4x64x1x4096 [2, 3, 0, 1] · transposes_S1x4096x4x64_S4x64x1x4096_2_3_0_1) : Arr F S1x4096x4x64 → Arr F S4x64x1x4096),
    binary main_v79 main_arg3 main_v80 ((fun l r => Host.dotGeneral dot_S4x64x1x4096_S4x64x64_S4x1x4096x64_1_2_23_1_0_0 none l r) : Arr F S4x64x1x4096 → Arr F S4x64x64 → Arr F S4x1x4096x64),
    unary main_v80 main_v81 ((transpose S1x4096x4x64 [1, 2, 0, 3] · transposes_S4x1x4096x64_S1x4096x4x64_1_2_0_3) : Arr F S4x1x4096x64 → Arr F S1x4096x4x64),
    binary main_v79 main_v65 main_v82 ((fun l r => Host.dotGeneral dot_S4x64x1x4096_S1x4096x4x64_S4x64x64_23_01_1_3_0_2 none l r) : Arr F S4x64x1x4096 → Arr F S1x4096x4x64 → Arr F S4x64x64),
    unary main_v82 main_v83 ((transpose S4x64x64 [0, 2, 1] · transposes_S4x64x64_S4x64x64_0_2_1) : Arr F S4x64x64 → Arr F S4x64x64),
    unary main_v81 main_v84 ((extractStridedSlice S1x4096x1x64 ![0, 0, 0, 0] · slices_S1x4096x4x64_S1x4096x1x64_0_0_0_0) : Arr F S1x4096x4x64 → Arr F S1x4096x1x64),
    reshape main_v84 main_v85 (rfl : (.f32 : EltTy) = .f32) shapeCasts_S1x4096x1x64_S1x4096x64,
    unary main_v81 main_v86 ((extractStridedSlice S1x4096x1x64 ![0, 0, 1, 0] · slices_S1x4096x4x64_S1x4096x1x64_0_0_1_0) : Arr F S1x4096x4x64 → Arr F S1x4096x1x64),
    reshape main_v86 main_v87 (rfl : (.f32 : EltTy) = .f32) shapeCasts_S1x4096x1x64_S1x4096x64,
    unary main_v81 main_v88 ((extractStridedSlice S1x4096x1x64 ![0, 0, 2, 0] · slices_S1x4096x4x64_S1x4096x1x64_0_0_2_0) : Arr F S1x4096x4x64 → Arr F S1x4096x1x64),
    reshape main_v88 main_v89 (rfl : (.f32 : EltTy) = .f32) shapeCasts_S1x4096x1x64_S1x4096x64,
    unary main_v81 main_v90 ((extractStridedSlice S1x4096x1x64 ![0, 0, 3, 0] · slices_S1x4096x4x64_S1x4096x1x64_0_0_3_0) : Arr F S1x4096x4x64 → Arr F S1x4096x1x64),
    reshape main_v90 main_v91 (rfl : (.f32 : EltTy) = .f32) shapeCasts_S1x4096x1x64_S1x4096x64,
    unary main_v91 main_v92 (Host.negf : Arr F S1x4096x64 → Arr F S1x4096x64),
    nullary main_cst_14 (constant S_ .f32 0x00000000#32),
    binary main_v92 main_cst_14 main_v93 ((fun x v => pad S1x4096x256 ![0, 0, 192] ![0, 0, 0] ![0, 0, 0] x v pads_S1x4096x64_S1x4096x256_000_000_19200 h_S_) : Arr F S1x4096x64 → Arr F S_ → Arr F S1x4096x256),
    unary main_v56 main_v94 (broadcastInDim S1x4096x64 ![0, 1, 2] bcast_S1x4096x1_S1x4096x64_0_1_2 : Arr F S1x4096x1 → Arr F S1x4096x64),
    binary main_v91 main_v94 main_v95 (Host.divf : Arr F S1x4096x64 → Arr F S1x4096x64 → Arr F S1x4096x64),
    unary main_v95 main_v96 (Host.negf : Arr F S1x4096x64 → Arr F S1x4096x64),
    unary main_v96 main_v97 ((extractStridedSlice S1x16x64 ![0, 0, 0] · slices_S1x4096x64_S1x16x64_0_0_0) : Arr F S1x4096x64 → Arr F S1x16x64),
    unary main_v96 main_v98 ((extractStridedSlice S1x4080x64 ![0, 16, 0] · slices_S1x4096x64_S1x4080x64_0_16_0) : Arr F S1x4096x64 → Arr F S1x4080x64),
    nullary main_cst_15 (constant S_ .f32 0x00000000#32),
    binary main_v98 main_cst_15 main_v99 ((fun x v => pad S1x4096x64 ![0, 0, 0] ![0, 16, 0] ![0, 0, 0] x v pads_S1x4080x64_S1x4096x64_000_0160_000 h_S_) : Arr F S1x4080x64 → Arr F S_ → Arr F S1x4096x64),
    binary main_v95 main_v99 main_v100 (addf : Arr F S1x4096x64 → Arr F S1x4096x64 → Arr F S1x4096x64),
    nullary main_cst_16 (constant S_ .f32 0x00000000#32),
    binary main_v100 main_cst_16 main_v101 ((fun x v => pad S1x4096x256 ![0, 0, 192] ![0, 0, 0] ![0, 0, 0] x v pads_S1x4096x64_S1x4096x256_000_000_19200 h_S_) : Arr F S1x4096x64 → Arr F S_ → Arr F S1x4096x256),
    unary main_v89 main_v102 (Host.negf : Arr F S1x4096x64 → Arr F S1x4096x64),
    nullary main_cst_17 (constant S_ .f32 0x00000000#32),
    binary main_v102 main_cst_17 main_v103 ((fun x v => pad S1x4096x256 ![0, 0, 128] ![0, 0, 64] ![0, 0, 0] x v pads_S1x4096x64_S1x4096x256_000_000_128640 h_S_) : Arr F S1x4096x64 → Arr F S_ → Arr F S1x4096x256),
    binary main_v93 main_v103 main_v104 (addf : Arr F S1x4096x256 → Arr F S1x4096x256 → Arr F S1x4096x256),
    unary main_v43 main_v105 (broadcastInDim S1x4096x64 ![0, 1, 2] bcast_S1x4096x1_S1x4096x64_0_1_2 : Arr F S1x4096x1 → Arr F S1x4096x64),
    binary main_v89 main_v105 main_v106 (Host.divf : Arr F S1x4096x64 → Arr F S1x4096x64 → Arr F S1x4096x64),
    unary main_v106 main_v107 (Host.negf : Arr F S1x4096x64 → Arr F S1x4096x64),
    unary main_v107 main_v108 ((extractStridedSlice S1x8x64 ![0, 0, 0] · slices_S1x4096x64_S1x8x64_0_0_0) : Arr F S1x4096x64 → Arr F S1x8x64),
    unary main_v107 main_v109 ((extractStridedSlice S1x4088x64 ![0, 8, 0] · slices_S1x4096x64_S1x4088x64_0_8_0) : Arr F S1x4096x64 → Arr F S1x4088x64),
    nullary main_cst_18 (constant S_ .f32 0x00000000#32),
    binary main_v109 main_cst_18 main_v110 ((fun x v => pad S1x4096x64 ![0, 0, 0] ![0, 8, 0] ![0, 0, 0] x v pads_S1x4088x64_S1x4096x64_000_080_000 h_S_) : Arr F S1x4088x64 → Arr F S_ → Arr F S1x4096x64),
    binary main_v106 main_v110 main_v111 (addf : Arr F S1x4096x64 → Arr F S1x4096x64 → Arr F S1x4096x64),
    nullary main_cst_19 (constant S_ .f32 0x00000000#32),
    binary main_v111 main_cst_19 main_v112 ((fun x v => pad S1x4096x256 ![0, 0, 128] ![0, 0, 64] ![0, 0, 0] x v pads_S1x4096x64_S1x4096x256_000_000_128640 h_S_) : Arr F S1x4096x64 → Arr F S_ → Arr F S1x4096x256),
    binary main_v101 main_v112 main_v113 (addf : Arr F S1x4096x256 → Arr F S1x4096x256 → Arr F S1x4096x256),
    unary main_v87 main_v114 (Host.negf : Arr F S1x4096x64 → Arr F S1x4096x64),
    nullary main_cst_20 (constant S_ .f32 0x00000000#32),
    binary main_v114 main_cst_20 main_v115 ((fun x v => pad S1x4096x256 ![0, 0, 64] ![0, 0, 128] ![0, 0, 0] x v pads_S1x4096x64_S1x4096x256_000_000_641280 h_S_) : Arr F S1x4096x64 → Arr F S_ → Arr F S1x4096x256),
    binary main_v104 main_v115 main_v116 (addf : Arr F S1x4096x256 → Arr F S1x4096x256 → Arr F S1x4096x256),
    unary main_v30 main_v117 (broadcastInDim S1x4096x64 ![0, 1, 2] bcast_S1x4096x1_S1x4096x64_0_1_2 : Arr F S1x4096x1 → Arr F S1x4096x64),
    binary main_v87 main_v117 main_v118 (Host.divf : Arr F S1x4096x64 → Arr F S1x4096x64 → Arr F S1x4096x64),
    unary main_v118 main_v119 (Host.negf : Arr F S1x4096x64 → Arr F S1x4096x64),
    unary main_v119 main_v120 ((extractStridedSlice S1x4x64 ![0, 0, 0] · slices_S1x4096x64_S1x4x64_0_0_0) : Arr F S1x4096x64 → Arr F S1x4x64),
    unary main_v119 main_v121 ((extractStridedSlice S1x4092x64 ![0, 4, 0] · slices_S1x4096x64_S1x4092x64_0_4_0) : Arr F S1x4096x64 → Arr F S1x4092x64),
    nullary main_cst_21 (constant S_ .f32 0x00000000#32),
    binary main_v121 main_cst_21 main_v122 ((fun x v => pad S1x4096x64 ![0, 0, 0] ![0, 4, 0] ![0, 0, 0] x v pads_S1x4092x64_S1x4096x64_000_040_000 h_S_) : Arr F S1x4092x64 → Arr F S_ → Arr F S1x4096x64),
    binary main_v118 main_v122 main_v123 (addf : Arr F S1x4096x64 → Arr F S1x4096x64 → Arr F S1x4096x64),
    nullary main_cst_22 (constant S_ .f32 0x00000000#32),
    binary main_v123 main_cst_22 main_v124 ((fun x v => pad S1x4096x256 ![0, 0, 64] ![0, 0, 128] ![0, 0, 0] x v pads_S1x4096x64_S1x4096x256_000_000_641280 h_S_) : Arr F S1x4096x64 → Arr F S_ → Arr F S1x4096x256),
    binary main_v113 main_v124 main_v125 (addf : Arr F S1x4096x256 → Arr F S1x4096x256 → Arr F S1x4096x256),
    unary main_v85 main_v126 (Host.negf : Arr F S1x4096x64 → Arr F S1x4096x64),
    nullary main_cst_23 (constant S_ .f32 0x00000000#32),
    binary main_v126 main_cst_23 main_v127 ((fun x v => pad S1x4096x256 ![0, 0, 0] ![0, 0, 192] ![0, 0, 0] x v pads_S1x4096x64_S1x4096x256_000_000_01920 h_S_) : Arr F S1x4096x64 → Arr F S_ → Arr F S1x4096x256),
    binary main_v116 main_v127 main_v128 (addf : Arr F S1x4096x256 → Arr F S1x4096x256 → Arr F S1x4096x256),
    unary main_v17 main_v129 (broadcastInDim S1x4096x64 ![0, 1, 2] bcast_S1x4096x1_S1x4096x64_0_1_2 : Arr F S1x4096x1 → Arr F S1x4096x64),
    binary main_v85 main_v129 main_v130 (Host.divf : Arr F S1x4096x64 → Arr F S1x4096x64 → Arr F S1x4096x64),
    unary main_v130 main_v131 (Host.negf : Arr F S1x4096x64 → Arr F S1x4096x64),
    unary main_v131 main_v132 ((extractStridedSlice S1x2x64 ![0, 0, 0] · slices_S1x4096x64_S1x2x64_0_0_0) : Arr F S1x4096x64 → Arr F S1x2x64),
    unary main_v131 main_v133 ((extractStridedSlice S1x4094x64 ![0, 2, 0] · slices_S1x4096x64_S1x4094x64_0_2_0) : Arr F S1x4096x64 → Arr F S1x4094x64),
    nullary main_cst_24 (constant S_ .f32 0x00000000#32),
    binary main_v133 main_cst_24 main_v134 ((fun x v => pad S1x4096x64 ![0, 0, 0] ![0, 2, 0] ![0, 0, 0] x v pads_S1x4094x64_S1x4096x64_000_020_000 h_S_) : Arr F S1x4094x64 → Arr F S_ → Arr F S1x4096x64),
    binary main_v130 main_v134 main_v135 (addf : Arr F S1x4096x64 → Arr F S1x4096x64 → Arr F S1x4096x64),
    nullary main_cst_25 (constant S_ .f32 0x00000000#32),
    binary main_v135 main_cst_25 main_v136 ((fun x v => pad S1x4096x256 ![0, 0, 0] ![0, 0, 192] ![0, 0, 0] x v pads_S1x4096x64_S1x4096x256_000_000_01920 h_S_) : Arr F S1x4096x64 → Arr F S_ → Arr F S1x4096x256),
    binary main_v125 main_v136 main_v137 (addf : Arr F S1x4096x256 → Arr F S1x4096x256 → Arr F S1x4096x256),
    TRef.nullary (TRef.of (T := ⟨S_, .f32⟩) main_call1_call0_cst) (constant S_ .f32 0x00000000#32),
    TRef.unary (TRef.of (T := ⟨S_, .f32⟩) main_call1_call0_cst) (TRef.of (T := ⟨S_, .f32⟩) main_call1_call0_v0) (broadcastInDim S_ ![] bcast_S_S_),
    TRef.binary (TRef.of (T := ⟨S1x4096x256, .f32⟩) main_v137) (TRef.of (T := ⟨S_, .f32⟩) main_call1_call0_v0) (TRef.of (T := ⟨S1x4096x256, .f32⟩) main_v138) (fun x v => Host.reduceWindowAdd ![1, 4096, 1] ![1, 1, 1] ![0, 0, 0] ![0, 4095, 0] x v reduceWindows_S1x4096x256_S1x4096x256_w1s1p0_0_w4096s1p0_4095_w1s1p0_0 h_S_),
    binary main_v128 main_v138 main_v139 (addf : Arr F S1x4096x256 → Arr F S1x4096x256 → Arr F S1x4096x256),
    unary main_arg1 main_v140 ((extractStridedSlice S4096x2048 ![0, 0] · slices_S4096x2304_S4096x2048_0_0) : (⟨S4096x2304, .bf16⟩ : BufTy).Contents (Elt F) → (⟨S4096x2048, .bf16⟩ : BufTy).Contents (Elt F)),
    reshape main_v139 main_v141 (rfl : (.f32 : EltTy) = .f32) shapeCasts_S1x4096x256_S4096x256,
    unary main_v141 main_v142 ((truncf .bf16 · bitsLt_bf16_f32) : Arr F S4096x256 → (⟨S4096x256, .bf16⟩ : BufTy).Contents (Elt F)),
    binary main_v140 main_v142 main_v143 (fn_main_v143 (F := F)),
    reshape main_v83 main_v144 (rfl : (.f32 : EltTy) = .f32) shapeCasts_S4x64x64_S256x64,
    nary ![main_v144, main_v144, main_v144, main_v144] main_v145 (fun u => fn_main_v145 (F := F) (u 0) (u 1) (u 2) (u 3)),
    reshape main_v77 main_v146 (rfl : (.f32 : EltTy) = .f32) shapeCasts_S256_S1x256 ]

set_option maxHeartbeats 4000000 in
theorem main_eq (c : Dev nD) : main (F := F) c = seq ops := rfl

theorem noScopedRefs : (Finset.univ.filter fun b : Ref sig .tc => b.isScoped) = ∅ := by decide

theorem noScopedSems : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., nullary_bufs_sub .., unary_bufs_sub .., binary_bufs_sub .., nullary_bufs_sub .., nullary_bufs_sub .., unary_bufs_sub .., binary_bufs_sub .., unary_bufs_sub .., unary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., unary_bufs_sub .., unary_bufs_sub .., unary_bufs_sub .., nary_bufs_sub .., binary_bufs_sub .., unary_bufs_sub .., reshape_bufs_sub .., unary_bufs_sub .., unary_bufs_sub .., binary_bufs_sub .., binary_bufs_sub .., nullary_bufs_sub .., binary_bufs_sub .., reshape_bufs_sub .., unary_bufs_sub .., binary_bufs_sub .., nullary_bufs_sub .., binary_bufs_sub .., reshape_bufs_sub .., unary_bufs_sub .., binary_bufs_sub .., unary_bufs_sub .., binary_bufs_sub .., unary_bufs_sub .., unary_bufs_sub .., reshape_bufs_sub .., unary_bufs_sub .., reshape_bufs_sub .., unary_bufs_sub .., reshape_bufs_sub .., unary_bufs_sub .., reshape_bufs_sub .., unary_bufs_sub .., nullary_bufs_sub .., binary_bufs_sub .., unary_bufs_sub .., binary_bufs_sub .., unary_bufs_sub .., unary_bufs_sub .., unary_bufs_sub .., nullary_bufs_sub .., binary_bufs_sub .., binary_bufs_sub .., nullary_bufs_sub .., binary_bufs_sub .., unary_bufs_sub .., nullary_bufs_sub .., binary_bufs_sub .., binary_bufs_sub .., unary_bufs_sub .., binary_bufs_sub .., unary_bufs_sub .., unary_bufs_sub .., unary_bufs_sub .., nullary_bufs_sub .., binary_bufs_sub .., binary_bufs_sub .., nullary_bufs_sub .., binary_bufs_sub .., binary_bufs_sub .., unary_bufs_sub .., nullary_bufs_sub .., binary_bufs_sub .., binary_bufs_sub .., unary_bufs_sub .., binary_bufs_sub .., unary_bufs_sub .., unary_bufs_sub .., unary_bufs_sub .., nullary_bufs_sub .., binary_bufs_sub .., binary_bufs_sub .., nullary_bufs_sub .., binary_bufs_sub .., binary_bufs_sub .., unary_bufs_sub .., nullary_bufs_sub .., binary_bufs_sub .., binary_bufs_sub .., unary_bufs_sub .., binary_bufs_sub .., unary_bufs_sub .., unary_bufs_sub .., unary_bufs_sub .., nullary_bufs_sub .., binary_bufs_sub .., binary_bufs_sub .., nullary_bufs_sub .., binary_bufs_sub .., binary_bufs_sub .., nullary_bufs_sub .., unary_bufs_sub .., binary_bufs_sub .., binary_bufs_sub .., unary_bufs_sub .., reshape_bufs_sub .., unary_bufs_sub .., binary_bufs_sub .., reshape_bufs_sub .., nary_bufs_sub .., reshape_bufs_sub ..⟩
end

set_option maxHeartbeats 80000000 in
/-- The reference terminates with its results at the three chains of stages and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v143) = resDz m c
        ∧ r.2.mem ((c.tc : Thread nD τ).loc main_v145) = resDw m c
        ∧ r.2.mem ((c.tc : Thread nD τ).loc main_v146) = resDs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨⟨(h c main_v143).trans ?_, (h c main_v145).trans ?_, (h c main_v146).trans ?_⟩,
    (h c main_arg0).trans ?_, (h c main_arg1).trans ?_, (h c main_arg2).trans ?_, (h c main_arg3).trans ?_, (h c main_arg4).trans ?_⟩)
    (run_seq noScopedRefs noScopedSems defs main (fun _ => ops) main_eq (fun _ => ops_sub) m ρ)
  all_goals
    simp only [ops, TRef.binary, TRef.nullary, TRef.unary, TRef.toBuf, TRef.ofBuf, cast_eq]
    after_results_simp <;> (try dsimp only [Matrix.cons_val]) <;> (try after_results_simp) <;> (try dsimp only [Matrix.cons_val]) <;> (try after_results_simp) <;> rfl

end Cert.ReferenceIdeal.Read
end
-- ==== Proof.PoolClaim.lean ====
module

public import proofs.«01_k».proof.Defs
public import proofs.«01_k».proof.Proof.PoolValue
public import proofs.«01_k».proof.Proof.PoolRead
public import proofs.«01_k».proof.Proof.PoolRun
public import proofs.«01_k».proof.Proof.Gen.KernelIdeal.Frame
public import Idealize.ShloMosaic.Lib.Pointwise
public import Idealize.ShloMosaic.Lib.Quiescent
public import Idealize.ShloMosaic.PureOps.Ideal.Laws

/-! The window mixer's gradient: on finite arguments the kernel and the reference have equal results. -/

@[expose] public section
set_option maxRecDepth 16384
noncomputable section
open Idealize.ShloMosaic Idealize.ShloMosaic.TcCoe Idealize.SL.Sem

namespace Cert.Pool

instance preFacts : Cert.Pre_finite.Facts where
  slices_S4096x2304_S4096x256_0_2048 := by decide +kernel
  bcast_S_S4096x256 := by decide +kernel
  slices_S4096x1024_S4096x256_0_768 := by decide +kernel
  bcast_S_S4x64x64 := by decide +kernel
  bcast_S_S256 := by decide +kernel

instance onFacts : Cert.On_diag_blocks.Facts where
  bcast_S_S4096x2304 := by decide +kernel
  bcast_S_S256x256 := by decide +kernel
  bcast_S_S1x256 := by decide +kernel

theorem infinity : Ideal.ofBits .f32 0x7F800000#32 = (⊤ : EReal) := by simp [Ideal.ofBits, Ideal.ieee]

/-- An entry strictly between the infinities is a real number. -/
theorem real_of_bits (x : EReal)
    (h : IntOp.andi (BitVec.ofBool (decide (x < Ideal.ofBits .f32 2139095040#32))) (BitVec.ofBool (decide (-Ideal.ofBits .f32 2139095040#32 < x))) = 1#1) :
    x = ((x.toReal : ℝ) : EReal) := by
  rw [infinity] at h
  refine (EReal.coe_toReal ?_ ?_).symm
  · rintro rfl; simp [IntOp.andi] at h
  · rintro rfl; simp [IntOp.andi] at h

section
variable {a0 : FVec Ideal Cert.Pre_finite.S4096x2304 .f32} {a1 : FVec Ideal Cert.Pre_finite.S4096x2304 .bf16}
  {a2 : FVec Ideal Cert.Pre_finite.S4096x1024 .f32} {a3 : FVec Ideal Cert.Pre_finite.S4x64x64 .f32} {a4 : FVec Ideal Cert.Pre_finite.S256 .f32}

theorem inputs
    (h0 : (Cert.Pre_finite.fn (F := Ideal) a0 a1 a2 a3 a4).1 = fun _ => 1#1)
    (h1 : (Cert.Pre_finite.fn (F := Ideal) a0 a1 a2 a3 a4).2.1 = fun _ => 1#1)
    (h2 : (Cert.Pre_finite.fn (F := Ideal) a0 a1 a2 a3 a4).2.2.1 = fun _ => 1#1)
    (h3 : (Cert.Pre_finite.fn (F := Ideal) a0 a1 a2 a3 a4).2.2.2 = fun _ => 1#1) :
    Inputs (fun p d => if hp : p < 4096 then (a0 (ix2 (⟨p, hp⟩ : Fin 4096) (⟨2048 + d.val, by omega⟩ : Fin 2304)) : EReal).toReal else 0)
      (fun p d => if hp : p < 4096 then (a2 (ix2 (⟨p, hp⟩ : Fin 4096) (⟨768 + d.val, by omega⟩ : Fin 1024)) : EReal).toReal else 0)
      (fun e => (a4 (ix1 e) : EReal).toReal) (fun k a b => (a3 (ix3 k a b) : EReal).toReal) a0 a2 a3 a4 where
  z p d := by
    rw [dif_pos p.isLt]
    have h := congrFun h0 (ix2 p d)
    exact real_of_bits _ (Eq.trans (by pointwise [Cert.Pre_finite.fn, Cert.Pre_finite.fn_part1]) h)
  dmix p d := by
    rw [dif_pos p.isLt]
    have h := congrFun h1 (ix2 p d)
    exact real_of_bits _ (Eq.trans (by pointwise [Cert.Pre_finite.fn, Cert.Pre_finite.fn_part1]) h)
  dw k a b := by
    have h := congrFun h2 (ix3 k a b)
    exact real_of_bits _ (Eq.trans (by pointwise [Cert.Pre_finite.fn, Cert.Pre_finite.fn_part1]) h)
  ds e := by
    have h := congrFun h3 (ix1 e)
    exact real_of_bits _ (Eq.trans (by pointwise [Cert.Pre_finite.fn, Cert.Pre_finite.fn_part1]) h)

theorem heads : ∀ d e : Fin 256, IntOp.cmpi CmpIPredicate.eq (IntOp.shrui ArithUnit.host (BitVec.ofNat 32 d.val) 6#32)
    (IntOp.shrui ArithUnit.host (BitVec.ofNat 32 e.val) 6#32) = 1#1 → d.val / 64 = e.val / 64 := by
  have key : ∀ d : Fin 256, IntOp.shrui ArithUnit.host (BitVec.ofNat 32 d.val) 6#32 = BitVec.ofNat 32 (d.val / 64) := by decide +kernel
  have eqv : ∀ a b : Fin 4, IntOp.cmpi CmpIPredicate.eq (BitVec.ofNat 32 a.val) (BitVec.ofNat 32 b.val) = 1#1 → a = b := by decide +kernel
  intro d e h
  rw [key, key] at h
  exact congrArg Fin.val (eqv ⟨d.val / 64, by omega⟩ ⟨e.val / 64, by omega⟩ h)

/-- The mask of the second result is on the diagonal blocks only. -/
theorem same_head (d e : Fin 256) (h : (Cert.On_diag_blocks.fn (F := Ideal) a0 a1 a2 a3 a4).2.1 (ix2 d e) = 1#1) : d.val / 64 = e.val / 64 := by
  refine heads d e (Eq.trans ?_ h)
  pointwise [Cert.On_diag_blocks.fn]
end

end Cert.Pool

namespace Cert.ReferenceIdeal.Read
open Cert.ReferenceIdeal Cert.ReferenceIdeal.Gen

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2, sem_eq_zero_of_no_sems (by decide) r.2⟩) (run m ρ)

end Cert.ReferenceIdeal.Read

namespace Cert.Pool

theorem split {c : Dev Cert.KernelIdeal.nD} {m : (ℓ : Loc Cert.KernelIdeal.nD Cert.KernelIdeal.τ Cert.KernelIdeal.sig) → Buf (Elt Ideal) ℓ}
    {c' : Dev Cert.ReferenceIdeal.nD} {m' : (ℓ : Loc Cert.ReferenceIdeal.nD Cert.ReferenceIdeal.τ Cert.ReferenceIdeal.sig) → Buf (Elt Ideal) ℓ}
    {X DY : ℕ → Fin 256 → ℝ} {S : Fin 256 → ℝ} {w : Fin 4 → Fin 64 → Fin 64 → ℝ}
    (h : Cert.KernelIdeal.Body.In m X DY S w c) (h' : Cert.ReferenceIdeal.Read.In m' X DY S w c')
    (e1 : (m' ((c'.tc : Thread Cert.ReferenceIdeal.nD Cert.ReferenceIdeal.τ).loc Cert.ReferenceIdeal.main_arg1) : Vec Ideal Cert.KernelIdeal.S4096x2304 .bf16)
      = m ((c.tc : Thread Cert.KernelIdeal.nD Cert.KernelIdeal.τ).loc Cert.KernelIdeal.main_arg1))
    (p : Fin 4096) (q : Fin 2304) :
    (Cert.ReferenceIdeal.Read.resDz m' c' : Vec Ideal Cert.KernelIdeal.S4096x2304 .bf16) (ix2 p q)
      = ((Cert.KernelIdeal.Gen.dats m 0 c).arrAt 6 Cert.KernelIdeal.cfg0.N : Vec Ideal Cert.KernelIdeal.S4096x2304 .bf16) (ix2 p q) := by
  by_cases hq : q.val < 2048
  · exact (Cert.ReferenceIdeal.Read.resDz_out c' p q hq).trans ((congrFun e1 _).trans (Cert.KernelIdeal.Body.final6_out m c p q hq).symm)
  · have key : ∀ (d : Fin 256) (q' : Fin 2304), q' = (⟨2048 + d.val, by omega⟩ : Fin 2304) →
        (Cert.ReferenceIdeal.Read.resDz m' c' : Vec Ideal Cert.KernelIdeal.S4096x2304 .bf16) (ix2 p q')
          = ((Cert.KernelIdeal.Gen.dats m 0 c).arrAt 6 Cert.KernelIdeal.cfg0.N : Vec Ideal Cert.KernelIdeal.S4096x2304 .bf16) (ix2 p q') := by
      intro d q' e; subst e
      exact (Cert.ReferenceIdeal.Read.resDz_in h' p d).trans (Cert.KernelIdeal.Body.final6_in m h p d).symm
    exact key ⟨q.val - 2048, by omega⟩ q (Fin.ext (by simp only; omega))

theorem blocks {c : Dev Cert.KernelIdeal.nD} {m : (ℓ : Loc Cert.KernelIdeal.nD Cert.KernelIdeal.τ Cert.KernelIdeal.sig) → Buf (Elt Ideal) ℓ}
    {c' : Dev Cert.ReferenceIdeal.nD} {m' : (ℓ : Loc Cert.ReferenceIdeal.nD Cert.ReferenceIdeal.τ Cert.ReferenceIdeal.sig) → Buf (Elt Ideal) ℓ}
    {X DY : ℕ → Fin 256 → ℝ} {S : Fin 256 → ℝ} {w : Fin 4 → Fin 64 → Fin 64 → ℝ}
    (h : Cert.KernelIdeal.Body.In m X DY S w c) (h' : Cert.ReferenceIdeal.Read.In m' X DY S w c')
    (d e : Fin 256) (hh : d.val / 64 = e.val / 64) :
    (Cert.ReferenceIdeal.Read.resDw m' c' : Vec Ideal Cert.KernelIdeal.S256x256 .f32) (ix2 d e)
      = ((Cert.KernelIdeal.Gen.dats m 0 c).arrAt 7 Cert.KernelIdeal.cfg0.N : Vec Ideal Cert.KernelIdeal.S256x256 .f32) (ix2 d e) := by
  have ed : d = Cert.ReferenceIdeal.Read.lane ⟨e.val / 64, by omega⟩ ⟨d.val % 64, by omega⟩ :=
    Fin.ext (by show d.val = e.val / 64 * 64 + d.val % 64; omega)
  have ee : e = Cert.ReferenceIdeal.Read.lane ⟨e.val / 64, by omega⟩ ⟨e.val % 64, by omega⟩ :=
    (Cert.ReferenceIdeal.Read.lane_div_mod e).symm
  have key : ∀ (k : Fin 4) (a b : Fin 64) (d e : Fin 256), d = Cert.ReferenceIdeal.Read.lane k a → e = Cert.ReferenceIdeal.Read.lane k b →
      (Cert.ReferenceIdeal.Read.resDw m' c' : Vec Ideal Cert.KernelIdeal.S256x256 .f32) (ix2 d e)
        = ((Cert.KernelIdeal.Gen.dats m 0 c).arrAt 7 Cert.KernelIdeal.cfg0.N : Vec Ideal Cert.KernelIdeal.S256x256 .f32) (ix2 d e) := by
    intro k a b d e hd he; subst hd; subst he
    exact (Cert.ReferenceIdeal.Read.resDw_apply h' k a b).trans (Cert.KernelIdeal.Body.final7_apply m h _ _).symm
  exact key _ _ _ d e ed ee

theorem algebraic : Cert.algebraic_KernelIdeal_ReferenceIdeal_on_diag_blocks_pre_finite := by
  intro m g m' g' hpre hag
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N, ?_, ?_⟩
  · refine (θ_run Cert.KernelIdeal.defs _ _).mono (fun r h c => ?_) (Cert.KernelIdeal.Value.run_blocks m g)
    obtain ⟨h6, h7, h8, ha⟩ := h c
    exact ⟨fun i _ => congrFun h6 i, fun i _ => congrFun h7 i, fun i _ => congrFun h8 i, ha⟩
  · refine (θ_run Cert.ReferenceIdeal.defs _ _).mono (fun r h c => ?_) (Cert.ReferenceIdeal.Read.run m' g')
    obtain ⟨⟨h6, h7, h8⟩, ha⟩ := h c
    obtain ⟨X, DY, S, w, hk⟩ : ∃ X DY S w, Cert.KernelIdeal.Body.In m X DY S w c :=
      ⟨_, _, _, _, inputs (hpre c).1 (hpre c).2.1 (hpre c).2.2.1 (hpre c).2.2.2⟩
    have hr : Cert.ReferenceIdeal.Read.In m' X DY S w c := by
      obtain ⟨e0, e1, e2, e3, e4⟩ := hag c
      unfold Cert.ReferenceIdeal.Read.In
      rw [e0, e2, e3, e4]
      exact hk
    refine ⟨fun i _ => (congrFun h6 i).trans ?_, fun i hi => (congrFun h7 i).trans ?_, fun i _ => (congrFun h8 i).trans ?_, ha⟩
    · rw [eq_ix2 i]; exact split hk hr (hag c).2.1 _ _
    · rw [eq_ix2 i] at hi ⊢
      exact blocks hk hr _ _ (same_head _ _ hi)
    · rw [eq_ix2 i, show i 0 = (0 : Fin 1) from Subsingleton.elim (α := Fin 1) _ _]
      exact (Cert.ReferenceIdeal.Read.resDs_apply hr _).trans (Cert.KernelIdeal.Body.final8_apply m hk _).symm

end Cert.Pool
end
-- ==== Proof.MlpBody.lean ====
module

public import proofs.«01_k».proof.Proof.Gen.Kernel2Ideal.Frame
public import Idealize.ShloMosaic.Lib.Pipeline.Value
public import Idealize.ShloMosaic.Lib.Tactic

/-! What one grid point of the gated MLP's backward call leaves in each output block and in the carried scratches, as a
plain function of the blocks it reads. -/

@[expose] public section

set_option maxRecDepth 16384

noncomputable section

namespace Cert.Kernel2Ideal.Body

open Cert.Kernel2Ideal Cert.Kernel2Ideal.Gen Idealize.ShloMosaic Idealize.ShloMosaic.TcCoe Idealize.SL.Sem

variable {F : FTy → Type} [FloatOps F] [Named F]

theorem hz : (![0, 0] : Fin 2 → Nat) = fun _ => 0 := funext fun a => by fin_cases a <;> rfl

/-- A load of a whole rank-two buffer reads its contents. -/
theorem ldz {d : Fin 2 → Nat} {e : EltTy} (inb : ∀ a, (![0, 0] : Fin 2 → Nat) a + d a ≤ d a)
    (X : Shape.Idx ⟨2, d⟩ → Elt F e) : View.ld X (Rect.unit (s := ⟨2, d⟩) ![0, 0] d inb) = X :=
  View.ld_unit_zero (S := ⟨2, d⟩) hz inb X

/-- A load of a whole rank-two scratch after some stores reads what the stores leave. -/
theorem rcz {d : Fin 2 → Nat} {e : EltTy} (v : View sig .tc .vmem ⟨2, d⟩ e) (L : List (View.Piece (Elt F) ⟨2, d⟩ e))
    (inb : ∀ a, (![0, 0] : Fin 2 → Nat) a + d a ≤ d a) :
    v.readCov L (Rect.unit (s := ⟨2, d⟩) ![0, 0] d inb).toLoadRect = View.canon L :=
  (View.readCov_eq_canon' v L _).trans (View.ld_unit_zero (S := ⟨2, d⟩) hz inb _)

/-- A load of one row after another row is stored reads what was there before. -/
theorem rc_off {d : Fin 2 → Nat} {e : EltTy} (v : View sig .tc .vmem ⟨2, d⟩ e) (n : ℕ) {a b : ℕ} {ha hb}
    (w : (Rect.unit (s := ⟨2, d⟩) ![a, 0] ![1, n] ha).shape.Idx → Elt F e) (L : List (View.Piece (Elt F) ⟨2, d⟩ e)) (h : a ≠ b) :
    v.readCov (⟨Rect.unit (s := ⟨2, d⟩) ![a, 0] ![1, n] ha, w⟩ :: L) (Rect.unit (s := ⟨2, d⟩) ![b, 0] ![1, n] hb).toLoadRect
      = v.readCov L (Rect.unit (s := ⟨2, d⟩) ![b, 0] ![1, n] hb).toLoadRect := by
  rw [View.readCov_eq_canon', View.readCov_eq_canon']
  funext y
  refine View.canon_cons_of_not_mem _ _ fun hm => ?_
  have h0 := (Rect.mem_set_unit (inb := ha).1 hm) 0
  have h1 : (y 0).val < 1 := (y 0).isLt
  change a ≤ b + 1 * (y 0).val ∧ b + 1 * (y 0).val < a + 1 at h0
  omega

/-- A load of a row after the whole buffer is stored reads the stored row. -/
theorem rc_whole {d : Fin 2 → Nat} {e : EltTy} (v : View sig .tc .vmem ⟨2, d⟩ e) {ha} (x : Shape.Idx ⟨2, d⟩ → Elt F e) (r : Rect ⟨2, d⟩) :
    v.readCov [⟨Rect.unit (s := ⟨2, d⟩) ![0, 0] d ha, x⟩] r.toLoadRect = View.ld x r := by
  rw [View.readCov_eq_canon']
  have := View.canon_unit_zero (Val := Elt F) (S := ⟨2, d⟩) hz ha x
  exact congrArg (fun f => View.ld f r) this

/-- What stores leave over given contents. -/
theorem read_over {S : Shape} {e : EltTy} (v : View sig .tc .vmem S e) (f : v.ty.Contents (Elt F)) (x : S.Idx → Elt F e) (hf : v.read (Elt F) f = x)
    {off} (h0 : off = fun _ => 0) (ha) :
    ∀ L : List (View.Piece (Elt F) S e), v.read (Elt F) (v.writes (Elt F) f L) = View.canon (L ++ [⟨Rect.unit (s := S) off S.size ha, x⟩])
  | [] => by rw [View.writes_nil, List.nil_append, View.canon_unit_zero h0]; exact hf
  | p :: L => by
    funext y
    have ih := congrFun (read_over v f x hf h0 ha L) y
    by_cases hy : y ∈ p.1.set
    · obtain ⟨r, w⟩ := p
      obtain ⟨x, rfl⟩ : ∃ x, r.emb x = y := r.exists_idx_of_mem hy
      rw [View.read_writes_cons_emb, List.cons_append, View.canon_cons_emb]
    · have hy' : y ∉ Finset.univ.map p.1.emb := by rwa [Rect.map_emb_univ]
      rw [View.writes_cons, View.read_slice_write_of_not_mem p.1 _ _ _ hy', ih, List.cons_append, View.canon_cons_of_not_mem p _ hy]

/-- The gradient of the hidden rows' gate half. -/
def dgc (x0 : Vec F S256x1024 .f32) (x1 : Vec F S1408x1024 .bf16) (x2 x3 : Vec F S256x1408 .bf16) : FVec F S256x1408 .f32 :=
  k0_pay16 (k0_pay8 x0 x1) (k0_pay14 x2) (k0_pay15 x3)

/-- The gradient of the hidden rows' value half. -/
def dvc (x0 : Vec F S256x1024 .f32) (x1 : Vec F S1408x1024 .bf16) (x2 : Vec F S256x1408 .bf16) : FVec F S256x1408 .f32 :=
  k0_pay17 (k0_pay8 x0 x1) (k0_pay13 x2)

/-- The scratch after a block and the carried rows are stored behind each other, over what it held. -/
def ext (d : FVec F S256x1408 .f32) (s : Vec F S8x1408 .f32) (L : List (View.Piece (Elt F) S264x1408 .f32)) : Vec F S264x1408 .f32 :=
  View.canon (⟨Rect.unit (s := S264x1408) ![256, 0] S8x1408.size inb_S264x1408_S8x1408_256_0, k0_pay19 s⟩ ::
    ⟨Rect.unit (s := S264x1408) ![0, 0] S256x1408.size inb_S264x1408_S256x1408_0_0, k0_pay28 d⟩ :: L)

/-- The pieces the first half leaves in the scratch. -/
def left (x0 : Vec F S256x1024 .f32) (x1 : Vec F S1408x1024 .bf16) (x2 x3 : Vec F S256x1408 .bf16) (s : Vec F S8x1408 .f32) : List (View.Piece (Elt F) S264x1408 .f32) :=
  [⟨Rect.unit (s := S264x1408) ![256, 0] S8x1408.size inb_S264x1408_S8x1408_256_0, k0_pay19 s⟩,
    ⟨Rect.unit (s := S264x1408) ![0, 0] S256x1408.size inb_S264x1408_S256x1408_0_0, k0_pay28 (dgc x0 x1 x2 x3)⟩]

/-- The block of an output. -/
def outb (d : FVec F S256x1408 .f32) (w : Vec F S3x1408 .f32) (e : Vec F S264x1408 .f32) : Vec F S256x1408 .bf16 :=
  k0_pay33 d w e

/-- Row `k` of the sums' block. -/
def row (k : ℕ) (h : ∀ a, (![k, 0] : Fin 2 → Nat) a + S1x1408.size a ≤ S8x1408.size a) (x : Vec F S8x1408 .f32) : Vec F S1x1408 .f32 :=
  View.ld x (Rect.unit (s := S8x1408) ![k, 0] S1x1408.size h)

/-- The block of the sums after the point. -/
def sums (d x : FVec F S256x1408 .f32) (e : Vec F S264x1408 .f32) (o : Vec F S8x1408 .f32) : Vec F S8x1408 .f32 :=
  View.canon [⟨Rect.unit (s := S8x1408) ![3, 0] S1x1408.size inb_S8x1408_S1x1408_3_0, k0_pay3 d (row 3 inb_S8x1408_S1x1408_3_0 o)⟩,
    ⟨Rect.unit (s := S8x1408) ![2, 0] S1x1408.size inb_S8x1408_S1x1408_2_0, k0_pay2 d x (row 2 inb_S8x1408_S1x1408_2_0 o)⟩,
    ⟨Rect.unit (s := S8x1408) ![1, 0] S1x1408.size inb_S8x1408_S1x1408_1_0, k0_pay25 x (k0_pay31 e) (row 1 inb_S8x1408_S1x1408_1_0 o)⟩,
    ⟨Rect.unit (s := S8x1408) ![0, 0] S1x1408.size inb_S8x1408_S1x1408_0_0, k0_pay24 x (k0_pay32 e) (row 0 inb_S8x1408_S1x1408_0_0 o)⟩,
    ⟨Rect.unit (s := S8x1408) ![0, 0] S8x1408.size (fun a => by fin_cases a <;> decide), o⟩]

section
variable (c : Dev nD) (i : grid0.Coords) (arg2 : Memref sig .tc .vmem S256x1024 .f32) (harg2 : arg2.IsWhole) (arg3 : Memref sig .tc .vmem S1408x1024 .bf16) (harg3 : arg3.IsWhole) (arg4 : Memref sig .tc .vmem S256x1408 .bf16) (harg4 : arg4.IsWhole) (arg5 : Memref sig .tc .vmem S256x1408 .bf16) (harg5 : arg5.IsWhole) (arg6 : Memref sig .tc .vmem S256x1408 .f32) (harg6 : arg6.IsWhole) (arg7 : Memref sig .tc .vmem S256x1408 .f32) (harg7 : arg7.IsWhole) (arg8 : Memref sig .tc .vmem S3x1408 .f32) (harg8 : arg8.IsWhole) (arg9 : Memref sig .tc .vmem S3x1408 .f32) (harg9 : arg9.IsWhole) (arg10 : Memref sig .tc .vmem S256x1408 .bf16) (harg10 : arg10.IsWhole) (arg11 : Memref sig .tc .vmem S256x1408 .bf16) (harg11 : arg11.IsWhole) (arg12 : Memref sig .tc .vmem S8x1408 .f32) (harg12 : arg12.IsWhole) (arg13 : Memref sig .tc .vmem S8x1408 .f32) (harg13 : arg13.IsWhole) (arg14 : Memref sig .tc .vmem S264x1408 .f32) (harg14 : arg14.IsWhole) (arg15 : Memref sig .tc .vmem S8x1408 .f32) (harg15 : arg15.IsWhole) (arg16 : Memref sig .tc .vmem S8x1408 .f32) (harg16 : arg16.IsWhole) (hc0 : cond0_0 i) (x0 : Vec F S256x1024 .f32) (x1 : Vec F S1408x1024 .bf16) (x2 : Vec F S256x1408 .bf16) (x3 : Vec F S256x1408 .bf16) (x4 : Vec F S256x1408 .f32) (x5 : Vec F S256x1408 .f32) (x6 : Vec F S3x1408 .f32) (x7 : Vec F S3x1408 .f32)

theorem out0_A_8_eq :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = outb (dgc x0 x1 x2 x3) x6 (ext (dgc x0 x1 x2 x3) k0_pay4 []) := by
  unfold out0_A_8
  rw [View.read_writes_junk_eq_canon]
  unfold kernelRun0_A
  dsimp only
  sl_unfold_words
  rw [View.canon_unit_zero hz]
  simp only [View.readAt_eq_ld, Memref.IsWhole.read_unread, ldz, rcz]
  try rw [View.canon_unit_zero (S := S8x1408) hz]
  try rw [View.canon_unit_zero (S := S8x1408) hz]
  rfl

theorem out0_A_9_eq :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = outb (dvc x0 x1 x2) x7 (ext (dvc x0 x1 x2) k0_pay5 (left x0 x1 x2 x3 k0_pay4)) := by
  unfold out0_A_9
  rw [View.read_writes_junk_eq_canon]
  unfold kernelRun0_A
  dsimp only
  sl_unfold_words
  rw [View.canon_unit_zero hz]
  simp only [View.readAt_eq_ld, Memref.IsWhole.read_unread, ldz, rcz]
  try rw [View.canon_unit_zero (S := S8x1408) hz]
  try rw [View.canon_unit_zero (S := S8x1408) hz]
  rfl

theorem out0_A_10_eq :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = sums (dgc x0 x1 x2 x3) x4 (ext (dgc x0 x1 x2 x3) k0_pay4 []) k0_pay6 := by
  unfold out0_A_10
  rw [View.read_writes_junk_eq_canon]
  unfold kernelRun0_A
  dsimp only
  sl_unfold_words
  simp only [View.readAt_eq_ld, Memref.IsWhole.read_unread, ldz, rcz]
  simp only [rc_off _ 1408 _ _ (show (0:ℕ) ≠ 1 by decide), rc_off _ 1408 _ _ (show (0:ℕ) ≠ 2 by decide), rc_off _ 1408 _ _ (show (1:ℕ) ≠ 2 by decide), rc_off _ 1408 _ _ (show (0:ℕ) ≠ 3 by decide), rc_off _ 1408 _ _ (show (1:ℕ) ≠ 3 by decide), rc_off _ 1408 _ _ (show (2:ℕ) ≠ 3 by decide), rc_whole]
  try rw [View.canon_unit_zero (S := S8x1408) hz]
  try rw [View.canon_unit_zero (S := S8x1408) hz]
  rfl

theorem out0_A_11_eq :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = sums (dvc x0 x1 x2) x5 (ext (dvc x0 x1 x2) k0_pay5 (left x0 x1 x2 x3 k0_pay4)) k0_pay7 := by
  unfold out0_A_11
  rw [View.read_writes_junk_eq_canon]
  unfold kernelRun0_A
  dsimp only
  sl_unfold_words
  simp only [View.readAt_eq_ld, Memref.IsWhole.read_unread, ldz, rcz]
  simp only [rc_off _ 1408 _ _ (show (0:ℕ) ≠ 1 by decide), rc_off _ 1408 _ _ (show (0:ℕ) ≠ 2 by decide), rc_off _ 1408 _ _ (show (1:ℕ) ≠ 2 by decide), rc_off _ 1408 _ _ (show (0:ℕ) ≠ 3 by decide), rc_off _ 1408 _ _ (show (1:ℕ) ≠ 3 by decide), rc_off _ 1408 _ _ (show (2:ℕ) ≠ 3 by decide), rc_whole]
  try rw [View.canon_unit_zero (S := S8x1408) hz]
  try rw [View.canon_unit_zero (S := S8x1408) hz]
  rfl

theorem sout0_A_1_eq :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = k0_pay30 (dgc x0 x1 x2 x3) := by
  unfold sout0_A_1
  rw [View.read_writes_junk_eq_canon]
  unfold kernelRun0_A
  dsimp only
  sl_unfold_words
  rw [View.canon_cons_unit_zero hz]
  simp only [View.readAt_eq_ld, Memref.IsWhole.read_unread, ldz, rcz]
  try rw [View.canon_unit_zero (S := S8x1408) hz]
  try rw [View.canon_unit_zero (S := S8x1408) hz]
  rfl

theorem sout0_A_2_eq :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = k0_pay30 (dvc x0 x1 x2) := by
  unfold sout0_A_2
  rw [View.read_writes_junk_eq_canon]
  unfold kernelRun0_A
  dsimp only
  sl_unfold_words
  rw [View.canon_cons_unit_zero hz]
  simp only [View.readAt_eq_ld, Memref.IsWhole.read_unread, ldz, rcz]
  try rw [View.canon_unit_zero (S := S8x1408) hz]
  try rw [View.canon_unit_zero (S := S8x1408) hz]
  rfl

end

section
variable (c : Dev nD) (i : grid0.Coords) (arg2 : Memref sig .tc .vmem S256x1024 .f32) (harg2 : arg2.IsWhole) (arg3 : Memref sig .tc .vmem S1408x1024 .bf16) (harg3 : arg3.IsWhole) (arg4 : Memref sig .tc .vmem S256x1408 .bf16) (harg4 : arg4.IsWhole) (arg5 : Memref sig .tc .vmem S256x1408 .bf16) (harg5 : arg5.IsWhole) (arg6 : Memref sig .tc .vmem S256x1408 .f32) (harg6 : arg6.IsWhole) (arg7 : Memref sig .tc .vmem S256x1408 .f32) (harg7 : arg7.IsWhole) (arg8 : Memref sig .tc .vmem S3x1408 .f32) (harg8 : arg8.IsWhole) (arg9 : Memref sig .tc .vmem S3x1408 .f32) (harg9 : arg9.IsWhole) (arg10 : Memref sig .tc .vmem S256x1408 .bf16) (harg10 : arg10.IsWhole) (arg11 : Memref sig .tc .vmem S256x1408 .bf16) (harg11 : arg11.IsWhole) (arg12 : Memref sig .tc .vmem S8x1408 .f32) (harg12 : arg12.IsWhole) (arg13 : Memref sig .tc .vmem S8x1408 .f32) (harg13 : arg13.IsWhole) (arg14 : Memref sig .tc .vmem S264x1408 .f32) (harg14 : arg14.IsWhole) (arg15 : Memref sig .tc .vmem S8x1408 .f32) (harg15 : arg15.IsWhole) (arg16 : Memref sig .tc .vmem S8x1408 .f32) (harg16 : arg16.IsWhole) (hc0 : ¬cond0_0 i) (x0 : Vec F S256x1024 .f32) (x1 : Vec F S1408x1024 .bf16) (x2 : Vec F S256x1408 .bf16) (x3 : Vec F S256x1408 .bf16) (x4 : Vec F S256x1408 .f32) (x5 : Vec F S256x1408 .f32) (x6 : Vec F S3x1408 .f32) (x7 : Vec F S3x1408 .f32) (xo10 : Vec F S8x1408 .f32) (xo11 : Vec F S8x1408 .f32) (xs1 : Vec F S8x1408 .f32) (xs2 : Vec F S8x1408 .f32)

theorem out0_B_8_eq :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo10 xo11 xs1 xs2 = outb (dgc x0 x1 x2 x3) x6 (ext (dgc x0 x1 x2 x3) xs1 []) := by
  unfold out0_B_8
  rw [View.read_writes_junk_eq_canon]
  unfold kernelRun0_B
  dsimp only
  sl_unfold_words
  rw [View.canon_unit_zero hz]
  simp only [View.readAt_eq_ld, Memref.IsWhole.read_unread, ldz, rcz]
  try rw [View.canon_unit_zero (S := S8x1408) hz]
  try rw [View.canon_unit_zero (S := S8x1408) hz]
  rfl

theorem out0_B_9_eq :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo10 xo11 xs1 xs2 = outb (dvc x0 x1 x2) x7 (ext (dvc x0 x1 x2) xs2 (left x0 x1 x2 x3 xs1)) := by
  unfold out0_B_9
  rw [View.read_writes_junk_eq_canon]
  unfold kernelRun0_B
  dsimp only
  sl_unfold_words
  rw [View.canon_unit_zero hz]
  simp only [View.readAt_eq_ld, Memref.IsWhole.read_unread, ldz, rcz]
  try rw [View.canon_unit_zero (S := S8x1408) hz]
  try rw [View.canon_unit_zero (S := S8x1408) hz]
  rfl

theorem out0_B_10_eq :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo10 xo11 xs1 xs2 = sums (dgc x0 x1 x2 x3) x4 (ext (dgc x0 x1 x2 x3) xs1 []) xo10 := by
  unfold out0_B_10
  unfold kernelRun0_B
  dsimp only
  sl_unfold_words
  simp only [View.readAt_eq_ld, Memref.IsWhole.read_unread, ldz, rcz]
  rw [read_over _ _ xo10 (harg12.read_unread xo10) hz (fun a => by fin_cases a <;> decide)]
  rfl

theorem out0_B_11_eq :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo10 xo11 xs1 xs2 = sums (dvc x0 x1 x2) x5 (ext (dvc x0 x1 x2) xs2 (left x0 x1 x2 x3 xs1)) xo11 := by
  unfold out0_B_11
  unfold kernelRun0_B
  dsimp only
  sl_unfold_words
  simp only [View.readAt_eq_ld, Memref.IsWhole.read_unread, ldz, rcz]
  rw [read_over _ _ xo11 (harg13.read_unread xo11) hz (fun a => by fin_cases a <;> decide)]
  rfl

theorem sout0_B_1_eq :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo10 xo11 xs1 xs2 = k0_pay30 (dgc x0 x1 x2 x3) := by
  unfold sout0_B_1
  rw [View.read_writes_junk_eq_canon]
  unfold kernelRun0_B
  dsimp only
  sl_unfold_words
  rw [View.canon_unit_zero hz]
  simp only [View.readAt_eq_ld, Memref.IsWhole.read_unread, ldz, rcz]
  try rw [View.canon_unit_zero (S := S8x1408) hz]
  try rw [View.canon_unit_zero (S := S8x1408) hz]
  rfl

theorem sout0_B_2_eq :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo10 xo11 xs1 xs2 = k0_pay30 (dvc x0 x1 x2) := by
  unfold sout0_B_2
  rw [View.read_writes_junk_eq_canon]
  unfold kernelRun0_B
  dsimp only
  sl_unfold_words
  rw [View.canon_unit_zero hz]
  simp only [View.readAt_eq_ld, Memref.IsWhole.read_unread, ldz, rcz]
  try rw [View.canon_unit_zero (S := S8x1408) hz]
  try rw [View.canon_unit_zero (S := S8x1408) hz]
  rfl

end

end Cert.Kernel2Ideal.Body

end
-- ==== Proof.MlpMath.lean ====
module

public import Idealize.ShloMosaic.PureOps.Ideal.Laws
public import Mathlib.Algebra.BigOperators.Intervals
public import Mathlib.Analysis.SpecialFunctions.Trigonometric.DerivHyp

/-! The gated MLP's gradient over the reals, for 4096 tokens and 2816 columns of each half: the causal convolution of width
three, the gate's tanh-form GELU and its slope, the gradients of the convolution's input, filter and bias. -/

@[expose] public section

noncomputable section

namespace Cert.Mlp

open Finset

theorem coe_sum {ι : Type} (s : Finset ι) (f : ι → ℝ) : ((∑ i ∈ s, f i : ℝ) : EReal) = ∑ i ∈ s, (f i : EReal) := by
  classical
  induction s using Finset.induction with
  | empty => simp
  | insert a s h ih => rw [sum_insert h, sum_insert h, EReal.coe_add, ih]

/-- The GELU's two constants, as the 32-bit floats the step uses. -/
def gC : ℝ := 6693141 / 8388608
def gA : ℝ := 12003091 / 268435456

/-- The hyperbolic tangent inside the GELU. -/
def th (x : ℝ) : ℝ := Real.tanh (gC * (x + gA * (x * x * x)))

/-- The GELU. -/
def gelu (x : ℝ) : ℝ := x * (1 / 2 * (1 + th x))

/-- The GELU's slope. -/
def dgelu (x : ℝ) : ℝ := 1 / 2 * (1 + th x) + 1 / 2 * x * ((1 + th x) * (1 - th x)) * (gC + 3 * gC * gA * (x * x))

/-- The GELU and its slope with the two constants' products folded. -/
theorem th_eq (x : ℝ) : Real.tanh (x * (gC + 80338380498831 / 2251799813685248 * (x * x))) = th x := by
  unfold th gC gA
  congr 1
  ring

theorem gelu_eq (x : ℝ) : 1 / 2 * x + 1 / 2 * x * th x = gelu x := by unfold gelu; ring

theorem dgelu_eq (x : ℝ) :
    1 / 2 + 1 / 2 * th x + 1 / 2 * x * (1 - th x * th x) * (gC + 241015141496493 / 2251799813685248 * (x * x)) = dgelu x := by
  unfold dgelu gC gA; ring

/-- The same slope as the chain rule meets it. -/
theorem dgelu_chain (u x : ℝ) :
    u * (1 / 2 * (1 + th x)) + gC * (1 / 2 * (x * u) * ((1 + th x) * (1 - th x)))
      + gA * (gC * (1 / 2 * (x * u) * ((1 + th x) * (1 - th x)))) * (3 * (x * x)) = u * dgelu x := by
  unfold dgelu; ring

/-- A column behind two rows of zeros. -/
def xp (X : ℕ → ℝ) (u : ℕ) : ℝ := if u < 2 then 0 else X (u - 2)

/-- One column's causal convolution of width three. -/
def conv (X : ℕ → ℝ) (w : ℕ → ℝ) (b : ℝ) (t : ℕ) : ℝ := b + xp X t * w 0 + xp X (t + 1) * w 1 + xp X (t + 2) * w 2

/-- A column's gradient, nothing behind the last token. -/
def ext (D : ℕ → ℝ) (t : ℕ) : ℝ := if t < 4096 then D t else 0

/-- The gradient of the convolution's input. -/
def dx (D w : ℕ → ℝ) (t : ℕ) : ℝ := w 2 * ext D t + w 1 * ext D (t + 1) + w 0 * ext D (t + 2)

/-- The filter's and the bias's gradient over the tokens from `b` on, one row each, and four rows of zeros. -/
def sums (D X : ℕ → ℝ) (b k : ℕ) : ℝ :=
  if k = 0 then ∑ s ∈ Ico b 4096, ext D (s + 2) * X s
  else if k = 1 then ∑ s ∈ Ico b 4096, ext D (s + 1) * X s
  else if k = 2 then ∑ s ∈ Ico b 4096, ext D s * X s
  else if k = 3 then ∑ s ∈ Ico b 4096, ext D s
  else 0

theorem sums_end (D X : ℕ → ℝ) (k : ℕ) : sums D X 4096 k = 0 := by
  unfold sums
  split_ifs <;> simp

/-- The sum from a block's first token is the block's sum and the sum behind it. -/
theorem sum_block (f : ℕ → ℝ) (a : ℕ) (h : a + 256 ≤ 4096) : (∑ p ∈ Ico (a + 256) 4096, f p) + ∑ r : Fin 256, f (a + r.val) = ∑ p ∈ Ico a 4096, f p := by
  rw [← sum_Ico_consecutive f (Nat.le_add_right a 256) h, add_comm, sum_Ico_eq_sum_range f a, Nat.add_sub_cancel_left, sum_range]

theorem sum_shift (N k : ℕ) (hk : k ≤ N) (f g : ℕ → ℝ) (h0 : ∀ t < k, g t = 0) (h : ∀ t, t < N - k → g (t + k) = f t) (h1 : ∀ s, N - k ≤ s → s < N → f s = 0) :
    ∑ s ∈ range N, f s = ∑ t ∈ range N, g t := by
  have e : N = k + (N - k) := by omega
  rw [show ∑ t ∈ range N, g t = ∑ t ∈ range k, g t + ∑ t ∈ range (N - k), g (k + t) by rw [← sum_range_add]; congr 2,
    sum_eq_zero (fun t ht => h0 t (mem_range.1 ht)), zero_add,
    show ∑ s ∈ range N, f s = ∑ s ∈ range (N - k), f s + ∑ s ∈ range k, f (N - k + s) by rw [← sum_range_add]; congr 2; omega,
    sum_eq_zero (s := range k) (fun s hs => h1 _ (by omega) (by have := mem_range.1 hs; omega)), add_zero]
  exact sum_congr rfl fun t ht => by rw [Nat.add_comm k t]; exact (h t (mem_range.1 ht)).symm

/-- A filter row's gradient as the chain rule writes it, over the padded column. -/
theorem sums_eq (D X : ℕ → ℝ) (k : ℕ) (hk : k < 3) : ∑ t : Fin 4096, xp X (t.val + k) * D t.val = sums D X 0 k := by
  rw [← sum_range (fun t => xp X (t + k) * D t)]
  symm
  unfold sums
  simp only [← range_eq_Ico]
  have key : ∀ N j, N = 4096 → j ≤ 2 → j + k = 2 → ∑ s ∈ range N, ext D (s + j) * X s = ∑ t ∈ range N, xp X (t + k) * D t := fun N j hN hj hjk => by
    refine sum_shift N j (by omega) _ _ (fun t ht => ?_) (fun t ht => ?_) (fun s hs hs' => ?_)
    · rw [xp, if_pos (by omega), zero_mul]
    · rw [xp, if_neg (by omega), ext, if_pos (by omega), mul_comm]
      congr 2; omega
    · rw [ext, if_neg (by omega), zero_mul]
  match k, hk with
  | 0, _ => exact key _ 2 rfl (by omega) rfl
  | 1, _ => exact key _ 1 rfl (by omega) rfl
  | 2, _ => exact key _ 0 rfl (by omega) rfl

/-- The bias's gradient. -/
theorem bias_eq (D X : ℕ → ℝ) : ∑ t : Fin 4096, D t.val = sums D X 0 3 := by
  rw [← sum_range (fun t => D t)]
  unfold sums
  simp only [← range_eq_Ico]
  exact sum_congr rfl fun t ht => by rw [ext, if_pos (mem_range.1 ht)]

end Cert.Mlp

end
-- ==== Proof.MlpPoint.lean ====
module

public import proofs.«01_k».proof.Proof.MlpBody
public import proofs.«01_k».proof.Proof.MlpMath
public import Idealize.ShloMosaic.PureOps.Ideal.Laws
public import Idealize.ShloMosaic.Lib.Pointwise
public import Idealize.ShloMosaic.Lib.KernelVsHost

/-! One grid point of the gated MLP's backward call at the exact instance: the two blocks it writes, what it adds to the
two blocks of sums and the rows it carries on, in real numbers, one column at a time. -/

@[expose] public section
set_option maxRecDepth 16384
noncomputable section
namespace Cert.Kernel2Ideal.Body
open Cert.Kernel2Ideal Cert.Kernel2Ideal.Gen Idealize.ShloMosaic Idealize.ShloMosaic.TcCoe Idealize.SL.Sem
open Cert.Mlp

/-! ## The constants -/

theorem c_half : Ideal.ofBits .f32 0x3F000000#32 = ((1 / 2 : ℝ) : EReal) := by simp [Ideal.ofBits, Ideal.ieee, -EReal.coe_mul]; norm_num
theorem c_C : Ideal.ofBits .f32 0x3F4C422A#32 = ((gC : ℝ) : EReal) := by unfold gC; simp [Ideal.ofBits, Ideal.ieee, -EReal.coe_mul]; norm_num
theorem n_ca : Named.named (F := Ideal) κ "gelu_ca" (φ := .f32) 0x3D122279#32 = ((80338380498831 / 2251799813685248 : ℝ) : EReal) :=
  IdealRules.named_const.ideal_named_scalar _ _ _ _ rfl
theorem n_3ca : Named.named (F := Ideal) κ "gelu_3ca" (φ := .f32) 0x3DDB33B6#32 = ((241015141496493 / 2251799813685248 : ℝ) : EReal) :=
  IdealRules.named_const.ideal_named_scalar _ _ _ _ rfl

/-! ## The two gradients of a block -/

section
variable {x0 : Vec Ideal S256x1024 .f32} {x1 : Vec Ideal S1408x1024 .bf16} {x2 x3 : Vec Ideal S256x1408 .bf16} {r : Fin 256} {f : Fin 1408}
variable {a b : Fin 1024 → ℝ} {g v : ℝ}

theorem da_apply (h0 : ∀ d, x0 (ix2 r d) = (a d : EReal)) (h1 : ∀ d, x1 (ix2 f d) = (b d : EReal)) :
    k0_pay8 (F := Ideal) x0 x1 (ix2 r f) = ((∑ d, a d * b d : ℝ) : EReal) := by
  pointwise [k0_pay8]
  rw [Mlp.coe_sum]
  exact Finset.sum_congr rfl fun d _ => by rw [h0, h1, EReal.coe_mul]

theorem th_apply (h2 : x2 (ix2 r f) = (g : EReal)) : k0_pay11 (F := Ideal) x2 (ix2 r f) = ((th g : ℝ) : EReal) := by
  pointwise [k0_pay11, k0_pay10, k0_pay9]
  rw [h2, c_C, n_ca]
  rw [← EReal.coe_mul, ← EReal.coe_mul, ← EReal.coe_add, ← EReal.coe_mul, Ideal.tanh_coe, th_eq]

theorem gelu_apply (h2 : x2 (ix2 r f) = (g : EReal)) : k0_pay13 (F := Ideal) x2 (ix2 r f) = ((gelu g : ℝ) : EReal) := by
  have ht := th_apply h2
  pointwise [k0_pay13, k0_pay12, k0_pay9]
  rw [h2, c_half, ht, ← gelu_eq]
  push_cast
  rfl

theorem dgelu_apply (h2 : x2 (ix2 r f) = (g : EReal)) : k0_pay14 (F := Ideal) x2 (ix2 r f) = ((dgelu g : ℝ) : EReal) := by
  have ht := th_apply h2
  pointwise [k0_pay14, k0_pay12, k0_pay10, k0_pay9]
  rw [h2, c_half, c_C, n_3ca, ht, ← dgelu_eq]
  push_cast
  rfl

theorem dgc_apply (h0 : ∀ d, x0 (ix2 r d) = (a d : EReal)) (h1 : ∀ d, x1 (ix2 f d) = (b d : EReal)) (h2 : x2 (ix2 r f) = (g : EReal)) (h3 : x3 (ix2 r f) = (v : EReal)) :
    dgc (F := Ideal) x0 x1 x2 x3 (ix2 r f) = (((∑ d, a d * b d) * v * dgelu g : ℝ) : EReal) := by
  have e0 := da_apply h0 h1
  have e1 := dgelu_apply h2
  unfold dgc
  pointwise [k0_pay16, k0_pay15]
  rw [e0, e1, h3]
  push_cast
  rfl

theorem dvc_apply (h0 : ∀ d, x0 (ix2 r d) = (a d : EReal)) (h1 : ∀ d, x1 (ix2 f d) = (b d : EReal)) (h2 : x2 (ix2 r f) = (g : EReal)) :
    dvc (F := Ideal) x0 x1 x2 (ix2 r f) = (((∑ d, a d * b d) * gelu g : ℝ) : EReal) := by
  have e0 := da_apply h0 h1
  have e1 := gelu_apply h2
  unfold dvc
  pointwise [k0_pay17]
  rw [e0, e1]
  push_cast
  rfl
end

/-! ## The scratch and the sums -/

/-- Off the rows a store writes, a buffer holds what it held. -/
theorem canon_off {m n : ℕ} {off sz : Fin 2 → ℕ} {inb} (w : (Rect.unit (s := ⟨2, ![m, n]⟩) off sz inb).shape.Idx → Ideal .f32) (L : List (View.Piece (Elt Ideal) ⟨2, ![m, n]⟩ .f32))
    (j : Fin m) (d : Fin n) (h : j.val < off 0 ∨ off 0 + sz 0 ≤ j.val) :
    View.canon (⟨Rect.unit (s := ⟨2, ![m, n]⟩) off sz inb, w⟩ :: L) (ix2 j d) = View.canon L (ix2 j d) :=
  View.canon_cons_of_not_mem _ _ fun hm => by
    have := (Rect.mem_set_unit (inb := inb).1 hm) 0
    have e : ((ix2 j d : Shape.Idx ⟨2, ![m, n]⟩) 0).val = j.val := rfl
    omega

/-- On the rows a store writes, a buffer holds the stored value. -/
theorem canon_on {m n : ℕ} {off sz : Fin 2 → ℕ} {inb} (w : (Rect.unit (s := ⟨2, ![m, n]⟩) off sz inb).shape.Idx → Ideal .f32) (L : List (View.Piece (Elt Ideal) ⟨2, ![m, n]⟩ .f32))
    (j : Fin m) (d : Fin n) (y : (Rect.unit (s := ⟨2, ![m, n]⟩) off sz inb).shape.Idx) (h0 : j.val = off 0 + (y 0).val) (h1 : d.val = off 1 + (y 1).val) :
    View.canon (⟨Rect.unit (s := ⟨2, ![m, n]⟩) off sz inb, w⟩ :: L) (ix2 j d) = w y := by
  have : (ix2 j d : Shape.Idx ⟨2, ![m, n]⟩) = (Rect.unit (s := ⟨2, ![m, n]⟩) off sz inb).emb y := by
    funext b; fin_cases b <;> apply Fin.ext
    · change j.val = off 0 + 1 * (y 0).val; omega
    · change d.val = off 1 + 1 * (y 1).val; omega
  rw [this]
  exact View.canon_cons_emb _ w L y

/-- A row of a block, as loaded. -/
theorem row_apply (k : ℕ) (hk : k < 8) (h) (x : Vec Ideal S8x1408 .f32) (f : Fin 1408) :
    row k h x (ix2 (0 : Fin 1) f) = x (ix2 (⟨k, hk⟩ : Fin 8) f) := by
  unfold row View.ld
  refine congrArg x (funext fun a => Fin.ext ?_)
  match a with
  | ⟨0, _⟩ => show k + 1 * 0 = k; omega
  | ⟨1, _⟩ => show 0 + 1 * f.val = f.val; omega

section
variable {d x : FVec Ideal S256x1408 .f32} {s : Vec Ideal S8x1408 .f32} {e : Vec Ideal S264x1408 .f32} {f : Fin 1408} {D X : ℕ → ℝ} {T : ℕ}

theorem ext_apply (hd : ∀ r : Fin 256, d (ix2 r f) = ((D (T + r.val) : ℝ) : EReal)) (hs : ∀ r : Fin 8, s (ix2 r f) = ((D (T + 256 + r.val) : ℝ) : EReal)) (L)
    (j : Fin 264) : ext d s L (ix2 j f) = ((D (T + j.val) : ℝ) : EReal) := by
  unfold Body.ext
  by_cases hj : j.val < 256
  · rw [canon_off _ _ j f (Or.inl hj)]
    refine (canon_on (off := ![0, 0]) (sz := S256x1408.size) _ _ j f (ix2 (⟨j.val, hj⟩ : Fin 256) f) (Nat.zero_add j.val).symm (Nat.zero_add f.val).symm).trans ?_
    pointwise [k0_pay28]
    exact hd ⟨j.val, hj⟩
  · refine (canon_on (off := ![256, 0]) (sz := S8x1408.size) _ _ j f (ix2 (⟨j.val - 256, by omega⟩ : Fin 8) f) (show j.val = 256 + (j.val - 256) by omega) (Nat.zero_add f.val).symm).trans ?_
    pointwise [k0_pay19]
    rw [hs]
    congr 2; simp only; omega

variable (hd : ∀ r : Fin 256, d (ix2 r f) = ((D (T + r.val) : ℝ) : EReal)) (he : ∀ j : Fin 264, e (ix2 j f) = ((D (T + j.val) : ℝ) : EReal))
variable (hx : ∀ r : Fin 256, x (ix2 r f) = ((X (T + r.val) : ℝ) : EReal))
include he

theorem up1_apply (r : Fin 256) : k0_pay31 (F := Ideal) e (ix2 r f) = ((D (T + r.val + 1) : ℝ) : EReal) := by
  have h := dynamicRotate_apply (0 : Fin S264x1408.rank) 263#32 e rotates_S264x1408_d0 (ix2 (⟨r.val, by omega⟩ : Fin 264) f) (ix2 (⟨r.val + 1, by omega⟩ : Fin 264) f)
    (fun b => by
      match b with
      | ⟨0, _⟩ => show r.val + 1 = (r.val + 264 - 263 % 264) % 264; omega
      | ⟨1, _⟩ => rfl)
  refine Eq.trans ?_ (h.trans (he ⟨r.val + 1, by omega⟩))
  unfold k0_pay31
  refine congrArg (dynamicRotate 0 263#32 none e rotates_S264x1408_d0) (funext fun b => Fin.ext ?_)
  match b with
  | ⟨0, _⟩ => show 0 + r.val = r.val; omega
  | ⟨1, _⟩ => show 0 + f.val = f.val; omega

theorem up2_apply (r : Fin 256) : k0_pay32 (F := Ideal) e (ix2 r f) = ((D (T + r.val + 2) : ℝ) : EReal) := by
  have h := dynamicRotate_apply (0 : Fin S264x1408.rank) 262#32 e rotates_S264x1408_d0 (ix2 (⟨r.val, by omega⟩ : Fin 264) f) (ix2 (⟨r.val + 2, by omega⟩ : Fin 264) f)
    (fun b => by
      match b with
      | ⟨0, _⟩ => show r.val + 2 = (r.val + 264 - 262 % 264) % 264; omega
      | ⟨1, _⟩ => rfl)
  refine Eq.trans ?_ (h.trans (he ⟨r.val + 2, by omega⟩))
  unfold k0_pay32
  refine congrArg (dynamicRotate 0 262#32 none e rotates_S264x1408_d0) (funext fun b => Fin.ext ?_)
  match b with
  | ⟨0, _⟩ => show 0 + r.val = r.val; omega
  | ⟨1, _⟩ => show 0 + f.val = f.val; omega

include hd

theorem outb_apply {w : Vec Ideal S3x1408 .f32} {W : ℕ → ℝ} (hw : ∀ k : Fin 3, w (ix2 k f) = ((W k.val : ℝ) : EReal)) (r : Fin 256) :
    outb (F := Ideal) d w e (ix2 r f) = ((W 2 * D (T + r.val) + W 1 * D (T + r.val + 1) + W 0 * D (T + r.val + 2) : ℝ) : EReal) := by
  have e1 := up1_apply he r
  have e2 := up2_apply he r
  unfold outb
  pointwise [k0_pay33]
  rw [e1, e2, hd, hw, hw, hw]
  push_cast
  rfl

include hx

theorem sums_apply (o : Vec Ideal S8x1408 .f32) {W : ℕ → ℝ} {b : ℕ}
    (h0 : o (ix2 (0 : Fin 8) f) + ((∑ r : Fin 256, D (T + r.val + 2) * X (T + r.val) : ℝ) : EReal) = ((W 0 : ℝ) : EReal))
    (h1 : o (ix2 (1 : Fin 8) f) + ((∑ r : Fin 256, D (T + r.val + 1) * X (T + r.val) : ℝ) : EReal) = ((W 1 : ℝ) : EReal))
    (h2 : o (ix2 (2 : Fin 8) f) + ((∑ r : Fin 256, D (T + r.val) * X (T + r.val) : ℝ) : EReal) = ((W 2 : ℝ) : EReal))
    (h3 : o (ix2 (3 : Fin 8) f) + ((∑ r : Fin 256, D (T + r.val) : ℝ) : EReal) = ((W 3 : ℝ) : EReal))
    (h4 : ∀ k : Fin 8, 4 ≤ k.val → o (ix2 k f) = ((W k.val : ℝ) : EReal)) (k : Fin 8) :
    Body.sums (F := Ideal) d x e o (ix2 k f) = ((W k.val : ℝ) : EReal) := by
  have e1 := up1_apply he
  have e2 := up2_apply he
  unfold Body.sums
  match k with
  | ⟨0, _⟩ =>
    rw [canon_off _ _ _ f (Or.inl (show 0 < 3 by decide)), canon_off _ _ _ f (Or.inl (show 0 < 2 by decide)), canon_off _ _ _ f (Or.inl (show 0 < 1 by decide))]
    refine (canon_on (off := ![0, 0]) (sz := S1x1408.size) _ _ _ f (ix2 (0 : Fin 1) f) rfl (Nat.zero_add f.val).symm).trans ?_
    have er := row_apply 0 (by decide) inb_S8x1408_S1x1408_0_0 o f
    pointwise [k0_pay24]
    rw [er, Finset.sum_congr rfl fun (r : Fin 256) _ => (by rw [e2, hx, ← EReal.coe_mul] : k0_pay32 (F := Ideal) e (ix2 r f) * x (ix2 r f) = _), ← Mlp.coe_sum]
    exact h0
  | ⟨1, _⟩ =>
    rw [canon_off _ _ _ f (Or.inl (show 1 < 3 by decide)), canon_off _ _ _ f (Or.inl (show 1 < 2 by decide))]
    refine (canon_on (off := ![1, 0]) (sz := S1x1408.size) _ _ _ f (ix2 (0 : Fin 1) f) rfl (Nat.zero_add f.val).symm).trans ?_
    have er := row_apply 1 (by decide) inb_S8x1408_S1x1408_1_0 o f
    pointwise [k0_pay25]
    rw [er, Finset.sum_congr rfl fun (r : Fin 256) _ => (by rw [e1, hx, ← EReal.coe_mul] : k0_pay31 (F := Ideal) e (ix2 r f) * x (ix2 r f) = _), ← Mlp.coe_sum]
    exact h1
  | ⟨2, _⟩ =>
    rw [canon_off _ _ _ f (Or.inl (show 2 < 3 by decide))]
    refine (canon_on (off := ![2, 0]) (sz := S1x1408.size) _ _ _ f (ix2 (0 : Fin 1) f) rfl (Nat.zero_add f.val).symm).trans ?_
    have er := row_apply 2 (by decide) inb_S8x1408_S1x1408_2_0 o f
    pointwise [k0_pay2]
    rw [er, Finset.sum_congr rfl fun (r : Fin 256) _ => (by rw [hd, hx, ← EReal.coe_mul] : d (ix2 r f) * x (ix2 r f) = _), ← Mlp.coe_sum]
    exact h2
  | ⟨3, _⟩ =>
    refine (canon_on (off := ![3, 0]) (sz := S1x1408.size) _ _ _ f (ix2 (0 : Fin 1) f) rfl (Nat.zero_add f.val).symm).trans ?_
    have er := row_apply 3 (by decide) inb_S8x1408_S1x1408_3_0 o f
    pointwise [k0_pay3]
    rw [er, Finset.sum_congr rfl fun (r : Fin 256) _ => hd r, ← Mlp.coe_sum]
    exact h3
  | ⟨k + 4, hk⟩ =>
    have hk' : ∀ a : ℕ, a < 4 → a + 1 ≤ k + 4 := fun a ha => by omega
    rw [canon_off _ _ _ f (Or.inr (hk' 3 (by decide))), canon_off _ _ _ f (Or.inr (hk' 2 (by decide))), canon_off _ _ _ f (Or.inr (hk' 1 (by decide))), canon_off _ _ _ f (Or.inr (hk' 0 (by decide)))]
    refine (canon_on (off := ![0, 0]) (sz := S8x1408.size) _ _ _ f (ix2 (⟨k + 4, hk⟩ : Fin 8) f) (Nat.zero_add (k + 4)).symm (Nat.zero_add f.val).symm).trans ?_
    exact h4 ⟨k + 4, hk⟩ (by simp only; omega)

/-- The block of sums over one block more. -/
theorem sums_step {o : Vec Ideal S8x1408 .f32} (hb : T + 256 ≤ 4096) {D' : ℕ → ℝ} (hD : ∀ t, D t = Mlp.ext D' t)
    (ho : ∀ k : Fin 8, o (ix2 k f) = ((Mlp.sums D' X (T + 256) k.val : ℝ) : EReal)) (k : Fin 8) :
    Body.sums (F := Ideal) d x e o (ix2 k f) = ((Mlp.sums D' X T k.val : ℝ) : EReal) := by
  refine sums_apply hd he hx (b := T) o (W := Mlp.sums D' X T) ?_ ?_ ?_ ?_ (fun k h4 => ?_) k
  · rw [ho, ← EReal.coe_add]; congr 1; simp only [Mlp.sums, hD]; exact sum_block (fun s => Mlp.ext D' (s + 2) * X s) T hb
  · rw [ho, ← EReal.coe_add]; congr 1; simp only [Mlp.sums, hD]; exact sum_block (fun s => Mlp.ext D' (s + 1) * X s) T hb
  · rw [ho, ← EReal.coe_add]; congr 1; simp only [Mlp.sums, hD]; exact sum_block (fun s => Mlp.ext D' s * X s) T hb
  · rw [ho, ← EReal.coe_add]; congr 1; simp only [Mlp.sums, hD]; exact sum_block (fun s => Mlp.ext D' s) T hb
  · rw [ho]; congr 1; unfold Mlp.sums
    rw [if_neg (by omega), if_neg (by omega), if_neg (by omega), if_neg (by omega), if_neg (by omega), if_neg (by omega), if_neg (by omega), if_neg (by omega)]
end

/-- The rows carried on are the block's first eight. -/
theorem carry_apply {d : FVec Ideal S256x1408 .f32} {f : Fin 1408} {D : ℕ → ℝ} {T : ℕ} (hd : ∀ r : Fin 256, d (ix2 r f) = ((D (T + r.val) : ℝ) : EReal)) (r : Fin 8) :
    k0_pay30 (F := Ideal) d (ix2 r f) = ((D (T + r.val) : ℝ) : EReal) := by
  pointwise [k0_pay30]
  exact (congrArg d (by congr 1)).trans (hd ⟨r.val, by omega⟩)

end Cert.Kernel2Ideal.Body
end
-- ==== Proof.MlpValue.lean ====
module

public import proofs.«01_k».proof.Proof.MlpPoint
public import proofs.«01_k».proof.Proof.Gen.Kernel2Ideal.Value
public import Idealize.ShloMosaic.Lib.StableHlo.ReadAt

/-! The four arrays the gated MLP's backward call leaves, in real numbers. -/

@[expose] public section
set_option maxRecDepth 16384
noncomputable section

namespace Cert.Mlp
open Idealize.ShloMosaic

/-- The arguments in real numbers: `A` the gradient reaching the product back to the trunk by token and lane, `Z` its
weight by column and lane, `X` the convolution's input by channel and token, `W` its filter by channel and tap, `B` its bias. -/
structure Args where
  A : ℕ → Fin 1024 → ℝ
  Z : ℕ → Fin 1024 → ℝ
  X : ℕ → ℕ → ℝ
  W : ℕ → ℕ → ℝ
  B : ℕ → ℝ

namespace Args
variable (a : Args)

/-- The convolution's output, by channel and token. -/
def u (q t : ℕ) : ℝ := conv (a.X q) (a.W q) (a.B q) t

/-- The gradient at the gated product, by column and token. -/
def da (f t : ℕ) : ℝ := ∑ d, a.A t d * a.Z f d

/-- The gradient at the convolution's output, by channel and token. -/
def D (q t : ℕ) : ℝ :=
  if q < 2816 then a.da q t * a.u (2816 + q) t * dgelu (a.u q t) else a.da (q - 2816) t * gelu (a.u (q - 2816) t)

theorem D_g (f t : ℕ) (h : f < 2816) : a.D f t = a.da f t * a.u (2816 + f) t * dgelu (a.u f t) := if_pos h
theorem D_v (f t : ℕ) : a.D (2816 + f) t = a.da f t * gelu (a.u f t) := by
  unfold D; rw [if_neg (by omega), Nat.add_sub_cancel_left]
end Args

/-- The arguments hold the reals `a`. -/
structure Inputs (a : Args) (dx2 : Shape.Idx ⟨2, ![4096, 1024]⟩ → EReal) (wd : Shape.Idx ⟨2, ![2816, 1024]⟩ → EReal)
    (hg hv : Shape.Idx ⟨2, ![4096, 2816]⟩ → EReal) (cw : Shape.Idx ⟨2, ![3, 5632]⟩ → EReal) (cb : Shape.Idx ⟨1, ![5632]⟩ → EReal) : Prop where
  dx2 : ∀ (t : Fin 4096) (d : Fin 1024), dx2 (ix2 t d) = ((a.A t.val d : ℝ) : EReal)
  wd : ∀ (f : Fin 2816) (d : Fin 1024), wd (ix2 f d) = ((a.Z f.val d : ℝ) : EReal)
  hg : ∀ (t : Fin 4096) (f : Fin 2816), hg (ix2 t f) = ((a.X f.val t.val : ℝ) : EReal)
  hv : ∀ (t : Fin 4096) (f : Fin 2816), hv (ix2 t f) = ((a.X (2816 + f.val) t.val : ℝ) : EReal)
  cw : ∀ (k : Fin 3) (q : Fin 5632), cw (ix2 k q) = ((a.W q.val k.val : ℝ) : EReal)
  cb : ∀ q : Fin 5632, cb (ix1 q) = ((a.B q.val : ℝ) : EReal)

/-- The input with two zero rows before it. -/
theorem pad_apply {hg hv : Vec Ideal ⟨2, ![4096, 2816]⟩ .f32} {X : ℕ → ℕ → ℝ} {z : EReal} (hz : z = ((0 : ℝ) : EReal))
    (h0 : ∀ (t : Fin 4096) (f : Fin 2816), hg (ix2 t f) = ((X f.val t.val : ℝ) : EReal))
    (h1 : ∀ (t : Fin 4096) (f : Fin 2816), hv (ix2 t f) = ((X (2816 + f.val) t.val : ℝ) : EReal)) (s : Fin 4098) (q : Fin 5632) :
    (if h : s.val < 2 then z else if h' : q.val < 2816 then hg (ix2 (⟨s.val - 2, by omega⟩ : Fin 4096) ⟨q.val, h'⟩) else hv (ix2 (⟨s.val - 2, by omega⟩ : Fin 4096) (⟨q.val - 2816, by omega⟩ : Fin 2816)))
      = ((xp (X q.val) s.val : ℝ) : EReal) := by
  unfold xp
  split_ifs with h h'
  · exact hz
  · exact h0 _ _
  · rw [h1]; congr 3; simp only; omega

end Cert.Mlp

namespace Cert.Kernel2Ideal.Body
open Cert.Kernel2Ideal Cert.Kernel2Ideal.Gen Idealize.ShloMosaic Idealize.ShloMosaic.TcCoe Idealize.SL.Sem
open Cert.Mlp Cert.Kernel2Ideal.Value
variable (m : (ℓ : Loc nD τ sig) → Buf (Elt Ideal) ℓ)
variable {a : Args}

/-- The call's arguments on core `c` hold the reals `a`. -/
abbrev In (a : Args) (c : Dev nD) : Prop :=
  Inputs a (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-! ## What the host hands the call -/

theorem V31 {c : Dev nD} (h : In m a c) (f : Fin 2816) (d : Fin 1024) : (V m c main_v31 : Vec Ideal S2816x1024 .bf16) (ix2 f d) = ((a.Z f.val d : ℝ) : EReal) := by
  refine Eq.trans ?_ (h.wd f d)
  unfold V
  after_reads_at

theorem host_v1 {c : Dev nD} (h : In m a c) (t : Fin 4096) (q : Fin 5632) :
    (StableHlo.upto hostOps0 (fun b => m (c, b)) 4 (Proc.tc.devRef main_v1) : Vec Ideal S1x4096x5632 .f32) (ix3 (0 : Fin 1) t q) = ((a.X q.val t.val : ℝ) : EReal) := by
  after_reads_at
  split_ifs with hq
  · exact h.hg t ⟨q.val, hq⟩
  · refine (h.hv t ⟨q.val - 2816, by omega⟩).trans ?_
    congr 2; simp only; omega
  · exact absurd rfl ‹¬_›

theorem host_v2 (c : Dev nD) (t : Fin 2) (q : Fin 5632) :
    (StableHlo.upto hostOps0 (fun b => m (c, b)) 4 (Proc.tc.devRef main_v2) : Vec Ideal S1x2x5632 .f32) (ix3 (0 : Fin 1) t q) = ((0 : ℝ) : EReal) := by
  after_reads_at
  try rfl

theorem V28 {c : Dev nD} (h : In m a c) (t : Fin 4096) (q : Fin 5632) : (V m c main_v28 : Vec Ideal S4096x5632 .bf16) (ix2 t q) = ((a.u q.val t.val : ℝ) : EReal) := by
  have e0 : (if h : t.val < 2 then (StableHlo.upto hostOps0 (fun b => m (c, b)) 4 (Proc.tc.devRef main_v2) : Vec Ideal S1x2x5632 .f32) (ix3 (0 : Fin 1) (⟨t.val, h⟩ : Fin 2) q)
      else (StableHlo.upto hostOps0 (fun b => m (c, b)) 4 (Proc.tc.devRef main_v1) : Vec Ideal S1x4096x5632 .f32) (ix3 (0 : Fin 1) (⟨t.val - 2, by omega⟩ : Fin 4096) q)) = ((xp (a.X q.val) t.val : ℝ) : EReal) := by
    unfold xp
    split_ifs with h'
    · exact host_v2 m c _ q
    · exact host_v1 m h _ q
  have e1 : (if h : 1 + t.val < 2 then (StableHlo.upto hostOps0 (fun b => m (c, b)) 4 (Proc.tc.devRef main_v2) : Vec Ideal S1x2x5632 .f32) (ix3 (0 : Fin 1) (⟨1 + t.val, h⟩ : Fin 2) q)
      else (StableHlo.upto hostOps0 (fun b => m (c, b)) 4 (Proc.tc.devRef main_v1) : Vec Ideal S1x4096x5632 .f32) (ix3 (0 : Fin 1) (⟨1 + t.val - 2, by omega⟩ : Fin 4096) q)) = ((xp (a.X q.val) (t.val + 1) : ℝ) : EReal) := by
    rw [Nat.add_comm t.val 1]
    unfold xp
    split_ifs with h'
    · exact host_v2 m c _ q
    · exact host_v1 m h _ q
  have e2 : (StableHlo.upto hostOps0 (fun b => m (c, b)) 4 (Proc.tc.devRef main_v1) : Vec Ideal S1x4096x5632 .f32) (ix3 (0 : Fin 1) t q) = ((xp (a.X q.val) (t.val + 2) : ℝ) : EReal) := by
    rw [host_v1 m h]; unfold xp; rw [if_neg (by omega), Nat.add_sub_cancel]
  have eb := h.cb q
  have w0 := h.cw 0 q
  have w1 := h.cw 1 q
  have w2 := h.cw 2 q
  unfold V
  after_reads_at
  refine (congrArg₂ (fun x y : EReal => x + y) (congrArg₂ (fun x y : EReal => x + y) (congrArg₂ (fun x y : EReal => x + y) eb (congrArg₂ (fun x y : EReal => x * y) e0 w0))
    (congrArg₂ (fun x y : EReal => x * y) e1 w1)) (congrArg₂ (fun x y : EReal => x * y) e2 w2)).trans ?_
  unfold Args.u conv
  push_cast
  rfl

theorem V29 {c : Dev nD} (h : In m a c) (t : Fin 4096) (f : Fin 2816) : (V m c main_v29 : Vec Ideal S4096x2816 .bf16) (ix2 t f) = ((a.u f.val t.val : ℝ) : EReal) := by
  refine Eq.trans ?_ (V28 m h t ⟨f.val, by omega⟩)
  unfold V
  after_reads_at

theorem V30 {c : Dev nD} (h : In m a c) (t : Fin 4096) (f : Fin 2816) : (V m c main_v30 : Vec Ideal S4096x2816 .bf16) (ix2 t f) = ((a.u (2816 + f.val) t.val : ℝ) : EReal) := by
  refine Eq.trans ?_ (V28 m h t ⟨2816 + f.val, by omega⟩)
  unfold V
  after_reads_at

/-! ## The blocks -/

theorem idx_0 : ∀ t : Fin cfg0.N, win0_0.index t 0 = 15 - t.val % 16 ∧ win0_0.index t 1 = 0 := by decide +kernel
theorem idx_1 : ∀ t : Fin cfg0.N, win0_1.index t 0 = t.val / 16 ∧ win0_1.index t 1 = 0 := by decide +kernel
theorem idx_2 : ∀ t : Fin cfg0.N, win0_2.index t 0 = 15 - t.val % 16 ∧ win0_2.index t 1 = t.val / 16 := by decide +kernel
theorem idx_3 : ∀ t : Fin cfg0.N, win0_3.index t 0 = 15 - t.val % 16 ∧ win0_3.index t 1 = t.val / 16 := by decide +kernel
theorem idx_4 : ∀ t : Fin cfg0.N, win0_4.index t 0 = 15 - t.val % 16 ∧ win0_4.index t 1 = t.val / 16 := by decide +kernel
theorem idx_5 : ∀ t : Fin cfg0.N, win0_5.index t 0 = 15 - t.val % 16 ∧ win0_5.index t 1 = t.val / 16 := by decide +kernel
theorem idx_6 : ∀ t : Fin cfg0.N, win0_6.index t 0 = 0 ∧ win0_6.index t 1 = t.val / 16 := by decide +kernel
theorem idx_7 : ∀ t : Fin cfg0.N, win0_7.index t 0 = 0 ∧ win0_7.index t 1 = t.val / 16 + 2 := by decide +kernel
theorem idx_8 : ∀ t : Fin cfg0.N, win0_8.index t 0 = 15 - t.val % 16 ∧ win0_8.index t 1 = t.val / 16 := by decide +kernel
theorem idx_9 : ∀ t : Fin cfg0.N, win0_9.index t 0 = 15 - t.val % 16 ∧ win0_9.index t 1 = t.val / 16 := by decide +kernel
theorem idx_10 : ∀ t : Fin cfg0.N, win0_10.index t 0 = 0 ∧ win0_10.index t 1 = t.val / 16 := by decide +kernel
theorem idx_11 : ∀ t : Fin cfg0.N, win0_11.index t 0 = 0 ∧ win0_11.index t 1 = t.val / 16 := by decide +kernel

theorem t_lt (t : Fin cfg0.N) : t.val < 32 := by have := t.isLt; have hN : cfg0.N = 32 := N_0; omega

/-- What a grid point's input blocks hold: tokens from `256 (15 - t % 16)` on, columns from `1408 (t / 16)` on. -/
structure Holds (a : Args) (T c0 : ℕ) (x0 : Vec Ideal S256x1024 .f32) (x1 : Vec Ideal S1408x1024 .bf16) (x2 x3 : Vec Ideal S256x1408 .bf16) (x4 x5 : Vec Ideal S256x1408 .f32) (x6 x7 : Vec Ideal S3x1408 .f32) : Prop where
  x0 : ∀ (r : Fin 256) (d : Fin 1024), x0 (ix2 r d) = ((a.A (T + r.val) d : ℝ) : EReal)
  x1 : ∀ (f : Fin 1408) (d : Fin 1024), x1 (ix2 f d) = ((a.Z (c0 + f.val) d : ℝ) : EReal)
  x2 : ∀ (r : Fin 256) (f : Fin 1408), x2 (ix2 r f) = ((a.u (c0 + f.val) (T + r.val) : ℝ) : EReal)
  x3 : ∀ (r : Fin 256) (f : Fin 1408), x3 (ix2 r f) = ((a.u (2816 + (c0 + f.val)) (T + r.val) : ℝ) : EReal)
  x4 : ∀ (r : Fin 256) (f : Fin 1408), x4 (ix2 r f) = ((a.X (c0 + f.val) (T + r.val) : ℝ) : EReal)
  x5 : ∀ (r : Fin 256) (f : Fin 1408), x5 (ix2 r f) = ((a.X (2816 + (c0 + f.val)) (T + r.val) : ℝ) : EReal)
  x6 : ∀ (k : Fin 3) (f : Fin 1408), x6 (ix2 k f) = ((a.W (c0 + f.val) k.val : ℝ) : EReal)
  x7 : ∀ (k : Fin 3) (f : Fin 1408), x7 (ix2 k f) = ((a.W (2816 + (c0 + f.val)) k.val : ℝ) : EReal)

theorem blk0 {c : Dev nD} (h : In m a c) (t : Fin cfg0.N) (r : Fin 256) (d : Fin 1024) :
    (iblk m c 0 t : Vec Ideal S256x1024 .f32) (ix2 r d) = ((a.A (256 * (15 - t.val % 16) + r.val) d : ℝ) : EReal) := by
  have ht := t_lt t
  rw [← h.dx2 ⟨256 * (15 - t.val % 16) + r.val, by omega⟩ d, ← V_main_arg0 m c]
  unfold iblk
  rw [View.read_apply]
  refine congrArg (V m c main_arg0) (funext fun a => Fin.ext ?_)
  match a with
  | ⟨0, _⟩ => show win0_0.index t 0 * 256 + 1 * r.val = 256 * (15 - t.val % 16) + r.val; rw [(idx_0 t).1]; omega
  | ⟨1, _⟩ => show win0_0.index t 1 * 1024 + 1 * d.val = d.val; rw [(idx_0 t).2]; omega

theorem blk1 {c : Dev nD} (h : In m a c) (t : Fin cfg0.N) (f : Fin 1408) (d : Fin 1024) :
    (iblk m c 1 t : Vec Ideal S1408x1024 .bf16) (ix2 f d) = ((a.Z (1408 * (t.val / 16) + f.val) d : ℝ) : EReal) := by
  have ht := t_lt t
  rw [← V31 m h ⟨1408 * (t.val / 16) + f.val, by omega⟩ d]
  unfold iblk
  rw [View.read_apply]
  refine congrArg (V m c main_v31) (funext fun a => Fin.ext ?_)
  match a with
  | ⟨0, _⟩ => show win0_1.index t 0 * 1408 + 1 * f.val = 1408 * (t.val / 16) + f.val; rw [(idx_1 t).1]; omega
  | ⟨1, _⟩ => show win0_1.index t 1 * 1024 + 1 * d.val = d.val; rw [(idx_1 t).2]; omega

theorem blk2 {c : Dev nD} (h : In m a c) (t : Fin cfg0.N) (r : Fin 256) (f : Fin 1408) :
    (iblk m c 2 t : Vec Ideal S256x1408 .bf16) (ix2 r f) = ((a.u (1408 * (t.val / 16) + f.val) (256 * (15 - t.val % 16) + r.val) : ℝ) : EReal) := by
  have ht := t_lt t
  rw [← V29 m h ⟨256 * (15 - t.val % 16) + r.val, by omega⟩ ⟨1408 * (t.val / 16) + f.val, by omega⟩]
  unfold iblk
  rw [View.read_apply]
  refine congrArg (V m c main_v29) (funext fun a => Fin.ext ?_)
  match a with
  | ⟨0, _⟩ => show win0_2.index t 0 * 256 + 1 * r.val = 256 * (15 - t.val % 16) + r.val; rw [(idx_2 t).1]; omega
  | ⟨1, _⟩ => show win0_2.index t 1 * 1408 + 1 * f.val = 1408 * (t.val / 16) + f.val; rw [(idx_2 t).2]; omega

theorem blk3 {c : Dev nD} (h : In m a c) (t : Fin cfg0.N) (r : Fin 256) (f : Fin 1408) :
    (iblk m c 3 t : Vec Ideal S256x1408 .bf16) (ix2 r f) = ((a.u (2816 + (1408 * (t.val / 16) + f.val)) (256 * (15 - t.val % 16) + r.val) : ℝ) : EReal) := by
  have ht := t_lt t
  rw [← V30 m h ⟨256 * (15 - t.val % 16) + r.val, by omega⟩ ⟨1408 * (t.val / 16) + f.val, by omega⟩]
  unfold iblk
  rw [View.read_apply]
  refine congrArg (V m c main_v30) (funext fun a => Fin.ext ?_)
  match a with
  | ⟨0, _⟩ => show win0_3.index t 0 * 256 + 1 * r.val = 256 * (15 - t.val % 16) + r.val; rw [(idx_3 t).1]; omega
  | ⟨1, _⟩ => show win0_3.index t 1 * 1408 + 1 * f.val = 1408 * (t.val / 16) + f.val; rw [(idx_3 t).2]; omega

theorem blk4 {c : Dev nD} (h : In m a c) (t : Fin cfg0.N) (r : Fin 256) (f : Fin 1408) :
    (iblk m c 4 t : Vec Ideal S256x1408 .f32) (ix2 r f) = ((a.X (1408 * (t.val / 16) + f.val) (256 * (15 - t.val % 16) + r.val) : ℝ) : EReal) := by
  have ht := t_lt t
  rw [← h.hg ⟨256 * (15 - t.val % 16) + r.val, by omega⟩ ⟨1408 * (t.val / 16) + f.val, by omega⟩, ← V_main_arg2 m c]
  unfold iblk
  rw [View.read_apply]
  refine congrArg (V m c main_arg2) (funext fun a => Fin.ext ?_)
  match a with
  | ⟨0, _⟩ => show win0_4.index t 0 * 256 + 1 * r.val = 256 * (15 - t.val % 16) + r.val; rw [(idx_4 t).1]; omega
  | ⟨1, _⟩ => show win0_4.index t 1 * 1408 + 1 * f.val = 1408 * (t.val / 16) + f.val; rw [(idx_4 t).2]; omega

theorem blk5 {c : Dev nD} (h : In m a c) (t : Fin cfg0.N) (r : Fin 256) (f : Fin 1408) :
    (iblk m c 5 t : Vec Ideal S256x1408 .f32) (ix2 r f) = ((a.X (2816 + (1408 * (t.val / 16) + f.val)) (256 * (15 - t.val % 16) + r.val) : ℝ) : EReal) := by
  have ht := t_lt t
  rw [← h.hv ⟨256 * (15 - t.val % 16) + r.val, by omega⟩ ⟨1408 * (t.val / 16) + f.val, by omega⟩, ← V_main_arg3 m c]
  unfold iblk
  rw [View.read_apply]
  refine congrArg (V m c main_arg3) (funext fun a => Fin.ext ?_)
  match a with
  | ⟨0, _⟩ => show win0_5.index t 0 * 256 + 1 * r.val = 256 * (15 - t.val % 16) + r.val; rw [(idx_5 t).1]; omega
  | ⟨1, _⟩ => show win0_5.index t 1 * 1408 + 1 * f.val = 1408 * (t.val / 16) + f.val; rw [(idx_5 t).2]; omega

theorem blk6 {c : Dev nD} (h : In m a c) (t : Fin cfg0.N) (k : Fin 3) (f : Fin 1408) :
    (iblk m c 6 t : Vec Ideal S3x1408 .f32) (ix2 k f) = ((a.W (1408 * (t.val / 16) + f.val) k.val : ℝ) : EReal) := by
  have ht := t_lt t
  rw [← h.cw k ⟨1408 * (t.val / 16) + f.val, by omega⟩, ← V_main_arg4 m c]
  unfold iblk
  rw [View.read_apply]
  refine congrArg (V m c main_arg4) (funext fun a => Fin.ext ?_)
  match a with
  | ⟨0, _⟩ => show win0_6.index t 0 * 3 + 1 * k.val = k.val; rw [(idx_6 t).1]; omega
  | ⟨1, _⟩ => show win0_6.index t 1 * 1408 + 1 * f.val = 1408 * (t.val / 16) + f.val; rw [(idx_6 t).2]; omega

theorem blk7 {c : Dev nD} (h : In m a c) (t : Fin cfg0.N) (k : Fin 3) (f : Fin 1408) :
    (iblk m c 7 t : Vec Ideal S3x1408 .f32) (ix2 k f) = ((a.W (2816 + (1408 * (t.val / 16) + f.val)) k.val : ℝ) : EReal) := by
  have ht := t_lt t
  rw [← h.cw k ⟨2816 + (1408 * (t.val / 16) + f.val), by omega⟩, ← V_main_arg4 m c]
  unfold iblk
  rw [View.read_apply]
  refine congrArg (V m c main_arg4) (funext fun a => Fin.ext ?_)
  match a with
  | ⟨0, _⟩ => show win0_7.index t 0 * 3 + 1 * k.val = k.val; rw [(idx_7 t).1]; omega
  | ⟨1, _⟩ => show win0_7.index t 1 * 1408 + 1 * f.val = 2816 + (1408 * (t.val / 16) + f.val); rw [(idx_7 t).2]; omega

theorem holds {c : Dev nD} (h : In m a c) (t : Fin cfg0.N) :
    Holds a (256 * (15 - t.val % 16)) (1408 * (t.val / 16)) (iblk m c 0 t) (iblk m c 1 t) (iblk m c 2 t) (iblk m c 3 t) (iblk m c 4 t) (iblk m c 5 t) (iblk m c 6 t) (iblk m c 7 t) where
  x0 := blk0 m h t
  x1 := blk1 m h t
  x2 := blk2 m h t
  x3 := blk3 m h t
  x4 := blk4 m h t
  x5 := blk5 m h t
  x6 := blk6 m h t
  x7 := blk7 m h t

/-! ## The grid -/

/-- What a grid point leaves: its two blocks, the sums over the tokens from its block on, the rows carried on. -/
structure Left (a : Args) (T c0 : ℕ)
    (y8 y9 : Vec Ideal S256x1408 .bf16) (o10 o11 s1 s2 : Vec Ideal S8x1408 .f32) : Prop where
  v8 : ∀ (r : Fin 256) (f : Fin 1408), y8 (ix2 r f) = ((Mlp.dx (a.D (c0 + f.val)) (a.W (c0 + f.val)) (T + r.val) : ℝ) : EReal)
  v9 : ∀ (r : Fin 256) (f : Fin 1408), y9 (ix2 r f) = ((Mlp.dx (a.D (2816 + (c0 + f.val))) (a.W (2816 + (c0 + f.val))) (T + r.val) : ℝ) : EReal)
  v10 : ∀ (k : Fin 8) (f : Fin 1408), o10 (ix2 k f) = ((Mlp.sums (a.D (c0 + f.val)) (a.X (c0 + f.val)) T k.val : ℝ) : EReal)
  v11 : ∀ (k : Fin 8) (f : Fin 1408), o11 (ix2 k f) = ((Mlp.sums (a.D (2816 + (c0 + f.val))) (a.X (2816 + (c0 + f.val))) T k.val : ℝ) : EReal)
  t1 : ∀ (r : Fin 8) (f : Fin 1408), s1 (ix2 r f) = ((Mlp.ext (a.D (c0 + f.val)) (T + r.val) : ℝ) : EReal)
  t2 : ∀ (r : Fin 8) (f : Fin 1408), s2 (ix2 r f) = ((Mlp.ext (a.D (2816 + (c0 + f.val))) (T + r.val) : ℝ) : EReal)

section
variable {T c0 : ℕ} {x0 : Vec Ideal S256x1024 .f32} {x1 : Vec Ideal S1408x1024 .bf16} {x2 x3 : Vec Ideal S256x1408 .bf16} {x4 x5 : Vec Ideal S256x1408 .f32} {x6 x7 : Vec Ideal S3x1408 .f32}

theorem dgc_ext (h : Holds a T c0 x0 x1 x2 x3 x4 x5 x6 x7) (hT : T + 256 ≤ 4096) (hc : c0 + 1408 ≤ 2816) (f : Fin 1408) (r : Fin 256) :
    dgc (F := Ideal) x0 x1 x2 x3 (ix2 r f) = ((Mlp.ext (a.D (c0 + f.val)) (T + r.val) : ℝ) : EReal) := by
  unfold Mlp.ext
  rw [dgc_apply (h.x0 r) (h.x1 f) (h.x2 r f) (h.x3 r f), if_pos (by omega), a.D_g _ _ (by omega)]
  rfl

theorem dvc_ext (h : Holds a T c0 x0 x1 x2 x3 x4 x5 x6 x7) (hT : T + 256 ≤ 4096) (f : Fin 1408) (r : Fin 256) :
    dvc (F := Ideal) x0 x1 x2 (ix2 r f) = ((Mlp.ext (a.D (2816 + (c0 + f.val))) (T + r.val) : ℝ) : EReal) := by
  unfold Mlp.ext
  rw [dvc_apply (h.x0 r) (h.x1 f) (h.x2 r f), if_pos (by omega), a.D_v]
  rfl

theorem extg_apply (h : Holds a T c0 x0 x1 x2 x3 x4 x5 x6 x7) (hT : T + 256 ≤ 4096) (hc : c0 + 1408 ≤ 2816) {s : Vec Ideal S8x1408 .f32} (f : Fin 1408) (hs : ∀ r : Fin 8, s (ix2 r f) = ((Mlp.ext (a.D (c0 + f.val)) (T + 256 + r.val) : ℝ) : EReal)) (L) (j : Fin 264) :
    Body.ext (dgc x0 x1 x2 x3) s L (ix2 j f) = ((Mlp.ext (a.D (c0 + f.val)) (T + j.val) : ℝ) : EReal) :=
  ext_apply (D := Mlp.ext (a.D (c0 + f.val))) (dgc_ext h hT hc f) hs L j

theorem extv_apply (h : Holds a T c0 x0 x1 x2 x3 x4 x5 x6 x7) (hT : T + 256 ≤ 4096) (hc : c0 + 1408 ≤ 2816) {s : Vec Ideal S8x1408 .f32} (f : Fin 1408) (hs : ∀ r : Fin 8, s (ix2 r f) = ((Mlp.ext (a.D (2816 + (c0 + f.val))) (T + 256 + r.val) : ℝ) : EReal)) (L) (j : Fin 264) :
    Body.ext (dvc x0 x1 x2) s L (ix2 j f) = ((Mlp.ext (a.D (2816 + (c0 + f.val))) (T + j.val) : ℝ) : EReal) :=
  ext_apply (D := Mlp.ext (a.D (2816 + (c0 + f.val)))) (dvc_ext h hT f) hs L j

theorem step_outg (h : Holds a T c0 x0 x1 x2 x3 x4 x5 x6 x7) (hT : T + 256 ≤ 4096) (hc : c0 + 1408 ≤ 2816) {s : Vec Ideal S8x1408 .f32} (f : Fin 1408) (hs : ∀ r : Fin 8, s (ix2 r f) = ((Mlp.ext (a.D (c0 + f.val)) (T + 256 + r.val) : ℝ) : EReal)) (L) (r : Fin 256) :
    outb (dgc x0 x1 x2 x3) x6 (Body.ext (dgc x0 x1 x2 x3) s L) (ix2 r f) = ((Mlp.dx (a.D (c0 + f.val)) (a.W (c0 + f.val)) (T + r.val) : ℝ) : EReal) :=
  outb_apply (D := Mlp.ext (a.D (c0 + f.val))) (W := a.W (c0 + f.val)) (dgc_ext h hT hc f) (extg_apply h hT hc f hs L) (fun k => h.x6 k f) r

theorem step_sumsg (h : Holds a T c0 x0 x1 x2 x3 x4 x5 x6 x7) (hT : T + 256 ≤ 4096) (hc : c0 + 1408 ≤ 2816) {s : Vec Ideal S8x1408 .f32} (f : Fin 1408) (hs : ∀ r : Fin 8, s (ix2 r f) = ((Mlp.ext (a.D (c0 + f.val)) (T + 256 + r.val) : ℝ) : EReal)) (L) {o : Vec Ideal S8x1408 .f32}
    (ho : ∀ k : Fin 8, o (ix2 k f) = ((Mlp.sums (a.D (c0 + f.val)) (a.X (c0 + f.val)) (T + 256) k.val : ℝ) : EReal)) (k : Fin 8) :
    Body.sums (dgc x0 x1 x2 x3) x4 (Body.ext (dgc x0 x1 x2 x3) s L) o (ix2 k f) = ((Mlp.sums (a.D (c0 + f.val)) (a.X (c0 + f.val)) T k.val : ℝ) : EReal) :=
  sums_step (D := Mlp.ext (a.D (c0 + f.val))) (X := a.X (c0 + f.val)) (D' := a.D (c0 + f.val)) (dgc_ext h hT hc f) (extg_apply h hT hc f hs L) (fun r => h.x4 r f) hT (fun _ => rfl) ho k

theorem step_outv (h : Holds a T c0 x0 x1 x2 x3 x4 x5 x6 x7) (hT : T + 256 ≤ 4096) (hc : c0 + 1408 ≤ 2816) {s : Vec Ideal S8x1408 .f32} (f : Fin 1408) (hs : ∀ r : Fin 8, s (ix2 r f) = ((Mlp.ext (a.D (2816 + (c0 + f.val))) (T + 256 + r.val) : ℝ) : EReal)) (L) (r : Fin 256) :
    outb (dvc x0 x1 x2) x7 (Body.ext (dvc x0 x1 x2) s L) (ix2 r f) = ((Mlp.dx (a.D (2816 + (c0 + f.val))) (a.W (2816 + (c0 + f.val))) (T + r.val) : ℝ) : EReal) :=
  outb_apply (D := Mlp.ext (a.D (2816 + (c0 + f.val)))) (W := a.W (2816 + (c0 + f.val))) (dvc_ext h hT f) (extv_apply h hT hc f hs L) (fun k => h.x7 k f) r

theorem step_sumsv (h : Holds a T c0 x0 x1 x2 x3 x4 x5 x6 x7) (hT : T + 256 ≤ 4096) (hc : c0 + 1408 ≤ 2816) {s : Vec Ideal S8x1408 .f32} (f : Fin 1408) (hs : ∀ r : Fin 8, s (ix2 r f) = ((Mlp.ext (a.D (2816 + (c0 + f.val))) (T + 256 + r.val) : ℝ) : EReal)) (L) {o : Vec Ideal S8x1408 .f32}
    (ho : ∀ k : Fin 8, o (ix2 k f) = ((Mlp.sums (a.D (2816 + (c0 + f.val))) (a.X (2816 + (c0 + f.val))) (T + 256) k.val : ℝ) : EReal)) (k : Fin 8) :
    Body.sums (dvc x0 x1 x2) x5 (Body.ext (dvc x0 x1 x2) s L) o (ix2 k f) = ((Mlp.sums (a.D (2816 + (c0 + f.val))) (a.X (2816 + (c0 + f.val))) T k.val : ℝ) : EReal) :=
  sums_step (D := Mlp.ext (a.D (2816 + (c0 + f.val)))) (X := a.X (2816 + (c0 + f.val))) (D' := a.D (2816 + (c0 + f.val))) (dvc_ext h hT f) (extv_apply h hT hc f hs L) (fun r => h.x5 r f) hT (fun _ => rfl) ho k

theorem step (h : Holds a T c0 x0 x1 x2 x3 x4 x5 x6 x7) (hT : T + 256 ≤ 4096) (hc : c0 + 1408 ≤ 2816) {y8 y9 : Vec Ideal S256x1408 .bf16} {o10 o11 s1 s2 : Vec Ideal S8x1408 .f32} {L}
    (hl : Left a (T + 256) c0 y8 y9 o10 o11 s1 s2) :
    Left a T c0 (outb (dgc x0 x1 x2 x3) x6 (Body.ext (dgc x0 x1 x2 x3) s1 [])) (outb (dvc x0 x1 x2) x7 (Body.ext (dvc x0 x1 x2) s2 L))
      (Body.sums (dgc x0 x1 x2 x3) x4 (Body.ext (dgc x0 x1 x2 x3) s1 []) o10) (Body.sums (dvc x0 x1 x2) x5 (Body.ext (dvc x0 x1 x2) s2 L) o11)
      (k0_pay30 (dgc x0 x1 x2 x3)) (k0_pay30 (dvc x0 x1 x2)) :=
  ⟨fun r f => step_outg h hT hc f (fun k => hl.t1 k f) _ r, fun r f => step_outv h hT hc f (fun k => hl.t2 k f) _ r,
    fun k f => step_sumsg h hT hc f (fun k => hl.t1 k f) _ (fun k => hl.v10 k f) k, fun k f => step_sumsv h hT hc f (fun k => hl.t2 k f) _ (fun k => hl.v11 k f) k,
    fun r f => carry_apply (D := Mlp.ext (a.D (c0 + f.val))) (dgc_ext h hT hc f) r, fun r f => carry_apply (D := Mlp.ext (a.D (2816 + (c0 + f.val)))) (dvc_ext h hT f) r⟩
end

/-- Nothing is left over past the last token. -/
theorem left_end (a : Args) (c0 : ℕ) : ∃ y8 y9, Left a 4096 c0 y8 y9 (k0_pay6 (F := Ideal)) (k0_pay7 (F := Ideal)) (k0_pay4 (F := Ideal)) (k0_pay5 (F := Ideal)) :=
  ⟨fun i => ((Mlp.dx (a.D (c0 + (i 1).val)) (a.W (c0 + (i 1).val)) (4096 + (i 0).val) : ℝ) : EReal), fun i => ((Mlp.dx (a.D (2816 + (c0 + (i 1).val))) (a.W (2816 + (c0 + (i 1).val))) (4096 + (i 0).val) : ℝ) : EReal),
    fun _ _ => rfl, fun _ _ => rfl,
    fun k f => by pointwise [k0_pay6]; rw [sums_end]; rfl, fun k f => by pointwise [k0_pay7]; rw [sums_end]; rfl,
    fun k f => by pointwise [k0_pay4]; unfold Mlp.ext; rw [if_neg (by omega)]; rfl, fun k f => by pointwise [k0_pay5]; unfold Mlp.ext; rw [if_neg (by omega)]; rfl⟩

theorem outs_left {c : Dev nD} (h : In m a c) : ∀ (n : ℕ) (hn : n < cfg0.N), Left a (256 * (15 - n % 16)) (1408 * (n / 16)) (outsAt0 m c n hn).1 (outsAt0 m c n hn).2.1 (outsAt0 m c n hn).2.2.1 (outsAt0 m c n hn).2.2.2.1 (outsAt0 m c n hn).2.2.2.2.1 (outsAt0 m c n hn).2.2.2.2.2
  | n, hn => by
    have hN : cfg0.N = 32 := N_0
    have hh := holds m h ⟨n, hn⟩
    simp only at hh
    by_cases h0 : n % 16 = 0
    · rw [show outsAt0 m c n hn = _ from outsAt0_A m c ⟨n, hn⟩ h0]
      dsimp only
      rw [out0_A_8_eq, out0_A_9_eq, out0_A_10_eq, out0_A_11_eq, sout0_A_1_eq, sout0_A_2_eq]
      obtain ⟨y8, y9, hl⟩ := left_end a (1408 * (n / 16))
      rw [show 4096 = 256 * (15 - n % 16) + 256 by omega] at hl
      refine step hh (by omega) (by omega) hl
    · have ih := outs_left h (n - 1) (by omega)
      rw [show outsAt0 m c n hn = _ from outsAt0_B m c ⟨n, hn⟩ h0]
      dsimp only
      rw [out0_B_8_eq, out0_B_9_eq, out0_B_10_eq, out0_B_11_eq, sout0_B_1_eq, sout0_B_2_eq]
      rw [show 256 * (15 - (n - 1) % 16) = 256 * (15 - n % 16) + 256 by omega, show (n - 1) / 16 = n / 16 by omega] at ih
      refine step hh (by omega) (by omega) ih
termination_by n => n
decreasing_by omega

/-! ## The arrays -/

theorem emb8 (t : Fin cfg0.N) (r : Fin 256) (f : Fin 1408) (ht : t.val < 32) :
    ((cfg0.win 8).blk t).view.emb (ix2 r f) = (ix2 (⟨256 * (15 - t.val % 16) + r.val, by omega⟩ : Fin 4096) (⟨1408 * (t.val / 16) + f.val, by omega⟩ : Fin 2816) : S4096x2816.Idx) := funext fun a => Fin.ext (by
    match a with
    | ⟨0, _⟩ => show win0_8.index t 0 * 256 + 1 * r.val = 256 * (15 - t.val % 16) + r.val; rw [(idx_8 t).1]; omega
    | ⟨1, _⟩ => show win0_8.index t 1 * 1408 + 1 * f.val = 1408 * (t.val / 16) + f.val; rw [(idx_8 t).2]; omega)

theorem final8 {c : Dev nD} (h : In m a c) (s : Fin 4096) (f : Fin 2816) :
    ((dats m 0 c).arrAt 8 cfg0.N : Vec Ideal S4096x2816 .bf16) (ix2 s f) = ((Mlp.dx (a.D (f.val)) (a.W (f.val)) s.val : ℝ) : EReal) := by
  have hN : cfg0.N = 32 := N_0
  let t : Fin cfg0.N := ⟨16 * (f.val / 1408) + (15 - s.val / 256), by omega⟩
  have hb := blocks8 m c t (flush0_8 t)
  rw [flushed8] at hb
  have hb' := congrFun hb (ix2 (⟨s.val % 256, by omega⟩ : Fin 256) (⟨f.val % 1408, by omega⟩ : Fin 1408))
  rw [View.read_apply, emb8 t _ _ (by simp only [t]; omega)] at hb'
  have hp : 256 * (15 - t.val % 16) + s.val % 256 = s.val := by simp only [t]; omega
  have hq : 1408 * (t.val / 16) + f.val % 1408 = f.val := by simp only [t]; omega
  have e : (⟨256 * (15 - t.val % 16) + s.val % 256, by omega⟩ : Fin 4096) = s := Fin.ext hp
  have e' : (⟨1408 * (t.val / 16) + f.val % 1408, by omega⟩ : Fin 2816) = f := Fin.ext hq
  refine Eq.trans ?_ ((hb'.trans ((outs_left m h t.val t.isLt).v8 ⟨s.val % 256, by omega⟩ ⟨f.val % 1408, by omega⟩)).trans ?_)
  · simp only [e, e']; rfl
  · simp only [hp, hq]

theorem emb9 (t : Fin cfg0.N) (r : Fin 256) (f : Fin 1408) (ht : t.val < 32) :
    ((cfg0.win 9).blk t).view.emb (ix2 r f) = (ix2 (⟨256 * (15 - t.val % 16) + r.val, by omega⟩ : Fin 4096) (⟨1408 * (t.val / 16) + f.val, by omega⟩ : Fin 2816) : S4096x2816.Idx) := funext fun a => Fin.ext (by
    match a with
    | ⟨0, _⟩ => show win0_9.index t 0 * 256 + 1 * r.val = 256 * (15 - t.val % 16) + r.val; rw [(idx_9 t).1]; omega
    | ⟨1, _⟩ => show win0_9.index t 1 * 1408 + 1 * f.val = 1408 * (t.val / 16) + f.val; rw [(idx_9 t).2]; omega)

theorem final9 {c : Dev nD} (h : In m a c) (s : Fin 4096) (f : Fin 2816) :
    ((dats m 0 c).arrAt 9 cfg0.N : Vec Ideal S4096x2816 .bf16) (ix2 s f) = ((Mlp.dx (a.D (2816 + f.val)) (a.W (2816 + f.val)) s.val : ℝ) : EReal) := by
  have hN : cfg0.N = 32 := N_0
  let t : Fin cfg0.N := ⟨16 * (f.val / 1408) + (15 - s.val / 256), by omega⟩
  have hb := blocks9 m c t (flush0_9 t)
  rw [flushed9] at hb
  have hb' := congrFun hb (ix2 (⟨s.val % 256, by omega⟩ : Fin 256) (⟨f.val % 1408, by omega⟩ : Fin 1408))
  rw [View.read_apply, emb9 t _ _ (by simp only [t]; omega)] at hb'
  have hp : 256 * (15 - t.val % 16) + s.val % 256 = s.val := by simp only [t]; omega
  have hq : 1408 * (t.val / 16) + f.val % 1408 = f.val := by simp only [t]; omega
  have e : (⟨256 * (15 - t.val % 16) + s.val % 256, by omega⟩ : Fin 4096) = s := Fin.ext hp
  have e' : (⟨1408 * (t.val / 16) + f.val % 1408, by omega⟩ : Fin 2816) = f := Fin.ext hq
  refine Eq.trans ?_ ((hb'.trans ((outs_left m h t.val t.isLt).v9 ⟨s.val % 256, by omega⟩ ⟨f.val % 1408, by omega⟩)).trans ?_)
  · simp only [e, e']; rfl
  · simp only [hp, hq]

theorem inj10 : ∀ t t' : Fin cfg0.N, t.val % 16 = 15 → t'.val % 16 = 15 → win0_10.index t = win0_10.index t' → t = t' := by decide +kernel

theorem emb10 (t : Fin cfg0.N) (k : Fin 8) (f : Fin 1408) (ht : t.val < 32) :
    ((cfg0.win 10).blk t).view.emb (ix2 k f) = (ix2 k (⟨1408 * (t.val / 16) + f.val, by omega⟩ : Fin 2816) : S8x2816.Idx) := funext fun a => Fin.ext (by
    match a with
    | ⟨0, _⟩ => show win0_10.index t 0 * 8 + 1 * k.val = k.val; rw [(idx_10 t).1]; omega
    | ⟨1, _⟩ => show win0_10.index t 1 * 1408 + 1 * f.val = 1408 * (t.val / 16) + f.val; rw [(idx_10 t).2]; omega)

theorem final10 {c : Dev nD} (h : In m a c) (k : Fin 8) (f : Fin 2816) :
    ((dats m 0 c).arrAt 10 cfg0.N : Vec Ideal S8x2816 .f32) (ix2 k f) = ((Mlp.sums (a.D (f.val)) (a.X (f.val)) 0 k.val : ℝ) : EReal) := by
  have hN : cfg0.N = 32 := N_0
  let t : Fin cfg0.N := ⟨16 * (f.val / 1408) + 15, by omega⟩
  have hf : (cfg0.win 10).flush t = true := (flush0_10 t).mpr (by simp only [t]; omega)
  have hb := (dats m 0 c).read_blk_arrAt_eq_flushed 10 (fun t t' hf hf' hne => (cfg0.win 10).disjoint_blk fun h => hne (inj10 t t' ((flush0_10 t).mp hf) ((flush0_10 t').mp hf') h)) cfg0.N t t.isLt hf
  rw [flushed10] at hb
  have hb' := congrFun hb (ix2 k (⟨f.val % 1408, by omega⟩ : Fin 1408))
  rw [View.read_apply, emb10 t _ _ (by simp only [t]; omega)] at hb'
  have hp : 256 * (15 - t.val % 16) = 0 := by simp only [t]; omega
  have hq : 1408 * (t.val / 16) + f.val % 1408 = f.val := by simp only [t]; omega
  have e' : (⟨1408 * (t.val / 16) + f.val % 1408, by omega⟩ : Fin 2816) = f := Fin.ext hq
  refine Eq.trans ?_ ((hb'.trans ((outs_left m h t.val t.isLt).v10 k ⟨f.val % 1408, by omega⟩)).trans ?_)
  · simp only [e']; rfl
  · simp only [hp, hq]

theorem inj11 : ∀ t t' : Fin cfg0.N, t.val % 16 = 15 → t'.val % 16 = 15 → win0_11.index t = win0_11.index t' → t = t' := by decide +kernel

theorem emb11 (t : Fin cfg0.N) (k : Fin 8) (f : Fin 1408) (ht : t.val < 32) :
    ((cfg0.win 11).blk t).view.emb (ix2 k f) = (ix2 k (⟨1408 * (t.val / 16) + f.val, by omega⟩ : Fin 2816) : S8x2816.Idx) := funext fun a => Fin.ext (by
    match a with
    | ⟨0, _⟩ => show win0_11.index t 0 * 8 + 1 * k.val = k.val; rw [(idx_11 t).1]; omega
    | ⟨1, _⟩ => show win0_11.index t 1 * 1408 + 1 * f.val = 1408 * (t.val / 16) + f.val; rw [(idx_11 t).2]; omega)

theorem final11 {c : Dev nD} (h : In m a c) (k : Fin 8) (f : Fin 2816) :
    ((dats m 0 c).arrAt 11 cfg0.N : Vec Ideal S8x2816 .f32) (ix2 k f) = ((Mlp.sums (a.D (2816 + f.val)) (a.X (2816 + f.val)) 0 k.val : ℝ) : EReal) := by
  have hN : cfg0.N = 32 := N_0
  let t : Fin cfg0.N := ⟨16 * (f.val / 1408) + 15, by omega⟩
  have hf : (cfg0.win 11).flush t = true := (flush0_11 t).mpr (by simp only [t]; omega)
  have hb := (dats m 0 c).read_blk_arrAt_eq_flushed 11 (fun t t' hf hf' hne => (cfg0.win 11).disjoint_blk fun h => hne (inj11 t t' ((flush0_11 t).mp hf) ((flush0_11 t').mp hf') h)) cfg0.N t t.isLt hf
  rw [flushed11] at hb
  have hb' := congrFun hb (ix2 k (⟨f.val % 1408, by omega⟩ : Fin 1408))
  rw [View.read_apply, emb11 t _ _ (by simp only [t]; omega)] at hb'
  have hp : 256 * (15 - t.val % 16) = 0 := by simp only [t]; omega
  have hq : 1408 * (t.val / 16) + f.val % 1408 = f.val := by simp only [t]; omega
  have e' : (⟨1408 * (t.val / 16) + f.val % 1408, by omega⟩ : Fin 2816) = f := Fin.ext hq
  refine Eq.trans ?_ ((hb'.trans ((outs_left m h t.val t.isLt).v11 k ⟨f.val % 1408, by omega⟩)).trans ?_)
  · simp only [e']; rfl
  · simp only [hp, hq]

end Cert.Kernel2Ideal.Body
end
-- ==== Proof.MlpRead.lean ====
module

public import proofs.«01_k».proof.Proof.MlpValue
public import proofs.«01_k».proof.Proof.Gen.Reference2Ideal.Run

/-! The reference of the gated MLP's backward call, its terms in real numbers. -/

@[expose] public section
set_option maxRecDepth 16384
noncomputable section
namespace Cert.Reference2Ideal.Read
open Cert.Reference2Ideal Cert.Reference2Ideal.Gen Cert.Reference2Ideal.Value Idealize.ShloMosaic Idealize.SL.Sem
open Cert.Mlp
open Cert.Kernel2Ideal.Body (c_half c_C)

theorem c_A : Ideal.ofBits .f32 0x3D372713#32 = ((gA : ℝ) : EReal) := by unfold gA; simp [Ideal.ofBits, Ideal.ieee, -EReal.coe_mul]; norm_num
theorem c_3 : Ideal.ofBits .f32 0x40400000#32 = ((3 : ℝ) : EReal) := by simp [Ideal.ofBits, Ideal.ieee, -EReal.coe_mul]; norm_num

variable {V0 : Valuation τ sig (Elt Ideal)} {a : Args}

/-- The reference's arguments hold the reals `a`. -/
abbrev In (a : Args) (V0 : Valuation τ sig (Elt Ideal)) : Prop :=
  Inputs a (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))

theorem v3_apply (h : In a V0) (s : Fin 4098) (q : Fin 5632) : (res_main_v3 V0 : Vec Ideal S1x4098x5632 .f32) (ix3 (0 : Fin 1) s q) = ((xp (a.X q.val) s.val : ℝ) : EReal) := by
  refine Eq.trans ?_ (pad_apply (z := Ideal.ofBits .f32 0x00000000#32) Ideal.ofBits_zero_f32 h.hg h.hv s q)
  pointwise [res_main_v3]
  try rfl

theorem v5_apply (h : In a V0) (t : Fin 4096) (q : Fin 5632) : (res_main_v5 V0 : Vec Ideal S1x4096x5632 .f32) (ix3 (0 : Fin 1) t q) = ((xp (a.X q.val) t.val : ℝ) : EReal) := by
  refine Eq.trans ?_ (v3_apply h ⟨t.val, by omega⟩ q)
  pointwise [res_main_v5]

theorem v14_apply (h : In a V0) (t : Fin 4096) (q : Fin 5632) : (res_main_v14 V0 : Vec Ideal S1x4096x5632 .f32) (ix3 (0 : Fin 1) t q) = ((xp (a.X q.val) (t.val + 1) : ℝ) : EReal) := by
  rw [Nat.add_comm]
  refine Eq.trans ?_ (v3_apply h ⟨1 + t.val, by omega⟩ q)
  pointwise [res_main_v14]

theorem v21_apply (h : In a V0) (t : Fin 4096) (q : Fin 5632) : (res_main_v21 V0 : Vec Ideal S1x4096x5632 .f32) (ix3 (0 : Fin 1) t q) = ((xp (a.X q.val) (t.val + 2) : ℝ) : EReal) := by
  rw [Nat.add_comm]
  refine Eq.trans ?_ (v3_apply h ⟨2 + t.val, by omega⟩ q)
  pointwise [res_main_v21]

theorem v8_apply (h : In a V0) (q : Fin 5632) : (res_main_v8 V0 : Vec Ideal S1x1x5632 .f32) (ix3 (0 : Fin 1) (0 : Fin 1) q) = ((a.W q.val 0 : ℝ) : EReal) := by
  refine Eq.trans ?_ (h.cw 0 q)
  pointwise [res_main_v8]

theorem v17_apply (h : In a V0) (q : Fin 5632) : (res_main_v17 V0 : Vec Ideal S1x1x5632 .f32) (ix3 (0 : Fin 1) (0 : Fin 1) q) = ((a.W q.val 1 : ℝ) : EReal) := by
  refine Eq.trans ?_ (h.cw 1 q)
  pointwise [res_main_v17]

theorem v24_apply (h : In a V0) (q : Fin 5632) : (res_main_v24 V0 : Vec Ideal S1x1x5632 .f32) (ix3 (0 : Fin 1) (0 : Fin 1) q) = ((a.W q.val 2 : ℝ) : EReal) := by
  refine Eq.trans ?_ (h.cw 2 q)
  pointwise [res_main_v24]

theorem v27_apply (h : In a V0) (t : Fin 4096) (q : Fin 5632) : (res_main_v27 V0 : Vec Ideal S1x4096x5632 .f32) (ix3 (0 : Fin 1) t q) = ((a.u q.val t.val : ℝ) : EReal) := by
  have e0 := v5_apply h t q
  have e1 := v14_apply h t q
  have e2 := v21_apply h t q
  have w0 := v8_apply h q
  have w1 := v17_apply h q
  have w2 := v24_apply h q
  have eb := h.cb q
  pointwise [res_main_v27]
  rw [e0, e1, e2, w0, w1, w2]
  refine (congrArg (fun x : EReal => x + _ + _ + _) eb).trans ?_
  unfold Args.u conv
  push_cast
  rfl

theorem v28_apply (h : In a V0) (t : Fin 4096) (f : Fin 2816) : (res_main_v28 V0 : Vec Ideal S1x4096x2816 .f32) (ix3 (0 : Fin 1) t f) = ((a.u f.val t.val : ℝ) : EReal) := by
  refine Eq.trans ?_ (v27_apply h t ⟨f.val, by omega⟩)
  pointwise [res_main_v28]

theorem v29_apply (h : In a V0) (t : Fin 4096) (f : Fin 2816) : (res_main_v29 V0 : Vec Ideal S1x4096x2816 .f32) (ix3 (0 : Fin 1) t f) = ((a.u (2816 + f.val) t.val : ℝ) : EReal) := by
  refine Eq.trans ?_ (v27_apply h t ⟨2816 + f.val, by omega⟩)
  pointwise [res_main_v29]

theorem v40_apply (h : In a V0) (t : Fin 4096) (f : Fin 2816) : (res_main_v40 V0 : Vec Ideal S1x4096x2816 .f32) (ix3 (0 : Fin 1) t f) = ((th (a.u f.val t.val) : ℝ) : EReal) := by
  have e := v28_apply h t f
  pointwise [res_main_v40]
  rw [e, c_C, c_A, ← EReal.coe_mul, ← EReal.coe_mul, ← EReal.coe_mul, ← EReal.coe_add, ← EReal.coe_mul, Ideal.tanh_coe]
  rfl

theorem v49_apply (h : In a V0) (t : Fin 4096) (f : Fin 2816) : (res_main_v49 V0 : Vec Ideal S1x4096x2816 .f32) (ix3 (0 : Fin 1) t f) = ((1 / 2 * (1 + th (a.u f.val t.val)) : ℝ) : EReal) := by
  have e := v40_apply h t f
  pointwise [res_main_v49]
  rw [e, c_half]
  push_cast
  rfl

theorem v54_apply (h : In a V0) (t : Fin 4096) (f : Fin 2816) : (res_main_v54 V0 : Vec Ideal S1x4096x2816 .f32) (ix3 (0 : Fin 1) t f) = ((a.da f.val t.val : ℝ) : EReal) := by
  unfold Args.da
  rw [Mlp.coe_sum]
  pointwise [res_main_v54]
  refine (Finset.sum_congr rfl fun d _ => ?_ : (∑ d : Fin 1024, (_ : EReal)) = _)
  rw [EReal.coe_mul]
  exact congrArg₂ (fun x y : EReal => x * y) (h.dx2 t d) (h.wd f d)

theorem v56_apply (h : In a V0) (t : Fin 4096) (f : Fin 2816) : (res_main_v56 V0 : Vec Ideal S1x4096x2816 .f32) (ix3 (0 : Fin 1) t f) = ((a.da f.val t.val * a.u (2816 + f.val) t.val : ℝ) : EReal) := by
  have e0 := v54_apply h t f
  have e1 := v29_apply h t f
  pointwise [res_main_v56]
  rw [e0, e1, EReal.coe_mul]

theorem v63_apply (h : In a V0) (t : Fin 4096) (f : Fin 2816) : (res_main_v63 V0 : Vec Ideal S1x4096x2816 .f32) (ix3 (0 : Fin 1) t f)
    = ((gC * (1 / 2 * (a.u f.val t.val * (a.da f.val t.val * a.u (2816 + f.val) t.val)) * ((1 + th (a.u f.val t.val)) * (1 - th (a.u f.val t.val)))) : ℝ) : EReal) := by
  have e0 := v28_apply h t f
  have e1 := v56_apply h t f
  have e2 := v40_apply h t f
  pointwise [res_main_v63]
  rw [e0, e1, e2, c_half, c_C]
  push_cast
  rfl

theorem v50_apply (h : In a V0) (t : Fin 4096) (f : Fin 2816) : (res_main_v50 V0 : Vec Ideal S1x4096x2816 .f32) (ix3 (0 : Fin 1) t f) = ((gelu (a.u f.val t.val) : ℝ) : EReal) := by
  have e0 := v28_apply h t f
  have e1 := v49_apply h t f
  pointwise [res_main_v50]
  rw [e0, e1, ← EReal.coe_mul, ← gelu_eq]
  congr 1
  ring

theorem v69_apply (h : In a V0) (t : Fin 4096) (q : Fin 5632) : (res_main_v69 V0 : Vec Ideal S1x4096x5632 .f32) (ix3 (0 : Fin 1) t q) = ((a.D q.val t.val : ℝ) : EReal) := by
  by_cases hq : q.val < 2816
  · have e0 := v28_apply h t ⟨q.val, hq⟩
    have e1 := v56_apply h t ⟨q.val, hq⟩
    have e2 := v49_apply h t ⟨q.val, hq⟩
    have e3 := v63_apply h t ⟨q.val, hq⟩
    pointwise [res_main_v69]
    rw [dif_pos hq, e0, e1, e2, e3, c_A, c_3, a.D_g _ _ hq, ← dgelu_chain]
    push_cast
    rfl
  · have e0 := v50_apply h t ⟨q.val - 2816, by omega⟩
    have e1 := v54_apply h t ⟨q.val - 2816, by omega⟩
    pointwise [res_main_v69]
    rw [dif_neg hq, e0, e1, ← EReal.coe_mul]
    congr 1
    unfold Args.D
    rw [if_neg hq]
    ring

/-! ## The padded sums -/

theorem pad_two (x : FVec Ideal S1x4096x5632 .f32) (t : Fin 4096) (q : Fin 5632) :
    (pad S1x4098x5632 ![0, 2, 0] ![0, 0, 0] ![0, 0, 0] x (constant S_ .f32 0x00000000#32 : FVec Ideal S_ .f32) pads_S1x4096x5632_S1x4098x5632_000_200_000 h_S_ : FVec Ideal S1x4098x5632 .f32) (ix3 (0 : Fin 1) (⟨2 + t.val, by omega⟩ : Fin 4098) q)
      = x (ix3 (0 : Fin 1) t q) := by
  pointwise

theorem pad_one (x : FVec Ideal S1x4096x5632 .f32) (t : Fin 4096) (q : Fin 5632) :
    (pad S1x4098x5632 ![0, 1, 0] ![0, 1, 0] ![0, 0, 0] x (constant S_ .f32 0x00000000#32 : FVec Ideal S_ .f32) pads_S1x4096x5632_S1x4098x5632_000_110_000 h_S_ : FVec Ideal S1x4098x5632 .f32) (ix3 (0 : Fin 1) (⟨2 + t.val, by omega⟩ : Fin 4098) q)
      = if h : t.val + 1 < 4096 then x (ix3 (0 : Fin 1) (⟨t.val + 1, h⟩ : Fin 4096) q) else 0 := by
  pointwise
  by_cases h : t.val + 1 < 4096
  · rw [dif_pos h, dif_pos (by omega)]
    congr 2; apply Fin.ext; simp only; omega
  · rw [dif_neg h, dif_neg (by omega)]

theorem pad_zero (x : FVec Ideal S1x4096x5632 .f32) (t : Fin 4096) (q : Fin 5632) :
    (pad S1x4098x5632 ![0, 0, 0] ![0, 2, 0] ![0, 0, 0] x (constant S_ .f32 0x00000000#32 : FVec Ideal S_ .f32) pads_S1x4096x5632_S1x4098x5632_000_020_000 h_S_ : FVec Ideal S1x4098x5632 .f32) (ix3 (0 : Fin 1) (⟨2 + t.val, by omega⟩ : Fin 4098) q)
      = if h : t.val + 2 < 4096 then x (ix3 (0 : Fin 1) (⟨t.val + 2, h⟩ : Fin 4096) q) else 0 := by
  pointwise
  by_cases h : t.val + 2 < 4096
  · rw [dif_pos h, dif_pos (by omega)]
    congr 2; apply Fin.ext; simp only; omega
  · rw [dif_neg h, dif_neg (by omega)]

theorem v103_apply (h : In a V0) (t : Fin 4096) (q : Fin 5632) : (res_main_v103 V0 : Vec Ideal S1x4098x5632 .f32) (ix3 (0 : Fin 1) (⟨2 + t.val, by omega⟩ : Fin 4098) q) = ((Mlp.dx (a.D q.val) (a.W q.val) t.val : ℝ) : EReal) := by
  have w0 := v8_apply h q
  have w1 := v17_apply h q
  have w2 := v24_apply h q
  have e := v69_apply h
  have p2 : ∀ s : Fin 4096, (mulf (res_main_v69 V0) (broadcastInDim S1x4096x5632 ![0, 1, 2] bcast_S1x1x5632_S1x4096x5632_0_1_2 (res_main_v24 V0)) : Vec Ideal S1x4096x5632 .f32) (ix3 (0 : Fin 1) s q) = ((a.D q.val s.val * a.W q.val 2 : ℝ) : EReal) := fun s => by
    have e := e s q
    pointwise
    rw [e, w2, EReal.coe_mul]
  have p1 : ∀ s : Fin 4096, (mulf (res_main_v69 V0) (broadcastInDim S1x4096x5632 ![0, 1, 2] bcast_S1x1x5632_S1x4096x5632_0_1_2 (res_main_v17 V0)) : Vec Ideal S1x4096x5632 .f32) (ix3 (0 : Fin 1) s q) = ((a.D q.val s.val * a.W q.val 1 : ℝ) : EReal) := fun s => by
    have e := e s q
    pointwise
    rw [e, w1, EReal.coe_mul]
  have p0 : ∀ s : Fin 4096, (mulf (res_main_v69 V0) (broadcastInDim S1x4096x5632 ![0, 1, 2] bcast_S1x1x5632_S1x4096x5632_0_1_2 (res_main_v8 V0)) : Vec Ideal S1x4096x5632 .f32) (ix3 (0 : Fin 1) s q) = ((a.D q.val s.val * a.W q.val 0 : ℝ) : EReal) := fun s => by
    have e := e s q
    pointwise
    rw [e, w0, EReal.coe_mul]
  have k2 := (pad_two _ t q).trans (p2 t)
  have k1 : _ = ((Mlp.ext (a.D q.val) (t.val + 1) * a.W q.val 1 : ℝ) : EReal) := (pad_one _ t q).trans (by
    unfold Mlp.ext; split_ifs with hs
    · exact p1 ⟨t.val + 1, hs⟩
    · simp)
  have k0 : _ = ((Mlp.ext (a.D q.val) (t.val + 2) * a.W q.val 0 : ℝ) : EReal) := (pad_zero _ t q).trans (by
    unfold Mlp.ext; split_ifs with hs
    · exact p0 ⟨t.val + 2, hs⟩
    · simp)
  unfold res_main_v103
  refine (congrArg₂ (fun x y : EReal => x + y) (congrArg₂ (fun x y : EReal => x + y) k2 k1) k0).trans ?_
  rw [← EReal.coe_add, ← EReal.coe_add]
  congr 1
  unfold Mlp.dx Mlp.ext
  rw [if_pos t.isLt]
  ring

theorem v110_apply (h : In a V0) (t : Fin 4096) (q : Fin 5632) : (res_main_v110 V0 : Vec Ideal S4096x5632 .bf16) (ix2 t q) = ((Mlp.dx (a.D q.val) (a.W q.val) t.val : ℝ) : EReal) := by
  refine Eq.trans ?_ (v103_apply h t q)
  pointwise [res_main_v110]

theorem lone_sum (v : FVec Ideal S1x1x5632 .f32) (q : Fin 5632) : Ideal.hostReduceAdd reducesTo_S1x1x5632_S5632_d0_1 v 0 (ix1 q) = v (ix3 (0 : Fin 1) (0 : Fin 1) q) := by
  unfold Ideal.hostReduceAdd
  rw [zero_add]
  refine (Finset.sum_congr (?_ : _ = {(ix3 (0 : Fin 1) (0 : Fin 1) q : S1x1x5632.Idx)}) fun _ _ => rfl).trans (Finset.sum_singleton _ _)
  ext i
  rw [Finset.mem_filter, Finset.mem_singleton]
  constructor
  · rintro ⟨_, e⟩
    funext b; apply Fin.ext
    match b with
    | ⟨0, _⟩ => have := (i 0).isLt; change (i 0).val < 1 at this; show (i 0).val = 0; omega
    | ⟨1, _⟩ => have := (i 1).isLt; change (i 1).val < 1 at this; show (i 1).val = 0; omega
    | ⟨2, _⟩ => exact congrArg Fin.val (congrFun e (0 : Fin 1))
  · rintro rfl
    refine ⟨Finset.mem_univ _, ?_⟩
    funext b; apply Fin.ext
    match b with
    | ⟨0, _⟩ => rfl

theorem token_sum (x : FVec Ideal S1x4096x5632 .f32) (q : Fin 5632) {f : Fin 4096 → ℝ} (hf : ∀ t, x (ix3 (0 : Fin 1) t q) = ((f t : ℝ) : EReal)) :
    Ideal.hostReduceAdd reducesTo_S1x1x5632_S5632_d0_1 (shapeCast S1x1x5632 (Host.reduceAdd (F := Ideal) x (constant S_ .f32 0x00000000#32) reducesTo_S1x4096x5632_S1x5632_d1 h_S_ : FVec Ideal S1x5632 .f32) shapeCasts_S1x5632_S1x1x5632) 0 (ix1 q)
      = ((∑ t, f t : ℝ) : EReal) := by
  rw [lone_sum, Mlp.coe_sum, ← Finset.sum_congr rfl fun t _ => hf t]
  pointwise
  try simp

theorem v108_apply (h : In a V0) (k : Fin 8) (q : Fin 5632) : (res_main_v108 V0 : Vec Ideal S8x5632 .f32) (ix2 k q) = ((Mlp.sums (a.D q.val) (a.X q.val) 0 k.val : ℝ) : EReal) := by
  have e := fun t => v69_apply h t q
  have e0 := token_sum (mulf (F := Ideal) (φ := .f32) (res_main_v5 V0) (res_main_v69 V0)) q (f := fun t => xp (a.X q.val) (t.val + 0) * a.D q.val t.val) fun t => (congrArg₂ (fun x y : EReal => x * y) (v5_apply h t q) (e t)).trans (EReal.coe_mul _ _).symm
  have e1 := token_sum (mulf (F := Ideal) (φ := .f32) (res_main_v14 V0) (res_main_v69 V0)) q (f := fun t => xp (a.X q.val) (t.val + 1) * a.D q.val t.val) fun t => (congrArg₂ (fun x y : EReal => x * y) (v14_apply h t q) (e t)).trans (EReal.coe_mul _ _).symm
  have e2 := token_sum (mulf (F := Ideal) (φ := .f32) (res_main_v21 V0) (res_main_v69 V0)) q (f := fun t => xp (a.X q.val) (t.val + 2) * a.D q.val t.val) fun t => (congrArg₂ (fun x y : EReal => x * y) (v21_apply h t q) (e t)).trans (EReal.coe_mul _ _).symm
  have e3 := token_sum (res_main_v69 V0) q (f := fun t => a.D q.val t.val) e
  rw [sums_eq _ _ 0 (by decide)] at e0
  rw [sums_eq _ _ 1 (by decide)] at e1
  rw [sums_eq _ _ 2 (by decide)] at e2
  rw [bias_eq _ (a.X q.val)] at e3
  pointwise [res_main_v108]
  rw [e0, e1, e2, e3]
  match k with
  | ⟨0, _⟩ => simp
  | ⟨1, _⟩ => simp
  | ⟨2, _⟩ => simp
  | ⟨3, _⟩ => simp
  | ⟨k + 4, hk⟩ =>
    rw [dif_neg (by simp only; omega), dif_neg (by simp only; omega)]
    unfold Mlp.sums
    rw [if_neg (by simp only; omega), if_neg (by simp only; omega), if_neg (by simp only; omega), if_neg (by simp only; omega)]
    rfl

end Cert.Reference2Ideal.Read
end
-- ==== Proof.MlpClaim.lean ====
module

public import proofs.«01_k».proof.Defs
public import proofs.«01_k».proof.Proof.MlpRead
public import proofs.«01_k».proof.Proof.PoolClaim
public import Idealize.ShloMosaic.Lib.Quiescent

/-! The gated MLP's gradient: on finite arguments the kernel and the reference have equal results. -/

@[expose] public section
set_option maxRecDepth 16384
noncomputable section
open Idealize.ShloMosaic Idealize.ShloMosaic.TcCoe Idealize.SL.Sem

namespace Cert.Mlp

instance preFacts : Cert.Pre_finite2.Facts where
  bcast_S_S4096x1024 := by decide +kernel
  bcast_S_S2816x1024 := by decide +kernel
  bcast_S_S4096x2816 := by decide +kernel
  bcast_S_S3x5632 := by decide +kernel
  bcast_S_S5632 := by decide +kernel

section
variable {a0 : FVec Ideal Cert.Pre_finite2.S4096x1024 .f32} {a1 : FVec Ideal Cert.Pre_finite2.S2816x1024 .f32}
  {a2 a3 : FVec Ideal Cert.Pre_finite2.S4096x2816 .f32} {a4 : FVec Ideal Cert.Pre_finite2.S3x5632 .f32} {a5 : FVec Ideal Cert.Pre_finite2.S5632 .f32}

/-- The real numbers the arguments hold, where they are finite. -/
def reals (a0 : FVec Ideal Cert.Pre_finite2.S4096x1024 .f32) (a1 : FVec Ideal Cert.Pre_finite2.S2816x1024 .f32)
    (a2 a3 : FVec Ideal Cert.Pre_finite2.S4096x2816 .f32) (a4 : FVec Ideal Cert.Pre_finite2.S3x5632 .f32) (a5 : FVec Ideal Cert.Pre_finite2.S5632 .f32) : Args where
  A t d := if h : t < 4096 then (a0 (ix2 (⟨t, h⟩ : Fin 4096) d) : EReal).toReal else 0
  Z f d := if h : f < 2816 then (a1 (ix2 (⟨f, h⟩ : Fin 2816) d) : EReal).toReal else 0
  X q t := if h : t < 4096 then
      if hq : q < 2816 then (a2 (ix2 (⟨t, h⟩ : Fin 4096) (⟨q, hq⟩ : Fin 2816)) : EReal).toReal
      else if hq' : q - 2816 < 2816 then (a3 (ix2 (⟨t, h⟩ : Fin 4096) (⟨q - 2816, hq'⟩ : Fin 2816)) : EReal).toReal else 0
    else 0
  W q k := if h : k < 3 then if hq : q < 5632 then (a4 (ix2 (⟨k, h⟩ : Fin 3) (⟨q, hq⟩ : Fin 5632)) : EReal).toReal else 0 else 0
  B q := if hq : q < 5632 then (a5 (ix1 (⟨q, hq⟩ : Fin 5632)) : EReal).toReal else 0

theorem inputs
    (h0 : (Cert.Pre_finite2.fn (F := Ideal) a0 a1 a2 a3 a4 a5).1 = fun _ => 1#1)
    (h1 : (Cert.Pre_finite2.fn (F := Ideal) a0 a1 a2 a3 a4 a5).2.1 = fun _ => 1#1)
    (h2 : (Cert.Pre_finite2.fn (F := Ideal) a0 a1 a2 a3 a4 a5).2.2.1 = fun _ => 1#1)
    (h3 : (Cert.Pre_finite2.fn (F := Ideal) a0 a1 a2 a3 a4 a5).2.2.2.1 = fun _ => 1#1)
    (h4 : (Cert.Pre_finite2.fn (F := Ideal) a0 a1 a2 a3 a4 a5).2.2.2.2.1 = fun _ => 1#1)
    (h5 : (Cert.Pre_finite2.fn (F := Ideal) a0 a1 a2 a3 a4 a5).2.2.2.2.2 = fun _ => 1#1) :
    Inputs (reals a0 a1 a2 a3 a4 a5) a0 a1 a2 a3 a4 a5 where
  dx2 t d := by
    have h := congrFun h0 (ix2 t d)
    refine (Cert.Pool.real_of_bits _ (Eq.trans (by pointwise [Cert.Pre_finite2.fn, Cert.Pre_finite2.fn_part1]) h)).trans ?_
    unfold reals; simp only; rw [dif_pos t.isLt]
  wd f d := by
    have h := congrFun h1 (ix2 f d)
    refine (Cert.Pool.real_of_bits _ (Eq.trans (by pointwise [Cert.Pre_finite2.fn, Cert.Pre_finite2.fn_part1]) h)).trans ?_
    unfold reals; simp only; rw [dif_pos f.isLt]
  hg t f := by
    have h := congrFun h2 (ix2 t f)
    refine (Cert.Pool.real_of_bits _ (Eq.trans (by pointwise [Cert.Pre_finite2.fn, Cert.Pre_finite2.fn_part1]) h)).trans ?_
    unfold reals; simp only; rw [dif_pos t.isLt, dif_pos f.isLt]
  hv t f := by
    have h := congrFun h3 (ix2 t f)
    refine (Cert.Pool.real_of_bits _ (Eq.trans (by pointwise [Cert.Pre_finite2.fn, Cert.Pre_finite2.fn_part1]) h)).trans ?_
    have e : 2816 + f.val - 2816 = f.val := by omega
    unfold reals; simp only [e]; rw [dif_pos t.isLt, dif_neg (by omega), dif_pos f.isLt]
  cw k q := by
    have h := congrFun h4 (ix2 k q)
    refine (Cert.Pool.real_of_bits _ (Eq.trans (by pointwise [Cert.Pre_finite2.fn, Cert.Pre_finite2.fn_part1]) h)).trans ?_
    unfold reals; simp only; rw [dif_pos k.isLt, dif_pos q.isLt]
  cb q := by
    have h := congrFun h5 (ix1 q)
    refine (Cert.Pool.real_of_bits _ (Eq.trans (by pointwise [Cert.Pre_finite2.fn, Cert.Pre_finite2.fn_part1]) h)).trans ?_
    unfold reals; simp only; rw [dif_pos q.isLt]
end

end Cert.Mlp

namespace Cert.Reference2Ideal.Read
open Cert.Reference2Ideal Cert.Reference2Ideal.Gen Cert.Mlp Cert.Reference2Ideal.Value

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2.2.2.2, sem_eq_zero_of_no_sems (by decide) r.2⟩) (run m ρ)

section
variable {V0 : Valuation τ sig (Elt Ideal)} {a : Args}

theorem v111_apply (h : In a V0) (t : Fin 4096) (f : Fin 2816) :
    (extractStridedSlice S4096x2816 ![0, 0] (res_main_v110 V0) slices_S4096x5632_S4096x2816_0_0 : Vec Ideal S4096x2816 .bf16) (ix2 t f) = ((Mlp.dx (a.D f.val) (a.W f.val) t.val : ℝ) : EReal) := by
  refine Eq.trans ?_ (v110_apply h t ⟨f.val, by omega⟩)
  pointwise

theorem v112_apply (h : In a V0) (t : Fin 4096) (f : Fin 2816) :
    (extractStridedSlice S4096x2816 ![0, 2816] (res_main_v110 V0) slices_S4096x5632_S4096x2816_0_2816 : Vec Ideal S4096x2816 .bf16) (ix2 t f) = ((Mlp.dx (a.D (2816 + f.val)) (a.W (2816 + f.val)) t.val : ℝ) : EReal) := by
  refine Eq.trans ?_ (v110_apply h t ⟨2816 + f.val, by omega⟩)
  pointwise

theorem v113_apply (h : In a V0) (k : Fin 8) (f : Fin 2816) :
    (extractStridedSlice S8x2816 ![0, 0] (res_main_v108 V0) slices_S8x5632_S8x2816_0_0 : Vec Ideal S8x2816 .f32) (ix2 k f) = ((Mlp.sums (a.D f.val) (a.X f.val) 0 k.val : ℝ) : EReal) := by
  refine Eq.trans ?_ (v108_apply h k ⟨f.val, by omega⟩)
  pointwise

theorem v114_apply (h : In a V0) (k : Fin 8) (f : Fin 2816) :
    (extractStridedSlice S8x2816 ![0, 2816] (res_main_v108 V0) slices_S8x5632_S8x2816_0_2816 : Vec Ideal S8x2816 .f32) (ix2 k f) = ((Mlp.sums (a.D (2816 + f.val)) (a.X (2816 + f.val)) 0 k.val : ℝ) : EReal) := by
  refine Eq.trans ?_ (v108_apply h k ⟨2816 + f.val, by omega⟩)
  pointwise
end

end Cert.Reference2Ideal.Read

namespace Cert.Mlp

/-- The two constants of the call that the pass names hold the real numbers of the claim. -/
theorem preserves : Cert.preserves_Kernel2_Kernel2Ideal :=
  ⟨IdealRules.named_const.statement Cert.Kernel2Ideal.κ "gelu_ca" .f32 0x3D122279#32 ((80338380498831 / 2251799813685248 : ℝ) : EReal) rfl,
    IdealRules.named_const.statement Cert.Kernel2Ideal.κ "gelu_3ca" .f32 0x3DDB33B6#32 ((241015141496493 / 2251799813685248 : ℝ) : EReal) rfl⟩

theorem algebraic : Cert.algebraic_Kernel2Ideal_Reference2Ideal_pre_finite2 := by
  intro m g m' g' hpre hag
  refine ⟨fun c => (Cert.Kernel2Ideal.Gen.dats m 0 c).arrAt 8 Cert.Kernel2Ideal.cfg0.N,
    fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N, Cert.Kernel2Ideal.Value.run_blocks m g, ?_⟩
  refine (θ_run Cert.Reference2Ideal.defs _ _).mono (fun r h c => ?_) (Cert.Reference2Ideal.Value.run m' g')
  obtain ⟨h8, h9, h10, h11, ha⟩ := h c
  obtain ⟨a, hk⟩ : ∃ a, Cert.Kernel2Ideal.Body.In m a c :=
    ⟨_, inputs (hpre c).1 (hpre c).2.1 (hpre c).2.2.1 (hpre c).2.2.2.1 (hpre c).2.2.2.2.1 (hpre c).2.2.2.2.2⟩
  have hr : Cert.Reference2Ideal.Read.In a (StableHlo.launchContents m' c) := by
    obtain ⟨e0, e1, e2, e3, e4, e5⟩ := hag c
    change Inputs a (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))
    rw [e0, e1, e2, e3, e4, e5]
    exact hk
  refine ⟨h8.trans (funext fun i => ?_), h9.trans (funext fun i => ?_), h10.trans (funext fun i => ?_), h11.trans (funext fun i => ?_), ha⟩
  · rw [eq_ix2 i]; exact (Cert.Reference2Ideal.Read.v111_apply hr _ _).trans (Cert.Kernel2Ideal.Body.final8 m hk _ _).symm
  · rw [eq_ix2 i]; exact (Cert.Reference2Ideal.Read.v112_apply hr _ _).trans (Cert.Kernel2Ideal.Body.final9 m hk _ _).symm
  · rw [eq_ix2 i]; exact (Cert.Reference2Ideal.Read.v113_apply hr _ _).trans (Cert.Kernel2Ideal.Body.final10 m hk _ _).symm
  · rw [eq_ix2 i]; exact (Cert.Reference2Ideal.Read.v114_apply hr _ _).trans (Cert.Kernel2Ideal.Body.final11 m hk _ _).symm

end Cert.Mlp
end
-- ==== Proof.MmNormMath.lean ====
module

public import Idealize.ShloMosaic.PureOps.Ideal
public import Idealize.ShloMosaic.PureOps.Ideal.Laws

/-! The gradient through a root-mean-square norm of rows of 1024, on the extended reals. The kernel multiplies by the cube of the
reciprocal root; a derivative by rule halves, divides and adds twice. The two are one number, whatever the numbers are: an infinite
entry makes the reciprocal root zero, and a sum that is infinite is only ever multiplied. -/

@[expose] public section
noncomputable section

namespace Cert.Norm

open Idealize.ShloMosaic

theorem w_half : Ideal.ofBits FTy.f32 3204448256#32 = ((-(1 / 2) : ℝ) : EReal) := by
  simp [Ideal.ofBits, Ideal.ieee, -EReal.coe_mul]; norm_num

theorem w_1024 : Ideal.ofBits FTy.f32 1149239296#32 = ((1024 : ℝ) : EReal) := by
  simp [Ideal.ofBits, Ideal.ieee, -EReal.coe_mul]; norm_num

theorem w_eps : ∃ e : ℝ, 0 < e ∧ Ideal.ofBits FTy.f32 897988541#32 = (e : EReal) := by
  refine ⟨(Ideal.ofBits .f32 897988541#32).toReal, ?_, ?_⟩ <;>
  · simp [Ideal.ofBits, Ideal.ieee, -EReal.coe_mul]; try norm_num

/-- Dividing by the row's length. -/
theorem div_1024 (x : EReal) : Ideal.div x (Ideal.ofBits FTy.f32 1149239296#32) = x * ((1024 : ℝ)⁻¹ : ℝ) := by
  rw [w_1024]; unfold Ideal.div; rw [if_neg (by norm_num), EReal.coe_inv]

/-- The mean square and the small number beside it: positive, or infinite. -/
theorem pos_or_top (s : EReal) (hs : 0 ≤ s) :
    (∃ p : ℝ, 0 < p ∧ Ideal.div s (Ideal.ofBits FTy.f32 1149239296#32) + Ideal.ofBits FTy.f32 897988541#32 = (p : EReal)) ∨
      Ideal.div s (Ideal.ofBits FTy.f32 1149239296#32) + Ideal.ofBits FTy.f32 897988541#32 = ⊤ := by
  obtain ⟨e, he, h⟩ := w_eps
  rw [div_1024, h]
  induction s using EReal.rec with
  | bot => exact absurd hs (by simp)
  | coe r =>
    have hr : 0 ≤ r := by exact_mod_cast hs
    exact .inl ⟨r * (1024 : ℝ)⁻¹ + e, by positivity, by push_cast; rfl⟩
  | top => exact .inr (by rw [EReal.top_mul_coe_of_pos (by norm_num)]; rfl)

/-- The reciprocal root over its own argument is its cube. -/
theorem cube (a : EReal) (h : (∃ p : ℝ, 0 < p ∧ a = (p : EReal)) ∨ a = ⊤) :
    Ideal.div (Ideal.rsqrt a) a = (Ideal.rsqrt a * Ideal.rsqrt a) * Ideal.rsqrt a := by
  rcases h with ⟨p, hp, rfl⟩ | rfl
  · have e : Ideal.rsqrt (p : EReal) = (((Real.sqrt p)⁻¹ : ℝ) : EReal) := by
      show (if p < 0 then (⊥ : EReal) else if p = 0 then ⊤ else (((Real.sqrt p)⁻¹ : ℝ) : EReal)) = _
      rw [if_neg hp.le.not_gt, if_neg hp.ne']
    rw [e]; unfold Ideal.div
    rw [if_neg (by exact_mod_cast hp.ne'), ← EReal.coe_inv, ← EReal.coe_mul, ← EReal.coe_mul, ← EReal.coe_mul]
    congr 1
    rw [← mul_inv (Real.sqrt p) (Real.sqrt p), Real.mul_self_sqrt hp.le, mul_comm]
  · have e : Ideal.rsqrt ⊤ = 0 := rfl
    rw [e]; unfold Ideal.div; simp

/-- Half of a number taken away twice is the number taken away. -/
theorem halves (b : EReal) : b * ((-(1 / 2) : ℝ) : EReal) + b * ((-(1 / 2) : ℝ) : EReal) = -b := by
  induction b using EReal.rec with
  | bot => rw [EReal.bot_mul_coe_of_neg (by norm_num)]; rfl
  | coe r => rw [← EReal.coe_mul, ← EReal.coe_add, ← EReal.coe_neg]; congr 1; ring
  | top => rw [EReal.top_mul_coe_of_neg (by norm_num)]; rfl

theorem sq_nonneg (x : EReal) : 0 ≤ x * x := by
  induction x using EReal.rec with
  | bot => simp
  | coe r => rw [← EReal.coe_mul]; exact_mod_cast mul_self_nonneg r
  | top => simp

/-- What stands under the root for a row. -/
def under (x : Fin 1024 → EReal) : EReal :=
  Ideal.div (∑ j, x j * x j) (Ideal.ofBits FTy.f32 1149239296#32) + Ideal.ofBits FTy.f32 897988541#32

theorem cube_row (x : Fin 1024 → EReal) :
    Ideal.div (Ideal.rsqrt (under x)) (under x) = (Ideal.rsqrt (under x) * Ideal.rsqrt (under x)) * Ideal.rsqrt (under x) :=
  cube (under x) (pos_or_top _ (Finset.sum_nonneg fun j _ => sq_nonneg (x j)))

/-- An entry of the gradient to the norm's input: the residual's gradient `u`, the gradient `d` to its output, the input `x`, the gain `g`. -/
def toInput (u d x g : Fin 1024 → EReal) (q : Fin 1024) : EReal :=
  (u q + Ideal.rsqrt (under x) * (d q * g q))
    - (x q * ((Ideal.rsqrt (under x) * Ideal.rsqrt (under x)) * Ideal.rsqrt (under x)))
      * Ideal.div (∑ y, (d y * g y) * x y) (Ideal.ofBits FTy.f32 1149239296#32)

/-- One row's part of the gradient to the gain. -/
def toGain (d x : Fin 1024 → EReal) (q : Fin 1024) : EReal := (d q * x q) * Ideal.rsqrt (under x)

/-- The derivative by rule: twice half the mean's part. -/
def byRule (u d x g : Fin 1024 → EReal) (q : Fin 1024) : EReal :=
  ((u q + (d q * g q) * Ideal.rsqrt (under x))
      + x q * Ideal.div ((∑ y, x y * (d y * g y)) * (Ideal.ofBits FTy.f32 3204448256#32 * Ideal.div (Ideal.rsqrt (under x)) (under x))) (Ideal.ofBits FTy.f32 1149239296#32))
    + Ideal.div ((∑ y, x y * (d y * g y)) * (Ideal.ofBits FTy.f32 3204448256#32 * Ideal.div (Ideal.rsqrt (under x)) (under x))) (Ideal.ofBits FTy.f32 1149239296#32) * x q

theorem byRule_eq (u d x g : Fin 1024 → EReal) (q : Fin 1024) : byRule u d x g q = toInput u d x g q := by
  unfold byRule toInput
  rw [cube_row, Finset.sum_congr rfl fun y _ => mul_comm (x y) (d y * g y)]
  generalize Ideal.rsqrt (under x) = r
  generalize (∑ y, (d y * g y) * x y) = s
  rw [div_1024, div_1024, w_half, add_assoc, sub_eq_add_neg, mul_comm (d q * g q) r,
    ← halves (x q * ((r * r) * r) * (s * ((1024 : ℝ)⁻¹ : ℝ)))]
  congr 2 <;> ac_rfl

/-- A number for each token, by the token's position. -/
def atPos (f : Fin 4096 → EReal) (n : ℕ) : EReal := if h : n < 4096 then f ⟨n, h⟩ else 0

theorem atPos_eq (f : Fin 4096 → EReal) (n : ℕ) (i : Fin 4096) (h : i.val = n) : atPos f n = f i := by
  subst h; exact dif_pos i.isLt

theorem sum_atPos (f : Fin 4096 → EReal) : ∑ n ∈ Finset.range 4096, atPos f n = ∑ i, f i := by
  rw [← Fin.sum_univ_eq_sum_range]
  exact Finset.sum_congr rfl fun i _ => atPos_eq f i.val i rfl

end Cert.Norm
end
-- ==== Proof.MmNormValue.lean ====
module

public import proofs.«01_k».proof.Defs
public import proofs.«01_k».proof.Proof.Gen.Kernel3Ideal.Value
public import proofs.«01_k».proof.Proof.Gen.Reference3Ideal.Run
public import proofs.«01_k».proof.Proof.MmNormMath
public import Idealize.ShloMosaic.Lib.StableHlo.ReadAt
public import Idealize.ShloMosaic.Lib.Pipeline.ValueKit.Tiles
public import Idealize.ShloMosaic.Lib.Tactic
public import Idealize.ShloMosaic.Lib.Pointwise
public import Idealize.ShloMosaic.Lib.Quiescent
public import Idealize.ShloMosaic.PureOps.Ideal.Laws

/-! The gradient to the input of the norm before the gated MLP, through the value half of w_up, with the gradient that comes past the MLP, and
the gradient to the norm's gain, kept from one block of tokens to the next. -/

@[expose] public section
set_option maxRecDepth 16384
noncomputable section

namespace Cert.Kernel3Ideal.Body
open Cert.Kernel3Ideal Cert.Kernel3Ideal.Gen Idealize.ShloMosaic Idealize.ShloMosaic.TcCoe Idealize.SL.Sem
open Cert.Kernel3Ideal.Value
open Cert.Norm
variable (m : (ℓ : Loc nD τ sig) → Buf (Elt Ideal) ℓ)

theorem hz : (![0, 0] : Fin 2 → Nat) = fun _ => 0 := funext fun a => by fin_cases a <;> rfl

/-- A load of a whole rank-two buffer reads its contents. -/
theorem ldz {d : Fin 2 → Nat} {e : EltTy} (inb : ∀ a, (![0, 0] : Fin 2 → Nat) a + d a ≤ d a)
    (X : Shape.Idx ⟨2, d⟩ → Elt Ideal e) : View.ld X (Rect.unit (s := ⟨2, d⟩) ![0, 0] d inb) = X :=
  View.ld_unit_zero (S := ⟨2, d⟩) hz inb X

/-- A sum over the columns of two slabs. -/
theorem two_slabs (f : Fin 2816 → EReal) : ∑ k, f k = ∑ k : Fin 1408, f ⟨k.val, by omega⟩ + ∑ k : Fin 1408, f ⟨1408 + k.val, by omega⟩ :=
  Fin.sum_univ_add (M := EReal) (a := 1408) (b := 1408) f

/-- The gradient to the norm's output, in a block of tokens. -/
def blockGrad (x0 : Vec Ideal S512x2816 .bf16) (x1 : Vec Ideal S2x1024x1408 .bf16) (x2 : Vec Ideal S512x1024 .f32) : FVec Ideal S512x1024 .f32 :=
  k0_pay4 (View.ld x0 (Rect.unit (s := S512x2816) ![0, 0] S512x1408.size inb_S512x2816_S512x1408_0_0)) (View.ld x1 (Rect.unit (s := S2x1024x1408) ![0, 0, 0] S1x1024x1408.size inb_S2x1024x1408_S1x1024x1408_0_0_0)) (View.ld x0 (Rect.unit (s := S512x2816) ![0, 1408] S512x1408.size inb_S512x2816_S512x1408_0_1408)) (View.ld x1 (Rect.unit (s := S2x1024x1408) ![1, 0, 0] S1x1024x1408.size inb_S2x1024x1408_S1x1024x1408_1_0_0)) x2

/-- The block of the first result. -/
def blockIn (x0 : Vec Ideal S512x2816 .bf16) (x1 : Vec Ideal S2x1024x1408 .bf16) (x2 : Vec Ideal S512x1024 .f32) (x3 : Vec Ideal S512x1024 .f32) (x4 : Vec Ideal S1x1024 .f32) (x5 : Vec Ideal S512x1024 .f32) : FVec Ideal S512x1024 .f32 :=
  k0_pay1 x3 (k0_pay5 x3) (k0_pay7 (View.ld x0 (Rect.unit (s := S512x2816) ![0, 0] S512x1408.size inb_S512x2816_S512x1408_0_0)) (View.ld x1 (Rect.unit (s := S2x1024x1408) ![0, 0, 0] S1x1024x1408.size inb_S2x1024x1408_S1x1024x1408_0_0_0)) (View.ld x0 (Rect.unit (s := S512x2816) ![0, 1408] S512x1408.size inb_S512x2816_S512x1408_0_1408)) (View.ld x1 (Rect.unit (s := S2x1024x1408) ![1, 0, 0] S1x1024x1408.size inb_S2x1024x1408_S1x1024x1408_1_0_0)) x2 x3 x4) x5 (k0_pay8 (View.ld x0 (Rect.unit (s := S512x2816) ![0, 0] S512x1408.size inb_S512x2816_S512x1408_0_0)) (View.ld x1 (Rect.unit (s := S2x1024x1408) ![0, 0, 0] S1x1024x1408.size inb_S2x1024x1408_S1x1024x1408_0_0_0)) (View.ld x0 (Rect.unit (s := S512x2816) ![0, 1408] S512x1408.size inb_S512x2816_S512x1408_0_1408)) (View.ld x1 (Rect.unit (s := S2x1024x1408) ![1, 0, 0] S1x1024x1408.size inb_S2x1024x1408_S1x1024x1408_1_0_0)) x2 x3 x4)

/-- The block's part of the second result. -/
def blockGain (x0 : Vec Ideal S512x2816 .bf16) (x1 : Vec Ideal S2x1024x1408 .bf16) (x2 : Vec Ideal S512x1024 .f32) (x3 : Vec Ideal S512x1024 .f32) : FVec Ideal S1x1024 .f32 := k0_pay2 (blockGrad x0 x1 x2) x3 (k0_pay5 x3)

/-- What a later point makes of the second result. -/
def addGain (x0 : Vec Ideal S512x2816 .bf16) (x1 : Vec Ideal S2x1024x1408 .bf16) (x2 : Vec Ideal S512x1024 .f32) (x3 : Vec Ideal S512x1024 .f32) (xo : Vec Ideal S1x1024 .f32) : FVec Ideal S1x1024 .f32 := k0_pay3 (blockGrad x0 x1 x2) x3 (k0_pay5 x3) xo

section
variable (c : Dev nD) (i : grid0.Coords) (arg3 : Memref sig .tc .vmem S512x2816 .bf16) (harg3 : arg3.IsWhole) (arg4 : Memref sig .tc .vmem S2x1024x1408 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1024 .f32) (harg10 : arg10.IsWhole) (hc0 : cond0_0 i) (hc1 : ¬cond0_1 i) (x0 : Vec Ideal S512x2816 .bf16) (x1 : Vec Ideal S2x1024x1408 .bf16) (x2 : Vec Ideal S512x1024 .f32) (x3 : Vec Ideal S512x1024 .f32) (x4 : Vec Ideal S1x1024 .f32) (x5 : Vec Ideal S512x1024 .f32)

theorem out0_A_6_eq :
    out0_A_6 c i arg3 harg3 arg4 harg4 arg5 harg5 arg6 harg6 arg7 harg7 arg8 harg8 arg9 harg9 arg10 harg10 hc0 hc1 x0 x1 x2 x3 x4 x5 = blockIn x0 x1 x2 x3 x4 x5 := by
  unfold out0_A_6
  rw [View.read_writes_junk_eq_canon]
  unfold kernelRun0_A
  dsimp only
  sl_unfold_words
  rw [View.canon_unit_zero (S := S512x1024) hz]
  simp only [View.readAt_eq_ld, Memref.IsWhole.read_unread, ldz]
  rfl

theorem out0_A_7_eq :
    out0_A_7 c i arg3 harg3 arg4 harg4 arg5 harg5 arg6 harg6 arg7 harg7 arg8 harg8 arg9 harg9 arg10 harg10 hc0 hc1 x0 x1 x2 x3 x4 x5 = blockGain x0 x1 x2 x3 := by
  unfold out0_A_7
  rw [View.read_writes_junk_eq_canon]
  unfold kernelRun0_A
  dsimp only
  sl_unfold_words
  rw [View.canon_unit_zero (S := S1x1024) hz]
  simp only [View.readAt_eq_ld, Memref.IsWhole.read_unread, ldz]
  rfl

end

section
variable (c : Dev nD) (i : grid0.Coords) (arg3 : Memref sig .tc .vmem S512x2816 .bf16) (harg3 : arg3.IsWhole) (arg4 : Memref sig .tc .vmem S2x1024x1408 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1024 .f32) (harg10 : arg10.IsWhole) (hc0 : ¬cond0_0 i) (hc1 : cond0_1 i) (x0 : Vec Ideal S512x2816 .bf16) (x1 : Vec Ideal S2x1024x1408 .bf16) (x2 : Vec Ideal S512x1024 .f32) (x3 : Vec Ideal S512x1024 .f32) (x4 : Vec Ideal S1x1024 .f32) (x5 : Vec Ideal S512x1024 .f32) (xo7 : Vec Ideal S1x1024 .f32)

theorem out0_B_6_eq :
    out0_B_6 c i arg3 harg3 arg4 harg4 arg5 harg5 arg6 harg6 arg7 harg7 arg8 harg8 arg9 harg9 arg10 harg10 hc0 hc1 x0 x1 x2 x3 x4 x5 xo7 = blockIn x0 x1 x2 x3 x4 x5 := by
  unfold out0_B_6
  rw [View.read_writes_junk_eq_canon]
  unfold kernelRun0_B
  dsimp only
  sl_unfold_words
  rw [View.canon_unit_zero (S := S512x1024) hz]
  simp only [View.readAt_eq_ld, Memref.IsWhole.read_unread, ldz]
  rfl

theorem out0_B_7_eq :
    out0_B_7 c i arg3 harg3 arg4 harg4 arg5 harg5 arg6 harg6 arg7 harg7 arg8 harg8 arg9 harg9 arg10 harg10 hc0 hc1 x0 x1 x2 x3 x4 x5 xo7 = addGain x0 x1 x2 x3 xo7 := by
  unfold out0_B_7
  rw [View.read_writes_junk_eq_canon]
  unfold kernelRun0_B
  dsimp only
  sl_unfold_words
  rw [View.canon_unit_zero (S := S1x1024) hz]
  simp only [View.readAt_eq_ld, Memref.IsWhole.read_unread, ldz]
  rfl

end

/-! ## A block, entry by entry -/

theorem blockIn_apply (x0 : Vec Ideal S512x2816 .bf16) (x1 : Vec Ideal S2x1024x1408 .bf16) (x2 : Vec Ideal S512x1024 .f32) (x3 : Vec Ideal S512x1024 .f32) (x4 : Vec Ideal S1x1024 .f32) (x5 : Vec Ideal S512x1024 .f32) (p : Fin 512) (q : Fin 1024) :
    (blockIn x0 x1 x2 x3 x4 x5 (ix2 p q) : EReal)
      = toInput (fun y => (x5 (ix2 p y) : EReal)) (fun y => (blockGrad x0 x1 x2 (ix2 p y) : EReal)) (fun y => (x3 (ix2 p y) : EReal)) (fun y => (x4 (ix2 (0 : Fin 1) y) : EReal)) q := by
  unfold blockGrad
  pointwise [blockIn, k0_pay1, k0_pay5, k0_pay7, k0_pay8, k0_pay6]
  rfl

theorem blockGain_apply (x0 : Vec Ideal S512x2816 .bf16) (x1 : Vec Ideal S2x1024x1408 .bf16) (x2 : Vec Ideal S512x1024 .f32) (x3 : Vec Ideal S512x1024 .f32) (q : Fin 1024) :
    (blockGain x0 x1 x2 x3 (ix2 (0 : Fin 1) q) : EReal) = ∑ p : Fin 512, toGain (fun y => (blockGrad x0 x1 x2 (ix2 p y) : EReal)) (fun y => (x3 (ix2 p y) : EReal)) q := by
  unfold blockGrad
  pointwise [blockGain, k0_pay2, k0_pay5]
  rfl

theorem addGain_apply (x0 : Vec Ideal S512x2816 .bf16) (x1 : Vec Ideal S2x1024x1408 .bf16) (x2 : Vec Ideal S512x1024 .f32) (x3 : Vec Ideal S512x1024 .f32) (xo : Vec Ideal S1x1024 .f32) (q : Fin 1024) :
    (addGain x0 x1 x2 x3 xo (ix2 (0 : Fin 1) q) : EReal) = (xo (ix2 (0 : Fin 1) q) : EReal) + (blockGain x0 x1 x2 x3 (ix2 (0 : Fin 1) q) : EReal) := by
  unfold blockGain
  pointwise [addGain, k0_pay3]

theorem blockGrad_apply (x0 : Vec Ideal S512x2816 .bf16) (x1 : Vec Ideal S2x1024x1408 .bf16) (x2 : Vec Ideal S512x1024 .f32) (p : Fin 512) (q : Fin 1024) :
    (blockGrad x0 x1 x2 (ix2 p q) : EReal)
      = (∑ k : Fin 1408, (x0 (ix2 p (⟨k.val, by omega⟩ : Fin 2816)) : EReal) * (x1 (ix3 (0 : Fin 2) q k) : EReal)
        + ∑ k : Fin 1408, (x0 (ix2 p (⟨1408 + k.val, by omega⟩ : Fin 2816)) : EReal) * (x1 (ix3 (1 : Fin 2) q k) : EReal)) + (x2 (ix2 p q) : EReal) := by
  unfold blockGrad
  refine Eq.trans (b := (∑ k : Fin 1408, ((View.ld x0 (Rect.unit (s := S512x2816) ![0, 0] S512x1408.size inb_S512x2816_S512x1408_0_0)) (ix2 p k) : EReal) * ((View.ld x1 (Rect.unit (s := S2x1024x1408) ![0, 0, 0] S1x1024x1408.size inb_S2x1024x1408_S1x1024x1408_0_0_0)) (ix3 (0 : Fin 1) q k) : EReal)
    + ∑ k : Fin 1408, ((View.ld x0 (Rect.unit (s := S512x2816) ![0, 1408] S512x1408.size inb_S512x2816_S512x1408_0_1408)) (ix2 p k) : EReal) * ((View.ld x1 (Rect.unit (s := S2x1024x1408) ![1, 0, 0] S1x1024x1408.size inb_S2x1024x1408_S1x1024x1408_1_0_0)) (ix3 (0 : Fin 1) q k) : EReal)) + (x2 (ix2 p q) : EReal)) (by pointwise [k0_pay4]) ?_
  refine congrArg (fun x : EReal => x + (x2 (ix2 p q) : EReal)) (congrArg₂ (fun x y : EReal => x + y) (Finset.sum_congr rfl fun k _ => congrArg₂ (fun x y : EReal => x * y) ?_ ?_) (Finset.sum_congr rfl fun k _ => congrArg₂ (fun x y : EReal => x * y) ?_ ?_))
  · refine View.ld_unit_apply_of x0 _ _ _ _ _ fun a => ?_
    match a with
    | ⟨0, _⟩ => show p.val = 0 + p.val; omega
    | ⟨1, _⟩ => show k.val = 0 + k.val; omega
  · refine View.ld_unit_apply_of x1 _ _ _ _ _ fun a => ?_
    match a with
    | ⟨0, _⟩ => rfl
    | ⟨1, _⟩ => show q.val = 0 + q.val; omega
    | ⟨2, _⟩ => show k.val = 0 + k.val; omega
  · refine View.ld_unit_apply_of x0 _ _ _ _ _ fun a => ?_
    match a with
    | ⟨0, _⟩ => show p.val = 0 + p.val; omega
    | ⟨1, _⟩ => rfl
  · refine View.ld_unit_apply_of x1 _ _ _ _ _ fun a => ?_
    match a with
    | ⟨0, _⟩ => rfl
    | ⟨1, _⟩ => show q.val = 0 + q.val; omega
    | ⟨2, _⟩ => show k.val = 0 + k.val; omega

/-! ## The blocks in the arrays -/

theorem idx_0 : ∀ t : Fin cfg0.N, win0_0.index t 0 = t.val ∧ win0_0.index t 1 = 0 := by decide +kernel
theorem idx_1 : ∀ t : Fin cfg0.N, win0_1.index t 0 = 1 ∧ win0_1.index t 1 = 0 ∧ win0_1.index t 2 = 0 := by decide +kernel
theorem idx_2 : ∀ t : Fin cfg0.N, win0_2.index t 0 = t.val ∧ win0_2.index t 1 = 0 := by decide +kernel
theorem idx_3 : ∀ t : Fin cfg0.N, win0_3.index t 0 = t.val ∧ win0_3.index t 1 = 0 := by decide +kernel
theorem idx_4 : ∀ t : Fin cfg0.N, win0_4.index t 0 = 0 ∧ win0_4.index t 1 = 0 := by decide +kernel
theorem idx_5 : ∀ t : Fin cfg0.N, win0_5.index t 0 = t.val ∧ win0_5.index t 1 = 0 := by decide +kernel
theorem idx_6 : ∀ t : Fin cfg0.N, win0_6.index t 0 = t.val ∧ win0_6.index t 1 = 0 := by decide +kernel
theorem idx_7 : ∀ t : Fin cfg0.N, win0_7.index t 0 = 0 ∧ win0_7.index t 1 = 0 := by decide +kernel
theorem t_lt (t : Fin cfg0.N) : t.val < 8 := by have := t.isLt; have hN : cfg0.N = 8 := N_0; omega

/-! Slab `s` of the stack holds the columns from `1408 s`. -/

theorem slab0 (c : Dev nD) (y : Fin 1024) (z : Fin 1408) (col : Fin 5632) (hcol : col.val = 0 + z.val) :
    ((StableHlo.upto hostOps0 (fun b => m (c, b)) 6 (Proc.tc.devRef main_v5) : Vec Ideal S1x1024x1408 .bf16) (ix3 (0 : Fin 1) y z) : EReal) = (m ((c : Thread nD τ).loc main_arg1) : Vec Ideal S1024x5632 .f32) (ix2 y col) := by
  rw [show col = (⟨0 + z.val, by omega⟩ : Fin 5632) from Fin.ext hcol]
  after_reads_at
  try (congr 2; apply Fin.ext; simp only; omega)

theorem slab1 (c : Dev nD) (y : Fin 1024) (z : Fin 1408) (col : Fin 5632) (hcol : col.val = 1408 + z.val) :
    ((StableHlo.upto hostOps0 (fun b => m (c, b)) 7 (Proc.tc.devRef main_v6) : Vec Ideal S1x1024x1408 .bf16) (ix3 (0 : Fin 1) y z) : EReal) = (m ((c : Thread nD τ).loc main_arg1) : Vec Ideal S1024x5632 .f32) (ix2 y col) := by
  rw [show col = (⟨1408 + z.val, by omega⟩ : Fin 5632) from Fin.ext hcol]
  after_reads_at
  try (congr 2; apply Fin.ext; simp only; omega)

theorem slab2 (c : Dev nD) (y : Fin 1024) (z : Fin 1408) (col : Fin 5632) (hcol : col.val = 2816 + z.val) :
    ((StableHlo.upto hostOps0 (fun b => m (c, b)) 8 (Proc.tc.devRef main_v7) : Vec Ideal S1x1024x1408 .bf16) (ix3 (0 : Fin 1) y z) : EReal) = (m ((c : Thread nD τ).loc main_arg1) : Vec Ideal S1024x5632 .f32) (ix2 y col) := by
  rw [show col = (⟨2816 + z.val, by omega⟩ : Fin 5632) from Fin.ext hcol]
  after_reads_at
  try (congr 2; apply Fin.ext; simp only; omega)

theorem slab3 (c : Dev nD) (y : Fin 1024) (z : Fin 1408) (col : Fin 5632) (hcol : col.val = 4224 + z.val) :
    ((StableHlo.upto hostOps0 (fun b => m (c, b)) 9 (Proc.tc.devRef main_v8) : Vec Ideal S1x1024x1408 .bf16) (ix3 (0 : Fin 1) y z) : EReal) = (m ((c : Thread nD τ).loc main_arg1) : Vec Ideal S1024x5632 .f32) (ix2 y col) := by
  rw [show col = (⟨4224 + z.val, by omega⟩ : Fin 5632) from Fin.ext hcol]
  after_reads_at
  try (congr 2; apply Fin.ext; simp only; omega)

theorem host1 (c : Dev nD) (a : FVec Ideal S1024x5632 .f32) (h : m ((c : Thread nD τ).loc main_arg1) = a) (x : Fin 4) (y : Fin 1024) (z : Fin 1408) (col : Fin 5632) (hcol : col.val = 1408 * x.val + z.val) :
    ((V m c main_v9 : Vec Ideal S4x1024x1408 .bf16) (ix3 x y z) : EReal) = a (ix2 y col) := by
  refine Eq.trans ?_ (congrFun h _)
  unfold V
  match x, hcol with
  | ⟨0, _⟩, hcol => after_reads_at; exact slab0 m c y z col (by simpa using hcol)
  | ⟨1, _⟩, hcol => after_reads_at; exact slab1 m c y z col (by simpa using hcol)
  | ⟨2, _⟩, hcol => after_reads_at; exact slab2 m c y z col (by simpa using hcol)
  | ⟨3, _⟩, hcol => after_reads_at; exact slab3 m c y z col (by simpa using hcol)

/-- The gain, as a row. -/
theorem host4 (c : Dev nD) (a : FVec Ideal S1024 .f32) (h : m ((c : Thread nD τ).loc main_arg4) = a) (y : Fin 1024) :
    ((V m c main_v10 : Vec Ideal S1x1024 .f32) (ix2 (0 : Fin 1) y) : EReal) = a (ix1 y) := by
  refine Eq.trans ?_ (congrFun h _)
  unfold V
  after_reads_at

/-- Window 0's block at point `t`, read from the argument. -/
theorem blk0 (c : Dev nD) (a : FVec Ideal S4096x2816 .bf16) (h : m ((c : Thread nD τ).loc main_arg0) = a) (t : Fin cfg0.N) (x : Fin 512) (y : Fin 2816) (x1 : Fin 4096) (hx1 : x1.val = 512 * (t.val) + x.val) :
    ((iblk m c 0 t : Vec Ideal S512x2816 .bf16) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 512 + 1 * x.val = x1.val; rw [(idx_0 t).1]; omega
  | ⟨1, _⟩ => show win0_0.index t 1 * 2816 + 1 * y.val = y.val; rw [(idx_0 t).2]; omega

/-- Window 1's block at point `t`, read from the argument. -/
theorem blk1 (c : Dev nD) (a : FVec Ideal S1024x5632 .f32) (h : m ((c : Thread nD τ).loc main_arg1) = a) (t : Fin cfg0.N) (x : Fin 2) (y : Fin 1024) (z : Fin 1408) (x1 : Fin 4) (col : Fin 5632) (hx1 : x1.val = 2 * (1) + x.val) (hcol : col.val = 1408 * x1.val + z.val) :
    ((iblk m c 1 t : Vec Ideal S2x1024x1408 .bf16) (ix3 x y z) : EReal) = a (ix2 y col) := by
  refine Eq.trans ?_ (host1 m c a h x1 y z col hcol)
  unfold iblk
  rw [View.read_apply]
  refine congrArg (V m c main_v9) (funext fun a => Fin.ext ?_)
  match a with
  | ⟨0, _⟩ => show win0_1.index t 0 * 2 + 1 * x.val = x1.val; rw [(idx_1 t).1]; omega
  | ⟨1, _⟩ => show win0_1.index t 1 * 1024 + 1 * y.val = y.val; rw [(idx_1 t).2.1]; omega
  | ⟨2, _⟩ => show win0_1.index t 2 * 1408 + 1 * z.val = z.val; rw [(idx_1 t).2.2]; omega

/-- Window 2's block at point `t`, read from the argument. -/
theorem blk2 (c : Dev nD) (a : FVec Ideal S4096x1024 .f32) (h : m ((c : Thread nD τ).loc main_arg2) = a) (t : Fin cfg0.N) (x : Fin 512) (y : Fin 1024) (x1 : Fin 4096) (hx1 : x1.val = 512 * (t.val) + x.val) :
    ((iblk m c 2 t : Vec Ideal S512x1024 .f32) (ix2 x y) : EReal) = a (ix2 x1 y) := by
  refine Eq.trans ?_ (congrFun h _)
  rw [← V_main_arg2 m c]
  unfold iblk
  rw [View.read_apply]
  refine congrArg (V m c main_arg2) (funext fun a => Fin.ext ?_)
  match a with
  | ⟨0, _⟩ => show win0_2.index t 0 * 512 + 1 * x.val = x1.val; rw [(idx_2 t).1]; omega
  | ⟨1, _⟩ => show win0_2.index t 1 * 1024 + 1 * y.val = y.val; rw [(idx_2 t).2]; omega

/-- Window 3's block at point `t`, read from the argument. -/
theorem blk3 (c : Dev nD) (a : FVec Ideal S4096x1024 .f32) (h : m ((c : Thread nD τ).loc main_arg3) = a) (t : Fin cfg0.N) (x : Fin 512) (y : Fin 1024) (x1 : Fin 4096) (hx1 : x1.val = 512 * (t.val) + x.val) :
    ((iblk m c 3 t : Vec Ideal S512x1024 .f32) (ix2 x y) : EReal) = a (ix2 x1 y) := by
  refine Eq.trans ?_ (congrFun h _)
  rw [← V_main_arg3 m c]
  unfold iblk
  rw [View.read_apply]
  refine congrArg (V m c main_arg3) (funext fun a => Fin.ext ?_)
  match a with
  | ⟨0, _⟩ => show win0_3.index t 0 * 512 + 1 * x.val = x1.val; rw [(idx_3 t).1]; omega
  | ⟨1, _⟩ => show win0_3.index t 1 * 1024 + 1 * y.val = y.val; rw [(idx_3 t).2]; omega

/-- Window 5's block at point `t`, read from the argument. -/
theorem blk5 (c : Dev nD) (a : FVec Ideal S4096x1024 .f32) (h : m ((c : Thread nD τ).loc main_arg5) = a) (t : Fin cfg0.N) (x : Fin 512) (y : Fin 1024) (x1 : Fin 4096) (hx1 : x1.val = 512 * (t.val) + x.val) :
    ((iblk m c 5 t : Vec Ideal S512x1024 .f32) (ix2 x y) : EReal) = a (ix2 x1 y) := by
  refine Eq.trans ?_ (congrFun h _)
  rw [← V_main_arg5 m c]
  unfold iblk
  rw [View.read_apply]
  refine congrArg (V m c main_arg5) (funext fun a => Fin.ext ?_)
  match a with
  | ⟨0, _⟩ => show win0_5.index t 0 * 512 + 1 * x.val = x1.val; rw [(idx_5 t).1]; omega
  | ⟨1, _⟩ => show win0_5.index t 1 * 1024 + 1 * y.val = y.val; rw [(idx_5 t).2]; omega

/-- The gain's row at point `t`. -/
theorem blk4 (c : Dev nD) (a : FVec Ideal S1024 .f32) (h : m ((c : Thread nD τ).loc main_arg4) = a) (t : Fin cfg0.N) (y : Fin 1024) :
    ((iblk m c 4 t : Vec Ideal S1x1024 .f32) (ix2 (0 : Fin 1) y) : EReal) = a (ix1 y) := by
  refine Eq.trans ?_ (host4 m c a h y)
  unfold iblk
  rw [View.read_apply]
  refine congrArg (V m c main_v10) (funext fun a => Fin.ext ?_)
  match a with
  | ⟨0, _⟩ => show win0_4.index t 0 * 1 + 1 * 0 = 0; rw [(idx_4 t).1]
  | ⟨1, _⟩ => show win0_4.index t 1 * 1024 + 1 * y.val = y.val; rw [(idx_4 t).2]; omega

/-- The gradient to the norm's output for a token. -/
def grad (a0 : FVec Ideal S4096x2816 .bf16) (a1 : FVec Ideal S1024x5632 .f32) (a2 : FVec Ideal S4096x1024 .f32) (i : Fin 4096) (y : Fin 1024) : EReal :=
  (a2 (ix2 i y) : EReal) + ∑ k : Fin 2816, (a0 (ix2 i k) : EReal) * (a1 (ix2 y (⟨2816 + k.val, by omega⟩ : Fin 5632)) : EReal)

theorem grad_eq (c : Dev nD) (a0 : FVec Ideal S4096x2816 .bf16) (a1 : FVec Ideal S1024x5632 .f32) (a2 : FVec Ideal S4096x1024 .f32) (h0 : m ((c : Thread nD τ).loc main_arg0) = a0) (h1 : m ((c : Thread nD τ).loc main_arg1) = a1) (h2 : m ((c : Thread nD τ).loc main_arg2) = a2) (t : Fin cfg0.N) (p : Fin 512) (i : Fin 4096) (hi : i.val = 512 * t.val + p.val)
    (x0 : Vec Ideal S512x2816 .bf16) (x1 : Vec Ideal S2x1024x1408 .bf16) (x2 : Vec Ideal S512x1024 .f32) (e0 : iblk m c 0 t = x0) (e1 : iblk m c 1 t = x1) (e2 : iblk m c 2 t = x2) :
    (fun y => (blockGrad x0 x1 x2 (ix2 p y) : EReal)) = grad a0 a1 a2 i := by
  subst e0 e1 e2
  refine funext fun y => (blockGrad_apply _ _ _ p y).trans ?_
  unfold grad
  rw [two_slabs, add_comm (a2 (ix2 i y) : EReal)]
  refine congrArg₂ (fun x y : EReal => x + y) (congrArg₂ (fun x y : EReal => x + y) (Finset.sum_congr rfl fun k _ => ?_) (Finset.sum_congr rfl fun k _ => ?_)) (blk2 m c a2 h2 t p y i hi)
  · exact congrArg₂ (fun x y : EReal => x * y) (blk0 m c _ h0 t p ⟨k.val, by omega⟩ i hi) (blk1 m c _ h1 t 0 y k 2 ⟨2816 + k.val, by omega⟩ (by decide) rfl)
  · exact congrArg₂ (fun x y : EReal => x * y) (blk0 m c _ h0 t p ⟨1408 + k.val, by omega⟩ i hi) (blk1 m c _ h1 t 1 y k 3 ⟨2816 + (1408 + k.val), by omega⟩ (by decide) (by show 2816 + (1408 + k.val) = 1408 * 3 + k.val; omega))

theorem gain_blk (c : Dev nD) (a0 : FVec Ideal S4096x2816 .bf16) (a1 : FVec Ideal S1024x5632 .f32) (a2 : FVec Ideal S4096x1024 .f32) (a3 : FVec Ideal S4096x1024 .f32) (h0 : m ((c : Thread nD τ).loc main_arg0) = a0) (h1 : m ((c : Thread nD τ).loc main_arg1) = a1) (h2 : m ((c : Thread nD τ).loc main_arg2) = a2) (h3 : m ((c : Thread nD τ).loc main_arg3) = a3) (t : Fin cfg0.N) (q : Fin 1024)
    (x0 : Vec Ideal S512x2816 .bf16) (x1 : Vec Ideal S2x1024x1408 .bf16) (x2 : Vec Ideal S512x1024 .f32) (x3 : Vec Ideal S512x1024 .f32) (e0 : iblk m c 0 t = x0) (e1 : iblk m c 1 t = x1) (e2 : iblk m c 2 t = x2) (e3 : iblk m c 3 t = x3) :
    (blockGain x0 x1 x2 x3 (ix2 (0 : Fin 1) q) : EReal) = ∑ p ∈ Finset.range 512, atPos (fun i => toGain (grad a0 a1 a2 i) (fun y => (a3 (ix2 i y) : EReal)) q) (512 * t.val + p) := by
  have ht := t_lt t
  rw [Finset.sum_range]
  refine (blockGain_apply x0 x1 x2 x3 q).trans (Finset.sum_congr rfl fun p _ => ?_)
  rw [atPos_eq _ _ (⟨512 * t.val + p.val, by omega⟩ : Fin 4096) rfl]
  refine congrArg₂ (fun d x => toGain d x q) (grad_eq m c a0 a1 a2 h0 h1 h2 t p _ rfl x0 x1 x2 e0 e1 e2) (funext fun y => ?_)
  subst e3
  exact blk3 m c a3 h3 t p y _ rfl

/-- The second result after each point: the sum over the tokens so far. -/
theorem gain_left (c : Dev nD) (a0 : FVec Ideal S4096x2816 .bf16) (a1 : FVec Ideal S1024x5632 .f32) (a2 : FVec Ideal S4096x1024 .f32) (a3 : FVec Ideal S4096x1024 .f32) (h0 : m ((c : Thread nD τ).loc main_arg0) = a0) (h1 : m ((c : Thread nD τ).loc main_arg1) = a1) (h2 : m ((c : Thread nD τ).loc main_arg2) = a2) (h3 : m ((c : Thread nD τ).loc main_arg3) = a3) (q : Fin 1024) : ∀ (n : ℕ) (hn : n < cfg0.N),
    ((outsAt0 m c n hn).2 (ix2 (0 : Fin 1) q) : EReal) = ∑ r ∈ Finset.range (512 * (n + 1)), atPos (fun i => toGain (grad a0 a1 a2 i) (fun y => (a3 (ix2 i y) : EReal)) q) r
  | 0, hn => by
    rw [show outsAt0 m c 0 hn = _ from outsAt0_A m c ⟨0, hn⟩ (Nat.zero_mod 8) (by show ¬1 ≤ 0; omega), out0_A_7_eq]
    refine (gain_blk m c a0 a1 a2 a3 h0 h1 h2 h3 ⟨0, hn⟩ q _ _ _ _ rfl rfl rfl rfl).trans ?_
    simp only [Nat.mul_zero, Nat.zero_add, Nat.mul_one]
  | n + 1, hn => by
    have hN : cfg0.N = 8 := N_0
    have ih := gain_left c a0 a1 a2 a3 h0 h1 h2 h3 q n (by omega)
    rw [show outsAt0 m c (n + 1) hn = _ from outsAt0_B m c ⟨n + 1, hn⟩ (by simp only; omega) (by simp only; omega), out0_B_7_eq]
    simp only [Nat.add_sub_cancel]
    refine (addGain_apply _ _ _ _ _ q).trans ?_
    rw [show 512 * (n + 1 + 1) = 512 * (n + 1) + 512 from by omega, Finset.sum_range_add]
    exact congrArg₂ (fun x y : EReal => x + y) ih (gain_blk m c a0 a1 a2 a3 h0 h1 h2 h3 ⟨n + 1, hn⟩ q _ _ _ _ rfl rfl rfl rfl)

/-- The first result after each point: its block. -/
theorem in_left (c : Dev nD) (t : Fin cfg0.N) : (outsAt0 m c t.val t.isLt).1 = blockIn (iblk m c 0 t) (iblk m c 1 t) (iblk m c 2 t) (iblk m c 3 t) (iblk m c 4 t) (iblk m c 5 t) := by
  have ht := t_lt t
  by_cases h : t.val = 0
  · rw [outsAt0_A m c t (by omega) (by omega), out0_A_6_eq]
  · rw [outsAt0_B m c t (by omega) (by omega), out0_B_6_eq]

/-! ## The arrays -/

/-- The gradient to the norm's input. -/
theorem final6 (c : Dev nD) (a0 : FVec Ideal S4096x2816 .bf16) (a1 : FVec Ideal S1024x5632 .f32) (a2 : FVec Ideal S4096x1024 .f32) (a3 : FVec Ideal S4096x1024 .f32) (a4 : FVec Ideal S1024 .f32) (a5 : FVec Ideal S4096x1024 .f32) (h0 : m ((c : Thread nD τ).loc main_arg0) = a0) (h1 : m ((c : Thread nD τ).loc main_arg1) = a1) (h2 : m ((c : Thread nD τ).loc main_arg2) = a2) (h3 : m ((c : Thread nD τ).loc main_arg3) = a3) (h4 : m ((c : Thread nD τ).loc main_arg4) = a4) (h5 : m ((c : Thread nD τ).loc main_arg5) = a5) (i : Fin 4096) (j : Fin 1024) :
    ((dats m 0 c).arrAt 6 cfg0.N : Vec Ideal S4096x1024 .f32) (ix2 i j)
      = toInput (fun y => (a5 (ix2 i y) : EReal)) (grad a0 a1 a2 i) (fun y => (a3 (ix2 i y) : EReal)) (fun y => (a4 (ix1 y) : EReal)) j := by
  have hN : cfg0.N = 8 := N_0
  let t : Fin cfg0.N := ⟨i.val / 512, by omega⟩
  have hi : i.val = 512 * t.val + (⟨i.val % 512, by omega⟩ : Fin 512).val := by simp only [t]; omega
  have hb := blocks6 m c t (flush0_6 t)
  rw [flushed6, in_left] at hb
  have hb1 := congrFun hb (ix2 (⟨i.val % 512, by omega⟩ : Fin 512) j)
  have e : ((cfg0.win 6).blk t).view.emb (ix2 (⟨i.val % 512, by omega⟩ : Fin 512) j) = (ix2 i j : S4096x1024.Idx) := funext fun a => Fin.ext (by
    match a with
    | ⟨0, _⟩ => show win0_6.index t 0 * 512 + 1 * (i.val % 512) = i.val; rw [(idx_6 t).1]; simp only [t]; omega
    | ⟨1, _⟩ => show win0_6.index t 1 * 1024 + 1 * j.val = j.val; rw [(idx_6 t).2]; omega)
  rw [View.read_apply, e] at hb1
  refine hb1.trans ((blockIn_apply (iblk m c 0 t) (iblk m c 1 t) (iblk m c 2 t) (iblk m c 3 t) (iblk m c 4 t) (iblk m c 5 t) ⟨i.val % 512, by omega⟩ j).trans ?_)
  rw [grad_eq m c a0 a1 a2 h0 h1 h2 t _ i hi _ _ _ rfl rfl rfl]
  rw [show (fun y => ((iblk m c 5 t : Vec Ideal S512x1024 .f32) (ix2 (⟨i.val % 512, by omega⟩ : Fin 512) y) : EReal)) = fun y => a5 (ix2 i y) from funext fun y => blk5 m c a5 h5 t _ y i hi,
    show (fun y => ((iblk m c 3 t : Vec Ideal S512x1024 .f32) (ix2 (⟨i.val % 512, by omega⟩ : Fin 512) y) : EReal)) = fun y => a3 (ix2 i y) from funext fun y => blk3 m c a3 h3 t _ y i hi,
    show (fun y => ((iblk m c 4 t : Vec Ideal S1x1024 .f32) (ix2 (0 : Fin 1) y) : EReal)) = fun y => a4 (ix1 y) from funext fun y => blk4 m c a4 h4 t y]

/-- The last grid point. -/
def tl : Fin cfg0.N := ⟨7, by have hN : cfg0.N = 8 := N_0; omega⟩

/-- The gain's gradient is what the last grid point leaves. -/
theorem final7 (c : Dev nD) : (dats m 0 c).arrAt 7 cfg0.N = (outsAt0 m c tl.val tl.isLt).2 :=
  (dats m 0 c).arrAt_eq_of_cover 7 (outsAt0 m c tl.val tl.isLt).2 (fun t hf => by
    obtain rfl : t = tl := Fin.ext (by have := (flush0_7 t).mp hf; have := t_lt t; show t.val = 7; omega)
    rw [flushed7]
    have hz' : (fun a => win0_7.index tl a * main_v11_1.ty.shape.size a) = fun _ => 0 := funext fun a => by
      match a with
      | ⟨0, _⟩ => show win0_7.index tl 0 * 1 = 0; rw [(idx_7 tl).1]
      | ⟨1, _⟩ => show win0_7.index tl 1 * 1024 = 0; rw [(idx_7 tl).2]
    exact (Memref.read_access_unit_zero (Elt Ideal) main_v11_1 hz' (fun a => by rw [congrFun hz' a]; simp) (outsAt0 m c tl.val tl.isLt).2).symm) fun i =>
    ⟨tl, (flush0_7 tl).mpr rfl, by
      show i ∈ ((View.whole main_v11_1).slice (win0_7.rect tl)).set
      rw [View.set_slice_whole, Rect.mem_set_unit]
      intro a
      have h0 : (i 0 : Nat) < 1 := (i 0).isLt
      have h1 : (i 1 : Nat) < 1024 := (i 1).isLt
      match a with
      | ⟨0, _⟩ => show win0_7.index tl 0 * 1 ≤ (i 0 : Nat) ∧ (i 0 : Nat) < win0_7.index tl 0 * 1 + 1; rw [(idx_7 tl).1]; omega
      | ⟨1, _⟩ => show win0_7.index tl 1 * 1024 ≤ (i 1 : Nat) ∧ (i 1 : Nat) < win0_7.index tl 1 * 1024 + 1024; rw [(idx_7 tl).2]; omega⟩

/-- The gradient to the gain: the sum over all tokens. -/
theorem final7_apply (c : Dev nD) (a0 : FVec Ideal S4096x2816 .bf16) (a1 : FVec Ideal S1024x5632 .f32) (a2 : FVec Ideal S4096x1024 .f32) (a3 : FVec Ideal S4096x1024 .f32) (h0 : m ((c : Thread nD τ).loc main_arg0) = a0) (h1 : m ((c : Thread nD τ).loc main_arg1) = a1) (h2 : m ((c : Thread nD τ).loc main_arg2) = a2) (h3 : m ((c : Thread nD τ).loc main_arg3) = a3) (q : Fin 1024) :
    ((dats m 0 c).arrAt 7 cfg0.N : Vec Ideal S1x1024 .f32) (ix2 (0 : Fin 1) q)
      = ∑ i, toGain (grad a0 a1 a2 i) (fun y => (a3 (ix2 i y) : EReal)) q := by
  rw [final7]
  exact (gain_left m c a0 a1 a2 a3 h0 h1 h2 h3 q tl.val tl.isLt).trans (sum_atPos (fun i => toGain (grad a0 a1 a2 i) (fun y => (a3 (ix2 i y) : EReal)) q))

end Cert.Kernel3Ideal.Body

namespace Cert.Reference3Ideal.Read
open Cert.Reference3Ideal Cert.Reference3Ideal.Gen Cert.Reference3Ideal.Value Idealize.ShloMosaic Idealize.ShloMosaic.TcCoe Idealize.SL.Sem
open Cert.Norm
open Cert.Kernel3Ideal.Body (grad)

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2.2, sem_eq_zero_of_no_sems (by decide) r.2⟩) (run m ρ)

/-- The gradient to the norm's output. -/
def dh (a0 : FVec Ideal S4096x2816 .bf16) (a1 : FVec Ideal S1024x5632 .f32) (a2 : FVec Ideal S4096x1024 .f32) : FVec Ideal S4096x1024 .f32 := (addf a2 (Host.dotGeneral (F := Ideal) (φ₁ := .f32) (φ₂ := .f32) dot_S4096x2816_S1024x2816_S4096x1024_1_1_0_0_n_n none (extf .f32 a0 bitsLt_bf16_f32) (extractStridedSlice S1024x2816 ![0, 2816] a1 slices_S1024x5632_S1024x2816_0_2816)))

theorem dh_apply (a0 : FVec Ideal S4096x2816 .bf16) (a1 : FVec Ideal S1024x5632 .f32) (a2 : FVec Ideal S4096x1024 .f32) (i : Fin 4096) (y : Fin 1024) : (dh a0 a1 a2 (ix2 i y) : EReal) = grad a0 a1 a2 i y := by
  unfold grad
  pointwise [dh]

/-- What stands under the root. -/
def ms (a3 : FVec Ideal S4096x1024 .f32) : FVec Ideal S4096x1 .f32 := (addf (Host.divf (broadcastInDim S4096x1 ![0] bcast_S4096_S4096x1_0 (Host.reduceAdd (mulf a3 a3) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))

theorem ms_apply (a3 : FVec Ideal S4096x1024 .f32) (i : Fin 4096) : (ms a3 (ix2 i (0 : Fin 1)) : EReal) = under (fun y => (a3 (ix2 i y) : EReal)) := by
  unfold under
  pointwise [ms]

/-- The mean's part of the derivative, half of it. -/
def mean (a0 : FVec Ideal S4096x2816 .bf16) (a1 : FVec Ideal S1024x5632 .f32) (a2 : FVec Ideal S4096x1024 .f32) (a3 : FVec Ideal S4096x1024 .f32) (a4 : FVec Ideal S1024 .f32) : FVec Ideal S4096 .f32 := (Host.reduceAdd (Host.divf (mulf (shapeCast _ (Host.reduceAdd (mulf a3 (mulf (dh a0 a1 a2) (broadcastInDim S4096x1024 ![0, 1] bcast_S1x1024_S4096x1024_0_1 (broadcastInDim S1x1024 ![1] bcast_S1024_S1x1024_1 a4)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (ms a3)) (ms a3)))) (broadcastInDim S4096x1 ![] bcast_S_S4096x1 (constant S_ .f32 0x44800000#32))) (constant S_ .f32 0x00000000#32) reducesTo_S4096x1_S4096_d1 h_S_)

theorem mean_apply (a0 : FVec Ideal S4096x2816 .bf16) (a1 : FVec Ideal S1024x5632 .f32) (a2 : FVec Ideal S4096x1024 .f32) (a3 : FVec Ideal S4096x1024 .f32) (a4 : FVec Ideal S1024 .f32) (i : Fin 4096) : (mean a0 a1 a2 a3 a4 (ix1 i) : EReal)
    = Ideal.div ((∑ y, (a3 (ix2 i y) : EReal) * ((dh a0 a1 a2 (ix2 i y) : EReal) * (a4 (ix1 y) : EReal)))
        * (Ideal.ofBits FTy.f32 3204448256#32 * Ideal.div (Ideal.rsqrt (ms a3 (ix2 i (0 : Fin 1)))) (ms a3 (ix2 i (0 : Fin 1))))) (Ideal.ofBits FTy.f32 1149239296#32) := by
  pointwise [mean]
  exact Fin.sum_univ_one _

def toIn (a0 : FVec Ideal S4096x2816 .bf16) (a1 : FVec Ideal S1024x5632 .f32) (a2 : FVec Ideal S4096x1024 .f32) (a3 : FVec Ideal S4096x1024 .f32) (a4 : FVec Ideal S1024 .f32) (a5 : FVec Ideal S4096x1024 .f32) : FVec Ideal S4096x1024 .f32 := addf (addf (addf a5 (mulf (mulf (dh a0 a1 a2) (broadcastInDim S4096x1024 ![0, 1] bcast_S1x1024_S4096x1024_0_1 (broadcastInDim S1x1024 ![1] bcast_S1024_S1x1024_1 a4))) (broadcastInDim S4096x1024 ![0, 1] bcast_S4096x1_S4096x1024_0_1 (Host.rsqrt (ms a3))))) (mulf a3 (broadcastInDim S4096x1024 ![0] bcast_S4096_S4096x1024_0 (mean a0 a1 a2 a3 a4)))) (mulf (broadcastInDim S4096x1024 ![0] bcast_S4096_S4096x1024_0 (mean a0 a1 a2 a3 a4)) a3)

theorem toIn_apply (a0 : FVec Ideal S4096x2816 .bf16) (a1 : FVec Ideal S1024x5632 .f32) (a2 : FVec Ideal S4096x1024 .f32) (a3 : FVec Ideal S4096x1024 .f32) (a4 : FVec Ideal S1024 .f32) (a5 : FVec Ideal S4096x1024 .f32) (i : Fin 4096) (j : Fin 1024) : (toIn a0 a1 a2 a3 a4 a5 (ix2 i j) : EReal)
    = toInput (fun y => (a5 (ix2 i y) : EReal)) (grad a0 a1 a2 i) (fun y => (a3 (ix2 i y) : EReal)) (fun y => (a4 (ix1 y) : EReal)) j := by
  refine Eq.trans (b := (((a5 (ix2 i j) : EReal) + ((dh a0 a1 a2 (ix2 i j) : EReal) * (a4 (ix1 j) : EReal)) * Ideal.rsqrt (ms a3 (ix2 i (0 : Fin 1))))
      + (a3 (ix2 i j) : EReal) * (mean a0 a1 a2 a3 a4 (ix1 i) : EReal)) + (mean a0 a1 a2 a3 a4 (ix1 i) : EReal) * (a3 (ix2 i j) : EReal)) (by pointwise [toIn]) ?_
  rw [mean_apply, ms_apply, show grad a0 a1 a2 i = fun y => (dh a0 a1 a2 (ix2 i y) : EReal) from funext fun y => (dh_apply a0 a1 a2 i y).symm]
  exact byRule_eq (fun y => (a5 (ix2 i y) : EReal)) (fun y => (dh a0 a1 a2 (ix2 i y) : EReal)) (fun y => (a3 (ix2 i y) : EReal)) (fun y => (a4 (ix1 y) : EReal)) j

def toG (a0 : FVec Ideal S4096x2816 .bf16) (a1 : FVec Ideal S1024x5632 .f32) (a2 : FVec Ideal S4096x1024 .f32) (a3 : FVec Ideal S4096x1024 .f32) : FVec Ideal S1x1024 .f32 := shapeCast _ (Host.reduceAdd (shapeCast _ (Host.reduceAdd (mulf (mulf a3 (broadcastInDim S4096x1024 ![0, 1] bcast_S4096x1_S4096x1024_0_1 (Host.rsqrt (ms a3)))) (dh a0 a1 a2)) (constant S_ .f32 0x00000000#32) reducesTo_S4096x1024_S1024_d0 h_S_) shapeCasts_S1024_S1x1024) (constant S_ .f32 0x00000000#32) reducesTo_S1x1024_S1024_d0 h_S_) shapeCasts_S1024_S1x1024

theorem toG_apply (a0 : FVec Ideal S4096x2816 .bf16) (a1 : FVec Ideal S1024x5632 .f32) (a2 : FVec Ideal S4096x1024 .f32) (a3 : FVec Ideal S4096x1024 .f32) (q : Fin 1024) : (toG a0 a1 a2 a3 (ix2 (0 : Fin 1) q) : EReal)
    = ∑ i, toGain (grad a0 a1 a2 i) (fun y => (a3 (ix2 i y) : EReal)) q := by
  refine Eq.trans (b := ∑ i : Fin 4096, ((a3 (ix2 i q) : EReal) * Ideal.rsqrt (ms a3 (ix2 i (0 : Fin 1)))) * (dh a0 a1 a2 (ix2 i q) : EReal)) (by
    pointwise [toG]
    exact Fin.sum_univ_one _) ?_
  refine Finset.sum_congr rfl fun i _ => ?_
  rw [ms_apply, dh_apply]
  dsimp only [toGain]
  ac_rfl

end Cert.Reference3Ideal.Read

namespace Cert.Kernel3Ideal.Body
open Idealize.ShloMosaic Idealize.ShloMosaic.TcCoe Idealize.SL.Sem

theorem algebraic : Cert.algebraic_Kernel3Ideal_Reference3Ideal := by
  intro m g m' g' hpre hag
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N, Cert.Kernel3Ideal.Value.run_blocks m g, ?_⟩
  refine (θ_run Cert.Reference3Ideal.defs _ _).mono (fun r h c => ?_) (Cert.Reference3Ideal.Value.run m' g')
  obtain ⟨h0, h1, ha⟩ := h c
  obtain ⟨e0, e1, e2, e3, e4, e5⟩ := hag c
  refine ⟨h0.trans (funext fun i => ?_), h1.trans (funext fun i => ?_), ha⟩
  · unfold Cert.Reference3Ideal.Value.res_main_v41
    rw [e0, e1, e2, e3, e4, e5, eq_ix2 i]
    exact (Cert.Reference3Ideal.Read.toIn_apply _ _ _ _ _ _ _ _).trans (final6 m c _ _ _ _ _ _ rfl rfl rfl rfl rfl rfl _ _).symm
  · rw [e0, e1, e2, e3, eq_ix2 i, show i 0 = (0 : Fin 1) from Subsingleton.elim (α := Fin 1) _ _]
    exact (Cert.Reference3Ideal.Read.toG_apply _ _ _ _ _).trans (final7_apply m c _ _ _ _ rfl rfl rfl rfl _).symm

end Cert.Kernel3Ideal.Body
end
-- ==== Proof.MmWDown.lean ====
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.Quiescent
public import Idealize.ShloMosaic.PureOps.Ideal.Laws

/-! The gradient of w_down: each block of rows is one product over all tokens. -/

@[expose] public section
set_option maxRecDepth 16384
noncomputable section

namespace Cert.Kernel4Ideal.Body
open Cert.Kernel4Ideal Cert.Kernel4Ideal.Gen Idealize.ShloMosaic Idealize.ShloMosaic.TcCoe Idealize.SL.Sem
open Cert.Kernel4Ideal.Value
variable (m : (ℓ : Loc nD τ sig) → Buf (Elt Ideal) ℓ)

theorem hz : (![0, 0] : Fin 2 → Nat) = fun _ => 0 := funext fun a => by fin_cases a <;> rfl

/-- An element of the block a point writes. -/
theorem point (x0 : Vec Ideal S4096x256 .bf16) (x1 : Vec Ideal S4096x1024 .f32) (p : Fin 256) (q : Fin 1024) :
    (out0_2 x0 x1 : Vec Ideal S256x1024 .bf16) (ix2 p q) = ∑ k : Fin 4096, (x0 (ix2 k p) : EReal) * (x1 (ix2 k q) : EReal) := by
  unfold out0_2
  rw [View.canon_unit_zero hz, View.ld_unit_zero hz, View.ld_unit_zero hz]
  pointwise [k0_pay1]

theorem idx_0 : ∀ t : Fin cfg0.N, win0_0.index t 0 = 0 ∧ win0_0.index t 1 = t.val := by decide +kernel
theorem idx_1 : ∀ t : Fin cfg0.N, win0_1.index t 0 = 0 ∧ win0_1.index t 1 = 0 := by decide +kernel
theorem idx_2 : ∀ t : Fin cfg0.N, win0_2.index t 0 = t.val ∧ win0_2.index t 1 = 0 := by decide +kernel
theorem t_lt (t : Fin cfg0.N) : t.val < 11 := by have := t.isLt; have hN : cfg0.N = 11 := N_0; omega

/-- Window 0's block at point `t`, read from the argument. -/
theorem blk0 (c : Dev nD) (a : FVec Ideal S4096x2816 .bf16) (h : m ((c : Thread nD τ).loc main_arg0) = a) (t : Fin cfg0.N) (x : Fin 4096) (y : Fin 256) (y1 : Fin 2816) (hy1 : y1.val = 256 * (t.val) + y.val) :
    ((iblk m c 0 t : Vec Ideal S4096x256 .bf16) (ix2 x y) : EReal) = a (ix2 x y1) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 4096 + 1 * x.val = x.val; rw [(idx_0 t).1]; omega
  | ⟨1, _⟩ => show win0_0.index t 1 * 256 + 1 * y.val = y1.val; rw [(idx_0 t).2]; omega

/-- Window 1's block at point `t`, read from the argument. -/
theorem blk1 (c : Dev nD) (a : FVec Ideal S4096x1024 .f32) (h : m ((c : Thread nD τ).loc main_arg1) = a) (t : Fin cfg0.N) (x : Fin 4096) (y : Fin 1024)  :
    ((iblk m c 1 t : Vec Ideal S4096x1024 .f32) (ix2 x y) : EReal) = a (ix2 x y) := by
  refine Eq.trans ?_ (congrFun h _)
  rw [← V_main_arg1 m c]
  unfold iblk
  rw [View.read_apply]
  refine congrArg (V m c main_arg1) (funext fun a => Fin.ext ?_)
  match a with
  | ⟨0, _⟩ => show win0_1.index t 0 * 4096 + 1 * x.val = x.val; rw [(idx_1 t).1]; omega
  | ⟨1, _⟩ => show win0_1.index t 1 * 1024 + 1 * y.val = y.val; rw [(idx_1 t).2]; omega

/-- The call's result: the product of the whole arrays. -/
theorem final (c : Dev nD) (a0 : FVec Ideal S4096x2816 .bf16) (a1 : FVec Ideal S4096x1024 .f32) (h0 : m ((c : Thread nD τ).loc main_arg0) = a0) (h1 : m ((c : Thread nD τ).loc main_arg1) = a1) (i : Fin 2816) (j : Fin 1024) :
    ((dats m 0 c).arrAt 2 cfg0.N : Vec Ideal S2816x1024 .bf16) (ix2 i j)
      = ∑ k : Fin 4096, (a0 (ix2 k i) : EReal) * (a1 (ix2 k j) : EReal) := by
  have hN : cfg0.N = 11 := N_0
  let t : Fin cfg0.N := ⟨i.val / 256, by omega⟩
  have ht : t.val = i.val / 256 := rfl
  have hb := blocks2 m c t (flush0_2 t)
  rw [flushed2] at hb
  have hb1 := congrFun hb (ix2 (⟨i.val % 256, by omega⟩ : Fin 256) j)
  have e : ((cfg0.win 2).blk t).view.emb (ix2 (⟨i.val % 256, by omega⟩ : Fin 256) j) = (ix2 i j : S2816x1024.Idx) := funext fun a => Fin.ext (by
    match a with
    | ⟨0, _⟩ => show win0_2.index t 0 * 256 + 1 * (i.val % 256) = i.val; rw [(idx_2 t).1]; omega
    | ⟨1, _⟩ => show win0_2.index t 1 * 1024 + 1 * j.val = j.val; rw [(idx_2 t).2]; omega)
  rw [View.read_apply, e] at hb1
  refine hb1.trans ((point (iblk m c 0 t) (iblk m c 1 t) ⟨i.val % 256, by omega⟩ j).trans ?_)
  refine Finset.sum_congr rfl fun k _ => ?_
  exact congrArg₂ (fun x y : EReal => x * y) (blk0 m c _ h0 t k ⟨i.val % 256, by omega⟩ i (by simp only [t]; omega)) (blk1 m c _ h1 t k j)

end Cert.Kernel4Ideal.Body

namespace Cert.Reference4Ideal.Read
open Cert.Reference4Ideal Cert.Reference4Ideal.Gen Cert.Reference4Ideal.Value Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run m ρ)

theorem result (a0 : FVec Ideal S4096x2816 .bf16) (a1 : FVec Ideal S4096x1024 .f32) (i : Fin 2816) (j : Fin 1024) :
    (truncf (F := Ideal) (φ := .f32) .bf16 (transpose S2816x1024 [1, 0] (Host.dotGeneral (F := Ideal) (φ₁ := .f32) (φ₂ := .f32) dot_S4096x1024_S4096x2816_S1024x2816_0_0_1_1_n_n none a1 (extf .f32 a0 bitsLt_bf16_f32)) transposes_S1024x2816_S2816x1024_1_0) bitsLt_bf16_f32 : Vec Ideal S2816x1024 .bf16) (ix2 i j)
      = ∑ k : Fin 4096, (a0 (ix2 k i) : EReal) * (a1 (ix2 k j) : EReal) := by
  refine Eq.trans (b := ∑ k : Fin 4096, (a1 (ix2 k j) : EReal) * (a0 (ix2 k i) : EReal)) (by pointwise) ?_
  exact Finset.sum_congr rfl fun k _ => mul_comm _ _

end Cert.Reference4Ideal.Read

namespace Cert.Kernel4Ideal.Body
open Idealize.ShloMosaic Idealize.ShloMosaic.TcCoe Idealize.SL.Sem

theorem algebraic : Cert.algebraic_Kernel4Ideal_Reference4Ideal := by
  intro m g m' g' hpre hag
  refine ⟨fun c => (Cert.Kernel4Ideal.Gen.dats m 0 c).arrAt 2 Cert.Kernel4Ideal.cfg0.N, Cert.Kernel4Ideal.Value.run_blocks m g, ?_⟩
  refine (θ_run Cert.Reference4Ideal.defs _ _).mono (fun r h c => ?_) (Cert.Reference4Ideal.Value.run m' g')
  obtain ⟨h0, ha⟩ := h c
  refine ⟨h0.trans (funext fun i => ?_), ha⟩
  obtain ⟨e0, e1, e2⟩ := hag c
  rw [e0, e1, eq_ix2 i]
  exact (Cert.Reference4Ideal.Read.result _ _ _ _).trans (final m c _ _ rfl rfl _ _).symm

end Cert.Kernel4Ideal.Body
end
-- ==== Proof.MmNormGate.lean ====
module

public import proofs.«01_k».proof.Defs
public import proofs.«01_k».proof.Proof.Gen.Kernel5Ideal.Value
public import proofs.«01_k».proof.Proof.Gen.Reference5Ideal.Run
public import Idealize.ShloMosaic.Lib.StableHlo.ReadAt
public import Idealize.ShloMosaic.Lib.Pipeline.ValueKit.Tiles
public import Idealize.ShloMosaic.Lib.Pointwise
public import Idealize.ShloMosaic.Lib.Quiescent
public import Idealize.ShloMosaic.PureOps.Ideal.Laws

/-! The gradient of the norm's output through the gate half of w_up: each block of tokens is the sum of two products, one for
each slab of columns. -/

@[expose] public section
set_option maxRecDepth 16384
noncomputable section

namespace Cert.Kernel5Ideal.Body
open Cert.Kernel5Ideal Cert.Kernel5Ideal.Gen Idealize.ShloMosaic Idealize.ShloMosaic.TcCoe Idealize.SL.Sem
open Cert.Kernel5Ideal.Value
variable (m : (ℓ : Loc nD τ sig) → Buf (Elt Ideal) ℓ)

theorem hz : (![0, 0] : Fin 2 → Nat) = fun _ => 0 := funext fun a => by fin_cases a <;> rfl

/-- A sum over the columns of two slabs. -/
theorem two_slabs (f : Fin 2816 → EReal) : ∑ k, f k = ∑ k : Fin 1408, f ⟨k.val, by omega⟩ + ∑ k : Fin 1408, f ⟨1408 + k.val, by omega⟩ :=
  Fin.sum_univ_add (M := EReal) (a := 1408) (b := 1408) f

/-- An element of the block a point writes. -/
theorem point (x0 : Vec Ideal S1024x2816 .bf16) (x1 : Vec Ideal S2x1024x1408 .bf16) (p : Fin 1024) (q : Fin 1024) :
    (out0_2 x0 x1 : Vec Ideal S1024x1024 .f32) (ix2 p q)
      = ∑ k : Fin 1408, (x0 (ix2 p (⟨k.val, by omega⟩ : Fin 2816)) : EReal) * (x1 (ix3 (0 : Fin 2) q k) : EReal)
        + ∑ k : Fin 1408, (x0 (ix2 p (⟨1408 + k.val, by omega⟩ : Fin 2816)) : EReal) * (x1 (ix3 (1 : Fin 2) q k) : EReal) := by
  unfold out0_2
  rw [View.canon_unit_zero hz]
  refine Eq.trans (b := ∑ k : Fin 1408, (View.ld x0 r0_0 (ix2 p k) : EReal) * (View.ld x1 r0_1 (ix3 (0 : Fin 1) q k) : EReal)
    + ∑ k : Fin 1408, (View.ld x0 r0_2 (ix2 p k) : EReal) * (View.ld x1 r0_3 (ix3 (0 : Fin 1) q k) : EReal)) (by pointwise [k0_pay1]) ?_
  refine congrArg₂ (fun x y : EReal => x + y) (Finset.sum_congr rfl fun k _ => congrArg₂ (fun x y : EReal => x * y) ?_ ?_) (Finset.sum_congr rfl fun k _ => congrArg₂ (fun x y : EReal => x * y) ?_ ?_)
  · refine View.ld_unit_apply_of x0 _ _ _ _ _ fun a => ?_
    match a with
    | ⟨0, _⟩ => show p.val = 0 + p.val; omega
    | ⟨1, _⟩ => show k.val = 0 + k.val; omega
  · refine View.ld_unit_apply_of x1 _ _ _ _ _ fun a => ?_
    match a with
    | ⟨0, _⟩ => rfl
    | ⟨1, _⟩ => show q.val = 0 + q.val; omega
    | ⟨2, _⟩ => show k.val = 0 + k.val; omega
  · refine View.ld_unit_apply_of x0 _ _ _ _ _ fun a => ?_
    match a with
    | ⟨0, _⟩ => show p.val = 0 + p.val; omega
    | ⟨1, _⟩ => rfl
  · refine View.ld_unit_apply_of x1 _ _ _ _ _ fun a => ?_
    match a with
    | ⟨0, _⟩ => rfl
    | ⟨1, _⟩ => show q.val = 0 + q.val; omega
    | ⟨2, _⟩ => show k.val = 0 + k.val; omega

theorem idx_0 : ∀ t : Fin cfg0.N, win0_0.index t 0 = t.val ∧ win0_0.index t 1 = 0 := by decide +kernel
theorem idx_1 : ∀ t : Fin cfg0.N, win0_1.index t 0 = 0 ∧ win0_1.index t 1 = 0 ∧ win0_1.index t 2 = 0 := by decide +kernel
theorem idx_2 : ∀ t : Fin cfg0.N, win0_2.index t 0 = t.val ∧ win0_2.index t 1 = 0 := by decide +kernel

/-! Slab `s` of the stack holds the columns from `1408 s`. -/

theorem slab0 (c : Dev nD) (y : Fin 1024) (z : Fin 1408) (col : Fin 5632) (hcol : col.val = 0 + z.val) :
    ((StableHlo.upto hostOps0 (fun b => m (c, b)) 6 (Proc.tc.devRef main_v5) : Vec Ideal S1x1024x1408 .bf16) (ix3 (0 : Fin 1) y z) : EReal) = (m ((c : Thread nD τ).loc main_arg1) : Vec Ideal S1024x5632 .f32) (ix2 y col) := by
  rw [show col = (⟨0 + z.val, by omega⟩ : Fin 5632) from Fin.ext hcol]
  after_reads_at
  try (congr 2; apply Fin.ext; simp only; omega)

theorem slab1 (c : Dev nD) (y : Fin 1024) (z : Fin 1408) (col : Fin 5632) (hcol : col.val = 1408 + z.val) :
    ((StableHlo.upto hostOps0 (fun b => m (c, b)) 7 (Proc.tc.devRef main_v6) : Vec Ideal S1x1024x1408 .bf16) (ix3 (0 : Fin 1) y z) : EReal) = (m ((c : Thread nD τ).loc main_arg1) : Vec Ideal S1024x5632 .f32) (ix2 y col) := by
  rw [show col = (⟨1408 + z.val, by omega⟩ : Fin 5632) from Fin.ext hcol]
  after_reads_at
  try (congr 2; apply Fin.ext; simp only; omega)

theorem slab2 (c : Dev nD) (y : Fin 1024) (z : Fin 1408) (col : Fin 5632) (hcol : col.val = 2816 + z.val) :
    ((StableHlo.upto hostOps0 (fun b => m (c, b)) 8 (Proc.tc.devRef main_v7) : Vec Ideal S1x1024x1408 .bf16) (ix3 (0 : Fin 1) y z) : EReal) = (m ((c : Thread nD τ).loc main_arg1) : Vec Ideal S1024x5632 .f32) (ix2 y col) := by
  rw [show col = (⟨2816 + z.val, by omega⟩ : Fin 5632) from Fin.ext hcol]
  after_reads_at
  try (congr 2; apply Fin.ext; simp only; omega)

theorem slab3 (c : Dev nD) (y : Fin 1024) (z : Fin 1408) (col : Fin 5632) (hcol : col.val = 4224 + z.val) :
    ((StableHlo.upto hostOps0 (fun b => m (c, b)) 9 (Proc.tc.devRef main_v8) : Vec Ideal S1x1024x1408 .bf16) (ix3 (0 : Fin 1) y z) : EReal) = (m ((c : Thread nD τ).loc main_arg1) : Vec Ideal S1024x5632 .f32) (ix2 y col) := by
  rw [show col = (⟨4224 + z.val, by omega⟩ : Fin 5632) from Fin.ext hcol]
  after_reads_at
  try (congr 2; apply Fin.ext; simp only; omega)

theorem host1 (c : Dev nD) (a : FVec Ideal S1024x5632 .f32) (h : m ((c : Thread nD τ).loc main_arg1) = a) (x : Fin 4) (y : Fin 1024) (z : Fin 1408) (col : Fin 5632) (hcol : col.val = 1408 * x.val + z.val) :
    ((V m c main_v9 : Vec Ideal S4x1024x1408 .bf16) (ix3 x y z) : EReal) = a (ix2 y col) := by
  refine Eq.trans ?_ (congrFun h _)
  unfold V
  match x, hcol with
  | ⟨0, _⟩, hcol => after_reads_at; exact slab0 m c y z col (by simpa using hcol)
  | ⟨1, _⟩, hcol => after_reads_at; exact slab1 m c y z col (by simpa using hcol)
  | ⟨2, _⟩, hcol => after_reads_at; exact slab2 m c y z col (by simpa using hcol)
  | ⟨3, _⟩, hcol => after_reads_at; exact slab3 m c y z col (by simpa using hcol)

/-- Window 0's block at point `t`, read from the argument. -/
theorem blk0 (c : Dev nD) (a : FVec Ideal S4096x2816 .bf16) (h : m ((c : Thread nD τ).loc main_arg0) = a) (t : Fin cfg0.N) (x : Fin 1024) (y : Fin 2816) (x1 : Fin 4096) (hx1 : x1.val = 1024 * (t.val) + x.val) :
    ((iblk m c 0 t : Vec Ideal S1024x2816 .bf16) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 1024 + 1 * x.val = x1.val; rw [(idx_0 t).1]; omega
  | ⟨1, _⟩ => show win0_0.index t 1 * 2816 + 1 * y.val = y.val; rw [(idx_0 t).2]; omega

/-- Window 1's block at point `t`, read from the argument. -/
theorem blk1 (c : Dev nD) (a : FVec Ideal S1024x5632 .f32) (h : m ((c : Thread nD τ).loc main_arg1) = a) (t : Fin cfg0.N) (x : Fin 2) (y : Fin 1024) (z : Fin 1408) (x1 : Fin 4) (col : Fin 5632) (hx1 : x1.val = 2 * (0) + x.val) (hcol : col.val = 1408 * x1.val + z.val) :
    ((iblk m c 1 t : Vec Ideal S2x1024x1408 .bf16) (ix3 x y z) : EReal) = a (ix2 y col) := by
  refine Eq.trans ?_ (host1 m c a h x1 y z col hcol)
  unfold iblk
  rw [View.read_apply]
  refine congrArg (V m c main_v9) (funext fun a => Fin.ext ?_)
  match a with
  | ⟨0, _⟩ => show win0_1.index t 0 * 2 + 1 * x.val = x1.val; rw [(idx_1 t).1]; omega
  | ⟨1, _⟩ => show win0_1.index t 1 * 1024 + 1 * y.val = y.val; rw [(idx_1 t).2.1]; omega
  | ⟨2, _⟩ => show win0_1.index t 2 * 1408 + 1 * z.val = z.val; rw [(idx_1 t).2.2]; omega

/-- The call's result: the product of the whole arrays. -/
theorem final (c : Dev nD) (a0 : FVec Ideal S4096x2816 .bf16) (a1 : FVec Ideal S1024x5632 .f32) (h0 : m ((c : Thread nD τ).loc main_arg0) = a0) (h1 : m ((c : Thread nD τ).loc main_arg1) = a1) (i : Fin 4096) (j : Fin 1024) :
    ((dats m 0 c).arrAt 2 cfg0.N : Vec Ideal S4096x1024 .f32) (ix2 i j)
      = ∑ k : Fin 2816, (a0 (ix2 i k) : EReal) * (a1 (ix2 j (⟨k.val, by omega⟩ : Fin 5632)) : EReal) := by
  have hN : cfg0.N = 4 := N_0
  let t : Fin cfg0.N := ⟨i.val / 1024, by omega⟩
  have ht : t.val = i.val / 1024 := rfl
  have hb := blocks2 m c t (flush0_2 t)
  rw [flushed2] at hb
  have hb1 := congrFun hb (ix2 (⟨i.val % 1024, by omega⟩ : Fin 1024) j)
  have e : ((cfg0.win 2).blk t).view.emb (ix2 (⟨i.val % 1024, by omega⟩ : Fin 1024) j) = (ix2 i j : S4096x1024.Idx) := funext fun a => Fin.ext (by
    match a with
    | ⟨0, _⟩ => show win0_2.index t 0 * 1024 + 1 * (i.val % 1024) = i.val; rw [(idx_2 t).1]; omega
    | ⟨1, _⟩ => show win0_2.index t 1 * 1024 + 1 * j.val = j.val; rw [(idx_2 t).2]; omega)
  rw [View.read_apply, e] at hb1
  refine hb1.trans ((point (iblk m c 0 t) (iblk m c 1 t) ⟨i.val % 1024, by omega⟩ j).trans ?_)
  rw [two_slabs]
  refine congrArg₂ (fun x y : EReal => x + y) (Finset.sum_congr rfl fun k _ => ?_) (Finset.sum_congr rfl fun k _ => ?_)
  · exact congrArg₂ (fun x y : EReal => x * y) (blk0 m c _ h0 t ⟨i.val % 1024, by omega⟩ ⟨k.val, by omega⟩ i (by simp only [t]; omega)) (blk1 m c _ h1 t 0 j k 0 ⟨k.val, by omega⟩ (by decide) (Nat.zero_add k.val).symm)
  · exact congrArg₂ (fun x y : EReal => x * y) (blk0 m c _ h0 t ⟨i.val % 1024, by omega⟩ ⟨1408 + k.val, by omega⟩ i (by simp only [t]; omega)) (blk1 m c _ h1 t 1 j k 1 ⟨1408 + k.val, by omega⟩ (by decide) rfl)

end Cert.Kernel5Ideal.Body

namespace Cert.Reference5Ideal.Read
open Cert.Reference5Ideal Cert.Reference5Ideal.Gen Cert.Reference5Ideal.Value Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run m ρ)

theorem result (a0 : FVec Ideal S4096x2816 .bf16) (a1 : FVec Ideal S1024x5632 .f32) (i : Fin 4096) (j : Fin 1024) :
    (Host.dotGeneral (F := Ideal) (φ₁ := .f32) (φ₂ := .f32) dot_S4096x2816_S1024x2816_S4096x1024_1_1_0_0_n_n none (extf .f32 a0 bitsLt_bf16_f32) (extractStridedSlice S1024x2816 ![0, 0] a1 slices_S1024x5632_S1024x2816_0_0) : Vec Ideal S4096x1024 .f32) (ix2 i j)
      = ∑ k : Fin 2816, (a0 (ix2 i k) : EReal) * (a1 (ix2 j (⟨k.val, by omega⟩ : Fin 5632)) : EReal) := by
  pointwise
  try (refine Finset.sum_congr rfl fun k _ => ?_; rw [show (⟨0 + k.val, by omega⟩ : Fin 5632) = ⟨k.val, by omega⟩ from Fin.ext (Nat.zero_add _)])

end Cert.Reference5Ideal.Read

namespace Cert.Kernel5Ideal.Body
open Idealize.ShloMosaic Idealize.ShloMosaic.TcCoe Idealize.SL.Sem

theorem algebraic : Cert.algebraic_Kernel5Ideal_Reference5Ideal := by
  intro m g m' g' hpre hag
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ?_) (Cert.Reference5Ideal.Value.run m' g')
  obtain ⟨h0, ha⟩ := h c
  refine ⟨h0.trans (funext fun i => ?_), ha⟩
  obtain ⟨e0, e1, e2⟩ := hag c
  rw [e0, e1, eq_ix2 i]
  exact (Cert.Reference5Ideal.Read.result _ _ _ _).trans (final m c _ _ rfl rfl _ _).symm

end Cert.Kernel5Ideal.Body
end
-- ==== Proof.MmWUpGate.lean ====
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Quiescent
public import Idealize.ShloMosaic.PureOps.Ideal.Laws

/-! The gradient of w_up's gate half: each of its two slabs of columns is one product over all tokens. -/

@[expose] public section
set_option maxRecDepth 16384
noncomputable section

namespace Cert.Kernel6Ideal.Body
open Cert.Kernel6Ideal Cert.Kernel6Ideal.Gen Idealize.ShloMosaic Idealize.ShloMosaic.TcCoe Idealize.SL.Sem
open Cert.Kernel6Ideal.Value
variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- An element of the block a point writes. -/
theorem point (x0 : Vec Ideal S4096x1024 .bf16) (x1 : Vec Ideal S4096x1408 .bf16) (p : Fin 1024) (q : Fin 1408) :
    (out0_2 x0 x1 : Vec Ideal S1x1024x1408 .bf16) (ix3 (0 : Fin 1) p q) = ∑ k : Fin 4096, (x0 (ix2 k p) : EReal) * (x1 (ix2 k q) : EReal) := by
  unfold out0_2
  rw [View.canon_unit_zero hz3, View.ld_unit_zero hz, View.ld_unit_zero hz]
  pointwise [k0_pay1]

theorem idx_0 : ∀ t : Fin cfg0.N, win0_0.index t 0 = 0 ∧ win0_0.index t 1 = 0 := by decide +kernel
theorem idx_1 : ∀ t : Fin cfg0.N, win0_1.index t 0 = 0 ∧ win0_1.index t 1 = t.val := by decide +kernel
theorem idx_2 : ∀ t : Fin cfg0.N, win0_2.index t 0 = t.val ∧ win0_2.index t 1 = 0 ∧ win0_2.index t 2 = 0 := by decide +kernel

/-- Window 0's block at point `t`, read from the argument. -/
theorem blk0 (c : Dev nD) (a : FVec Ideal S4096x1024 .bf16) (h : m ((c : Thread nD τ).loc main_arg0) = a) (t : Fin cfg0.N) (x : Fin 4096) (y : Fin 1024)  :
    ((iblk m c 0 t : Vec Ideal S4096x1024 .bf16) (ix2 x y) : EReal) = a (ix2 x y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 4096 + 1 * x.val = x.val; rw [(idx_0 t).1]; omega
  | ⟨1, _⟩ => show win0_0.index t 1 * 1024 + 1 * y.val = y.val; rw [(idx_0 t).2]; omega

/-- Window 1's block at point `t`, read from the argument. -/
theorem blk1 (c : Dev nD) (a : FVec Ideal S4096x2816 .bf16) (h : m ((c : Thread nD τ).loc main_arg1) = a) (t : Fin cfg0.N) (x : Fin 4096) (y : Fin 1408) (y1 : Fin 2816) (hy1 : y1.val = 1408 * (t.val) + y.val) :
    ((iblk m c 1 t : Vec Ideal S4096x1408 .bf16) (ix2 x y) : EReal) = a (ix2 x y1) := by
  refine Eq.trans ?_ (congrFun h _)
  rw [← V_main_arg1 m c]
  unfold iblk
  rw [View.read_apply]
  refine congrArg (V m c main_arg1) (funext fun a => Fin.ext ?_)
  match a with
  | ⟨0, _⟩ => show win0_1.index t 0 * 4096 + 1 * x.val = x.val; rw [(idx_1 t).1]; omega
  | ⟨1, _⟩ => show win0_1.index t 1 * 1408 + 1 * y.val = y1.val; rw [(idx_1 t).2]; omega

/-- The slabs the call writes: the product of the whole arrays. -/
theorem final (c : Dev nD) (a0 : FVec Ideal S4096x1024 .bf16) (a1 : FVec Ideal S4096x2816 .bf16) (h0 : m ((c : Thread nD τ).loc main_arg0) = a0) (h1 : m ((c : Thread nD τ).loc main_arg1) = a1) (s : Fin 4) (hs : s.val < 2) (i : Fin 1024) (j : Fin 1408) :
    ((dats m 0 c).arrAt 2 cfg0.N : Vec Ideal S4x1024x1408 .bf16) (ix3 s i j)
      = ∑ k : Fin 4096, (a0 (ix2 k i) : EReal) * (a1 (ix2 k (⟨1408 * s.val + j.val, by omega⟩ : Fin 2816)) : EReal) := by
  have hN : cfg0.N = 2 := N_0
  let t : Fin cfg0.N := ⟨s.val, by omega⟩
  have ht : t.val = s.val := rfl
  have hb := blocks2 m c t (flush0_2 t)
  rw [flushed2] at hb
  have hb1 := congrFun hb (ix3 (0 : Fin 1) i j)
  have e : ((cfg0.win 2).blk t).view.emb (ix3 (0 : Fin 1) i j) = (ix3 s i j : S4x1024x1408.Idx) := funext fun a => Fin.ext (by
    match a with
    | ⟨0, _⟩ => show win0_2.index t 0 * 1 + 1 * 0 = s.val; rw [(idx_2 t).1]; omega
    | ⟨1, _⟩ => show win0_2.index t 1 * 1024 + 1 * i.val = i.val; rw [(idx_2 t).2.1]; omega
    | ⟨2, _⟩ => show win0_2.index t 2 * 1408 + 1 * j.val = j.val; rw [(idx_2 t).2.2]; omega)
  rw [View.read_apply, e] at hb1
  refine hb1.trans ((point (iblk m c 0 t) (iblk m c 1 t) i j).trans ?_)
  refine Finset.sum_congr rfl fun k _ => ?_
  exact congrArg₂ (fun x y : EReal => x * y) (blk0 m c _ h0 t k i) (blk1 m c _ h1 t k j ⟨1408 * s.val + j.val, by omega⟩ (by simp only [t]))

end Cert.Kernel6Ideal.Body

namespace Cert.Reference6Ideal.Read
open Cert.Reference6Ideal Cert.Reference6Ideal.Gen Cert.Reference6Ideal.Value Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run m ρ)

def term (a0 : FVec Ideal S4096x1024 .bf16) (a1 : FVec Ideal S4096x2816 .bf16) : Vec Ideal S4x1024x1408 .bf16 :=
  (concatenate S4x1024x1408 0 [⟨S1x1024x1408, ((broadcastInDim S1x1024x1408 ![1, 2] bcast_S1024x1408_S1x1024x1408_1_2 (extractStridedSlice S1024x1408 ![0, 0] (truncf (F := Ideal) (φ := .f32) .bf16 (pad S1024x5632 ![0, 0] ![0, 2816] ![0, 0] (transpose S1024x2816 [1, 0] (Host.dotGeneral (F := Ideal) (φ₁ := .f32) (φ₂ := .f32) dot_S4096x2816_S4096x1024_S2816x1024_0_0_1_1_n_n none (extf .f32 a1 bitsLt_bf16_f32) (extf .f32 a0 bitsLt_bf16_f32)) transposes_S2816x1024_S1024x2816_1_0) (constant (F := Ideal) S_ .f32 0x00000000#32) pads_S1024x2816_S1024x5632_000_028160 h_S_) bitsLt_bf16_f32) slices_S1024x5632_S1024x1408_0_0)) : (⟨S1x1024x1408, .bf16⟩ : BufTy).Contents (Elt Ideal))⟩, ⟨S1x1024x1408, ((broadcastInDim S1x1024x1408 ![1, 2] bcast_S1024x1408_S1x1024x1408_1_2 (extractStridedSlice S1024x1408 ![0, 1408] (truncf (F := Ideal) (φ := .f32) .bf16 (pad S1024x5632 ![0, 0] ![0, 2816] ![0, 0] (transpose S1024x2816 [1, 0] (Host.dotGeneral (F := Ideal) (φ₁ := .f32) (φ₂ := .f32) dot_S4096x2816_S4096x1024_S2816x1024_0_0_1_1_n_n none (extf .f32 a1 bitsLt_bf16_f32) (extf .f32 a0 bitsLt_bf16_f32)) transposes_S2816x1024_S1024x2816_1_0) (constant (F := Ideal) S_ .f32 0x00000000#32) pads_S1024x2816_S1024x5632_000_028160 h_S_) bitsLt_bf16_f32) slices_S1024x5632_S1024x1408_0_1408)) : (⟨S1x1024x1408, .bf16⟩ : BufTy).Contents (Elt Ideal))⟩, ⟨S1x1024x1408, ((broadcastInDim S1x1024x1408 ![1, 2] bcast_S1024x1408_S1x1024x1408_1_2 (extractStridedSlice S1024x1408 ![0, 2816] (truncf (F := Ideal) (φ := .f32) .bf16 (pad S1024x5632 ![0, 0] ![0, 2816] ![0, 0] (transpose S1024x2816 [1, 0] (Host.dotGeneral (F := Ideal) (φ₁ := .f32) (φ₂ := .f32) dot_S4096x2816_S4096x1024_S2816x1024_0_0_1_1_n_n none (extf .f32 a1 bitsLt_bf16_f32) (extf .f32 a0 bitsLt_bf16_f32)) transposes_S2816x1024_S1024x2816_1_0) (constant (F := Ideal) S_ .f32 0x00000000#32) pads_S1024x2816_S1024x5632_000_028160 h_S_) bitsLt_bf16_f32) slices_S1024x5632_S1024x1408_0_2816)) : (⟨S1x1024x1408, .bf16⟩ : BufTy).Contents (Elt Ideal))⟩, ⟨S1x1024x1408, ((broadcastInDim S1x1024x1408 ![1, 2] bcast_S1024x1408_S1x1024x1408_1_2 (extractStridedSlice S1024x1408 ![0, 4224] (truncf (F := Ideal) (φ := .f32) .bf16 (pad S1024x5632 ![0, 0] ![0, 2816] ![0, 0] (transpose S1024x2816 [1, 0] (Host.dotGeneral (F := Ideal) (φ₁ := .f32) (φ₂ := .f32) dot_S4096x2816_S4096x1024_S2816x1024_0_0_1_1_n_n none (extf .f32 a1 bitsLt_bf16_f32) (extf .f32 a0 bitsLt_bf16_f32)) transposes_S2816x1024_S1024x2816_1_0) (constant (F := Ideal) S_ .f32 0x00000000#32) pads_S1024x2816_S1024x5632_000_028160 h_S_) bitsLt_bf16_f32) slices_S1024x5632_S1024x1408_0_4224)) : (⟨S1x1024x1408, .bf16⟩ : BufTy).Contents (Elt Ideal))⟩] concatenates_S1x1024x1408_S1x1024x1408_S1x1024x1408_S1x1024x1408_S4x1024x1408_d0 : (⟨S4x1024x1408, .bf16⟩ : BufTy).Contents (Elt Ideal))

theorem result (a0 : FVec Ideal S4096x1024 .bf16) (a1 : FVec Ideal S4096x2816 .bf16) (s : Fin 4) (hs : s.val < 2) (i : Fin 1024) (j : Fin 1408) :
    term a0 a1 (ix3 s i j) = ∑ k : Fin 4096, (a0 (ix2 k i) : EReal) * (a1 (ix2 k (⟨1408 * s.val + j.val, by omega⟩ : Fin 2816)) : EReal) := by
  refine Eq.trans (b := ∑ k : Fin 4096, (a1 (ix2 k (⟨1408 * s.val + j.val, by omega⟩ : Fin 2816)) : EReal) * (a0 (ix2 k i) : EReal)) ?_ (Finset.sum_congr rfl fun k _ => mul_comm _ _)
  match s, hs with
  | ⟨0, _⟩, hs =>
    pointwise [term]
    rw [dif_pos (by omega)]
  | ⟨1, _⟩, hs =>
    pointwise [term]
    rw [dif_pos (by omega)]

end Cert.Reference6Ideal.Read

namespace Cert.Kernel6Ideal.Body
open Idealize.ShloMosaic Idealize.ShloMosaic.TcCoe Idealize.SL.Sem

instance onFacts : Cert.On_first_slabs.Facts where
  bcast_S_S4x1024x1408 := by decide +kernel

/-- The mask keeps the first two slabs. -/
theorem of_mask (a0 : FVec Ideal Cert.On_first_slabs.S4096x1024 .bf16) (a1 : FVec Ideal Cert.On_first_slabs.S4096x2816 .bf16) (a2 : FVec Ideal Cert.On_first_slabs.S1024x5632 .f32) (s : Fin 4) (i : Fin 1024) (j : Fin 1408)
    (h : Cert.On_first_slabs.fn (F := Ideal) a0 a1 a2 (ix3 s i j) = 1#1) : s.val < 2 := by
  have e : IntOp.cmpi .slt (BitVec.ofNat 32 s.val) 2#32 = 1#1 := Eq.trans (by pointwise [Cert.On_first_slabs.fn]) h
  revert e
  fin_cases s <;> decide

theorem algebraic : Cert.algebraic_Kernel6Ideal_Reference6Ideal_on_first_slabs := by
  intro m g m' g' hpre hag
  refine ⟨fun c => (Cert.Kernel6Ideal.Gen.dats m 0 c).arrAt 2 Cert.Kernel6Ideal.cfg0.N, ?_, ?_⟩
  · refine (θ_run Cert.Kernel6Ideal.defs _ _).mono (fun r h c => ?_) (Cert.Kernel6Ideal.Value.run_blocks m g)
    exact ⟨fun i _ => congrFun (h c).1 i, (h c).2⟩
  · refine (θ_run Cert.Reference6Ideal.defs _ _).mono (fun r h c => ?_) (Cert.Reference6Ideal.Value.run m' g')
    obtain ⟨h0, ha⟩ := h c
    refine ⟨fun i hi => (congrFun h0 i).trans ?_, ha⟩
    obtain ⟨e0, e1, e2⟩ := hag c
    rw [eq_ix3 i] at hi ⊢
    have hs := of_mask _ _ _ _ _ _ hi
    rw [e0, e1]
    exact (Cert.Reference6Ideal.Read.result _ _ _ hs _ _).trans (final m c _ _ rfl rfl _ hs _ _).symm

end Cert.Kernel6Ideal.Body
end
-- ==== Proof.MmWUpValue.lean ====
module

public import proofs.«01_k».proof.Defs
public import proofs.«01_k».proof.Proof.Gen.Kernel7Ideal.Value
public import proofs.«01_k».proof.Proof.Gen.Reference7Ideal.Run
public import Idealize.ShloMosaic.Lib.StableHlo.ReadAt
public import Idealize.ShloMosaic.Lib.Tactic
public import Idealize.ShloMosaic.Lib.Pointwise
public import Idealize.ShloMosaic.Lib.Quiescent
public import Idealize.ShloMosaic.PureOps.Ideal.Laws

/-! The gradient of w_up's value half: each of its two slabs of columns is one product over all tokens, and the other two slabs are left as
given. -/

@[expose] public section
set_option maxRecDepth 16384
noncomputable section

namespace Cert.Kernel7Ideal.Body
open Cert.Kernel7Ideal Cert.Kernel7Ideal.Gen Idealize.ShloMosaic Idealize.ShloMosaic.TcCoe Idealize.SL.Sem
open Cert.Kernel7Ideal.Value
variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- What a point leaves in its block. -/
def out0_2 (x0 : Vec Ideal S4096x1024 .bf16) (x1 : Vec Ideal S4096x1408 .bf16) : Vec Ideal S1x1024x1408 .bf16 := k0_pay1 x0 x1

theorem out_eq (c : Dev nD) (i : grid0.Coords) (arg3 : Memref sig .tc .vmem S4096x1024 .bf16) (harg3 : arg3.IsWhole) (arg4 : Memref sig .tc .vmem S4096x1408 .bf16) (harg4 : arg4.IsWhole) (arg6 : Memref sig .tc .vmem S1x1024x1408 .bf16) (harg6 : arg6.IsWhole)
    (x0 : Vec Ideal S4096x1024 .bf16) (x1 : Vec Ideal S4096x1408 .bf16) : out0_A_2 c i arg3 harg3 arg4 harg4 arg6 harg6 x0 x1 = out0_2 x0 x1 := by
  unfold out0_A_2
  rw [View.read_writes_junk_eq_canon]
  unfold kernelRun0_A
  dsimp only
  sl_unfold_words
  rw [View.canon_unit_zero hz3]
  simp only [View.readAt_eq_ld, Memref.IsWhole.read_unread, harg4.read_unread]
  rw [View.ld_unit_zero (S := S4096x1024) hz, View.ld_unit_zero (S := S4096x1408) hz]
  rfl

/-- An element of the block a point writes. -/
theorem point (x0 : Vec Ideal S4096x1024 .bf16) (x1 : Vec Ideal S4096x1408 .bf16) (p : Fin 1024) (q : Fin 1408) :
    (out0_2 x0 x1 : Vec Ideal S1x1024x1408 .bf16) (ix3 (0 : Fin 1) p q) = ∑ k : Fin 4096, (x0 (ix2 k p) : EReal) * (x1 (ix2 k q) : EReal) := by
  unfold out0_2
  pointwise [k0_pay1]

theorem idx_0 : ∀ t : Fin cfg0.N, win0_0.index t 0 = 0 ∧ win0_0.index t 1 = 0 := by decide +kernel
theorem idx_1 : ∀ t : Fin cfg0.N, win0_1.index t 0 = 0 ∧ win0_1.index t 1 = t.val := by decide +kernel
theorem idx_2 : ∀ t : Fin cfg0.N, win0_2.index t 0 = t.val + 2 ∧ win0_2.index t 1 = 0 ∧ win0_2.index t 2 = 0 := by decide +kernel

/-- Window 0's block at point `t`, read from the argument. -/
theorem blk0 (c : Dev nD) (a : FVec Ideal S4096x1024 .bf16) (h : m ((c : Thread nD τ).loc main_arg0) = a) (t : Fin cfg0.N) (x : Fin 4096) (y : Fin 1024)  :
    ((iblk m c 0 t : Vec Ideal S4096x1024 .bf16) (ix2 x y) : EReal) = a (ix2 x y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 4096 + 1 * x.val = x.val; rw [(idx_0 t).1]; omega
  | ⟨1, _⟩ => show win0_0.index t 1 * 1024 + 1 * y.val = y.val; rw [(idx_0 t).2]; omega

/-- Window 1's block at point `t`, read from the argument. -/
theorem blk1 (c : Dev nD) (a : FVec Ideal S4096x2816 .bf16) (h : m ((c : Thread nD τ).loc main_arg1) = a) (t : Fin cfg0.N) (x : Fin 4096) (y : Fin 1408) (y1 : Fin 2816) (hy1 : y1.val = 1408 * (t.val) + y.val) :
    ((iblk m c 1 t : Vec Ideal S4096x1408 .bf16) (ix2 x y) : EReal) = a (ix2 x y1) := by
  refine Eq.trans ?_ (congrFun h _)
  rw [← V_main_arg1 m c]
  unfold iblk
  rw [View.read_apply]
  refine congrArg (V m c main_arg1) (funext fun a => Fin.ext ?_)
  match a with
  | ⟨0, _⟩ => show win0_1.index t 0 * 4096 + 1 * x.val = x.val; rw [(idx_1 t).1]; omega
  | ⟨1, _⟩ => show win0_1.index t 1 * 1408 + 1 * y.val = y1.val; rw [(idx_1 t).2]; omega

/-- The slabs the call writes: the product of the whole arrays. -/
theorem final (c : Dev nD) (a0 : FVec Ideal S4096x1024 .bf16) (a1 : FVec Ideal S4096x2816 .bf16) (h0 : m ((c : Thread nD τ).loc main_arg0) = a0) (h1 : m ((c : Thread nD τ).loc main_arg1) = a1) (s : Fin 4) (hs : 2 ≤ s.val) (i : Fin 1024) (j : Fin 1408) :
    ((dats m 0 c).arrAt 2 cfg0.N : Vec Ideal S4x1024x1408 .bf16) (ix3 s i j)
      = ∑ k : Fin 4096, (a0 (ix2 k i) : EReal) * (a1 (ix2 k (⟨1408 * (s.val - 2) + j.val, by omega⟩ : Fin 2816)) : EReal) := by
  have hN : cfg0.N = 2 := N_0
  let t : Fin cfg0.N := ⟨s.val - 2, by omega⟩
  have ht : t.val = s.val - 2 := rfl
  have hb := blocks2 m c t (flush0_2 t)
  rw [flushed2_A, out_eq] at hb
  have hb1 := congrFun hb (ix3 (0 : Fin 1) i j)
  have e : ((cfg0.win 2).blk t).view.emb (ix3 (0 : Fin 1) i j) = (ix3 s i j : S4x1024x1408.Idx) := funext fun a => Fin.ext (by
    match a with
    | ⟨0, _⟩ => show win0_2.index t 0 * 1 + 1 * 0 = s.val; rw [(idx_2 t).1]; omega
    | ⟨1, _⟩ => show win0_2.index t 1 * 1024 + 1 * i.val = i.val; rw [(idx_2 t).2.1]; omega
    | ⟨2, _⟩ => show win0_2.index t 2 * 1408 + 1 * j.val = j.val; rw [(idx_2 t).2.2]; omega)
  rw [View.read_apply, e] at hb1
  refine hb1.trans ((point (iblk m c 0 t) (iblk m c 1 t) i j).trans ?_)
  refine Finset.sum_congr rfl fun k _ => ?_
  exact congrArg₂ (fun x y : EReal => x * y) (blk0 m c _ h0 t k i) (blk1 m c _ h1 t k j ⟨1408 * (s.val - 2) + j.val, by omega⟩ (by simp only [t]))

/-- The other slabs are the given ones. -/
theorem kept (c : Dev nD) (s : Fin 4) (hs : s.val < 2) (i : Fin 1024) (j : Fin 1408) :
    ((dats m 0 c).arrAt 2 cfg0.N : Vec Ideal S4x1024x1408 .bf16) (ix3 s i j) = (m ((c : Thread nD τ).loc main_arg3) : Vec Ideal S4x1024x1408 .bf16) (ix3 s i j) := by
  refine (entry2 m c _ fun t _ hm => ?_).trans ?_
  · rw [View.set_slice_whole, Rect.mem_set_unit] at hm
    have h := (hm 0).1
    change win0_2.index t 0 * 1 ≤ s.val at h
    rw [(idx_2 t).1] at h
    omega
  · show V m c main_v0 (ix3 s i j) = _
    unfold V
    after_reads_at
    rfl

end Cert.Kernel7Ideal.Body

namespace Cert.Reference7Ideal.Read
open Cert.Reference7Ideal Cert.Reference7Ideal.Gen Cert.Reference7Ideal.Value Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, sem_eq_zero_of_no_sems (by decide) r.2⟩) (run m ρ)

def term (a0 : FVec Ideal S4096x1024 .bf16) (a1 : FVec Ideal S4096x2816 .bf16) (a3 : FVec Ideal S4x1024x1408 .bf16) : Vec Ideal S4x1024x1408 .bf16 :=
  concatenate S4x1024x1408 0 [⟨S2x1024x1408, (extractStridedSlice S2x1024x1408 ![0, 0, 0] a3 slices_S4x1024x1408_S2x1024x1408_0_0_0)⟩, ⟨S2x1024x1408, (extractStridedSlice S2x1024x1408 ![2, 0, 0] ((concatenate S4x1024x1408 0 [⟨S1x1024x1408, ((broadcastInDim S1x1024x1408 ![1, 2] bcast_S1024x1408_S1x1024x1408_1_2 (extractStridedSlice S1024x1408 ![0, 0] (truncf (F := Ideal) (φ := .f32) .bf16 (pad S1024x5632 ![0, 2816] ![0, 0] ![0, 0] (transpose S1024x2816 [1, 0] (Host.dotGeneral (F := Ideal) (φ₁ := .f32) (φ₂ := .f32) dot_S4096x2816_S4096x1024_S2816x1024_0_0_1_1_n_n none (extf .f32 a1 bitsLt_bf16_f32) (extf .f32 a0 bitsLt_bf16_f32)) transposes_S2816x1024_S1024x2816_1_0) (constant (F := Ideal) S_ .f32 0x00000000#32) pads_S1024x2816_S1024x5632_000_281600 h_S_) bitsLt_bf16_f32) slices_S1024x5632_S1024x1408_0_0)) : (⟨S1x1024x1408, .bf16⟩ : BufTy).Contents (Elt Ideal))⟩, ⟨S1x1024x1408, ((broadcastInDim S1x1024x1408 ![1, 2] bcast_S1024x1408_S1x1024x1408_1_2 (extractStridedSlice S1024x1408 ![0, 1408] (truncf (F := Ideal) (φ := .f32) .bf16 (pad S1024x5632 ![0, 2816] ![0, 0] ![0, 0] (transpose S1024x2816 [1, 0] (Host.dotGeneral (F := Ideal) (φ₁ := .f32) (φ₂ := .f32) dot_S4096x2816_S4096x1024_S2816x1024_0_0_1_1_n_n none (extf .f32 a1 bitsLt_bf16_f32) (extf .f32 a0 bitsLt_bf16_f32)) transposes_S2816x1024_S1024x2816_1_0) (constant (F := Ideal) S_ .f32 0x00000000#32) pads_S1024x2816_S1024x5632_000_281600 h_S_) bitsLt_bf16_f32) slices_S1024x5632_S1024x1408_0_1408)) : (⟨S1x1024x1408, .bf16⟩ : BufTy).Contents (Elt Ideal))⟩, ⟨S1x1024x1408, ((broadcastInDim S1x1024x1408 ![1, 2] bcast_S1024x1408_S1x1024x1408_1_2 (extractStridedSlice S1024x1408 ![0, 2816] (truncf (F := Ideal) (φ := .f32) .bf16 (pad S1024x5632 ![0, 2816] ![0, 0] ![0, 0] (transpose S1024x2816 [1, 0] (Host.dotGeneral (F := Ideal) (φ₁ := .f32) (φ₂ := .f32) dot_S4096x2816_S4096x1024_S2816x1024_0_0_1_1_n_n none (extf .f32 a1 bitsLt_bf16_f32) (extf .f32 a0 bitsLt_bf16_f32)) transposes_S2816x1024_S1024x2816_1_0) (constant (F := Ideal) S_ .f32 0x00000000#32) pads_S1024x2816_S1024x5632_000_281600 h_S_) bitsLt_bf16_f32) slices_S1024x5632_S1024x1408_0_2816)) : (⟨S1x1024x1408, .bf16⟩ : BufTy).Contents (Elt Ideal))⟩, ⟨S1x1024x1408, ((broadcastInDim S1x1024x1408 ![1, 2] bcast_S1024x1408_S1x1024x1408_1_2 (extractStridedSlice S1024x1408 ![0, 4224] (truncf (F := Ideal) (φ := .f32) .bf16 (pad S1024x5632 ![0, 2816] ![0, 0] ![0, 0] (transpose S1024x2816 [1, 0] (Host.dotGeneral (F := Ideal) (φ₁ := .f32) (φ₂ := .f32) dot_S4096x2816_S4096x1024_S2816x1024_0_0_1_1_n_n none (extf .f32 a1 bitsLt_bf16_f32) (extf .f32 a0 bitsLt_bf16_f32)) transposes_S2816x1024_S1024x2816_1_0) (constant (F := Ideal) S_ .f32 0x00000000#32) pads_S1024x2816_S1024x5632_000_281600 h_S_) bitsLt_bf16_f32) slices_S1024x5632_S1024x1408_0_4224)) : (⟨S1x1024x1408, .bf16⟩ : BufTy).Contents (Elt Ideal))⟩] concatenates_S1x1024x1408_S1x1024x1408_S1x1024x1408_S1x1024x1408_S4x1024x1408_d0 : (⟨S4x1024x1408, .bf16⟩ : BufTy).Contents (Elt Ideal))) slices_S4x1024x1408_S2x1024x1408_2_0_0)⟩] concatenates_S2x1024x1408_S2x1024x1408_S4x1024x1408_d0

theorem result (a0 : FVec Ideal S4096x1024 .bf16) (a1 : FVec Ideal S4096x2816 .bf16) (a3 : FVec Ideal S4x1024x1408 .bf16) (s : Fin 4) (hs : 2 ≤ s.val) (i : Fin 1024) (j : Fin 1408) :
    term a0 a1 a3 (ix3 s i j) = ∑ k : Fin 4096, (a0 (ix2 k i) : EReal) * (a1 (ix2 k (⟨1408 * (s.val - 2) + j.val, by omega⟩ : Fin 2816)) : EReal) := by
  refine Eq.trans (b := ∑ k : Fin 4096, (a1 (ix2 k (⟨1408 * (s.val - 2) + j.val, by omega⟩ : Fin 2816)) : EReal) * (a0 (ix2 k i) : EReal)) ?_ (Finset.sum_congr rfl fun k _ => mul_comm _ _)
  match s, hs with
  | ⟨2, _⟩, hs =>
    pointwise [term]
    rw [dif_pos (by omega)]
  | ⟨3, _⟩, hs =>
    pointwise [term]
    rw [dif_pos (by omega)]
    refine Finset.sum_congr rfl fun k _ => ?_
    rw [show (⟨4224 + j.val - 2816, by omega⟩ : Fin 2816) = ⟨1408 + j.val, by omega⟩ from Fin.ext (by simp only; omega)]

theorem kept (a0 : FVec Ideal S4096x1024 .bf16) (a1 : FVec Ideal S4096x2816 .bf16) (a3 : FVec Ideal S4x1024x1408 .bf16) (s : Fin 4) (hs : s.val < 2) (i : Fin 1024) (j : Fin 1408) :
    term a0 a1 a3 (ix3 s i j) = a3 (ix3 s i j) := by
  match s, hs with
  | ⟨0, _⟩, hs =>
    pointwise [term]
  | ⟨1, _⟩, hs =>
    pointwise [term]

end Cert.Reference7Ideal.Read

namespace Cert.Kernel7Ideal.Body
open Idealize.ShloMosaic Idealize.ShloMosaic.TcCoe Idealize.SL.Sem

theorem algebraic : Cert.algebraic_Kernel7Ideal_Reference7Ideal := by
  intro m g m' g' hpre hag
  refine ⟨fun c => (Cert.Kernel7Ideal.Gen.dats m 0 c).arrAt 2 Cert.Kernel7Ideal.cfg0.N, Cert.Kernel7Ideal.Value.run_blocks m g, ?_⟩
  refine (θ_run Cert.Reference7Ideal.defs _ _).mono (fun r h c => ?_) (Cert.Reference7Ideal.Value.run m' g')
  obtain ⟨h0, ha⟩ := h c
  refine ⟨h0.trans (funext fun i => ?_), ha⟩
  obtain ⟨e0, e1, e2, e3⟩ := hag c
  rw [e0, e1, e3, eq_ix3 i]
  by_cases hs : (i 0).val < 2
  · exact (Cert.Reference7Ideal.Read.kept _ _ _ _ hs _ _).trans (kept m c _ hs _ _).symm
  · exact (Cert.Reference7Ideal.Read.result _ _ _ _ (Nat.le_of_not_lt hs) _ _).trans (final m c _ _ rfl rfl _ (Nat.le_of_not_lt hs) _ _).symm

end Cert.Kernel7Ideal.Body
end
-- ==== Proof.MmNormIn.lean ====
module

public import proofs.«01_k».proof.Defs
public import proofs.«01_k».proof.Proof.Gen.Kernel8Ideal.Value
public import proofs.«01_k».proof.Proof.Gen.Reference8Ideal.Run
public import proofs.«01_k».proof.Proof.MmNormMath
public import Idealize.ShloMosaic.Lib.StableHlo.ReadAt
public import Idealize.ShloMosaic.Lib.Tactic
public import Idealize.ShloMosaic.Lib.Pointwise
public import Idealize.ShloMosaic.Lib.Quiescent
public import Idealize.ShloMosaic.PureOps.Ideal.Laws

/-! The gradient to the layer's input through w_in and the first norm, with the gradient that comes past the mixers, and the gradient
to the norm's gain, kept from one block of tokens to the next. -/

@[expose] public section
set_option maxRecDepth 16384
noncomputable section

namespace Cert.Kernel8Ideal.Body
open Cert.Kernel8Ideal Cert.Kernel8Ideal.Gen Idealize.ShloMosaic Idealize.ShloMosaic.TcCoe Idealize.SL.Sem
open Cert.Kernel8Ideal.Value
open Cert.Norm
variable (m : (ℓ : Loc nD τ sig) → Buf (Elt Ideal) ℓ)

theorem hz : (![0, 0] : Fin 2 → Nat) = fun _ => 0 := funext fun a => by fin_cases a <;> rfl

/-- A load of a whole rank-two buffer reads its contents. -/
theorem ldz {d : Fin 2 → Nat} {e : EltTy} (inb : ∀ a, (![0, 0] : Fin 2 → Nat) a + d a ≤ d a)
    (X : Shape.Idx ⟨2, d⟩ → Elt Ideal e) : View.ld X (Rect.unit (s := ⟨2, d⟩) ![0, 0] d inb) = X :=
  View.ld_unit_zero (S := ⟨2, d⟩) hz inb X

/-- The gradient to the norm's output, in a block of tokens. -/
def blockGrad (x0 : Vec Ideal S1024x2304 .bf16) (x1 : Vec Ideal S1024x2304 .bf16) : FVec Ideal S1024x1024 .f32 := k0_pay3 x0 x1

/-- The block of the first result. -/
def blockIn (x0 : Vec Ideal S1024x2304 .bf16) (x1 : Vec Ideal S1024x2304 .bf16) (x2 : Vec Ideal S1024x1024 .f32) (x3 : Vec Ideal S1x1024 .f32) (x4 : Vec Ideal S1024x1024 .f32) : FVec Ideal S1024x1024 .f32 := k0_pay5 x0 x1 x2 x3 x4

/-- The block's part of the second result. -/
def blockGain (x0 : Vec Ideal S1024x2304 .bf16) (x1 : Vec Ideal S1024x2304 .bf16) (x2 : Vec Ideal S1024x1024 .f32) : FVec Ideal S1x1024 .f32 := k0_pay1 (k0_pay6 x0 x1 x2)

/-- What a later point makes of the second result. -/
def addGain (x0 : Vec Ideal S1024x2304 .bf16) (x1 : Vec Ideal S1024x2304 .bf16) (x2 : Vec Ideal S1024x1024 .f32) (xo : Vec Ideal S1x1024 .f32) : FVec Ideal S1x1024 .f32 := k0_pay2 (k0_pay6 x0 x1 x2) xo

section
variable (c : Dev nD) (i : grid0.Coords) (arg3 : Memref sig .tc .vmem S1024x2304 .bf16) (harg3 : arg3.IsWhole) (arg4 : Memref sig .tc .vmem S1024x2304 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1x1024 .f32) (harg9 : arg9.IsWhole) (hc0 : cond0_0 i) (hc1 : ¬cond0_1 i) (x0 : Vec Ideal S1024x2304 .bf16) (x1 : Vec Ideal S1024x2304 .bf16) (x2 : Vec Ideal S1024x1024 .f32) (x3 : Vec Ideal S1x1024 .f32) (x4 : Vec Ideal S1024x1024 .f32)

theorem out0_A_5_eq :
    out0_A_5 c i arg3 harg3 arg4 harg4 arg5 harg5 arg6 harg6 arg7 harg7 arg8 harg8 arg9 harg9 hc0 hc1 x0 x1 x2 x3 x4 = blockIn x0 x1 x2 x3 x4 := by
  unfold out0_A_5
  rw [View.read_writes_junk_eq_canon]
  unfold kernelRun0_A
  dsimp only
  sl_unfold_words
  rw [View.canon_unit_zero (S := S1024x1024) hz]
  simp only [View.readAt_eq_ld, Memref.IsWhole.read_unread, ldz]
  rfl

theorem out0_A_6_eq :
    out0_A_6 c i arg3 harg3 arg4 harg4 arg5 harg5 arg6 harg6 arg7 harg7 arg8 harg8 arg9 harg9 hc0 hc1 x0 x1 x2 x3 x4 = blockGain x0 x1 x2 := by
  unfold out0_A_6
  rw [View.read_writes_junk_eq_canon]
  unfold kernelRun0_A
  dsimp only
  sl_unfold_words
  rw [View.canon_unit_zero (S := S1x1024) hz]
  simp only [View.readAt_eq_ld, Memref.IsWhole.read_unread, ldz]
  rfl

end

section
variable (c : Dev nD) (i : grid0.Coords) (arg3 : Memref sig .tc .vmem S1024x2304 .bf16) (harg3 : arg3.IsWhole) (arg4 : Memref sig .tc .vmem S1024x2304 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1x1024 .f32) (harg9 : arg9.IsWhole) (hc0 : ¬cond0_0 i) (hc1 : cond0_1 i) (x0 : Vec Ideal S1024x2304 .bf16) (x1 : Vec Ideal S1024x2304 .bf16) (x2 : Vec Ideal S1024x1024 .f32) (x3 : Vec Ideal S1x1024 .f32) (x4 : Vec Ideal S1024x1024 .f32) (xo6 : Vec Ideal S1x1024 .f32)

theorem out0_B_5_eq :
    out0_B_5 c i arg3 harg3 arg4 harg4 arg5 harg5 arg6 harg6 arg7 harg7 arg8 harg8 arg9 harg9 hc0 hc1 x0 x1 x2 x3 x4 xo6 = blockIn x0 x1 x2 x3 x4 := by
  unfold out0_B_5
  rw [View.read_writes_junk_eq_canon]
  unfold kernelRun0_B
  dsimp only
  sl_unfold_words
  rw [View.canon_unit_zero (S := S1024x1024) hz]
  simp only [View.readAt_eq_ld, Memref.IsWhole.read_unread, ldz]
  rfl

theorem out0_B_6_eq :
    out0_B_6 c i arg3 harg3 arg4 harg4 arg5 harg5 arg6 harg6 arg7 harg7 arg8 harg8 arg9 harg9 hc0 hc1 x0 x1 x2 x3 x4 xo6 = addGain x0 x1 x2 xo6 := by
  unfold out0_B_6
  rw [View.read_writes_junk_eq_canon]
  unfold kernelRun0_B
  dsimp only
  sl_unfold_words
  rw [View.canon_unit_zero (S := S1x1024) hz]
  simp only [View.readAt_eq_ld, Memref.IsWhole.read_unread, ldz]
  rfl

end

/-! ## A block, entry by entry -/

theorem blockIn_apply (x0 : Vec Ideal S1024x2304 .bf16) (x1 : Vec Ideal S1024x2304 .bf16) (x2 : Vec Ideal S1024x1024 .f32) (x3 : Vec Ideal S1x1024 .f32) (x4 : Vec Ideal S1024x1024 .f32) (p : Fin 1024) (q : Fin 1024) :
    (blockIn x0 x1 x2 x3 x4 (ix2 p q) : EReal)
      = toInput (fun y => (x4 (ix2 p y) : EReal)) (fun y => (blockGrad x0 x1 (ix2 p y) : EReal)) (fun y => (x2 (ix2 p y) : EReal)) (fun y => (x3 (ix2 (0 : Fin 1) y) : EReal)) q := by
  unfold blockGrad
  pointwise [blockIn, k0_pay5, k0_pay4]
  rfl

theorem blockGain_apply (x0 : Vec Ideal S1024x2304 .bf16) (x1 : Vec Ideal S1024x2304 .bf16) (x2 : Vec Ideal S1024x1024 .f32) (q : Fin 1024) :
    (blockGain x0 x1 x2 (ix2 (0 : Fin 1) q) : EReal) = ∑ p : Fin 1024, toGain (fun y => (blockGrad x0 x1 (ix2 p y) : EReal)) (fun y => (x2 (ix2 p y) : EReal)) q := by
  unfold blockGrad
  pointwise [blockGain, k0_pay1, k0_pay6, k0_pay4]
  rfl

theorem addGain_apply (x0 : Vec Ideal S1024x2304 .bf16) (x1 : Vec Ideal S1024x2304 .bf16) (x2 : Vec Ideal S1024x1024 .f32) (xo : Vec Ideal S1x1024 .f32) (q : Fin 1024) :
    (addGain x0 x1 x2 xo (ix2 (0 : Fin 1) q) : EReal) = (xo (ix2 (0 : Fin 1) q) : EReal) + (blockGain x0 x1 x2 (ix2 (0 : Fin 1) q) : EReal) := by
  unfold blockGain
  pointwise [addGain, k0_pay2]

theorem blockGrad_apply (x0 : Vec Ideal S1024x2304 .bf16) (x1 : Vec Ideal S1024x2304 .bf16) (p : Fin 1024) (q : Fin 1024) :
    (blockGrad x0 x1 (ix2 p q) : EReal) = ∑ k : Fin 2304, (x0 (ix2 p k) : EReal) * (x1 (ix2 q k) : EReal) := by
  pointwise [blockGrad, k0_pay3]

/-! ## The blocks in the arrays -/

theorem idx_0 : ∀ t : Fin cfg0.N, win0_0.index t 0 = t.val ∧ win0_0.index t 1 = 0 := by decide +kernel
theorem idx_1 : ∀ t : Fin cfg0.N, win0_1.index t 0 = 0 ∧ win0_1.index t 1 = 0 := by decide +kernel
theorem idx_2 : ∀ t : Fin cfg0.N, win0_2.index t 0 = t.val ∧ win0_2.index t 1 = 0 := by decide +kernel
theorem idx_3 : ∀ t : Fin cfg0.N, win0_3.index t 0 = 0 ∧ win0_3.index t 1 = 0 := by decide +kernel
theorem idx_4 : ∀ t : Fin cfg0.N, win0_4.index t 0 = t.val ∧ win0_4.index t 1 = 0 := by decide +kernel
theorem idx_5 : ∀ t : Fin cfg0.N, win0_5.index t 0 = t.val ∧ win0_5.index t 1 = 0 := by decide +kernel
theorem idx_6 : ∀ t : Fin cfg0.N, win0_6.index t 0 = 0 ∧ win0_6.index t 1 = 0 := by decide +kernel
theorem t_lt (t : Fin cfg0.N) : t.val < 4 := by have := t.isLt; have hN : cfg0.N = 4 := N_0; omega

/-- The host's cast keeps the argument's values. -/
theorem host1 (c : Dev nD) (a : FVec Ideal S1024x2304 .f32) (h : m ((c : Thread nD τ).loc main_arg1) = a) (x : Fin 1024) (y : Fin 2304) :
    ((V m c main_v0 : Vec Ideal S1024x2304 .bf16) (ix2 x y) : EReal) = a (ix2 x y) := by
  refine Eq.trans ?_ (congrFun h _)
  unfold V
  after_reads_at

/-- The gain, as a row. -/
theorem host3 (c : Dev nD) (a : FVec Ideal S1024 .f32) (h : m ((c : Thread nD τ).loc main_arg3) = a) (y : Fin 1024) :
    ((V m c main_v1 : Vec Ideal S1x1024 .f32) (ix2 (0 : Fin 1) y) : EReal) = a (ix1 y) := by
  refine Eq.trans ?_ (congrFun h _)
  unfold V
  after_reads_at

/-- Window 0's block at point `t`, read from the argument. -/
theorem blk0 (c : Dev nD) (a : FVec Ideal S4096x2304 .bf16) (h : m ((c : Thread nD τ).loc main_arg0) = a) (t : Fin cfg0.N) (x : Fin 1024) (y : Fin 2304) (x1 : Fin 4096) (hx1 : x1.val = 1024 * (t.val) + x.val) :
    ((iblk m c 0 t : Vec Ideal S1024x2304 .bf16) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 1024 + 1 * x.val = x1.val; rw [(idx_0 t).1]; omega
  | ⟨1, _⟩ => show win0_0.index t 1 * 2304 + 1 * y.val = y.val; rw [(idx_0 t).2]; omega

/-- Window 1's block at point `t`, read from the argument. -/
theorem blk1 (c : Dev nD) (a : FVec Ideal S1024x2304 .f32) (h : m ((c : Thread nD τ).loc main_arg1) = a) (t : Fin cfg0.N) (x : Fin 1024) (y : Fin 2304)  :
    ((iblk m c 1 t : Vec Ideal S1024x2304 .bf16) (ix2 x y) : EReal) = a (ix2 x y) := by
  refine Eq.trans ?_ (host1 m c a h x y)
  unfold iblk
  rw [View.read_apply]
  refine congrArg (V m c main_v0) (funext fun a => Fin.ext ?_)
  match a with
  | ⟨0, _⟩ => show win0_1.index t 0 * 1024 + 1 * x.val = x.val; rw [(idx_1 t).1]; omega
  | ⟨1, _⟩ => show win0_1.index t 1 * 2304 + 1 * y.val = y.val; rw [(idx_1 t).2]; omega

/-- Window 2's block at point `t`, read from the argument. -/
theorem blk2 (c : Dev nD) (a : FVec Ideal S4096x1024 .f32) (h : m ((c : Thread nD τ).loc main_arg2) = a) (t : Fin cfg0.N) (x : Fin 1024) (y : Fin 1024) (x1 : Fin 4096) (hx1 : x1.val = 1024 * (t.val) + x.val) :
    ((iblk m c 2 t : Vec Ideal S1024x1024 .f32) (ix2 x y) : EReal) = a (ix2 x1 y) := by
  refine Eq.trans ?_ (congrFun h _)
  rw [← V_main_arg2 m c]
  unfold iblk
  rw [View.read_apply]
  refine congrArg (V m c main_arg2) (funext fun a => Fin.ext ?_)
  match a with
  | ⟨0, _⟩ => show win0_2.index t 0 * 1024 + 1 * x.val = x1.val; rw [(idx_2 t).1]; omega
  | ⟨1, _⟩ => show win0_2.index t 1 * 1024 + 1 * y.val = y.val; rw [(idx_2 t).2]; omega

/-- Window 4's block at point `t`, read from the argument. -/
theorem blk4 (c : Dev nD) (a : FVec Ideal S4096x1024 .f32) (h : m ((c : Thread nD τ).loc main_arg4) = a) (t : Fin cfg0.N) (x : Fin 1024) (y : Fin 1024) (x1 : Fin 4096) (hx1 : x1.val = 1024 * (t.val) + x.val) :
    ((iblk m c 4 t : Vec Ideal S1024x1024 .f32) (ix2 x y) : EReal) = a (ix2 x1 y) := by
  refine Eq.trans ?_ (congrFun h _)
  rw [← V_main_arg4 m c]
  unfold iblk
  rw [View.read_apply]
  refine congrArg (V m c main_arg4) (funext fun a => Fin.ext ?_)
  match a with
  | ⟨0, _⟩ => show win0_4.index t 0 * 1024 + 1 * x.val = x1.val; rw [(idx_4 t).1]; omega
  | ⟨1, _⟩ => show win0_4.index t 1 * 1024 + 1 * y.val = y.val; rw [(idx_4 t).2]; omega

/-- The gain's row at point `t`. -/
theorem blk3 (c : Dev nD) (a : FVec Ideal S1024 .f32) (h : m ((c : Thread nD τ).loc main_arg3) = a) (t : Fin cfg0.N) (y : Fin 1024) :
    ((iblk m c 3 t : Vec Ideal S1x1024 .f32) (ix2 (0 : Fin 1) y) : EReal) = a (ix1 y) := by
  refine Eq.trans ?_ (host3 m c a h y)
  unfold iblk
  rw [View.read_apply]
  refine congrArg (V m c main_v1) (funext fun a => Fin.ext ?_)
  match a with
  | ⟨0, _⟩ => show win0_3.index t 0 * 1 + 1 * 0 = 0; rw [(idx_3 t).1]
  | ⟨1, _⟩ => show win0_3.index t 1 * 1024 + 1 * y.val = y.val; rw [(idx_3 t).2]; omega

/-- The gradient to the norm's output for a token. -/
def grad (a0 : FVec Ideal S4096x2304 .bf16) (a1 : FVec Ideal S1024x2304 .f32) (i : Fin 4096) (y : Fin 1024) : EReal :=
  ∑ k : Fin 2304, (a0 (ix2 i k) : EReal) * (a1 (ix2 y k) : EReal)

theorem grad_eq (c : Dev nD) (a0 : FVec Ideal S4096x2304 .bf16) (a1 : FVec Ideal S1024x2304 .f32) (h0 : m ((c : Thread nD τ).loc main_arg0) = a0) (h1 : m ((c : Thread nD τ).loc main_arg1) = a1) (t : Fin cfg0.N) (p : Fin 1024) (i : Fin 4096) (hi : i.val = 1024 * t.val + p.val)
    (x0 : Vec Ideal S1024x2304 .bf16) (x1 : Vec Ideal S1024x2304 .bf16) (e0 : iblk m c 0 t = x0) (e1 : iblk m c 1 t = x1) :
    (fun y => (blockGrad x0 x1 (ix2 p y) : EReal)) = grad a0 a1 i := by
  subst e0 e1
  refine funext fun y => (blockGrad_apply _ _ p y).trans ?_
  exact Finset.sum_congr rfl fun k _ => congrArg₂ (fun x y : EReal => x * y) (blk0 m c _ h0 t p k i hi) (blk1 m c _ h1 t y k)

theorem gain_blk (c : Dev nD) (a0 : FVec Ideal S4096x2304 .bf16) (a1 : FVec Ideal S1024x2304 .f32) (a2 : FVec Ideal S4096x1024 .f32) (h0 : m ((c : Thread nD τ).loc main_arg0) = a0) (h1 : m ((c : Thread nD τ).loc main_arg1) = a1) (h2 : m ((c : Thread nD τ).loc main_arg2) = a2) (t : Fin cfg0.N) (q : Fin 1024)
    (x0 : Vec Ideal S1024x2304 .bf16) (x1 : Vec Ideal S1024x2304 .bf16) (x2 : Vec Ideal S1024x1024 .f32) (e0 : iblk m c 0 t = x0) (e1 : iblk m c 1 t = x1) (e2 : iblk m c 2 t = x2) :
    (blockGain x0 x1 x2 (ix2 (0 : Fin 1) q) : EReal) = ∑ p ∈ Finset.range 1024, atPos (fun i => toGain (grad a0 a1 i) (fun y => (a2 (ix2 i y) : EReal)) q) (1024 * t.val + p) := by
  have ht := t_lt t
  rw [Finset.sum_range]
  refine (blockGain_apply x0 x1 x2 q).trans (Finset.sum_congr rfl fun p _ => ?_)
  rw [atPos_eq _ _ (⟨1024 * t.val + p.val, by omega⟩ : Fin 4096) rfl]
  refine congrArg₂ (fun d x => toGain d x q) (grad_eq m c a0 a1 h0 h1 t p _ rfl x0 x1 e0 e1) (funext fun y => ?_)
  subst e2
  exact blk2 m c a2 h2 t p y _ rfl

/-- The second result after each point: the sum over the tokens so far. -/
theorem gain_left (c : Dev nD) (a0 : FVec Ideal S4096x2304 .bf16) (a1 : FVec Ideal S1024x2304 .f32) (a2 : FVec Ideal S4096x1024 .f32) (h0 : m ((c : Thread nD τ).loc main_arg0) = a0) (h1 : m ((c : Thread nD τ).loc main_arg1) = a1) (h2 : m ((c : Thread nD τ).loc main_arg2) = a2) (q : Fin 1024) : ∀ (n : ℕ) (hn : n < cfg0.N),
    ((outsAt0 m c n hn).2 (ix2 (0 : Fin 1) q) : EReal) = ∑ r ∈ Finset.range (1024 * (n + 1)), atPos (fun i => toGain (grad a0 a1 i) (fun y => (a2 (ix2 i y) : EReal)) q) r
  | 0, hn => by
    rw [show outsAt0 m c 0 hn = _ from outsAt0_A m c ⟨0, hn⟩ (Nat.zero_mod 4) (by show ¬1 ≤ 0; omega), out0_A_6_eq]
    refine (gain_blk m c a0 a1 a2 h0 h1 h2 ⟨0, hn⟩ q _ _ _ rfl rfl rfl).trans ?_
    simp only [Nat.mul_zero, Nat.zero_add, Nat.mul_one]
  | n + 1, hn => by
    have hN : cfg0.N = 4 := N_0
    have ih := gain_left c a0 a1 a2 h0 h1 h2 q n (by omega)
    rw [show outsAt0 m c (n + 1) hn = _ from outsAt0_B m c ⟨n + 1, hn⟩ (by simp only; omega) (by simp only; omega), out0_B_6_eq]
    simp only [Nat.add_sub_cancel]
    refine (addGain_apply _ _ _ _ q).trans ?_
    rw [show 1024 * (n + 1 + 1) = 1024 * (n + 1) + 1024 from by omega, Finset.sum_range_add]
    exact congrArg₂ (fun x y : EReal => x + y) ih (gain_blk m c a0 a1 a2 h0 h1 h2 ⟨n + 1, hn⟩ q _ _ _ rfl rfl rfl)

/-- The first result after each point: its block. -/
theorem in_left (c : Dev nD) (t : Fin cfg0.N) : (outsAt0 m c t.val t.isLt).1 = blockIn (iblk m c 0 t) (iblk m c 1 t) (iblk m c 2 t) (iblk m c 3 t) (iblk m c 4 t) := by
  have ht := t_lt t
  by_cases h : t.val = 0
  · rw [outsAt0_A m c t (by omega) (by omega), out0_A_5_eq]
  · rw [outsAt0_B m c t (by omega) (by omega), out0_B_5_eq]

/-! ## The arrays -/

/-- The gradient to the norm's input. -/
theorem final5 (c : Dev nD) (a0 : FVec Ideal S4096x2304 .bf16) (a1 : FVec Ideal S1024x2304 .f32) (a2 : FVec Ideal S4096x1024 .f32) (a3 : FVec Ideal S1024 .f32) (a4 : FVec Ideal S4096x1024 .f32) (h0 : m ((c : Thread nD τ).loc main_arg0) = a0) (h1 : m ((c : Thread nD τ).loc main_arg1) = a1) (h2 : m ((c : Thread nD τ).loc main_arg2) = a2) (h3 : m ((c : Thread nD τ).loc main_arg3) = a3) (h4 : m ((c : Thread nD τ).loc main_arg4) = a4) (i : Fin 4096) (j : Fin 1024) :
    ((dats m 0 c).arrAt 5 cfg0.N : Vec Ideal S4096x1024 .f32) (ix2 i j)
      = toInput (fun y => (a4 (ix2 i y) : EReal)) (grad a0 a1 i) (fun y => (a2 (ix2 i y) : EReal)) (fun y => (a3 (ix1 y) : EReal)) j := by
  have hN : cfg0.N = 4 := N_0
  let t : Fin cfg0.N := ⟨i.val / 1024, by omega⟩
  have hi : i.val = 1024 * t.val + (⟨i.val % 1024, by omega⟩ : Fin 1024).val := by simp only [t]; omega
  have hb := blocks5 m c t (flush0_5 t)
  rw [flushed5, in_left] at hb
  have hb1 := congrFun hb (ix2 (⟨i.val % 1024, by omega⟩ : Fin 1024) j)
  have e : ((cfg0.win 5).blk t).view.emb (ix2 (⟨i.val % 1024, by omega⟩ : Fin 1024) j) = (ix2 i j : S4096x1024.Idx) := funext fun a => Fin.ext (by
    match a with
    | ⟨0, _⟩ => show win0_5.index t 0 * 1024 + 1 * (i.val % 1024) = i.val; rw [(idx_5 t).1]; simp only [t]; omega
    | ⟨1, _⟩ => show win0_5.index t 1 * 1024 + 1 * j.val = j.val; rw [(idx_5 t).2]; omega)
  rw [View.read_apply, e] at hb1
  refine hb1.trans ((blockIn_apply (iblk m c 0 t) (iblk m c 1 t) (iblk m c 2 t) (iblk m c 3 t) (iblk m c 4 t) ⟨i.val % 1024, by omega⟩ j).trans ?_)
  rw [grad_eq m c a0 a1 h0 h1 t _ i hi _ _ rfl rfl]
  rw [show (fun y => ((iblk m c 4 t : Vec Ideal S1024x1024 .f32) (ix2 (⟨i.val % 1024, by omega⟩ : Fin 1024) y) : EReal)) = fun y => a4 (ix2 i y) from funext fun y => blk4 m c a4 h4 t _ y i hi,
    show (fun y => ((iblk m c 2 t : Vec Ideal S1024x1024 .f32) (ix2 (⟨i.val % 1024, by omega⟩ : Fin 1024) y) : EReal)) = fun y => a2 (ix2 i y) from funext fun y => blk2 m c a2 h2 t _ y i hi,
    show (fun y => ((iblk m c 3 t : Vec Ideal S1x1024 .f32) (ix2 (0 : Fin 1) y) : EReal)) = fun y => a3 (ix1 y) from funext fun y => blk3 m c a3 h3 t y]

/-- The last grid point. -/
def tl : Fin cfg0.N := ⟨3, by have hN : cfg0.N = 4 := N_0; omega⟩

/-- The gain's gradient is what the last grid point leaves. -/
theorem final6 (c : Dev nD) : (dats m 0 c).arrAt 6 cfg0.N = (outsAt0 m c tl.val tl.isLt).2 :=
  (dats m 0 c).arrAt_eq_of_cover 6 (outsAt0 m c tl.val tl.isLt).2 (fun t hf => by
    obtain rfl : t = tl := Fin.ext (by have := (flush0_6 t).mp hf; have := t_lt t; show t.val = 3; omega)
    rw [flushed6]
    have hz' : (fun a => win0_6.index tl a * main_v2_1.ty.shape.size a) = fun _ => 0 := funext fun a => by
      match a with
      | ⟨0, _⟩ => show win0_6.index tl 0 * 1 = 0; rw [(idx_6 tl).1]
      | ⟨1, _⟩ => show win0_6.index tl 1 * 1024 = 0; rw [(idx_6 tl).2]
    exact (Memref.read_access_unit_zero (Elt Ideal) main_v2_1 hz' (fun a => by rw [congrFun hz' a]; simp) (outsAt0 m c tl.val tl.isLt).2).symm) fun i =>
    ⟨tl, (flush0_6 tl).mpr rfl, by
      show i ∈ ((View.whole main_v2_1).slice (win0_6.rect tl)).set
      rw [View.set_slice_whole, Rect.mem_set_unit]
      intro a
      have h0 : (i 0 : Nat) < 1 := (i 0).isLt
      have h1 : (i 1 : Nat) < 1024 := (i 1).isLt
      match a with
      | ⟨0, _⟩ => show win0_6.index tl 0 * 1 ≤ (i 0 : Nat) ∧ (i 0 : Nat) < win0_6.index tl 0 * 1 + 1; rw [(idx_6 tl).1]; omega
      | ⟨1, _⟩ => show win0_6.index tl 1 * 1024 ≤ (i 1 : Nat) ∧ (i 1 : Nat) < win0_6.index tl 1 * 1024 + 1024; rw [(idx_6 tl).2]; omega⟩

/-- The gradient to the gain: the sum over all tokens. -/
theorem final6_apply (c : Dev nD) (a0 : FVec Ideal S4096x2304 .bf16) (a1 : FVec Ideal S1024x2304 .f32) (a2 : FVec Ideal S4096x1024 .f32) (h0 : m ((c : Thread nD τ).loc main_arg0) = a0) (h1 : m ((c : Thread nD τ).loc main_arg1) = a1) (h2 : m ((c : Thread nD τ).loc main_arg2) = a2) (q : Fin 1024) :
    ((dats m 0 c).arrAt 6 cfg0.N : Vec Ideal S1x1024 .f32) (ix2 (0 : Fin 1) q)
      = ∑ i, toGain (grad a0 a1 i) (fun y => (a2 (ix2 i y) : EReal)) q := by
  rw [final6]
  exact (gain_left m c a0 a1 a2 h0 h1 h2 q tl.val tl.isLt).trans (sum_atPos (fun i => toGain (grad a0 a1 i) (fun y => (a2 (ix2 i y) : EReal)) q))

end Cert.Kernel8Ideal.Body

namespace Cert.Reference8Ideal.Read
open Cert.Reference8Ideal Cert.Reference8Ideal.Gen Cert.Reference8Ideal.Value Idealize.ShloMosaic Idealize.ShloMosaic.TcCoe Idealize.SL.Sem
open Cert.Norm
open Cert.Kernel8Ideal.Body (grad)

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2.2, sem_eq_zero_of_no_sems (by decide) r.2⟩) (run m ρ)

/-- The gradient to the norm's output. -/
def dh (a0 : FVec Ideal S4096x2304 .bf16) (a1 : FVec Ideal S1024x2304 .f32) : FVec Ideal S4096x1024 .f32 := (Host.dotGeneral (F := Ideal) (φ₁ := .f32) (φ₂ := .f32) dot_S4096x2304_S1024x2304_S4096x1024_1_1_0_0_n_n none (extf .f32 a0 bitsLt_bf16_f32) a1)

theorem dh_apply (a0 : FVec Ideal S4096x2304 .bf16) (a1 : FVec Ideal S1024x2304 .f32) (i : Fin 4096) (y : Fin 1024) : (dh a0 a1 (ix2 i y) : EReal) = grad a0 a1 i y := by
  unfold grad
  pointwise [dh]

/-- What stands under the root. -/
def ms (a2 : FVec Ideal S4096x1024 .f32) : FVec Ideal S4096x1 .f32 := (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))

theorem ms_apply (a2 : FVec Ideal S4096x1024 .f32) (i : Fin 4096) : (ms a2 (ix2 i (0 : Fin 1)) : EReal) = under (fun y => (a2 (ix2 i y) : EReal)) := by
  unfold under
  pointwise [ms]

/-- The mean's part of the derivative, half of it. -/
def mean (a0 : FVec Ideal S4096x2304 .bf16) (a1 : FVec Ideal S1024x2304 .f32) (a2 : FVec Ideal S4096x1024 .f32) (a3 : FVec Ideal S1024 .f32) : FVec Ideal S4096 .f32 := (Host.reduceAdd (Host.divf (mulf (shapeCast _ (Host.reduceAdd (mulf a2 (mulf (dh a0 a1) (broadcastInDim S4096x1024 ![0, 1] bcast_S1x1024_S4096x1024_0_1 (broadcastInDim S1x1024 ![1] bcast_S1024_S1x1024_1 a3)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (ms a2)) (ms a2)))) (broadcastInDim S4096x1 ![] bcast_S_S4096x1 (constant S_ .f32 0x44800000#32))) (constant S_ .f32 0x00000000#32) reducesTo_S4096x1_S4096_d1 h_S_)

theorem mean_apply (a0 : FVec Ideal S4096x2304 .bf16) (a1 : FVec Ideal S1024x2304 .f32) (a2 : FVec Ideal S4096x1024 .f32) (a3 : FVec Ideal S1024 .f32) (i : Fin 4096) : (mean a0 a1 a2 a3 (ix1 i) : EReal)
    = Ideal.div ((∑ y, (a2 (ix2 i y) : EReal) * ((dh a0 a1 (ix2 i y) : EReal) * (a3 (ix1 y) : EReal)))
        * (Ideal.ofBits FTy.f32 3204448256#32 * Ideal.div (Ideal.rsqrt (ms a2 (ix2 i (0 : Fin 1)))) (ms a2 (ix2 i (0 : Fin 1))))) (Ideal.ofBits FTy.f32 1149239296#32) := by
  pointwise [mean]
  exact Fin.sum_univ_one _

def toIn (a0 : FVec Ideal S4096x2304 .bf16) (a1 : FVec Ideal S1024x2304 .f32) (a2 : FVec Ideal S4096x1024 .f32) (a3 : FVec Ideal S1024 .f32) (a4 : FVec Ideal S4096x1024 .f32) : FVec Ideal S4096x1024 .f32 := addf (addf (addf a4 (mulf (mulf (dh a0 a1) (broadcastInDim S4096x1024 ![0, 1] bcast_S1x1024_S4096x1024_0_1 (broadcastInDim S1x1024 ![1] bcast_S1024_S1x1024_1 a3))) (broadcastInDim S4096x1024 ![0, 1] bcast_S4096x1_S4096x1024_0_1 (Host.rsqrt (ms a2))))) (mulf a2 (broadcastInDim S4096x1024 ![0] bcast_S4096_S4096x1024_0 (mean a0 a1 a2 a3)))) (mulf (broadcastInDim S4096x1024 ![0] bcast_S4096_S4096x1024_0 (mean a0 a1 a2 a3)) a2)

theorem toIn_apply (a0 : FVec Ideal S4096x2304 .bf16) (a1 : FVec Ideal S1024x2304 .f32) (a2 : FVec Ideal S4096x1024 .f32) (a3 : FVec Ideal S1024 .f32) (a4 : FVec Ideal S4096x1024 .f32) (i : Fin 4096) (j : Fin 1024) : (toIn a0 a1 a2 a3 a4 (ix2 i j) : EReal)
    = toInput (fun y => (a4 (ix2 i y) : EReal)) (grad a0 a1 i) (fun y => (a2 (ix2 i y) : EReal)) (fun y => (a3 (ix1 y) : EReal)) j := by
  refine Eq.trans (b := (((a4 (ix2 i j) : EReal) + ((dh a0 a1 (ix2 i j) : EReal) * (a3 (ix1 j) : EReal)) * Ideal.rsqrt (ms a2 (ix2 i (0 : Fin 1))))
      + (a2 (ix2 i j) : EReal) * (mean a0 a1 a2 a3 (ix1 i) : EReal)) + (mean a0 a1 a2 a3 (ix1 i) : EReal) * (a2 (ix2 i j) : EReal)) (by pointwise [toIn]) ?_
  rw [mean_apply, ms_apply, show grad a0 a1 i = fun y => (dh a0 a1 (ix2 i y) : EReal) from funext fun y => (dh_apply a0 a1 i y).symm]
  exact byRule_eq (fun y => (a4 (ix2 i y) : EReal)) (fun y => (dh a0 a1 (ix2 i y) : EReal)) (fun y => (a2 (ix2 i y) : EReal)) (fun y => (a3 (ix1 y) : EReal)) j

def toG (a0 : FVec Ideal S4096x2304 .bf16) (a1 : FVec Ideal S1024x2304 .f32) (a2 : FVec Ideal S4096x1024 .f32) : FVec Ideal S1x1024 .f32 := shapeCast _ (Host.reduceAdd (shapeCast _ (Host.reduceAdd (mulf (mulf a2 (broadcastInDim S4096x1024 ![0, 1] bcast_S4096x1_S4096x1024_0_1 (Host.rsqrt (ms a2)))) (dh a0 a1)) (constant S_ .f32 0x00000000#32) reducesTo_S4096x1024_S1024_d0 h_S_) shapeCasts_S1024_S1x1024) (constant S_ .f32 0x00000000#32) reducesTo_S1x1024_S1024_d0 h_S_) shapeCasts_S1024_S1x1024

theorem toG_apply (a0 : FVec Ideal S4096x2304 .bf16) (a1 : FVec Ideal S1024x2304 .f32) (a2 : FVec Ideal S4096x1024 .f32) (q : Fin 1024) : (toG a0 a1 a2 (ix2 (0 : Fin 1) q) : EReal)
    = ∑ i, toGain (grad a0 a1 i) (fun y => (a2 (ix2 i y) : EReal)) q := by
  refine Eq.trans (b := ∑ i : Fin 4096, ((a2 (ix2 i q) : EReal) * Ideal.rsqrt (ms a2 (ix2 i (0 : Fin 1)))) * (dh a0 a1 (ix2 i q) : EReal)) (by
    pointwise [toG]
    exact Fin.sum_univ_one _) ?_
  refine Finset.sum_congr rfl fun i _ => ?_
  rw [ms_apply, dh_apply]
  dsimp only [toGain]
  ac_rfl

end Cert.Reference8Ideal.Read

namespace Cert.Kernel8Ideal.Body
open Idealize.ShloMosaic Idealize.ShloMosaic.TcCoe Idealize.SL.Sem

theorem algebraic : Cert.algebraic_Kernel8Ideal_Reference8Ideal := by
  intro m g m' g' hpre hag
  refine ⟨fun c => (Cert.Kernel8Ideal.Gen.dats m 0 c).arrAt 5 Cert.Kernel8Ideal.cfg0.N, fun c => (Cert.Kernel8Ideal.Gen.dats m 0 c).arrAt 6 Cert.Kernel8Ideal.cfg0.N, Cert.Kernel8Ideal.Value.run_blocks m g, ?_⟩
  refine (θ_run Cert.Reference8Ideal.defs _ _).mono (fun r h c => ?_) (Cert.Reference8Ideal.Value.run m' g')
  obtain ⟨h0, h1, ha⟩ := h c
  obtain ⟨e0, e1, e2, e3, e4⟩ := hag c
  refine ⟨h0.trans (funext fun i => ?_), h1.trans (funext fun i => ?_), ha⟩
  · unfold Cert.Reference8Ideal.Value.res_main_v39
    rw [e0, e1, e2, e3, e4, eq_ix2 i]
    exact (Cert.Reference8Ideal.Read.toIn_apply _ _ _ _ _ _ _).trans (final5 m c _ _ _ _ _ rfl rfl rfl rfl rfl _ _).symm
  · rw [e0, e1, e2, eq_ix2 i, show i 0 = (0 : Fin 1) from Subsingleton.elim (α := Fin 1) _ _]
    exact (Cert.Reference8Ideal.Read.toG_apply _ _ _ _).trans (final6_apply m c _ _ _ rfl rfl rfl _).symm

end Cert.Kernel8Ideal.Body
end
-- ==== Proof.MmWIn.lean ====
module

public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.Quiescent
public import Idealize.ShloMosaic.PureOps.Ideal.Laws

/-! The gradient of w_in: each block of columns is one product over all tokens. -/

@[expose] public section
set_option maxRecDepth 16384
noncomputable section

namespace Cert.Kernel9Ideal.Body
open Cert.Kernel9Ideal Cert.Kernel9Ideal.Gen Idealize.ShloMosaic Idealize.ShloMosaic.TcCoe Idealize.SL.Sem
open Cert.Kernel9Ideal.Value
variable (m : (ℓ : Loc nD τ sig) → Buf (Elt Ideal) ℓ)

theorem hz : (![0, 0] : Fin 2 → Nat) = fun _ => 0 := funext fun a => by fin_cases a <;> rfl

/-- An element of the block a point writes. -/
theorem point (x0 : Vec Ideal S4096x1024 .bf16) (x1 : Vec Ideal S4096x768 .bf16) (p : Fin 1024) (q : Fin 768) :
    (out0_2 x0 x1 : Vec Ideal S1024x768 .bf16) (ix2 p q) = ∑ k : Fin 4096, (x0 (ix2 k p) : EReal) * (x1 (ix2 k q) : EReal) := by
  unfold out0_2
  rw [View.canon_unit_zero hz, View.ld_unit_zero hz, View.ld_unit_zero hz]
  pointwise [k0_pay1]

theorem idx_0 : ∀ t : Fin cfg0.N, win0_0.index t 0 = 0 ∧ win0_0.index t 1 = 0 := by decide +kernel
theorem idx_1 : ∀ t : Fin cfg0.N, win0_1.index t 0 = 0 ∧ win0_1.index t 1 = t.val := by decide +kernel
theorem idx_2 : ∀ t : Fin cfg0.N, win0_2.index t 0 = 0 ∧ win0_2.index t 1 = t.val := by decide +kernel
theorem t_lt (t : Fin cfg0.N) : t.val < 3 := by have := t.isLt; have hN : cfg0.N = 3 := N_0; omega

/-- Window 0's block at point `t`, read from the argument. -/
theorem blk0 (c : Dev nD) (a : FVec Ideal S4096x1024 .bf16) (h : m ((c : Thread nD τ).loc main_arg0) = a) (t : Fin cfg0.N) (x : Fin 4096) (y : Fin 1024)  :
    ((iblk m c 0 t : Vec Ideal S4096x1024 .bf16) (ix2 x y) : EReal) = a (ix2 x y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 4096 + 1 * x.val = x.val; rw [(idx_0 t).1]; omega
  | ⟨1, _⟩ => show win0_0.index t 1 * 1024 + 1 * y.val = y.val; rw [(idx_0 t).2]; omega

/-- Window 1's block at point `t`, read from the argument. -/
theorem blk1 (c : Dev nD) (a : FVec Ideal S4096x2304 .bf16) (h : m ((c : Thread nD τ).loc main_arg1) = a) (t : Fin cfg0.N) (x : Fin 4096) (y : Fin 768) (y1 : Fin 2304) (hy1 : y1.val = 768 * (t.val) + y.val) :
    ((iblk m c 1 t : Vec Ideal S4096x768 .bf16) (ix2 x y) : EReal) = a (ix2 x y1) := by
  refine Eq.trans ?_ (congrFun h _)
  rw [← V_main_arg1 m c]
  unfold iblk
  rw [View.read_apply]
  refine congrArg (V m c main_arg1) (funext fun a => Fin.ext ?_)
  match a with
  | ⟨0, _⟩ => show win0_1.index t 0 * 4096 + 1 * x.val = x.val; rw [(idx_1 t).1]; omega
  | ⟨1, _⟩ => show win0_1.index t 1 * 768 + 1 * y.val = y1.val; rw [(idx_1 t).2]; omega

/-- The call's result: the product of the whole arrays. -/
theorem final (c : Dev nD) (a0 : FVec Ideal S4096x1024 .bf16) (a1 : FVec Ideal S4096x2304 .bf16) (h0 : m ((c : Thread nD τ).loc main_arg0) = a0) (h1 : m ((c : Thread nD τ).loc main_arg1) = a1) (i : Fin 1024) (j : Fin 2304) :
    ((dats m 0 c).arrAt 2 cfg0.N : Vec Ideal S1024x2304 .bf16) (ix2 i j)
      = ∑ k : Fin 4096, (a0 (ix2 k i) : EReal) * (a1 (ix2 k j) : EReal) := by
  have hN : cfg0.N = 3 := N_0
  let t : Fin cfg0.N := ⟨j.val / 768, by omega⟩
  have ht : t.val = j.val / 768 := rfl
  have hb := blocks2 m c t (flush0_2 t)
  rw [flushed2] at hb
  have hb1 := congrFun hb (ix2 i (⟨j.val % 768, by omega⟩ : Fin 768))
  have e : ((cfg0.win 2).blk t).view.emb (ix2 i (⟨j.val % 768, by omega⟩ : Fin 768)) = (ix2 i j : S1024x2304.Idx) := funext fun a => Fin.ext (by
    match a with
    | ⟨0, _⟩ => show win0_2.index t 0 * 1024 + 1 * i.val = i.val; rw [(idx_2 t).1]; omega
    | ⟨1, _⟩ => show win0_2.index t 1 * 768 + 1 * (j.val % 768) = j.val; rw [(idx_2 t).2]; omega)
  rw [View.read_apply, e] at hb1
  refine hb1.trans ((point (iblk m c 0 t) (iblk m c 1 t) i ⟨j.val % 768, by omega⟩).trans ?_)
  refine Finset.sum_congr rfl fun k _ => ?_
  exact congrArg₂ (fun x y : EReal => x * y) (blk0 m c _ h0 t k i) (blk1 m c _ h1 t k ⟨j.val % 768, by omega⟩ j (by simp only [t]; omega))

end Cert.Kernel9Ideal.Body

namespace Cert.Reference9Ideal.Read
open Cert.Reference9Ideal Cert.Reference9Ideal.Gen Cert.Reference9Ideal.Value Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run m ρ)

theorem result (a0 : FVec Ideal S4096x1024 .bf16) (a1 : FVec Ideal S4096x2304 .bf16) (i : Fin 1024) (j : Fin 2304) :
    (truncf (F := Ideal) (φ := .f32) .bf16 (transpose S1024x2304 [1, 0] (Host.dotGeneral (F := Ideal) (φ₁ := .f32) (φ₂ := .f32) dot_S4096x2304_S4096x1024_S2304x1024_0_0_1_1_n_n none (extf .f32 a1 bitsLt_bf16_f32) (extf .f32 a0 bitsLt_bf16_f32)) transposes_S2304x1024_S1024x2304_1_0) bitsLt_bf16_f32 : Vec Ideal S1024x2304 .bf16) (ix2 i j)
      = ∑ k : Fin 4096, (a0 (ix2 k i) : EReal) * (a1 (ix2 k j) : EReal) := by
  refine Eq.trans (b := ∑ k : Fin 4096, (a1 (ix2 k j) : EReal) * (a0 (ix2 k i) : EReal)) (by pointwise) ?_
  exact Finset.sum_congr rfl fun k _ => mul_comm _ _

end Cert.Reference9Ideal.Read

namespace Cert.Kernel9Ideal.Body
open Idealize.ShloMosaic Idealize.ShloMosaic.TcCoe Idealize.SL.Sem

theorem algebraic : Cert.algebraic_Kernel9Ideal_Reference9Ideal := by
  intro m g m' g' hpre hag
  refine ⟨fun c => (Cert.Kernel9Ideal.Gen.dats m 0 c).arrAt 2 Cert.Kernel9Ideal.cfg0.N, Cert.Kernel9Ideal.Value.run_blocks m g, ?_⟩
  refine (θ_run Cert.Reference9Ideal.defs _ _).mono (fun r h c => ?_) (Cert.Reference9Ideal.Value.run m' g')
  obtain ⟨h0, ha⟩ := h c
  refine ⟨h0.trans (funext fun i => ?_), ha⟩
  obtain ⟨e0, e1, e2⟩ := hag c
  rw [e0, e1, eq_ix2 i]
  exact (Cert.Reference9Ideal.Read.result _ _ _ _).trans (final m c _ _ rfl rfl _ _).symm

end Cert.Kernel9Ideal.Body
end
-- ==== Proof.MmNormMlp.lean ====
module

public import proofs.«01_k».proof.Defs
public import proofs.«01_k».proof.Proof.Gen.Kernel10Ideal.Value
public import proofs.«01_k».proof.Proof.Gen.Reference10Ideal.Run
public import proofs.«01_k».proof.Proof.MmNormMath
public import Idealize.ShloMosaic.Lib.StableHlo.ReadAt
public import Idealize.ShloMosaic.Lib.Tactic
public import Idealize.ShloMosaic.Lib.Pointwise
public import Idealize.ShloMosaic.Lib.Quiescent
public import Idealize.ShloMosaic.PureOps.Ideal.Laws

/-! The gradient to the MLP's output through w_pg and the norm before it, with the gradient that comes past the gate, and the
gradient to the norm's gain, kept from one block of tokens to the next. -/

@[expose] public section
set_option maxRecDepth 16384
noncomputable section

namespace Cert.Kernel10Ideal.Body
open Cert.Kernel10Ideal Cert.Kernel10Ideal.Gen Idealize.ShloMosaic Idealize.ShloMosaic.TcCoe Idealize.SL.Sem
open Cert.Kernel10Ideal.Value
open Cert.Norm
variable (m : (ℓ : Loc nD τ sig) → Buf (Elt Ideal) ℓ)

theorem hz : (![0, 0] : Fin 2 → Nat) = fun _ => 0 := funext fun a => by fin_cases a <;> rfl

/-- A load of a whole rank-two buffer reads its contents. -/
theorem ldz {d : Fin 2 → Nat} {e : EltTy} (inb : ∀ a, (![0, 0] : Fin 2 → Nat) a + d a ≤ d a)
    (X : Shape.Idx ⟨2, d⟩ → Elt Ideal e) : View.ld X (Rect.unit (s := ⟨2, d⟩) ![0, 0] d inb) = X :=
  View.ld_unit_zero (S := ⟨2, d⟩) hz inb X

/-- The gradient to the norm's output, in a block of tokens. -/
def blockGrad (x0 : Vec Ideal S1024x1024 .bf16) (x1 : Vec Ideal S1024x1024 .bf16) : FVec Ideal S1024x1024 .f32 := k0_pay3 x0 x1

/-- The block of the first result. -/
def blockIn (x0 : Vec Ideal S1024x1024 .bf16) (x1 : Vec Ideal S1024x1024 .bf16) (x2 : Vec Ideal S1024x1024 .f32) (x3 : Vec Ideal S1x1024 .f32) (x4 : Vec Ideal S1024x1024 .f32) : FVec Ideal S1024x1024 .f32 := k0_pay5 x0 x1 x2 x3 x4

/-- The block's part of the second result. -/
def blockGain (x0 : Vec Ideal S1024x1024 .bf16) (x1 : Vec Ideal S1024x1024 .bf16) (x2 : Vec Ideal S1024x1024 .f32) : FVec Ideal S1x1024 .f32 := k0_pay1 (k0_pay6 x0 x1 x2)

/-- What a later point makes of the second result. -/
def addGain (x0 : Vec Ideal S1024x1024 .bf16) (x1 : Vec Ideal S1024x1024 .bf16) (x2 : Vec Ideal S1024x1024 .f32) (xo : Vec Ideal S1x1024 .f32) : FVec Ideal S1x1024 .f32 := k0_pay2 (k0_pay6 x0 x1 x2) xo

section
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1x1024 .f32) (harg9 : arg9.IsWhole) (hc0 : cond0_0 i) (hc1 : ¬cond0_1 i) (x0 : Vec Ideal S1024x1024 .bf16) (x1 : Vec Ideal S1024x1024 .bf16) (x2 : Vec Ideal S1024x1024 .f32) (x3 : Vec Ideal S1x1024 .f32) (x4 : Vec Ideal S1024x1024 .f32)

theorem out0_A_5_eq :
    out0_A_5 c i arg3 harg3 arg4 harg4 arg5 harg5 arg6 harg6 arg7 harg7 arg8 harg8 arg9 harg9 hc0 hc1 x0 x1 x2 x3 x4 = blockIn x0 x1 x2 x3 x4 := by
  unfold out0_A_5
  rw [View.read_writes_junk_eq_canon]
  unfold kernelRun0_A
  dsimp only
  sl_unfold_words
  rw [View.canon_unit_zero (S := S1024x1024) hz]
  simp only [View.readAt_eq_ld, Memref.IsWhole.read_unread, ldz]
  rfl

theorem out0_A_6_eq :
    out0_A_6 c i arg3 harg3 arg4 harg4 arg5 harg5 arg6 harg6 arg7 harg7 arg8 harg8 arg9 harg9 hc0 hc1 x0 x1 x2 x3 x4 = blockGain x0 x1 x2 := by
  unfold out0_A_6
  rw [View.read_writes_junk_eq_canon]
  unfold kernelRun0_A
  dsimp only
  sl_unfold_words
  rw [View.canon_unit_zero (S := S1x1024) hz]
  simp only [View.readAt_eq_ld, Memref.IsWhole.read_unread, ldz]
  rfl

end

section
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1x1024 .f32) (harg9 : arg9.IsWhole) (hc0 : ¬cond0_0 i) (hc1 : cond0_1 i) (x0 : Vec Ideal S1024x1024 .bf16) (x1 : Vec Ideal S1024x1024 .bf16) (x2 : Vec Ideal S1024x1024 .f32) (x3 : Vec Ideal S1x1024 .f32) (x4 : Vec Ideal S1024x1024 .f32) (xo6 : Vec Ideal S1x1024 .f32)

theorem out0_B_5_eq :
    out0_B_5 c i arg3 harg3 arg4 harg4 arg5 harg5 arg6 harg6 arg7 harg7 arg8 harg8 arg9 harg9 hc0 hc1 x0 x1 x2 x3 x4 xo6 = blockIn x0 x1 x2 x3 x4 := by
  unfold out0_B_5
  rw [View.read_writes_junk_eq_canon]
  unfold kernelRun0_B
  dsimp only
  sl_unfold_words
  rw [View.canon_unit_zero (S := S1024x1024) hz]
  simp only [View.readAt_eq_ld, Memref.IsWhole.read_unread, ldz]
  rfl

theorem out0_B_6_eq :
    out0_B_6 c i arg3 harg3 arg4 harg4 arg5 harg5 arg6 harg6 arg7 harg7 arg8 harg8 arg9 harg9 hc0 hc1 x0 x1 x2 x3 x4 xo6 = addGain x0 x1 x2 xo6 := by
  unfold out0_B_6
  rw [View.read_writes_junk_eq_canon]
  unfold kernelRun0_B
  dsimp only
  sl_unfold_words
  rw [View.canon_unit_zero (S := S1x1024) hz]
  simp only [View.readAt_eq_ld, Memref.IsWhole.read_unread, ldz]
  rfl

end

/-! ## A block, entry by entry -/

theorem blockIn_apply (x0 : Vec Ideal S1024x1024 .bf16) (x1 : Vec Ideal S1024x1024 .bf16) (x2 : Vec Ideal S1024x1024 .f32) (x3 : Vec Ideal S1x1024 .f32) (x4 : Vec Ideal S1024x1024 .f32) (p : Fin 1024) (q : Fin 1024) :
    (blockIn x0 x1 x2 x3 x4 (ix2 p q) : EReal)
      = toInput (fun y => (x4 (ix2 p y) : EReal)) (fun y => (blockGrad x0 x1 (ix2 p y) : EReal)) (fun y => (x2 (ix2 p y) : EReal)) (fun y => (x3 (ix2 (0 : Fin 1) y) : EReal)) q := by
  unfold blockGrad
  pointwise [blockIn, k0_pay5, k0_pay4]
  rfl

theorem blockGain_apply (x0 : Vec Ideal S1024x1024 .bf16) (x1 : Vec Ideal S1024x1024 .bf16) (x2 : Vec Ideal S1024x1024 .f32) (q : Fin 1024) :
    (blockGain x0 x1 x2 (ix2 (0 : Fin 1) q) : EReal) = ∑ p : Fin 1024, toGain (fun y => (blockGrad x0 x1 (ix2 p y) : EReal)) (fun y => (x2 (ix2 p y) : EReal)) q := by
  unfold blockGrad
  pointwise [blockGain, k0_pay1, k0_pay6, k0_pay4]
  rfl

theorem addGain_apply (x0 : Vec Ideal S1024x1024 .bf16) (x1 : Vec Ideal S1024x1024 .bf16) (x2 : Vec Ideal S1024x1024 .f32) (xo : Vec Ideal S1x1024 .f32) (q : Fin 1024) :
    (addGain x0 x1 x2 xo (ix2 (0 : Fin 1) q) : EReal) = (xo (ix2 (0 : Fin 1) q) : EReal) + (blockGain x0 x1 x2 (ix2 (0 : Fin 1) q) : EReal) := by
  unfold blockGain
  pointwise [addGain, k0_pay2]

theorem blockGrad_apply (x0 : Vec Ideal S1024x1024 .bf16) (x1 : Vec Ideal S1024x1024 .bf16) (p : Fin 1024) (q : Fin 1024) :
    (blockGrad x0 x1 (ix2 p q) : EReal) = ∑ k : Fin 1024, (x0 (ix2 p k) : EReal) * (x1 (ix2 q k) : EReal) := by
  pointwise [blockGrad, k0_pay3]

/-! ## The blocks in the arrays -/

theorem idx_0 : ∀ t : Fin cfg0.N, win0_0.index t 0 = t.val ∧ win0_0.index t 1 = 0 := by decide +kernel
theorem idx_1 : ∀ t : Fin cfg0.N, win0_1.index t 0 = 0 ∧ win0_1.index t 1 = 0 := by decide +kernel
theorem idx_2 : ∀ t : Fin cfg0.N, win0_2.index t 0 = t.val ∧ win0_2.index t 1 = 0 := by decide +kernel
theorem idx_3 : ∀ t : Fin cfg0.N, win0_3.index t 0 = 0 ∧ win0_3.index t 1 = 0 := by decide +kernel
theorem idx_4 : ∀ t : Fin cfg0.N, win0_4.index t 0 = t.val ∧ win0_4.index t 1 = 0 := by decide +kernel
theorem idx_5 : ∀ t : Fin cfg0.N, win0_5.index t 0 = t.val ∧ win0_5.index t 1 = 0 := by decide +kernel
theorem idx_6 : ∀ t : Fin cfg0.N, win0_6.index t 0 = 0 ∧ win0_6.index t 1 = 0 := by decide +kernel
theorem t_lt (t : Fin cfg0.N) : t.val < 4 := by have := t.isLt; have hN : cfg0.N = 4 := N_0; omega

/-- The host's cast keeps the argument's values. -/
theorem host1 (c : Dev nD) (a : FVec Ideal S1024x1024 .f32) (h : m ((c : Thread nD τ).loc main_arg1) = a) (x : Fin 1024) (y : Fin 1024) :
    ((V m c main_v0 : Vec Ideal S1024x1024 .bf16) (ix2 x y) : EReal) = a (ix2 x y) := by
  refine Eq.trans ?_ (congrFun h _)
  unfold V
  after_reads_at

/-- The gain, as a row. -/
theorem host3 (c : Dev nD) (a : FVec Ideal S1024 .f32) (h : m ((c : Thread nD τ).loc main_arg3) = a) (y : Fin 1024) :
    ((V m c main_v1 : Vec Ideal S1x1024 .f32) (ix2 (0 : Fin 1) y) : EReal) = a (ix1 y) := by
  refine Eq.trans ?_ (congrFun h _)
  unfold V
  after_reads_at

/-- Window 0's block at point `t`, read from the argument. -/
theorem blk0 (c : Dev nD) (a : FVec Ideal S4096x1024 .bf16) (h : m ((c : Thread nD τ).loc main_arg0) = a) (t : Fin cfg0.N) (x : Fin 1024) (y : Fin 1024) (x1 : Fin 4096) (hx1 : x1.val = 1024 * (t.val) + x.val) :
    ((iblk m c 0 t : Vec Ideal S1024x1024 .bf16) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 1024 + 1 * x.val = x1.val; rw [(idx_0 t).1]; omega
  | ⟨1, _⟩ => show win0_0.index t 1 * 1024 + 1 * y.val = y.val; rw [(idx_0 t).2]; omega

/-- Window 1's block at point `t`, read from the argument. -/
theorem blk1 (c : Dev nD) (a : FVec Ideal S1024x1024 .f32) (h : m ((c : Thread nD τ).loc main_arg1) = a) (t : Fin cfg0.N) (x : Fin 1024) (y : Fin 1024)  :
    ((iblk m c 1 t : Vec Ideal S1024x1024 .bf16) (ix2 x y) : EReal) = a (ix2 x y) := by
  refine Eq.trans ?_ (host1 m c a h x y)
  unfold iblk
  rw [View.read_apply]
  refine congrArg (V m c main_v0) (funext fun a => Fin.ext ?_)
  match a with
  | ⟨0, _⟩ => show win0_1.index t 0 * 1024 + 1 * x.val = x.val; rw [(idx_1 t).1]; omega
  | ⟨1, _⟩ => show win0_1.index t 1 * 1024 + 1 * y.val = y.val; rw [(idx_1 t).2]; omega

/-- Window 2's block at point `t`, read from the argument. -/
theorem blk2 (c : Dev nD) (a : FVec Ideal S4096x1024 .f32) (h : m ((c : Thread nD τ).loc main_arg2) = a) (t : Fin cfg0.N) (x : Fin 1024) (y : Fin 1024) (x1 : Fin 4096) (hx1 : x1.val = 1024 * (t.val) + x.val) :
    ((iblk m c 2 t : Vec Ideal S1024x1024 .f32) (ix2 x y) : EReal) = a (ix2 x1 y) := by
  refine Eq.trans ?_ (congrFun h _)
  rw [← V_main_arg2 m c]
  unfold iblk
  rw [View.read_apply]
  refine congrArg (V m c main_arg2) (funext fun a => Fin.ext ?_)
  match a with
  | ⟨0, _⟩ => show win0_2.index t 0 * 1024 + 1 * x.val = x1.val; rw [(idx_2 t).1]; omega
  | ⟨1, _⟩ => show win0_2.index t 1 * 1024 + 1 * y.val = y.val; rw [(idx_2 t).2]; omega

/-- Window 4's block at point `t`, read from the argument. -/
theorem blk4 (c : Dev nD) (a : FVec Ideal S4096x1024 .f32) (h : m ((c : Thread nD τ).loc main_arg4) = a) (t : Fin cfg0.N) (x : Fin 1024) (y : Fin 1024) (x1 : Fin 4096) (hx1 : x1.val = 1024 * (t.val) + x.val) :
    ((iblk m c 4 t : Vec Ideal S1024x1024 .f32) (ix2 x y) : EReal) = a (ix2 x1 y) := by
  refine Eq.trans ?_ (congrFun h _)
  rw [← V_main_arg4 m c]
  unfold iblk
  rw [View.read_apply]
  refine congrArg (V m c main_arg4) (funext fun a => Fin.ext ?_)
  match a with
  | ⟨0, _⟩ => show win0_4.index t 0 * 1024 + 1 * x.val = x1.val; rw [(idx_4 t).1]; omega
  | ⟨1, _⟩ => show win0_4.index t 1 * 1024 + 1 * y.val = y.val; rw [(idx_4 t).2]; omega

/-- The gain's row at point `t`. -/
theorem blk3 (c : Dev nD) (a : FVec Ideal S1024 .f32) (h : m ((c : Thread nD τ).loc main_arg3) = a) (t : Fin cfg0.N) (y : Fin 1024) :
    ((iblk m c 3 t : Vec Ideal S1x1024 .f32) (ix2 (0 : Fin 1) y) : EReal) = a (ix1 y) := by
  refine Eq.trans ?_ (host3 m c a h y)
  unfold iblk
  rw [View.read_apply]
  refine congrArg (V m c main_v1) (funext fun a => Fin.ext ?_)
  match a with
  | ⟨0, _⟩ => show win0_3.index t 0 * 1 + 1 * 0 = 0; rw [(idx_3 t).1]
  | ⟨1, _⟩ => show win0_3.index t 1 * 1024 + 1 * y.val = y.val; rw [(idx_3 t).2]; omega

/-- The gradient to the norm's output for a token. -/
def grad (a0 : FVec Ideal S4096x1024 .bf16) (a1 : FVec Ideal S1024x1024 .f32) (i : Fin 4096) (y : Fin 1024) : EReal :=
  ∑ k : Fin 1024, (a0 (ix2 i k) : EReal) * (a1 (ix2 y k) : EReal)

theorem grad_eq (c : Dev nD) (a0 : FVec Ideal S4096x1024 .bf16) (a1 : FVec Ideal S1024x1024 .f32) (h0 : m ((c : Thread nD τ).loc main_arg0) = a0) (h1 : m ((c : Thread nD τ).loc main_arg1) = a1) (t : Fin cfg0.N) (p : Fin 1024) (i : Fin 4096) (hi : i.val = 1024 * t.val + p.val)
    (x0 : Vec Ideal S1024x1024 .bf16) (x1 : Vec Ideal S1024x1024 .bf16) (e0 : iblk m c 0 t = x0) (e1 : iblk m c 1 t = x1) :
    (fun y => (blockGrad x0 x1 (ix2 p y) : EReal)) = grad a0 a1 i := by
  subst e0 e1
  refine funext fun y => (blockGrad_apply _ _ p y).trans ?_
  exact Finset.sum_congr rfl fun k _ => congrArg₂ (fun x y : EReal => x * y) (blk0 m c _ h0 t p k i hi) (blk1 m c _ h1 t y k)

theorem gain_blk (c : Dev nD) (a0 : FVec Ideal S4096x1024 .bf16) (a1 : FVec Ideal S1024x1024 .f32) (a2 : FVec Ideal S4096x1024 .f32) (h0 : m ((c : Thread nD τ).loc main_arg0) = a0) (h1 : m ((c : Thread nD τ).loc main_arg1) = a1) (h2 : m ((c : Thread nD τ).loc main_arg2) = a2) (t : Fin cfg0.N) (q : Fin 1024)
    (x0 : Vec Ideal S1024x1024 .bf16) (x1 : Vec Ideal S1024x1024 .bf16) (x2 : Vec Ideal S1024x1024 .f32) (e0 : iblk m c 0 t = x0) (e1 : iblk m c 1 t = x1) (e2 : iblk m c 2 t = x2) :
    (blockGain x0 x1 x2 (ix2 (0 : Fin 1) q) : EReal) = ∑ p ∈ Finset.range 1024, atPos (fun i => toGain (grad a0 a1 i) (fun y => (a2 (ix2 i y) : EReal)) q) (1024 * t.val + p) := by
  have ht := t_lt t
  rw [Finset.sum_range]
  refine (blockGain_apply x0 x1 x2 q).trans (Finset.sum_congr rfl fun p _ => ?_)
  rw [atPos_eq _ _ (⟨1024 * t.val + p.val, by omega⟩ : Fin 4096) rfl]
  refine congrArg₂ (fun d x => toGain d x q) (grad_eq m c a0 a1 h0 h1 t p _ rfl x0 x1 e0 e1) (funext fun y => ?_)
  subst e2
  exact blk2 m c a2 h2 t p y _ rfl

/-- The second result after each point: the sum over the tokens so far. -/
theorem gain_left (c : Dev nD) (a0 : FVec Ideal S4096x1024 .bf16) (a1 : FVec Ideal S1024x1024 .f32) (a2 : FVec Ideal S4096x1024 .f32) (h0 : m ((c : Thread nD τ).loc main_arg0) = a0) (h1 : m ((c : Thread nD τ).loc main_arg1) = a1) (h2 : m ((c : Thread nD τ).loc main_arg2) = a2) (q : Fin 1024) : ∀ (n : ℕ) (hn : n < cfg0.N),
    ((outsAt0 m c n hn).2 (ix2 (0 : Fin 1) q) : EReal) = ∑ r ∈ Finset.range (1024 * (n + 1)), atPos (fun i => toGain (grad a0 a1 i) (fun y => (a2 (ix2 i y) : EReal)) q) r
  | 0, hn => by
    rw [show outsAt0 m c 0 hn = _ from outsAt0_A m c ⟨0, hn⟩ (Nat.zero_mod 4) (by show ¬1 ≤ 0; omega), out0_A_6_eq]
    refine (gain_blk m c a0 a1 a2 h0 h1 h2 ⟨0, hn⟩ q _ _ _ rfl rfl rfl).trans ?_
    simp only [Nat.mul_zero, Nat.zero_add, Nat.mul_one]
  | n + 1, hn => by
    have hN : cfg0.N = 4 := N_0
    have ih := gain_left c a0 a1 a2 h0 h1 h2 q n (by omega)
    rw [show outsAt0 m c (n + 1) hn = _ from outsAt0_B m c ⟨n + 1, hn⟩ (by simp only; omega) (by simp only; omega), out0_B_6_eq]
    simp only [Nat.add_sub_cancel]
    refine (addGain_apply _ _ _ _ q).trans ?_
    rw [show 1024 * (n + 1 + 1) = 1024 * (n + 1) + 1024 from by omega, Finset.sum_range_add]
    exact congrArg₂ (fun x y : EReal => x + y) ih (gain_blk m c a0 a1 a2 h0 h1 h2 ⟨n + 1, hn⟩ q _ _ _ rfl rfl rfl)

/-- The first result after each point: its block. -/
theorem in_left (c : Dev nD) (t : Fin cfg0.N) : (outsAt0 m c t.val t.isLt).1 = blockIn (iblk m c 0 t) (iblk m c 1 t) (iblk m c 2 t) (iblk m c 3 t) (iblk m c 4 t) := by
  have ht := t_lt t
  by_cases h : t.val = 0
  · rw [outsAt0_A m c t (by omega) (by omega), out0_A_5_eq]
  · rw [outsAt0_B m c t (by omega) (by omega), out0_B_5_eq]

/-! ## The arrays -/

/-- The gradient to the norm's input. -/
theorem final5 (c : Dev nD) (a0 : FVec Ideal S4096x1024 .bf16) (a1 : FVec Ideal S1024x1024 .f32) (a2 : FVec Ideal S4096x1024 .f32) (a3 : FVec Ideal S1024 .f32) (a4 : FVec Ideal S4096x1024 .f32) (h0 : m ((c : Thread nD τ).loc main_arg0) = a0) (h1 : m ((c : Thread nD τ).loc main_arg1) = a1) (h2 : m ((c : Thread nD τ).loc main_arg2) = a2) (h3 : m ((c : Thread nD τ).loc main_arg3) = a3) (h4 : m ((c : Thread nD τ).loc main_arg4) = a4) (i : Fin 4096) (j : Fin 1024) :
    ((dats m 0 c).arrAt 5 cfg0.N : Vec Ideal S4096x1024 .f32) (ix2 i j)
      = toInput (fun y => (a4 (ix2 i y) : EReal)) (grad a0 a1 i) (fun y => (a2 (ix2 i y) : EReal)) (fun y => (a3 (ix1 y) : EReal)) j := by
  have hN : cfg0.N = 4 := N_0
  let t : Fin cfg0.N := ⟨i.val / 1024, by omega⟩
  have hi : i.val = 1024 * t.val + (⟨i.val % 1024, by omega⟩ : Fin 1024).val := by simp only [t]; omega
  have hb := blocks5 m c t (flush0_5 t)
  rw [flushed5, in_left] at hb
  have hb1 := congrFun hb (ix2 (⟨i.val % 1024, by omega⟩ : Fin 1024) j)
  have e : ((cfg0.win 5).blk t).view.emb (ix2 (⟨i.val % 1024, by omega⟩ : Fin 1024) j) = (ix2 i j : S4096x1024.Idx) := funext fun a => Fin.ext (by
    match a with
    | ⟨0, _⟩ => show win0_5.index t 0 * 1024 + 1 * (i.val % 1024) = i.val; rw [(idx_5 t).1]; simp only [t]; omega
    | ⟨1, _⟩ => show win0_5.index t 1 * 1024 + 1 * j.val = j.val; rw [(idx_5 t).2]; omega)
  rw [View.read_apply, e] at hb1
  refine hb1.trans ((blockIn_apply (iblk m c 0 t) (iblk m c 1 t) (iblk m c 2 t) (iblk m c 3 t) (iblk m c 4 t) ⟨i.val % 1024, by omega⟩ j).trans ?_)
  rw [grad_eq m c a0 a1 h0 h1 t _ i hi _ _ rfl rfl]
  rw [show (fun y => ((iblk m c 4 t : Vec Ideal S1024x1024 .f32) (ix2 (⟨i.val % 1024, by omega⟩ : Fin 1024) y) : EReal)) = fun y => a4 (ix2 i y) from funext fun y => blk4 m c a4 h4 t _ y i hi,
    show (fun y => ((iblk m c 2 t : Vec Ideal S1024x1024 .f32) (ix2 (⟨i.val % 1024, by omega⟩ : Fin 1024) y) : EReal)) = fun y => a2 (ix2 i y) from funext fun y => blk2 m c a2 h2 t _ y i hi,
    show (fun y => ((iblk m c 3 t : Vec Ideal S1x1024 .f32) (ix2 (0 : Fin 1) y) : EReal)) = fun y => a3 (ix1 y) from funext fun y => blk3 m c a3 h3 t y]

/-- The last grid point. -/
def tl : Fin cfg0.N := ⟨3, by have hN : cfg0.N = 4 := N_0; omega⟩

/-- The gain's gradient is what the last grid point leaves. -/
theorem final6 (c : Dev nD) : (dats m 0 c).arrAt 6 cfg0.N = (outsAt0 m c tl.val tl.isLt).2 :=
  (dats m 0 c).arrAt_eq_of_cover 6 (outsAt0 m c tl.val tl.isLt).2 (fun t hf => by
    obtain rfl : t = tl := Fin.ext (by have := (flush0_6 t).mp hf; have := t_lt t; show t.val = 3; omega)
    rw [flushed6]
    have hz' : (fun a => win0_6.index tl a * main_v2_1.ty.shape.size a) = fun _ => 0 := funext fun a => by
      match a with
      | ⟨0, _⟩ => show win0_6.index tl 0 * 1 = 0; rw [(idx_6 tl).1]
      | ⟨1, _⟩ => show win0_6.index tl 1 * 1024 = 0; rw [(idx_6 tl).2]
    exact (Memref.read_access_unit_zero (Elt Ideal) main_v2_1 hz' (fun a => by rw [congrFun hz' a]; simp) (outsAt0 m c tl.val tl.isLt).2).symm) fun i =>
    ⟨tl, (flush0_6 tl).mpr rfl, by
      show i ∈ ((View.whole main_v2_1).slice (win0_6.rect tl)).set
      rw [View.set_slice_whole, Rect.mem_set_unit]
      intro a
      have h0 : (i 0 : Nat) < 1 := (i 0).isLt
      have h1 : (i 1 : Nat) < 1024 := (i 1).isLt
      match a with
      | ⟨0, _⟩ => show win0_6.index tl 0 * 1 ≤ (i 0 : Nat) ∧ (i 0 : Nat) < win0_6.index tl 0 * 1 + 1; rw [(idx_6 tl).1]; omega
      | ⟨1, _⟩ => show win0_6.index tl 1 * 1024 ≤ (i 1 : Nat) ∧ (i 1 : Nat) < win0_6.index tl 1 * 1024 + 1024; rw [(idx_6 tl).2]; omega⟩

/-- The gradient to the gain: the sum over all tokens. -/
theorem final6_apply (c : Dev nD) (a0 : FVec Ideal S4096x1024 .bf16) (a1 : FVec Ideal S1024x1024 .f32) (a2 : FVec Ideal S4096x1024 .f32) (h0 : m ((c : Thread nD τ).loc main_arg0) = a0) (h1 : m ((c : Thread nD τ).loc main_arg1) = a1) (h2 : m ((c : Thread nD τ).loc main_arg2) = a2) (q : Fin 1024) :
    ((dats m 0 c).arrAt 6 cfg0.N : Vec Ideal S1x1024 .f32) (ix2 (0 : Fin 1) q)
      = ∑ i, toGain (grad a0 a1 i) (fun y => (a2 (ix2 i y) : EReal)) q := by
  rw [final6]
  exact (gain_left m c a0 a1 a2 h0 h1 h2 q tl.val tl.isLt).trans (sum_atPos (fun i => toGain (grad a0 a1 i) (fun y => (a2 (ix2 i y) : EReal)) q))

end Cert.Kernel10Ideal.Body

namespace Cert.Reference10Ideal.Read
open Cert.Reference10Ideal Cert.Reference10Ideal.Gen Cert.Reference10Ideal.Value Idealize.ShloMosaic Idealize.ShloMosaic.TcCoe Idealize.SL.Sem
open Cert.Norm
open Cert.Kernel10Ideal.Body (grad)

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2.2, sem_eq_zero_of_no_sems (by decide) r.2⟩) (run m ρ)

/-- The gradient to the norm's output. -/
def dh (a0 : FVec Ideal S4096x1024 .bf16) (a1 : FVec Ideal S1024x1024 .f32) : FVec Ideal S4096x1024 .f32 := (Host.dotGeneral (F := Ideal) (φ₁ := .f32) (φ₂ := .f32) dot_S4096x1024_S1024x1024_S4096x1024_1_1_0_0_n_n none (extf .f32 a0 bitsLt_bf16_f32) a1)

theorem dh_apply (a0 : FVec Ideal S4096x1024 .bf16) (a1 : FVec Ideal S1024x1024 .f32) (i : Fin 4096) (y : Fin 1024) : (dh a0 a1 (ix2 i y) : EReal) = grad a0 a1 i y := by
  unfold grad
  pointwise [dh]

/-- What stands under the root. -/
def ms (a2 : FVec Ideal S4096x1024 .f32) : FVec Ideal S4096x1 .f32 := (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))

theorem ms_apply (a2 : FVec Ideal S4096x1024 .f32) (i : Fin 4096) : (ms a2 (ix2 i (0 : Fin 1)) : EReal) = under (fun y => (a2 (ix2 i y) : EReal)) := by
  unfold under
  pointwise [ms]

/-- The mean's part of the derivative, half of it. -/
def mean (a0 : FVec Ideal S4096x1024 .bf16) (a1 : FVec Ideal S1024x1024 .f32) (a2 : FVec Ideal S4096x1024 .f32) (a3 : FVec Ideal S1024 .f32) : FVec Ideal S4096 .f32 := (Host.reduceAdd (Host.divf (mulf (shapeCast _ (Host.reduceAdd (mulf a2 (mulf (dh a0 a1) (broadcastInDim S4096x1024 ![0, 1] bcast_S1x1024_S4096x1024_0_1 (broadcastInDim S1x1024 ![1] bcast_S1024_S1x1024_1 a3)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (ms a2)) (ms a2)))) (broadcastInDim S4096x1 ![] bcast_S_S4096x1 (constant S_ .f32 0x44800000#32))) (constant S_ .f32 0x00000000#32) reducesTo_S4096x1_S4096_d1 h_S_)

theorem mean_apply (a0 : FVec Ideal S4096x1024 .bf16) (a1 : FVec Ideal S1024x1024 .f32) (a2 : FVec Ideal S4096x1024 .f32) (a3 : FVec Ideal S1024 .f32) (i : Fin 4096) : (mean a0 a1 a2 a3 (ix1 i) : EReal)
    = Ideal.div ((∑ y, (a2 (ix2 i y) : EReal) * ((dh a0 a1 (ix2 i y) : EReal) * (a3 (ix1 y) : EReal)))
        * (Ideal.ofBits FTy.f32 3204448256#32 * Ideal.div (Ideal.rsqrt (ms a2 (ix2 i (0 : Fin 1)))) (ms a2 (ix2 i (0 : Fin 1))))) (Ideal.ofBits FTy.f32 1149239296#32) := by
  pointwise [mean]
  exact Fin.sum_univ_one _

def toIn (a0 : FVec Ideal S4096x1024 .bf16) (a1 : FVec Ideal S1024x1024 .f32) (a2 : FVec Ideal S4096x1024 .f32) (a3 : FVec Ideal S1024 .f32) (a4 : FVec Ideal S4096x1024 .f32) : FVec Ideal S4096x1024 .f32 := addf (addf (addf a4 (mulf (mulf (dh a0 a1) (broadcastInDim S4096x1024 ![0, 1] bcast_S1x1024_S4096x1024_0_1 (broadcastInDim S1x1024 ![1] bcast_S1024_S1x1024_1 a3))) (broadcastInDim S4096x1024 ![0, 1] bcast_S4096x1_S4096x1024_0_1 (Host.rsqrt (ms a2))))) (mulf a2 (broadcastInDim S4096x1024 ![0] bcast_S4096_S4096x1024_0 (mean a0 a1 a2 a3)))) (mulf (broadcastInDim S4096x1024 ![0] bcast_S4096_S4096x1024_0 (mean a0 a1 a2 a3)) a2)

theorem toIn_apply (a0 : FVec Ideal S4096x1024 .bf16) (a1 : FVec Ideal S1024x1024 .f32) (a2 : FVec Ideal S4096x1024 .f32) (a3 : FVec Ideal S1024 .f32) (a4 : FVec Ideal S4096x1024 .f32) (i : Fin 4096) (j : Fin 1024) : (toIn a0 a1 a2 a3 a4 (ix2 i j) : EReal)
    = toInput (fun y => (a4 (ix2 i y) : EReal)) (grad a0 a1 i) (fun y => (a2 (ix2 i y) : EReal)) (fun y => (a3 (ix1 y) : EReal)) j := by
  refine Eq.trans (b := (((a4 (ix2 i j) : EReal) + ((dh a0 a1 (ix2 i j) : EReal) * (a3 (ix1 j) : EReal)) * Ideal.rsqrt (ms a2 (ix2 i (0 : Fin 1))))
      + (a2 (ix2 i j) : EReal) * (mean a0 a1 a2 a3 (ix1 i) : EReal)) + (mean a0 a1 a2 a3 (ix1 i) : EReal) * (a2 (ix2 i j) : EReal)) (by pointwise [toIn]) ?_
  rw [mean_apply, ms_apply, show grad a0 a1 i = fun y => (dh a0 a1 (ix2 i y) : EReal) from funext fun y => (dh_apply a0 a1 i y).symm]
  exact byRule_eq (fun y => (a4 (ix2 i y) : EReal)) (fun y => (dh a0 a1 (ix2 i y) : EReal)) (fun y => (a2 (ix2 i y) : EReal)) (fun y => (a3 (ix1 y) : EReal)) j

def toG (a0 : FVec Ideal S4096x1024 .bf16) (a1 : FVec Ideal S1024x1024 .f32) (a2 : FVec Ideal S4096x1024 .f32) : FVec Ideal S1x1024 .f32 := shapeCast _ (Host.reduceAdd (shapeCast _ (Host.reduceAdd (mulf (mulf a2 (broadcastInDim S4096x1024 ![0, 1] bcast_S4096x1_S4096x1024_0_1 (Host.rsqrt (ms a2)))) (dh a0 a1)) (constant S_ .f32 0x00000000#32) reducesTo_S4096x1024_S1024_d0 h_S_) shapeCasts_S1024_S1x1024) (constant S_ .f32 0x00000000#32) reducesTo_S1x1024_S1024_d0 h_S_) shapeCasts_S1024_S1x1024

theorem toG_apply (a0 : FVec Ideal S4096x1024 .bf16) (a1 : FVec Ideal S1024x1024 .f32) (a2 : FVec Ideal S4096x1024 .f32) (q : Fin 1024) : (toG a0 a1 a2 (ix2 (0 : Fin 1) q) : EReal)
    = ∑ i, toGain (grad a0 a1 i) (fun y => (a2 (ix2 i y) : EReal)) q := by
  refine Eq.trans (b := ∑ i : Fin 4096, ((a2 (ix2 i q) : EReal) * Ideal.rsqrt (ms a2 (ix2 i (0 : Fin 1)))) * (dh a0 a1 (ix2 i q) : EReal)) (by
    pointwise [toG]
    exact Fin.sum_univ_one _) ?_
  refine Finset.sum_congr rfl fun i _ => ?_
  rw [ms_apply, dh_apply]
  dsimp only [toGain]
  ac_rfl

end Cert.Reference10Ideal.Read

namespace Cert.Kernel10Ideal.Body
open Idealize.ShloMosaic Idealize.ShloMosaic.TcCoe Idealize.SL.Sem

theorem algebraic : Cert.algebraic_Kernel10Ideal_Reference10Ideal := by
  intro m g m' g' hpre hag
  refine ⟨fun c => (Cert.Kernel10Ideal.Gen.dats m 0 c).arrAt 5 Cert.Kernel10Ideal.cfg0.N, fun c => (Cert.Kernel10Ideal.Gen.dats m 0 c).arrAt 6 Cert.Kernel10Ideal.cfg0.N, Cert.Kernel10Ideal.Value.run_blocks m g, ?_⟩
  refine (θ_run Cert.Reference10Ideal.defs _ _).mono (fun r h c => ?_) (Cert.Reference10Ideal.Value.run m' g')
  obtain ⟨h0, h1, ha⟩ := h c
  obtain ⟨e0, e1, e2, e3, e4⟩ := hag c
  refine ⟨h0.trans (funext fun i => ?_), h1.trans (funext fun i => ?_), ha⟩
  · unfold Cert.Reference10Ideal.Value.res_main_v39
    rw [e0, e1, e2, e3, e4, eq_ix2 i]
    exact (Cert.Reference10Ideal.Read.toIn_apply _ _ _ _ _ _ _).trans (final5 m c _ _ _ _ _ rfl rfl rfl rfl rfl _ _).symm
  · rw [e0, e1, e2, eq_ix2 i, show i 0 = (0 : Fin 1) from Subsingleton.elim (α := Fin 1) _ _]
    exact (Cert.Reference10Ideal.Read.toG_apply _ _ _ _).trans (final6_apply m c _ _ _ rfl rfl rfl _).symm

end Cert.Kernel10Ideal.Body
end
-- ==== Proof.MmDMix.lean ====
module

public import proofs.«01_k».proof.Defs
public import proofs.«01_k».proof.Proof.Gen.Kernel11Ideal.Value
public import proofs.«01_k».proof.Proof.Gen.Reference11Ideal.Run
public import Idealize.ShloMosaic.Lib.StableHlo.ReadAt
public import Idealize.ShloMosaic.Lib.Pointwise
public import Idealize.ShloMosaic.Lib.Quiescent
public import Idealize.ShloMosaic.PureOps.Ideal.Laws

/-! The gradient of the mixers' outputs: each block of tokens is one product with w_out's rows. -/

@[expose] public section
set_option maxRecDepth 16384
noncomputable section

namespace Cert.Kernel11Ideal.Body
open Cert.Kernel11Ideal Cert.Kernel11Ideal.Gen Idealize.ShloMosaic Idealize.ShloMosaic.TcCoe Idealize.SL.Sem
open Cert.Kernel11Ideal.Value
variable (m : (ℓ : Loc nD τ sig) → Buf (Elt Ideal) ℓ)

theorem hz : (![0, 0] : Fin 2 → Nat) = fun _ => 0 := funext fun a => by fin_cases a <;> rfl

/-- An element of the block a point writes. -/
theorem point (x0 : Vec Ideal S2048x1024 .f32) (x1 : Vec Ideal S1024x1024 .bf16) (p : Fin 2048) (q : Fin 1024) :
    (out0_2 x0 x1 : Vec Ideal S2048x1024 .f32) (ix2 p q) = ∑ k : Fin 1024, (x0 (ix2 p k) : EReal) * (x1 (ix2 q k) : EReal) := by
  unfold out0_2
  rw [View.canon_unit_zero hz, View.ld_unit_zero hz, View.ld_unit_zero hz]
  pointwise [k0_pay1]

theorem idx_0 : ∀ t : Fin cfg0.N, win0_0.index t 0 = t.val ∧ win0_0.index t 1 = 0 := by decide +kernel
theorem idx_1 : ∀ t : Fin cfg0.N, win0_1.index t 0 = 0 ∧ win0_1.index t 1 = 0 := by decide +kernel
theorem idx_2 : ∀ t : Fin cfg0.N, win0_2.index t 0 = t.val ∧ win0_2.index t 1 = 0 := by decide +kernel
theorem t_lt (t : Fin cfg0.N) : t.val < 2 := by have := t.isLt; have hN : cfg0.N = 2 := N_0; omega

/-- The host's cast keeps the argument's values. -/
theorem host1 (c : Dev nD) (a : FVec Ideal S1024x1024 .f32) (h : m ((c : Thread nD τ).loc main_arg1) = a) (x : Fin 1024) (y : Fin 1024) :
    ((V m c main_v0 : Vec Ideal S1024x1024 .bf16) (ix2 x y) : EReal) = a (ix2 x y) := by
  refine Eq.trans ?_ (congrFun h _)
  unfold V
  after_reads_at

/-- Window 0's block at point `t`, read from the argument. -/
theorem blk0 (c : Dev nD) (a : FVec Ideal S4096x1024 .f32) (h : m ((c : Thread nD τ).loc main_arg0) = a) (t : Fin cfg0.N) (x : Fin 2048) (y : Fin 1024) (x1 : Fin 4096) (hx1 : x1.val = 2048 * (t.val) + x.val) :
    ((iblk m c 0 t : Vec Ideal S2048x1024 .f32) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 2048 + 1 * x.val = x1.val; rw [(idx_0 t).1]; omega
  | ⟨1, _⟩ => show win0_0.index t 1 * 1024 + 1 * y.val = y.val; rw [(idx_0 t).2]; omega

/-- Window 1's block at point `t`, read from the argument. -/
theorem blk1 (c : Dev nD) (a : FVec Ideal S1024x1024 .f32) (h : m ((c : Thread nD τ).loc main_arg1) = a) (t : Fin cfg0.N) (x : Fin 1024) (y : Fin 1024)  :
    ((iblk m c 1 t : Vec Ideal S1024x1024 .bf16) (ix2 x y) : EReal) = a (ix2 x y) := by
  refine Eq.trans ?_ (host1 m c a h x y)
  unfold iblk
  rw [View.read_apply]
  refine congrArg (V m c main_v0) (funext fun a => Fin.ext ?_)
  match a with
  | ⟨0, _⟩ => show win0_1.index t 0 * 1024 + 1 * x.val = x.val; rw [(idx_1 t).1]; omega
  | ⟨1, _⟩ => show win0_1.index t 1 * 1024 + 1 * y.val = y.val; rw [(idx_1 t).2]; omega

/-- The call's result: the product of the whole arrays. -/
theorem final (c : Dev nD) (a0 : FVec Ideal S4096x1024 .f32) (a1 : FVec Ideal S1024x1024 .f32) (h0 : m ((c : Thread nD τ).loc main_arg0) = a0) (h1 : m ((c : Thread nD τ).loc main_arg1) = a1) (i : Fin 4096) (j : Fin 1024) :
    ((dats m 0 c).arrAt 2 cfg0.N : Vec Ideal S4096x1024 .f32) (ix2 i j)
      = ∑ k : Fin 1024, (a0 (ix2 i k) : EReal) * (a1 (ix2 j k) : EReal) := by
  have hN : cfg0.N = 2 := N_0
  let t : Fin cfg0.N := ⟨i.val / 2048, by omega⟩
  have ht : t.val = i.val / 2048 := rfl
  have hb := blocks2 m c t (flush0_2 t)
  rw [flushed2] at hb
  have hb1 := congrFun hb (ix2 (⟨i.val % 2048, by omega⟩ : Fin 2048) j)
  have e : ((cfg0.win 2).blk t).view.emb (ix2 (⟨i.val % 2048, by omega⟩ : Fin 2048) j) = (ix2 i j : S4096x1024.Idx) := funext fun a => Fin.ext (by
    match a with
    | ⟨0, _⟩ => show win0_2.index t 0 * 2048 + 1 * (i.val % 2048) = i.val; rw [(idx_2 t).1]; omega
    | ⟨1, _⟩ => show win0_2.index t 1 * 1024 + 1 * j.val = j.val; rw [(idx_2 t).2]; omega)
  rw [View.read_apply, e] at hb1
  refine hb1.trans ((point (iblk m c 0 t) (iblk m c 1 t) ⟨i.val % 2048, by omega⟩ j).trans ?_)
  refine Finset.sum_congr rfl fun k _ => ?_
  exact congrArg₂ (fun x y : EReal => x * y) (blk0 m c _ h0 t ⟨i.val % 2048, by omega⟩ k i (by simp only [t]; omega)) (blk1 m c _ h1 t j k)

end Cert.Kernel11Ideal.Body

namespace Cert.Reference11Ideal.Read
open Cert.Reference11Ideal Cert.Reference11Ideal.Gen Cert.Reference11Ideal.Value Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run m ρ)

theorem result (a0 : FVec Ideal S4096x1024 .f32) (a1 : FVec Ideal S1024x1024 .f32) (i : Fin 4096) (j : Fin 1024) :
    (Host.dotGeneral (F := Ideal) (φ₁ := .f32) (φ₂ := .f32) dot_S4096x1024_S1024x1024_S4096x1024_1_1_0_0_n_n none a0 a1 : Vec Ideal S4096x1024 .f32) (ix2 i j)
      = ∑ k : Fin 1024, (a0 (ix2 i k) : EReal) * (a1 (ix2 j k) : EReal) := by
  pointwise

end Cert.Reference11Ideal.Read

namespace Cert.Kernel11Ideal.Body
open Idealize.ShloMosaic Idealize.ShloMosaic.TcCoe Idealize.SL.Sem

theorem algebraic : Cert.algebraic_Kernel11Ideal_Reference11Ideal := by
  intro m g m' g' hpre hag
  refine ⟨fun c => (Cert.Kernel11Ideal.Gen.dats m 0 c).arrAt 2 Cert.Kernel11Ideal.cfg0.N, Cert.Kernel11Ideal.Value.run_blocks m g, ?_⟩
  refine (θ_run Cert.Reference11Ideal.defs _ _).mono (fun r h c => ?_) (Cert.Reference11Ideal.Value.run m' g')
  obtain ⟨h0, ha⟩ := h c
  refine ⟨h0.trans (funext fun i => ?_), ha⟩
  obtain ⟨e0, e1, e2⟩ := hag c
  rw [e0, e1, eq_ix2 i]
  exact (Cert.Reference11Ideal.Read.result _ _ _ _).trans (final m c _ _ rfl rfl _ _).symm

end Cert.Kernel11Ideal.Body
end
-- ==== Proof.MmWOut.lean ====
module

public import proofs.«01_k».proof.Defs
public import proofs.«01_k».proof.Proof.Gen.Kernel12Ideal.Value
public import proofs.«01_k».proof.Proof.Gen.Reference12Ideal.Run
public import Idealize.ShloMosaic.Lib.Pointwise
public import Idealize.ShloMosaic.Lib.Quiescent
public import Idealize.ShloMosaic.PureOps.Ideal.Laws

/-! The gradient of w_out: each block of rows is one product over all tokens. -/

@[expose] public section
set_option maxRecDepth 16384
noncomputable section

namespace Cert.Kernel12Ideal.Body
open Cert.Kernel12Ideal Cert.Kernel12Ideal.Gen Idealize.ShloMosaic Idealize.ShloMosaic.TcCoe Idealize.SL.Sem
open Cert.Kernel12Ideal.Value
variable (m : (ℓ : Loc nD τ sig) → Buf (Elt Ideal) ℓ)

theorem hz : (![0, 0] : Fin 2 → Nat) = fun _ => 0 := funext fun a => by fin_cases a <;> rfl

/-- An element of the block a point writes. -/
theorem point (x0 : Vec Ideal S4096x256 .f32) (x1 : Vec Ideal S4096x1024 .f32) (p : Fin 256) (q : Fin 1024) :
    (out0_2 x0 x1 : Vec Ideal S256x1024 .bf16) (ix2 p q) = ∑ k : Fin 4096, (x0 (ix2 k p) : EReal) * (x1 (ix2 k q) : EReal) := by
  unfold out0_2
  rw [View.canon_unit_zero hz, View.ld_unit_zero hz, View.ld_unit_zero hz]
  pointwise [k0_pay1]

theorem idx_0 : ∀ t : Fin cfg0.N, win0_0.index t 0 = 0 ∧ win0_0.index t 1 = t.val := by decide +kernel
theorem idx_1 : ∀ t : Fin cfg0.N, win0_1.index t 0 = 0 ∧ win0_1.index t 1 = 0 := by decide +kernel
theorem idx_2 : ∀ t : Fin cfg0.N, win0_2.index t 0 = t.val ∧ win0_2.index t 1 = 0 := by decide +kernel
theorem t_lt (t : Fin cfg0.N) : t.val < 4 := by have := t.isLt; have hN : cfg0.N = 4 := N_0; omega

/-- Window 0's block at point `t`, read from the argument. -/
theorem blk0 (c : Dev nD) (a : FVec Ideal S4096x1024 .f32) (h : m ((c : Thread nD τ).loc main_arg0) = a) (t : Fin cfg0.N) (x : Fin 4096) (y : Fin 256) (y1 : Fin 1024) (hy1 : y1.val = 256 * (t.val) + y.val) :
    ((iblk m c 0 t : Vec Ideal S4096x256 .f32) (ix2 x y) : EReal) = a (ix2 x y1) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 4096 + 1 * x.val = x.val; rw [(idx_0 t).1]; omega
  | ⟨1, _⟩ => show win0_0.index t 1 * 256 + 1 * y.val = y1.val; rw [(idx_0 t).2]; omega

/-- Window 1's block at point `t`, read from the argument. -/
theorem blk1 (c : Dev nD) (a : FVec Ideal S4096x1024 .f32) (h : m ((c : Thread nD τ).loc main_arg1) = a) (t : Fin cfg0.N) (x : Fin 4096) (y : Fin 1024)  :
    ((iblk m c 1 t : Vec Ideal S4096x1024 .f32) (ix2 x y) : EReal) = a (ix2 x y) := by
  refine Eq.trans ?_ (congrFun h _)
  rw [← V_main_arg1 m c]
  unfold iblk
  rw [View.read_apply]
  refine congrArg (V m c main_arg1) (funext fun a => Fin.ext ?_)
  match a with
  | ⟨0, _⟩ => show win0_1.index t 0 * 4096 + 1 * x.val = x.val; rw [(idx_1 t).1]; omega
  | ⟨1, _⟩ => show win0_1.index t 1 * 1024 + 1 * y.val = y.val; rw [(idx_1 t).2]; omega

/-- The call's result: the product of the whole arrays. -/
theorem final (c : Dev nD) (a0 : FVec Ideal S4096x1024 .f32) (a1 : FVec Ideal S4096x1024 .f32) (h0 : m ((c : Thread nD τ).loc main_arg0) = a0) (h1 : m ((c : Thread nD τ).loc main_arg1) = a1) (i : Fin 1024) (j : Fin 1024) :
    ((dats m 0 c).arrAt 2 cfg0.N : Vec Ideal S1024x1024 .bf16) (ix2 i j)
      = ∑ k : Fin 4096, (a0 (ix2 k i) : EReal) * (a1 (ix2 k j) : EReal) := by
  have hN : cfg0.N = 4 := N_0
  let t : Fin cfg0.N := ⟨i.val / 256, by omega⟩
  have ht : t.val = i.val / 256 := rfl
  have hb := blocks2 m c t (flush0_2 t)
  rw [flushed2] at hb
  have hb1 := congrFun hb (ix2 (⟨i.val % 256, by omega⟩ : Fin 256) j)
  have e : ((cfg0.win 2).blk t).view.emb (ix2 (⟨i.val % 256, by omega⟩ : Fin 256) j) = (ix2 i j : S1024x1024.Idx) := funext fun a => Fin.ext (by
    match a with
    | ⟨0, _⟩ => show win0_2.index t 0 * 256 + 1 * (i.val % 256) = i.val; rw [(idx_2 t).1]; omega
    | ⟨1, _⟩ => show win0_2.index t 1 * 1024 + 1 * j.val = j.val; rw [(idx_2 t).2]; omega)
  rw [View.read_apply, e] at hb1
  refine hb1.trans ((point (iblk m c 0 t) (iblk m c 1 t) ⟨i.val % 256, by omega⟩ j).trans ?_)
  refine Finset.sum_congr rfl fun k _ => ?_
  exact congrArg₂ (fun x y : EReal => x * y) (blk0 m c _ h0 t k ⟨i.val % 256, by omega⟩ i (by simp only [t]; omega)) (blk1 m c _ h1 t k j)

end Cert.Kernel12Ideal.Body

namespace Cert.Reference12Ideal.Read
open Cert.Reference12Ideal Cert.Reference12Ideal.Gen Cert.Reference12Ideal.Value Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run m ρ)

theorem result (a0 : FVec Ideal S4096x1024 .f32) (a1 : FVec Ideal S4096x1024 .f32) (i : Fin 1024) (j : Fin 1024) :
    (truncf (F := Ideal) (φ := .f32) .bf16 (transpose S1024x1024 [1, 0] (Host.dotGeneral (F := Ideal) (φ₁ := .f32) (φ₂ := .f32) dot_S4096x1024_S4096x1024_S1024x1024_0_0_1_1_n_n none a1 a0) transposes_S1024x1024_S1024x1024_1_0) bitsLt_bf16_f32 : Vec Ideal S1024x1024 .bf16) (ix2 i j)
      = ∑ k : Fin 4096, (a0 (ix2 k i) : EReal) * (a1 (ix2 k j) : EReal) := by
  refine Eq.trans (b := ∑ k : Fin 4096, (a1 (ix2 k j) : EReal) * (a0 (ix2 k i) : EReal)) (by pointwise) ?_
  exact Finset.sum_congr rfl fun k _ => mul_comm _ _

end Cert.Reference12Ideal.Read

namespace Cert.Kernel12Ideal.Body
open Idealize.ShloMosaic Idealize.ShloMosaic.TcCoe Idealize.SL.Sem

theorem algebraic : Cert.algebraic_Kernel12Ideal_Reference12Ideal := by
  intro m g m' g' hpre hag
  refine ⟨fun c => (Cert.Kernel12Ideal.Gen.dats m 0 c).arrAt 2 Cert.Kernel12Ideal.cfg0.N, Cert.Kernel12Ideal.Value.run_blocks m g, ?_⟩
  refine (θ_run Cert.Reference12Ideal.defs _ _).mono (fun r h c => ?_) (Cert.Reference12Ideal.Value.run m' g')
  obtain ⟨h0, ha⟩ := h c
  refine ⟨h0.trans (funext fun i => ?_), ha⟩
  obtain ⟨e0, e1, e2⟩ := hag c
  rw [e0, e1, eq_ix2 i]
  exact (Cert.Reference12Ideal.Read.result _ _ _ _).trans (final m c _ _ rfl rfl _ _).symm

end Cert.Kernel12Ideal.Body
end
-- ==== Proof.MmWGate.lean ====
module

public import proofs.«01_k».proof.Defs
public import proofs.«01_k».proof.Proof.Gen.Kernel13Ideal.Value
public import proofs.«01_k».proof.Proof.Gen.Reference13Ideal.Run
public import Idealize.ShloMosaic.Lib.Pointwise
public import Idealize.ShloMosaic.Lib.Quiescent
public import Idealize.ShloMosaic.PureOps.Ideal.Laws

/-! The gradient of w_pg: each block of rows is one product over all tokens. -/

@[expose] public section
set_option maxRecDepth 16384
noncomputable section

namespace Cert.Kernel13Ideal.Body
open Cert.Kernel13Ideal Cert.Kernel13Ideal.Gen Idealize.ShloMosaic Idealize.ShloMosaic.TcCoe Idealize.SL.Sem
open Cert.Kernel13Ideal.Value
variable (m : (ℓ : Loc nD τ sig) → Buf (Elt Ideal) ℓ)

theorem hz : (![0, 0] : Fin 2 → Nat) = fun _ => 0 := funext fun a => by fin_cases a <;> rfl

/-- An element of the block a point writes. -/
theorem point (x0 : Vec Ideal S4096x512 .bf16) (x1 : Vec Ideal S4096x1024 .bf16) (p : Fin 512) (q : Fin 1024) :
    (out0_2 x0 x1 : Vec Ideal S512x1024 .bf16) (ix2 p q) = ∑ k : Fin 4096, (x0 (ix2 k p) : EReal) * (x1 (ix2 k q) : EReal) := by
  unfold out0_2
  rw [View.canon_unit_zero hz, View.ld_unit_zero hz, View.ld_unit_zero hz]
  pointwise [k0_pay1]

theorem idx_0 : ∀ t : Fin cfg0.N, win0_0.index t 0 = 0 ∧ win0_0.index t 1 = t.val := by decide +kernel
theorem idx_1 : ∀ t : Fin cfg0.N, win0_1.index t 0 = 0 ∧ win0_1.index t 1 = 0 := by decide +kernel
theorem idx_2 : ∀ t : Fin cfg0.N, win0_2.index t 0 = t.val ∧ win0_2.index t 1 = 0 := by decide +kernel
theorem t_lt (t : Fin cfg0.N) : t.val < 2 := by have := t.isLt; have hN : cfg0.N = 2 := N_0; omega

/-- Window 0's block at point `t`, read from the argument. -/
theorem blk0 (c : Dev nD) (a : FVec Ideal S4096x1024 .bf16) (h : m ((c : Thread nD τ).loc main_arg0) = a) (t : Fin cfg0.N) (x : Fin 4096) (y : Fin 512) (y1 : Fin 1024) (hy1 : y1.val = 512 * (t.val) + y.val) :
    ((iblk m c 0 t : Vec Ideal S4096x512 .bf16) (ix2 x y) : EReal) = a (ix2 x y1) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 4096 + 1 * x.val = x.val; rw [(idx_0 t).1]; omega
  | ⟨1, _⟩ => show win0_0.index t 1 * 512 + 1 * y.val = y1.val; rw [(idx_0 t).2]; omega

/-- Window 1's block at point `t`, read from the argument. -/
theorem blk1 (c : Dev nD) (a : FVec Ideal S4096x1024 .bf16) (h : m ((c : Thread nD τ).loc main_arg1) = a) (t : Fin cfg0.N) (x : Fin 4096) (y : Fin 1024)  :
    ((iblk m c 1 t : Vec Ideal S4096x1024 .bf16) (ix2 x y) : EReal) = a (ix2 x y) := by
  refine Eq.trans ?_ (congrFun h _)
  rw [← V_main_arg1 m c]
  unfold iblk
  rw [View.read_apply]
  refine congrArg (V m c main_arg1) (funext fun a => Fin.ext ?_)
  match a with
  | ⟨0, _⟩ => show win0_1.index t 0 * 4096 + 1 * x.val = x.val; rw [(idx_1 t).1]; omega
  | ⟨1, _⟩ => show win0_1.index t 1 * 1024 + 1 * y.val = y.val; rw [(idx_1 t).2]; omega

/-- The call's result: the product of the whole arrays. -/
theorem final (c : Dev nD) (a0 : FVec Ideal S4096x1024 .bf16) (a1 : FVec Ideal S4096x1024 .bf16) (h0 : m ((c : Thread nD τ).loc main_arg0) = a0) (h1 : m ((c : Thread nD τ).loc main_arg1) = a1) (i : Fin 1024) (j : Fin 1024) :
    ((dats m 0 c).arrAt 2 cfg0.N : Vec Ideal S1024x1024 .bf16) (ix2 i j)
      = ∑ k : Fin 4096, (a0 (ix2 k i) : EReal) * (a1 (ix2 k j) : EReal) := by
  have hN : cfg0.N = 2 := N_0
  let t : Fin cfg0.N := ⟨i.val / 512, by omega⟩
  have ht : t.val = i.val / 512 := rfl
  have hb := blocks2 m c t (flush0_2 t)
  rw [flushed2] at hb
  have hb1 := congrFun hb (ix2 (⟨i.val % 512, by omega⟩ : Fin 512) j)
  have e : ((cfg0.win 2).blk t).view.emb (ix2 (⟨i.val % 512, by omega⟩ : Fin 512) j) = (ix2 i j : S1024x1024.Idx) := funext fun a => Fin.ext (by
    match a with
    | ⟨0, _⟩ => show win0_2.index t 0 * 512 + 1 * (i.val % 512) = i.val; rw [(idx_2 t).1]; omega
    | ⟨1, _⟩ => show win0_2.index t 1 * 1024 + 1 * j.val = j.val; rw [(idx_2 t).2]; omega)
  rw [View.read_apply, e] at hb1
  refine hb1.trans ((point (iblk m c 0 t) (iblk m c 1 t) ⟨i.val % 512, by omega⟩ j).trans ?_)
  refine Finset.sum_congr rfl fun k _ => ?_
  exact congrArg₂ (fun x y : EReal => x * y) (blk0 m c _ h0 t k ⟨i.val % 512, by omega⟩ i (by simp only [t]; omega)) (blk1 m c _ h1 t k j)

end Cert.Kernel13Ideal.Body

namespace Cert.Reference13Ideal.Read
open Cert.Reference13Ideal Cert.Reference13Ideal.Gen Cert.Reference13Ideal.Value Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run m ρ)

theorem result (a0 : FVec Ideal S4096x1024 .bf16) (a1 : FVec Ideal S4096x1024 .bf16) (i : Fin 1024) (j : Fin 1024) :
    (truncf (F := Ideal) (φ := .f32) .bf16 (transpose S1024x1024 [1, 0] (Host.dotGeneral (F := Ideal) (φ₁ := .f32) (φ₂ := .f32) dot_S4096x1024_S4096x1024_S1024x1024_0_0_1_1_n_n none (extf .f32 a1 bitsLt_bf16_f32) (extf .f32 a0 bitsLt_bf16_f32)) transposes_S1024x1024_S1024x1024_1_0) bitsLt_bf16_f32 : Vec Ideal S1024x1024 .bf16) (ix2 i j)
      = ∑ k : Fin 4096, (a0 (ix2 k i) : EReal) * (a1 (ix2 k j) : EReal) := by
  refine Eq.trans (b := ∑ k : Fin 4096, (a1 (ix2 k j) : EReal) * (a0 (ix2 k i) : EReal)) (by pointwise) ?_
  exact Finset.sum_congr rfl fun k _ => mul_comm _ _

end Cert.Reference13Ideal.Read

namespace Cert.Kernel13Ideal.Body
open Idealize.ShloMosaic Idealize.ShloMosaic.TcCoe Idealize.SL.Sem

theorem algebraic : Cert.algebraic_Kernel13Ideal_Reference13Ideal := by
  intro m g m' g' hpre hag
  refine ⟨fun c => (Cert.Kernel13Ideal.Gen.dats m 0 c).arrAt 2 Cert.Kernel13Ideal.cfg0.N, Cert.Kernel13Ideal.Value.run_blocks m g, ?_⟩
  refine (θ_run Cert.Reference13Ideal.defs _ _).mono (fun r h c => ?_) (Cert.Reference13Ideal.Value.run m' g')
  obtain ⟨h0, ha⟩ := h c
  refine ⟨h0.trans (funext fun i => ?_), ha⟩
  obtain ⟨e0, e1, e2⟩ := hag c
  rw [e0, e1, eq_ix2 i]
  exact (Cert.Reference13Ideal.Read.result _ _ _ _).trans (final m c _ _ rfl rfl _ _).symm

end Cert.Kernel13Ideal.Body
end
-- ==== Proof.MmDown.lean ====
module

public import proofs.«01_k».proof.Defs
public import proofs.«01_k».proof.Proof.Gen.Kernel14Ideal.Value
public import proofs.«01_k».proof.Proof.Gen.Reference14Ideal.Run
public import Idealize.ShloMosaic.Lib.StableHlo.ReadAt
public import Idealize.ShloMosaic.Lib.Pointwise
public import Idealize.ShloMosaic.Lib.Quiescent
public import Idealize.ShloMosaic.PureOps.Ideal.Laws

/-! The down-projection with its residual, and the norm after it, a block of tokens at a time. -/

@[expose] public section
set_option maxRecDepth 16384
noncomputable section

namespace Cert.Kernel14Ideal.Body
open Cert.Kernel14Ideal Cert.Kernel14Ideal.Gen Idealize.ShloMosaic Idealize.ShloMosaic.TcCoe Idealize.SL.Sem
open Cert.Kernel14Ideal.Value
variable (m : (ℓ : Loc nD τ sig) → Buf (Elt Ideal) ℓ)

theorem hz : (![0, 0] : Fin 2 → Nat) = fun _ => 0 := funext fun a => by fin_cases a <;> rfl

/-- An element of the first block a point writes. -/
theorem point4 (x0 : Vec Ideal S512x2816 .bf16) (x1 : Vec Ideal S2816x1024 .bf16) (x2 : Vec Ideal S512x1024 .f32) (x3 : Vec Ideal S1x1024 .f32) (p : Fin 512) (q : Fin 1024) :
    (out0_4 x0 x1 x2 x3 : Vec Ideal S512x1024 .f32) (ix2 p q) = (x2 (ix2 p q) : EReal) + ∑ k : Fin 2816, (x0 (ix2 p k) : EReal) * (x1 (ix2 k q) : EReal) := by
  unfold out0_4
  rw [View.canon_unit_zero hz, View.ld_unit_zero hz, View.ld_unit_zero hz, View.ld_unit_zero hz]
  refine Eq.trans (b := ∑ k : Fin 2816, (x0 (ix2 p k) : EReal) * (x1 (ix2 k q) : EReal) + (x2 (ix2 p q) : EReal)) (by pointwise [k0_pay1]) (add_comm _ _)

/-- The first block's payload. -/
theorem pay1_apply (x0 : Vec Ideal S512x2816 .bf16) (x1 : Vec Ideal S2816x1024 .bf16) (x2 : Vec Ideal S512x1024 .f32) (p : Fin 512) (q : Fin 1024) :
    (k0_pay1 x0 x1 x2 (ix2 p q) : EReal) = (x2 (ix2 p q) : EReal) + ∑ k : Fin 2816, (x0 (ix2 p k) : EReal) * (x1 (ix2 k q) : EReal) :=
  Eq.trans (b := ∑ k : Fin 2816, (x0 (ix2 p k) : EReal) * (x1 (ix2 k q) : EReal) + (x2 (ix2 p q) : EReal)) (by pointwise [k0_pay1]) (add_comm _ _)

/-- An entry of a row over the root of the row's mean square, times its gain. -/
def normed (v : Fin 1024 → EReal) (g : EReal) (q : Fin 1024) : EReal :=
  v q * Ideal.rsqrt (Ideal.div (∑ x, v x * v x) (Ideal.ofBits FTy.f32 1149239296#32) + Ideal.ofBits FTy.f32 897988541#32) * g

/-- An element of the second block a point writes. -/
theorem point5 (x0 : Vec Ideal S512x2816 .bf16) (x1 : Vec Ideal S2816x1024 .bf16) (x2 : Vec Ideal S512x1024 .f32) (x3 : Vec Ideal S1x1024 .f32) (p : Fin 512) (q : Fin 1024) :
    (out0_5 x0 x1 x2 x3 : Vec Ideal S512x1024 .bf16) (ix2 p q)
      = normed (fun y => (x2 (ix2 p y) : EReal) + ∑ k : Fin 2816, (x0 (ix2 p k) : EReal) * (x1 (ix2 k y) : EReal)) (x3 (ix2 (0 : Fin 1) q)) q := by
  rw [show (fun y => (x2 (ix2 p y) : EReal) + ∑ k : Fin 2816, (x0 (ix2 p k) : EReal) * (x1 (ix2 k y) : EReal)) = fun y => (k0_pay1 x0 x1 x2 (ix2 p y) : EReal) from
    funext fun y => (pay1_apply x0 x1 x2 p y).symm]
  unfold out0_5
  rw [View.canon_unit_zero hz, View.ld_unit_zero hz, View.ld_unit_zero hz, View.ld_unit_zero hz, View.ld_unit_zero hz]
  pointwise [k0_pay2]
  rfl

theorem idx_0 : ∀ t : Fin cfg0.N, win0_0.index t 0 = t.val ∧ win0_0.index t 1 = 0 := by decide +kernel
theorem idx_1 : ∀ t : Fin cfg0.N, win0_1.index t 0 = 0 ∧ win0_1.index t 1 = 0 := by decide +kernel
theorem idx_2 : ∀ t : Fin cfg0.N, win0_2.index t 0 = t.val ∧ win0_2.index t 1 = 0 := by decide +kernel
theorem idx_3 : ∀ t : Fin cfg0.N, win0_3.index t 0 = 0 ∧ win0_3.index t 1 = 0 := by decide +kernel
theorem idx_4 : ∀ t : Fin cfg0.N, win0_4.index t 0 = t.val ∧ win0_4.index t 1 = 0 := by decide +kernel
theorem idx_5 : ∀ t : Fin cfg0.N, win0_5.index t 0 = t.val ∧ win0_5.index t 1 = 0 := by decide +kernel

/-- The host's cast keeps the argument's values. -/
theorem host1 (c : Dev nD) (a : FVec Ideal S2816x1024 .f32) (h : m ((c : Thread nD τ).loc main_arg1) = a) (x : Fin 2816) (y : Fin 1024) :
    ((V m c main_v0 : Vec Ideal S2816x1024 .bf16) (ix2 x y) : EReal) = a (ix2 x y) := by
  refine Eq.trans ?_ (congrFun h _)
  unfold V
  after_reads_at

/-- The gain, as a row. -/
theorem host3 (c : Dev nD) (a : FVec Ideal S1024 .f32) (h : m ((c : Thread nD τ).loc main_arg3) = a) (y : Fin 1024) :
    ((V m c main_v1 : Vec Ideal S1x1024 .f32) (ix2 (0 : Fin 1) y) : EReal) = a (ix1 y) := by
  refine Eq.trans ?_ (congrFun h _)
  unfold V
  after_reads_at

/-- Window 0's block at point `t`, read from the argument. -/
theorem blk0 (c : Dev nD) (a : FVec Ideal S4096x2816 .bf16) (h : m ((c : Thread nD τ).loc main_arg0) = a) (t : Fin cfg0.N) (x : Fin 512) (y : Fin 2816) (x1 : Fin 4096) (hx1 : x1.val = 512 * (t.val) + x.val) :
    ((iblk m c 0 t : Vec Ideal S512x2816 .bf16) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 512 + 1 * x.val = x1.val; rw [(idx_0 t).1]; omega
  | ⟨1, _⟩ => show win0_0.index t 1 * 2816 + 1 * y.val = y.val; rw [(idx_0 t).2]; omega

/-- Window 1's block at point `t`, read from the argument. -/
theorem blk1 (c : Dev nD) (a : FVec Ideal S2816x1024 .f32) (h : m ((c : Thread nD τ).loc main_arg1) = a) (t : Fin cfg0.N) (x : Fin 2816) (y : Fin 1024)  :
    ((iblk m c 1 t : Vec Ideal S2816x1024 .bf16) (ix2 x y) : EReal) = a (ix2 x y) := by
  refine Eq.trans ?_ (host1 m c a h x y)
  unfold iblk
  rw [View.read_apply]
  refine congrArg (V m c main_v0) (funext fun a => Fin.ext ?_)
  match a with
  | ⟨0, _⟩ => show win0_1.index t 0 * 2816 + 1 * x.val = x.val; rw [(idx_1 t).1]; omega
  | ⟨1, _⟩ => show win0_1.index t 1 * 1024 + 1 * y.val = y.val; rw [(idx_1 t).2]; omega

/-- Window 2's block at point `t`, read from the argument. -/
theorem blk2 (c : Dev nD) (a : FVec Ideal S4096x1024 .f32) (h : m ((c : Thread nD τ).loc main_arg2) = a) (t : Fin cfg0.N) (x : Fin 512) (y : Fin 1024) (x1 : Fin 4096) (hx1 : x1.val = 512 * (t.val) + x.val) :
    ((iblk m c 2 t : Vec Ideal S512x1024 .f32) (ix2 x y) : EReal) = a (ix2 x1 y) := by
  refine Eq.trans ?_ (congrFun h _)
  rw [← V_main_arg2 m c]
  unfold iblk
  rw [View.read_apply]
  refine congrArg (V m c main_arg2) (funext fun a => Fin.ext ?_)
  match a with
  | ⟨0, _⟩ => show win0_2.index t 0 * 512 + 1 * x.val = x1.val; rw [(idx_2 t).1]; omega
  | ⟨1, _⟩ => show win0_2.index t 1 * 1024 + 1 * y.val = y.val; rw [(idx_2 t).2]; omega

/-- The gain's row at point `t`. -/
theorem blk3 (c : Dev nD) (a : FVec Ideal S1024 .f32) (h : m ((c : Thread nD τ).loc main_arg3) = a) (t : Fin cfg0.N) (y : Fin 1024) :
    ((iblk m c 3 t : Vec Ideal S1x1024 .f32) (ix2 (0 : Fin 1) y) : EReal) = a (ix1 y) := by
  refine Eq.trans ?_ (host3 m c a h y)
  unfold iblk
  rw [View.read_apply]
  refine congrArg (V m c main_v1) (funext fun a => Fin.ext ?_)
  match a with
  | ⟨0, _⟩ => show win0_3.index t 0 * 1 + 1 * 0 = 0; rw [(idx_3 t).1]
  | ⟨1, _⟩ => show win0_3.index t 1 * 1024 + 1 * y.val = y.val; rw [(idx_3 t).2]; omega

/-- The sum of a block's residual and product, in the whole arrays. -/
theorem row_eq (c : Dev nD) (a0 : FVec Ideal S4096x2816 .bf16) (a1 : FVec Ideal S2816x1024 .f32) (a2 : FVec Ideal S4096x1024 .f32) (h0 : m ((c : Thread nD τ).loc main_arg0) = a0) (h1 : m ((c : Thread nD τ).loc main_arg1) = a1) (h2 : m ((c : Thread nD τ).loc main_arg2) = a2) (t : Fin cfg0.N) (p : Fin 512) (i : Fin 4096) (hi : i.val = 512 * t.val + p.val) (j : Fin 1024)
    (x0 : Vec Ideal S512x2816 .bf16) (x1 : Vec Ideal S2816x1024 .bf16) (x2 : Vec Ideal S512x1024 .f32) (e0 : iblk m c 0 t = x0) (e1 : iblk m c 1 t = x1) (e2 : iblk m c 2 t = x2) :
    (x2 (ix2 p j) : EReal) + ∑ k : Fin 2816, (x0 (ix2 p k) : EReal) * (x1 (ix2 k j) : EReal) = (a2 (ix2 i j) : EReal) + ∑ k : Fin 2816, (a0 (ix2 i k) : EReal) * (a1 (ix2 k j) : EReal) := by
  subst e0 e1 e2
  exact congrArg₂ (fun x y : EReal => x + y) (blk2 m c _ h2 t p j i hi)
    (Finset.sum_congr rfl fun k _ => congrArg₂ (fun x y : EReal => x * y) (blk0 m c _ h0 t p k i hi) (blk1 m c _ h1 t k j))

/-- Result 1 of the call, in the whole arrays. -/
theorem final4 (c : Dev nD) (a0 : FVec Ideal S4096x2816 .bf16) (a1 : FVec Ideal S2816x1024 .f32) (a2 : FVec Ideal S4096x1024 .f32) (h0 : m ((c : Thread nD τ).loc main_arg0) = a0) (h1 : m ((c : Thread nD τ).loc main_arg1) = a1) (h2 : m ((c : Thread nD τ).loc main_arg2) = a2) (i : Fin 4096) (j : Fin 1024) :
    ((dats m 0 c).arrAt 4 cfg0.N : Vec Ideal S4096x1024 .f32) (ix2 i j) = (a2 (ix2 i j) : EReal) + ∑ k : Fin 2816, (a0 (ix2 i k) : EReal) * (a1 (ix2 k j) : EReal) := by
  have hN : cfg0.N = 8 := N_0
  let t : Fin cfg0.N := ⟨i.val / 512, by omega⟩
  have hb := blocks4 m c t (flush0_4 t)
  rw [flushed4] at hb
  have hb1 := congrFun hb (ix2 (⟨i.val % 512, by omega⟩ : Fin 512) j)
  have e : ((cfg0.win 4).blk t).view.emb (ix2 (⟨i.val % 512, by omega⟩ : Fin 512) j) = (ix2 i j : S4096x1024.Idx) := funext fun a => Fin.ext (by
    match a with
    | ⟨0, _⟩ => show win0_4.index t 0 * 512 + 1 * (i.val % 512) = i.val; rw [(idx_4 t).1]; simp only [t]; omega
    | ⟨1, _⟩ => show win0_4.index t 1 * 1024 + 1 * j.val = j.val; rw [(idx_4 t).2]; omega)
  rw [View.read_apply, e] at hb1
  refine hb1.trans ((point4 (iblk m c 0 t) (iblk m c 1 t) (iblk m c 2 t) (iblk m c 3 t) ⟨i.val % 512, by omega⟩ j).trans ?_)
  exact row_eq m c a0 a1 a2 h0 h1 h2 t _ i (by simp only [t]; omega) j _ _ _ rfl rfl rfl

/-- Result 2 of the call, in the whole arrays. -/
theorem final5 (c : Dev nD) (a0 : FVec Ideal S4096x2816 .bf16) (a1 : FVec Ideal S2816x1024 .f32) (a2 : FVec Ideal S4096x1024 .f32) (a3 : FVec Ideal S1024 .f32) (h0 : m ((c : Thread nD τ).loc main_arg0) = a0) (h1 : m ((c : Thread nD τ).loc main_arg1) = a1) (h2 : m ((c : Thread nD τ).loc main_arg2) = a2) (h3 : m ((c : Thread nD τ).loc main_arg3) = a3) (i : Fin 4096) (j : Fin 1024) :
    ((dats m 0 c).arrAt 5 cfg0.N : Vec Ideal S4096x1024 .bf16) (ix2 i j) = normed (fun y => (a2 (ix2 i y) : EReal) + ∑ k : Fin 2816, (a0 (ix2 i k) : EReal) * (a1 (ix2 k y) : EReal)) (a3 (ix1 j)) j := by
  have hN : cfg0.N = 8 := N_0
  let t : Fin cfg0.N := ⟨i.val / 512, by omega⟩
  have hb := blocks5 m c t (flush0_5 t)
  rw [flushed5] at hb
  have hb1 := congrFun hb (ix2 (⟨i.val % 512, by omega⟩ : Fin 512) j)
  have e : ((cfg0.win 5).blk t).view.emb (ix2 (⟨i.val % 512, by omega⟩ : Fin 512) j) = (ix2 i j : S4096x1024.Idx) := funext fun a => Fin.ext (by
    match a with
    | ⟨0, _⟩ => show win0_5.index t 0 * 512 + 1 * (i.val % 512) = i.val; rw [(idx_5 t).1]; simp only [t]; omega
    | ⟨1, _⟩ => show win0_5.index t 1 * 1024 + 1 * j.val = j.val; rw [(idx_5 t).2]; omega)
  rw [View.read_apply, e] at hb1
  refine hb1.trans ((point5 (iblk m c 0 t) (iblk m c 1 t) (iblk m c 2 t) (iblk m c 3 t) ⟨i.val % 512, by omega⟩ j).trans ?_)
  exact congrArg₂ (fun v g => normed v g j) (funext fun y => row_eq m c a0 a1 a2 h0 h1 h2 t _ i (by simp only [t]; omega) y _ _ _ rfl rfl rfl) (blk3 m c a3 h3 t j)

end Cert.Kernel14Ideal.Body

namespace Cert.Reference14Ideal.Read
open Cert.Reference14Ideal Cert.Reference14Ideal.Gen Cert.Reference14Ideal.Value Idealize.ShloMosaic Idealize.ShloMosaic.TcCoe Idealize.SL.Sem
open Cert.Kernel14Ideal.Body (normed)

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2.2, sem_eq_zero_of_no_sems (by decide) r.2⟩) (run m ρ)

/-- The sum of the residual and the product. -/
def total (a0 : FVec Ideal S4096x2816 .bf16) (a1 : FVec Ideal S2816x1024 .f32) (a2 : FVec Ideal S4096x1024 .f32) : FVec Ideal S4096x1024 .f32 := addf a2 (Host.dotGeneral (F := Ideal) (φ₁ := .f32) (φ₂ := .f32) dot_S4096x2816_S2816x1024_S4096x1024_1_0_0_1_n_n none (extf .f32 a0 bitsLt_bf16_f32) a1)

theorem total_apply (a0 : FVec Ideal S4096x2816 .bf16) (a1 : FVec Ideal S2816x1024 .f32) (a2 : FVec Ideal S4096x1024 .f32) (i : Fin 4096) (j : Fin 1024) : (total a0 a1 a2 (ix2 i j) : EReal) = (a2 (ix2 i j) : EReal) + ∑ k : Fin 2816, (a0 (ix2 i k) : EReal) * (a1 (ix2 k j) : EReal) := by
  pointwise [total]

theorem norm_apply (a0 : FVec Ideal S4096x2816 .bf16) (a1 : FVec Ideal S2816x1024 .f32) (a2 : FVec Ideal S4096x1024 .f32) (a3 : FVec Ideal S1024 .f32) (i : Fin 4096) (j : Fin 1024) :
    (truncf (F := Ideal) (φ := .f32) .bf16 (mulf (mulf (total a0 a1 a2) (broadcastInDim S4096x1024 ![0, 1] bcast_S4096x1_S4096x1024_0_1 (Host.rsqrt (addf (Host.divf (broadcastInDim S4096x1 ![0] bcast_S4096_S4096x1_0 (Host.reduceAdd (mulf (total a0 a1 a2) (total a0 a1 a2)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 a3))) bitsLt_bf16_f32 : FVec Ideal S4096x1024 .bf16) (ix2 i j)
      = normed (fun y => (a2 (ix2 i y) : EReal) + ∑ k : Fin 2816, (a0 (ix2 i k) : EReal) * (a1 (ix2 k y) : EReal)) (a3 (ix1 j)) j := by
  rw [show (fun y => (a2 (ix2 i y) : EReal) + ∑ k : Fin 2816, (a0 (ix2 i k) : EReal) * (a1 (ix2 k y) : EReal)) = fun y => (total a0 a1 a2 (ix2 i y) : EReal) from funext fun y => (total_apply a0 a1 a2 i y).symm]
  pointwise
  rfl

end Cert.Reference14Ideal.Read

namespace Cert.Kernel14Ideal.Body
open Idealize.ShloMosaic Idealize.ShloMosaic.TcCoe Idealize.SL.Sem

theorem algebraic : Cert.algebraic_Kernel14Ideal_Reference14Ideal := by
  intro m g m' g' hpre hag
  refine ⟨fun c => (Cert.Kernel14Ideal.Gen.dats m 0 c).arrAt 4 Cert.Kernel14Ideal.cfg0.N, fun c => (Cert.Kernel14Ideal.Gen.dats m 0 c).arrAt 5 Cert.Kernel14Ideal.cfg0.N, Cert.Kernel14Ideal.Value.run_blocks m g, ?_⟩
  refine (θ_run Cert.Reference14Ideal.defs _ _).mono (fun r h c => ?_) (Cert.Reference14Ideal.Value.run m' g')
  obtain ⟨h0, h1, ha⟩ := h c
  obtain ⟨e0, e1, e2, e3⟩ := hag c
  refine ⟨h0.trans (funext fun i => ?_), h1.trans (funext fun i => ?_), ha⟩
  · rw [e0, e1, e2, eq_ix2 i]
    exact (Cert.Reference14Ideal.Read.total_apply _ _ _ _ _).trans (final4 m c _ _ _ rfl rfl rfl _ _).symm
  · rw [e0, e1, e2, e3, eq_ix2 i]
    exact (Cert.Reference14Ideal.Read.norm_apply _ _ _ _ _ _).trans (final5 m c _ _ _ _ rfl rfl rfl rfl _ _).symm

end Cert.Kernel14Ideal.Body
end
-- ==== Proof.MmUpGate.lean ====
module

public import proofs.«01_k».proof.Defs
public import proofs.«01_k».proof.Proof.Gen.Kernel15Ideal.Value
public import proofs.«01_k».proof.Proof.Gen.Reference15Ideal.Run
public import Idealize.ShloMosaic.Lib.StableHlo.ReadAt
public import Idealize.ShloMosaic.Lib.Pointwise
public import Idealize.ShloMosaic.Lib.Quiescent
public import Idealize.ShloMosaic.PureOps.Ideal.Laws

/-! The up-projection's gate half, a block of tokens and one slab of columns at a time. -/

@[expose] public section
set_option maxRecDepth 16384
noncomputable section

namespace Cert.Kernel15Ideal.Body
open Cert.Kernel15Ideal Cert.Kernel15Ideal.Gen Idealize.ShloMosaic Idealize.ShloMosaic.TcCoe Idealize.SL.Sem
open Cert.Kernel15Ideal.Value
variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- An element of the block a point writes. -/
theorem point (x0 : Vec Ideal S2048x1024 .bf16) (x1 : Vec Ideal S1x1024x1408 .bf16) (p : Fin 2048) (q : Fin 1408) :
    (out0_2 x0 x1 : Vec Ideal S2048x1408 .f32) (ix2 p q) = ∑ k : Fin 1024, (x0 (ix2 p k) : EReal) * (x1 (ix3 (0 : Fin 1) k q) : EReal) := by
  unfold out0_2
  rw [View.canon_unit_zero hz, View.ld_unit_zero hz, View.ld_unit_zero hz3]
  pointwise [k0_pay1]

theorem idx_0 : ∀ t : Fin cfg0.N, win0_0.index t 0 = t.val / 2 ∧ win0_0.index t 1 = 0 := by decide +kernel
theorem idx_1 : ∀ t : Fin cfg0.N, win0_1.index t 0 = t.val % 2 ∧ win0_1.index t 1 = 0 ∧ win0_1.index t 2 = 0 := by decide +kernel
theorem idx_2 : ∀ t : Fin cfg0.N, win0_2.index t 0 = t.val / 2 ∧ win0_2.index t 1 = t.val % 2 := by decide +kernel
theorem t_lt (t : Fin cfg0.N) : t.val < 4 := by have := t.isLt; have hN : cfg0.N = 4 := N_0; omega

/-! Slab `s` of the stack holds the columns from `1408 s`. -/

theorem slab0 (c : Dev nD) (y : Fin 1024) (z : Fin 1408) (col : Fin 5632) (hcol : col.val = 0 + z.val) :
    ((StableHlo.upto hostOps0 (fun b => m (c, b)) 6 (Proc.tc.devRef main_v5) : Vec Ideal S1x1024x1408 .bf16) (ix3 (0 : Fin 1) y z) : EReal) = (m ((c : Thread nD τ).loc main_arg1) : Vec Ideal S1024x5632 .f32) (ix2 y col) := by
  rw [show col = (⟨0 + z.val, by omega⟩ : Fin 5632) from Fin.ext hcol]
  after_reads_at
  try (congr 2; apply Fin.ext; simp only; omega)

theorem slab1 (c : Dev nD) (y : Fin 1024) (z : Fin 1408) (col : Fin 5632) (hcol : col.val = 1408 + z.val) :
    ((StableHlo.upto hostOps0 (fun b => m (c, b)) 7 (Proc.tc.devRef main_v6) : Vec Ideal S1x1024x1408 .bf16) (ix3 (0 : Fin 1) y z) : EReal) = (m ((c : Thread nD τ).loc main_arg1) : Vec Ideal S1024x5632 .f32) (ix2 y col) := by
  rw [show col = (⟨1408 + z.val, by omega⟩ : Fin 5632) from Fin.ext hcol]
  after_reads_at
  try (congr 2; apply Fin.ext; simp only; omega)

theorem slab2 (c : Dev nD) (y : Fin 1024) (z : Fin 1408) (col : Fin 5632) (hcol : col.val = 2816 + z.val) :
    ((StableHlo.upto hostOps0 (fun b => m (c, b)) 8 (Proc.tc.devRef main_v7) : Vec Ideal S1x1024x1408 .bf16) (ix3 (0 : Fin 1) y z) : EReal) = (m ((c : Thread nD τ).loc main_arg1) : Vec Ideal S1024x5632 .f32) (ix2 y col) := by
  rw [show col = (⟨2816 + z.val, by omega⟩ : Fin 5632) from Fin.ext hcol]
  after_reads_at
  try (congr 2; apply Fin.ext; simp only; omega)

theorem slab3 (c : Dev nD) (y : Fin 1024) (z : Fin 1408) (col : Fin 5632) (hcol : col.val = 4224 + z.val) :
    ((StableHlo.upto hostOps0 (fun b => m (c, b)) 9 (Proc.tc.devRef main_v8) : Vec Ideal S1x1024x1408 .bf16) (ix3 (0 : Fin 1) y z) : EReal) = (m ((c : Thread nD τ).loc main_arg1) : Vec Ideal S1024x5632 .f32) (ix2 y col) := by
  rw [show col = (⟨4224 + z.val, by omega⟩ : Fin 5632) from Fin.ext hcol]
  after_reads_at
  try (congr 2; apply Fin.ext; simp only; omega)

theorem host1 (c : Dev nD) (a : FVec Ideal S1024x5632 .f32) (h : m ((c : Thread nD τ).loc main_arg1) = a) (x : Fin 4) (y : Fin 1024) (z : Fin 1408) (col : Fin 5632) (hcol : col.val = 1408 * x.val + z.val) :
    ((V m c main_v9 : Vec Ideal S4x1024x1408 .bf16) (ix3 x y z) : EReal) = a (ix2 y col) := by
  refine Eq.trans ?_ (congrFun h _)
  unfold V
  match x, hcol with
  | ⟨0, _⟩, hcol => after_reads_at; exact slab0 m c y z col (by simpa using hcol)
  | ⟨1, _⟩, hcol => after_reads_at; exact slab1 m c y z col (by simpa using hcol)
  | ⟨2, _⟩, hcol => after_reads_at; exact slab2 m c y z col (by simpa using hcol)
  | ⟨3, _⟩, hcol => after_reads_at; exact slab3 m c y z col (by simpa using hcol)

/-- Window 0's block at point `t`, read from the argument. -/
theorem blk0 (c : Dev nD) (a : FVec Ideal S4096x1024 .bf16) (h : m ((c : Thread nD τ).loc main_arg0) = a) (t : Fin cfg0.N) (x : Fin 2048) (y : Fin 1024) (x1 : Fin 4096) (hx1 : x1.val = 2048 * (t.val / 2) + x.val) :
    ((iblk m c 0 t : Vec Ideal S2048x1024 .bf16) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 2048 + 1 * x.val = x1.val; rw [(idx_0 t).1]; omega
  | ⟨1, _⟩ => show win0_0.index t 1 * 1024 + 1 * y.val = y.val; rw [(idx_0 t).2]; omega

/-- Window 1's block at point `t`, read from the argument. -/
theorem blk1 (c : Dev nD) (a : FVec Ideal S1024x5632 .f32) (h : m ((c : Thread nD τ).loc main_arg1) = a) (t : Fin cfg0.N) (x : Fin 1) (y : Fin 1024) (z : Fin 1408) (x1 : Fin 4) (col : Fin 5632) (hx1 : x1.val = 1 * (t.val % 2) + x.val) (hcol : col.val = 1408 * x1.val + z.val) :
    ((iblk m c 1 t : Vec Ideal S1x1024x1408 .bf16) (ix3 x y z) : EReal) = a (ix2 y col) := by
  refine Eq.trans ?_ (host1 m c a h x1 y z col hcol)
  unfold iblk
  rw [View.read_apply]
  refine congrArg (V m c main_v9) (funext fun a => Fin.ext ?_)
  match a with
  | ⟨0, _⟩ => show win0_1.index t 0 * 1 + 1 * x.val = x1.val; rw [(idx_1 t).1]; omega
  | ⟨1, _⟩ => show win0_1.index t 1 * 1024 + 1 * y.val = y.val; rw [(idx_1 t).2.1]; omega
  | ⟨2, _⟩ => show win0_1.index t 2 * 1408 + 1 * z.val = z.val; rw [(idx_1 t).2.2]; omega

/-- The call's result: the product of the whole arrays. -/
theorem final (c : Dev nD) (a0 : FVec Ideal S4096x1024 .bf16) (a1 : FVec Ideal S1024x5632 .f32) (h0 : m ((c : Thread nD τ).loc main_arg0) = a0) (h1 : m ((c : Thread nD τ).loc main_arg1) = a1) (i : Fin 4096) (j : Fin 2816) :
    ((dats m 0 c).arrAt 2 cfg0.N : Vec Ideal S4096x2816 .f32) (ix2 i j)
      = ∑ k : Fin 1024, (a0 (ix2 i k) : EReal) * (a1 (ix2 k (⟨0 + j.val, by omega⟩ : Fin 5632)) : EReal) := by
  have hN : cfg0.N = 4 := N_0
  let t : Fin cfg0.N := ⟨i.val / 2048 * 2 + j.val / 1408, by omega⟩
  have ht : t.val = i.val / 2048 * 2 + j.val / 1408 := rfl
  have hb := blocks2 m c t (flush0_2 t)
  rw [flushed2] at hb
  have hb1 := congrFun hb (ix2 (⟨i.val % 2048, by omega⟩ : Fin 2048) (⟨j.val % 1408, by omega⟩ : Fin 1408))
  have e : ((cfg0.win 2).blk t).view.emb (ix2 (⟨i.val % 2048, by omega⟩ : Fin 2048) (⟨j.val % 1408, by omega⟩ : Fin 1408)) = (ix2 i j : S4096x2816.Idx) := funext fun a => Fin.ext (by
    match a with
    | ⟨0, _⟩ => show win0_2.index t 0 * 2048 + 1 * (i.val % 2048) = i.val; rw [(idx_2 t).1]; omega
    | ⟨1, _⟩ => show win0_2.index t 1 * 1408 + 1 * (j.val % 1408) = j.val; rw [(idx_2 t).2]; omega)
  rw [View.read_apply, e] at hb1
  refine hb1.trans ((point (iblk m c 0 t) (iblk m c 1 t) ⟨i.val % 2048, by omega⟩ ⟨j.val % 1408, by omega⟩).trans ?_)
  refine Finset.sum_congr rfl fun k _ => ?_
  exact congrArg₂ (fun x y : EReal => x * y) (blk0 m c _ h0 t ⟨i.val % 2048, by omega⟩ k i (by simp only [t]; omega)) (blk1 m c _ h1 t ⟨0, by omega⟩ k ⟨j.val % 1408, by omega⟩ ⟨j.val / 1408 + 0, by omega⟩ ⟨0 + j.val, by omega⟩ (by simp only [t]; omega) (by simp only; omega))

end Cert.Kernel15Ideal.Body

namespace Cert.Reference15Ideal.Read
open Cert.Reference15Ideal Cert.Reference15Ideal.Gen Cert.Reference15Ideal.Value Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run m ρ)

theorem result (a0 : FVec Ideal S4096x1024 .bf16) (a1 : FVec Ideal S1024x5632 .f32) (i : Fin 4096) (j : Fin 2816) :
    (extractStridedSlice S4096x2816 ![0, 0] (Host.dotGeneral (F := Ideal) (φ₁ := .f32) (φ₂ := .f32) dot_S4096x1024_S1024x5632_S4096x5632_1_0_0_1_n_n none (extf .f32 a0 bitsLt_bf16_f32) a1) slices_S4096x5632_S4096x2816_0_0 : Vec Ideal S4096x2816 .f32) (ix2 i j)
      = ∑ k : Fin 1024, (a0 (ix2 i k) : EReal) * (a1 (ix2 k (⟨0 + j.val, by omega⟩ : Fin 5632)) : EReal) := by
  pointwise

end Cert.Reference15Ideal.Read

namespace Cert.Kernel15Ideal.Body
open Idealize.ShloMosaic Idealize.ShloMosaic.TcCoe Idealize.SL.Sem

theorem algebraic : Cert.algebraic_Kernel15Ideal_Reference15Ideal := by
  intro m g m' g' hpre hag
  refine ⟨fun c => (Cert.Kernel15Ideal.Gen.dats m 0 c).arrAt 2 Cert.Kernel15Ideal.cfg0.N, Cert.Kernel15Ideal.Value.run_blocks m g, ?_⟩
  refine (θ_run Cert.Reference15Ideal.defs _ _).mono (fun r h c => ?_) (Cert.Reference15Ideal.Value.run m' g')
  obtain ⟨h0, ha⟩ := h c
  refine ⟨h0.trans (funext fun i => ?_), ha⟩
  obtain ⟨e0, e1⟩ := hag c
  rw [e0, e1, eq_ix2 i]
  exact (Cert.Reference15Ideal.Read.result _ _ _ _).trans (final m c _ _ rfl rfl _ _).symm

end Cert.Kernel15Ideal.Body
end
-- ==== Proof.MmUpValue.lean ====
module

public import proofs.«01_k».proof.Defs
public import proofs.«01_k».proof.Proof.Gen.Kernel16Ideal.Value
public import proofs.«01_k».proof.Proof.Gen.Reference16Ideal.Run
public import Idealize.ShloMosaic.Lib.StableHlo.ReadAt
public import Idealize.ShloMosaic.Lib.Pointwise
public import Idealize.ShloMosaic.Lib.Quiescent
public import Idealize.ShloMosaic.PureOps.Ideal.Laws

/-! The up-projection's value half, a block of tokens and one slab of columns at a time. -/

@[expose] public section
set_option maxRecDepth 16384
noncomputable section

namespace Cert.Kernel16Ideal.Body
open Cert.Kernel16Ideal Cert.Kernel16Ideal.Gen Idealize.ShloMosaic Idealize.ShloMosaic.TcCoe Idealize.SL.Sem
open Cert.Kernel16Ideal.Value
variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- An element of the block a point writes. -/
theorem point (x0 : Vec Ideal S2048x1024 .bf16) (x1 : Vec Ideal S1x1024x1408 .bf16) (p : Fin 2048) (q : Fin 1408) :
    (out0_2 x0 x1 : Vec Ideal S2048x1408 .f32) (ix2 p q) = ∑ k : Fin 1024, (x0 (ix2 p k) : EReal) * (x1 (ix3 (0 : Fin 1) k q) : EReal) := by
  unfold out0_2
  rw [View.canon_unit_zero hz, View.ld_unit_zero hz, View.ld_unit_zero hz3]
  pointwise [k0_pay1]

theorem idx_0 : ∀ t : Fin cfg0.N, win0_0.index t 0 = t.val / 2 ∧ win0_0.index t 1 = 0 := by decide +kernel
theorem idx_1 : ∀ t : Fin cfg0.N, win0_1.index t 0 = t.val % 2 + 2 ∧ win0_1.index t 1 = 0 ∧ win0_1.index t 2 = 0 := by decide +kernel
theorem idx_2 : ∀ t : Fin cfg0.N, win0_2.index t 0 = t.val / 2 ∧ win0_2.index t 1 = t.val % 2 := by decide +kernel
theorem t_lt (t : Fin cfg0.N) : t.val < 4 := by have := t.isLt; have hN : cfg0.N = 4 := N_0; omega

/-! Slab `s` of the stack holds the columns from `1408 s`. -/

theorem slab0 (c : Dev nD) (y : Fin 1024) (z : Fin 1408) (col : Fin 5632) (hcol : col.val = 0 + z.val) :
    ((StableHlo.upto hostOps0 (fun b => m (c, b)) 6 (Proc.tc.devRef main_v5) : Vec Ideal S1x1024x1408 .bf16) (ix3 (0 : Fin 1) y z) : EReal) = (m ((c : Thread nD τ).loc main_arg1) : Vec Ideal S1024x5632 .f32) (ix2 y col) := by
  rw [show col = (⟨0 + z.val, by omega⟩ : Fin 5632) from Fin.ext hcol]
  after_reads_at
  try (congr 2; apply Fin.ext; simp only; omega)

theorem slab1 (c : Dev nD) (y : Fin 1024) (z : Fin 1408) (col : Fin 5632) (hcol : col.val = 1408 + z.val) :
    ((StableHlo.upto hostOps0 (fun b => m (c, b)) 7 (Proc.tc.devRef main_v6) : Vec Ideal S1x1024x1408 .bf16) (ix3 (0 : Fin 1) y z) : EReal) = (m ((c : Thread nD τ).loc main_arg1) : Vec Ideal S1024x5632 .f32) (ix2 y col) := by
  rw [show col = (⟨1408 + z.val, by omega⟩ : Fin 5632) from Fin.ext hcol]
  after_reads_at
  try (congr 2; apply Fin.ext; simp only; omega)

theorem slab2 (c : Dev nD) (y : Fin 1024) (z : Fin 1408) (col : Fin 5632) (hcol : col.val = 2816 + z.val) :
    ((StableHlo.upto hostOps0 (fun b => m (c, b)) 8 (Proc.tc.devRef main_v7) : Vec Ideal S1x1024x1408 .bf16) (ix3 (0 : Fin 1) y z) : EReal) = (m ((c : Thread nD τ).loc main_arg1) : Vec Ideal S1024x5632 .f32) (ix2 y col) := by
  rw [show col = (⟨2816 + z.val, by omega⟩ : Fin 5632) from Fin.ext hcol]
  after_reads_at
  try (congr 2; apply Fin.ext; simp only; omega)

theorem slab3 (c : Dev nD) (y : Fin 1024) (z : Fin 1408) (col : Fin 5632) (hcol : col.val = 4224 + z.val) :
    ((StableHlo.upto hostOps0 (fun b => m (c, b)) 9 (Proc.tc.devRef main_v8) : Vec Ideal S1x1024x1408 .bf16) (ix3 (0 : Fin 1) y z) : EReal) = (m ((c : Thread nD τ).loc main_arg1) : Vec Ideal S1024x5632 .f32) (ix2 y col) := by
  rw [show col = (⟨4224 + z.val, by omega⟩ : Fin 5632) from Fin.ext hcol]
  after_reads_at
  try (congr 2; apply Fin.ext; simp only; omega)

theorem host1 (c : Dev nD) (a : FVec Ideal S1024x5632 .f32) (h : m ((c : Thread nD τ).loc main_arg1) = a) (x : Fin 4) (y : Fin 1024) (z : Fin 1408) (col : Fin 5632) (hcol : col.val = 1408 * x.val + z.val) :
    ((V m c main_v9 : Vec Ideal S4x1024x1408 .bf16) (ix3 x y z) : EReal) = a (ix2 y col) := by
  refine Eq.trans ?_ (congrFun h _)
  unfold V
  match x, hcol with
  | ⟨0, _⟩, hcol => after_reads_at; exact slab0 m c y z col (by simpa using hcol)
  | ⟨1, _⟩, hcol => after_reads_at; exact slab1 m c y z col (by simpa using hcol)
  | ⟨2, _⟩, hcol => after_reads_at; exact slab2 m c y z col (by simpa using hcol)
  | ⟨3, _⟩, hcol => after_reads_at; exact slab3 m c y z col (by simpa using hcol)

/-- Window 0's block at point `t`, read from the argument. -/
theorem blk0 (c : Dev nD) (a : FVec Ideal S4096x1024 .bf16) (h : m ((c : Thread nD τ).loc main_arg0) = a) (t : Fin cfg0.N) (x : Fin 2048) (y : Fin 1024) (x1 : Fin 4096) (hx1 : x1.val = 2048 * (t.val / 2) + x.val) :
    ((iblk m c 0 t : Vec Ideal S2048x1024 .bf16) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 2048 + 1 * x.val = x1.val; rw [(idx_0 t).1]; omega
  | ⟨1, _⟩ => show win0_0.index t 1 * 1024 + 1 * y.val = y.val; rw [(idx_0 t).2]; omega

/-- Window 1's block at point `t`, read from the argument. -/
theorem blk1 (c : Dev nD) (a : FVec Ideal S1024x5632 .f32) (h : m ((c : Thread nD τ).loc main_arg1) = a) (t : Fin cfg0.N) (x : Fin 1) (y : Fin 1024) (z : Fin 1408) (x1 : Fin 4) (col : Fin 5632) (hx1 : x1.val = 1 * (t.val % 2 + 2) + x.val) (hcol : col.val = 1408 * x1.val + z.val) :
    ((iblk m c 1 t : Vec Ideal S1x1024x1408 .bf16) (ix3 x y z) : EReal) = a (ix2 y col) := by
  refine Eq.trans ?_ (host1 m c a h x1 y z col hcol)
  unfold iblk
  rw [View.read_apply]
  refine congrArg (V m c main_v9) (funext fun a => Fin.ext ?_)
  match a with
  | ⟨0, _⟩ => show win0_1.index t 0 * 1 + 1 * x.val = x1.val; rw [(idx_1 t).1]; omega
  | ⟨1, _⟩ => show win0_1.index t 1 * 1024 + 1 * y.val = y.val; rw [(idx_1 t).2.1]; omega
  | ⟨2, _⟩ => show win0_1.index t 2 * 1408 + 1 * z.val = z.val; rw [(idx_1 t).2.2]; omega

/-- The call's result: the product of the whole arrays. -/
theorem final (c : Dev nD) (a0 : FVec Ideal S4096x1024 .bf16) (a1 : FVec Ideal S1024x5632 .f32) (h0 : m ((c : Thread nD τ).loc main_arg0) = a0) (h1 : m ((c : Thread nD τ).loc main_arg1) = a1) (i : Fin 4096) (j : Fin 2816) :
    ((dats m 0 c).arrAt 2 cfg0.N : Vec Ideal S4096x2816 .f32) (ix2 i j)
      = ∑ k : Fin 1024, (a0 (ix2 i k) : EReal) * (a1 (ix2 k (⟨2816 + j.val, by omega⟩ : Fin 5632)) : EReal) := by
  have hN : cfg0.N = 4 := N_0
  let t : Fin cfg0.N := ⟨i.val / 2048 * 2 + j.val / 1408, by omega⟩
  have ht : t.val = i.val / 2048 * 2 + j.val / 1408 := rfl
  have hb := blocks2 m c t (flush0_2 t)
  rw [flushed2] at hb
  have hb1 := congrFun hb (ix2 (⟨i.val % 2048, by omega⟩ : Fin 2048) (⟨j.val % 1408, by omega⟩ : Fin 1408))
  have e : ((cfg0.win 2).blk t).view.emb (ix2 (⟨i.val % 2048, by omega⟩ : Fin 2048) (⟨j.val % 1408, by omega⟩ : Fin 1408)) = (ix2 i j : S4096x2816.Idx) := funext fun a => Fin.ext (by
    match a with
    | ⟨0, _⟩ => show win0_2.index t 0 * 2048 + 1 * (i.val % 2048) = i.val; rw [(idx_2 t).1]; omega
    | ⟨1, _⟩ => show win0_2.index t 1 * 1408 + 1 * (j.val % 1408) = j.val; rw [(idx_2 t).2]; omega)
  rw [View.read_apply, e] at hb1
  refine hb1.trans ((point (iblk m c 0 t) (iblk m c 1 t) ⟨i.val % 2048, by omega⟩ ⟨j.val % 1408, by omega⟩).trans ?_)
  refine Finset.sum_congr rfl fun k _ => ?_
  exact congrArg₂ (fun x y : EReal => x * y) (blk0 m c _ h0 t ⟨i.val % 2048, by omega⟩ k i (by simp only [t]; omega)) (blk1 m c _ h1 t ⟨0, by omega⟩ k ⟨j.val % 1408, by omega⟩ ⟨j.val / 1408 + 2, by omega⟩ ⟨2816 + j.val, by omega⟩ (by simp only [t]; omega) (by simp only; omega))

end Cert.Kernel16Ideal.Body

namespace Cert.Reference16Ideal.Read
open Cert.Reference16Ideal Cert.Reference16Ideal.Gen Cert.Reference16Ideal.Value Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run m ρ)

theorem result (a0 : FVec Ideal S4096x1024 .bf16) (a1 : FVec Ideal S1024x5632 .f32) (i : Fin 4096) (j : Fin 2816) :
    (extractStridedSlice S4096x2816 ![0, 2816] (Host.dotGeneral (F := Ideal) (φ₁ := .f32) (φ₂ := .f32) dot_S4096x1024_S1024x5632_S4096x5632_1_0_0_1_n_n none (extf .f32 a0 bitsLt_bf16_f32) a1) slices_S4096x5632_S4096x2816_0_2816 : Vec Ideal S4096x2816 .f32) (ix2 i j)
      = ∑ k : Fin 1024, (a0 (ix2 i k) : EReal) * (a1 (ix2 k (⟨2816 + j.val, by omega⟩ : Fin 5632)) : EReal) := by
  pointwise

end Cert.Reference16Ideal.Read

namespace Cert.Kernel16Ideal.Body
open Idealize.ShloMosaic Idealize.ShloMosaic.TcCoe Idealize.SL.Sem

theorem algebraic : Cert.algebraic_Kernel16Ideal_Reference16Ideal := by
  intro m g m' g' hpre hag
  refine ⟨fun c => (Cert.Kernel16Ideal.Gen.dats m 0 c).arrAt 2 Cert.Kernel16Ideal.cfg0.N, Cert.Kernel16Ideal.Value.run_blocks m g, ?_⟩
  refine (θ_run Cert.Reference16Ideal.defs _ _).mono (fun r h c => ?_) (Cert.Reference16Ideal.Value.run m' g')
  obtain ⟨h0, ha⟩ := h c
  refine ⟨h0.trans (funext fun i => ?_), ha⟩
  obtain ⟨e0, e1⟩ := hag c
  rw [e0, e1, eq_ix2 i]
  exact (Cert.Reference16Ideal.Read.result _ _ _ _).trans (final m c _ _ rfl rfl _ _).symm

end Cert.Kernel16Ideal.Body
end
-- ==== Proof.MmZ.lean ====
module

public import proofs.«01_k».proof.Defs
public import proofs.«01_k».proof.Proof.Gen.Kernel17Ideal.Value
public import proofs.«01_k».proof.Proof.Gen.Reference17Ideal.Run
public import Idealize.ShloMosaic.Lib.StableHlo.ReadAt
public import Idealize.ShloMosaic.Lib.Pointwise
public import Idealize.ShloMosaic.Lib.Quiescent
public import Idealize.ShloMosaic.PureOps.Ideal.Laws

/-! The combined projection, a block of tokens and columns at a time. -/

@[expose] public section
set_option maxRecDepth 16384
noncomputable section

namespace Cert.Kernel17Ideal.Body
open Cert.Kernel17Ideal Cert.Kernel17Ideal.Gen Idealize.ShloMosaic Idealize.ShloMosaic.TcCoe Idealize.SL.Sem
open Cert.Kernel17Ideal.Value
variable (m : (ℓ : Loc nD τ sig) → Buf (Elt Ideal) ℓ)

theorem hz : (![0, 0] : Fin 2 → Nat) = fun _ => 0 := funext fun a => by fin_cases a <;> rfl

/-- An element of the block a point writes. -/
theorem point (x0 : Vec Ideal S2048x1024 .bf16) (x1 : Vec Ideal S1024x768 .bf16) (p : Fin 2048) (q : Fin 768) :
    (out0_2 x0 x1 : Vec Ideal S2048x768 .f32) (ix2 p q) = ∑ k : Fin 1024, (x0 (ix2 p k) : EReal) * (x1 (ix2 k q) : EReal) := by
  unfold out0_2
  rw [View.canon_unit_zero hz, View.ld_unit_zero hz, View.ld_unit_zero hz]
  pointwise [k0_pay1]

theorem idx_0 : ∀ t : Fin cfg0.N, win0_0.index t 0 = t.val / 3 ∧ win0_0.index t 1 = 0 := by decide +kernel
theorem idx_1 : ∀ t : Fin cfg0.N, win0_1.index t 0 = 0 ∧ win0_1.index t 1 = t.val % 3 := by decide +kernel
theorem idx_2 : ∀ t : Fin cfg0.N, win0_2.index t 0 = t.val / 3 ∧ win0_2.index t 1 = t.val % 3 := by decide +kernel
theorem t_lt (t : Fin cfg0.N) : t.val < 6 := by have := t.isLt; have hN : cfg0.N = 6 := N_0; omega

/-- The host's cast keeps the argument's values. -/
theorem host1 (c : Dev nD) (a : FVec Ideal S1024x2304 .f32) (h : m ((c : Thread nD τ).loc main_arg1) = a) (x : Fin 1024) (y : Fin 2304) :
    ((V m c main_v0 : Vec Ideal S1024x2304 .bf16) (ix2 x y) : EReal) = a (ix2 x y) := by
  refine Eq.trans ?_ (congrFun h _)
  unfold V
  after_reads_at

/-- Window 0's block at point `t`, read from the argument. -/
theorem blk0 (c : Dev nD) (a : FVec Ideal S4096x1024 .bf16) (h : m ((c : Thread nD τ).loc main_arg0) = a) (t : Fin cfg0.N) (x : Fin 2048) (y : Fin 1024) (x1 : Fin 4096) (hx1 : x1.val = 2048 * (t.val / 3) + x.val) :
    ((iblk m c 0 t : Vec Ideal S2048x1024 .bf16) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 2048 + 1 * x.val = x1.val; rw [(idx_0 t).1]; omega
  | ⟨1, _⟩ => show win0_0.index t 1 * 1024 + 1 * y.val = y.val; rw [(idx_0 t).2]; omega

/-- Window 1's block at point `t`, read from the argument. -/
theorem blk1 (c : Dev nD) (a : FVec Ideal S1024x2304 .f32) (h : m ((c : Thread nD τ).loc main_arg1) = a) (t : Fin cfg0.N) (x : Fin 1024) (y : Fin 768) (y1 : Fin 2304) (hy1 : y1.val = 768 * (t.val % 3) + y.val) :
    ((iblk m c 1 t : Vec Ideal S1024x768 .bf16) (ix2 x y) : EReal) = a (ix2 x y1) := by
  refine Eq.trans ?_ (host1 m c a h x y1)
  unfold iblk
  rw [View.read_apply]
  refine congrArg (V m c main_v0) (funext fun a => Fin.ext ?_)
  match a with
  | ⟨0, _⟩ => show win0_1.index t 0 * 1024 + 1 * x.val = x.val; rw [(idx_1 t).1]; omega
  | ⟨1, _⟩ => show win0_1.index t 1 * 768 + 1 * y.val = y1.val; rw [(idx_1 t).2]; omega

/-- The call's result: the product of the whole arrays. -/
theorem final (c : Dev nD) (a0 : FVec Ideal S4096x1024 .bf16) (a1 : FVec Ideal S1024x2304 .f32) (h0 : m ((c : Thread nD τ).loc main_arg0) = a0) (h1 : m ((c : Thread nD τ).loc main_arg1) = a1) (i : Fin 4096) (j : Fin 2304) :
    ((dats m 0 c).arrAt 2 cfg0.N : Vec Ideal S4096x2304 .f32) (ix2 i j)
      = ∑ k : Fin 1024, (a0 (ix2 i k) : EReal) * (a1 (ix2 k j) : EReal) := by
  have hN : cfg0.N = 6 := N_0
  let t : Fin cfg0.N := ⟨i.val / 2048 * 3 + j.val / 768, by omega⟩
  have ht : t.val = i.val / 2048 * 3 + j.val / 768 := rfl
  have hb := blocks2 m c t (flush0_2 t)
  rw [flushed2] at hb
  have hb1 := congrFun hb (ix2 (⟨i.val % 2048, by omega⟩ : Fin 2048) (⟨j.val % 768, by omega⟩ : Fin 768))
  have e : ((cfg0.win 2).blk t).view.emb (ix2 (⟨i.val % 2048, by omega⟩ : Fin 2048) (⟨j.val % 768, by omega⟩ : Fin 768)) = (ix2 i j : S4096x2304.Idx) := funext fun a => Fin.ext (by
    match a with
    | ⟨0, _⟩ => show win0_2.index t 0 * 2048 + 1 * (i.val % 2048) = i.val; rw [(idx_2 t).1]; omega
    | ⟨1, _⟩ => show win0_2.index t 1 * 768 + 1 * (j.val % 768) = j.val; rw [(idx_2 t).2]; omega)
  rw [View.read_apply, e] at hb1
  refine hb1.trans ((point (iblk m c 0 t) (iblk m c 1 t) ⟨i.val % 2048, by omega⟩ ⟨j.val % 768, by omega⟩).trans ?_)
  refine Finset.sum_congr rfl fun k _ => ?_
  exact congrArg₂ (fun x y : EReal => x * y) (blk0 m c _ h0 t ⟨i.val % 2048, by omega⟩ k i (by simp only [t]; omega)) (blk1 m c _ h1 t k ⟨j.val % 768, by omega⟩ j (by simp only [t]; omega))

end Cert.Kernel17Ideal.Body

namespace Cert.Reference17Ideal.Read
open Cert.Reference17Ideal Cert.Reference17Ideal.Gen Cert.Reference17Ideal.Value Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run m ρ)

theorem result (a0 : FVec Ideal S4096x1024 .bf16) (a1 : FVec Ideal S1024x2304 .f32) (i : Fin 4096) (j : Fin 2304) :
    (Host.dotGeneral (F := Ideal) (φ₁ := .f32) (φ₂ := .f32) dot_S4096x1024_S1024x2304_S4096x2304_1_0_0_1_n_n none (extf .f32 a0 bitsLt_bf16_f32) a1 : Vec Ideal S4096x2304 .f32) (ix2 i j)
      = ∑ k : Fin 1024, (a0 (ix2 i k) : EReal) * (a1 (ix2 k j) : EReal) := by
  pointwise

end Cert.Reference17Ideal.Read

namespace Cert.Kernel17Ideal.Body
open Idealize.ShloMosaic Idealize.ShloMosaic.TcCoe Idealize.SL.Sem

theorem algebraic : Cert.algebraic_Kernel17Ideal_Reference17Ideal := by
  intro m g m' g' hpre hag
  refine ⟨fun c => (Cert.Kernel17Ideal.Gen.dats m 0 c).arrAt 2 Cert.Kernel17Ideal.cfg0.N, Cert.Kernel17Ideal.Value.run_blocks m g, ?_⟩
  refine (θ_run Cert.Reference17Ideal.defs _ _).mono (fun r h c => ?_) (Cert.Reference17Ideal.Value.run m' g')
  obtain ⟨h0, ha⟩ := h c
  refine ⟨h0.trans (funext fun i => ?_), ha⟩
  obtain ⟨e0, e1⟩ := hag c
  rw [e0, e1, eq_ix2 i]
  exact (Cert.Reference17Ideal.Read.result _ _ _ _).trans (final m c _ _ rfl rfl _ _).symm

end Cert.Kernel17Ideal.Body
end
-- ==== Proof.MmOut.lean ====
module

public import proofs.«01_k».proof.Defs
public import proofs.«01_k».proof.Proof.Gen.Kernel18Ideal.Value
public import proofs.«01_k».proof.Proof.Gen.Reference18Ideal.Run
public import Idealize.ShloMosaic.Lib.StableHlo.ReadAt
public import Idealize.ShloMosaic.Lib.Pointwise
public import Idealize.ShloMosaic.Lib.Quiescent
public import Idealize.ShloMosaic.PureOps.Ideal.Laws

/-! The mixers' output projection with its residual, and the norm after it, a block of tokens at a time. -/

@[expose] public section
set_option maxRecDepth 16384
noncomputable section

namespace Cert.Kernel18Ideal.Body
open Cert.Kernel18Ideal Cert.Kernel18Ideal.Gen Idealize.ShloMosaic Idealize.ShloMosaic.TcCoe Idealize.SL.Sem
open Cert.Kernel18Ideal.Value
variable (m : (ℓ : Loc nD τ sig) → Buf (Elt Ideal) ℓ)

theorem hz : (![0, 0] : Fin 2 → Nat) = fun _ => 0 := funext fun a => by fin_cases a <;> rfl

/-- An element of the first block a point writes. -/
theorem point4 (x0 : Vec Ideal S1024x1024 .f32) (x1 : Vec Ideal S1024x1024 .bf16) (x2 : Vec Ideal S1024x1024 .f32) (x3 : Vec Ideal S1x1024 .f32) (p : Fin 1024) (q : Fin 1024) :
    (out0_4 x0 x1 x2 x3 : Vec Ideal S1024x1024 .f32) (ix2 p q) = (x2 (ix2 p q) : EReal) + ∑ k : Fin 1024, (x0 (ix2 p k) : EReal) * (x1 (ix2 k q) : EReal) := by
  unfold out0_4
  rw [View.canon_unit_zero hz, View.ld_unit_zero hz, View.ld_unit_zero hz, View.ld_unit_zero hz]
  refine Eq.trans (b := ∑ k : Fin 1024, (x0 (ix2 p k) : EReal) * (x1 (ix2 k q) : EReal) + (x2 (ix2 p q) : EReal)) (by pointwise [k0_pay1]) (add_comm _ _)

/-- The first block's payload. -/
theorem pay1_apply (x0 : Vec Ideal S1024x1024 .f32) (x1 : Vec Ideal S1024x1024 .bf16) (x2 : Vec Ideal S1024x1024 .f32) (p : Fin 1024) (q : Fin 1024) :
    (k0_pay1 x0 x1 x2 (ix2 p q) : EReal) = (x2 (ix2 p q) : EReal) + ∑ k : Fin 1024, (x0 (ix2 p k) : EReal) * (x1 (ix2 k q) : EReal) :=
  Eq.trans (b := ∑ k : Fin 1024, (x0 (ix2 p k) : EReal) * (x1 (ix2 k q) : EReal) + (x2 (ix2 p q) : EReal)) (by pointwise [k0_pay1]) (add_comm _ _)

/-- An entry of a row over the root of the row's mean square, times its gain. -/
def normed (v : Fin 1024 → EReal) (g : EReal) (q : Fin 1024) : EReal :=
  v q * Ideal.rsqrt (Ideal.div (∑ x, v x * v x) (Ideal.ofBits FTy.f32 1149239296#32) + Ideal.ofBits FTy.f32 897988541#32) * g

/-- An element of the second block a point writes. -/
theorem point5 (x0 : Vec Ideal S1024x1024 .f32) (x1 : Vec Ideal S1024x1024 .bf16) (x2 : Vec Ideal S1024x1024 .f32) (x3 : Vec Ideal S1x1024 .f32) (p : Fin 1024) (q : Fin 1024) :
    (out0_5 x0 x1 x2 x3 : Vec Ideal S1024x1024 .bf16) (ix2 p q)
      = normed (fun y => (x2 (ix2 p y) : EReal) + ∑ k : Fin 1024, (x0 (ix2 p k) : EReal) * (x1 (ix2 k y) : EReal)) (x3 (ix2 (0 : Fin 1) q)) q := by
  rw [show (fun y => (x2 (ix2 p y) : EReal) + ∑ k : Fin 1024, (x0 (ix2 p k) : EReal) * (x1 (ix2 k y) : EReal)) = fun y => (k0_pay1 x0 x1 x2 (ix2 p y) : EReal) from
    funext fun y => (pay1_apply x0 x1 x2 p y).symm]
  unfold out0_5
  rw [View.canon_unit_zero hz, View.ld_unit_zero hz, View.ld_unit_zero hz, View.ld_unit_zero hz, View.ld_unit_zero hz]
  pointwise [k0_pay2]
  rfl

theorem idx_0 : ∀ t : Fin cfg0.N, win0_0.index t 0 = t.val ∧ win0_0.index t 1 = 0 := by decide +kernel
theorem idx_1 : ∀ t : Fin cfg0.N, win0_1.index t 0 = 0 ∧ win0_1.index t 1 = 0 := by decide +kernel
theorem idx_2 : ∀ t : Fin cfg0.N, win0_2.index t 0 = t.val ∧ win0_2.index t 1 = 0 := by decide +kernel
theorem idx_3 : ∀ t : Fin cfg0.N, win0_3.index t 0 = 0 ∧ win0_3.index t 1 = 0 := by decide +kernel
theorem idx_4 : ∀ t : Fin cfg0.N, win0_4.index t 0 = t.val ∧ win0_4.index t 1 = 0 := by decide +kernel
theorem idx_5 : ∀ t : Fin cfg0.N, win0_5.index t 0 = t.val ∧ win0_5.index t 1 = 0 := by decide +kernel

/-- The host's cast keeps the argument's values. -/
theorem host1 (c : Dev nD) (a : FVec Ideal S1024x1024 .f32) (h : m ((c : Thread nD τ).loc main_arg1) = a) (x : Fin 1024) (y : Fin 1024) :
    ((V m c main_v0 : Vec Ideal S1024x1024 .bf16) (ix2 x y) : EReal) = a (ix2 x y) := by
  refine Eq.trans ?_ (congrFun h _)
  unfold V
  after_reads_at

/-- The gain, as a row. -/
theorem host3 (c : Dev nD) (a : FVec Ideal S1024 .f32) (h : m ((c : Thread nD τ).loc main_arg3) = a) (y : Fin 1024) :
    ((V m c main_v1 : Vec Ideal S1x1024 .f32) (ix2 (0 : Fin 1) y) : EReal) = a (ix1 y) := by
  refine Eq.trans ?_ (congrFun h _)
  unfold V
  after_reads_at

/-- Window 0's block at point `t`, read from the argument. -/
theorem blk0 (c : Dev nD) (a : FVec Ideal S4096x1024 .f32) (h : m ((c : Thread nD τ).loc main_arg0) = a) (t : Fin cfg0.N) (x : Fin 1024) (y : Fin 1024) (x1 : Fin 4096) (hx1 : x1.val = 1024 * (t.val) + x.val) :
    ((iblk m c 0 t : Vec Ideal S1024x1024 .f32) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 1024 + 1 * x.val = x1.val; rw [(idx_0 t).1]; omega
  | ⟨1, _⟩ => show win0_0.index t 1 * 1024 + 1 * y.val = y.val; rw [(idx_0 t).2]; omega

/-- Window 1's block at point `t`, read from the argument. -/
theorem blk1 (c : Dev nD) (a : FVec Ideal S1024x1024 .f32) (h : m ((c : Thread nD τ).loc main_arg1) = a) (t : Fin cfg0.N) (x : Fin 1024) (y : Fin 1024)  :
    ((iblk m c 1 t : Vec Ideal S1024x1024 .bf16) (ix2 x y) : EReal) = a (ix2 x y) := by
  refine Eq.trans ?_ (host1 m c a h x y)
  unfold iblk
  rw [View.read_apply]
  refine congrArg (V m c main_v0) (funext fun a => Fin.ext ?_)
  match a with
  | ⟨0, _⟩ => show win0_1.index t 0 * 1024 + 1 * x.val = x.val; rw [(idx_1 t).1]; omega
  | ⟨1, _⟩ => show win0_1.index t 1 * 1024 + 1 * y.val = y.val; rw [(idx_1 t).2]; omega

/-- Window 2's block at point `t`, read from the argument. -/
theorem blk2 (c : Dev nD) (a : FVec Ideal S4096x1024 .f32) (h : m ((c : Thread nD τ).loc main_arg2) = a) (t : Fin cfg0.N) (x : Fin 1024) (y : Fin 1024) (x1 : Fin 4096) (hx1 : x1.val = 1024 * (t.val) + x.val) :
    ((iblk m c 2 t : Vec Ideal S1024x1024 .f32) (ix2 x y) : EReal) = a (ix2 x1 y) := by
  refine Eq.trans ?_ (congrFun h _)
  rw [← V_main_arg2 m c]
  unfold iblk
  rw [View.read_apply]
  refine congrArg (V m c main_arg2) (funext fun a => Fin.ext ?_)
  match a with
  | ⟨0, _⟩ => show win0_2.index t 0 * 1024 + 1 * x.val = x1.val; rw [(idx_2 t).1]; omega
  | ⟨1, _⟩ => show win0_2.index t 1 * 1024 + 1 * y.val = y.val; rw [(idx_2 t).2]; omega

/-- The gain's row at point `t`. -/
theorem blk3 (c : Dev nD) (a : FVec Ideal S1024 .f32) (h : m ((c : Thread nD τ).loc main_arg3) = a) (t : Fin cfg0.N) (y : Fin 1024) :
    ((iblk m c 3 t : Vec Ideal S1x1024 .f32) (ix2 (0 : Fin 1) y) : EReal) = a (ix1 y) := by
  refine Eq.trans ?_ (host3 m c a h y)
  unfold iblk
  rw [View.read_apply]
  refine congrArg (V m c main_v1) (funext fun a => Fin.ext ?_)
  match a with
  | ⟨0, _⟩ => show win0_3.index t 0 * 1 + 1 * 0 = 0; rw [(idx_3 t).1]
  | ⟨1, _⟩ => show win0_3.index t 1 * 1024 + 1 * y.val = y.val; rw [(idx_3 t).2]; omega

/-- The sum of a block's residual and product, in the whole arrays. -/
theorem row_eq (c : Dev nD) (a0 : FVec Ideal S4096x1024 .f32) (a1 : FVec Ideal S1024x1024 .f32) (a2 : FVec Ideal S4096x1024 .f32) (h0 : m ((c : Thread nD τ).loc main_arg0) = a0) (h1 : m ((c : Thread nD τ).loc main_arg1) = a1) (h2 : m ((c : Thread nD τ).loc main_arg2) = a2) (t : Fin cfg0.N) (p : Fin 1024) (i : Fin 4096) (hi : i.val = 1024 * t.val + p.val) (j : Fin 1024)
    (x0 : Vec Ideal S1024x1024 .f32) (x1 : Vec Ideal S1024x1024 .bf16) (x2 : Vec Ideal S1024x1024 .f32) (e0 : iblk m c 0 t = x0) (e1 : iblk m c 1 t = x1) (e2 : iblk m c 2 t = x2) :
    (x2 (ix2 p j) : EReal) + ∑ k : Fin 1024, (x0 (ix2 p k) : EReal) * (x1 (ix2 k j) : EReal) = (a2 (ix2 i j) : EReal) + ∑ k : Fin 1024, (a0 (ix2 i k) : EReal) * (a1 (ix2 k j) : EReal) := by
  subst e0 e1 e2
  exact congrArg₂ (fun x y : EReal => x + y) (blk2 m c _ h2 t p j i hi)
    (Finset.sum_congr rfl fun k _ => congrArg₂ (fun x y : EReal => x * y) (blk0 m c _ h0 t p k i hi) (blk1 m c _ h1 t k j))

/-- Result 1 of the call, in the whole arrays. -/
theorem final4 (c : Dev nD) (a0 : FVec Ideal S4096x1024 .f32) (a1 : FVec Ideal S1024x1024 .f32) (a2 : FVec Ideal S4096x1024 .f32) (h0 : m ((c : Thread nD τ).loc main_arg0) = a0) (h1 : m ((c : Thread nD τ).loc main_arg1) = a1) (h2 : m ((c : Thread nD τ).loc main_arg2) = a2) (i : Fin 4096) (j : Fin 1024) :
    ((dats m 0 c).arrAt 4 cfg0.N : Vec Ideal S4096x1024 .f32) (ix2 i j) = (a2 (ix2 i j) : EReal) + ∑ k : Fin 1024, (a0 (ix2 i k) : EReal) * (a1 (ix2 k j) : EReal) := by
  have hN : cfg0.N = 4 := N_0
  let t : Fin cfg0.N := ⟨i.val / 1024, by omega⟩
  have hb := blocks4 m c t (flush0_4 t)
  rw [flushed4] at hb
  have hb1 := congrFun hb (ix2 (⟨i.val % 1024, by omega⟩ : Fin 1024) j)
  have e : ((cfg0.win 4).blk t).view.emb (ix2 (⟨i.val % 1024, by omega⟩ : Fin 1024) j) = (ix2 i j : S4096x1024.Idx) := funext fun a => Fin.ext (by
    match a with
    | ⟨0, _⟩ => show win0_4.index t 0 * 1024 + 1 * (i.val % 1024) = i.val; rw [(idx_4 t).1]; simp only [t]; omega
    | ⟨1, _⟩ => show win0_4.index t 1 * 1024 + 1 * j.val = j.val; rw [(idx_4 t).2]; omega)
  rw [View.read_apply, e] at hb1
  refine hb1.trans ((point4 (iblk m c 0 t) (iblk m c 1 t) (iblk m c 2 t) (iblk m c 3 t) ⟨i.val % 1024, by omega⟩ j).trans ?_)
  exact row_eq m c a0 a1 a2 h0 h1 h2 t _ i (by simp only [t]; omega) j _ _ _ rfl rfl rfl

/-- Result 2 of the call, in the whole arrays. -/
theorem final5 (c : Dev nD) (a0 : FVec Ideal S4096x1024 .f32) (a1 : FVec Ideal S1024x1024 .f32) (a2 : FVec Ideal S4096x1024 .f32) (a3 : FVec Ideal S1024 .f32) (h0 : m ((c : Thread nD τ).loc main_arg0) = a0) (h1 : m ((c : Thread nD τ).loc main_arg1) = a1) (h2 : m ((c : Thread nD τ).loc main_arg2) = a2) (h3 : m ((c : Thread nD τ).loc main_arg3) = a3) (i : Fin 4096) (j : Fin 1024) :
    ((dats m 0 c).arrAt 5 cfg0.N : Vec Ideal S4096x1024 .bf16) (ix2 i j) = normed (fun y => (a2 (ix2 i y) : EReal) + ∑ k : Fin 1024, (a0 (ix2 i k) : EReal) * (a1 (ix2 k y) : EReal)) (a3 (ix1 j)) j := by
  have hN : cfg0.N = 4 := N_0
  let t : Fin cfg0.N := ⟨i.val / 1024, by omega⟩
  have hb := blocks5 m c t (flush0_5 t)
  rw [flushed5] at hb
  have hb1 := congrFun hb (ix2 (⟨i.val % 1024, by omega⟩ : Fin 1024) j)
  have e : ((cfg0.win 5).blk t).view.emb (ix2 (⟨i.val % 1024, by omega⟩ : Fin 1024) j) = (ix2 i j : S4096x1024.Idx) := funext fun a => Fin.ext (by
    match a with
    | ⟨0, _⟩ => show win0_5.index t 0 * 1024 + 1 * (i.val % 1024) = i.val; rw [(idx_5 t).1]; simp only [t]; omega
    | ⟨1, _⟩ => show win0_5.index t 1 * 1024 + 1 * j.val = j.val; rw [(idx_5 t).2]; omega)
  rw [View.read_apply, e] at hb1
  refine hb1.trans ((point5 (iblk m c 0 t) (iblk m c 1 t) (iblk m c 2 t) (iblk m c 3 t) ⟨i.val % 1024, by omega⟩ j).trans ?_)
  exact congrArg₂ (fun v g => normed v g j) (funext fun y => row_eq m c a0 a1 a2 h0 h1 h2 t _ i (by simp only [t]; omega) y _ _ _ rfl rfl rfl) (blk3 m c a3 h3 t j)

end Cert.Kernel18Ideal.Body

namespace Cert.Reference18Ideal.Read
open Cert.Reference18Ideal Cert.Reference18Ideal.Gen Cert.Reference18Ideal.Value Idealize.ShloMosaic Idealize.ShloMosaic.TcCoe Idealize.SL.Sem
open Cert.Kernel18Ideal.Body (normed)

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2.2, sem_eq_zero_of_no_sems (by decide) r.2⟩) (run m ρ)

/-- The sum of the residual and the product. -/
def total (a0 : FVec Ideal S4096x1024 .f32) (a1 : FVec Ideal S1024x1024 .f32) (a2 : FVec Ideal S4096x1024 .f32) : FVec Ideal S4096x1024 .f32 := addf a2 (Host.dotGeneral (F := Ideal) (φ₁ := .f32) (φ₂ := .f32) dot_S4096x1024_S1024x1024_S4096x1024_1_0_0_1_n_n none a0 a1)

theorem total_apply (a0 : FVec Ideal S4096x1024 .f32) (a1 : FVec Ideal S1024x1024 .f32) (a2 : FVec Ideal S4096x1024 .f32) (i : Fin 4096) (j : Fin 1024) : (total a0 a1 a2 (ix2 i j) : EReal) = (a2 (ix2 i j) : EReal) + ∑ k : Fin 1024, (a0 (ix2 i k) : EReal) * (a1 (ix2 k j) : EReal) := by
  pointwise [total]

theorem norm_apply (a0 : FVec Ideal S4096x1024 .f32) (a1 : FVec Ideal S1024x1024 .f32) (a2 : FVec Ideal S4096x1024 .f32) (a3 : FVec Ideal S1024 .f32) (i : Fin 4096) (j : Fin 1024) :
    (truncf (F := Ideal) (φ := .f32) .bf16 (mulf (mulf (total a0 a1 a2) (broadcastInDim S4096x1024 ![0, 1] bcast_S4096x1_S4096x1024_0_1 (Host.rsqrt (addf (Host.divf (broadcastInDim S4096x1 ![0] bcast_S4096_S4096x1_0 (Host.reduceAdd (mulf (total a0 a1 a2) (total a0 a1 a2)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 a3))) bitsLt_bf16_f32 : FVec Ideal S4096x1024 .bf16) (ix2 i j)
      = normed (fun y => (a2 (ix2 i y) : EReal) + ∑ k : Fin 1024, (a0 (ix2 i k) : EReal) * (a1 (ix2 k y) : EReal)) (a3 (ix1 j)) j := by
  rw [show (fun y => (a2 (ix2 i y) : EReal) + ∑ k : Fin 1024, (a0 (ix2 i k) : EReal) * (a1 (ix2 k y) : EReal)) = fun y => (total a0 a1 a2 (ix2 i y) : EReal) from funext fun y => (total_apply a0 a1 a2 i y).symm]
  pointwise
  rfl

end Cert.Reference18Ideal.Read

namespace Cert.Kernel18Ideal.Body
open Idealize.ShloMosaic Idealize.ShloMosaic.TcCoe Idealize.SL.Sem

theorem algebraic : Cert.algebraic_Kernel18Ideal_Reference18Ideal := by
  intro m g m' g' hpre hag
  refine ⟨fun c => (Cert.Kernel18Ideal.Gen.dats m 0 c).arrAt 4 Cert.Kernel18Ideal.cfg0.N, fun c => (Cert.Kernel18Ideal.Gen.dats m 0 c).arrAt 5 Cert.Kernel18Ideal.cfg0.N, Cert.Kernel18Ideal.Value.run_blocks m g, ?_⟩
  refine (θ_run Cert.Reference18Ideal.defs _ _).mono (fun r h c => ?_) (Cert.Reference18Ideal.Value.run m' g')
  obtain ⟨h0, h1, ha⟩ := h c
  obtain ⟨e0, e1, e2, e3⟩ := hag c
  refine ⟨h0.trans (funext fun i => ?_), h1.trans (funext fun i => ?_), ha⟩
  · rw [e0, e1, e2, eq_ix2 i]
    exact (Cert.Reference18Ideal.Read.total_apply _ _ _ _ _).trans (final4 m c _ _ _ rfl rfl rfl _ _).symm
  · rw [e0, e1, e2, e3, eq_ix2 i]
    exact (Cert.Reference18Ideal.Read.norm_apply _ _ _ _ _ _).trans (final5 m c _ _ _ _ rfl rfl rfl rfl _ _).symm

end Cert.Kernel18Ideal.Body
end
-- ==== Proof.MmGate.lean ====
module

public import proofs.«01_k».proof.Defs
public import proofs.«01_k».proof.Proof.Gen.Kernel19Ideal.Value
public import proofs.«01_k».proof.Proof.Gen.Reference19Ideal.Run
public import Idealize.ShloMosaic.Lib.StableHlo.ReadAt
public import Idealize.ShloMosaic.Lib.Pointwise
public import Idealize.ShloMosaic.Lib.Quiescent
public import Idealize.ShloMosaic.PureOps.Ideal.Laws

/-! The product of the embedding's gate, a block of tokens at a time. -/

@[expose] public section
set_option maxRecDepth 16384
noncomputable section

namespace Cert.Kernel19Ideal.Body
open Cert.Kernel19Ideal Cert.Kernel19Ideal.Gen Idealize.ShloMosaic Idealize.ShloMosaic.TcCoe Idealize.SL.Sem
open Cert.Kernel19Ideal.Value
variable (m : (ℓ : Loc nD τ sig) → Buf (Elt Ideal) ℓ)

theorem hz : (![0, 0] : Fin 2 → Nat) = fun _ => 0 := funext fun a => by fin_cases a <;> rfl

/-- An element of the block a point writes. -/
theorem point (x0 : Vec Ideal S2048x1024 .bf16) (x1 : Vec Ideal S1024x1024 .bf16) (p : Fin 2048) (q : Fin 1024) :
    (out0_2 x0 x1 : Vec Ideal S2048x1024 .f32) (ix2 p q) = ∑ k : Fin 1024, (x0 (ix2 p k) : EReal) * (x1 (ix2 k q) : EReal) := by
  unfold out0_2
  rw [View.canon_unit_zero hz, View.ld_unit_zero hz, View.ld_unit_zero hz]
  pointwise [k0_pay1]

theorem idx_0 : ∀ t : Fin cfg0.N, win0_0.index t 0 = t.val ∧ win0_0.index t 1 = 0 := by decide +kernel
theorem idx_1 : ∀ t : Fin cfg0.N, win0_1.index t 0 = 0 ∧ win0_1.index t 1 = 0 := by decide +kernel
theorem idx_2 : ∀ t : Fin cfg0.N, win0_2.index t 0 = t.val ∧ win0_2.index t 1 = 0 := by decide +kernel
theorem t_lt (t : Fin cfg0.N) : t.val < 2 := by have := t.isLt; have hN : cfg0.N = 2 := N_0; omega

/-- The host's cast keeps the argument's values. -/
theorem host1 (c : Dev nD) (a : FVec Ideal S1024x1024 .f32) (h : m ((c : Thread nD τ).loc main_arg1) = a) (x : Fin 1024) (y : Fin 1024) :
    ((V m c main_v0 : Vec Ideal S1024x1024 .bf16) (ix2 x y) : EReal) = a (ix2 x y) := by
  refine Eq.trans ?_ (congrFun h _)
  unfold V
  after_reads_at

/-- Window 0's block at point `t`, read from the argument. -/
theorem blk0 (c : Dev nD) (a : FVec Ideal S4096x1024 .bf16) (h : m ((c : Thread nD τ).loc main_arg0) = a) (t : Fin cfg0.N) (x : Fin 2048) (y : Fin 1024) (x1 : Fin 4096) (hx1 : x1.val = 2048 * (t.val) + x.val) :
    ((iblk m c 0 t : Vec Ideal S2048x1024 .bf16) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 2048 + 1 * x.val = x1.val; rw [(idx_0 t).1]; omega
  | ⟨1, _⟩ => show win0_0.index t 1 * 1024 + 1 * y.val = y.val; rw [(idx_0 t).2]; omega

/-- Window 1's block at point `t`, read from the argument. -/
theorem blk1 (c : Dev nD) (a : FVec Ideal S1024x1024 .f32) (h : m ((c : Thread nD τ).loc main_arg1) = a) (t : Fin cfg0.N) (x : Fin 1024) (y : Fin 1024)  :
    ((iblk m c 1 t : Vec Ideal S1024x1024 .bf16) (ix2 x y) : EReal) = a (ix2 x y) := by
  refine Eq.trans ?_ (host1 m c a h x y)
  unfold iblk
  rw [View.read_apply]
  refine congrArg (V m c main_v0) (funext fun a => Fin.ext ?_)
  match a with
  | ⟨0, _⟩ => show win0_1.index t 0 * 1024 + 1 * x.val = x.val; rw [(idx_1 t).1]; omega
  | ⟨1, _⟩ => show win0_1.index t 1 * 1024 + 1 * y.val = y.val; rw [(idx_1 t).2]; omega

/-- The call's result: the product of the whole arrays. -/
theorem final (c : Dev nD) (a0 : FVec Ideal S4096x1024 .bf16) (a1 : FVec Ideal S1024x1024 .f32) (h0 : m ((c : Thread nD τ).loc main_arg0) = a0) (h1 : m ((c : Thread nD τ).loc main_arg1) = a1) (i : Fin 4096) (j : Fin 1024) :
    ((dats m 0 c).arrAt 2 cfg0.N : Vec Ideal S4096x1024 .f32) (ix2 i j)
      = ∑ k : Fin 1024, (a0 (ix2 i k) : EReal) * (a1 (ix2 k j) : EReal) := by
  have hN : cfg0.N = 2 := N_0
  let t : Fin cfg0.N := ⟨i.val / 2048, by omega⟩
  have ht : t.val = i.val / 2048 := rfl
  have hb := blocks2 m c t (flush0_2 t)
  rw [flushed2] at hb
  have hb1 := congrFun hb (ix2 (⟨i.val % 2048, by omega⟩ : Fin 2048) j)
  have e : ((cfg0.win 2).blk t).view.emb (ix2 (⟨i.val % 2048, by omega⟩ : Fin 2048) j) = (ix2 i j : S4096x1024.Idx) := funext fun a => Fin.ext (by
    match a with
    | ⟨0, _⟩ => show win0_2.index t 0 * 2048 + 1 * (i.val % 2048) = i.val; rw [(idx_2 t).1]; omega
    | ⟨1, _⟩ => show win0_2.index t 1 * 1024 + 1 * j.val = j.val; rw [(idx_2 t).2]; omega)
  rw [View.read_apply, e] at hb1
  refine hb1.trans ((point (iblk m c 0 t) (iblk m c 1 t) ⟨i.val % 2048, by omega⟩ j).trans ?_)
  refine Finset.sum_congr rfl fun k _ => ?_
  exact congrArg₂ (fun x y : EReal => x * y) (blk0 m c _ h0 t ⟨i.val % 2048, by omega⟩ k i (by simp only [t]; omega)) (blk1 m c _ h1 t k j)

end Cert.Kernel19Ideal.Body

namespace Cert.Reference19Ideal.Read
open Cert.Reference19Ideal Cert.Reference19Ideal.Gen Cert.Reference19Ideal.Value Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run m ρ)

theorem result (a0 : FVec Ideal S4096x1024 .bf16) (a1 : FVec Ideal S1024x1024 .f32) (i : Fin 4096) (j : Fin 1024) :
    (Host.dotGeneral (F := Ideal) (φ₁ := .f32) (φ₂ := .f32) dot_S4096x1024_S1024x1024_S4096x1024_1_0_0_1_n_n none (extf .f32 a0 bitsLt_bf16_f32) a1 : Vec Ideal S4096x1024 .f32) (ix2 i j)
      = ∑ k : Fin 1024, (a0 (ix2 i k) : EReal) * (a1 (ix2 k j) : EReal) := by
  pointwise

end Cert.Reference19Ideal.Read

namespace Cert.Kernel19Ideal.Body
open Idealize.ShloMosaic Idealize.ShloMosaic.TcCoe Idealize.SL.Sem

theorem algebraic : Cert.algebraic_Kernel19Ideal_Reference19Ideal := by
  intro m g m' g' hpre hag
  refine ⟨fun c => (Cert.Kernel19Ideal.Gen.dats m 0 c).arrAt 2 Cert.Kernel19Ideal.cfg0.N, Cert.Kernel19Ideal.Value.run_blocks m g, ?_⟩
  refine (θ_run Cert.Reference19Ideal.defs _ _).mono (fun r h c => ?_) (Cert.Reference19Ideal.Value.run m' g')
  obtain ⟨h0, ha⟩ := h c
  refine ⟨h0.trans (funext fun i => ?_), ha⟩
  obtain ⟨e0, e1⟩ := hag c
  rw [e0, e1, eq_ix2 i]
  exact (Cert.Reference19Ideal.Read.result _ _ _ _).trans (final m c _ _ rfl rfl _ _).symm

end Cert.Kernel19Ideal.Body
end
-- ==== Proof.MmWEmb.lean ====
module

public import proofs.«01_k».proof.Defs
public import proofs.«01_k».proof.Proof.Gen.Kernel20Ideal.Value
public import proofs.«01_k».proof.Proof.Gen.Reference20Ideal.Run
public import Idealize.ShloMosaic.Lib.Pointwise
public import Idealize.ShloMosaic.Lib.Quiescent
public import Idealize.ShloMosaic.PureOps.Ideal.Laws

/-! The gradient of w_pe: each of its four slabs of columns is one product over all tokens. -/

@[expose] public section
set_option maxRecDepth 16384
noncomputable section

namespace Cert.Kernel20Ideal.Body
open Cert.Kernel20Ideal Cert.Kernel20Ideal.Gen Idealize.ShloMosaic Idealize.ShloMosaic.TcCoe Idealize.SL.Sem
open Cert.Kernel20Ideal.Value
variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- An element of the block a point writes. -/
theorem point (x0 : Vec Ideal S4096x256 .f32) (x1 : Vec Ideal S4096x256 .bf16) (p : Fin 256) (q : Fin 256) :
    (out0_2 x0 x1 : Vec Ideal S1x256x256 .bf16) (ix3 (0 : Fin 1) p q) = ∑ k : Fin 4096, (x0 (ix2 k p) : EReal) * (x1 (ix2 k q) : EReal) := by
  unfold out0_2
  rw [View.canon_unit_zero hz3, View.ld_unit_zero hz, View.ld_unit_zero hz]
  pointwise [k0_pay1]

theorem idx_0 : ∀ t : Fin cfg0.N, win0_0.index t 0 = 0 ∧ win0_0.index t 1 = 0 := by decide +kernel
theorem idx_1 : ∀ t : Fin cfg0.N, win0_1.index t 0 = 0 ∧ win0_1.index t 1 = t.val := by decide +kernel
theorem idx_2 : ∀ t : Fin cfg0.N, win0_2.index t 0 = t.val ∧ win0_2.index t 1 = 0 ∧ win0_2.index t 2 = 0 := by decide +kernel

/-- Window 0's block at point `t`, read from the argument. -/
theorem blk0 (c : Dev nD) (a : FVec Ideal S4096x256 .f32) (h : m ((c : Thread nD τ).loc main_arg0) = a) (t : Fin cfg0.N) (x : Fin 4096) (y : Fin 256)  :
    ((iblk m c 0 t : Vec Ideal S4096x256 .f32) (ix2 x y) : EReal) = a (ix2 x y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 4096 + 1 * x.val = x.val; rw [(idx_0 t).1]; omega
  | ⟨1, _⟩ => show win0_0.index t 1 * 256 + 1 * y.val = y.val; rw [(idx_0 t).2]; omega

/-- Window 1's block at point `t`, read from the argument. -/
theorem blk1 (c : Dev nD) (a : FVec Ideal S4096x1024 .bf16) (h : m ((c : Thread nD τ).loc main_arg1) = a) (t : Fin cfg0.N) (x : Fin 4096) (y : Fin 256) (y1 : Fin 1024) (hy1 : y1.val = 256 * (t.val) + y.val) :
    ((iblk m c 1 t : Vec Ideal S4096x256 .bf16) (ix2 x y) : EReal) = a (ix2 x y1) := by
  refine Eq.trans ?_ (congrFun h _)
  rw [← V_main_arg1 m c]
  unfold iblk
  rw [View.read_apply]
  refine congrArg (V m c main_arg1) (funext fun a => Fin.ext ?_)
  match a with
  | ⟨0, _⟩ => show win0_1.index t 0 * 4096 + 1 * x.val = x.val; rw [(idx_1 t).1]; omega
  | ⟨1, _⟩ => show win0_1.index t 1 * 256 + 1 * y.val = y1.val; rw [(idx_1 t).2]; omega

/-- The slabs the call writes: the product of the whole arrays. -/
theorem final (c : Dev nD) (a0 : FVec Ideal S4096x256 .f32) (a1 : FVec Ideal S4096x1024 .bf16) (h0 : m ((c : Thread nD τ).loc main_arg0) = a0) (h1 : m ((c : Thread nD τ).loc main_arg1) = a1) (s : Fin 4) (i : Fin 256) (j : Fin 256) :
    ((dats m 0 c).arrAt 2 cfg0.N : Vec Ideal S4x256x256 .bf16) (ix3 s i j)
      = ∑ k : Fin 4096, (a0 (ix2 k i) : EReal) * (a1 (ix2 k (⟨256 * s.val + j.val, by omega⟩ : Fin 1024)) : EReal) := by
  have hN : cfg0.N = 4 := N_0
  let t : Fin cfg0.N := ⟨s.val, by omega⟩
  have ht : t.val = s.val := rfl
  have hb := blocks2 m c t (flush0_2 t)
  rw [flushed2] at hb
  have hb1 := congrFun hb (ix3 (0 : Fin 1) i j)
  have e : ((cfg0.win 2).blk t).view.emb (ix3 (0 : Fin 1) i j) = (ix3 s i j : S4x256x256.Idx) := funext fun a => Fin.ext (by
    match a with
    | ⟨0, _⟩ => show win0_2.index t 0 * 1 + 1 * 0 = s.val; rw [(idx_2 t).1]; omega
    | ⟨1, _⟩ => show win0_2.index t 1 * 256 + 1 * i.val = i.val; rw [(idx_2 t).2.1]; omega
    | ⟨2, _⟩ => show win0_2.index t 2 * 256 + 1 * j.val = j.val; rw [(idx_2 t).2.2]; omega)
  rw [View.read_apply, e] at hb1
  refine hb1.trans ((point (iblk m c 0 t) (iblk m c 1 t) i j).trans ?_)
  refine Finset.sum_congr rfl fun k _ => ?_
  exact congrArg₂ (fun x y : EReal => x * y) (blk0 m c _ h0 t k i) (blk1 m c _ h1 t k j ⟨256 * s.val + j.val, by omega⟩ (by simp only [t]))

end Cert.Kernel20Ideal.Body

namespace Cert.Reference20Ideal.Read
open Cert.Reference20Ideal Cert.Reference20Ideal.Gen Cert.Reference20Ideal.Value Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run m ρ)

def term (a0 : FVec Ideal S4096x256 .f32) (a1 : FVec Ideal S4096x1024 .bf16) : Vec Ideal S4x256x256 .bf16 :=
  (concatenate S4x256x256 0 [⟨S1x256x256, ((broadcastInDim S1x256x256 ![1, 2] bcast_S256x256_S1x256x256_1_2 (extractStridedSlice S256x256 ![0, 0] (truncf (F := Ideal) (φ := .f32) .bf16 (transpose S256x1024 [1, 0] (Host.dotGeneral (F := Ideal) (φ₁ := .f32) (φ₂ := .f32) dot_S4096x1024_S4096x256_S1024x256_0_0_1_1_n_n none (extf .f32 a1 bitsLt_bf16_f32) a0) transposes_S1024x256_S256x1024_1_0) bitsLt_bf16_f32) slices_S256x1024_S256x256_0_0)) : (⟨S1x256x256, .bf16⟩ : BufTy).Contents (Elt Ideal))⟩, ⟨S1x256x256, ((broadcastInDim S1x256x256 ![1, 2] bcast_S256x256_S1x256x256_1_2 (extractStridedSlice S256x256 ![0, 256] (truncf (F := Ideal) (φ := .f32) .bf16 (transpose S256x1024 [1, 0] (Host.dotGeneral (F := Ideal) (φ₁ := .f32) (φ₂ := .f32) dot_S4096x1024_S4096x256_S1024x256_0_0_1_1_n_n none (extf .f32 a1 bitsLt_bf16_f32) a0) transposes_S1024x256_S256x1024_1_0) bitsLt_bf16_f32) slices_S256x1024_S256x256_0_256)) : (⟨S1x256x256, .bf16⟩ : BufTy).Contents (Elt Ideal))⟩, ⟨S1x256x256, ((broadcastInDim S1x256x256 ![1, 2] bcast_S256x256_S1x256x256_1_2 (extractStridedSlice S256x256 ![0, 512] (truncf (F := Ideal) (φ := .f32) .bf16 (transpose S256x1024 [1, 0] (Host.dotGeneral (F := Ideal) (φ₁ := .f32) (φ₂ := .f32) dot_S4096x1024_S4096x256_S1024x256_0_0_1_1_n_n none (extf .f32 a1 bitsLt_bf16_f32) a0) transposes_S1024x256_S256x1024_1_0) bitsLt_bf16_f32) slices_S256x1024_S256x256_0_512)) : (⟨S1x256x256, .bf16⟩ : BufTy).Contents (Elt Ideal))⟩, ⟨S1x256x256, ((broadcastInDim S1x256x256 ![1, 2] bcast_S256x256_S1x256x256_1_2 (extractStridedSlice S256x256 ![0, 768] (truncf (F := Ideal) (φ := .f32) .bf16 (transpose S256x1024 [1, 0] (Host.dotGeneral (F := Ideal) (φ₁ := .f32) (φ₂ := .f32) dot_S4096x1024_S4096x256_S1024x256_0_0_1_1_n_n none (extf .f32 a1 bitsLt_bf16_f32) a0) transposes_S1024x256_S256x1024_1_0) bitsLt_bf16_f32) slices_S256x1024_S256x256_0_768)) : (⟨S1x256x256, .bf16⟩ : BufTy).Contents (Elt Ideal))⟩] concatenates_S1x256x256_S1x256x256_S1x256x256_S1x256x256_S4x256x256_d0 : (⟨S4x256x256, .bf16⟩ : BufTy).Contents (Elt Ideal))

theorem result (a0 : FVec Ideal S4096x256 .f32) (a1 : FVec Ideal S4096x1024 .bf16) (s : Fin 4) (i : Fin 256) (j : Fin 256) :
    term a0 a1 (ix3 s i j) = ∑ k : Fin 4096, (a0 (ix2 k i) : EReal) * (a1 (ix2 k (⟨256 * s.val + j.val, by omega⟩ : Fin 1024)) : EReal) := by
  refine Eq.trans (b := ∑ k : Fin 4096, (a1 (ix2 k (⟨256 * s.val + j.val, by omega⟩ : Fin 1024)) : EReal) * (a0 (ix2 k i) : EReal)) ?_ (Finset.sum_congr rfl fun k _ => mul_comm _ _)
  match s with
  | ⟨0, _⟩ => pointwise [term]
  | ⟨1, _⟩ => pointwise [term]
  | ⟨2, _⟩ => pointwise [term]
  | ⟨3, _⟩ => pointwise [term]

end Cert.Reference20Ideal.Read

namespace Cert.Kernel20Ideal.Body
open Idealize.ShloMosaic Idealize.ShloMosaic.TcCoe Idealize.SL.Sem

theorem algebraic : Cert.algebraic_Kernel20Ideal_Reference20Ideal := by
  intro m g m' g' hpre hag
  refine ⟨fun c => (Cert.Kernel20Ideal.Gen.dats m 0 c).arrAt 2 Cert.Kernel20Ideal.cfg0.N, Cert.Kernel20Ideal.Value.run_blocks m g, ?_⟩
  refine (θ_run Cert.Reference20Ideal.defs _ _).mono (fun r h c => ?_) (Cert.Reference20Ideal.Value.run m' g')
  obtain ⟨h0, ha⟩ := h c
  refine ⟨h0.trans (funext fun i => ?_), ha⟩
  obtain ⟨e0, e1, e2⟩ := hag c
  rw [e0, e1, eq_ix3 i]
  exact (Cert.Reference20Ideal.Read.result _ _ _ _ _).trans (final m c _ _ rfl rfl _ _ _).symm

end Cert.Kernel20Ideal.Body
end
-- ==== Proof.MmEmb.lean ====
module

public import proofs.«01_k».proof.Defs
public import proofs.«01_k».proof.Proof.Gen.Kernel21Ideal.Value
public import proofs.«01_k».proof.Proof.Gen.Reference21Ideal.Run
public import Idealize.ShloMosaic.Lib.StableHlo.ReadAt
public import Idealize.ShloMosaic.Lib.Pointwise
public import Idealize.ShloMosaic.Lib.Quiescent
public import Idealize.ShloMosaic.PureOps.Ideal.Laws

/-! The embedding's product, a block of tokens and one slab of columns at a time. -/

@[expose] public section
set_option maxRecDepth 16384
noncomputable section

namespace Cert.Kernel21Ideal.Body
open Cert.Kernel21Ideal Cert.Kernel21Ideal.Gen Idealize.ShloMosaic Idealize.ShloMosaic.TcCoe Idealize.SL.Sem
open Cert.Kernel21Ideal.Value
variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- An element of the block a point writes. -/
theorem point (x0 : Vec Ideal S2048x256 .f32) (x1 : Vec Ideal S1x256x256 .bf16) (p : Fin 2048) (q : Fin 256) :
    (out0_2 x0 x1 : Vec Ideal S2048x256 .f32) (ix2 p q) = ∑ k : Fin 256, (x0 (ix2 p k) : EReal) * (x1 (ix3 (0 : Fin 1) k q) : EReal) := by
  unfold out0_2
  rw [View.canon_unit_zero hz, View.ld_unit_zero hz, View.ld_unit_zero hz3]
  pointwise [k0_pay1]

theorem idx_0 : ∀ t : Fin cfg0.N, win0_0.index t 0 = t.val / 4 ∧ win0_0.index t 1 = 0 := by decide +kernel
theorem idx_1 : ∀ t : Fin cfg0.N, win0_1.index t 0 = t.val % 4 ∧ win0_1.index t 1 = 0 ∧ win0_1.index t 2 = 0 := by decide +kernel
theorem idx_2 : ∀ t : Fin cfg0.N, win0_2.index t 0 = t.val / 4 ∧ win0_2.index t 1 = t.val % 4 := by decide +kernel
theorem t_lt (t : Fin cfg0.N) : t.val < 8 := by have := t.isLt; have hN : cfg0.N = 8 := N_0; omega

/-! Slab `s` of the stack holds the columns from `256 s`. -/

theorem slab0 (c : Dev nD) (y : Fin 256) (z : Fin 256) (col : Fin 1024) (hcol : col.val = 0 + z.val) :
    ((StableHlo.upto hostOps0 (fun b => m (c, b)) 6 (Proc.tc.devRef main_v5) : Vec Ideal S1x256x256 .bf16) (ix3 (0 : Fin 1) y z) : EReal) = (m ((c : Thread nD τ).loc main_arg1) : Vec Ideal S256x1024 .f32) (ix2 y col) := by
  rw [show col = (⟨0 + z.val, by omega⟩ : Fin 1024) from Fin.ext hcol]
  after_reads_at
  try (congr 2; apply Fin.ext; simp only; omega)

theorem slab1 (c : Dev nD) (y : Fin 256) (z : Fin 256) (col : Fin 1024) (hcol : col.val = 256 + z.val) :
    ((StableHlo.upto hostOps0 (fun b => m (c, b)) 7 (Proc.tc.devRef main_v6) : Vec Ideal S1x256x256 .bf16) (ix3 (0 : Fin 1) y z) : EReal) = (m ((c : Thread nD τ).loc main_arg1) : Vec Ideal S256x1024 .f32) (ix2 y col) := by
  rw [show col = (⟨256 + z.val, by omega⟩ : Fin 1024) from Fin.ext hcol]
  after_reads_at
  try (congr 2; apply Fin.ext; simp only; omega)

theorem slab2 (c : Dev nD) (y : Fin 256) (z : Fin 256) (col : Fin 1024) (hcol : col.val = 512 + z.val) :
    ((StableHlo.upto hostOps0 (fun b => m (c, b)) 8 (Proc.tc.devRef main_v7) : Vec Ideal S1x256x256 .bf16) (ix3 (0 : Fin 1) y z) : EReal) = (m ((c : Thread nD τ).loc main_arg1) : Vec Ideal S256x1024 .f32) (ix2 y col) := by
  rw [show col = (⟨512 + z.val, by omega⟩ : Fin 1024) from Fin.ext hcol]
  after_reads_at
  try (congr 2; apply Fin.ext; simp only; omega)

theorem slab3 (c : Dev nD) (y : Fin 256) (z : Fin 256) (col : Fin 1024) (hcol : col.val = 768 + z.val) :
    ((StableHlo.upto hostOps0 (fun b => m (c, b)) 9 (Proc.tc.devRef main_v8) : Vec Ideal S1x256x256 .bf16) (ix3 (0 : Fin 1) y z) : EReal) = (m ((c : Thread nD τ).loc main_arg1) : Vec Ideal S256x1024 .f32) (ix2 y col) := by
  rw [show col = (⟨768 + z.val, by omega⟩ : Fin 1024) from Fin.ext hcol]
  after_reads_at
  try (congr 2; apply Fin.ext; simp only; omega)

theorem host1 (c : Dev nD) (a : FVec Ideal S256x1024 .f32) (h : m ((c : Thread nD τ).loc main_arg1) = a) (x : Fin 4) (y : Fin 256) (z : Fin 256) (col : Fin 1024) (hcol : col.val = 256 * x.val + z.val) :
    ((V m c main_v9 : Vec Ideal S4x256x256 .bf16) (ix3 x y z) : EReal) = a (ix2 y col) := by
  refine Eq.trans ?_ (congrFun h _)
  unfold V
  match x, hcol with
  | ⟨0, _⟩, hcol => after_reads_at; exact slab0 m c y z col (by simpa using hcol)
  | ⟨1, _⟩, hcol => after_reads_at; exact slab1 m c y z col (by simpa using hcol)
  | ⟨2, _⟩, hcol => after_reads_at; exact slab2 m c y z col (by simpa using hcol)
  | ⟨3, _⟩, hcol => after_reads_at; exact slab3 m c y z col (by simpa using hcol)

/-- Window 0's block at point `t`, read from the argument. -/
theorem blk0 (c : Dev nD) (a : FVec Ideal S4096x256 .f32) (h : m ((c : Thread nD τ).loc main_arg0) = a) (t : Fin cfg0.N) (x : Fin 2048) (y : Fin 256) (x1 : Fin 4096) (hx1 : x1.val = 2048 * (t.val / 4) + x.val) :
    ((iblk m c 0 t : Vec Ideal S2048x256 .f32) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 2048 + 1 * x.val = x1.val; rw [(idx_0 t).1]; omega
  | ⟨1, _⟩ => show win0_0.index t 1 * 256 + 1 * y.val = y.val; rw [(idx_0 t).2]; omega

/-- Window 1's block at point `t`, read from the argument. -/
theorem blk1 (c : Dev nD) (a : FVec Ideal S256x1024 .f32) (h : m ((c : Thread nD τ).loc main_arg1) = a) (t : Fin cfg0.N) (x : Fin 1) (y : Fin 256) (z : Fin 256) (x1 : Fin 4) (col : Fin 1024) (hx1 : x1.val = 1 * (t.val % 4) + x.val) (hcol : col.val = 256 * x1.val + z.val) :
    ((iblk m c 1 t : Vec Ideal S1x256x256 .bf16) (ix3 x y z) : EReal) = a (ix2 y col) := by
  refine Eq.trans ?_ (host1 m c a h x1 y z col hcol)
  unfold iblk
  rw [View.read_apply]
  refine congrArg (V m c main_v9) (funext fun a => Fin.ext ?_)
  match a with
  | ⟨0, _⟩ => show win0_1.index t 0 * 1 + 1 * x.val = x1.val; rw [(idx_1 t).1]; omega
  | ⟨1, _⟩ => show win0_1.index t 1 * 256 + 1 * y.val = y.val; rw [(idx_1 t).2.1]; omega
  | ⟨2, _⟩ => show win0_1.index t 2 * 256 + 1 * z.val = z.val; rw [(idx_1 t).2.2]; omega

/-- The call's result: the product of the whole arrays. -/
theorem final (c : Dev nD) (a0 : FVec Ideal S4096x256 .f32) (a1 : FVec Ideal S256x1024 .f32) (h0 : m ((c : Thread nD τ).loc main_arg0) = a0) (h1 : m ((c : Thread nD τ).loc main_arg1) = a1) (i : Fin 4096) (j : Fin 1024) :
    ((dats m 0 c).arrAt 2 cfg0.N : Vec Ideal S4096x1024 .f32) (ix2 i j)
      = ∑ k : Fin 256, (a0 (ix2 i k) : EReal) * (a1 (ix2 k (⟨0 + j.val, by omega⟩ : Fin 1024)) : EReal) := by
  have hN : cfg0.N = 8 := N_0
  let t : Fin cfg0.N := ⟨i.val / 2048 * 4 + j.val / 256, by omega⟩
  have ht : t.val = i.val / 2048 * 4 + j.val / 256 := rfl
  have hb := blocks2 m c t (flush0_2 t)
  rw [flushed2] at hb
  have hb1 := congrFun hb (ix2 (⟨i.val % 2048, by omega⟩ : Fin 2048) (⟨j.val % 256, by omega⟩ : Fin 256))
  have e : ((cfg0.win 2).blk t).view.emb (ix2 (⟨i.val % 2048, by omega⟩ : Fin 2048) (⟨j.val % 256, by omega⟩ : Fin 256)) = (ix2 i j : S4096x1024.Idx) := funext fun a => Fin.ext (by
    match a with
    | ⟨0, _⟩ => show win0_2.index t 0 * 2048 + 1 * (i.val % 2048) = i.val; rw [(idx_2 t).1]; omega
    | ⟨1, _⟩ => show win0_2.index t 1 * 256 + 1 * (j.val % 256) = j.val; rw [(idx_2 t).2]; omega)
  rw [View.read_apply, e] at hb1
  refine hb1.trans ((point (iblk m c 0 t) (iblk m c 1 t) ⟨i.val % 2048, by omega⟩ ⟨j.val % 256, by omega⟩).trans ?_)
  refine Finset.sum_congr rfl fun k _ => ?_
  exact congrArg₂ (fun x y : EReal => x * y) (blk0 m c _ h0 t ⟨i.val % 2048, by omega⟩ k i (by simp only [t]; omega)) (blk1 m c _ h1 t ⟨0, by omega⟩ k ⟨j.val % 256, by omega⟩ ⟨j.val / 256 + 0, by omega⟩ ⟨0 + j.val, by omega⟩ (by simp only [t]; omega) (by simp only; omega))

end Cert.Kernel21Ideal.Body

namespace Cert.Reference21Ideal.Read
open Cert.Reference21Ideal Cert.Reference21Ideal.Gen Cert.Reference21Ideal.Value Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run m ρ)

theorem result (a0 : FVec Ideal S4096x256 .f32) (a1 : FVec Ideal S256x1024 .f32) (i : Fin 4096) (j : Fin 1024) :
    (Host.dotGeneral (F := Ideal) (φ₁ := .f32) (φ₂ := .f32) dot_S4096x256_S256x1024_S4096x1024_1_0_0_1_n_n none a0 a1 : Vec Ideal S4096x1024 .f32) (ix2 i j)
      = ∑ k : Fin 256, (a0 (ix2 i k) : EReal) * (a1 (ix2 k (⟨0 + j.val, by omega⟩ : Fin 1024)) : EReal) := by
  pointwise

end Cert.Reference21Ideal.Read

namespace Cert.Kernel21Ideal.Body
open Idealize.ShloMosaic Idealize.ShloMosaic.TcCoe Idealize.SL.Sem

theorem algebraic : Cert.algebraic_Kernel21Ideal_Reference21Ideal := by
  intro m g m' g' hpre hag
  refine ⟨fun c => (Cert.Kernel21Ideal.Gen.dats m 0 c).arrAt 2 Cert.Kernel21Ideal.cfg0.N, Cert.Kernel21Ideal.Value.run_blocks m g, ?_⟩
  refine (θ_run Cert.Reference21Ideal.defs _ _).mono (fun r h c => ?_) (Cert.Reference21Ideal.Value.run m' g')
  obtain ⟨h0, ha⟩ := h c
  refine ⟨h0.trans (funext fun i => ?_), ha⟩
  obtain ⟨e0, e1⟩ := hag c
  rw [e0, e1, eq_ix2 i]
  exact (Cert.Reference21Ideal.Read.result _ _ _ _).trans (final m c _ _ rfl rfl _ _).symm

end Cert.Kernel21Ideal.Body
end
-- ==== Proof.ElMath.lean ====
module

public import proofs.«01_k».proof.Proof.MmNormMath

/-! The sigmoid and the norm of a row, as both the calls and the references spell them. -/

@[expose] public section
noncomputable section

namespace Cert.Row
open Idealize.ShloMosaic

/-- The sigmoid. -/
def gate (x : EReal) : EReal := Ideal.div (Ideal.ofBits FTy.f32 1065353216#32) (Ideal.ofBits FTy.f32 1065353216#32 + Ideal.exp (-x))

theorem gate_sub (x : EReal) : Ideal.div (Ideal.ofBits FTy.f32 1065353216#32) (Ideal.ofBits FTy.f32 1065353216#32 + Ideal.exp (0 - x)) = gate x := by
  rw [zero_sub]
  rfl

/-- A row with its norm, times the gain. -/
def normed (x g : Fin 1024 → EReal) (q : Fin 1024) : EReal := (x q * Ideal.rsqrt (Cert.Norm.under x)) * g q

end Cert.Row
end
-- ==== Proof.ElEmbGrad.lean ====
module

public import proofs.«01_k».proof.Defs
public import proofs.«01_k».proof.Proof.Gen.Kernel22Ideal.Value
public import proofs.«01_k».proof.Proof.Gen.Reference22Ideal.Run
public import proofs.«01_k».proof.Proof.ElMath
public import Idealize.ShloMosaic.Lib.Pointwise
public import Idealize.ShloMosaic.Lib.Quiescent
public import Idealize.ShloMosaic.PureOps.Ideal.Laws

/-! The backward pass of the embedding's gate: the gradients of the embedding and of what is under the sigmoid. -/

@[expose] public section
set_option maxRecDepth 16384
noncomputable section

namespace Cert.Kernel22Ideal.Body
open Cert.Kernel22Ideal Cert.Kernel22Ideal.Gen Idealize.ShloMosaic Idealize.ShloMosaic.TcCoe Idealize.SL.Sem
open Cert.Kernel22Ideal.Value
open Cert.Row
variable (m : (ℓ : Loc nD τ sig) → Buf (Elt Ideal) ℓ)

theorem hz : (![0, 0] : Fin 2 → Nat) = fun _ => 0 := funext fun a => by fin_cases a <;> rfl

theorem sig_apply (v : Vec Ideal S512x1024 .f32) (p : Fin 512) (q : Fin 1024) : (k0_pay1 v (ix2 p q) : EReal) = gate (v (ix2 p q)) := by
  rw [← gate_sub]
  pointwise [k0_pay1]

/-- An element of the block that a point writes in window 3. -/
theorem point3 (x0 : Vec Ideal S512x1024 .f32) (x1 : Vec Ideal S512x1024 .f32) (x2 : Vec Ideal S512x1024 .f32) (p : Fin 512) (q : Fin 1024) :
    (out0_3 x0 x1 x2 (ix2 p q) : EReal) = (x0 (ix2 p q) : EReal) * gate (x2 (ix2 p q) : EReal) := by
  unfold out0_3
  rw [View.canon_unit_zero hz]
  simp only [View.ld_unit_zero (S := S512x1024) hz]
  refine Eq.trans (b := (x0 (ix2 p q) : EReal) * (k0_pay1 x2 (ix2 p q) : EReal)) (by pointwise [k0_pay2]) ?_
  rw [sig_apply]
/-- An element of the block that a point writes in window 4. -/
theorem point4 (x0 : Vec Ideal S512x1024 .f32) (x1 : Vec Ideal S512x1024 .f32) (x2 : Vec Ideal S512x1024 .f32) (p : Fin 512) (q : Fin 1024) :
    (out0_4 x0 x1 x2 (ix2 p q) : EReal) = ((x1 (ix2 p q) : EReal) * (x0 (ix2 p q) : EReal)) * (gate (x2 (ix2 p q) : EReal) * (Ideal.ofBits FTy.f32 1065353216#32 - gate (x2 (ix2 p q) : EReal))) := by
  unfold out0_4
  rw [View.canon_unit_zero hz]
  simp only [View.ld_unit_zero (S := S512x1024) hz]
  refine Eq.trans (b := (((x0 (ix2 p q) : EReal) * (x1 (ix2 p q) : EReal)) * (k0_pay1 x2 (ix2 p q) : EReal)) * (Ideal.ofBits FTy.f32 1065353216#32 - (k0_pay1 x2 (ix2 p q) : EReal))) (by pointwise [k0_pay3]) ?_
  rw [sig_apply, mul_comm (x0 (ix2 p q) : EReal), mul_assoc]
theorem idx_0 : ∀ t : Fin cfg0.N, win0_0.index t 0 = t.val ∧ win0_0.index t 1 = 0 := by decide +kernel
theorem idx_1 : ∀ t : Fin cfg0.N, win0_1.index t 0 = t.val ∧ win0_1.index t 1 = 0 := by decide +kernel
theorem idx_2 : ∀ t : Fin cfg0.N, win0_2.index t 0 = t.val ∧ win0_2.index t 1 = 0 := by decide +kernel
theorem idx_3 : ∀ t : Fin cfg0.N, win0_3.index t 0 = t.val ∧ win0_3.index t 1 = 0 := by decide +kernel
theorem idx_4 : ∀ t : Fin cfg0.N, win0_4.index t 0 = t.val ∧ win0_4.index t 1 = 0 := by decide +kernel
theorem t_lt (t : Fin cfg0.N) : t.val < 8 := by have := t.isLt; have hN : cfg0.N = 8 := N_0; omega

/-- Window 0's block at point `t`, read from the argument. -/
theorem blk0 (c : Dev nD) (a : FVec Ideal S4096x1024 .f32) (h : m ((c : Thread nD τ).loc main_arg0) = a) (t : Fin cfg0.N) (x : Fin 512) (y : Fin 1024) (x1 : Fin 4096) (hx1 : x1.val = 512 * (t.val) + x.val) :
    ((iblk m c 0 t : Vec Ideal S512x1024 .f32) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 512 + 1 * x.val = x1.val; rw [(idx_0 t).1]; omega
  | ⟨1, _⟩ => show win0_0.index t 1 * 1024 + 1 * y.val = y.val; rw [(idx_0 t).2]; omega

/-- Window 1's block at point `t`, read from the argument. -/
theorem blk1 (c : Dev nD) (a : FVec Ideal S4096x1024 .f32) (h : m ((c : Thread nD τ).loc main_arg1) = a) (t : Fin cfg0.N) (x : Fin 512) (y : Fin 1024) (x1 : Fin 4096) (hx1 : x1.val = 512 * (t.val) + x.val) :
    ((iblk m c 1 t : Vec Ideal S512x1024 .f32) (ix2 x y) : EReal) = a (ix2 x1 y) := by
  refine Eq.trans ?_ (congrFun h _)
  rw [← V_main_arg1 m c]
  unfold iblk
  rw [View.read_apply]
  refine congrArg (V m c main_arg1) (funext fun a => Fin.ext ?_)
  match a with
  | ⟨0, _⟩ => show win0_1.index t 0 * 512 + 1 * x.val = x1.val; rw [(idx_1 t).1]; omega
  | ⟨1, _⟩ => show win0_1.index t 1 * 1024 + 1 * y.val = y.val; rw [(idx_1 t).2]; omega

/-- Window 2's block at point `t`, read from the argument. -/
theorem blk2 (c : Dev nD) (a : FVec Ideal S4096x1024 .f32) (h : m ((c : Thread nD τ).loc main_arg2) = a) (t : Fin cfg0.N) (x : Fin 512) (y : Fin 1024) (x1 : Fin 4096) (hx1 : x1.val = 512 * (t.val) + x.val) :
    ((iblk m c 2 t : Vec Ideal S512x1024 .f32) (ix2 x y) : EReal) = a (ix2 x1 y) := by
  refine Eq.trans ?_ (congrFun h _)
  rw [← V_main_arg2 m c]
  unfold iblk
  rw [View.read_apply]
  refine congrArg (V m c main_arg2) (funext fun a => Fin.ext ?_)
  match a with
  | ⟨0, _⟩ => show win0_2.index t 0 * 512 + 1 * x.val = x1.val; rw [(idx_2 t).1]; omega
  | ⟨1, _⟩ => show win0_2.index t 1 * 1024 + 1 * y.val = y.val; rw [(idx_2 t).2]; omega

theorem final3 (c : Dev nD) (a0 : FVec Ideal S4096x1024 .f32) (a1 : FVec Ideal S4096x1024 .f32) (a2 : FVec Ideal S4096x1024 .f32) (h0 : m ((c : Thread nD τ).loc main_arg0) = a0) (h1 : m ((c : Thread nD τ).loc main_arg1) = a1) (h2 : m ((c : Thread nD τ).loc main_arg2) = a2) (i : Fin 4096) (j : Fin 1024) :
    ((dats m 0 c).arrAt 3 cfg0.N : Vec Ideal S4096x1024 .bf16) (ix2 i j)
      = (a0 (ix2 i j) : EReal) * gate (a2 (ix2 i j) : EReal) := by
  have hN : cfg0.N = 8 := N_0
  let t : Fin cfg0.N := ⟨i.val / 512, by omega⟩
  have hi : i.val = 512 * t.val + (⟨i.val % 512, by omega⟩ : Fin 512).val := by simp only [t]; omega
  have hb := blocks3 m c t (flush0_3 t)
  rw [flushed3] at hb
  have hb1 := congrFun hb (ix2 (⟨i.val % 512, by omega⟩ : Fin 512) j)
  have e : ((cfg0.win 3).blk t).view.emb (ix2 (⟨i.val % 512, by omega⟩ : Fin 512) j) = (ix2 i j : S4096x1024.Idx) := funext fun a => Fin.ext (by
    match a with
    | ⟨0, _⟩ => show win0_3.index t 0 * 512 + 1 * (i.val % 512) = i.val; rw [(idx_3 t).1]; simp only [t]; omega
    | ⟨1, _⟩ => show win0_3.index t 1 * 1024 + 1 * j.val = j.val; rw [(idx_3 t).2]; omega)
  rw [View.read_apply, e] at hb1
  refine hb1.trans ((point3 (iblk m c 0 t) (iblk m c 1 t) (iblk m c 2 t) ⟨i.val % 512, by omega⟩ j).trans ?_)
  simp only [(fun y => blk0 m c a0 h0 t (⟨i.val % 512, by omega⟩ : Fin 512) y i hi : ∀ y : Fin 1024, ((iblk m c 0 t : Vec Ideal S512x1024 .f32) (ix2 (⟨i.val % 512, by omega⟩ : Fin 512) y) : EReal) = a0 (ix2 i y)), (fun y => blk1 m c a1 h1 t (⟨i.val % 512, by omega⟩ : Fin 512) y i hi : ∀ y : Fin 1024, ((iblk m c 1 t : Vec Ideal S512x1024 .f32) (ix2 (⟨i.val % 512, by omega⟩ : Fin 512) y) : EReal) = a1 (ix2 i y)), (fun y => blk2 m c a2 h2 t (⟨i.val % 512, by omega⟩ : Fin 512) y i hi : ∀ y : Fin 1024, ((iblk m c 2 t : Vec Ideal S512x1024 .f32) (ix2 (⟨i.val % 512, by omega⟩ : Fin 512) y) : EReal) = a2 (ix2 i y))]

theorem final4 (c : Dev nD) (a0 : FVec Ideal S4096x1024 .f32) (a1 : FVec Ideal S4096x1024 .f32) (a2 : FVec Ideal S4096x1024 .f32) (h0 : m ((c : Thread nD τ).loc main_arg0) = a0) (h1 : m ((c : Thread nD τ).loc main_arg1) = a1) (h2 : m ((c : Thread nD τ).loc main_arg2) = a2) (i : Fin 4096) (j : Fin 1024) :
    ((dats m 0 c).arrAt 4 cfg0.N : Vec Ideal S4096x1024 .bf16) (ix2 i j)
      = ((a1 (ix2 i j) : EReal) * (a0 (ix2 i j) : EReal)) * (gate (a2 (ix2 i j) : EReal) * (Ideal.ofBits FTy.f32 1065353216#32 - gate (a2 (ix2 i j) : EReal))) := by
  have hN : cfg0.N = 8 := N_0
  let t : Fin cfg0.N := ⟨i.val / 512, by omega⟩
  have hi : i.val = 512 * t.val + (⟨i.val % 512, by omega⟩ : Fin 512).val := by simp only [t]; omega
  have hb := blocks4 m c t (flush0_4 t)
  rw [flushed4] at hb
  have hb1 := congrFun hb (ix2 (⟨i.val % 512, by omega⟩ : Fin 512) j)
  have e : ((cfg0.win 4).blk t).view.emb (ix2 (⟨i.val % 512, by omega⟩ : Fin 512) j) = (ix2 i j : S4096x1024.Idx) := funext fun a => Fin.ext (by
    match a with
    | ⟨0, _⟩ => show win0_4.index t 0 * 512 + 1 * (i.val % 512) = i.val; rw [(idx_4 t).1]; simp only [t]; omega
    | ⟨1, _⟩ => show win0_4.index t 1 * 1024 + 1 * j.val = j.val; rw [(idx_4 t).2]; omega)
  rw [View.read_apply, e] at hb1
  refine hb1.trans ((point4 (iblk m c 0 t) (iblk m c 1 t) (iblk m c 2 t) ⟨i.val % 512, by omega⟩ j).trans ?_)
  simp only [(fun y => blk0 m c a0 h0 t (⟨i.val % 512, by omega⟩ : Fin 512) y i hi : ∀ y : Fin 1024, ((iblk m c 0 t : Vec Ideal S512x1024 .f32) (ix2 (⟨i.val % 512, by omega⟩ : Fin 512) y) : EReal) = a0 (ix2 i y)), (fun y => blk1 m c a1 h1 t (⟨i.val % 512, by omega⟩ : Fin 512) y i hi : ∀ y : Fin 1024, ((iblk m c 1 t : Vec Ideal S512x1024 .f32) (ix2 (⟨i.val % 512, by omega⟩ : Fin 512) y) : EReal) = a1 (ix2 i y)), (fun y => blk2 m c a2 h2 t (⟨i.val % 512, by omega⟩ : Fin 512) y i hi : ∀ y : Fin 1024, ((iblk m c 2 t : Vec Ideal S512x1024 .f32) (ix2 (⟨i.val % 512, by omega⟩ : Fin 512) y) : EReal) = a2 (ix2 i y))]

end Cert.Kernel22Ideal.Body

namespace Cert.Reference22Ideal.Read
open Cert.Reference22Ideal Cert.Reference22Ideal.Gen Cert.Reference22Ideal.Value Idealize.ShloMosaic Idealize.ShloMosaic.TcCoe Idealize.SL.Sem
open Cert.Row

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2.2, sem_eq_zero_of_no_sems (by decide) r.2⟩) (run m ρ)

def sig (a2 : FVec Ideal S4096x1024 .f32) : FVec Ideal S4096x1024 .f32 := Host.divf (broadcastInDim S4096x1024 ![] bcast_S_S4096x1024 (constant S_ .f32 0x3F800000#32)) (addf (broadcastInDim S4096x1024 ![] bcast_S_S4096x1024 (constant S_ .f32 0x3F800000#32)) (Host.exp (Host.negf a2)))

theorem sig_apply (a2 : FVec Ideal S4096x1024 .f32) (i : Fin 4096) (j : Fin 1024) : (sig a2 (ix2 i j) : EReal) = gate (a2 (ix2 i j)) := by
  unfold gate
  pointwise [sig]

def result3 (a0 : FVec Ideal S4096x1024 .f32) (a1 : FVec Ideal S4096x1024 .f32) (a2 : FVec Ideal S4096x1024 .f32) : FVec Ideal S4096x1024 .bf16 := truncf (F := Ideal) (φ := .f32) .bf16 (mulf a0 (sig a2)) bitsLt_bf16_f32

theorem result3_apply (a0 : FVec Ideal S4096x1024 .f32) (a1 : FVec Ideal S4096x1024 .f32) (a2 : FVec Ideal S4096x1024 .f32) (i : Fin 4096) (j : Fin 1024) : (result3 a0 a1 a2 (ix2 i j) : EReal) = (a0 (ix2 i j) : EReal) * gate (a2 (ix2 i j) : EReal) := by
  rw [← sig_apply]
  pointwise [result3]

def result4 (a0 : FVec Ideal S4096x1024 .f32) (a1 : FVec Ideal S4096x1024 .f32) (a2 : FVec Ideal S4096x1024 .f32) : FVec Ideal S4096x1024 .bf16 := truncf (F := Ideal) (φ := .f32) .bf16 (mulf (mulf a1 a0) (mulf (sig a2) (subf (broadcastInDim S4096x1024 ![] bcast_S_S4096x1024 (constant S_ .f32 0x3F800000#32)) (sig a2)))) bitsLt_bf16_f32

theorem result4_apply (a0 : FVec Ideal S4096x1024 .f32) (a1 : FVec Ideal S4096x1024 .f32) (a2 : FVec Ideal S4096x1024 .f32) (i : Fin 4096) (j : Fin 1024) : (result4 a0 a1 a2 (ix2 i j) : EReal) = ((a1 (ix2 i j) : EReal) * (a0 (ix2 i j) : EReal)) * (gate (a2 (ix2 i j) : EReal) * (Ideal.ofBits FTy.f32 1065353216#32 - gate (a2 (ix2 i j) : EReal))) := by
  rw [← sig_apply]
  pointwise [result4]

end Cert.Reference22Ideal.Read

namespace Cert.Kernel22Ideal.Body
open Idealize.ShloMosaic Idealize.ShloMosaic.TcCoe Idealize.SL.Sem

theorem algebraic : Cert.algebraic_Kernel22Ideal_Reference22Ideal := by
  intro m g m' g' hpre hag
  refine ⟨fun c => (Cert.Kernel22Ideal.Gen.dats m 0 c).arrAt 3 Cert.Kernel22Ideal.cfg0.N, fun c => (Cert.Kernel22Ideal.Gen.dats m 0 c).arrAt 4 Cert.Kernel22Ideal.cfg0.N, Cert.Kernel22Ideal.Value.run_blocks m g, ?_⟩
  refine (θ_run Cert.Reference22Ideal.defs _ _).mono (fun r h c => ?_) (Cert.Reference22Ideal.Value.run m' g')
  obtain ⟨h0, h1, ha⟩ := h c
  obtain ⟨e0, e1, e2⟩ := hag c
  refine ⟨h0.trans (funext fun i => ?_), h1.trans (funext fun i => ?_), ha⟩
  · rw [e0, e2, eq_ix2 i]
    exact (Cert.Reference22Ideal.Read.result3_apply _ (m ((c : Thread nD τ).loc Cert.Kernel22Ideal.main_arg1)) _ _ _).trans (final3 m c _ _ _ rfl rfl rfl _ _).symm
  · rw [e0, e1, e2, eq_ix2 i]
    exact (Cert.Reference22Ideal.Read.result4_apply _ _ _ _ _).trans (final4 m c _ _ _ rfl rfl rfl _ _).symm

end Cert.Kernel22Ideal.Body
end
-- ==== Proof.ElLoss.lean ====
module

public import proofs.«01_k».proof.Defs
public import proofs.«01_k».proof.Proof.Gen.Kernel23Ideal.Value
public import proofs.«01_k».proof.Proof.Gen.Reference23Ideal.Run
public import proofs.«01_k».proof.Proof.ElMath
public import Idealize.ShloMosaic.Lib.StableHlo.ReadAt
public import Idealize.ShloMosaic.Lib.Tactic
public import Idealize.ShloMosaic.Lib.Pointwise
public import Idealize.ShloMosaic.Lib.Quiescent
public import Idealize.ShloMosaic.PureOps.Ideal.Laws

/-! The loss head: the last norm, half the mean square of its distance to the target summed over the tokens, the gradient to the norm's
input, and the gradient to its gain, the last and the loss kept from one block of tokens to the next. -/

@[expose] public section
set_option maxRecDepth 16384
noncomputable section

namespace Cert.Kernel23Ideal.Body
open Cert.Kernel23Ideal Cert.Kernel23Ideal.Gen Idealize.ShloMosaic Idealize.ShloMosaic.TcCoe Idealize.SL.Sem
open Cert.Kernel23Ideal.Value
open Cert.Norm Cert.Row
variable (m : (ℓ : Loc nD τ sig) → Buf (Elt Ideal) ℓ)

theorem hz : (![0, 0] : Fin 2 → Nat) = fun _ => 0 := funext fun a => by fin_cases a <;> rfl

/-- A load of a whole rank-two buffer reads its contents. -/
theorem ldz {d : Fin 2 → Nat} {e : EltTy} (inb : ∀ a, (![0, 0] : Fin 2 → Nat) a + d a ≤ d a)
    (X : Shape.Idx ⟨2, d⟩ → Elt Ideal e) : View.ld X (Rect.unit (s := ⟨2, d⟩) ![0, 0] d inb) = X :=
  View.ld_unit_zero (S := ⟨2, d⟩) hz inb X

/-! ## A row -/

/-- How far a row's norm lies from its target. -/
def off (x g t : Fin 1024 → EReal) (y : Fin 1024) : EReal := normed x g y - t y

/-- The gradient of the loss to the norm's output. -/
def grad (x g t : Fin 1024 → EReal) (y : Fin 1024) : EReal := off x g t y * Ideal.ofBits FTy.f32 981467136#32

/-- A row's part of the loss. -/
def loss (x g t : Fin 1024 → EReal) : EReal := Ideal.ofBits FTy.f32 973078528#32 * ∑ y, off x g t y * off x g t y

theorem w_2048 : Ideal.ofBits FTy.f32 973078528#32 = ((1 / 2048 : ℝ) : EReal) := by
  simp [Ideal.ofBits, Ideal.ieee, -EReal.coe_mul]; norm_num

theorem w_inv : Ideal.ofBits FTy.f32 981467136#32 = ((1 / 1024 : ℝ) : EReal) := by
  simp [Ideal.ofBits, Ideal.ieee, -EReal.coe_mul]; norm_num

theorem w_05 : Ideal.ofBits FTy.f32 1056964608#32 = ((1 / 2 : ℝ) : EReal) := by
  simp [Ideal.ofBits, Ideal.ieee, -EReal.coe_mul]; norm_num

theorem w_1 : Ideal.ofBits FTy.f32 1065353216#32 = ((1 : ℝ) : EReal) := by
  simp [Ideal.ofBits, Ideal.ieee, -EReal.coe_mul]; try norm_num

theorem w_2 : Ideal.ofBits FTy.f32 1073741824#32 = ((2 : ℝ) : EReal) := by
  simp [Ideal.ofBits, Ideal.ieee, -EReal.coe_mul]; try norm_num

/-- The derivative of half a mean square: half of it over the length, times twice the number. -/
theorem half_twice (e : EReal) :
    Ideal.div (Ideal.ofBits FTy.f32 1056964608#32 * Ideal.ofBits FTy.f32 1065353216#32) (Ideal.ofBits FTy.f32 1149239296#32) * (Ideal.ofBits FTy.f32 1073741824#32 * e)
      = e * Ideal.ofBits FTy.f32 981467136#32 := by
  rw [div_1024, w_05, w_1, w_2, w_inv, ← EReal.coe_mul, ← EReal.coe_mul, ← mul_assoc, ← EReal.coe_mul, mul_comm e]
  congr 2; norm_num

/-- A number times a sum of numbers that are not negative. -/
theorem mul_sum_nonneg {ι : Type} (s : Finset ι) (a : EReal) (f : ι → EReal) (hf : ∀ i, 0 ≤ f i) : a * ∑ i ∈ s, f i = ∑ i ∈ s, a * f i := by
  classical
  induction s using Finset.induction_on with
  | empty => simp
  | insert i s hi ih =>
    rw [Finset.sum_insert hi, Finset.sum_insert hi, EReal.left_distrib_of_nonneg (hf i) (Finset.sum_nonneg fun j _ => hf j), ih]

theorem squares_nonneg (x g t : Fin 1024 → EReal) : 0 ≤ ∑ y, off x g t y * off x g t y := Finset.sum_nonneg fun y _ => sq_nonneg _

/-- Half of the sum of the means is the sum of the rows' parts. -/
theorem half_sum (x t : Fin 4096 → Fin 1024 → EReal) (g : Fin 1024 → EReal) :
    Ideal.ofBits FTy.f32 1056964608#32 * ∑ i, Ideal.div (∑ y, off (x i) g (t i) y * off (x i) g (t i) y) (Ideal.ofBits FTy.f32 1149239296#32)
      = ∑ i, loss (x i) g (t i) := by
  simp only [div_1024]
  rw [mul_sum_nonneg _ _ _ fun i => mul_nonneg (squares_nonneg (x i) g (t i)) (by exact_mod_cast (by norm_num : (0 : ℝ) ≤ 1024⁻¹))]
  refine Finset.sum_congr rfl fun i _ => ?_
  unfold loss
  rw [w_05, w_2048, mul_comm _ ((1024⁻¹ : ℝ) : EReal), ← mul_assoc, ← EReal.coe_mul]
  congr 2; norm_num

/-! ## What a point computes -/

/-- The gradient to the norm's output, in a block of tokens. -/
def blockGrad (x0 : Vec Ideal S512x1024 .f32) (x1 : Vec Ideal S1x1024 .f32) (x2 : Vec Ideal S512x1024 .f32) : FVec Ideal S512x1024 .f32 := k0_pay8 x0 x1 x2

/-- The block of the first result. -/
def blockIn (x0 : Vec Ideal S512x1024 .f32) (x1 : Vec Ideal S1x1024 .f32) (x2 : Vec Ideal S512x1024 .f32) : FVec Ideal S512x1024 .f32 := k0_pay9 x0 x1 x2

/-- The block's part of the gain's gradient. -/
def blockGain (x0 : Vec Ideal S512x1024 .f32) (x1 : Vec Ideal S1x1024 .f32) (x2 : Vec Ideal S512x1024 .f32) : FVec Ideal S1x1024 .f32 := k0_pay1 x0 (k0_pay5 x0) (blockGrad x0 x1 x2)

/-- What a later point makes of the gain's gradient. -/
def addGain (x0 : Vec Ideal S512x1024 .f32) (x1 : Vec Ideal S1x1024 .f32) (x2 : Vec Ideal S512x1024 .f32) (xo : Vec Ideal S1x1024 .f32) : FVec Ideal S1x1024 .f32 := k0_pay2 x0 (k0_pay5 x0) (blockGrad x0 x1 x2) xo

/-- The block's part of the loss. -/
def blockLoss (x0 : Vec Ideal S512x1024 .f32) (x1 : Vec Ideal S1x1024 .f32) (x2 : Vec Ideal S512x1024 .f32) : FVec Ideal S1x1 .f32 := k0_pay7 x0 x1 x2

/-- What a later point makes of the loss. -/
def addLoss (x0 : Vec Ideal S512x1024 .f32) (x1 : Vec Ideal S1x1024 .f32) (x2 : Vec Ideal S512x1024 .f32) (xo : Vec Ideal S1x1 .f32) : FVec Ideal S1x1 .f32 := k0_pay3 (blockLoss x0 x1 x2) xo

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1 .f32) (harg6 : arg6.IsWhole) (hc0 : cond0_0 i) (hc1 : ¬cond0_1 i) (x0 : Vec Ideal S512x1024 .f32) (x1 : Vec Ideal S1x1024 .f32) (x2 : Vec Ideal S512x1024 .f32)

theorem out0_A_3_eq :
    out0_A_3 c i arg1 harg1 arg2 harg2 arg3 harg3 arg4 harg4 arg5 harg5 arg6 harg6 hc0 hc1 x0 x1 x2 = blockIn x0 x1 x2 := by
  unfold out0_A_3
  rw [View.read_writes_junk_eq_canon]
  unfold kernelRun0_A
  dsimp only
  sl_unfold_words
  rw [View.canon_unit_zero (S := S512x1024) hz]
  simp only [View.readAt_eq_ld, Memref.IsWhole.read_unread, ldz]
  rfl

theorem out0_A_4_eq :
    out0_A_4 c i arg1 harg1 arg2 harg2 arg3 harg3 arg4 harg4 arg5 harg5 arg6 harg6 hc0 hc1 x0 x1 x2 = blockGain x0 x1 x2 := by
  unfold out0_A_4
  rw [View.read_writes_junk_eq_canon]
  unfold kernelRun0_A
  dsimp only
  sl_unfold_words
  rw [View.canon_unit_zero (S := S1x1024) hz]
  simp only [View.readAt_eq_ld, Memref.IsWhole.read_unread, ldz]
  rfl

theorem out0_A_5_eq :
    out0_A_5 c i arg1 harg1 arg2 harg2 arg3 harg3 arg4 harg4 arg5 harg5 arg6 harg6 hc0 hc1 x0 x1 x2 = blockLoss x0 x1 x2 := by
  unfold out0_A_5
  rw [View.read_writes_junk_eq_canon]
  unfold kernelRun0_A
  dsimp only
  sl_unfold_words
  rw [View.canon_unit_zero (S := S1x1) hz]
  simp only [View.readAt_eq_ld, Memref.IsWhole.read_unread, ldz]
  rfl

end

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1 .f32) (harg6 : arg6.IsWhole) (hc0 : ¬cond0_0 i) (hc1 : cond0_1 i) (x0 : Vec Ideal S512x1024 .f32) (x1 : Vec Ideal S1x1024 .f32) (x2 : Vec Ideal S512x1024 .f32) (xo4 : Vec Ideal S1x1024 .f32) (xo5 : Vec Ideal S1x1 .f32)

theorem out0_B_3_eq :
    out0_B_3 c i arg1 harg1 arg2 harg2 arg3 harg3 arg4 harg4 arg5 harg5 arg6 harg6 hc0 hc1 x0 x1 x2 xo4 xo5 = blockIn x0 x1 x2 := by
  unfold out0_B_3
  rw [View.read_writes_junk_eq_canon]
  unfold kernelRun0_B
  dsimp only
  sl_unfold_words
  rw [View.canon_unit_zero (S := S512x1024) hz]
  simp only [View.readAt_eq_ld, Memref.IsWhole.read_unread, ldz]
  rfl

theorem out0_B_4_eq :
    out0_B_4 c i arg1 harg1 arg2 harg2 arg3 harg3 arg4 harg4 arg5 harg5 arg6 harg6 hc0 hc1 x0 x1 x2 xo4 xo5 = addGain x0 x1 x2 xo4 := by
  unfold out0_B_4
  rw [View.read_writes_junk_eq_canon]
  unfold kernelRun0_B
  dsimp only
  sl_unfold_words
  rw [View.canon_unit_zero (S := S1x1024) hz]
  simp only [View.readAt_eq_ld, Memref.IsWhole.read_unread, ldz]
  rfl

theorem out0_B_5_eq :
    out0_B_5 c i arg1 harg1 arg2 harg2 arg3 harg3 arg4 harg4 arg5 harg5 arg6 harg6 hc0 hc1 x0 x1 x2 xo4 xo5 = addLoss x0 x1 x2 xo5 := by
  unfold out0_B_5
  rw [View.read_writes_junk_eq_canon]
  unfold kernelRun0_B
  dsimp only
  sl_unfold_words
  rw [View.canon_unit_zero (S := S1x1) hz]
  simp only [View.readAt_eq_ld, Memref.IsWhole.read_unread, ldz]
  rfl

end

/-! ## A block, entry by entry -/

theorem blockGrad_apply (x0 : Vec Ideal S512x1024 .f32) (x1 : Vec Ideal S1x1024 .f32) (x2 : Vec Ideal S512x1024 .f32) (p : Fin 512) (y : Fin 1024) : (blockGrad x0 x1 x2 (ix2 p y) : EReal) = grad (fun y => (x0 (ix2 p y) : EReal)) (fun y => (x1 (ix2 (0 : Fin 1) y) : EReal)) (fun y => (x2 (ix2 p y) : EReal)) y := by
  unfold grad off normed under
  pointwise [blockGrad, k0_pay8, k0_pay6, k0_pay5, k0_pay4]

theorem blockIn_apply (x0 : Vec Ideal S512x1024 .f32) (x1 : Vec Ideal S1x1024 .f32) (x2 : Vec Ideal S512x1024 .f32) (p : Fin 512) (q : Fin 1024) :
    (blockIn x0 x1 x2 (ix2 p q) : EReal)
      = toInput (fun _ => 0) (fun y => (blockGrad x0 x1 x2 (ix2 p y) : EReal)) (fun y => (x0 (ix2 p y) : EReal)) (fun y => (x1 (ix2 (0 : Fin 1) y) : EReal)) q := by
  unfold toInput under
  rw [zero_add]
  unfold blockGrad
  pointwise [blockIn, k0_pay9, k0_pay5, k0_pay4]

theorem blockGain_apply (x0 : Vec Ideal S512x1024 .f32) (x1 : Vec Ideal S1x1024 .f32) (x2 : Vec Ideal S512x1024 .f32) (q : Fin 1024) :
    (blockGain x0 x1 x2 (ix2 (0 : Fin 1) q) : EReal) = ∑ p : Fin 512, toGain (fun y => (blockGrad x0 x1 x2 (ix2 p y) : EReal)) (fun y => (x0 (ix2 p y) : EReal)) q := by
  pointwise [blockGain, k0_pay1, k0_pay5]
  rfl

theorem addGain_apply (x0 : Vec Ideal S512x1024 .f32) (x1 : Vec Ideal S1x1024 .f32) (x2 : Vec Ideal S512x1024 .f32) (xo : Vec Ideal S1x1024 .f32) (q : Fin 1024) :
    (addGain x0 x1 x2 xo (ix2 (0 : Fin 1) q) : EReal) = (xo (ix2 (0 : Fin 1) q) : EReal) + (blockGain x0 x1 x2 (ix2 (0 : Fin 1) q) : EReal) := by
  unfold blockGain
  pointwise [addGain, k0_pay2]

theorem blockLoss_apply (x0 : Vec Ideal S512x1024 .f32) (x1 : Vec Ideal S1x1024 .f32) (x2 : Vec Ideal S512x1024 .f32) : (blockLoss x0 x1 x2 (ix2 (0 : Fin 1) (0 : Fin 1)) : EReal) = ∑ p : Fin 512, loss (fun y => (x0 (ix2 p y) : EReal)) (fun y => (x1 (ix2 (0 : Fin 1) y) : EReal)) (fun y => (x2 (ix2 p y) : EReal)) := by
  unfold loss
  rw [← mul_sum_nonneg _ _ _ fun p => squares_nonneg _ _ _]
  unfold off normed under
  pointwise [blockLoss, k0_pay7, k0_pay6, k0_pay5, k0_pay4]

theorem addLoss_apply (x0 : Vec Ideal S512x1024 .f32) (x1 : Vec Ideal S1x1024 .f32) (x2 : Vec Ideal S512x1024 .f32) (xo : Vec Ideal S1x1 .f32) :
    (addLoss x0 x1 x2 xo (ix2 (0 : Fin 1) (0 : Fin 1)) : EReal) = (xo (ix2 (0 : Fin 1) (0 : Fin 1)) : EReal) + (blockLoss x0 x1 x2 (ix2 (0 : Fin 1) (0 : Fin 1)) : EReal) := by
  pointwise [addLoss, k0_pay3]

/-! ## The blocks in the arrays -/

theorem idx_0 : ∀ t : Fin cfg0.N, win0_0.index t 0 = t.val ∧ win0_0.index t 1 = 0 := by decide +kernel
theorem idx_1 : ∀ t : Fin cfg0.N, win0_1.index t 0 = 0 ∧ win0_1.index t 1 = 0 := by decide +kernel
theorem idx_2 : ∀ t : Fin cfg0.N, win0_2.index t 0 = t.val ∧ win0_2.index t 1 = 0 := by decide +kernel
theorem idx_3 : ∀ t : Fin cfg0.N, win0_3.index t 0 = t.val ∧ win0_3.index t 1 = 0 := by decide +kernel
theorem idx_4 : ∀ t : Fin cfg0.N, win0_4.index t 0 = 0 ∧ win0_4.index t 1 = 0 := by decide +kernel
theorem idx_5 : ∀ t : Fin cfg0.N, win0_5.index t 0 = 0 ∧ win0_5.index t 1 = 0 := by decide +kernel
theorem t_lt (t : Fin cfg0.N) : t.val < 8 := by have := t.isLt; have hN : cfg0.N = 8 := N_0; omega

/-- Window 0's block at point `t`, read from the argument. -/
theorem blk0 (c : Dev nD) (a : FVec Ideal S4096x1024 .f32) (h : m ((c : Thread nD τ).loc main_arg0) = a) (t : Fin cfg0.N) (x : Fin 512) (y : Fin 1024) (x1 : Fin 4096) (hx1 : x1.val = 512 * (t.val) + x.val) :
    ((iblk m c 0 t : Vec Ideal S512x1024 .f32) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 512 + 1 * x.val = x1.val; rw [(idx_0 t).1]; omega
  | ⟨1, _⟩ => show win0_0.index t 1 * 1024 + 1 * y.val = y.val; rw [(idx_0 t).2]; omega

/-- Window 2's block at point `t`, read from the argument. -/
theorem blk2 (c : Dev nD) (a : FVec Ideal S4096x1024 .f32) (h : m ((c : Thread nD τ).loc main_arg2) = a) (t : Fin cfg0.N) (x : Fin 512) (y : Fin 1024) (x1 : Fin 4096) (hx1 : x1.val = 512 * (t.val) + x.val) :
    ((iblk m c 2 t : Vec Ideal S512x1024 .f32) (ix2 x y) : EReal) = a (ix2 x1 y) := by
  refine Eq.trans ?_ (congrFun h _)
  rw [← V_main_arg2 m c]
  unfold iblk
  rw [View.read_apply]
  refine congrArg (V m c main_arg2) (funext fun a => Fin.ext ?_)
  match a with
  | ⟨0, _⟩ => show win0_2.index t 0 * 512 + 1 * x.val = x1.val; rw [(idx_2 t).1]; omega
  | ⟨1, _⟩ => show win0_2.index t 1 * 1024 + 1 * y.val = y.val; rw [(idx_2 t).2]; omega

/-- The gain's row at point `t`. -/
theorem blk1 (c : Dev nD) (a : FVec Ideal S1024 .f32) (h : m ((c : Thread nD τ).loc main_arg1) = a) (t : Fin cfg0.N) (y : Fin 1024) :
    ((iblk m c 1 t : Vec Ideal S1x1024 .f32) (ix2 (0 : Fin 1) y) : EReal) = a (ix1 y) := by
  refine Eq.trans (b := ((V m c main_v0 : Vec Ideal S1x1024 .f32) (ix2 (0 : Fin 1) y) : EReal)) ?_ (Eq.trans ?_ (congrFun h _))
  · unfold iblk
    rw [View.read_apply]
    refine congrArg (V m c main_v0) (funext fun a => Fin.ext ?_)
    match a with
    | ⟨0, _⟩ => show win0_1.index t 0 * 1 + 1 * 0 = 0; rw [(idx_1 t).1]
    | ⟨1, _⟩ => show win0_1.index t 1 * 1024 + 1 * y.val = y.val; rw [(idx_1 t).2]; omega
  · unfold V
    after_reads_at

section
variable (c : Dev nD) (a0 : FVec Ideal S4096x1024 .f32) (a1 : FVec Ideal S1024 .f32) (a2 : FVec Ideal S4096x1024 .f32)
  (h0 : m ((c : Thread nD τ).loc main_arg0) = a0) (h1 : m ((c : Thread nD τ).loc main_arg1) = a1) (h2 : m ((c : Thread nD τ).loc main_arg2) = a2)

/-- The gradient to the norm's output for a token. -/
def gradAt (i : Fin 4096) : Fin 1024 → EReal := grad (fun y => (a0 (ix2 i y) : EReal)) (fun y => (a1 (ix1 y) : EReal)) (fun y => (a2 (ix2 i y) : EReal))

/-- A token's part of the loss. -/
def lossAt (i : Fin 4096) : EReal := loss (fun y => (a0 (ix2 i y) : EReal)) (fun y => (a1 (ix1 y) : EReal)) (fun y => (a2 (ix2 i y) : EReal))

include h0 in
theorem row0 (t : Fin cfg0.N) (p : Fin 512) (i : Fin 4096) (hi : i.val = 512 * t.val + p.val) :
    (fun y => ((iblk m c 0 t : Vec Ideal S512x1024 .f32) (ix2 p y) : EReal)) = fun y => (a0 (ix2 i y) : EReal) := funext fun y => blk0 m c a0 h0 t p y i hi

include h1 in
theorem row1 (t : Fin cfg0.N) : (fun y => ((iblk m c 1 t : Vec Ideal S1x1024 .f32) (ix2 (0 : Fin 1) y) : EReal)) = fun y => (a1 (ix1 y) : EReal) :=
  funext fun y => blk1 m c a1 h1 t y

include h2 in
theorem row2 (t : Fin cfg0.N) (p : Fin 512) (i : Fin 4096) (hi : i.val = 512 * t.val + p.val) :
    (fun y => ((iblk m c 2 t : Vec Ideal S512x1024 .f32) (ix2 p y) : EReal)) = fun y => (a2 (ix2 i y) : EReal) := funext fun y => blk2 m c a2 h2 t p y i hi

include h0 h1 h2

theorem grad_eq (t : Fin cfg0.N) (p : Fin 512) (i : Fin 4096) (hi : i.val = 512 * t.val + p.val) :
    (fun y => (blockGrad (iblk m c 0 t) (iblk m c 1 t) (iblk m c 2 t) (ix2 p y) : EReal)) = gradAt a0 a1 a2 i := by
  refine funext fun y => (blockGrad_apply (iblk m c 0 t) (iblk m c 1 t) (iblk m c 2 t) p y).trans ?_
  rw [row0 m c a0 h0 t p i hi, row1 m c a1 h1 t, row2 m c a2 h2 t p i hi]
  rfl

theorem gain_blk (t : Fin cfg0.N) (q : Fin 1024) :
    (blockGain (iblk m c 0 t) (iblk m c 1 t) (iblk m c 2 t) (ix2 (0 : Fin 1) q) : EReal)
      = ∑ p ∈ Finset.range 512, atPos (fun i => toGain (gradAt a0 a1 a2 i) (fun y => (a0 (ix2 i y) : EReal)) q) (512 * t.val + p) := by
  have ht := t_lt t
  rw [Finset.sum_range]
  refine (blockGain_apply (iblk m c 0 t) (iblk m c 1 t) (iblk m c 2 t) q).trans (Finset.sum_congr rfl fun p _ => ?_)
  rw [atPos_eq _ _ (⟨512 * t.val + p.val, by omega⟩ : Fin 4096) rfl]
  exact congrArg₂ (fun d x => toGain d x q) (grad_eq m c a0 a1 a2 h0 h1 h2 t p _ rfl) (row0 m c a0 h0 t p _ rfl)

theorem loss_blk (t : Fin cfg0.N) :
    (blockLoss (iblk m c 0 t) (iblk m c 1 t) (iblk m c 2 t) (ix2 (0 : Fin 1) (0 : Fin 1)) : EReal) = ∑ p ∈ Finset.range 512, atPos (lossAt a0 a1 a2) (512 * t.val + p) := by
  have ht := t_lt t
  rw [Finset.sum_range]
  refine (blockLoss_apply (iblk m c 0 t) (iblk m c 1 t) (iblk m c 2 t)).trans (Finset.sum_congr rfl fun p _ => ?_)
  rw [atPos_eq _ _ (⟨512 * t.val + p.val, by omega⟩ : Fin 4096) rfl, row0 m c a0 h0 t p ⟨512 * t.val + p.val, by omega⟩ rfl, row1 m c a1 h1 t, row2 m c a2 h2 t p ⟨512 * t.val + p.val, by omega⟩ rfl]
  rfl

/-- The gain's gradient after each point: the sum over the tokens so far. -/
theorem gain_left (q : Fin 1024) : ∀ (n : ℕ) (hn : n < cfg0.N),
    ((outsAt0 m c n hn).2.1 (ix2 (0 : Fin 1) q) : EReal) = ∑ r ∈ Finset.range (512 * (n + 1)), atPos (fun i => toGain (gradAt a0 a1 a2 i) (fun y => (a0 (ix2 i y) : EReal)) q) r
  | 0, hn => by
    rw [show outsAt0 m c 0 hn = _ from outsAt0_A m c ⟨0, hn⟩ (Nat.zero_mod 8) (by show ¬1 ≤ 0; omega), out0_A_4_eq]
    refine (gain_blk m c a0 a1 a2 h0 h1 h2 ⟨0, hn⟩ q).trans ?_
    simp only [Nat.mul_zero, Nat.zero_add, Nat.mul_one]
  | n + 1, hn => by
    have hN : cfg0.N = 8 := N_0
    have ih := gain_left q n (by omega)
    rw [show outsAt0 m c (n + 1) hn = _ from outsAt0_B m c ⟨n + 1, hn⟩ (by simp only; omega) (by simp only; omega), out0_B_4_eq]
    simp only [Nat.add_sub_cancel]
    refine (addGain_apply _ _ _ _ q).trans ?_
    rw [show 512 * (n + 1 + 1) = 512 * (n + 1) + 512 from by omega, Finset.sum_range_add]
    exact congrArg₂ (fun x y : EReal => x + y) ih (gain_blk m c a0 a1 a2 h0 h1 h2 ⟨n + 1, hn⟩ q)

/-- The loss after each point: the sum over the tokens so far. -/
theorem loss_left : ∀ (n : ℕ) (hn : n < cfg0.N),
    ((outsAt0 m c n hn).2.2 (ix2 (0 : Fin 1) (0 : Fin 1)) : EReal) = ∑ r ∈ Finset.range (512 * (n + 1)), atPos (lossAt a0 a1 a2) r
  | 0, hn => by
    rw [show outsAt0 m c 0 hn = _ from outsAt0_A m c ⟨0, hn⟩ (Nat.zero_mod 8) (by show ¬1 ≤ 0; omega), out0_A_5_eq]
    refine (loss_blk m c a0 a1 a2 h0 h1 h2 ⟨0, hn⟩).trans ?_
    simp only [Nat.mul_zero, Nat.zero_add, Nat.mul_one]
  | n + 1, hn => by
    have hN : cfg0.N = 8 := N_0
    have ih := loss_left n (by omega)
    rw [show outsAt0 m c (n + 1) hn = _ from outsAt0_B m c ⟨n + 1, hn⟩ (by simp only; omega) (by simp only; omega), out0_B_5_eq]
    simp only [Nat.add_sub_cancel]
    refine (addLoss_apply _ _ _ _).trans ?_
    rw [show 512 * (n + 1 + 1) = 512 * (n + 1) + 512 from by omega, Finset.sum_range_add]
    exact congrArg₂ (fun x y : EReal => x + y) ih (loss_blk m c a0 a1 a2 h0 h1 h2 ⟨n + 1, hn⟩)

omit h0 h1 h2 in
/-- The first result after each point: its block. -/
theorem in_left (t : Fin cfg0.N) : (outsAt0 m c t.val t.isLt).1 = blockIn (iblk m c 0 t) (iblk m c 1 t) (iblk m c 2 t) := by
  have ht := t_lt t
  by_cases h : t.val = 0
  · rw [outsAt0_A m c t (by omega) (by omega), out0_A_3_eq]
  · rw [outsAt0_B m c t (by omega) (by omega), out0_B_3_eq]

/-! ## The arrays -/

/-- The gradient to the norm's input. -/
theorem final3 (i : Fin 4096) (j : Fin 1024) :
    ((dats m 0 c).arrAt 3 cfg0.N : Vec Ideal S4096x1024 .f32) (ix2 i j)
      = toInput (fun _ => 0) (gradAt a0 a1 a2 i) (fun y => (a0 (ix2 i y) : EReal)) (fun y => (a1 (ix1 y) : EReal)) j := by
  have hN : cfg0.N = 8 := N_0
  let t : Fin cfg0.N := ⟨i.val / 512, by omega⟩
  have hi : i.val = 512 * t.val + (⟨i.val % 512, by omega⟩ : Fin 512).val := by simp only [t]; omega
  have hb := blocks3 m c t (flush0_3 t)
  rw [flushed3, in_left] at hb
  have hb1 := congrFun hb (ix2 (⟨i.val % 512, by omega⟩ : Fin 512) j)
  have e : ((cfg0.win 3).blk t).view.emb (ix2 (⟨i.val % 512, by omega⟩ : Fin 512) j) = (ix2 i j : S4096x1024.Idx) := funext fun a => Fin.ext (by
    match a with
    | ⟨0, _⟩ => show win0_3.index t 0 * 512 + 1 * (i.val % 512) = i.val; rw [(idx_3 t).1]; simp only [t]; omega
    | ⟨1, _⟩ => show win0_3.index t 1 * 1024 + 1 * j.val = j.val; rw [(idx_3 t).2]; omega)
  rw [View.read_apply, e] at hb1
  refine hb1.trans ((blockIn_apply (iblk m c 0 t) (iblk m c 1 t) (iblk m c 2 t) ⟨i.val % 512, by omega⟩ j).trans ?_)
  rw [grad_eq m c a0 a1 a2 h0 h1 h2 t _ i hi, row0 m c a0 h0 t _ i hi, row1 m c a1 h1 t]

/-- The last grid point. -/
def tl : Fin cfg0.N := ⟨7, by have hN : cfg0.N = 8 := N_0; omega⟩

omit h0 h1 h2 in
/-- The gain's gradient is what the last grid point leaves. -/
theorem final4 : (dats m 0 c).arrAt 4 cfg0.N = (outsAt0 m c tl.val tl.isLt).2.1 :=
  (dats m 0 c).arrAt_eq_of_cover 4 (outsAt0 m c tl.val tl.isLt).2.1 (fun t hf => by
    obtain rfl : t = tl := Fin.ext (by have := (flush0_4 t).mp hf; have := t_lt t; show t.val = 7; omega)
    rw [flushed4]
    have hz' : (fun a => win0_4.index tl a * main_v1_1.ty.shape.size a) = fun _ => 0 := funext fun a => by
      match a with
      | ⟨0, _⟩ => show win0_4.index tl 0 * 1 = 0; rw [(idx_4 tl).1]
      | ⟨1, _⟩ => show win0_4.index tl 1 * 1024 = 0; rw [(idx_4 tl).2]
    exact (Memref.read_access_unit_zero (Elt Ideal) main_v1_1 hz' (fun a => by rw [congrFun hz' a]; simp) (outsAt0 m c tl.val tl.isLt).2.1).symm) fun i =>
    ⟨tl, (flush0_4 tl).mpr rfl, by
      show i ∈ ((View.whole main_v1_1).slice (win0_4.rect tl)).set
      rw [View.set_slice_whole, Rect.mem_set_unit]
      intro a
      have h0 : (i 0 : Nat) < 1 := (i 0).isLt
      have h1 : (i 1 : Nat) < 1024 := (i 1).isLt
      match a with
      | ⟨0, _⟩ => show win0_4.index tl 0 * 1 ≤ (i 0 : Nat) ∧ (i 0 : Nat) < win0_4.index tl 0 * 1 + 1; rw [(idx_4 tl).1]; omega
      | ⟨1, _⟩ => show win0_4.index tl 1 * 1024 ≤ (i 1 : Nat) ∧ (i 1 : Nat) < win0_4.index tl 1 * 1024 + 1024; rw [(idx_4 tl).2]; omega⟩

omit h0 h1 h2 in
/-- The loss is what the last grid point leaves. -/
theorem final5 : (dats m 0 c).arrAt 5 cfg0.N = (outsAt0 m c tl.val tl.isLt).2.2 :=
  (dats m 0 c).arrAt_eq_of_cover 5 (outsAt0 m c tl.val tl.isLt).2.2 (fun t hf => by
    obtain rfl : t = tl := Fin.ext (by have := (flush0_5 t).mp hf; have := t_lt t; show t.val = 7; omega)
    rw [flushed5]
    have hz' : (fun a => win0_5.index tl a * main_v1_2.ty.shape.size a) = fun _ => 0 := funext fun a => by
      match a with
      | ⟨0, _⟩ => show win0_5.index tl 0 * 1 = 0; rw [(idx_5 tl).1]
      | ⟨1, _⟩ => show win0_5.index tl 1 * 1 = 0; rw [(idx_5 tl).2]
    exact (Memref.read_access_unit_zero (Elt Ideal) main_v1_2 hz' (fun a => by rw [congrFun hz' a]; simp) (outsAt0 m c tl.val tl.isLt).2.2).symm) fun i =>
    ⟨tl, (flush0_5 tl).mpr rfl, by
      show i ∈ ((View.whole main_v1_2).slice (win0_5.rect tl)).set
      rw [View.set_slice_whole, Rect.mem_set_unit]
      intro a
      have h0 : (i 0 : Nat) < 1 := (i 0).isLt
      have h1 : (i 1 : Nat) < 1 := (i 1).isLt
      match a with
      | ⟨0, _⟩ => show win0_5.index tl 0 * 1 ≤ (i 0 : Nat) ∧ (i 0 : Nat) < win0_5.index tl 0 * 1 + 1; rw [(idx_5 tl).1]; omega
      | ⟨1, _⟩ => show win0_5.index tl 1 * 1 ≤ (i 1 : Nat) ∧ (i 1 : Nat) < win0_5.index tl 1 * 1 + 1; rw [(idx_5 tl).2]; omega⟩

/-- The gradient to the gain: the sum over all tokens. -/
theorem final4_apply (q : Fin 1024) :
    ((dats m 0 c).arrAt 4 cfg0.N : Vec Ideal S1x1024 .f32) (ix2 (0 : Fin 1) q) = ∑ i, toGain (gradAt a0 a1 a2 i) (fun y => (a0 (ix2 i y) : EReal)) q := by
  rw [final4]
  exact (gain_left m c a0 a1 a2 h0 h1 h2 q tl.val tl.isLt).trans (sum_atPos _)

/-- The loss: the sum over all tokens. -/
theorem final5_apply : ((dats m 0 c).arrAt 5 cfg0.N : Vec Ideal S1x1 .f32) (ix2 (0 : Fin 1) (0 : Fin 1)) = ∑ i, lossAt a0 a1 a2 i := by
  rw [final5]
  exact (loss_left m c a0 a1 a2 h0 h1 h2 tl.val tl.isLt).trans (sum_atPos _)

end

end Cert.Kernel23Ideal.Body

namespace Cert.Reference23Ideal.Read
open Cert.Reference23Ideal Cert.Reference23Ideal.Gen Cert.Reference23Ideal.Value Idealize.ShloMosaic Idealize.ShloMosaic.TcCoe Idealize.SL.Sem
open Cert.Norm Cert.Row
open Cert.Kernel23Ideal.Body (off grad loss gradAt lossAt half_twice half_sum)

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2.2.2, sem_eq_zero_of_no_sems (by decide) r.2⟩) (run m ρ)

section
variable (a0 : FVec Ideal S4096x1024 .f32) (a1 : FVec Ideal S1024 .f32) (a2 : FVec Ideal S4096x1024 .f32)

/-- What stands under the root. -/
def ms : FVec Ideal S4096x1 .f32 := (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))

theorem ms_apply (i : Fin 4096) : (ms a0 (ix2 i (0 : Fin 1)) : EReal) = under (fun y => (a0 (ix2 i y) : EReal)) := by
  unfold under
  pointwise [ms]

/-- How far the norm lies from the target. -/
def dist : FVec Ideal S4096x1024 .f32 := (subf (mulf (mulf a0 (broadcastInDim S4096x1024 ![0, 1] bcast_S4096x1_S4096x1024_0_1 (Host.rsqrt (ms a0)))) (broadcastInDim S4096x1024 ![0, 1] bcast_S1x1024_S4096x1024_0_1 (broadcastInDim S1x1024 ![1] bcast_S1024_S1x1024_1 a1))) a2)

theorem dist_apply (i : Fin 4096) (y : Fin 1024) : (dist a0 a1 a2 (ix2 i y) : EReal)
    = off (fun y => (a0 (ix2 i y) : EReal)) (fun y => (a1 (ix1 y) : EReal)) (fun y => (a2 (ix2 i y) : EReal)) y := by
  unfold off normed
  rw [← ms_apply]
  pointwise [dist]

/-- The gradient to the norm's output. -/
def dh : FVec Ideal S4096x1024 .f32 := (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (dist a0 a1 a2)))

theorem dh_apply (i : Fin 4096) (y : Fin 1024) : (dh a0 a1 a2 (ix2 i y) : EReal) = gradAt a0 a1 a2 i y := by
  unfold gradAt grad
  rw [← half_twice, ← dist_apply]
  pointwise [dh]

/-- The mean's part of the derivative, half of it. -/
def mean : FVec Ideal S4096 .f32 := (Host.reduceAdd (Host.divf (mulf (shapeCast _ (Host.reduceAdd (mulf a0 (mulf (dh a0 a1 a2) (broadcastInDim S4096x1024 ![0, 1] bcast_S1x1024_S4096x1024_0_1 (broadcastInDim S1x1024 ![1] bcast_S1024_S1x1024_1 a1)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (ms a0)) (ms a0)))) (broadcastInDim S4096x1 ![] bcast_S_S4096x1 (constant S_ .f32 0x44800000#32))) (constant S_ .f32 0x00000000#32) reducesTo_S4096x1_S4096_d1 h_S_)

theorem mean_apply (i : Fin 4096) : (mean a0 a1 a2 (ix1 i) : EReal)
    = Ideal.div ((∑ y, (a0 (ix2 i y) : EReal) * ((dh a0 a1 a2 (ix2 i y) : EReal) * (a1 (ix1 y) : EReal)))
        * (Ideal.ofBits FTy.f32 3204448256#32 * Ideal.div (Ideal.rsqrt (ms a0 (ix2 i (0 : Fin 1)))) (ms a0 (ix2 i (0 : Fin 1))))) (Ideal.ofBits FTy.f32 1149239296#32) := by
  pointwise [mean]
  exact Fin.sum_univ_one _

def toIn : FVec Ideal S4096x1024 .f32 := addf (addf (mulf (mulf (dh a0 a1 a2) (broadcastInDim S4096x1024 ![0, 1] bcast_S1x1024_S4096x1024_0_1 (broadcastInDim S1x1024 ![1] bcast_S1024_S1x1024_1 a1))) (broadcastInDim S4096x1024 ![0, 1] bcast_S4096x1_S4096x1024_0_1 (Host.rsqrt (ms a0)))) (mulf a0 (broadcastInDim S4096x1024 ![0] bcast_S4096_S4096x1024_0 (mean a0 a1 a2)))) (mulf (broadcastInDim S4096x1024 ![0] bcast_S4096_S4096x1024_0 (mean a0 a1 a2)) a0)

theorem toIn_apply (i : Fin 4096) (j : Fin 1024) : (toIn a0 a1 a2 (ix2 i j) : EReal)
    = toInput (fun _ => 0) (gradAt a0 a1 a2 i) (fun y => (a0 (ix2 i y) : EReal)) (fun y => (a1 (ix1 y) : EReal)) j := by
  refine Eq.trans (b := (((dh a0 a1 a2 (ix2 i j) : EReal) * (a1 (ix1 j) : EReal)) * Ideal.rsqrt (ms a0 (ix2 i (0 : Fin 1)))
      + (a0 (ix2 i j) : EReal) * (mean a0 a1 a2 (ix1 i) : EReal)) + (mean a0 a1 a2 (ix1 i) : EReal) * (a0 (ix2 i j) : EReal)) (by pointwise [toIn]) ?_
  rw [mean_apply, ms_apply, show gradAt a0 a1 a2 i = fun y => (dh a0 a1 a2 (ix2 i y) : EReal) from funext fun y => (dh_apply a0 a1 a2 i y).symm,
    ← zero_add (((dh a0 a1 a2 (ix2 i j) : EReal) * (a1 (ix1 j) : EReal)) * Ideal.rsqrt (under fun y => (a0 (ix2 i y) : EReal)))]
  exact byRule_eq (fun _ => 0) (fun y => (dh a0 a1 a2 (ix2 i y) : EReal)) (fun y => (a0 (ix2 i y) : EReal)) (fun y => (a1 (ix1 y) : EReal)) j

def toG : FVec Ideal S1x1024 .f32 := shapeCast _ (Host.reduceAdd (shapeCast _ (Host.reduceAdd (mulf (mulf a0 (broadcastInDim S4096x1024 ![0, 1] bcast_S4096x1_S4096x1024_0_1 (Host.rsqrt (ms a0)))) (dh a0 a1 a2)) (constant S_ .f32 0x00000000#32) reducesTo_S4096x1024_S1024_d0 h_S_) shapeCasts_S1024_S1x1024) (constant S_ .f32 0x00000000#32) reducesTo_S1x1024_S1024_d0 h_S_) shapeCasts_S1024_S1x1024

theorem toG_apply (q : Fin 1024) : (toG a0 a1 a2 (ix2 (0 : Fin 1) q) : EReal) = ∑ i, toGain (gradAt a0 a1 a2 i) (fun y => (a0 (ix2 i y) : EReal)) q := by
  refine Eq.trans (b := ∑ i : Fin 4096, ((a0 (ix2 i q) : EReal) * Ideal.rsqrt (ms a0 (ix2 i (0 : Fin 1)))) * (dh a0 a1 a2 (ix2 i q) : EReal)) (by
    pointwise [toG]
    exact Fin.sum_univ_one _) ?_
  refine Finset.sum_congr rfl fun i _ => ?_
  rw [ms_apply, dh_apply]
  dsimp only [toGain]
  ac_rfl

def toL : FVec Ideal S1x1 .f32 := shapeCast _ (mulf (constant S_ .f32 0x3F000000#32) (Host.reduceAdd (Host.divf (Host.reduceAdd (mulf (dist a0 a1 a2) (dist a0 a1 a2)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) shapeCasts_S_S1x1

theorem toL_apply : (toL a0 a1 a2 (ix2 (0 : Fin 1) (0 : Fin 1)) : EReal) = ∑ i, lossAt a0 a1 a2 i := by
  unfold lossAt
  rw [← half_sum (fun i y => (a0 (ix2 i y) : EReal)) (fun i y => (a2 (ix2 i y) : EReal)) (fun y => (a1 (ix1 y) : EReal))]
  simp only [← dist_apply]
  pointwise [toL]

end

end Cert.Reference23Ideal.Read

namespace Cert.Kernel23Ideal.Body
open Idealize.ShloMosaic Idealize.ShloMosaic.TcCoe Idealize.SL.Sem

theorem algebraic : Cert.algebraic_Kernel23Ideal_Reference23Ideal := by
  intro m g m' g' hpre hag
  refine ⟨fun c => (Cert.Kernel23Ideal.Gen.dats m 0 c).arrAt 3 Cert.Kernel23Ideal.cfg0.N, fun c => (Cert.Kernel23Ideal.Gen.dats m 0 c).arrAt 4 Cert.Kernel23Ideal.cfg0.N,
    fun c => (Cert.Kernel23Ideal.Gen.dats m 0 c).arrAt 5 Cert.Kernel23Ideal.cfg0.N, Cert.Kernel23Ideal.Value.run_blocks m g, ?_⟩
  refine (θ_run Cert.Reference23Ideal.defs _ _).mono (fun r h c => ?_) (Cert.Reference23Ideal.Value.run m' g')
  obtain ⟨h0, h1, h2, ha⟩ := h c
  obtain ⟨e0, e1, e2⟩ := hag c
  refine ⟨h0.trans (funext fun i => ?_), h1.trans (funext fun i => ?_), h2.trans (funext fun i => ?_), ha⟩
  · unfold Cert.Reference23Ideal.Value.res_main_v50
    rw [e0, e1, e2, eq_ix2 i]
    exact (Cert.Reference23Ideal.Read.toIn_apply _ _ _ _ _).trans (final3 m c _ _ _ rfl rfl rfl _ _).symm
  · rw [e0, e1, e2, eq_ix2 i, show i 0 = (0 : Fin 1) from Subsingleton.elim (α := Fin 1) _ _]
    exact (Cert.Reference23Ideal.Read.toG_apply _ _ _ _).trans (final4_apply m c _ _ _ rfl rfl rfl _).symm
  · rw [e0, e1, e2, eq_ix2 i, show i 0 = (0 : Fin 1) from Subsingleton.elim (α := Fin 1) _ _, show i 1 = (0 : Fin 1) from Subsingleton.elim (α := Fin 1) _ _]
    exact (Cert.Reference23Ideal.Read.toL_apply _ _ _).trans (final5_apply m c _ _ _ rfl rfl rfl).symm

end Cert.Kernel23Ideal.Body
end
-- ==== Proof.ElEmbNorm.lean ====
module

public import proofs.«01_k».proof.Defs
public import proofs.«01_k».proof.Proof.Gen.Kernel24Ideal.Value
public import proofs.«01_k».proof.Proof.Gen.Reference24Ideal.Run
public import proofs.«01_k».proof.Proof.ElMath
public import Idealize.ShloMosaic.Lib.StableHlo.ReadAt
public import Idealize.ShloMosaic.Lib.Pointwise
public import Idealize.ShloMosaic.Lib.Quiescent
public import Idealize.ShloMosaic.PureOps.Ideal.Laws

/-! The embedding's gate and the norm of its result. -/

@[expose] public section
set_option maxRecDepth 16384
noncomputable section

namespace Cert.Kernel24Ideal.Body
open Cert.Kernel24Ideal Cert.Kernel24Ideal.Gen Idealize.ShloMosaic Idealize.ShloMosaic.TcCoe Idealize.SL.Sem
open Cert.Kernel24Ideal.Value
open Cert.Row
variable (m : (ℓ : Loc nD τ sig) → Buf (Elt Ideal) ℓ)

theorem hz : (![0, 0] : Fin 2 → Nat) = fun _ => 0 := funext fun a => by fin_cases a <;> rfl

theorem blend_apply (x0 x1 x2 : Vec Ideal S512x1024 .f32) (p : Fin 512) (q : Fin 1024) :
    (k0_pay1 x0 x1 x2 (ix2 p q) : EReal) = (x0 (ix2 p q) : EReal) + (x1 (ix2 p q) : EReal) * gate (x2 (ix2 p q)) := by
  rw [← gate_sub]
  pointwise [k0_pay1]

/-- An element of the block that a point writes in window 4. -/
theorem point4 (x0 : Vec Ideal S512x1024 .f32) (x1 : Vec Ideal S512x1024 .f32) (x2 : Vec Ideal S512x1024 .f32) (x3 : Vec Ideal S1x1024 .f32) (p : Fin 512) (q : Fin 1024) :
    (out0_4 x0 x1 x2 x3 (ix2 p q) : EReal) = (x0 (ix2 p q) : EReal) + (x1 (ix2 p q) : EReal) * gate (x2 (ix2 p q) : EReal) := by
  unfold out0_4
  rw [View.canon_unit_zero hz]
  simp only [View.ld_unit_zero (S := S512x1024) hz, View.ld_unit_zero (S := S1x1024) hz]
  exact blend_apply x0 x1 x2 p q
/-- An element of the block that a point writes in window 5. -/
theorem point5 (x0 : Vec Ideal S512x1024 .f32) (x1 : Vec Ideal S512x1024 .f32) (x2 : Vec Ideal S512x1024 .f32) (x3 : Vec Ideal S1x1024 .f32) (p : Fin 512) (q : Fin 1024) :
    (out0_5 x0 x1 x2 x3 (ix2 p q) : EReal) = normed (fun y => (x0 (ix2 p y) : EReal) + (x1 (ix2 p y) : EReal) * gate (x2 (ix2 p y) : EReal)) (fun y => (x3 (ix2 (0 : Fin 1) y) : EReal)) q := by
  unfold out0_5
  rw [View.canon_unit_zero hz]
  simp only [View.ld_unit_zero (S := S512x1024) hz, View.ld_unit_zero (S := S1x1024) hz]
  unfold normed Cert.Norm.under
  pointwise [k0_pay2]
  simp only [blend_apply]
theorem idx_0 : ∀ t : Fin cfg0.N, win0_0.index t 0 = t.val ∧ win0_0.index t 1 = 0 := by decide +kernel
theorem idx_1 : ∀ t : Fin cfg0.N, win0_1.index t 0 = t.val ∧ win0_1.index t 1 = 0 := by decide +kernel
theorem idx_2 : ∀ t : Fin cfg0.N, win0_2.index t 0 = t.val ∧ win0_2.index t 1 = 0 := by decide +kernel
theorem idx_3 : ∀ t : Fin cfg0.N, win0_3.index t 0 = 0 ∧ win0_3.index t 1 = 0 := by decide +kernel
theorem idx_4 : ∀ t : Fin cfg0.N, win0_4.index t 0 = t.val ∧ win0_4.index t 1 = 0 := by decide +kernel
theorem idx_5 : ∀ t : Fin cfg0.N, win0_5.index t 0 = t.val ∧ win0_5.index t 1 = 0 := by decide +kernel
theorem t_lt (t : Fin cfg0.N) : t.val < 8 := by have := t.isLt; have hN : cfg0.N = 8 := N_0; omega

/-- Window 0's block at point `t`, read from the argument. -/
theorem blk0 (c : Dev nD) (a : FVec Ideal S4096x1024 .f32) (h : m ((c : Thread nD τ).loc main_arg0) = a) (t : Fin cfg0.N) (x : Fin 512) (y : Fin 1024) (x1 : Fin 4096) (hx1 : x1.val = 512 * (t.val) + x.val) :
    ((iblk m c 0 t : Vec Ideal S512x1024 .f32) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 512 + 1 * x.val = x1.val; rw [(idx_0 t).1]; omega
  | ⟨1, _⟩ => show win0_0.index t 1 * 1024 + 1 * y.val = y.val; rw [(idx_0 t).2]; omega

/-- Window 1's block at point `t`, read from the argument. -/
theorem blk1 (c : Dev nD) (a : FVec Ideal S4096x1024 .f32) (h : m ((c : Thread nD τ).loc main_arg1) = a) (t : Fin cfg0.N) (x : Fin 512) (y : Fin 1024) (x1 : Fin 4096) (hx1 : x1.val = 512 * (t.val) + x.val) :
    ((iblk m c 1 t : Vec Ideal S512x1024 .f32) (ix2 x y) : EReal) = a (ix2 x1 y) := by
  refine Eq.trans ?_ (congrFun h _)
  rw [← V_main_arg1 m c]
  unfold iblk
  rw [View.read_apply]
  refine congrArg (V m c main_arg1) (funext fun a => Fin.ext ?_)
  match a with
  | ⟨0, _⟩ => show win0_1.index t 0 * 512 + 1 * x.val = x1.val; rw [(idx_1 t).1]; omega
  | ⟨1, _⟩ => show win0_1.index t 1 * 1024 + 1 * y.val = y.val; rw [(idx_1 t).2]; omega

/-- Window 2's block at point `t`, read from the argument. -/
theorem blk2 (c : Dev nD) (a : FVec Ideal S4096x1024 .f32) (h : m ((c : Thread nD τ).loc main_arg2) = a) (t : Fin cfg0.N) (x : Fin 512) (y : Fin 1024) (x1 : Fin 4096) (hx1 : x1.val = 512 * (t.val) + x.val) :
    ((iblk m c 2 t : Vec Ideal S512x1024 .f32) (ix2 x y) : EReal) = a (ix2 x1 y) := by
  refine Eq.trans ?_ (congrFun h _)
  rw [← V_main_arg2 m c]
  unfold iblk
  rw [View.read_apply]
  refine congrArg (V m c main_arg2) (funext fun a => Fin.ext ?_)
  match a with
  | ⟨0, _⟩ => show win0_2.index t 0 * 512 + 1 * x.val = x1.val; rw [(idx_2 t).1]; omega
  | ⟨1, _⟩ => show win0_2.index t 1 * 1024 + 1 * y.val = y.val; rw [(idx_2 t).2]; omega

/-- The gain's row at point `t`. -/
theorem blk3 (c : Dev nD) (a : FVec Ideal S1024 .f32) (h : m ((c : Thread nD τ).loc main_arg3) = a) (t : Fin cfg0.N) (y : Fin 1024) :
    ((iblk m c 3 t : Vec Ideal S1x1024 .f32) (ix2 (0 : Fin 1) y) : EReal) = a (ix1 y) := by
  refine Eq.trans (b := ((V m c main_v0 : Vec Ideal S1x1024 .f32) (ix2 (0 : Fin 1) y) : EReal)) ?_ (Eq.trans ?_ (congrFun h _))
  · unfold iblk
    rw [View.read_apply]
    refine congrArg (V m c main_v0) (funext fun a => Fin.ext ?_)
    match a with
    | ⟨0, _⟩ => show win0_3.index t 0 * 1 + 1 * 0 = 0; rw [(idx_3 t).1]
    | ⟨1, _⟩ => show win0_3.index t 1 * 1024 + 1 * y.val = y.val; rw [(idx_3 t).2]; omega
  · unfold V
    after_reads_at

theorem final4 (c : Dev nD) (a0 : FVec Ideal S4096x1024 .f32) (a1 : FVec Ideal S4096x1024 .f32) (a2 : FVec Ideal S4096x1024 .f32) (a3 : FVec Ideal S1024 .f32) (h0 : m ((c : Thread nD τ).loc main_arg0) = a0) (h1 : m ((c : Thread nD τ).loc main_arg1) = a1) (h2 : m ((c : Thread nD τ).loc main_arg2) = a2) (h3 : m ((c : Thread nD τ).loc main_arg3) = a3) (i : Fin 4096) (j : Fin 1024) :
    ((dats m 0 c).arrAt 4 cfg0.N : Vec Ideal S4096x1024 .f32) (ix2 i j)
      = (a0 (ix2 i j) : EReal) + (a1 (ix2 i j) : EReal) * gate (a2 (ix2 i j) : EReal) := by
  have hN : cfg0.N = 8 := N_0
  let t : Fin cfg0.N := ⟨i.val / 512, by omega⟩
  have hi : i.val = 512 * t.val + (⟨i.val % 512, by omega⟩ : Fin 512).val := by simp only [t]; omega
  have hb := blocks4 m c t (flush0_4 t)
  rw [flushed4] at hb
  have hb1 := congrFun hb (ix2 (⟨i.val % 512, by omega⟩ : Fin 512) j)
  have e : ((cfg0.win 4).blk t).view.emb (ix2 (⟨i.val % 512, by omega⟩ : Fin 512) j) = (ix2 i j : S4096x1024.Idx) := funext fun a => Fin.ext (by
    match a with
    | ⟨0, _⟩ => show win0_4.index t 0 * 512 + 1 * (i.val % 512) = i.val; rw [(idx_4 t).1]; simp only [t]; omega
    | ⟨1, _⟩ => show win0_4.index t 1 * 1024 + 1 * j.val = j.val; rw [(idx_4 t).2]; omega)
  rw [View.read_apply, e] at hb1
  refine hb1.trans ((point4 (iblk m c 0 t) (iblk m c 1 t) (iblk m c 2 t) (iblk m c 3 t) ⟨i.val % 512, by omega⟩ j).trans ?_)
  simp only [(fun y => blk0 m c a0 h0 t (⟨i.val % 512, by omega⟩ : Fin 512) y i hi : ∀ y : Fin 1024, ((iblk m c 0 t : Vec Ideal S512x1024 .f32) (ix2 (⟨i.val % 512, by omega⟩ : Fin 512) y) : EReal) = a0 (ix2 i y)), (fun y => blk1 m c a1 h1 t (⟨i.val % 512, by omega⟩ : Fin 512) y i hi : ∀ y : Fin 1024, ((iblk m c 1 t : Vec Ideal S512x1024 .f32) (ix2 (⟨i.val % 512, by omega⟩ : Fin 512) y) : EReal) = a1 (ix2 i y)), (fun y => blk2 m c a2 h2 t (⟨i.val % 512, by omega⟩ : Fin 512) y i hi : ∀ y : Fin 1024, ((iblk m c 2 t : Vec Ideal S512x1024 .f32) (ix2 (⟨i.val % 512, by omega⟩ : Fin 512) y) : EReal) = a2 (ix2 i y))]

theorem final5 (c : Dev nD) (a0 : FVec Ideal S4096x1024 .f32) (a1 : FVec Ideal S4096x1024 .f32) (a2 : FVec Ideal S4096x1024 .f32) (a3 : FVec Ideal S1024 .f32) (h0 : m ((c : Thread nD τ).loc main_arg0) = a0) (h1 : m ((c : Thread nD τ).loc main_arg1) = a1) (h2 : m ((c : Thread nD τ).loc main_arg2) = a2) (h3 : m ((c : Thread nD τ).loc main_arg3) = a3) (i : Fin 4096) (j : Fin 1024) :
    ((dats m 0 c).arrAt 5 cfg0.N : Vec Ideal S4096x1024 .bf16) (ix2 i j)
      = normed (fun y => (a0 (ix2 i y) : EReal) + (a1 (ix2 i y) : EReal) * gate (a2 (ix2 i y) : EReal)) (fun y => (a3 (ix1 y) : EReal)) j := by
  have hN : cfg0.N = 8 := N_0
  let t : Fin cfg0.N := ⟨i.val / 512, by omega⟩
  have hi : i.val = 512 * t.val + (⟨i.val % 512, by omega⟩ : Fin 512).val := by simp only [t]; omega
  have hb := blocks5 m c t (flush0_5 t)
  rw [flushed5] at hb
  have hb1 := congrFun hb (ix2 (⟨i.val % 512, by omega⟩ : Fin 512) j)
  have e : ((cfg0.win 5).blk t).view.emb (ix2 (⟨i.val % 512, by omega⟩ : Fin 512) j) = (ix2 i j : S4096x1024.Idx) := funext fun a => Fin.ext (by
    match a with
    | ⟨0, _⟩ => show win0_5.index t 0 * 512 + 1 * (i.val % 512) = i.val; rw [(idx_5 t).1]; simp only [t]; omega
    | ⟨1, _⟩ => show win0_5.index t 1 * 1024 + 1 * j.val = j.val; rw [(idx_5 t).2]; omega)
  rw [View.read_apply, e] at hb1
  refine hb1.trans ((point5 (iblk m c 0 t) (iblk m c 1 t) (iblk m c 2 t) (iblk m c 3 t) ⟨i.val % 512, by omega⟩ j).trans ?_)
  simp only [(fun y => blk0 m c a0 h0 t (⟨i.val % 512, by omega⟩ : Fin 512) y i hi : ∀ y : Fin 1024, ((iblk m c 0 t : Vec Ideal S512x1024 .f32) (ix2 (⟨i.val % 512, by omega⟩ : Fin 512) y) : EReal) = a0 (ix2 i y)), (fun y => blk1 m c a1 h1 t (⟨i.val % 512, by omega⟩ : Fin 512) y i hi : ∀ y : Fin 1024, ((iblk m c 1 t : Vec Ideal S512x1024 .f32) (ix2 (⟨i.val % 512, by omega⟩ : Fin 512) y) : EReal) = a1 (ix2 i y)), (fun y => blk2 m c a2 h2 t (⟨i.val % 512, by omega⟩ : Fin 512) y i hi : ∀ y : Fin 1024, ((iblk m c 2 t : Vec Ideal S512x1024 .f32) (ix2 (⟨i.val % 512, by omega⟩ : Fin 512) y) : EReal) = a2 (ix2 i y)), (fun y => blk3 m c a3 h3 t y : ∀ y : Fin 1024, ((iblk m c 3 t : Vec Ideal S1x1024 .f32) (ix2 (0 : Fin 1) y) : EReal) = a3 (ix1 y))]

end Cert.Kernel24Ideal.Body

namespace Cert.Reference24Ideal.Read
open Cert.Reference24Ideal Cert.Reference24Ideal.Gen Cert.Reference24Ideal.Value Idealize.ShloMosaic Idealize.ShloMosaic.TcCoe Idealize.SL.Sem
open Cert.Row

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2.2, sem_eq_zero_of_no_sems (by decide) r.2⟩) (run m ρ)

def sig (a2 : FVec Ideal S4096x1024 .f32) : FVec Ideal S4096x1024 .f32 := Host.divf (broadcastInDim S4096x1024 ![] bcast_S_S4096x1024 (constant S_ .f32 0x3F800000#32)) (addf (broadcastInDim S4096x1024 ![] bcast_S_S4096x1024 (constant S_ .f32 0x3F800000#32)) (Host.exp (Host.negf a2)))

theorem sig_apply (a2 : FVec Ideal S4096x1024 .f32) (i : Fin 4096) (j : Fin 1024) : (sig a2 (ix2 i j) : EReal) = gate (a2 (ix2 i j)) := by
  unfold gate
  pointwise [sig]

def blend (a0 a1 a2 : FVec Ideal S4096x1024 .f32) : FVec Ideal S4096x1024 .f32 := addf a0 (mulf a1 (sig a2))

theorem blend_apply (a0 a1 a2 : FVec Ideal S4096x1024 .f32) (i : Fin 4096) (j : Fin 1024) :
    (blend a0 a1 a2 (ix2 i j) : EReal) = (a0 (ix2 i j) : EReal) + (a1 (ix2 i j) : EReal) * gate (a2 (ix2 i j)) := by
  refine Eq.trans (b := (a0 (ix2 i j) : EReal) + (a1 (ix2 i j) : EReal) * (sig a2 (ix2 i j) : EReal)) (by pointwise [blend]) ?_
  rw [sig_apply]

def result4 (a0 : FVec Ideal S4096x1024 .f32) (a1 : FVec Ideal S4096x1024 .f32) (a2 : FVec Ideal S4096x1024 .f32) (a3 : FVec Ideal S1024 .f32) : FVec Ideal S4096x1024 .f32 := blend a0 a1 a2

theorem result4_apply (a0 : FVec Ideal S4096x1024 .f32) (a1 : FVec Ideal S4096x1024 .f32) (a2 : FVec Ideal S4096x1024 .f32) (a3 : FVec Ideal S1024 .f32) (i : Fin 4096) (j : Fin 1024) : (result4 a0 a1 a2 a3 (ix2 i j) : EReal) = (a0 (ix2 i j) : EReal) + (a1 (ix2 i j) : EReal) * gate (a2 (ix2 i j) : EReal) := by
  exact blend_apply a0 a1 a2 i j

def result5 (a0 : FVec Ideal S4096x1024 .f32) (a1 : FVec Ideal S4096x1024 .f32) (a2 : FVec Ideal S4096x1024 .f32) (a3 : FVec Ideal S1024 .f32) : FVec Ideal S4096x1024 .bf16 := truncf (F := Ideal) (φ := .f32) .bf16 (mulf (mulf (blend a0 a1 a2) (broadcastInDim S4096x1024 ![0, 1] bcast_S4096x1_S4096x1024_0_1 (Host.rsqrt (addf (Host.divf (broadcastInDim S4096x1 ![0] bcast_S4096_S4096x1_0 (Host.reduceAdd (mulf (blend a0 a1 a2) (blend a0 a1 a2)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 a3))) bitsLt_bf16_f32

theorem result5_apply (a0 : FVec Ideal S4096x1024 .f32) (a1 : FVec Ideal S4096x1024 .f32) (a2 : FVec Ideal S4096x1024 .f32) (a3 : FVec Ideal S1024 .f32) (i : Fin 4096) (j : Fin 1024) : (result5 a0 a1 a2 a3 (ix2 i j) : EReal) = normed (fun y => (a0 (ix2 i y) : EReal) + (a1 (ix2 i y) : EReal) * gate (a2 (ix2 i y) : EReal)) (fun y => (a3 (ix1 y) : EReal)) j := by
  unfold normed Cert.Norm.under
  simp only [← blend_apply]
  pointwise [result5]

end Cert.Reference24Ideal.Read

namespace Cert.Kernel24Ideal.Body
open Idealize.ShloMosaic Idealize.ShloMosaic.TcCoe Idealize.SL.Sem

theorem algebraic : Cert.algebraic_Kernel24Ideal_Reference24Ideal := by
  intro m g m' g' hpre hag
  refine ⟨fun c => (Cert.Kernel24Ideal.Gen.dats m 0 c).arrAt 4 Cert.Kernel24Ideal.cfg0.N, fun c => (Cert.Kernel24Ideal.Gen.dats m 0 c).arrAt 5 Cert.Kernel24Ideal.cfg0.N, Cert.Kernel24Ideal.Value.run_blocks m g, ?_⟩
  refine (θ_run Cert.Reference24Ideal.defs _ _).mono (fun r h c => ?_) (Cert.Reference24Ideal.Value.run m' g')
  obtain ⟨h0, h1, ha⟩ := h c
  obtain ⟨e0, e1, e2, e3⟩ := hag c
  refine ⟨h0.trans (funext fun i => ?_), h1.trans (funext fun i => ?_), ha⟩
  · rw [e0, e1, e2, eq_ix2 i]
    exact (Cert.Reference24Ideal.Read.result4_apply _ _ _ (m ((c : Thread nD τ).loc Cert.Kernel24Ideal.main_arg3)) _ _).trans (final4 m c _ _ _ _ rfl rfl rfl rfl _ _).symm
  · rw [e0, e1, e2, e3, eq_ix2 i]
    exact (Cert.Reference24Ideal.Read.result5_apply _ _ _ _ _ _).trans (final5 m c _ _ _ _ rfl rfl rfl rfl _ _).symm

end Cert.Kernel24Ideal.Body
end
-- ==== Proof.ElEmbLast.lean ====
module

public import proofs.«01_k».proof.Defs
public import proofs.«01_k».proof.Proof.Gen.Kernel25Ideal.Value
public import proofs.«01_k».proof.Proof.Gen.Reference25Ideal.Run
public import proofs.«01_k».proof.Proof.ElMath
public import Idealize.ShloMosaic.Lib.Pointwise
public import Idealize.ShloMosaic.Lib.Quiescent
public import Idealize.ShloMosaic.PureOps.Ideal.Laws

/-! The embedding's gate in the last layer. -/

@[expose] public section
set_option maxRecDepth 16384
noncomputable section

namespace Cert.Kernel25Ideal.Body
open Cert.Kernel25Ideal Cert.Kernel25Ideal.Gen Idealize.ShloMosaic Idealize.ShloMosaic.TcCoe Idealize.SL.Sem
open Cert.Kernel25Ideal.Value
open Cert.Row
variable (m : (ℓ : Loc nD τ sig) → Buf (Elt Ideal) ℓ)

theorem hz : (![0, 0] : Fin 2 → Nat) = fun _ => 0 := funext fun a => by fin_cases a <;> rfl

/-- An element of the block that a point writes in window 3. -/
theorem point3 (x0 : Vec Ideal S512x1024 .f32) (x1 : Vec Ideal S512x1024 .f32) (x2 : Vec Ideal S512x1024 .f32) (p : Fin 512) (q : Fin 1024) :
    (out0_3 x0 x1 x2 (ix2 p q) : EReal) = (x0 (ix2 p q) : EReal) + (x1 (ix2 p q) : EReal) * gate (x2 (ix2 p q) : EReal) := by
  unfold out0_3
  rw [View.canon_unit_zero hz]
  simp only [View.ld_unit_zero (S := S512x1024) hz]
  rw [← gate_sub]
  pointwise [k0_pay1]
theorem idx_0 : ∀ t : Fin cfg0.N, win0_0.index t 0 = t.val ∧ win0_0.index t 1 = 0 := by decide +kernel
theorem idx_1 : ∀ t : Fin cfg0.N, win0_1.index t 0 = t.val ∧ win0_1.index t 1 = 0 := by decide +kernel
theorem idx_2 : ∀ t : Fin cfg0.N, win0_2.index t 0 = t.val ∧ win0_2.index t 1 = 0 := by decide +kernel
theorem idx_3 : ∀ t : Fin cfg0.N, win0_3.index t 0 = t.val ∧ win0_3.index t 1 = 0 := by decide +kernel
theorem t_lt (t : Fin cfg0.N) : t.val < 8 := by have := t.isLt; have hN : cfg0.N = 8 := N_0; omega

/-- Window 0's block at point `t`, read from the argument. -/
theorem blk0 (c : Dev nD) (a : FVec Ideal S4096x1024 .f32) (h : m ((c : Thread nD τ).loc main_arg0) = a) (t : Fin cfg0.N) (x : Fin 512) (y : Fin 1024) (x1 : Fin 4096) (hx1 : x1.val = 512 * (t.val) + x.val) :
    ((iblk m c 0 t : Vec Ideal S512x1024 .f32) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 512 + 1 * x.val = x1.val; rw [(idx_0 t).1]; omega
  | ⟨1, _⟩ => show win0_0.index t 1 * 1024 + 1 * y.val = y.val; rw [(idx_0 t).2]; omega

/-- Window 1's block at point `t`, read from the argument. -/
theorem blk1 (c : Dev nD) (a : FVec Ideal S4096x1024 .f32) (h : m ((c : Thread nD τ).loc main_arg1) = a) (t : Fin cfg0.N) (x : Fin 512) (y : Fin 1024) (x1 : Fin 4096) (hx1 : x1.val = 512 * (t.val) + x.val) :
    ((iblk m c 1 t : Vec Ideal S512x1024 .f32) (ix2 x y) : EReal) = a (ix2 x1 y) := by
  refine Eq.trans ?_ (congrFun h _)
  rw [← V_main_arg1 m c]
  unfold iblk
  rw [View.read_apply]
  refine congrArg (V m c main_arg1) (funext fun a => Fin.ext ?_)
  match a with
  | ⟨0, _⟩ => show win0_1.index t 0 * 512 + 1 * x.val = x1.val; rw [(idx_1 t).1]; omega
  | ⟨1, _⟩ => show win0_1.index t 1 * 1024 + 1 * y.val = y.val; rw [(idx_1 t).2]; omega

/-- Window 2's block at point `t`, read from the argument. -/
theorem blk2 (c : Dev nD) (a : FVec Ideal S4096x1024 .f32) (h : m ((c : Thread nD τ).loc main_arg2) = a) (t : Fin cfg0.N) (x : Fin 512) (y : Fin 1024) (x1 : Fin 4096) (hx1 : x1.val = 512 * (t.val) + x.val) :
    ((iblk m c 2 t : Vec Ideal S512x1024 .f32) (ix2 x y) : EReal) = a (ix2 x1 y) := by
  refine Eq.trans ?_ (congrFun h _)
  rw [← V_main_arg2 m c]
  unfold iblk
  rw [View.read_apply]
  refine congrArg (V m c main_arg2) (funext fun a => Fin.ext ?_)
  match a with
  | ⟨0, _⟩ => show win0_2.index t 0 * 512 + 1 * x.val = x1.val; rw [(idx_2 t).1]; omega
  | ⟨1, _⟩ => show win0_2.index t 1 * 1024 + 1 * y.val = y.val; rw [(idx_2 t).2]; omega

theorem final3 (c : Dev nD) (a0 : FVec Ideal S4096x1024 .f32) (a1 : FVec Ideal S4096x1024 .f32) (a2 : FVec Ideal S4096x1024 .f32) (h0 : m ((c : Thread nD τ).loc main_arg0) = a0) (h1 : m ((c : Thread nD τ).loc main_arg1) = a1) (h2 : m ((c : Thread nD τ).loc main_arg2) = a2) (i : Fin 4096) (j : Fin 1024) :
    ((dats m 0 c).arrAt 3 cfg0.N : Vec Ideal S4096x1024 .f32) (ix2 i j)
      = (a0 (ix2 i j) : EReal) + (a1 (ix2 i j) : EReal) * gate (a2 (ix2 i j) : EReal) := by
  have hN : cfg0.N = 8 := N_0
  let t : Fin cfg0.N := ⟨i.val / 512, by omega⟩
  have hi : i.val = 512 * t.val + (⟨i.val % 512, by omega⟩ : Fin 512).val := by simp only [t]; omega
  have hb := blocks3 m c t (flush0_3 t)
  rw [flushed3] at hb
  have hb1 := congrFun hb (ix2 (⟨i.val % 512, by omega⟩ : Fin 512) j)
  have e : ((cfg0.win 3).blk t).view.emb (ix2 (⟨i.val % 512, by omega⟩ : Fin 512) j) = (ix2 i j : S4096x1024.Idx) := funext fun a => Fin.ext (by
    match a with
    | ⟨0, _⟩ => show win0_3.index t 0 * 512 + 1 * (i.val % 512) = i.val; rw [(idx_3 t).1]; simp only [t]; omega
    | ⟨1, _⟩ => show win0_3.index t 1 * 1024 + 1 * j.val = j.val; rw [(idx_3 t).2]; omega)
  rw [View.read_apply, e] at hb1
  refine hb1.trans ((point3 (iblk m c 0 t) (iblk m c 1 t) (iblk m c 2 t) ⟨i.val % 512, by omega⟩ j).trans ?_)
  simp only [(fun y => blk0 m c a0 h0 t (⟨i.val % 512, by omega⟩ : Fin 512) y i hi : ∀ y : Fin 1024, ((iblk m c 0 t : Vec Ideal S512x1024 .f32) (ix2 (⟨i.val % 512, by omega⟩ : Fin 512) y) : EReal) = a0 (ix2 i y)), (fun y => blk1 m c a1 h1 t (⟨i.val % 512, by omega⟩ : Fin 512) y i hi : ∀ y : Fin 1024, ((iblk m c 1 t : Vec Ideal S512x1024 .f32) (ix2 (⟨i.val % 512, by omega⟩ : Fin 512) y) : EReal) = a1 (ix2 i y)), (fun y => blk2 m c a2 h2 t (⟨i.val % 512, by omega⟩ : Fin 512) y i hi : ∀ y : Fin 1024, ((iblk m c 2 t : Vec Ideal S512x1024 .f32) (ix2 (⟨i.val % 512, by omega⟩ : Fin 512) y) : EReal) = a2 (ix2 i y))]

end Cert.Kernel25Ideal.Body

namespace Cert.Reference25Ideal.Read
open Cert.Reference25Ideal Cert.Reference25Ideal.Gen Cert.Reference25Ideal.Value Idealize.ShloMosaic Idealize.ShloMosaic.TcCoe Idealize.SL.Sem
open Cert.Row

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run m ρ)

def sig (a2 : FVec Ideal S4096x1024 .f32) : FVec Ideal S4096x1024 .f32 := Host.divf (broadcastInDim S4096x1024 ![] bcast_S_S4096x1024 (constant S_ .f32 0x3F800000#32)) (addf (broadcastInDim S4096x1024 ![] bcast_S_S4096x1024 (constant S_ .f32 0x3F800000#32)) (Host.exp (Host.negf a2)))

theorem sig_apply (a2 : FVec Ideal S4096x1024 .f32) (i : Fin 4096) (j : Fin 1024) : (sig a2 (ix2 i j) : EReal) = gate (a2 (ix2 i j)) := by
  unfold gate
  pointwise [sig]

def result3 (a0 : FVec Ideal S4096x1024 .f32) (a1 : FVec Ideal S4096x1024 .f32) (a2 : FVec Ideal S4096x1024 .f32) : FVec Ideal S4096x1024 .f32 := addf a0 (mulf a1 (sig a2))

theorem result3_apply (a0 : FVec Ideal S4096x1024 .f32) (a1 : FVec Ideal S4096x1024 .f32) (a2 : FVec Ideal S4096x1024 .f32) (i : Fin 4096) (j : Fin 1024) : (result3 a0 a1 a2 (ix2 i j) : EReal) = (a0 (ix2 i j) : EReal) + (a1 (ix2 i j) : EReal) * gate (a2 (ix2 i j) : EReal) := by
  rw [← sig_apply]
  pointwise [result3]

end Cert.Reference25Ideal.Read

namespace Cert.Kernel25Ideal.Body
open Idealize.ShloMosaic Idealize.ShloMosaic.TcCoe Idealize.SL.Sem

theorem algebraic : Cert.algebraic_Kernel25Ideal_Reference25Ideal := by
  intro m g m' g' hpre hag
  refine ⟨fun c => (Cert.Kernel25Ideal.Gen.dats m 0 c).arrAt 3 Cert.Kernel25Ideal.cfg0.N, Cert.Kernel25Ideal.Value.run_blocks m g, ?_⟩
  refine (θ_run Cert.Reference25Ideal.defs _ _).mono (fun r h c => ?_) (Cert.Reference25Ideal.Value.run m' g')
  obtain ⟨h0, ha⟩ := h c
  obtain ⟨e0, e1, e2⟩ := hag c
  refine ⟨h0.trans (funext fun i => ?_), ha⟩
  · rw [e0, e1, e2, eq_ix2 i]
    exact (Cert.Reference25Ideal.Read.result3_apply _ _ _ _ _).trans (final3 m c _ _ _ rfl rfl rfl _ _).symm

end Cert.Kernel25Ideal.Body
end
-- ==== Proof.ElFirst.lean ====
module

public import proofs.«01_k».proof.Defs
public import proofs.«01_k».proof.Proof.Gen.Kernel26Ideal.Value
public import proofs.«01_k».proof.Proof.Gen.Reference26Ideal.Run
public import proofs.«01_k».proof.Proof.ElMath
public import Idealize.ShloMosaic.Lib.StableHlo.ReadAt
public import Idealize.ShloMosaic.Lib.Pointwise
public import Idealize.ShloMosaic.Lib.Quiescent
public import Idealize.ShloMosaic.PureOps.Ideal.Laws

/-! The norm of the first layer's input. -/

@[expose] public section
set_option maxRecDepth 16384
noncomputable section

namespace Cert.Kernel26Ideal.Body
open Cert.Kernel26Ideal Cert.Kernel26Ideal.Gen Idealize.ShloMosaic Idealize.ShloMosaic.TcCoe Idealize.SL.Sem
open Cert.Kernel26Ideal.Value
open Cert.Row
variable (m : (ℓ : Loc nD τ sig) → Buf (Elt Ideal) ℓ)

theorem hz : (![0, 0] : Fin 2 → Nat) = fun _ => 0 := funext fun a => by fin_cases a <;> rfl

/-- An element of the block that a point writes in window 2. -/
theorem point2 (x0 : Vec Ideal S512x1024 .f32) (x1 : Vec Ideal S1x1024 .f32) (p : Fin 512) (q : Fin 1024) :
    (out0_2 x0 x1 (ix2 p q) : EReal) = normed (fun y => (x0 (ix2 p y) : EReal)) (fun y => (x1 (ix2 (0 : Fin 1) y) : EReal)) q := by
  unfold out0_2
  rw [View.canon_unit_zero hz]
  simp only [View.ld_unit_zero (S := S512x1024) hz, View.ld_unit_zero (S := S1x1024) hz]
  unfold normed Cert.Norm.under
  pointwise [k0_pay1]
theorem idx_0 : ∀ t : Fin cfg0.N, win0_0.index t 0 = t.val ∧ win0_0.index t 1 = 0 := by decide +kernel
theorem idx_1 : ∀ t : Fin cfg0.N, win0_1.index t 0 = 0 ∧ win0_1.index t 1 = 0 := by decide +kernel
theorem idx_2 : ∀ t : Fin cfg0.N, win0_2.index t 0 = t.val ∧ win0_2.index t 1 = 0 := by decide +kernel
theorem t_lt (t : Fin cfg0.N) : t.val < 8 := by have := t.isLt; have hN : cfg0.N = 8 := N_0; omega

/-- Window 0's block at point `t`, read from the argument. -/
theorem blk0 (c : Dev nD) (a : FVec Ideal S4096x1024 .f32) (h : m ((c : Thread nD τ).loc main_arg0) = a) (t : Fin cfg0.N) (x : Fin 512) (y : Fin 1024) (x1 : Fin 4096) (hx1 : x1.val = 512 * (t.val) + x.val) :
    ((iblk m c 0 t : Vec Ideal S512x1024 .f32) (ix2 x y) : EReal) = a (ix2 x1 y) := by
  refine Eq.trans ?_ (congrFun h _)
  rw [← V_main_arg0 m c]
  unfold iblk
  rw [View.read_apply]
  refine congrArg (V m c main_arg0) (funext fun a => Fin.ext ?_)
  match a with
  | ⟨0, _⟩ => show win0_0.index t 0 * 512 + 1 * x.val = x1.val; rw [(idx_0 t).1]; omega
  | ⟨1, _⟩ => show win0_0.index t 1 * 1024 + 1 * y.val = y.val; rw [(idx_0 t).2]; omega

/-- The gain's row at point `t`. -/
theorem blk1 (c : Dev nD) (a : FVec Ideal S1024 .f32) (h : m ((c : Thread nD τ).loc main_arg1) = a) (t : Fin cfg0.N) (y : Fin 1024) :
    ((iblk m c 1 t : Vec Ideal S1x1024 .f32) (ix2 (0 : Fin 1) y) : EReal) = a (ix1 y) := by
  refine Eq.trans (b := ((V m c main_v0 : Vec Ideal S1x1024 .f32) (ix2 (0 : Fin 1) y) : EReal)) ?_ (Eq.trans ?_ (congrFun h _))
  · unfold iblk
    rw [View.read_apply]
    refine congrArg (V m c main_v0) (funext fun a => Fin.ext ?_)
    match a with
    | ⟨0, _⟩ => show win0_1.index t 0 * 1 + 1 * 0 = 0; rw [(idx_1 t).1]
    | ⟨1, _⟩ => show win0_1.index t 1 * 1024 + 1 * y.val = y.val; rw [(idx_1 t).2]; omega
  · unfold V
    after_reads_at

theorem final2 (c : Dev nD) (a0 : FVec Ideal S4096x1024 .f32) (a1 : FVec Ideal S1024 .f32) (h0 : m ((c : Thread nD τ).loc main_arg0) = a0) (h1 : m ((c : Thread nD τ).loc main_arg1) = a1) (i : Fin 4096) (j : Fin 1024) :
    ((dats m 0 c).arrAt 2 cfg0.N : Vec Ideal S4096x1024 .bf16) (ix2 i j)
      = normed (fun y => (a0 (ix2 i y) : EReal)) (fun y => (a1 (ix1 y) : EReal)) j := by
  have hN : cfg0.N = 8 := N_0
  let t : Fin cfg0.N := ⟨i.val / 512, by omega⟩
  have hi : i.val = 512 * t.val + (⟨i.val % 512, by omega⟩ : Fin 512).val := by simp only [t]; omega
  have hb := blocks2 m c t (flush0_2 t)
  rw [flushed2] at hb
  have hb1 := congrFun hb (ix2 (⟨i.val % 512, by omega⟩ : Fin 512) j)
  have e : ((cfg0.win 2).blk t).view.emb (ix2 (⟨i.val % 512, by omega⟩ : Fin 512) j) = (ix2 i j : S4096x1024.Idx) := funext fun a => Fin.ext (by
    match a with
    | ⟨0, _⟩ => show win0_2.index t 0 * 512 + 1 * (i.val % 512) = i.val; rw [(idx_2 t).1]; simp only [t]; omega
    | ⟨1, _⟩ => show win0_2.index t 1 * 1024 + 1 * j.val = j.val; rw [(idx_2 t).2]; omega)
  rw [View.read_apply, e] at hb1
  refine hb1.trans ((point2 (iblk m c 0 t) (iblk m c 1 t) ⟨i.val % 512, by omega⟩ j).trans ?_)
  simp only [(fun y => blk0 m c a0 h0 t (⟨i.val % 512, by omega⟩ : Fin 512) y i hi : ∀ y : Fin 1024, ((iblk m c 0 t : Vec Ideal S512x1024 .f32) (ix2 (⟨i.val % 512, by omega⟩ : Fin 512) y) : EReal) = a0 (ix2 i y)), (fun y => blk1 m c a1 h1 t y : ∀ y : Fin 1024, ((iblk m c 1 t : Vec Ideal S1x1024 .f32) (ix2 (0 : Fin 1) y) : EReal) = a1 (ix1 y))]

end Cert.Kernel26Ideal.Body

namespace Cert.Reference26Ideal.Read
open Cert.Reference26Ideal Cert.Reference26Ideal.Gen Cert.Reference26Ideal.Value Idealize.ShloMosaic Idealize.ShloMosaic.TcCoe Idealize.SL.Sem
open Cert.Row

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run m ρ)

def result2 (a0 : FVec Ideal S4096x1024 .f32) (a1 : FVec Ideal S1024 .f32) : FVec Ideal S4096x1024 .bf16 := truncf (F := Ideal) (φ := .f32) .bf16 (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 a1))) bitsLt_bf16_f32

theorem result2_apply (a0 : FVec Ideal S4096x1024 .f32) (a1 : FVec Ideal S1024 .f32) (i : Fin 4096) (j : Fin 1024) : (result2 a0 a1 (ix2 i j) : EReal) = normed (fun y => (a0 (ix2 i y) : EReal)) (fun y => (a1 (ix1 y) : EReal)) j := by
  unfold normed Cert.Norm.under
  pointwise [result2]

end Cert.Reference26Ideal.Read

namespace Cert.Kernel26Ideal.Body
open Idealize.ShloMosaic Idealize.ShloMosaic.TcCoe Idealize.SL.Sem

theorem algebraic : Cert.algebraic_Kernel26Ideal_Reference26Ideal := by
  intro m g m' g' hpre hag
  refine ⟨fun c => (Cert.Kernel26Ideal.Gen.dats m 0 c).arrAt 2 Cert.Kernel26Ideal.cfg0.N, Cert.Kernel26Ideal.Value.run_blocks m g, ?_⟩
  refine (θ_run Cert.Reference26Ideal.defs _ _).mono (fun r h c => ?_) (Cert.Reference26Ideal.Value.run m' g')
  obtain ⟨h0, ha⟩ := h c
  obtain ⟨e0, e1⟩ := hag c
  refine ⟨h0.trans (funext fun i => ?_), ha⟩
  · rw [e0, e1, eq_ix2 i]
    exact (Cert.Reference26Ideal.Read.result2_apply _ _ _ _).trans (final2 m c _ _ rfl rfl _ _).symm

end Cert.Kernel26Ideal.Body
end
-- ==== Proof.AdamMath.lean ====
module

public import Idealize.ShloMosaic.PureOps.Ideal.Laws

/-! One AdamW step, entry by entry: both moments and the change of the weight. -/

@[expose] public section
noncomputable section

namespace Cert.Adam
open Idealize.ShloMosaic
variable {s : Shape}

/-- The first moment. -/
def first (g m : FVec Ideal s .f32) : FVec Ideal s .f32 := fun i =>
  FloatOps.addf (FloatOps.mulf (Scalar.ofBits .f32 0x3F666666#32) (m i)) (FloatOps.mulf (Scalar.ofBits .f32 0x3DCCCCCD#32) (g i))

/-- The second moment. -/
def second (g v : FVec Ideal s .f32) : FVec Ideal s .f32 := fun i =>
  FloatOps.addf (FloatOps.mulf (Scalar.ofBits .f32 0x3F7FBE77#32) (v i)) (FloatOps.mulf (Scalar.ofBits .f32 0x3A83126F#32) (FloatOps.mulf (g i) (g i)))

/-- The change of the weight: the corrected first moment over the root of the corrected second one, and the decay. -/
def change (w g m v : FVec Ideal s .f32) : FVec Ideal s .f32 := fun i =>
  FloatOps.mulf (Scalar.ofBits .f32 0xBA83126F#32) (FloatOps.addf (FloatOps.divf (FloatOps.divf (first g m i) (Scalar.ofBits .f32 0x3F26BD02#32))
    (FloatOps.addf (FloatOps.sqrt (FloatOps.divf (second g v i) (Scalar.ofBits .f32 0x3C231ACC#32))) (Scalar.ofBits .f32 0x322BCC77#32)))
    (FloatOps.mulf (Scalar.ofBits .f32 0x3C23D70A#32) (w i)))

end Cert.Adam
end
-- ==== Proof.AdamFlat.lean ====
module

public import proofs.«01_k».proof.Defs
public import proofs.«01_k».proof.Proof.Gen.Kernel27Ideal.Value
public import proofs.«01_k».proof.Proof.Gen.Reference27Ideal.Run
public import proofs.«01_k».proof.Proof.Gen.Kernel28Ideal.Value
public import proofs.«01_k».proof.Proof.Gen.Reference28Ideal.Run
public import proofs.«01_k».proof.Proof.Gen.Kernel29Ideal.Value
public import proofs.«01_k».proof.Proof.Gen.Reference29Ideal.Run
public import proofs.«01_k».proof.Proof.Gen.Kernel30Ideal.Value
public import proofs.«01_k».proof.Proof.Gen.Reference30Ideal.Run
public import proofs.«01_k».proof.Proof.AdamMath
public import Idealize.ShloMosaic.Lib.Quiescent

/-! The optimiser's steps of the weights that are matrices: the layers' norms, the mixers' rows, the MLP's bias and the recurrence's norm. -/

@[expose] public section
set_option maxRecDepth 16384
noncomputable section

namespace Cert.Reference27Ideal.Read
open Cert.Reference27Ideal Idealize.ShloMosaic Idealize.ShloMosaic.TcCoe Idealize.SL.Sem

theorem frame : Cert.quiescent_Reference27Ideal := fun m ρ _ =>
  (θ_run defs _ _).mono (fun r h => ⟨fun c => (h c).2.2.2, sem_eq_zero_of_no_sems (by decide) r.2⟩) (Value.run m ρ)

end Cert.Reference27Ideal.Read

namespace Cert.Kernel27Ideal.Body
open Idealize.ShloMosaic Idealize.ShloMosaic.TcCoe Idealize.SL.Sem Cert.Adam

theorem algebraic : Cert.algebraic_Kernel27Ideal_Reference27Ideal := by
  intro m g m' g' hpre hag
  refine ⟨fun c => change _ _ _ _, fun c => first _ _, fun c => second _ _, Cert.Kernel27Ideal.Value.run m g, ?_⟩
  refine (θ_run Cert.Reference27Ideal.defs _ _).mono (fun r h c => ?_) (Cert.Reference27Ideal.Value.run m' g')
  obtain ⟨h0, h1, h2, ha⟩ := h c
  obtain ⟨e0, e1, e2, e3⟩ := hag c
  rw [e0, e1, e2, e3] at h0
  rw [e1, e2] at h1
  rw [e1, e3] at h2
  exact ⟨h0.trans rfl, h1.trans rfl, h2.trans rfl, ha⟩

end Cert.Kernel27Ideal.Body

namespace Cert.Reference28Ideal.Read
open Cert.Reference28Ideal Idealize.ShloMosaic Idealize.ShloMosaic.TcCoe Idealize.SL.Sem

theorem frame : Cert.quiescent_Reference28Ideal := fun m ρ _ =>
  (θ_run defs _ _).mono (fun r h => ⟨fun c => (h c).2.2.2, sem_eq_zero_of_no_sems (by decide) r.2⟩) (Value.run m ρ)

end Cert.Reference28Ideal.Read

namespace Cert.Kernel28Ideal.Body
open Idealize.ShloMosaic Idealize.ShloMosaic.TcCoe Idealize.SL.Sem Cert.Adam

theorem algebraic : Cert.algebraic_Kernel28Ideal_Reference28Ideal := by
  intro m g m' g' hpre hag
  refine ⟨fun c => change _ _ _ _, fun c => first _ _, fun c => second _ _, Cert.Kernel28Ideal.Value.run m g, ?_⟩
  refine (θ_run Cert.Reference28Ideal.defs _ _).mono (fun r h c => ?_) (Cert.Reference28Ideal.Value.run m' g')
  obtain ⟨h0, h1, h2, ha⟩ := h c
  obtain ⟨e0, e1, e2, e3⟩ := hag c
  rw [e0, e1, e2, e3] at h0
  rw [e1, e2] at h1
  rw [e1, e3] at h2
  exact ⟨h0.trans rfl, h1.trans rfl, h2.trans rfl, ha⟩

end Cert.Kernel28Ideal.Body

namespace Cert.Reference29Ideal.Read
open Cert.Reference29Ideal Idealize.ShloMosaic Idealize.ShloMosaic.TcCoe Idealize.SL.Sem

theorem frame : Cert.quiescent_Reference29Ideal := fun m ρ _ =>
  (θ_run defs _ _).mono (fun r h => ⟨fun c => (h c).2.2.2, sem_eq_zero_of_no_sems (by decide) r.2⟩) (Value.run m ρ)

end Cert.Reference29Ideal.Read

namespace Cert.Kernel29Ideal.Body
open Idealize.ShloMosaic Idealize.ShloMosaic.TcCoe Idealize.SL.Sem Cert.Adam

theorem algebraic : Cert.algebraic_Kernel29Ideal_Reference29Ideal := by
  intro m g m' g' hpre hag
  refine ⟨fun c => change _ _ _ _, fun c => first _ _, fun c => second _ _, Cert.Kernel29Ideal.Value.run m g, ?_⟩
  refine (θ_run Cert.Reference29Ideal.defs _ _).mono (fun r h c => ?_) (Cert.Reference29Ideal.Value.run m' g')
  obtain ⟨h0, h1, h2, ha⟩ := h c
  obtain ⟨e0, e1, e2, e3⟩ := hag c
  rw [e0, e1, e2, e3] at h0
  rw [e1, e2] at h1
  rw [e1, e3] at h2
  exact ⟨h0.trans rfl, h1.trans rfl, h2.trans rfl, ha⟩

end Cert.Kernel29Ideal.Body

namespace Cert.Reference30Ideal.Read
open Cert.Reference30Ideal Idealize.ShloMosaic Idealize.ShloMosaic.TcCoe Idealize.SL.Sem

theorem frame : Cert.quiescent_Reference30Ideal := fun m ρ _ =>
  (θ_run defs _ _).mono (fun r h => ⟨fun c => (h c).2.2.2, sem_eq_zero_of_no_sems (by decide) r.2⟩) (Value.run m ρ)

end Cert.Reference30Ideal.Read

namespace Cert.Kernel30Ideal.Body
open Idealize.ShloMosaic Idealize.ShloMosaic.TcCoe Idealize.SL.Sem Cert.Adam

theorem algebraic : Cert.algebraic_Kernel30Ideal_Reference30Ideal := by
  intro m g m' g' hpre hag
  refine ⟨fun c => change _ _ _ _, fun c => first _ _, fun c => second _ _, Cert.Kernel30Ideal.Value.run m g, ?_⟩
  refine (θ_run Cert.Reference30Ideal.defs _ _).mono (fun r h c => ?_) (Cert.Reference30Ideal.Value.run m' g')
  obtain ⟨h0, h1, h2, ha⟩ := h c
  obtain ⟨e0, e1, e2, e3⟩ := hag c
  rw [e0, e1, e2, e3] at h0
  rw [e1, e2] at h1
  rw [e1, e3] at h2
  exact ⟨h0.trans rfl, h1.trans rfl, h2.trans rfl, ha⟩

end Cert.Kernel30Ideal.Body

end
-- ==== Proof.AdamRows.lean ====
module

public import proofs.«01_k».proof.Defs
public import proofs.«01_k».proof.Proof.Gen.Kernel31Ideal.Value
public import proofs.«01_k».proof.Proof.Gen.Reference31Ideal.Run
public import proofs.«01_k».proof.Proof.Gen.Kernel32Ideal.Value
public import proofs.«01_k».proof.Proof.Gen.Reference32Ideal.Run
public import proofs.«01_k».proof.Proof.Gen.Kernel33Ideal.Value
public import proofs.«01_k».proof.Proof.Gen.Reference33Ideal.Run
public import proofs.«01_k».proof.Proof.Gen.Kernel34Ideal.Value
public import proofs.«01_k».proof.Proof.Gen.Reference34Ideal.Run
public import proofs.«01_k».proof.Proof.Gen.Kernel35Ideal.Value
public import proofs.«01_k».proof.Proof.Gen.Reference35Ideal.Run
public import proofs.«01_k».proof.Proof.Gen.Kernel36Ideal.Value
public import proofs.«01_k».proof.Proof.Gen.Reference36Ideal.Run
public import proofs.«01_k».proof.Proof.AdamMath
public import Idealize.ShloMosaic.Lib.StableHlo.ReadAt
public import Idealize.ShloMosaic.Lib.Pointwise
public import Idealize.ShloMosaic.Lib.Quiescent

/-! The optimiser's steps of the weights that are given to the call as a matrix of their rows. -/

@[expose] public section
set_option maxRecDepth 16384
noncomputable section

namespace Cert.Kernel31Ideal.Body
open Cert.Kernel31Ideal Cert.Kernel31Ideal.Gen Idealize.ShloMosaic Idealize.ShloMosaic.TcCoe Idealize.SL.Sem
open Cert.Kernel31Ideal.Value Cert.Adam
variable (m : (ℓ : Loc nD τ sig) → Buf (Elt Ideal) ℓ) (c : Dev nD)

theorem hz : (![0, 0] : Fin 2 → Nat) = fun _ => 0 := funext fun a => by fin_cases a <;> rfl
theorem idx_4 : ∀ t : Fin cfg0.N, win0_4.index t 0 = t.val ∧ win0_4.index t 1 = 0 := by decide +kernel

/-- Every entry of a result lies in the block of some point. -/
theorem reach (i : S1024x64.Idx) : ∃ (t : Fin cfg0.N) (x : S1024x64.Idx), ((cfg0.win 4).blk t).view.emb x = i := by
  have hN : cfg0.N = 1 := N_0
  have h0 : (i 0).val < 1024 := (i 0).isLt
  have h1 : (i 1).val < 64 := (i 1).isLt
  refine ⟨⟨(i 0).val / 1024, by omega⟩, fun a => match a with
    | ⟨0, _⟩ => ⟨(i 0).val % 1024, by show _ < 1024; omega⟩
    | ⟨1, _⟩ => ⟨(i 1).val, h1⟩, funext fun a => Fin.ext ?_⟩
  match a with
  | ⟨0, _⟩ => show win0_4.index _ 0 * 1024 + 1 * ((i 0).val % 1024) = (i 0).val; rw [(idx_4 _).1]; show (i 0).val / 1024 * 1024 + _ = _; omega
  | ⟨1, _⟩ => show win0_4.index _ 1 * 64 + 1 * (i 1).val = (i 1).val; rw [(idx_4 _).2]; omega

theorem arg0 : (V m c main_v0 : FVec Ideal S1024x64 .f32) = shapeCast S1024x64 (m ((c : Thread nD τ).loc main_arg0) : FVec Ideal S4x4x64x64 .f32) shapeCasts_S4x4x64x64_S1024x64 := by
  unfold V
  after_results_simp <;> rfl
theorem arg1 : (V m c main_v1 : FVec Ideal S1024x64 .f32) = shapeCast S1024x64 (m ((c : Thread nD τ).loc main_arg1) : FVec Ideal S4x4x64x64 .f32) shapeCasts_S4x4x64x64_S1024x64 := by
  unfold V
  after_results_simp <;> rfl
theorem arg2 : (V m c main_v2 : FVec Ideal S1024x64 .f32) = shapeCast S1024x64 (m ((c : Thread nD τ).loc main_arg2) : FVec Ideal S4x4x64x64 .f32) shapeCasts_S4x4x64x64_S1024x64 := by
  unfold V
  after_results_simp <;> rfl
theorem arg3 : (V m c main_v3 : FVec Ideal S1024x64 .f32) = shapeCast S1024x64 (m ((c : Thread nD τ).loc main_arg3) : FVec Ideal S4x4x64x64 .f32) shapeCasts_S4x4x64x64_S1024x64 := by
  unfold V
  after_results_simp <;> rfl

/-- The array that window 4 leaves. -/
theorem final4 : ((dats m 0 c).arrAt 4 cfg0.N : FVec Ideal S1024x64 .f32) = shapeCast S1024x64 (change (m ((c : Thread nD τ).loc main_arg0)) (m ((c : Thread nD τ).loc main_arg1)) (m ((c : Thread nD τ).loc main_arg2)) (m ((c : Thread nD τ).loc main_arg3)) : FVec Ideal S4x4x64x64 .f32) shapeCasts_S4x4x64x64_S1024x64 := by
  funext i
  obtain ⟨t, x, rfl⟩ := reach i
  have hb := congrFun ((blocks4 m c t (flush0_4 t)).trans (flushed4 m c t)) x
  rw [View.read_apply] at hb
  refine hb.trans ?_
  unfold out0_4
  rw [View.canon_unit_zero hz]
  simp only [View.ld_unit_zero (S := S1024x64) hz, k0_pay4, k0_pay1, k0_pay2, k0_pay3, shapeCast_id]
  show change (V m c main_v0) (V m c main_v1) (V m c main_v2) (V m c main_v3) (((cfg0.win 4).blk t).view.emb x) = _
  rw [arg0, arg1, arg2, arg3]
  rfl

/-- The array that window 5 leaves. -/
theorem final5 : ((dats m 0 c).arrAt 5 cfg0.N : FVec Ideal S1024x64 .f32) = shapeCast S1024x64 (first (m ((c : Thread nD τ).loc main_arg1)) (m ((c : Thread nD τ).loc main_arg2)) : FVec Ideal S4x4x64x64 .f32) shapeCasts_S4x4x64x64_S1024x64 := by
  funext i
  obtain ⟨t, x, rfl⟩ := reach i
  have hb := congrFun ((blocks5 m c t (flush0_5 t)).trans (flushed5 m c t)) x
  rw [View.read_apply] at hb
  refine hb.trans ?_
  unfold out0_5
  rw [View.canon_unit_zero hz]
  simp only [View.ld_unit_zero (S := S1024x64) hz, k0_pay2, k0_pay1, k0_pay3, k0_pay4, shapeCast_id]
  show first (V m c main_v1) (V m c main_v2) (((cfg0.win 4).blk t).view.emb x) = _
  rw [arg1, arg2]
  rfl

/-- The array that window 6 leaves. -/
theorem final6 : ((dats m 0 c).arrAt 6 cfg0.N : FVec Ideal S1024x64 .f32) = shapeCast S1024x64 (second (m ((c : Thread nD τ).loc main_arg1)) (m ((c : Thread nD τ).loc main_arg3)) : FVec Ideal S4x4x64x64 .f32) shapeCasts_S4x4x64x64_S1024x64 := by
  funext i
  obtain ⟨t, x, rfl⟩ := reach i
  have hb := congrFun ((blocks6 m c t (flush0_6 t)).trans (flushed6 m c t)) x
  rw [View.read_apply] at hb
  refine hb.trans ?_
  unfold out0_6
  rw [View.canon_unit_zero hz]
  simp only [View.ld_unit_zero (S := S1024x64) hz, k0_pay3, k0_pay1, k0_pay2, k0_pay4, shapeCast_id]
  show second (V m c main_v1) (V m c main_v3) (((cfg0.win 4).blk t).view.emb x) = _
  rw [arg1, arg3]
  rfl

end Cert.Kernel31Ideal.Body

namespace Cert.Reference31Ideal.Read
open Cert.Reference31Ideal Idealize.ShloMosaic Idealize.ShloMosaic.TcCoe Idealize.SL.Sem

theorem frame : Cert.quiescent_Reference31Ideal := fun m ρ _ =>
  (θ_run defs _ _).mono (fun r h => ⟨fun c => (h c).2.2.2, sem_eq_zero_of_no_sems (by decide) r.2⟩) (Value.run m ρ)

end Cert.Reference31Ideal.Read

namespace Cert.Kernel31Ideal.Body
open Idealize.ShloMosaic Idealize.ShloMosaic.TcCoe Idealize.SL.Sem Cert.Adam

theorem algebraic : Cert.algebraic_Kernel31Ideal_Reference31Ideal := by
  intro m g m' g' hpre hag
  refine ⟨fun c => (Cert.Kernel31Ideal.Gen.dats m 0 c).arrAt 4 Cert.Kernel31Ideal.cfg0.N, fun c => (Cert.Kernel31Ideal.Gen.dats m 0 c).arrAt 5 Cert.Kernel31Ideal.cfg0.N, fun c => (Cert.Kernel31Ideal.Gen.dats m 0 c).arrAt 6 Cert.Kernel31Ideal.cfg0.N, Cert.Kernel31Ideal.Value.run_blocks m g, ?_⟩
  refine (θ_run Cert.Reference31Ideal.defs _ _).mono (fun r h c => ?_) (Cert.Reference31Ideal.Value.run m' g')
  obtain ⟨h0, h1, h2, ha⟩ := h c
  obtain ⟨e0, e1, e2, e3⟩ := hag c
  rw [e0, e1, e2, e3] at h0
  rw [e1, e2] at h1
  rw [e1, e3] at h2
  exact ⟨h0.trans (final4 m c).symm, h1.trans (final5 m c).symm, h2.trans (final6 m c).symm, ha⟩

end Cert.Kernel31Ideal.Body

namespace Cert.Kernel32Ideal.Body
open Cert.Kernel32Ideal Cert.Kernel32Ideal.Gen Idealize.ShloMosaic Idealize.ShloMosaic.TcCoe Idealize.SL.Sem
open Cert.Kernel32Ideal.Value Cert.Adam
variable (m : (ℓ : Loc nD τ sig) → Buf (Elt Ideal) ℓ) (c : Dev nD)

theorem hz : (![0, 0] : Fin 2 → Nat) = fun _ => 0 := funext fun a => by fin_cases a <;> rfl
theorem idx_4 : ∀ t : Fin cfg0.N, win0_4.index t 0 = t.val ∧ win0_4.index t 1 = 0 := by decide +kernel

/-- Every entry of a result lies in the block of some point. -/
theorem reach (i : S2048x128.Idx) : ∃ (t : Fin cfg0.N) (x : S1024x128.Idx), ((cfg0.win 4).blk t).view.emb x = i := by
  have hN : cfg0.N = 2 := N_0
  have h0 : (i 0).val < 2048 := (i 0).isLt
  have h1 : (i 1).val < 128 := (i 1).isLt
  refine ⟨⟨(i 0).val / 1024, by omega⟩, fun a => match a with
    | ⟨0, _⟩ => ⟨(i 0).val % 1024, by show _ < 1024; omega⟩
    | ⟨1, _⟩ => ⟨(i 1).val, h1⟩, funext fun a => Fin.ext ?_⟩
  match a with
  | ⟨0, _⟩ => show win0_4.index _ 0 * 1024 + 1 * ((i 0).val % 1024) = (i 0).val; rw [(idx_4 _).1]; show (i 0).val / 1024 * 1024 + _ = _; omega
  | ⟨1, _⟩ => show win0_4.index _ 1 * 128 + 1 * (i 1).val = (i 1).val; rw [(idx_4 _).2]; omega

theorem arg0 : (V m c main_v0 : FVec Ideal S2048x128 .f32) = shapeCast S2048x128 (m ((c : Thread nD τ).loc main_arg0) : FVec Ideal S4x4x128x128 .f32) shapeCasts_S4x4x128x128_S2048x128 := by
  unfold V
  after_results_simp <;> rfl
theorem arg1 : (V m c main_v1 : FVec Ideal S2048x128 .f32) = shapeCast S2048x128 (m ((c : Thread nD τ).loc main_arg1) : FVec Ideal S4x4x128x128 .f32) shapeCasts_S4x4x128x128_S2048x128 := by
  unfold V
  after_results_simp <;> rfl
theorem arg2 : (V m c main_v2 : FVec Ideal S2048x128 .f32) = shapeCast S2048x128 (m ((c : Thread nD τ).loc main_arg2) : FVec Ideal S4x4x128x128 .f32) shapeCasts_S4x4x128x128_S2048x128 := by
  unfold V
  after_results_simp <;> rfl
theorem arg3 : (V m c main_v3 : FVec Ideal S2048x128 .f32) = shapeCast S2048x128 (m ((c : Thread nD τ).loc main_arg3) : FVec Ideal S4x4x128x128 .f32) shapeCasts_S4x4x128x128_S2048x128 := by
  unfold V
  after_results_simp <;> rfl

/-- The array that window 4 leaves. -/
theorem final4 : ((dats m 0 c).arrAt 4 cfg0.N : FVec Ideal S2048x128 .f32) = shapeCast S2048x128 (change (m ((c : Thread nD τ).loc main_arg0)) (m ((c : Thread nD τ).loc main_arg1)) (m ((c : Thread nD τ).loc main_arg2)) (m ((c : Thread nD τ).loc main_arg3)) : FVec Ideal S4x4x128x128 .f32) shapeCasts_S4x4x128x128_S2048x128 := by
  funext i
  obtain ⟨t, x, rfl⟩ := reach i
  have hb := congrFun ((blocks4 m c t (flush0_4 t)).trans (flushed4 m c t)) x
  rw [View.read_apply] at hb
  refine hb.trans ?_
  unfold out0_4
  rw [View.canon_unit_zero hz]
  simp only [View.ld_unit_zero (S := S1024x128) hz, k0_pay4, k0_pay1, k0_pay2, k0_pay3, shapeCast_id]
  show change (V m c main_v0) (V m c main_v1) (V m c main_v2) (V m c main_v3) (((cfg0.win 4).blk t).view.emb x) = _
  rw [arg0, arg1, arg2, arg3]
  rfl

/-- The array that window 5 leaves. -/
theorem final5 : ((dats m 0 c).arrAt 5 cfg0.N : FVec Ideal S2048x128 .f32) = shapeCast S2048x128 (first (m ((c : Thread nD τ).loc main_arg1)) (m ((c : Thread nD τ).loc main_arg2)) : FVec Ideal S4x4x128x128 .f32) shapeCasts_S4x4x128x128_S2048x128 := by
  funext i
  obtain ⟨t, x, rfl⟩ := reach i
  have hb := congrFun ((blocks5 m c t (flush0_5 t)).trans (flushed5 m c t)) x
  rw [View.read_apply] at hb
  refine hb.trans ?_
  unfold out0_5
  rw [View.canon_unit_zero hz]
  simp only [View.ld_unit_zero (S := S1024x128) hz, k0_pay2, k0_pay1, k0_pay3, k0_pay4, shapeCast_id]
  show first (V m c main_v1) (V m c main_v2) (((cfg0.win 4).blk t).view.emb x) = _
  rw [arg1, arg2]
  rfl

/-- The array that window 6 leaves. -/
theorem final6 : ((dats m 0 c).arrAt 6 cfg0.N : FVec Ideal S2048x128 .f32) = shapeCast S2048x128 (second (m ((c : Thread nD τ).loc main_arg1)) (m ((c : Thread nD τ).loc main_arg3)) : FVec Ideal S4x4x128x128 .f32) shapeCasts_S4x4x128x128_S2048x128 := by
  funext i
  obtain ⟨t, x, rfl⟩ := reach i
  have hb := congrFun ((blocks6 m c t (flush0_6 t)).trans (flushed6 m c t)) x
  rw [View.read_apply] at hb
  refine hb.trans ?_
  unfold out0_6
  rw [View.canon_unit_zero hz]
  simp only [View.ld_unit_zero (S := S1024x128) hz, k0_pay3, k0_pay1, k0_pay2, k0_pay4, shapeCast_id]
  show second (V m c main_v1) (V m c main_v3) (((cfg0.win 4).blk t).view.emb x) = _
  rw [arg1, arg3]
  rfl

end Cert.Kernel32Ideal.Body

namespace Cert.Reference32Ideal.Read
open Cert.Reference32Ideal Idealize.ShloMosaic Idealize.ShloMosaic.TcCoe Idealize.SL.Sem

theorem frame : Cert.quiescent_Reference32Ideal := fun m ρ _ =>
  (θ_run defs _ _).mono (fun r h => ⟨fun c => (h c).2.2.2, sem_eq_zero_of_no_sems (by decide) r.2⟩) (Value.run m ρ)

end Cert.Reference32Ideal.Read

namespace Cert.Kernel32Ideal.Body
open Idealize.ShloMosaic Idealize.ShloMosaic.TcCoe Idealize.SL.Sem Cert.Adam

theorem algebraic : Cert.algebraic_Kernel32Ideal_Reference32Ideal := by
  intro m g m' g' hpre hag
  refine ⟨fun c => (Cert.Kernel32Ideal.Gen.dats m 0 c).arrAt 4 Cert.Kernel32Ideal.cfg0.N, fun c => (Cert.Kernel32Ideal.Gen.dats m 0 c).arrAt 5 Cert.Kernel32Ideal.cfg0.N, fun c => (Cert.Kernel32Ideal.Gen.dats m 0 c).arrAt 6 Cert.Kernel32Ideal.cfg0.N, Cert.Kernel32Ideal.Value.run_blocks m g, ?_⟩
  refine (θ_run Cert.Reference32Ideal.defs _ _).mono (fun r h c => ?_) (Cert.Reference32Ideal.Value.run m' g')
  obtain ⟨h0, h1, h2, ha⟩ := h c
  obtain ⟨e0, e1, e2, e3⟩ := hag c
  rw [e0, e1, e2, e3] at h0
  rw [e1, e2] at h1
  rw [e1, e3] at h2
  exact ⟨h0.trans (final4 m c).symm, h1.trans (final5 m c).symm, h2.trans (final6 m c).symm, ha⟩

end Cert.Kernel32Ideal.Body

namespace Cert.Kernel33Ideal.Body
open Cert.Kernel33Ideal Cert.Kernel33Ideal.Gen Idealize.ShloMosaic Idealize.ShloMosaic.TcCoe Idealize.SL.Sem
open Cert.Kernel33Ideal.Value Cert.Adam
variable (m : (ℓ : Loc nD τ sig) → Buf (Elt Ideal) ℓ) (c : Dev nD)

theorem hz : (![0, 0] : Fin 2 → Nat) = fun _ => 0 := funext fun a => by fin_cases a <;> rfl
theorem idx_4 : ∀ t : Fin cfg0.N, win0_4.index t 0 = t.val ∧ win0_4.index t 1 = 0 := by decide +kernel

/-- Every entry of a result lies in the block of some point. -/
theorem reach (i : S16x128.Idx) : ∃ (t : Fin cfg0.N) (x : S16x128.Idx), ((cfg0.win 4).blk t).view.emb x = i := by
  have hN : cfg0.N = 1 := N_0
  have h0 : (i 0).val < 16 := (i 0).isLt
  have h1 : (i 1).val < 128 := (i 1).isLt
  refine ⟨⟨(i 0).val / 16, by omega⟩, fun a => match a with
    | ⟨0, _⟩ => ⟨(i 0).val % 16, by show _ < 16; omega⟩
    | ⟨1, _⟩ => ⟨(i 1).val, h1⟩, funext fun a => Fin.ext ?_⟩
  match a with
  | ⟨0, _⟩ => show win0_4.index _ 0 * 16 + 1 * ((i 0).val % 16) = (i 0).val; rw [(idx_4 _).1]; show (i 0).val / 16 * 16 + _ = _; omega
  | ⟨1, _⟩ => show win0_4.index _ 1 * 128 + 1 * (i 1).val = (i 1).val; rw [(idx_4 _).2]; omega

theorem arg0 : (V m c main_v0 : FVec Ideal S16x128 .f32) = shapeCast S16x128 (m ((c : Thread nD τ).loc main_arg0) : FVec Ideal S4x4x128 .f32) shapeCasts_S4x4x128_S16x128 := by
  unfold V
  after_results_simp <;> rfl
theorem arg1 : (V m c main_v1 : FVec Ideal S16x128 .f32) = shapeCast S16x128 (m ((c : Thread nD τ).loc main_arg1) : FVec Ideal S4x4x128 .f32) shapeCasts_S4x4x128_S16x128 := by
  unfold V
  after_results_simp <;> rfl
theorem arg2 : (V m c main_v2 : FVec Ideal S16x128 .f32) = shapeCast S16x128 (m ((c : Thread nD τ).loc main_arg2) : FVec Ideal S4x4x128 .f32) shapeCasts_S4x4x128_S16x128 := by
  unfold V
  after_results_simp <;> rfl
theorem arg3 : (V m c main_v3 : FVec Ideal S16x128 .f32) = shapeCast S16x128 (m ((c : Thread nD τ).loc main_arg3) : FVec Ideal S4x4x128 .f32) shapeCasts_S4x4x128_S16x128 := by
  unfold V
  after_results_simp <;> rfl

/-- The array that window 4 leaves. -/
theorem final4 : ((dats m 0 c).arrAt 4 cfg0.N : FVec Ideal S16x128 .f32) = shapeCast S16x128 (change (m ((c : Thread nD τ).loc main_arg0)) (m ((c : Thread nD τ).loc main_arg1)) (m ((c : Thread nD τ).loc main_arg2)) (m ((c : Thread nD τ).loc main_arg3)) : FVec Ideal S4x4x128 .f32) shapeCasts_S4x4x128_S16x128 := by
  funext i
  obtain ⟨t, x, rfl⟩ := reach i
  have hb := congrFun ((blocks4 m c t (flush0_4 t)).trans (flushed4 m c t)) x
  rw [View.read_apply] at hb
  refine hb.trans ?_
  unfold out0_4
  rw [View.canon_unit_zero hz]
  simp only [View.ld_unit_zero (S := S16x128) hz, k0_pay4, k0_pay1, k0_pay2, k0_pay3, shapeCast_id]
  show change (V m c main_v0) (V m c main_v1) (V m c main_v2) (V m c main_v3) (((cfg0.win 4).blk t).view.emb x) = _
  rw [arg0, arg1, arg2, arg3]
  rfl

/-- The array that window 5 leaves. -/
theorem final5 : ((dats m 0 c).arrAt 5 cfg0.N : FVec Ideal S16x128 .f32) = shapeCast S16x128 (first (m ((c : Thread nD τ).loc main_arg1)) (m ((c : Thread nD τ).loc main_arg2)) : FVec Ideal S4x4x128 .f32) shapeCasts_S4x4x128_S16x128 := by
  funext i
  obtain ⟨t, x, rfl⟩ := reach i
  have hb := congrFun ((blocks5 m c t (flush0_5 t)).trans (flushed5 m c t)) x
  rw [View.read_apply] at hb
  refine hb.trans ?_
  unfold out0_5
  rw [View.canon_unit_zero hz]
  simp only [View.ld_unit_zero (S := S16x128) hz, k0_pay2, k0_pay1, k0_pay3, k0_pay4, shapeCast_id]
  show first (V m c main_v1) (V m c main_v2) (((cfg0.win 4).blk t).view.emb x) = _
  rw [arg1, arg2]
  rfl

/-- The array that window 6 leaves. -/
theorem final6 : ((dats m 0 c).arrAt 6 cfg0.N : FVec Ideal S16x128 .f32) = shapeCast S16x128 (second (m ((c : Thread nD τ).loc main_arg1)) (m ((c : Thread nD τ).loc main_arg3)) : FVec Ideal S4x4x128 .f32) shapeCasts_S4x4x128_S16x128 := by
  funext i
  obtain ⟨t, x, rfl⟩ := reach i
  have hb := congrFun ((blocks6 m c t (flush0_6 t)).trans (flushed6 m c t)) x
  rw [View.read_apply] at hb
  refine hb.trans ?_
  unfold out0_6
  rw [View.canon_unit_zero hz]
  simp only [View.ld_unit_zero (S := S16x128) hz, k0_pay3, k0_pay1, k0_pay2, k0_pay4, shapeCast_id]
  show second (V m c main_v1) (V m c main_v3) (((cfg0.win 4).blk t).view.emb x) = _
  rw [arg1, arg3]
  rfl

end Cert.Kernel33Ideal.Body

namespace Cert.Reference33Ideal.Read
open Cert.Reference33Ideal Idealize.ShloMosaic Idealize.ShloMosaic.TcCoe Idealize.SL.Sem

theorem frame : Cert.quiescent_Reference33Ideal := fun m ρ _ =>
  (θ_run defs _ _).mono (fun r h => ⟨fun c => (h c).2.2.2, sem_eq_zero_of_no_sems (by decide) r.2⟩) (Value.run m ρ)

end Cert.Reference33Ideal.Read

namespace Cert.Kernel33Ideal.Body
open Idealize.ShloMosaic Idealize.ShloMosaic.TcCoe Idealize.SL.Sem Cert.Adam

theorem algebraic : Cert.algebraic_Kernel33Ideal_Reference33Ideal := by
  intro m g m' g' hpre hag
  refine ⟨fun c => (Cert.Kernel33Ideal.Gen.dats m 0 c).arrAt 4 Cert.Kernel33Ideal.cfg0.N, fun c => (Cert.Kernel33Ideal.Gen.dats m 0 c).arrAt 5 Cert.Kernel33Ideal.cfg0.N, fun c => (Cert.Kernel33Ideal.Gen.dats m 0 c).arrAt 6 Cert.Kernel33Ideal.cfg0.N, Cert.Kernel33Ideal.Value.run_blocks m g, ?_⟩
  refine (θ_run Cert.Reference33Ideal.defs _ _).mono (fun r h c => ?_) (Cert.Reference33Ideal.Value.run m' g')
  obtain ⟨h0, h1, h2, ha⟩ := h c
  obtain ⟨e0, e1, e2, e3⟩ := hag c
  rw [e0, e1, e2, e3] at h0
  rw [e1, e2] at h1
  rw [e1, e3] at h2
  exact ⟨h0.trans (final4 m c).symm, h1.trans (final5 m c).symm, h2.trans (final6 m c).symm, ha⟩

end Cert.Kernel33Ideal.Body

namespace Cert.Kernel34Ideal.Body
open Cert.Kernel34Ideal Cert.Kernel34Ideal.Gen Idealize.ShloMosaic Idealize.ShloMosaic.TcCoe Idealize.SL.Sem
open Cert.Kernel34Ideal.Value Cert.Adam
variable (m : (ℓ : Loc nD τ sig) → Buf (Elt Ideal) ℓ) (c : Dev nD)

theorem hz : (![0, 0] : Fin 2 → Nat) = fun _ => 0 := funext fun a => by fin_cases a <;> rfl
theorem idx_4 : ∀ t : Fin cfg0.N, win0_4.index t 0 = t.val ∧ win0_4.index t 1 = 0 := by decide +kernel

/-- Every entry of a result lies in the block of some point. -/
theorem reach (i : S16x64.Idx) : ∃ (t : Fin cfg0.N) (x : S16x64.Idx), ((cfg0.win 4).blk t).view.emb x = i := by
  have hN : cfg0.N = 1 := N_0
  have h0 : (i 0).val < 16 := (i 0).isLt
  have h1 : (i 1).val < 64 := (i 1).isLt
  refine ⟨⟨(i 0).val / 16, by omega⟩, fun a => match a with
    | ⟨0, _⟩ => ⟨(i 0).val % 16, by show _ < 16; omega⟩
    | ⟨1, _⟩ => ⟨(i 1).val, h1⟩, funext fun a => Fin.ext ?_⟩
  match a with
  | ⟨0, _⟩ => show win0_4.index _ 0 * 16 + 1 * ((i 0).val % 16) = (i 0).val; rw [(idx_4 _).1]; show (i 0).val / 16 * 16 + _ = _; omega
  | ⟨1, _⟩ => show win0_4.index _ 1 * 64 + 1 * (i 1).val = (i 1).val; rw [(idx_4 _).2]; omega

theorem arg0 : (V m c main_v0 : FVec Ideal S16x64 .f32) = shapeCast S16x64 (m ((c : Thread nD τ).loc main_arg0) : FVec Ideal S4x4x64 .f32) shapeCasts_S4x4x64_S16x64 := by
  unfold V
  after_results_simp <;> rfl
theorem arg1 : (V m c main_v1 : FVec Ideal S16x64 .f32) = shapeCast S16x64 (m ((c : Thread nD τ).loc main_arg1) : FVec Ideal S4x4x64 .f32) shapeCasts_S4x4x64_S16x64 := by
  unfold V
  after_results_simp <;> rfl
theorem arg2 : (V m c main_v2 : FVec Ideal S16x64 .f32) = shapeCast S16x64 (m ((c : Thread nD τ).loc main_arg2) : FVec Ideal S4x4x64 .f32) shapeCasts_S4x4x64_S16x64 := by
  unfold V
  after_results_simp <;> rfl
theorem arg3 : (V m c main_v3 : FVec Ideal S16x64 .f32) = shapeCast S16x64 (m ((c : Thread nD τ).loc main_arg3) : FVec Ideal S4x4x64 .f32) shapeCasts_S4x4x64_S16x64 := by
  unfold V
  after_results_simp <;> rfl

/-- The array that window 4 leaves. -/
theorem final4 : ((dats m 0 c).arrAt 4 cfg0.N : FVec Ideal S16x64 .f32) = shapeCast S16x64 (change (m ((c : Thread nD τ).loc main_arg0)) (m ((c : Thread nD τ).loc main_arg1)) (m ((c : Thread nD τ).loc main_arg2)) (m ((c : Thread nD τ).loc main_arg3)) : FVec Ideal S4x4x64 .f32) shapeCasts_S4x4x64_S16x64 := by
  funext i
  obtain ⟨t, x, rfl⟩ := reach i
  have hb := congrFun ((blocks4 m c t (flush0_4 t)).trans (flushed4 m c t)) x
  rw [View.read_apply] at hb
  refine hb.trans ?_
  unfold out0_4
  rw [View.canon_unit_zero hz]
  simp only [View.ld_unit_zero (S := S16x64) hz, k0_pay4, k0_pay1, k0_pay2, k0_pay3, shapeCast_id]
  show change (V m c main_v0) (V m c main_v1) (V m c main_v2) (V m c main_v3) (((cfg0.win 4).blk t).view.emb x) = _
  rw [arg0, arg1, arg2, arg3]
  rfl

/-- The array that window 5 leaves. -/
theorem final5 : ((dats m 0 c).arrAt 5 cfg0.N : FVec Ideal S16x64 .f32) = shapeCast S16x64 (first (m ((c : Thread nD τ).loc main_arg1)) (m ((c : Thread nD τ).loc main_arg2)) : FVec Ideal S4x4x64 .f32) shapeCasts_S4x4x64_S16x64 := by
  funext i
  obtain ⟨t, x, rfl⟩ := reach i
  have hb := congrFun ((blocks5 m c t (flush0_5 t)).trans (flushed5 m c t)) x
  rw [View.read_apply] at hb
  refine hb.trans ?_
  unfold out0_5
  rw [View.canon_unit_zero hz]
  simp only [View.ld_unit_zero (S := S16x64) hz, k0_pay2, k0_pay1, k0_pay3, k0_pay4, shapeCast_id]
  show first (V m c main_v1) (V m c main_v2) (((cfg0.win 4).blk t).view.emb x) = _
  rw [arg1, arg2]
  rfl

/-- The array that window 6 leaves. -/
theorem final6 : ((dats m 0 c).arrAt 6 cfg0.N : FVec Ideal S16x64 .f32) = shapeCast S16x64 (second (m ((c : Thread nD τ).loc main_arg1)) (m ((c : Thread nD τ).loc main_arg3)) : FVec Ideal S4x4x64 .f32) shapeCasts_S4x4x64_S16x64 := by
  funext i
  obtain ⟨t, x, rfl⟩ := reach i
  have hb := congrFun ((blocks6 m c t (flush0_6 t)).trans (flushed6 m c t)) x
  rw [View.read_apply] at hb
  refine hb.trans ?_
  unfold out0_6
  rw [View.canon_unit_zero hz]
  simp only [View.ld_unit_zero (S := S16x64) hz, k0_pay3, k0_pay1, k0_pay2, k0_pay4, shapeCast_id]
  show second (V m c main_v1) (V m c main_v3) (((cfg0.win 4).blk t).view.emb x) = _
  rw [arg1, arg3]
  rfl

end Cert.Kernel34Ideal.Body

namespace Cert.Reference34Ideal.Read
open Cert.Reference34Ideal Idealize.ShloMosaic Idealize.ShloMosaic.TcCoe Idealize.SL.Sem

theorem frame : Cert.quiescent_Reference34Ideal := fun m ρ _ =>
  (θ_run defs _ _).mono (fun r h => ⟨fun c => (h c).2.2.2, sem_eq_zero_of_no_sems (by decide) r.2⟩) (Value.run m ρ)

end Cert.Reference34Ideal.Read

namespace Cert.Kernel34Ideal.Body
open Idealize.ShloMosaic Idealize.ShloMosaic.TcCoe Idealize.SL.Sem Cert.Adam

theorem algebraic : Cert.algebraic_Kernel34Ideal_Reference34Ideal := by
  intro m g m' g' hpre hag
  refine ⟨fun c => (Cert.Kernel34Ideal.Gen.dats m 0 c).arrAt 4 Cert.Kernel34Ideal.cfg0.N, fun c => (Cert.Kernel34Ideal.Gen.dats m 0 c).arrAt 5 Cert.Kernel34Ideal.cfg0.N, fun c => (Cert.Kernel34Ideal.Gen.dats m 0 c).arrAt 6 Cert.Kernel34Ideal.cfg0.N, Cert.Kernel34Ideal.Value.run_blocks m g, ?_⟩
  refine (θ_run Cert.Reference34Ideal.defs _ _).mono (fun r h c => ?_) (Cert.Reference34Ideal.Value.run m' g')
  obtain ⟨h0, h1, h2, ha⟩ := h c
  obtain ⟨e0, e1, e2, e3⟩ := hag c
  rw [e0, e1, e2, e3] at h0
  rw [e1, e2] at h1
  rw [e1, e3] at h2
  exact ⟨h0.trans (final4 m c).symm, h1.trans (final5 m c).symm, h2.trans (final6 m c).symm, ha⟩

end Cert.Kernel34Ideal.Body

namespace Cert.Kernel35Ideal.Body
open Cert.Kernel35Ideal Cert.Kernel35Ideal.Gen Idealize.ShloMosaic Idealize.ShloMosaic.TcCoe Idealize.SL.Sem
open Cert.Kernel35Ideal.Value Cert.Adam
variable (m : (ℓ : Loc nD τ sig) → Buf (Elt Ideal) ℓ) (c : Dev nD)

theorem hz : (![0, 0] : Fin 2 → Nat) = fun _ => 0 := funext fun a => by fin_cases a <;> rfl
theorem idx_4 : ∀ t : Fin cfg0.N, win0_4.index t 0 = t.val ∧ win0_4.index t 1 = 0 := by decide +kernel

/-- Every entry of a result lies in the block of some point. -/
theorem reach (i : S12x1408.Idx) : ∃ (t : Fin cfg0.N) (x : S12x1408.Idx), ((cfg0.win 4).blk t).view.emb x = i := by
  have hN : cfg0.N = 1 := N_0
  have h0 : (i 0).val < 12 := (i 0).isLt
  have h1 : (i 1).val < 1408 := (i 1).isLt
  refine ⟨⟨(i 0).val / 12, by omega⟩, fun a => match a with
    | ⟨0, _⟩ => ⟨(i 0).val % 12, by show _ < 12; omega⟩
    | ⟨1, _⟩ => ⟨(i 1).val, h1⟩, funext fun a => Fin.ext ?_⟩
  match a with
  | ⟨0, _⟩ => show win0_4.index _ 0 * 12 + 1 * ((i 0).val % 12) = (i 0).val; rw [(idx_4 _).1]; show (i 0).val / 12 * 12 + _ = _; omega
  | ⟨1, _⟩ => show win0_4.index _ 1 * 1408 + 1 * (i 1).val = (i 1).val; rw [(idx_4 _).2]; omega

theorem arg0 : (V m c main_v0 : FVec Ideal S12x1408 .f32) = shapeCast S12x1408 (m ((c : Thread nD τ).loc main_arg0) : FVec Ideal S4x3x1408 .f32) shapeCasts_S4x3x1408_S12x1408 := by
  unfold V
  after_results_simp <;> rfl
theorem arg1 : (V m c main_v1 : FVec Ideal S12x1408 .f32) = shapeCast S12x1408 (m ((c : Thread nD τ).loc main_arg1) : FVec Ideal S4x3x1408 .f32) shapeCasts_S4x3x1408_S12x1408 := by
  unfold V
  after_results_simp <;> rfl
theorem arg2 : (V m c main_v2 : FVec Ideal S12x1408 .f32) = shapeCast S12x1408 (m ((c : Thread nD τ).loc main_arg2) : FVec Ideal S4x3x1408 .f32) shapeCasts_S4x3x1408_S12x1408 := by
  unfold V
  after_results_simp <;> rfl
theorem arg3 : (V m c main_v3 : FVec Ideal S12x1408 .f32) = shapeCast S12x1408 (m ((c : Thread nD τ).loc main_arg3) : FVec Ideal S4x3x1408 .f32) shapeCasts_S4x3x1408_S12x1408 := by
  unfold V
  after_results_simp <;> rfl

/-- The array that window 4 leaves. -/
theorem final4 : ((dats m 0 c).arrAt 4 cfg0.N : FVec Ideal S12x1408 .f32) = shapeCast S12x1408 (change (m ((c : Thread nD τ).loc main_arg0)) (m ((c : Thread nD τ).loc main_arg1)) (m ((c : Thread nD τ).loc main_arg2)) (m ((c : Thread nD τ).loc main_arg3)) : FVec Ideal S4x3x1408 .f32) shapeCasts_S4x3x1408_S12x1408 := by
  funext i
  obtain ⟨t, x, rfl⟩ := reach i
  have hb := congrFun ((blocks4 m c t (flush0_4 t)).trans (flushed4 m c t)) x
  rw [View.read_apply] at hb
  refine hb.trans ?_
  unfold out0_4
  rw [View.canon_unit_zero hz]
  simp only [View.ld_unit_zero (S := S12x1408) hz, k0_pay4, k0_pay1, k0_pay2, k0_pay3, shapeCast_id]
  show change (V m c main_v0) (V m c main_v1) (V m c main_v2) (V m c main_v3) (((cfg0.win 4).blk t).view.emb x) = _
  rw [arg0, arg1, arg2, arg3]
  rfl

/-- The array that window 5 leaves. -/
theorem final5 : ((dats m 0 c).arrAt 5 cfg0.N : FVec Ideal S12x1408 .f32) = shapeCast S12x1408 (first (m ((c : Thread nD τ).loc main_arg1)) (m ((c : Thread nD τ).loc main_arg2)) : FVec Ideal S4x3x1408 .f32) shapeCasts_S4x3x1408_S12x1408 := by
  funext i
  obtain ⟨t, x, rfl⟩ := reach i
  have hb := congrFun ((blocks5 m c t (flush0_5 t)).trans (flushed5 m c t)) x
  rw [View.read_apply] at hb
  refine hb.trans ?_
  unfold out0_5
  rw [View.canon_unit_zero hz]
  simp only [View.ld_unit_zero (S := S12x1408) hz, k0_pay2, k0_pay1, k0_pay3, k0_pay4, shapeCast_id]
  show first (V m c main_v1) (V m c main_v2) (((cfg0.win 4).blk t).view.emb x) = _
  rw [arg1, arg2]
  rfl

/-- The array that window 6 leaves. -/
theorem final6 : ((dats m 0 c).arrAt 6 cfg0.N : FVec Ideal S12x1408 .f32) = shapeCast S12x1408 (second (m ((c : Thread nD τ).loc main_arg1)) (m ((c : Thread nD τ).loc main_arg3)) : FVec Ideal S4x3x1408 .f32) shapeCasts_S4x3x1408_S12x1408 := by
  funext i
  obtain ⟨t, x, rfl⟩ := reach i
  have hb := congrFun ((blocks6 m c t (flush0_6 t)).trans (flushed6 m c t)) x
  rw [View.read_apply] at hb
  refine hb.trans ?_
  unfold out0_6
  rw [View.canon_unit_zero hz]
  simp only [View.ld_unit_zero (S := S12x1408) hz, k0_pay3, k0_pay1, k0_pay2, k0_pay4, shapeCast_id]
  show second (V m c main_v1) (V m c main_v3) (((cfg0.win 4).blk t).view.emb x) = _
  rw [arg1, arg3]
  rfl

end Cert.Kernel35Ideal.Body

namespace Cert.Reference35Ideal.Read
open Cert.Reference35Ideal Idealize.ShloMosaic Idealize.ShloMosaic.TcCoe Idealize.SL.Sem

theorem frame : Cert.quiescent_Reference35Ideal := fun m ρ _ =>
  (θ_run defs _ _).mono (fun r h => ⟨fun c => (h c).2.2.2, sem_eq_zero_of_no_sems (by decide) r.2⟩) (Value.run m ρ)

end Cert.Reference35Ideal.Read

namespace Cert.Kernel35Ideal.Body
open Idealize.ShloMosaic Idealize.ShloMosaic.TcCoe Idealize.SL.Sem Cert.Adam

theorem algebraic : Cert.algebraic_Kernel35Ideal_Reference35Ideal := by
  intro m g m' g' hpre hag
  refine ⟨fun c => (Cert.Kernel35Ideal.Gen.dats m 0 c).arrAt 4 Cert.Kernel35Ideal.cfg0.N, fun c => (Cert.Kernel35Ideal.Gen.dats m 0 c).arrAt 5 Cert.Kernel35Ideal.cfg0.N, fun c => (Cert.Kernel35Ideal.Gen.dats m 0 c).arrAt 6 Cert.Kernel35Ideal.cfg0.N, Cert.Kernel35Ideal.Value.run_blocks m g, ?_⟩
  refine (θ_run Cert.Reference35Ideal.defs _ _).mono (fun r h c => ?_) (Cert.Reference35Ideal.Value.run m' g')
  obtain ⟨h0, h1, h2, ha⟩ := h c
  obtain ⟨e0, e1, e2, e3⟩ := hag c
  rw [e0, e1, e2, e3] at h0
  rw [e1, e2] at h1
  rw [e1, e3] at h2
  exact ⟨h0.trans (final4 m c).symm, h1.trans (final5 m c).symm, h2.trans (final6 m c).symm, ha⟩

end Cert.Kernel35Ideal.Body

namespace Cert.Kernel36Ideal.Body
open Cert.Kernel36Ideal Cert.Kernel36Ideal.Gen Idealize.ShloMosaic Idealize.ShloMosaic.TcCoe Idealize.SL.Sem
open Cert.Kernel36Ideal.Value Cert.Adam
variable (m : (ℓ : Loc nD τ sig) → Buf (Elt Ideal) ℓ) (c : Dev nD)

theorem hz : (![0, 0] : Fin 2 → Nat) = fun _ => 0 := funext fun a => by fin_cases a <;> rfl
theorem idx_4 : ∀ t : Fin cfg0.N, win0_4.index t 0 = t.val ∧ win0_4.index t 1 = 0 := by decide +kernel

/-- Every entry of a result lies in the block of some point. -/
theorem reach (i : S1x1024.Idx) : ∃ (t : Fin cfg0.N) (x : S1x1024.Idx), ((cfg0.win 4).blk t).view.emb x = i := by
  have hN : cfg0.N = 1 := N_0
  have h0 : (i 0).val < 1 := (i 0).isLt
  have h1 : (i 1).val < 1024 := (i 1).isLt
  refine ⟨⟨(i 0).val / 1, by omega⟩, fun a => match a with
    | ⟨0, _⟩ => ⟨(i 0).val % 1, by show _ < 1; omega⟩
    | ⟨1, _⟩ => ⟨(i 1).val, h1⟩, funext fun a => Fin.ext ?_⟩
  match a with
  | ⟨0, _⟩ => show win0_4.index _ 0 * 1 + 1 * ((i 0).val % 1) = (i 0).val; rw [(idx_4 _).1]; show (i 0).val / 1 * 1 + _ = _; omega
  | ⟨1, _⟩ => show win0_4.index _ 1 * 1024 + 1 * (i 1).val = (i 1).val; rw [(idx_4 _).2]; omega

theorem arg0 : (V m c main_v0 : FVec Ideal S1x1024 .f32) = shapeCast S1x1024 (m ((c : Thread nD τ).loc main_arg0) : FVec Ideal S1024 .f32) shapeCasts_S1024_S1x1024 := by
  unfold V
  after_results_simp <;> rfl
theorem arg1 : (V m c main_v1 : FVec Ideal S1x1024 .f32) = shapeCast S1x1024 (m ((c : Thread nD τ).loc main_arg1) : FVec Ideal S1024 .f32) shapeCasts_S1024_S1x1024 := by
  unfold V
  after_results_simp <;> rfl
theorem arg2 : (V m c main_v2 : FVec Ideal S1x1024 .f32) = shapeCast S1x1024 (m ((c : Thread nD τ).loc main_arg2) : FVec Ideal S1024 .f32) shapeCasts_S1024_S1x1024 := by
  unfold V
  after_results_simp <;> rfl
theorem arg3 : (V m c main_v3 : FVec Ideal S1x1024 .f32) = shapeCast S1x1024 (m ((c : Thread nD τ).loc main_arg3) : FVec Ideal S1024 .f32) shapeCasts_S1024_S1x1024 := by
  unfold V
  after_results_simp <;> rfl

/-- The array that window 4 leaves. -/
theorem final4 : ((dats m 0 c).arrAt 4 cfg0.N : FVec Ideal S1x1024 .f32) = shapeCast S1x1024 (change (m ((c : Thread nD τ).loc main_arg0)) (m ((c : Thread nD τ).loc main_arg1)) (m ((c : Thread nD τ).loc main_arg2)) (m ((c : Thread nD τ).loc main_arg3)) : FVec Ideal S1024 .f32) shapeCasts_S1024_S1x1024 := by
  funext i
  obtain ⟨t, x, rfl⟩ := reach i
  have hb := congrFun ((blocks4 m c t (flush0_4 t)).trans (flushed4 m c t)) x
  rw [View.read_apply] at hb
  refine hb.trans ?_
  unfold out0_4
  rw [View.canon_unit_zero hz]
  simp only [View.ld_unit_zero (S := S1x1024) hz, k0_pay4, k0_pay1, k0_pay2, k0_pay3, shapeCast_id]
  show change (V m c main_v0) (V m c main_v1) (V m c main_v2) (V m c main_v3) (((cfg0.win 4).blk t).view.emb x) = _
  rw [arg0, arg1, arg2, arg3]
  rfl

/-- The array that window 5 leaves. -/
theorem final5 : ((dats m 0 c).arrAt 5 cfg0.N : FVec Ideal S1x1024 .f32) = shapeCast S1x1024 (first (m ((c : Thread nD τ).loc main_arg1)) (m ((c : Thread nD τ).loc main_arg2)) : FVec Ideal S1024 .f32) shapeCasts_S1024_S1x1024 := by
  funext i
  obtain ⟨t, x, rfl⟩ := reach i
  have hb := congrFun ((blocks5 m c t (flush0_5 t)).trans (flushed5 m c t)) x
  rw [View.read_apply] at hb
  refine hb.trans ?_
  unfold out0_5
  rw [View.canon_unit_zero hz]
  simp only [View.ld_unit_zero (S := S1x1024) hz, k0_pay2, k0_pay1, k0_pay3, k0_pay4, shapeCast_id]
  show first (V m c main_v1) (V m c main_v2) (((cfg0.win 4).blk t).view.emb x) = _
  rw [arg1, arg2]
  rfl

/-- The array that window 6 leaves. -/
theorem final6 : ((dats m 0 c).arrAt 6 cfg0.N : FVec Ideal S1x1024 .f32) = shapeCast S1x1024 (second (m ((c : Thread nD τ).loc main_arg1)) (m ((c : Thread nD τ).loc main_arg3)) : FVec Ideal S1024 .f32) shapeCasts_S1024_S1x1024 := by
  funext i
  obtain ⟨t, x, rfl⟩ := reach i
  have hb := congrFun ((blocks6 m c t (flush0_6 t)).trans (flushed6 m c t)) x
  rw [View.read_apply] at hb
  refine hb.trans ?_
  unfold out0_6
  rw [View.canon_unit_zero hz]
  simp only [View.ld_unit_zero (S := S1x1024) hz, k0_pay3, k0_pay1, k0_pay2, k0_pay4, shapeCast_id]
  show second (V m c main_v1) (V m c main_v3) (((cfg0.win 4).blk t).view.emb x) = _
  rw [arg1, arg3]
  rfl

end Cert.Kernel36Ideal.Body

namespace Cert.Reference36Ideal.Read
open Cert.Reference36Ideal Idealize.ShloMosaic Idealize.ShloMosaic.TcCoe Idealize.SL.Sem

theorem frame : Cert.quiescent_Reference36Ideal := fun m ρ _ =>
  (θ_run defs _ _).mono (fun r h => ⟨fun c => (h c).2.2.2, sem_eq_zero_of_no_sems (by decide) r.2⟩) (Value.run m ρ)

end Cert.Reference36Ideal.Read

namespace Cert.Kernel36Ideal.Body
open Idealize.ShloMosaic Idealize.ShloMosaic.TcCoe Idealize.SL.Sem Cert.Adam

theorem algebraic : Cert.algebraic_Kernel36Ideal_Reference36Ideal := by
  intro m g m' g' hpre hag
  refine ⟨fun c => (Cert.Kernel36Ideal.Gen.dats m 0 c).arrAt 4 Cert.Kernel36Ideal.cfg0.N, fun c => (Cert.Kernel36Ideal.Gen.dats m 0 c).arrAt 5 Cert.Kernel36Ideal.cfg0.N, fun c => (Cert.Kernel36Ideal.Gen.dats m 0 c).arrAt 6 Cert.Kernel36Ideal.cfg0.N, Cert.Kernel36Ideal.Value.run_blocks m g, ?_⟩
  refine (θ_run Cert.Reference36Ideal.defs _ _).mono (fun r h c => ?_) (Cert.Reference36Ideal.Value.run m' g')
  obtain ⟨h0, h1, h2, ha⟩ := h c
  obtain ⟨e0, e1, e2, e3⟩ := hag c
  rw [e0, e1, e2, e3] at h0
  rw [e1, e2] at h1
  rw [e1, e3] at h2
  exact ⟨h0.trans (final4 m c).symm, h1.trans (final5 m c).symm, h2.trans (final6 m c).symm, ha⟩

end Cert.Kernel36Ideal.Body

end
-- ==== Proof.AdamLayers.lean ====
module

public import proofs.«01_k».proof.Proof.AdamMath
public import Idealize.ShloMosaic.Lib.Pointwise

/-! The optimiser's step of a weight whose four layers' gradients come apart: one layer after the other, or all of them stacked. -/

@[expose] public section
noncomputable section

namespace Cert.Adam
open Idealize.ShloMosaic

/-- The four results of a step: the gradient, the change and the two moments. -/
def quad {s : Shape} (w m v g : FVec Ideal s .f32) : Fin 4 → FVec Ideal s .f32 := ![g, change w g m v, first g m, second g v]

/-- At one entry a step only sees that entry of each array. -/
theorem quad_at {s s' : Shape} (w m v g : FVec Ideal s .f32) (w' m' v' g' : FVec Ideal s' .f32) (k : Fin 4) (i : s.Idx) (j : s'.Idx)
    (hw : w i = w' j) (hm : m i = m' j) (hv : v i = v' j) (hg : g i = g' j) : quad w m v g k i = quad w' m' v' g' k j := by
  have h1 : first g m i = first g' m' j := by
    unfold first
    rw [hg, hm]
  have h2 : second g v i = second g' v' j := by
    unfold second
    rw [hg, hv]
  match k with
  | ⟨0, _⟩ => exact hg
  | ⟨1, _⟩ =>
    show change w g m v i = change w' g' m' v' j
    unfold change
    rw [hw, h1, h2]
  | ⟨2, _⟩ => exact h1
  | ⟨3, _⟩ => exact h2

variable {R C : Nat}

/-- One layer's gradient at each of `L` layers. -/
def spread (L : Nat) (g : FVec Ideal ⟨2, ![R, C]⟩ .f32) : FVec Ideal ⟨3, ![L, R, C]⟩ .f32 := fun i => g (ix2 (i 1 : Fin R) (i 2 : Fin C))

/-- The layers' gradients, stacked. -/
def stack (g0 g1 g2 g3 : FVec Ideal ⟨2, ![R, C]⟩ .f32) : FVec Ideal ⟨3, ![4, R, C]⟩ .f32 := fun i =>
  if (i 0).val = 0 then spread 4 g0 i else if (i 0).val = 1 then spread 4 g1 i else if (i 0).val = 2 then spread 4 g2 i else spread 4 g3 i

/-- What the step of layer `l` leaves in the four arrays, from what it finds in them (`a`). -/
def layer (l : Nat) (w : FVec Ideal ⟨3, ![4, R, C]⟩ .f32) (g : FVec Ideal ⟨2, ![R, C]⟩ .f32) (m v : FVec Ideal ⟨3, ![4, R, C]⟩ .f32)
    (a : Fin 4 → FVec Ideal ⟨3, ![4, R, C]⟩ .f32) : Fin 4 → FVec Ideal ⟨3, ![4, R, C]⟩ .f32 :=
  fun k i => if (i 0).val = l then quad w m v (spread 4 g) k i else a k i

theorem layers (w m v : FVec Ideal ⟨3, ![4, R, C]⟩ .f32) (g0 g1 g2 g3 : FVec Ideal ⟨2, ![R, C]⟩ .f32) (a : Fin 4 → FVec Ideal ⟨3, ![4, R, C]⟩ .f32) :
    layer 0 w g0 m v (layer 1 w g1 m v (layer 2 w g2 m v (layer 3 w g3 m v a))) = quad w m v (stack g0 g1 g2 g3) := by
  funext k i
  have hi : (i 0).val < 4 := (i 0).isLt
  unfold layer
  split_ifs with h0 h1 h2 h3
  · exact quad_at _ _ _ _ _ _ _ _ k i i rfl rfl rfl (by unfold stack; rw [if_pos h0])
  · exact quad_at _ _ _ _ _ _ _ _ k i i rfl rfl rfl (by unfold stack; rw [if_neg h0, if_pos h1])
  · exact quad_at _ _ _ _ _ _ _ _ k i i rfl rfl rfl (by unfold stack; rw [if_neg h0, if_neg h1, if_pos h2])
  · exact quad_at _ _ _ _ _ _ _ _ k i i rfl rfl rfl (by unfold stack; rw [if_neg h0, if_neg h1, if_neg h2])
  · omega

/-- Blocks of `T` rows of layer `l`, one after the other, hold the entries of that layer. -/
theorem rows {N T l : Nat} (n : Fin N → Fin 3 → Nat) (hT : 0 < T) (hR : N * T = R) (h : ∀ t, n t 0 = l ∧ n t 1 = t.val ∧ n t 2 = 0)
    (i : (⟨3, ![4, R, C]⟩ : Shape).Idx) :
    (∃ t, ∀ a : Fin 3, n t a * ![1, T, C] a ≤ (i a).val ∧ (i a).val < n t a * ![1, T, C] a + ![1, T, C] a) ↔ (i 0).val = l := by
  have h1 : (i 1).val < R := (i 1).isLt
  have h2 : (i 2).val < C := (i 2).isLt
  constructor
  · rintro ⟨t, ht⟩
    have h' : n t 0 * 1 ≤ (i 0).val ∧ (i 0).val < n t 0 * 1 + 1 := ht 0
    rw [(h t).1] at h'
    omega
  · intro hl
    refine ⟨⟨(i 1).val / T, Nat.div_lt_of_lt_mul (by rwa [Nat.mul_comm, hR])⟩, fun a => ?_⟩
    match a with
    | ⟨0, _⟩ => show n _ 0 * 1 ≤ (i 0).val ∧ (i 0).val < n _ 0 * 1 + 1; rw [(h _).1]; omega
    | ⟨1, _⟩ => show n _ 1 * T ≤ (i 1).val ∧ (i 1).val < n _ 1 * T + T; rw [(h _).2.1]; exact ⟨Nat.div_mul_le_self _ _, Nat.lt_div_mul_add hT⟩
    | ⟨2, _⟩ => show n _ 2 * C ≤ (i 2).val ∧ (i 2).val < n _ 2 * C + C; rw [(h _).2.2]; omega

/-- A condition that always holds says nothing. -/
theorem drop {α : Type} {p q : α → Prop} {r : Prop} (hp : ∀ a, p a) (h : (∃ a, q a) ↔ r) : (∃ a, p a ∧ q a) ↔ r :=
  ⟨fun ⟨a, _, hq⟩ => h.1 ⟨a, hq⟩, fun hr => (h.2 hr).imp fun a hq => ⟨hp a, hq⟩⟩

end Cert.Adam
end
-- ==== Proof.AdamOut.lean ====
module

public import proofs.«01_k».proof.Defs
public import proofs.«01_k».proof.Proof.Gen.Kernel37Ideal.Frame
public import proofs.«01_k».proof.Proof.Gen.Reference37Ideal.Run
public import proofs.«01_k».proof.Proof.AdamLayers
public import Idealize.ShloMosaic.Lib.StableHlo.ReadAt
public import Idealize.ShloMosaic.Lib.Pointwise
public import Idealize.ShloMosaic.Lib.Tactic
public import Idealize.ShloMosaic.Lib.Quiescent
public import Idealize.ShloMosaic.PureOps.Ideal.Laws

/-! The optimiser's steps of w_out and w_pg, one layer after the other. -/

@[expose] public section
set_option maxRecDepth 16384
noncomputable section

namespace Cert.Kernel37Ideal.Body
open Cert.Kernel37Ideal Cert.Kernel37Ideal.Gen Idealize.ShloMosaic Idealize.ShloMosaic.TcCoe Idealize.SL.Sem Cert.Adam
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

/-- One after the other, what a point leaves in the four results. -/
def four (p : FVec Ideal S1x256x1024 .f32 × FVec Ideal S1x256x1024 .f32 × FVec Ideal S1x256x1024 .f32 × FVec Ideal S1x256x1024 .f32) : Fin 4 → FVec Ideal S1x256x1024 .f32 := ![p.1, p.2.1, p.2.2.1, p.2.2.2]

/-- What a point leaves: the step of its block. -/
def step (x0 : FVec Ideal S1x256x1024 .f32) (x1 : FVec Ideal S256x1024 .f32) (x2 x3 : FVec Ideal S1x256x1024 .f32) :
    FVec Ideal S1x256x1024 .f32 × FVec Ideal S1x256x1024 .f32 × FVec Ideal S1x256x1024 .f32 × FVec Ideal S1x256x1024 .f32 :=
  (spread 1 x1, change x0 (spread 1 x1) x2 x3, first (spread 1 x1) x2, second (spread 1 x1) x3)

theorem pay (x0 : FVec Ideal S1x256x1024 .f32) (x1 : FVec Ideal S256x1024 .f32) (x2 x3 : FVec Ideal S1x256x1024 .f32) :
    (k0_pay6 x1, k0_pay1 (k0_pay7 x1 x2 x3 x0), k0_pay2 (k0_pay4 x1 x2), k0_pay3 (k0_pay5 x1 x3)) = step x0 x1 x2 x3 := by
  have up (y : FVec Ideal S256x1024 .f32) (a : Fin 1) (p : Fin 256) (q : Fin 1024) : shapeCast S1x256x1024 y shapeCasts_S256x1024_S1x256x1024 (ix3 a p q) = y (ix2 p q) := by
    obtain rfl := Subsingleton.elim a 0
    pointwise []
  have dn (y : FVec Ideal S1x256x1024 .f32) : shapeCast S256x1024 y shapeCasts_S1x256x1024_S256x1024 = fun j => y (ix3 (0 : Fin 1) (j 0 : Fin 256) (j 1 : Fin 1024)) := by
    funext j
    obtain ⟨p, q, rfl⟩ : ∃ (p : Fin 256) (q : Fin 1024), ix2 p q = j := ⟨j 0, j 1, funext fun b => by fin_cases b <;> rfl⟩
    pointwise []
  refine Prod.ext (funext fun i => ?_) (Prod.ext (funext fun i => ?_) (Prod.ext (funext fun i => ?_) (funext fun i => ?_)))
  all_goals
    obtain ⟨a, p, q, rfl⟩ : ∃ (a : Fin 1) (p : Fin 256) (q : Fin 1024), ix3 a p q = i := ⟨i 0, i 1, i 2, funext fun b => by fin_cases b <;> rfl⟩
    obtain rfl := Subsingleton.elim a 0
  · exact up x1 0 p q
  · refine (up (k0_pay7 x1 x2 x3 x0) 0 p q).trans ?_
    simp only [k0_pay7, k0_pay4, k0_pay5, dn]
    rfl
  · refine (up (k0_pay4 x1 x2) 0 p q).trans ?_
    simp only [k0_pay4, dn]
    rfl
  · refine (up (k0_pay5 x1 x3) 0 p q).trans ?_
    simp only [k0_pay5, dn]
    rfl

variable (V : (c : Dev nD) → (b : Ref sig .tc) → Buf (Elt Ideal) ((c : Thread nD τ).loc b)) (c : Dev nD)

/-! The region of layer 3. -/

def outsAt0 (t : Fin cfg0.N) : FVec Ideal S1x256x1024 .f32 × FVec Ideal S1x256x1024 .f32 × FVec Ideal S1x256x1024 .f32 × FVec Ideal S1x256x1024 .f32 :=
  (out0_4 (iblk0 V c 0 t) (iblk0 V c 1 t) (iblk0 V c 2 t) (iblk0 V c 3 t), out0_5 (iblk0 V c 0 t) (iblk0 V c 1 t) (iblk0 V c 2 t) (iblk0 V c 3 t), out0_6 (iblk0 V c 0 t) (iblk0 V c 1 t) (iblk0 V c 2 t) (iblk0 V c 3 t), out0_7 (iblk0 V c 0 t) (iblk0 V c 1 t) (iblk0 V c 2 t) (iblk0 V c 3 t))

theorem outs0 (t : Fin cfg0.N) : outsAt0 V c t = step (iblk0 V c 0 t) (iblk0 V c 1 t) (iblk0 V c 2 t) (iblk0 V c 3 t) := by
  refine Eq.trans ?_ (pay _ _ _ _)
  unfold outsAt0 out0_4 out0_5 out0_6 out0_7
  rw [View.canon_unit_zero hz3, View.canon_unit_zero hz3, View.canon_unit_zero hz3, View.canon_unit_zero hz3]
  simp only [View.ld_unit_zero (S := S1x256x1024) hz3, View.ld_unit_zero (S := S256x1024) hz]

theorem left0 (t : Fin cfg0.N) : (![(dat0 V c).after 4 t, (dat0 V c).after 5 t, (dat0 V c).after 6 t, (dat0 V c).after 7 t] : Fin 4 → FVec Ideal S1x256x1024 .f32) = quad (iblk0 V c 0 t) (iblk0 V c 2 t) (iblk0 V c 3 t) (spread 1 (iblk0 V c 1 t)) := by
  have e4 : (dat0 V c).after 4 t = (outsAt0 V c t).1 := by dsimp only [dat0, outsAt0]
  have e5 : (dat0 V c).after 5 t = (outsAt0 V c t).2.1 := by dsimp only [dat0, outsAt0]
  have e6 : (dat0 V c).after 6 t = (outsAt0 V c t).2.2.1 := by dsimp only [dat0, outsAt0]
  have e7 : (dat0 V c).after 7 t = (outsAt0 V c t).2.2.2 := by dsimp only [dat0, outsAt0]
  rw [e4, e5, e6, e7]
  exact congrArg four (outs0 V c t)

theorem idx0 : ∀ t : Fin cfg0.N, (win0_4.index t 0 = 3 ∧ win0_4.index t 1 = t.val ∧ win0_4.index t 2 = 0) ∧ win0_1.index t 0 = t.val ∧ win0_1.index t 1 = 0 := by decide +kernel

theorem mem0 (i : S4x256x1024.Idx) : (∃ t : Fin cfg0.N, i ∈ ((cfg0.win 4).blk t).view.set) ↔ (i 0).val = 3 :=
  (exists_congr fun t => show i ∈ ((View.whole main_v0_0).slice (win0_4.rect t)).set ↔ _ by rw [View.set_slice_whole, Rect.mem_set_unit]; exact Iff.rfl).trans
    (rows win0_4.index (by decide : 0 < 256) (show grid0.N * 256 = 256 by rw [N_0]) (fun t => (idx0 t).1) i)

theorem grad0 (t : Fin cfg0.N) (x : S1x256x1024.Idx) : spread 1 (iblk0 V c 1 t) x = spread 4 (V c main_arg4) (((cfg0.win 4).blk t).view.emb x) := by
  refine congrArg (V c main_arg4) (funext fun a => Fin.ext ?_)
  match a with
  | ⟨0, _⟩ => show win0_1.index t 0 * 256 + 1 * (x 1).val = win0_4.index t 1 * 256 + 1 * (x 1).val; rw [(idx0 t).1.2.1, (idx0 t).2.1]
  | ⟨1, _⟩ => show win0_1.index t 1 * 1024 + 1 * (x 2).val = win0_4.index t 2 * 1024 + 1 * (x 2).val; rw [(idx0 t).1.2.2, (idx0 t).2.2]

/-- What the region leaves in its four arrays. -/
theorem arr0 : (![(dat0 V c).arrAt 4 cfg0.N, (dat0 V c).arrAt 5 cfg0.N, (dat0 V c).arrAt 6 cfg0.N, (dat0 V c).arrAt 7 cfg0.N] : Fin 4 → FVec Ideal S4x256x1024 .f32) =
    layer 3 (V c main_arg0) (V c main_arg4) (V c main_arg5) (V c main_arg6) ![V c main_v0_0, V c main_v0_1, V c main_v0_2, V c main_v0_3] := by
  let Q : Fin 4 → FVec Ideal S4x256x1024 .f32 := quad (V c main_arg0) (V c main_arg5) (V c main_arg6) (spread 4 (V c main_arg4))
  have key (t : Fin cfg0.N) (j : Fin 4) (x : S1x256x1024.Idx) : (![(dat0 V c).after 4 t, (dat0 V c).after 5 t, (dat0 V c).after 6 t, (dat0 V c).after 7 t] : Fin 4 → FVec Ideal S1x256x1024 .f32) j x = Q j (((cfg0.win 4).blk t).view.emb x) := by
    rw [left0]
    exact quad_at _ _ _ _ _ _ _ _ j x _ rfl rfl rfl (grad0 V c t x)
  funext j i
  match j with
  | ⟨0, _⟩ => exact ((dat0 V c).arrAt_eq_piecewise 4 (Q 0) (fun t _ => funext (key t 0)) i).trans (if_congr (drop flush0_4 (mem0 i)) rfl rfl)
  | ⟨1, _⟩ => exact ((dat0 V c).arrAt_eq_piecewise 5 (Q 1) (fun t _ => funext (key t 1)) i).trans (if_congr (drop flush0_5 (mem0 i)) rfl rfl)
  | ⟨2, _⟩ => exact ((dat0 V c).arrAt_eq_piecewise 6 (Q 2) (fun t _ => funext (key t 2)) i).trans (if_congr (drop flush0_6 (mem0 i)) rfl rfl)
  | ⟨3, _⟩ => exact ((dat0 V c).arrAt_eq_piecewise 7 (Q 3) (fun t _ => funext (key t 3)) i).trans (if_congr (drop flush0_7 (mem0 i)) rfl rfl)

/-! The region of layer 2. -/

set_option maxHeartbeats 2000000 in
theorem outs1 (t : Fin cfg1.N) : outsAt1 V c t = step (iblk1 V c 0 t) (iblk1 V c 1 t) (iblk1 V c 2 t) (iblk1 V c 3 t) := by
  refine Eq.trans ?_ (pay _ _ _ _)
  unfold outsAt1 out1_A_4 out1_A_5 out1_A_6 out1_A_7
  rw [View.read_writes_junk_eq_canon, View.read_writes_junk_eq_canon, View.read_writes_junk_eq_canon, View.read_writes_junk_eq_canon]
  unfold kernelRun1_A
  dsimp only
  sl_unfold_words
  rw [View.canon_unit_zero hz3, View.canon_unit_zero hz3, View.canon_unit_zero hz3, View.canon_unit_zero hz3]
  simp only [View.readAt_eq_ld, Memref.IsWhole.read_unread]
  simp only [View.ld_unit_zero (S := S1x256x1024) hz3, View.ld_unit_zero (S := S256x1024) hz]
  rfl

theorem left1 (t : Fin cfg1.N) : (![(dat1 V c).after 4 t, (dat1 V c).after 5 t, (dat1 V c).after 6 t, (dat1 V c).after 7 t] : Fin 4 → FVec Ideal S1x256x1024 .f32) = quad (iblk1 V c 0 t) (iblk1 V c 2 t) (iblk1 V c 3 t) (spread 1 (iblk1 V c 1 t)) := by
  rw [after1_4, after1_5, after1_6, after1_7]
  exact congrArg four (outs1 V c t)

theorem idx1 : ∀ t : Fin cfg1.N, (win1_4.index t 0 = 2 ∧ win1_4.index t 1 = t.val ∧ win1_4.index t 2 = 0) ∧ win1_1.index t 0 = t.val ∧ win1_1.index t 1 = 0 := by decide +kernel

theorem mem1 (i : S4x256x1024.Idx) : (∃ t : Fin cfg1.N, i ∈ ((cfg1.win 4).blk t).view.set) ↔ (i 0).val = 2 :=
  (exists_congr fun t => show i ∈ ((View.whole main_v1_0).slice (win1_4.rect t)).set ↔ _ by rw [View.set_slice_whole, Rect.mem_set_unit]; exact Iff.rfl).trans
    (rows win1_4.index (by decide : 0 < 256) (show grid1.N * 256 = 256 by rw [N_1]) (fun t => (idx1 t).1) i)

theorem grad1 (t : Fin cfg1.N) (x : S1x256x1024.Idx) : spread 1 (iblk1 V c 1 t) x = spread 4 (V c main_arg3) (((cfg1.win 4).blk t).view.emb x) := by
  refine congrArg (V c main_arg3) (funext fun a => Fin.ext ?_)
  match a with
  | ⟨0, _⟩ => show win1_1.index t 0 * 256 + 1 * (x 1).val = win1_4.index t 1 * 256 + 1 * (x 1).val; rw [(idx1 t).1.2.1, (idx1 t).2.1]
  | ⟨1, _⟩ => show win1_1.index t 1 * 1024 + 1 * (x 2).val = win1_4.index t 2 * 1024 + 1 * (x 2).val; rw [(idx1 t).1.2.2, (idx1 t).2.2]

/-- What the region leaves in its four arrays. -/
theorem arr1 : (![(dat1 V c).arrAt 4 cfg1.N, (dat1 V c).arrAt 5 cfg1.N, (dat1 V c).arrAt 6 cfg1.N, (dat1 V c).arrAt 7 cfg1.N] : Fin 4 → FVec Ideal S4x256x1024 .f32) =
    layer 2 (V c main_arg0) (V c main_arg3) (V c main_arg5) (V c main_arg6) ![V c main_v1_0, V c main_v1_1, V c main_v1_2, V c main_v1_3] := by
  let Q : Fin 4 → FVec Ideal S4x256x1024 .f32 := quad (V c main_arg0) (V c main_arg5) (V c main_arg6) (spread 4 (V c main_arg3))
  have key (t : Fin cfg1.N) (j : Fin 4) (x : S1x256x1024.Idx) : (![(dat1 V c).after 4 t, (dat1 V c).after 5 t, (dat1 V c).after 6 t, (dat1 V c).after 7 t] : Fin 4 → FVec Ideal S1x256x1024 .f32) j x = Q j (((cfg1.win 4).blk t).view.emb x) := by
    rw [left1]
    exact quad_at _ _ _ _ _ _ _ _ j x _ rfl rfl rfl (grad1 V c t x)
  funext j i
  match j with
  | ⟨0, _⟩ => exact ((dat1 V c).arrAt_eq_piecewise 4 (Q 0) (fun t _ => funext (key t 0)) i).trans (if_congr (drop flush1_4 (mem1 i)) rfl rfl)
  | ⟨1, _⟩ => exact ((dat1 V c).arrAt_eq_piecewise 5 (Q 1) (fun t _ => funext (key t 1)) i).trans (if_congr (drop flush1_5 (mem1 i)) rfl rfl)
  | ⟨2, _⟩ => exact ((dat1 V c).arrAt_eq_piecewise 6 (Q 2) (fun t _ => funext (key t 2)) i).trans (if_congr (drop flush1_6 (mem1 i)) rfl rfl)
  | ⟨3, _⟩ => exact ((dat1 V c).arrAt_eq_piecewise 7 (Q 3) (fun t _ => funext (key t 3)) i).trans (if_congr (drop flush1_7 (mem1 i)) rfl rfl)

/-! The region of layer 1. -/

set_option maxHeartbeats 2000000 in
theorem outs2 (t : Fin cfg2.N) : outsAt2 V c t = step (iblk2 V c 0 t) (iblk2 V c 1 t) (iblk2 V c 2 t) (iblk2 V c 3 t) := by
  refine Eq.trans ?_ (pay _ _ _ _)
  unfold outsAt2 out2_A_4 out2_A_5 out2_A_6 out2_A_7
  rw [View.read_writes_junk_eq_canon, View.read_writes_junk_eq_canon, View.read_writes_junk_eq_canon, View.read_writes_junk_eq_canon]
  unfold kernelRun2_A
  dsimp only
  sl_unfold_words
  rw [View.canon_unit_zero hz3, View.canon_unit_zero hz3, View.canon_unit_zero hz3, View.canon_unit_zero hz3]
  simp only [View.readAt_eq_ld, Memref.IsWhole.read_unread]
  simp only [View.ld_unit_zero (S := S1x256x1024) hz3, View.ld_unit_zero (S := S256x1024) hz]
  rfl

theorem left2 (t : Fin cfg2.N) : (![(dat2 V c).after 4 t, (dat2 V c).after 5 t, (dat2 V c).after 6 t, (dat2 V c).after 7 t] : Fin 4 → FVec Ideal S1x256x1024 .f32) = quad (iblk2 V c 0 t) (iblk2 V c 2 t) (iblk2 V c 3 t) (spread 1 (iblk2 V c 1 t)) := by
  rw [after2_4, after2_5, after2_6, after2_7]
  exact congrArg four (outs2 V c t)

theorem idx2 : ∀ t : Fin cfg2.N, (win2_4.index t 0 = 1 ∧ win2_4.index t 1 = t.val ∧ win2_4.index t 2 = 0) ∧ win2_1.index t 0 = t.val ∧ win2_1.index t 1 = 0 := by decide +kernel

theorem mem2 (i : S4x256x1024.Idx) : (∃ t : Fin cfg2.N, i ∈ ((cfg2.win 4).blk t).view.set) ↔ (i 0).val = 1 :=
  (exists_congr fun t => show i ∈ ((View.whole main_v2_0).slice (win2_4.rect t)).set ↔ _ by rw [View.set_slice_whole, Rect.mem_set_unit]; exact Iff.rfl).trans
    (rows win2_4.index (by decide : 0 < 256) (show grid2.N * 256 = 256 by rw [N_2]) (fun t => (idx2 t).1) i)

theorem grad2 (t : Fin cfg2.N) (x : S1x256x1024.Idx) : spread 1 (iblk2 V c 1 t) x = spread 4 (V c main_arg2) (((cfg2.win 4).blk t).view.emb x) := by
  refine congrArg (V c main_arg2) (funext fun a => Fin.ext ?_)
  match a with
  | ⟨0, _⟩ => show win2_1.index t 0 * 256 + 1 * (x 1).val = win2_4.index t 1 * 256 + 1 * (x 1).val; rw [(idx2 t).1.2.1, (idx2 t).2.1]
  | ⟨1, _⟩ => show win2_1.index t 1 * 1024 + 1 * (x 2).val = win2_4.index t 2 * 1024 + 1 * (x 2).val; rw [(idx2 t).1.2.2, (idx2 t).2.2]

/-- What the region leaves in its four arrays. -/
theorem arr2 : (![(dat2 V c).arrAt 4 cfg2.N, (dat2 V c).arrAt 5 cfg2.N, (dat2 V c).arrAt 6 cfg2.N, (dat2 V c).arrAt 7 cfg2.N] : Fin 4 → FVec Ideal S4x256x1024 .f32) =
    layer 1 (V c main_arg0) (V c main_arg2) (V c main_arg5) (V c main_arg6) ![V c main_v2_0, V c main_v2_1, V c main_v2_2, V c main_v2_3] := by
  let Q : Fin 4 → FVec Ideal S4x256x1024 .f32 := quad (V c main_arg0) (V c main_arg5) (V c main_arg6) (spread 4 (V c main_arg2))
  have key (t : Fin cfg2.N) (j : Fin 4) (x : S1x256x1024.Idx) : (![(dat2 V c).after 4 t, (dat2 V c).after 5 t, (dat2 V c).after 6 t, (dat2 V c).after 7 t] : Fin 4 → FVec Ideal S1x256x1024 .f32) j x = Q j (((cfg2.win 4).blk t).view.emb x) := by
    rw [left2]
    exact quad_at _ _ _ _ _ _ _ _ j x _ rfl rfl rfl (grad2 V c t x)
  funext j i
  match j with
  | ⟨0, _⟩ => exact ((dat2 V c).arrAt_eq_piecewise 4 (Q 0) (fun t _ => funext (key t 0)) i).trans (if_congr (drop flush2_4 (mem2 i)) rfl rfl)
  | ⟨1, _⟩ => exact ((dat2 V c).arrAt_eq_piecewise 5 (Q 1) (fun t _ => funext (key t 1)) i).trans (if_congr (drop flush2_5 (mem2 i)) rfl rfl)
  | ⟨2, _⟩ => exact ((dat2 V c).arrAt_eq_piecewise 6 (Q 2) (fun t _ => funext (key t 2)) i).trans (if_congr (drop flush2_6 (mem2 i)) rfl rfl)
  | ⟨3, _⟩ => exact ((dat2 V c).arrAt_eq_piecewise 7 (Q 3) (fun t _ => funext (key t 3)) i).trans (if_congr (drop flush2_7 (mem2 i)) rfl rfl)

/-! The region of layer 0. -/

set_option maxHeartbeats 2000000 in
theorem outs3 (t : Fin cfg3.N) : outsAt3 V c t = step (iblk3 V c 0 t) (iblk3 V c 1 t) (iblk3 V c 2 t) (iblk3 V c 3 t) := by
  refine Eq.trans ?_ (pay _ _ _ _)
  unfold outsAt3 out3_A_4 out3_A_5 out3_A_6 out3_A_7
  rw [View.read_writes_junk_eq_canon, View.read_writes_junk_eq_canon, View.read_writes_junk_eq_canon, View.read_writes_junk_eq_canon]
  unfold kernelRun3_A
  dsimp only
  sl_unfold_words
  rw [View.canon_unit_zero hz3, View.canon_unit_zero hz3, View.canon_unit_zero hz3, View.canon_unit_zero hz3]
  simp only [View.readAt_eq_ld, Memref.IsWhole.read_unread]
  simp only [View.ld_unit_zero (S := S1x256x1024) hz3, View.ld_unit_zero (S := S256x1024) hz]
  rfl

theorem left3 (t : Fin cfg3.N) : (![(dat3 V c).after 4 t, (dat3 V c).after 5 t, (dat3 V c).after 6 t, (dat3 V c).after 7 t] : Fin 4 → FVec Ideal S1x256x1024 .f32) = quad (iblk3 V c 0 t) (iblk3 V c 2 t) (iblk3 V c 3 t) (spread 1 (iblk3 V c 1 t)) := by
  rw [after3_4, after3_5, after3_6, after3_7]
  exact congrArg four (outs3 V c t)

theorem idx3 : ∀ t : Fin cfg3.N, (win3_4.index t 0 = 0 ∧ win3_4.index t 1 = t.val ∧ win3_4.index t 2 = 0) ∧ win3_1.index t 0 = t.val ∧ win3_1.index t 1 = 0 := by decide +kernel

theorem mem3 (i : S4x256x1024.Idx) : (∃ t : Fin cfg3.N, i ∈ ((cfg3.win 4).blk t).view.set) ↔ (i 0).val = 0 :=
  (exists_congr fun t => show i ∈ ((View.whole main_v3_0).slice (win3_4.rect t)).set ↔ _ by rw [View.set_slice_whole, Rect.mem_set_unit]; exact Iff.rfl).trans
    (rows win3_4.index (by decide : 0 < 256) (show grid3.N * 256 = 256 by rw [N_3]) (fun t => (idx3 t).1) i)

theorem grad3 (t : Fin cfg3.N) (x : S1x256x1024.Idx) : spread 1 (iblk3 V c 1 t) x = spread 4 (V c main_arg1) (((cfg3.win 4).blk t).view.emb x) := by
  refine congrArg (V c main_arg1) (funext fun a => Fin.ext ?_)
  match a with
  | ⟨0, _⟩ => show win3_1.index t 0 * 256 + 1 * (x 1).val = win3_4.index t 1 * 256 + 1 * (x 1).val; rw [(idx3 t).1.2.1, (idx3 t).2.1]
  | ⟨1, _⟩ => show win3_1.index t 1 * 1024 + 1 * (x 2).val = win3_4.index t 2 * 1024 + 1 * (x 2).val; rw [(idx3 t).1.2.2, (idx3 t).2.2]

/-- What the region leaves in its four arrays. -/
theorem arr3 : (![(dat3 V c).arrAt 4 cfg3.N, (dat3 V c).arrAt 5 cfg3.N, (dat3 V c).arrAt 6 cfg3.N, (dat3 V c).arrAt 7 cfg3.N] : Fin 4 → FVec Ideal S4x256x1024 .f32) =
    layer 0 (V c main_arg0) (V c main_arg1) (V c main_arg5) (V c main_arg6) ![V c main_v3_0, V c main_v3_1, V c main_v3_2, V c main_v3_3] := by
  let Q : Fin 4 → FVec Ideal S4x256x1024 .f32 := quad (V c main_arg0) (V c main_arg5) (V c main_arg6) (spread 4 (V c main_arg1))
  have key (t : Fin cfg3.N) (j : Fin 4) (x : S1x256x1024.Idx) : (![(dat3 V c).after 4 t, (dat3 V c).after 5 t, (dat3 V c).after 6 t, (dat3 V c).after 7 t] : Fin 4 → FVec Ideal S1x256x1024 .f32) j x = Q j (((cfg3.win 4).blk t).view.emb x) := by
    rw [left3]
    exact quad_at _ _ _ _ _ _ _ _ j x _ rfl rfl rfl (grad3 V c t x)
  funext j i
  match j with
  | ⟨0, _⟩ => exact ((dat3 V c).arrAt_eq_piecewise 4 (Q 0) (fun t _ => funext (key t 0)) i).trans (if_congr (drop flush3_4 (mem3 i)) rfl rfl)
  | ⟨1, _⟩ => exact ((dat3 V c).arrAt_eq_piecewise 5 (Q 1) (fun t _ => funext (key t 1)) i).trans (if_congr (drop flush3_5 (mem3 i)) rfl rfl)
  | ⟨2, _⟩ => exact ((dat3 V c).arrAt_eq_piecewise 6 (Q 2) (fun t _ => funext (key t 2)) i).trans (if_congr (drop flush3_6 (mem3 i)) rfl rfl)
  | ⟨3, _⟩ => exact ((dat3 V c).arrAt_eq_piecewise 7 (Q 3) (fun t _ => funext (key t 3)) i).trans (if_congr (drop flush3_7 (mem3 i)) rfl rfl)

end Cert.Kernel37Ideal.Body

namespace Cert.Kernel37Ideal.Body
open Cert.Kernel37Ideal Cert.Kernel37Ideal.Gen Idealize.ShloMosaic Idealize.ShloMosaic.TcCoe Idealize.SL.Sem Cert.Adam
open Idealize.ShloMosaic.StableHlo (after)
variable (m : (ℓ : Loc nD τ sig) → Buf (Elt Ideal) ℓ) (ρ : Dev nD → PrngReg) (c : Dev nD)

theorem res0 : (![V1 m ρ c main_v0_0, V1 m ρ c main_v0_1, V1 m ρ c main_v0_2, V1 m ρ c main_v0_3] : Fin 4 → FVec Ideal S4x256x1024 .f32) = layer 3 (m ((c : Thread nD τ).loc main_arg0)) (m ((c : Thread nD τ).loc main_arg4)) (m ((c : Thread nD τ).loc main_arg5)) (m ((c : Thread nD τ).loc main_arg6)) ![V0 m ρ c main_v0_0, V0 m ρ c main_v0_1, V0 m ρ c main_v0_2, V0 m ρ c main_v0_3] := by
  have e (b) (hb : b ∈ argRefs) : V0 m ρ c b = m ((c : Thread nD τ).loc b) := W0_args m ρ c b hb
  rw [← e main_arg0 (by decide), ← e main_arg4 (by decide), ← e main_arg5 (by decide), ← e main_arg6 (by decide)]
  rw [← arr0]
  funext j
  match j with
  | ⟨0, _⟩ => exact W1_arr m ρ c 4
  | ⟨1, _⟩ => exact W1_arr m ρ c 5
  | ⟨2, _⟩ => exact W1_arr m ρ c 6
  | ⟨3, _⟩ => exact W1_arr m ρ c 7

theorem res1 : (![V3 m ρ c main_v1_0, V3 m ρ c main_v1_1, V3 m ρ c main_v1_2, V3 m ρ c main_v1_3] : Fin 4 → FVec Ideal S4x256x1024 .f32) = layer 2 (m ((c : Thread nD τ).loc main_arg0)) (m ((c : Thread nD τ).loc main_arg3)) (m ((c : Thread nD τ).loc main_arg5)) (m ((c : Thread nD τ).loc main_arg6)) ![V1 m ρ c main_v0_0, V1 m ρ c main_v0_1, V1 m ρ c main_v0_2, V1 m ρ c main_v0_3] := by
  have e (b) (hb : b ∈ argRefs) : V2 m ρ c b = m ((c : Thread nD τ).loc b) := W2_args m ρ c b hb
  rw [← e main_arg0 (by decide), ← e main_arg3 (by decide), ← e main_arg5 (by decide), ← e main_arg6 (by decide)]
  obtain ⟨h0, h1, h2, h3⟩ : V2 m ρ c main_v1_0 = V1 m ρ c main_v0_0 ∧ V2 m ρ c main_v1_1 = V1 m ρ c main_v0_1 ∧ V2 m ρ c main_v1_2 = V1 m ρ c main_v0_2 ∧ V2 m ρ c main_v1_3 = V1 m ρ c main_v0_3 := by
    show after hostOps1 (W1 m ρ c) (Proc.devRef .tc main_v1_0) = _ ∧ after hostOps1 (W1 m ρ c) (Proc.devRef .tc main_v1_1) = _ ∧ after hostOps1 (W1 m ρ c) (Proc.devRef .tc main_v1_2) = _ ∧ after hostOps1 (W1 m ρ c) (Proc.devRef .tc main_v1_3) = _
    refine ⟨?_, ?_, ?_, ?_⟩ <;> (after_results_simp <;> rfl)
  rw [← h0, ← h1, ← h2, ← h3, ← arr1]
  funext j
  match j with
  | ⟨0, _⟩ => exact W3_arr m ρ c 4
  | ⟨1, _⟩ => exact W3_arr m ρ c 5
  | ⟨2, _⟩ => exact W3_arr m ρ c 6
  | ⟨3, _⟩ => exact W3_arr m ρ c 7

theorem res2 : (![V5 m ρ c main_v2_0, V5 m ρ c main_v2_1, V5 m ρ c main_v2_2, V5 m ρ c main_v2_3] : Fin 4 → FVec Ideal S4x256x1024 .f32) = layer 1 (m ((c : Thread nD τ).loc main_arg0)) (m ((c : Thread nD τ).loc main_arg2)) (m ((c : Thread nD τ).loc main_arg5)) (m ((c : Thread nD τ).loc main_arg6)) ![V3 m ρ c main_v1_0, V3 m ρ c main_v1_1, V3 m ρ c main_v1_2, V3 m ρ c main_v1_3] := by
  have e (b) (hb : b ∈ argRefs) : V4 m ρ c b = m ((c : Thread nD τ).loc b) := W4_args m ρ c b hb
  rw [← e main_arg0 (by decide), ← e main_arg2 (by decide), ← e main_arg5 (by decide), ← e main_arg6 (by decide)]
  obtain ⟨h0, h1, h2, h3⟩ : V4 m ρ c main_v2_0 = V3 m ρ c main_v1_0 ∧ V4 m ρ c main_v2_1 = V3 m ρ c main_v1_1 ∧ V4 m ρ c main_v2_2 = V3 m ρ c main_v1_2 ∧ V4 m ρ c main_v2_3 = V3 m ρ c main_v1_3 := by
    show after hostOps2 (W3 m ρ c) (Proc.devRef .tc main_v2_0) = _ ∧ after hostOps2 (W3 m ρ c) (Proc.devRef .tc main_v2_1) = _ ∧ after hostOps2 (W3 m ρ c) (Proc.devRef .tc main_v2_2) = _ ∧ after hostOps2 (W3 m ρ c) (Proc.devRef .tc main_v2_3) = _
    refine ⟨?_, ?_, ?_, ?_⟩ <;> (after_results_simp <;> rfl)
  rw [← h0, ← h1, ← h2, ← h3, ← arr2]
  funext j
  match j with
  | ⟨0, _⟩ => exact W5_arr m ρ c 4
  | ⟨1, _⟩ => exact W5_arr m ρ c 5
  | ⟨2, _⟩ => exact W5_arr m ρ c 6
  | ⟨3, _⟩ => exact W5_arr m ρ c 7

theorem res3 : (![V7 m ρ c main_v3_0, V7 m ρ c main_v3_1, V7 m ρ c main_v3_2, V7 m ρ c main_v3_3] : Fin 4 → FVec Ideal S4x256x1024 .f32) = layer 0 (m ((c : Thread nD τ).loc main_arg0)) (m ((c : Thread nD τ).loc main_arg1)) (m ((c : Thread nD τ).loc main_arg5)) (m ((c : Thread nD τ).loc main_arg6)) ![V5 m ρ c main_v2_0, V5 m ρ c main_v2_1, V5 m ρ c main_v2_2, V5 m ρ c main_v2_3] := by
  have e (b) (hb : b ∈ argRefs) : V6 m ρ c b = m ((c : Thread nD τ).loc b) := W6_args m ρ c b hb
  rw [← e main_arg0 (by decide), ← e main_arg1 (by decide), ← e main_arg5 (by decide), ← e main_arg6 (by decide)]
  obtain ⟨h0, h1, h2, h3⟩ : V6 m ρ c main_v3_0 = V5 m ρ c main_v2_0 ∧ V6 m ρ c main_v3_1 = V5 m ρ c main_v2_1 ∧ V6 m ρ c main_v3_2 = V5 m ρ c main_v2_2 ∧ V6 m ρ c main_v3_3 = V5 m ρ c main_v2_3 := by
    show after hostOps3 (W5 m ρ c) (Proc.devRef .tc main_v3_0) = _ ∧ after hostOps3 (W5 m ρ c) (Proc.devRef .tc main_v3_1) = _ ∧ after hostOps3 (W5 m ρ c) (Proc.devRef .tc main_v3_2) = _ ∧ after hostOps3 (W5 m ρ c) (Proc.devRef .tc main_v3_3) = _
    refine ⟨?_, ?_, ?_, ?_⟩ <;> (after_results_simp <;> rfl)
  rw [← h0, ← h1, ← h2, ← h3, ← arr3]
  funext j
  match j with
  | ⟨0, _⟩ => exact W7_arr m ρ c 4
  | ⟨1, _⟩ => exact W7_arr m ρ c 5
  | ⟨2, _⟩ => exact W7_arr m ρ c 6
  | ⟨3, _⟩ => exact W7_arr m ρ c 7

/-- The four results of the whole call. -/
theorem value : (![V7 m ρ c main_v3_0, V7 m ρ c main_v3_1, V7 m ρ c main_v3_2, V7 m ρ c main_v3_3] : Fin 4 → FVec Ideal S4x256x1024 .f32) = quad (m ((c : Thread nD τ).loc main_arg0)) (m ((c : Thread nD τ).loc main_arg5)) (m ((c : Thread nD τ).loc main_arg6))
    (stack (m ((c : Thread nD τ).loc main_arg1)) (m ((c : Thread nD τ).loc main_arg2)) (m ((c : Thread nD τ).loc main_arg3)) (m ((c : Thread nD τ).loc main_arg4))) := by
  rw [res3, res2, res1, res0]
  exact layers _ _ _ _ _ _ _ _

end Cert.Kernel37Ideal.Body

namespace Cert.Kernel37Ideal.Body
open Cert.Kernel37Ideal Cert.Kernel37Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable (m : (ℓ : Loc nD τ sig) → Buf (Elt Ideal) ℓ) (ρ : Dev nD → PrngReg)

/-- The run, with the results as the four regions leave them. -/
theorem run : θ_run defs (onTc (τ := τ) (main (F := Ideal))) ⟨m, fun _ => 0, ρ⟩ fun r => ∀ c : Dev nD,
      r.2.mem ((c : Thread nD τ).loc main_v3_0) = V7 m ρ c main_v3_0
      ∧ r.2.mem ((c : Thread nD τ).loc main_v3_1) = V7 m ρ c main_v3_1
      ∧ r.2.mem ((c : Thread nD τ).loc main_v3_2) = V7 m ρ c main_v3_2
      ∧ r.2.mem ((c : Thread nD τ).loc main_v3_3) = V7 m ρ c main_v3_3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c => ⟨h c _ (mem_uc main_v3_0 (by decide)), h c _ (mem_uc main_v3_1 (by decide)), h c _ (mem_uc main_v3_2 (by decide)), h c _ (mem_uc main_v3_3 (by decide)),
      (h c _ (mem_uc main_arg0 (by decide))).trans (W7_main_arg0 m ρ c), (h c _ (mem_uc main_arg1 (by decide))).trans (W7_main_arg1 m ρ c), (h c _ (mem_uc main_arg2 (by decide))).trans (W7_main_arg2 m ρ c), (h c _ (mem_uc main_arg3 (by decide))).trans (W7_main_arg3 m ρ c), (h c _ (mem_uc main_arg4 (by decide))).trans (W7_main_arg4 m ρ c), (h c _ (mem_uc main_arg5 (by decide))).trans (W7_main_arg5 m ρ c), (h c _ (mem_uc main_arg6 (by decide))).trans (W7_main_arg6 m ρ c)⟩)

end Cert.Kernel37Ideal.Body

namespace Cert.Reference37Ideal.Read
open Cert.Reference37Ideal Cert.Reference37Ideal.Gen Idealize.ShloMosaic Idealize.ShloMosaic.TcCoe Idealize.SL.Sem Cert.Adam

theorem frame : Cert.quiescent_Reference37Ideal := fun m ρ _ =>
  (θ_run defs _ _).mono (fun r h => ⟨fun c => (h c).2.2.2.2, sem_eq_zero_of_no_sems (by decide) r.2⟩) (Value.run m ρ)

theorem stacked (g0 g1 g2 g3 : FVec Ideal S256x1024 .f32) : (concatenate S4x256x1024 0 [⟨S1x256x1024, broadcastInDim S1x256x1024 ![1, 2] bcast_S256x1024_S1x256x1024_1_2 g0⟩, ⟨S1x256x1024, broadcastInDim S1x256x1024 ![1, 2] bcast_S256x1024_S1x256x1024_1_2 g1⟩,
    ⟨S1x256x1024, broadcastInDim S1x256x1024 ![1, 2] bcast_S256x1024_S1x256x1024_1_2 g2⟩, ⟨S1x256x1024, broadcastInDim S1x256x1024 ![1, 2] bcast_S256x1024_S1x256x1024_1_2 g3⟩] concatenates_S1x256x1024_S1x256x1024_S1x256x1024_S1x256x1024_S4x256x1024_d0 : FVec Ideal S4x256x1024 .f32) = stack g0 g1 g2 g3 := by
  funext i
  obtain ⟨s, p, q, rfl⟩ : ∃ (s : Fin 4) (p : Fin 256) (q : Fin 1024), ix3 s p q = i := ⟨i 0, i 1, i 2, funext fun b => by fin_cases b <;> rfl⟩
  match s with
  | ⟨0, _⟩ => pointwise []; rfl
  | ⟨1, _⟩ => pointwise []; rfl
  | ⟨2, _⟩ => pointwise []; rfl
  | ⟨3, _⟩ => pointwise []; rfl

end Cert.Reference37Ideal.Read

namespace Cert.Kernel37Ideal.Body
open Idealize.ShloMosaic Idealize.ShloMosaic.TcCoe Idealize.SL.Sem Cert.Adam

theorem algebraic : Cert.algebraic_Kernel37Ideal_Reference37Ideal := by
  intro m g m' g' hpre hag
  refine ⟨fun c => Cert.Kernel37Ideal.Gen.V7 m g c Cert.Kernel37Ideal.main_v3_0, fun c => Cert.Kernel37Ideal.Gen.V7 m g c Cert.Kernel37Ideal.main_v3_1, fun c => Cert.Kernel37Ideal.Gen.V7 m g c Cert.Kernel37Ideal.main_v3_2, fun c => Cert.Kernel37Ideal.Gen.V7 m g c Cert.Kernel37Ideal.main_v3_3, run m g, ?_⟩
  refine (θ_run Cert.Reference37Ideal.defs _ _).mono (fun r h c => ?_) (Cert.Reference37Ideal.Value.run m' g')
  obtain ⟨h0, h1, h2, h3, ha⟩ := h c
  obtain ⟨e0, e1, e2, e3, e4, e5, e6⟩ := hag c
  rw [Cert.Reference37Ideal.Read.stacked] at h0 h1 h2 h3
  rw [e1, e2, e3, e4] at h0
  rw [e0, e1, e2, e3, e4, e5, e6] at h1
  rw [e1, e2, e3, e4, e5] at h2
  rw [e1, e2, e3, e4, e6] at h3
  have hv := value m g c
  exact ⟨h0.trans (congrFun hv 0).symm, h1.trans (congrFun hv 1).symm, h2.trans (congrFun hv 2).symm, h3.trans (congrFun hv 3).symm, ha⟩

end Cert.Kernel37Ideal.Body

end
-- ==== Proof.AdamIn.lean ====
module

public import proofs.«01_k».proof.Defs
public import proofs.«01_k».proof.Proof.Gen.Kernel38Ideal.Frame
public import proofs.«01_k».proof.Proof.Gen.Reference38Ideal.Run
public import proofs.«01_k».proof.Proof.AdamLayers
public import Idealize.ShloMosaic.Lib.StableHlo.ReadAt
public import Idealize.ShloMosaic.Lib.Pointwise
public import Idealize.ShloMosaic.Lib.Tactic
public import Idealize.ShloMosaic.Lib.Quiescent
public import Idealize.ShloMosaic.PureOps.Ideal.Laws

/-! The optimiser's steps of w_in, one layer after the other. -/

@[expose] public section
set_option maxRecDepth 16384
noncomputable section

namespace Cert.Kernel38Ideal.Body
open Cert.Kernel38Ideal Cert.Kernel38Ideal.Gen Idealize.ShloMosaic Idealize.ShloMosaic.TcCoe Idealize.SL.Sem Cert.Adam
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

/-- One after the other, what a point leaves in the four results. -/
def four (p : FVec Ideal S1x256x576 .f32 × FVec Ideal S1x256x576 .f32 × FVec Ideal S1x256x576 .f32 × FVec Ideal S1x256x576 .f32) : Fin 4 → FVec Ideal S1x256x576 .f32 := ![p.1, p.2.1, p.2.2.1, p.2.2.2]

/-- What a point leaves: the step of its block. -/
def step (x0 : FVec Ideal S1x256x576 .f32) (x1 : FVec Ideal S256x576 .f32) (x2 x3 : FVec Ideal S1x256x576 .f32) :
    FVec Ideal S1x256x576 .f32 × FVec Ideal S1x256x576 .f32 × FVec Ideal S1x256x576 .f32 × FVec Ideal S1x256x576 .f32 :=
  (spread 1 x1, change x0 (spread 1 x1) x2 x3, first (spread 1 x1) x2, second (spread 1 x1) x3)

theorem pay (x0 : FVec Ideal S1x256x576 .f32) (x1 : FVec Ideal S256x576 .f32) (x2 x3 : FVec Ideal S1x256x576 .f32) :
    (k0_pay6 x1, k0_pay1 (k0_pay7 x1 x2 x3 x0), k0_pay2 (k0_pay4 x1 x2), k0_pay3 (k0_pay5 x1 x3)) = step x0 x1 x2 x3 := by
  have up (y : FVec Ideal S256x576 .f32) (a : Fin 1) (p : Fin 256) (q : Fin 576) : shapeCast S1x256x576 y shapeCasts_S256x576_S1x256x576 (ix3 a p q) = y (ix2 p q) := by
    obtain rfl := Subsingleton.elim a 0
    pointwise []
  have dn (y : FVec Ideal S1x256x576 .f32) : shapeCast S256x576 y shapeCasts_S1x256x576_S256x576 = fun j => y (ix3 (0 : Fin 1) (j 0 : Fin 256) (j 1 : Fin 576)) := by
    funext j
    obtain ⟨p, q, rfl⟩ : ∃ (p : Fin 256) (q : Fin 576), ix2 p q = j := ⟨j 0, j 1, funext fun b => by fin_cases b <;> rfl⟩
    pointwise []
  refine Prod.ext (funext fun i => ?_) (Prod.ext (funext fun i => ?_) (Prod.ext (funext fun i => ?_) (funext fun i => ?_)))
  all_goals
    obtain ⟨a, p, q, rfl⟩ : ∃ (a : Fin 1) (p : Fin 256) (q : Fin 576), ix3 a p q = i := ⟨i 0, i 1, i 2, funext fun b => by fin_cases b <;> rfl⟩
    obtain rfl := Subsingleton.elim a 0
  · exact up x1 0 p q
  · refine (up (k0_pay7 x1 x2 x3 x0) 0 p q).trans ?_
    simp only [k0_pay7, k0_pay4, k0_pay5, dn]
    rfl
  · refine (up (k0_pay4 x1 x2) 0 p q).trans ?_
    simp only [k0_pay4, dn]
    rfl
  · refine (up (k0_pay5 x1 x3) 0 p q).trans ?_
    simp only [k0_pay5, dn]
    rfl

variable (V : (c : Dev nD) → (b : Ref sig .tc) → Buf (Elt Ideal) ((c : Thread nD τ).loc b)) (c : Dev nD)

/-! The region of layer 3. -/

def outsAt0 (t : Fin cfg0.N) : FVec Ideal S1x256x576 .f32 × FVec Ideal S1x256x576 .f32 × FVec Ideal S1x256x576 .f32 × FVec Ideal S1x256x576 .f32 :=
  (out0_4 (iblk0 V c 0 t) (iblk0 V c 1 t) (iblk0 V c 2 t) (iblk0 V c 3 t), out0_5 (iblk0 V c 0 t) (iblk0 V c 1 t) (iblk0 V c 2 t) (iblk0 V c 3 t), out0_6 (iblk0 V c 0 t) (iblk0 V c 1 t) (iblk0 V c 2 t) (iblk0 V c 3 t), out0_7 (iblk0 V c 0 t) (iblk0 V c 1 t) (iblk0 V c 2 t) (iblk0 V c 3 t))

theorem outs0 (t : Fin cfg0.N) : outsAt0 V c t = step (iblk0 V c 0 t) (iblk0 V c 1 t) (iblk0 V c 2 t) (iblk0 V c 3 t) := by
  refine Eq.trans ?_ (pay _ _ _ _)
  unfold outsAt0 out0_4 out0_5 out0_6 out0_7
  rw [View.canon_unit_zero hz3, View.canon_unit_zero hz3, View.canon_unit_zero hz3, View.canon_unit_zero hz3]
  simp only [View.ld_unit_zero (S := S1x256x576) hz3, View.ld_unit_zero (S := S256x576) hz]

theorem left0 (t : Fin cfg0.N) : (![(dat0 V c).after 4 t, (dat0 V c).after 5 t, (dat0 V c).after 6 t, (dat0 V c).after 7 t] : Fin 4 → FVec Ideal S1x256x576 .f32) = quad (iblk0 V c 0 t) (iblk0 V c 2 t) (iblk0 V c 3 t) (spread 1 (iblk0 V c 1 t)) := by
  have e4 : (dat0 V c).after 4 t = (outsAt0 V c t).1 := by dsimp only [dat0, outsAt0]
  have e5 : (dat0 V c).after 5 t = (outsAt0 V c t).2.1 := by dsimp only [dat0, outsAt0]
  have e6 : (dat0 V c).after 6 t = (outsAt0 V c t).2.2.1 := by dsimp only [dat0, outsAt0]
  have e7 : (dat0 V c).after 7 t = (outsAt0 V c t).2.2.2 := by dsimp only [dat0, outsAt0]
  rw [e4, e5, e6, e7]
  exact congrArg four (outs0 V c t)

theorem idx0 : ∀ t : Fin cfg0.N, (win0_4.index t 0 = 3 ∧ win0_4.index t 1 = t.val ∧ win0_4.index t 2 = 0) ∧ win0_1.index t 0 = t.val ∧ win0_1.index t 1 = 0 := by decide +kernel

theorem mem0 (i : S4x1024x576.Idx) : (∃ t : Fin cfg0.N, i ∈ ((cfg0.win 4).blk t).view.set) ↔ (i 0).val = 3 :=
  (exists_congr fun t => show i ∈ ((View.whole main_v0_0).slice (win0_4.rect t)).set ↔ _ by rw [View.set_slice_whole, Rect.mem_set_unit]; exact Iff.rfl).trans
    (rows win0_4.index (by decide : 0 < 256) (show grid0.N * 256 = 1024 by rw [N_0]) (fun t => (idx0 t).1) i)

theorem grad0 (t : Fin cfg0.N) (x : S1x256x576.Idx) : spread 1 (iblk0 V c 1 t) x = spread 4 (V c main_arg4) (((cfg0.win 4).blk t).view.emb x) := by
  refine congrArg (V c main_arg4) (funext fun a => Fin.ext ?_)
  match a with
  | ⟨0, _⟩ => show win0_1.index t 0 * 256 + 1 * (x 1).val = win0_4.index t 1 * 256 + 1 * (x 1).val; rw [(idx0 t).1.2.1, (idx0 t).2.1]
  | ⟨1, _⟩ => show win0_1.index t 1 * 576 + 1 * (x 2).val = win0_4.index t 2 * 576 + 1 * (x 2).val; rw [(idx0 t).1.2.2, (idx0 t).2.2]

/-- What the region leaves in its four arrays. -/
theorem arr0 : (![(dat0 V c).arrAt 4 cfg0.N, (dat0 V c).arrAt 5 cfg0.N, (dat0 V c).arrAt 6 cfg0.N, (dat0 V c).arrAt 7 cfg0.N] : Fin 4 → FVec Ideal S4x1024x576 .f32) =
    layer 3 (V c main_arg0) (V c main_arg4) (V c main_arg5) (V c main_arg6) ![V c main_v0_0, V c main_v0_1, V c main_v0_2, V c main_v0_3] := by
  let Q : Fin 4 → FVec Ideal S4x1024x576 .f32 := quad (V c main_arg0) (V c main_arg5) (V c main_arg6) (spread 4 (V c main_arg4))
  have key (t : Fin cfg0.N) (j : Fin 4) (x : S1x256x576.Idx) : (![(dat0 V c).after 4 t, (dat0 V c).after 5 t, (dat0 V c).after 6 t, (dat0 V c).after 7 t] : Fin 4 → FVec Ideal S1x256x576 .f32) j x = Q j (((cfg0.win 4).blk t).view.emb x) := by
    rw [left0]
    exact quad_at _ _ _ _ _ _ _ _ j x _ rfl rfl rfl (grad0 V c t x)
  funext j i
  match j with
  | ⟨0, _⟩ => exact ((dat0 V c).arrAt_eq_piecewise 4 (Q 0) (fun t _ => funext (key t 0)) i).trans (if_congr (drop flush0_4 (mem0 i)) rfl rfl)
  | ⟨1, _⟩ => exact ((dat0 V c).arrAt_eq_piecewise 5 (Q 1) (fun t _ => funext (key t 1)) i).trans (if_congr (drop flush0_5 (mem0 i)) rfl rfl)
  | ⟨2, _⟩ => exact ((dat0 V c).arrAt_eq_piecewise 6 (Q 2) (fun t _ => funext (key t 2)) i).trans (if_congr (drop flush0_6 (mem0 i)) rfl rfl)
  | ⟨3, _⟩ => exact ((dat0 V c).arrAt_eq_piecewise 7 (Q 3) (fun t _ => funext (key t 3)) i).trans (if_congr (drop flush0_7 (mem0 i)) rfl rfl)

/-! The region of layer 2. -/

set_option maxHeartbeats 2000000 in
theorem outs1 (t : Fin cfg1.N) : outsAt1 V c t = step (iblk1 V c 0 t) (iblk1 V c 1 t) (iblk1 V c 2 t) (iblk1 V c 3 t) := by
  refine Eq.trans ?_ (pay _ _ _ _)
  unfold outsAt1 out1_A_4 out1_A_5 out1_A_6 out1_A_7
  rw [View.read_writes_junk_eq_canon, View.read_writes_junk_eq_canon, View.read_writes_junk_eq_canon, View.read_writes_junk_eq_canon]
  unfold kernelRun1_A
  dsimp only
  sl_unfold_words
  rw [View.canon_unit_zero hz3, View.canon_unit_zero hz3, View.canon_unit_zero hz3, View.canon_unit_zero hz3]
  simp only [View.readAt_eq_ld, Memref.IsWhole.read_unread]
  simp only [View.ld_unit_zero (S := S1x256x576) hz3, View.ld_unit_zero (S := S256x576) hz]
  rfl

theorem left1 (t : Fin cfg1.N) : (![(dat1 V c).after 4 t, (dat1 V c).after 5 t, (dat1 V c).after 6 t, (dat1 V c).after 7 t] : Fin 4 → FVec Ideal S1x256x576 .f32) = quad (iblk1 V c 0 t) (iblk1 V c 2 t) (iblk1 V c 3 t) (spread 1 (iblk1 V c 1 t)) := by
  rw [after1_4, after1_5, after1_6, after1_7]
  exact congrArg four (outs1 V c t)

theorem idx1 : ∀ t : Fin cfg1.N, (win1_4.index t 0 = 2 ∧ win1_4.index t 1 = t.val ∧ win1_4.index t 2 = 0) ∧ win1_1.index t 0 = t.val ∧ win1_1.index t 1 = 0 := by decide +kernel

theorem mem1 (i : S4x1024x576.Idx) : (∃ t : Fin cfg1.N, i ∈ ((cfg1.win 4).blk t).view.set) ↔ (i 0).val = 2 :=
  (exists_congr fun t => show i ∈ ((View.whole main_v1_0).slice (win1_4.rect t)).set ↔ _ by rw [View.set_slice_whole, Rect.mem_set_unit]; exact Iff.rfl).trans
    (rows win1_4.index (by decide : 0 < 256) (show grid1.N * 256 = 1024 by rw [N_1]) (fun t => (idx1 t).1) i)

theorem grad1 (t : Fin cfg1.N) (x : S1x256x576.Idx) : spread 1 (iblk1 V c 1 t) x = spread 4 (V c main_arg3) (((cfg1.win 4).blk t).view.emb x) := by
  refine congrArg (V c main_arg3) (funext fun a => Fin.ext ?_)
  match a with
  | ⟨0, _⟩ => show win1_1.index t 0 * 256 + 1 * (x 1).val = win1_4.index t 1 * 256 + 1 * (x 1).val; rw [(idx1 t).1.2.1, (idx1 t).2.1]
  | ⟨1, _⟩ => show win1_1.index t 1 * 576 + 1 * (x 2).val = win1_4.index t 2 * 576 + 1 * (x 2).val; rw [(idx1 t).1.2.2, (idx1 t).2.2]

/-- What the region leaves in its four arrays. -/
theorem arr1 : (![(dat1 V c).arrAt 4 cfg1.N, (dat1 V c).arrAt 5 cfg1.N, (dat1 V c).arrAt 6 cfg1.N, (dat1 V c).arrAt 7 cfg1.N] : Fin 4 → FVec Ideal S4x1024x576 .f32) =
    layer 2 (V c main_arg0) (V c main_arg3) (V c main_arg5) (V c main_arg6) ![V c main_v1_0, V c main_v1_1, V c main_v1_2, V c main_v1_3] := by
  let Q : Fin 4 → FVec Ideal S4x1024x576 .f32 := quad (V c main_arg0) (V c main_arg5) (V c main_arg6) (spread 4 (V c main_arg3))
  have key (t : Fin cfg1.N) (j : Fin 4) (x : S1x256x576.Idx) : (![(dat1 V c).after 4 t, (dat1 V c).after 5 t, (dat1 V c).after 6 t, (dat1 V c).after 7 t] : Fin 4 → FVec Ideal S1x256x576 .f32) j x = Q j (((cfg1.win 4).blk t).view.emb x) := by
    rw [left1]
    exact quad_at _ _ _ _ _ _ _ _ j x _ rfl rfl rfl (grad1 V c t x)
  funext j i
  match j with
  | ⟨0, _⟩ => exact ((dat1 V c).arrAt_eq_piecewise 4 (Q 0) (fun t _ => funext (key t 0)) i).trans (if_congr (drop flush1_4 (mem1 i)) rfl rfl)
  | ⟨1, _⟩ => exact ((dat1 V c).arrAt_eq_piecewise 5 (Q 1) (fun t _ => funext (key t 1)) i).trans (if_congr (drop flush1_5 (mem1 i)) rfl rfl)
  | ⟨2, _⟩ => exact ((dat1 V c).arrAt_eq_piecewise 6 (Q 2) (fun t _ => funext (key t 2)) i).trans (if_congr (drop flush1_6 (mem1 i)) rfl rfl)
  | ⟨3, _⟩ => exact ((dat1 V c).arrAt_eq_piecewise 7 (Q 3) (fun t _ => funext (key t 3)) i).trans (if_congr (drop flush1_7 (mem1 i)) rfl rfl)

/-! The region of layer 1. -/

set_option maxHeartbeats 2000000 in
theorem outs2 (t : Fin cfg2.N) : outsAt2 V c t = step (iblk2 V c 0 t) (iblk2 V c 1 t) (iblk2 V c 2 t) (iblk2 V c 3 t) := by
  refine Eq.trans ?_ (pay _ _ _ _)
  unfold outsAt2 out2_A_4 out2_A_5 out2_A_6 out2_A_7
  rw [View.read_writes_junk_eq_canon, View.read_writes_junk_eq_canon, View.read_writes_junk_eq_canon, View.read_writes_junk_eq_canon]
  unfold kernelRun2_A
  dsimp only
  sl_unfold_words
  rw [View.canon_unit_zero hz3, View.canon_unit_zero hz3, View.canon_unit_zero hz3, View.canon_unit_zero hz3]
  simp only [View.readAt_eq_ld, Memref.IsWhole.read_unread]
  simp only [View.ld_unit_zero (S := S1x256x576) hz3, View.ld_unit_zero (S := S256x576) hz]
  rfl

theorem left2 (t : Fin cfg2.N) : (![(dat2 V c).after 4 t, (dat2 V c).after 5 t, (dat2 V c).after 6 t, (dat2 V c).after 7 t] : Fin 4 → FVec Ideal S1x256x576 .f32) = quad (iblk2 V c 0 t) (iblk2 V c 2 t) (iblk2 V c 3 t) (spread 1 (iblk2 V c 1 t)) := by
  rw [after2_4, after2_5, after2_6, after2_7]
  exact congrArg four (outs2 V c t)

theorem idx2 : ∀ t : Fin cfg2.N, (win2_4.index t 0 = 1 ∧ win2_4.index t 1 = t.val ∧ win2_4.index t 2 = 0) ∧ win2_1.index t 0 = t.val ∧ win2_1.index t 1 = 0 := by decide +kernel

theorem mem2 (i : S4x1024x576.Idx) : (∃ t : Fin cfg2.N, i ∈ ((cfg2.win 4).blk t).view.set) ↔ (i 0).val = 1 :=
  (exists_congr fun t => show i ∈ ((View.whole main_v2_0).slice (win2_4.rect t)).set ↔ _ by rw [View.set_slice_whole, Rect.mem_set_unit]; exact Iff.rfl).trans
    (rows win2_4.index (by decide : 0 < 256) (show grid2.N * 256 = 1024 by rw [N_2]) (fun t => (idx2 t).1) i)

theorem grad2 (t : Fin cfg2.N) (x : S1x256x576.Idx) : spread 1 (iblk2 V c 1 t) x = spread 4 (V c main_arg2) (((cfg2.win 4).blk t).view.emb x) := by
  refine congrArg (V c main_arg2) (funext fun a => Fin.ext ?_)
  match a with
  | ⟨0, _⟩ => show win2_1.index t 0 * 256 + 1 * (x 1).val = win2_4.index t 1 * 256 + 1 * (x 1).val; rw [(idx2 t).1.2.1, (idx2 t).2.1]
  | ⟨1, _⟩ => show win2_1.index t 1 * 576 + 1 * (x 2).val = win2_4.index t 2 * 576 + 1 * (x 2).val; rw [(idx2 t).1.2.2, (idx2 t).2.2]

/-- What the region leaves in its four arrays. -/
theorem arr2 : (![(dat2 V c).arrAt 4 cfg2.N, (dat2 V c).arrAt 5 cfg2.N, (dat2 V c).arrAt 6 cfg2.N, (dat2 V c).arrAt 7 cfg2.N] : Fin 4 → FVec Ideal S4x1024x576 .f32) =
    layer 1 (V c main_arg0) (V c main_arg2) (V c main_arg5) (V c main_arg6) ![V c main_v2_0, V c main_v2_1, V c main_v2_2, V c main_v2_3] := by
  let Q : Fin 4 → FVec Ideal S4x1024x576 .f32 := quad (V c main_arg0) (V c main_arg5) (V c main_arg6) (spread 4 (V c main_arg2))
  have key (t : Fin cfg2.N) (j : Fin 4) (x : S1x256x576.Idx) : (![(dat2 V c).after 4 t, (dat2 V c).after 5 t, (dat2 V c).after 6 t, (dat2 V c).after 7 t] : Fin 4 → FVec Ideal S1x256x576 .f32) j x = Q j (((cfg2.win 4).blk t).view.emb x) := by
    rw [left2]
    exact quad_at _ _ _ _ _ _ _ _ j x _ rfl rfl rfl (grad2 V c t x)
  funext j i
  match j with
  | ⟨0, _⟩ => exact ((dat2 V c).arrAt_eq_piecewise 4 (Q 0) (fun t _ => funext (key t 0)) i).trans (if_congr (drop flush2_4 (mem2 i)) rfl rfl)
  | ⟨1, _⟩ => exact ((dat2 V c).arrAt_eq_piecewise 5 (Q 1) (fun t _ => funext (key t 1)) i).trans (if_congr (drop flush2_5 (mem2 i)) rfl rfl)
  | ⟨2, _⟩ => exact ((dat2 V c).arrAt_eq_piecewise 6 (Q 2) (fun t _ => funext (key t 2)) i).trans (if_congr (drop flush2_6 (mem2 i)) rfl rfl)
  | ⟨3, _⟩ => exact ((dat2 V c).arrAt_eq_piecewise 7 (Q 3) (fun t _ => funext (key t 3)) i).trans (if_congr (drop flush2_7 (mem2 i)) rfl rfl)

/-! The region of layer 0. -/

set_option maxHeartbeats 2000000 in
theorem outs3 (t : Fin cfg3.N) : outsAt3 V c t = step (iblk3 V c 0 t) (iblk3 V c 1 t) (iblk3 V c 2 t) (iblk3 V c 3 t) := by
  refine Eq.trans ?_ (pay _ _ _ _)
  unfold outsAt3 out3_A_4 out3_A_5 out3_A_6 out3_A_7
  rw [View.read_writes_junk_eq_canon, View.read_writes_junk_eq_canon, View.read_writes_junk_eq_canon, View.read_writes_junk_eq_canon]
  unfold kernelRun3_A
  dsimp only
  sl_unfold_words
  rw [View.canon_unit_zero hz3, View.canon_unit_zero hz3, View.canon_unit_zero hz3, View.canon_unit_zero hz3]
  simp only [View.readAt_eq_ld, Memref.IsWhole.read_unread]
  simp only [View.ld_unit_zero (S := S1x256x576) hz3, View.ld_unit_zero (S := S256x576) hz]
  rfl

theorem left3 (t : Fin cfg3.N) : (![(dat3 V c).after 4 t, (dat3 V c).after 5 t, (dat3 V c).after 6 t, (dat3 V c).after 7 t] : Fin 4 → FVec Ideal S1x256x576 .f32) = quad (iblk3 V c 0 t) (iblk3 V c 2 t) (iblk3 V c 3 t) (spread 1 (iblk3 V c 1 t)) := by
  rw [after3_4, after3_5, after3_6, after3_7]
  exact congrArg four (outs3 V c t)

theorem idx3 : ∀ t : Fin cfg3.N, (win3_4.index t 0 = 0 ∧ win3_4.index t 1 = t.val ∧ win3_4.index t 2 = 0) ∧ win3_1.index t 0 = t.val ∧ win3_1.index t 1 = 0 := by decide +kernel

theorem mem3 (i : S4x1024x576.Idx) : (∃ t : Fin cfg3.N, i ∈ ((cfg3.win 4).blk t).view.set) ↔ (i 0).val = 0 :=
  (exists_congr fun t => show i ∈ ((View.whole main_v3_0).slice (win3_4.rect t)).set ↔ _ by rw [View.set_slice_whole, Rect.mem_set_unit]; exact Iff.rfl).trans
    (rows win3_4.index (by decide : 0 < 256) (show grid3.N * 256 = 1024 by rw [N_3]) (fun t => (idx3 t).1) i)

theorem grad3 (t : Fin cfg3.N) (x : S1x256x576.Idx) : spread 1 (iblk3 V c 1 t) x = spread 4 (V c main_arg1) (((cfg3.win 4).blk t).view.emb x) := by
  refine congrArg (V c main_arg1) (funext fun a => Fin.ext ?_)
  match a with
  | ⟨0, _⟩ => show win3_1.index t 0 * 256 + 1 * (x 1).val = win3_4.index t 1 * 256 + 1 * (x 1).val; rw [(idx3 t).1.2.1, (idx3 t).2.1]
  | ⟨1, _⟩ => show win3_1.index t 1 * 576 + 1 * (x 2).val = win3_4.index t 2 * 576 + 1 * (x 2).val; rw [(idx3 t).1.2.2, (idx3 t).2.2]

/-- What the region leaves in its four arrays. -/
theorem arr3 : (![(dat3 V c).arrAt 4 cfg3.N, (dat3 V c).arrAt 5 cfg3.N, (dat3 V c).arrAt 6 cfg3.N, (dat3 V c).arrAt 7 cfg3.N] : Fin 4 → FVec Ideal S4x1024x576 .f32) =
    layer 0 (V c main_arg0) (V c main_arg1) (V c main_arg5) (V c main_arg6) ![V c main_v3_0, V c main_v3_1, V c main_v3_2, V c main_v3_3] := by
  let Q : Fin 4 → FVec Ideal S4x1024x576 .f32 := quad (V c main_arg0) (V c main_arg5) (V c main_arg6) (spread 4 (V c main_arg1))
  have key (t : Fin cfg3.N) (j : Fin 4) (x : S1x256x576.Idx) : (![(dat3 V c).after 4 t, (dat3 V c).after 5 t, (dat3 V c).after 6 t, (dat3 V c).after 7 t] : Fin 4 → FVec Ideal S1x256x576 .f32) j x = Q j (((cfg3.win 4).blk t).view.emb x) := by
    rw [left3]
    exact quad_at _ _ _ _ _ _ _ _ j x _ rfl rfl rfl (grad3 V c t x)
  funext j i
  match j with
  | ⟨0, _⟩ => exact ((dat3 V c).arrAt_eq_piecewise 4 (Q 0) (fun t _ => funext (key t 0)) i).trans (if_congr (drop flush3_4 (mem3 i)) rfl rfl)
  | ⟨1, _⟩ => exact ((dat3 V c).arrAt_eq_piecewise 5 (Q 1) (fun t _ => funext (key t 1)) i).trans (if_congr (drop flush3_5 (mem3 i)) rfl rfl)
  | ⟨2, _⟩ => exact ((dat3 V c).arrAt_eq_piecewise 6 (Q 2) (fun t _ => funext (key t 2)) i).trans (if_congr (drop flush3_6 (mem3 i)) rfl rfl)
  | ⟨3, _⟩ => exact ((dat3 V c).arrAt_eq_piecewise 7 (Q 3) (fun t _ => funext (key t 3)) i).trans (if_congr (drop flush3_7 (mem3 i)) rfl rfl)

end Cert.Kernel38Ideal.Body

namespace Cert.Kernel38Ideal.Body
open Cert.Kernel38Ideal Cert.Kernel38Ideal.Gen Idealize.ShloMosaic Idealize.ShloMosaic.TcCoe Idealize.SL.Sem Cert.Adam
open Idealize.ShloMosaic.StableHlo (after)
variable (m : (ℓ : Loc nD τ sig) → Buf (Elt Ideal) ℓ) (ρ : Dev nD → PrngReg) (c : Dev nD)

theorem res0 : (![V1 m ρ c main_v0_0, V1 m ρ c main_v0_1, V1 m ρ c main_v0_2, V1 m ρ c main_v0_3] : Fin 4 → FVec Ideal S4x1024x576 .f32) = layer 3 (m ((c : Thread nD τ).loc main_arg0)) (m ((c : Thread nD τ).loc main_arg4)) (m ((c : Thread nD τ).loc main_arg5)) (m ((c : Thread nD τ).loc main_arg6)) ![V0 m ρ c main_v0_0, V0 m ρ c main_v0_1, V0 m ρ c main_v0_2, V0 m ρ c main_v0_3] := by
  have e (b) (hb : b ∈ argRefs) : V0 m ρ c b = m ((c : Thread nD τ).loc b) := W0_args m ρ c b hb
  rw [← e main_arg0 (by decide), ← e main_arg4 (by decide), ← e main_arg5 (by decide), ← e main_arg6 (by decide)]
  rw [← arr0]
  funext j
  match j with
  | ⟨0, _⟩ => exact W1_arr m ρ c 4
  | ⟨1, _⟩ => exact W1_arr m ρ c 5
  | ⟨2, _⟩ => exact W1_arr m ρ c 6
  | ⟨3, _⟩ => exact W1_arr m ρ c 7

theorem res1 : (![V3 m ρ c main_v1_0, V3 m ρ c main_v1_1, V3 m ρ c main_v1_2, V3 m ρ c main_v1_3] : Fin 4 → FVec Ideal S4x1024x576 .f32) = layer 2 (m ((c : Thread nD τ).loc main_arg0)) (m ((c : Thread nD τ).loc main_arg3)) (m ((c : Thread nD τ).loc main_arg5)) (m ((c : Thread nD τ).loc main_arg6)) ![V1 m ρ c main_v0_0, V1 m ρ c main_v0_1, V1 m ρ c main_v0_2, V1 m ρ c main_v0_3] := by
  have e (b) (hb : b ∈ argRefs) : V2 m ρ c b = m ((c : Thread nD τ).loc b) := W2_args m ρ c b hb
  rw [← e main_arg0 (by decide), ← e main_arg3 (by decide), ← e main_arg5 (by decide), ← e main_arg6 (by decide)]
  obtain ⟨h0, h1, h2, h3⟩ : V2 m ρ c main_v1_0 = V1 m ρ c main_v0_0 ∧ V2 m ρ c main_v1_1 = V1 m ρ c main_v0_1 ∧ V2 m ρ c main_v1_2 = V1 m ρ c main_v0_2 ∧ V2 m ρ c main_v1_3 = V1 m ρ c main_v0_3 := by
    show after hostOps1 (W1 m ρ c) (Proc.devRef .tc main_v1_0) = _ ∧ after hostOps1 (W1 m ρ c) (Proc.devRef .tc main_v1_1) = _ ∧ after hostOps1 (W1 m ρ c) (Proc.devRef .tc main_v1_2) = _ ∧ after hostOps1 (W1 m ρ c) (Proc.devRef .tc main_v1_3) = _
    refine ⟨?_, ?_, ?_, ?_⟩ <;> (after_results_simp <;> rfl)
  rw [← h0, ← h1, ← h2, ← h3, ← arr1]
  funext j
  match j with
  | ⟨0, _⟩ => exact W3_arr m ρ c 4
  | ⟨1, _⟩ => exact W3_arr m ρ c 5
  | ⟨2, _⟩ => exact W3_arr m ρ c 6
  | ⟨3, _⟩ => exact W3_arr m ρ c 7

theorem res2 : (![V5 m ρ c main_v2_0, V5 m ρ c main_v2_1, V5 m ρ c main_v2_2, V5 m ρ c main_v2_3] : Fin 4 → FVec Ideal S4x1024x576 .f32) = layer 1 (m ((c : Thread nD τ).loc main_arg0)) (m ((c : Thread nD τ).loc main_arg2)) (m ((c : Thread nD τ).loc main_arg5)) (m ((c : Thread nD τ).loc main_arg6)) ![V3 m ρ c main_v1_0, V3 m ρ c main_v1_1, V3 m ρ c main_v1_2, V3 m ρ c main_v1_3] := by
  have e (b) (hb : b ∈ argRefs) : V4 m ρ c b = m ((c : Thread nD τ).loc b) := W4_args m ρ c b hb
  rw [← e main_arg0 (by decide), ← e main_arg2 (by decide), ← e main_arg5 (by decide), ← e main_arg6 (by decide)]
  obtain ⟨h0, h1, h2, h3⟩ : V4 m ρ c main_v2_0 = V3 m ρ c main_v1_0 ∧ V4 m ρ c main_v2_1 = V3 m ρ c main_v1_1 ∧ V4 m ρ c main_v2_2 = V3 m ρ c main_v1_2 ∧ V4 m ρ c main_v2_3 = V3 m ρ c main_v1_3 := by
    show after hostOps2 (W3 m ρ c) (Proc.devRef .tc main_v2_0) = _ ∧ after hostOps2 (W3 m ρ c) (Proc.devRef .tc main_v2_1) = _ ∧ after hostOps2 (W3 m ρ c) (Proc.devRef .tc main_v2_2) = _ ∧ after hostOps2 (W3 m ρ c) (Proc.devRef .tc main_v2_3) = _
    refine ⟨?_, ?_, ?_, ?_⟩ <;> (after_results_simp <;> rfl)
  rw [← h0, ← h1, ← h2, ← h3, ← arr2]
  funext j
  match j with
  | ⟨0, _⟩ => exact W5_arr m ρ c 4
  | ⟨1, _⟩ => exact W5_arr m ρ c 5
  | ⟨2, _⟩ => exact W5_arr m ρ c 6
  | ⟨3, _⟩ => exact W5_arr m ρ c 7

theorem res3 : (![V7 m ρ c main_v3_0, V7 m ρ c main_v3_1, V7 m ρ c main_v3_2, V7 m ρ c main_v3_3] : Fin 4 → FVec Ideal S4x1024x576 .f32) = layer 0 (m ((c : Thread nD τ).loc main_arg0)) (m ((c : Thread nD τ).loc main_arg1)) (m ((c : Thread nD τ).loc main_arg5)) (m ((c : Thread nD τ).loc main_arg6)) ![V5 m ρ c main_v2_0, V5 m ρ c main_v2_1, V5 m ρ c main_v2_2, V5 m ρ c main_v2_3] := by
  have e (b) (hb : b ∈ argRefs) : V6 m ρ c b = m ((c : Thread nD τ).loc b) := W6_args m ρ c b hb
  rw [← e main_arg0 (by decide), ← e main_arg1 (by decide), ← e main_arg5 (by decide), ← e main_arg6 (by decide)]
  obtain ⟨h0, h1, h2, h3⟩ : V6 m ρ c main_v3_0 = V5 m ρ c main_v2_0 ∧ V6 m ρ c main_v3_1 = V5 m ρ c main_v2_1 ∧ V6 m ρ c main_v3_2 = V5 m ρ c main_v2_2 ∧ V6 m ρ c main_v3_3 = V5 m ρ c main_v2_3 := by
    show after hostOps3 (W5 m ρ c) (Proc.devRef .tc main_v3_0) = _ ∧ after hostOps3 (W5 m ρ c) (Proc.devRef .tc main_v3_1) = _ ∧ after hostOps3 (W5 m ρ c) (Proc.devRef .tc main_v3_2) = _ ∧ after hostOps3 (W5 m ρ c) (Proc.devRef .tc main_v3_3) = _
    refine ⟨?_, ?_, ?_, ?_⟩ <;> (after_results_simp <;> rfl)
  rw [← h0, ← h1, ← h2, ← h3, ← arr3]
  funext j
  match j with
  | ⟨0, _⟩ => exact W7_arr m ρ c 4
  | ⟨1, _⟩ => exact W7_arr m ρ c 5
  | ⟨2, _⟩ => exact W7_arr m ρ c 6
  | ⟨3, _⟩ => exact W7_arr m ρ c 7

/-- The four results of the whole call. -/
theorem value : (![V7 m ρ c main_v3_0, V7 m ρ c main_v3_1, V7 m ρ c main_v3_2, V7 m ρ c main_v3_3] : Fin 4 → FVec Ideal S4x1024x576 .f32) = quad (m ((c : Thread nD τ).loc main_arg0)) (m ((c : Thread nD τ).loc main_arg5)) (m ((c : Thread nD τ).loc main_arg6))
    (stack (m ((c : Thread nD τ).loc main_arg1)) (m ((c : Thread nD τ).loc main_arg2)) (m ((c : Thread nD τ).loc main_arg3)) (m ((c : Thread nD τ).loc main_arg4))) := by
  rw [res3, res2, res1, res0]
  exact layers _ _ _ _ _ _ _ _

end Cert.Kernel38Ideal.Body

namespace Cert.Kernel38Ideal.Body
open Cert.Kernel38Ideal Cert.Kernel38Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable (m : (ℓ : Loc nD τ sig) → Buf (Elt Ideal) ℓ) (ρ : Dev nD → PrngReg)

/-- The run, with the results as the four regions leave them. -/
theorem run : θ_run defs (onTc (τ := τ) (main (F := Ideal))) ⟨m, fun _ => 0, ρ⟩ fun r => ∀ c : Dev nD,
      r.2.mem ((c : Thread nD τ).loc main_v3_0) = V7 m ρ c main_v3_0
      ∧ r.2.mem ((c : Thread nD τ).loc main_v3_1) = V7 m ρ c main_v3_1
      ∧ r.2.mem ((c : Thread nD τ).loc main_v3_2) = V7 m ρ c main_v3_2
      ∧ r.2.mem ((c : Thread nD τ).loc main_v3_3) = V7 m ρ c main_v3_3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c => ⟨h c _ (mem_uc main_v3_0 (by decide)), h c _ (mem_uc main_v3_1 (by decide)), h c _ (mem_uc main_v3_2 (by decide)), h c _ (mem_uc main_v3_3 (by decide)),
      (h c _ (mem_uc main_arg0 (by decide))).trans (W7_main_arg0 m ρ c), (h c _ (mem_uc main_arg1 (by decide))).trans (W7_main_arg1 m ρ c), (h c _ (mem_uc main_arg2 (by decide))).trans (W7_main_arg2 m ρ c), (h c _ (mem_uc main_arg3 (by decide))).trans (W7_main_arg3 m ρ c), (h c _ (mem_uc main_arg4 (by decide))).trans (W7_main_arg4 m ρ c), (h c _ (mem_uc main_arg5 (by decide))).trans (W7_main_arg5 m ρ c), (h c _ (mem_uc main_arg6 (by decide))).trans (W7_main_arg6 m ρ c)⟩)

end Cert.Kernel38Ideal.Body

namespace Cert.Reference38Ideal.Read
open Cert.Reference38Ideal Cert.Reference38Ideal.Gen Idealize.ShloMosaic Idealize.ShloMosaic.TcCoe Idealize.SL.Sem Cert.Adam

theorem frame : Cert.quiescent_Reference38Ideal := fun m ρ _ =>
  (θ_run defs _ _).mono (fun r h => ⟨fun c => (h c).2.2.2.2, sem_eq_zero_of_no_sems (by decide) r.2⟩) (Value.run m ρ)

theorem stacked (g0 g1 g2 g3 : FVec Ideal S1024x576 .f32) : (concatenate S4x1024x576 0 [⟨S1x1024x576, broadcastInDim S1x1024x576 ![1, 2] bcast_S1024x576_S1x1024x576_1_2 g0⟩, ⟨S1x1024x576, broadcastInDim S1x1024x576 ![1, 2] bcast_S1024x576_S1x1024x576_1_2 g1⟩,
    ⟨S1x1024x576, broadcastInDim S1x1024x576 ![1, 2] bcast_S1024x576_S1x1024x576_1_2 g2⟩, ⟨S1x1024x576, broadcastInDim S1x1024x576 ![1, 2] bcast_S1024x576_S1x1024x576_1_2 g3⟩] concatenates_S1x1024x576_S1x1024x576_S1x1024x576_S1x1024x576_S4x1024x576_d0 : FVec Ideal S4x1024x576 .f32) = stack g0 g1 g2 g3 := by
  funext i
  obtain ⟨s, p, q, rfl⟩ : ∃ (s : Fin 4) (p : Fin 1024) (q : Fin 576), ix3 s p q = i := ⟨i 0, i 1, i 2, funext fun b => by fin_cases b <;> rfl⟩
  match s with
  | ⟨0, _⟩ => pointwise []; rfl
  | ⟨1, _⟩ => pointwise []; rfl
  | ⟨2, _⟩ => pointwise []; rfl
  | ⟨3, _⟩ => pointwise []; rfl

end Cert.Reference38Ideal.Read

namespace Cert.Kernel38Ideal.Body
open Idealize.ShloMosaic Idealize.ShloMosaic.TcCoe Idealize.SL.Sem Cert.Adam

theorem algebraic : Cert.algebraic_Kernel38Ideal_Reference38Ideal := by
  intro m g m' g' hpre hag
  refine ⟨fun c => Cert.Kernel38Ideal.Gen.V7 m g c Cert.Kernel38Ideal.main_v3_0, fun c => Cert.Kernel38Ideal.Gen.V7 m g c Cert.Kernel38Ideal.main_v3_1, fun c => Cert.Kernel38Ideal.Gen.V7 m g c Cert.Kernel38Ideal.main_v3_2, fun c => Cert.Kernel38Ideal.Gen.V7 m g c Cert.Kernel38Ideal.main_v3_3, run m g, ?_⟩
  refine (θ_run Cert.Reference38Ideal.defs _ _).mono (fun r h c => ?_) (Cert.Reference38Ideal.Value.run m' g')
  obtain ⟨h0, h1, h2, h3, ha⟩ := h c
  obtain ⟨e0, e1, e2, e3, e4, e5, e6⟩ := hag c
  rw [Cert.Reference38Ideal.Read.stacked] at h0 h1 h2 h3
  rw [e1, e2, e3, e4] at h0
  rw [e0, e1, e2, e3, e4, e5, e6] at h1
  rw [e1, e2, e3, e4, e5] at h2
  rw [e1, e2, e3, e4, e6] at h3
  have hv := value m g c
  exact ⟨h0.trans (congrFun hv 0).symm, h1.trans (congrFun hv 1).symm, h2.trans (congrFun hv 2).symm, h3.trans (congrFun hv 3).symm, ha⟩

end Cert.Kernel38Ideal.Body

end
-- ==== Proof.AdamUp.lean ====
module

public import proofs.«01_k».proof.Defs
public import proofs.«01_k».proof.Proof.Gen.Kernel39Ideal.Frame
public import proofs.«01_k».proof.Proof.Gen.Reference39Ideal.Run
public import proofs.«01_k».proof.Proof.AdamLayers
public import Idealize.ShloMosaic.Lib.StableHlo.ReadAt
public import Idealize.ShloMosaic.Lib.Pointwise
public import Idealize.ShloMosaic.Lib.Tactic
public import Idealize.ShloMosaic.Lib.Quiescent
public import Idealize.ShloMosaic.PureOps.Ideal.Laws

/-! The optimiser's steps of w_up, one layer after the other. -/

@[expose] public section
set_option maxRecDepth 16384
noncomputable section

namespace Cert.Kernel39Ideal.Body
open Cert.Kernel39Ideal Cert.Kernel39Ideal.Gen Idealize.ShloMosaic Idealize.ShloMosaic.TcCoe Idealize.SL.Sem Cert.Adam
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

/-- One after the other, what a point leaves in the four results. -/
def four (p : FVec Ideal S1x256x1408 .f32 × FVec Ideal S1x256x1408 .f32 × FVec Ideal S1x256x1408 .f32 × FVec Ideal S1x256x1408 .f32) : Fin 4 → FVec Ideal S1x256x1408 .f32 := ![p.1, p.2.1, p.2.2.1, p.2.2.2]

/-- What a point leaves: the step of its block. -/
def step (x0 : FVec Ideal S1x256x1408 .f32) (x1 : FVec Ideal S256x1408 .f32) (x2 x3 : FVec Ideal S1x256x1408 .f32) :
    FVec Ideal S1x256x1408 .f32 × FVec Ideal S1x256x1408 .f32 × FVec Ideal S1x256x1408 .f32 × FVec Ideal S1x256x1408 .f32 :=
  (spread 1 x1, change x0 (spread 1 x1) x2 x3, first (spread 1 x1) x2, second (spread 1 x1) x3)

theorem pay (x0 : FVec Ideal S1x256x1408 .f32) (x1 : FVec Ideal S256x1408 .f32) (x2 x3 : FVec Ideal S1x256x1408 .f32) :
    (k0_pay6 x1, k0_pay1 (k0_pay7 x1 x2 x3 x0), k0_pay2 (k0_pay4 x1 x2), k0_pay3 (k0_pay5 x1 x3)) = step x0 x1 x2 x3 := by
  have up (y : FVec Ideal S256x1408 .f32) (a : Fin 1) (p : Fin 256) (q : Fin 1408) : shapeCast S1x256x1408 y shapeCasts_S256x1408_S1x256x1408 (ix3 a p q) = y (ix2 p q) := by
    obtain rfl := Subsingleton.elim a 0
    pointwise []
  have dn (y : FVec Ideal S1x256x1408 .f32) : shapeCast S256x1408 y shapeCasts_S1x256x1408_S256x1408 = fun j => y (ix3 (0 : Fin 1) (j 0 : Fin 256) (j 1 : Fin 1408)) := by
    funext j
    obtain ⟨p, q, rfl⟩ : ∃ (p : Fin 256) (q : Fin 1408), ix2 p q = j := ⟨j 0, j 1, funext fun b => by fin_cases b <;> rfl⟩
    pointwise []
  refine Prod.ext (funext fun i => ?_) (Prod.ext (funext fun i => ?_) (Prod.ext (funext fun i => ?_) (funext fun i => ?_)))
  all_goals
    obtain ⟨a, p, q, rfl⟩ : ∃ (a : Fin 1) (p : Fin 256) (q : Fin 1408), ix3 a p q = i := ⟨i 0, i 1, i 2, funext fun b => by fin_cases b <;> rfl⟩
    obtain rfl := Subsingleton.elim a 0
  · exact up x1 0 p q
  · refine (up (k0_pay7 x1 x2 x3 x0) 0 p q).trans ?_
    simp only [k0_pay7, k0_pay4, k0_pay5, dn]
    rfl
  · refine (up (k0_pay4 x1 x2) 0 p q).trans ?_
    simp only [k0_pay4, dn]
    rfl
  · refine (up (k0_pay5 x1 x3) 0 p q).trans ?_
    simp only [k0_pay5, dn]
    rfl

variable (V : (c : Dev nD) → (b : Ref sig .tc) → Buf (Elt Ideal) ((c : Thread nD τ).loc b)) (c : Dev nD)

/-! The region of layer 3. -/

def outsAt0 (t : Fin cfg0.N) : FVec Ideal S1x256x1408 .f32 × FVec Ideal S1x256x1408 .f32 × FVec Ideal S1x256x1408 .f32 × FVec Ideal S1x256x1408 .f32 :=
  (out0_4 (iblk0 V c 0 t) (iblk0 V c 1 t) (iblk0 V c 2 t) (iblk0 V c 3 t), out0_5 (iblk0 V c 0 t) (iblk0 V c 1 t) (iblk0 V c 2 t) (iblk0 V c 3 t), out0_6 (iblk0 V c 0 t) (iblk0 V c 1 t) (iblk0 V c 2 t) (iblk0 V c 3 t), out0_7 (iblk0 V c 0 t) (iblk0 V c 1 t) (iblk0 V c 2 t) (iblk0 V c 3 t))

theorem outs0 (t : Fin cfg0.N) : outsAt0 V c t = step (iblk0 V c 0 t) (iblk0 V c 1 t) (iblk0 V c 2 t) (iblk0 V c 3 t) := by
  refine Eq.trans ?_ (pay _ _ _ _)
  unfold outsAt0 out0_4 out0_5 out0_6 out0_7
  rw [View.canon_unit_zero hz3, View.canon_unit_zero hz3, View.canon_unit_zero hz3, View.canon_unit_zero hz3]
  simp only [View.ld_unit_zero (S := S1x256x1408) hz3, View.ld_unit_zero (S := S256x1408) hz]

theorem left0 (t : Fin cfg0.N) : (![(dat0 V c).after 4 t, (dat0 V c).after 5 t, (dat0 V c).after 6 t, (dat0 V c).after 7 t] : Fin 4 → FVec Ideal S1x256x1408 .f32) = quad (iblk0 V c 0 t) (iblk0 V c 2 t) (iblk0 V c 3 t) (spread 1 (iblk0 V c 1 t)) := by
  have e4 : (dat0 V c).after 4 t = (outsAt0 V c t).1 := by dsimp only [dat0, outsAt0]
  have e5 : (dat0 V c).after 5 t = (outsAt0 V c t).2.1 := by dsimp only [dat0, outsAt0]
  have e6 : (dat0 V c).after 6 t = (outsAt0 V c t).2.2.1 := by dsimp only [dat0, outsAt0]
  have e7 : (dat0 V c).after 7 t = (outsAt0 V c t).2.2.2 := by dsimp only [dat0, outsAt0]
  rw [e4, e5, e6, e7]
  exact congrArg four (outs0 V c t)

theorem idx0 : ∀ t : Fin cfg0.N, (win0_4.index t 0 = 3 ∧ win0_4.index t 1 = t.val ∧ win0_4.index t 2 = 0) ∧ win0_1.index t 0 = t.val ∧ win0_1.index t 1 = 0 := by decide +kernel

theorem mem0 (i : S4x1024x1408.Idx) : (∃ t : Fin cfg0.N, i ∈ ((cfg0.win 4).blk t).view.set) ↔ (i 0).val = 3 :=
  (exists_congr fun t => show i ∈ ((View.whole main_v0_0).slice (win0_4.rect t)).set ↔ _ by rw [View.set_slice_whole, Rect.mem_set_unit]; exact Iff.rfl).trans
    (rows win0_4.index (by decide : 0 < 256) (show grid0.N * 256 = 1024 by rw [N_0]) (fun t => (idx0 t).1) i)

theorem grad0 (t : Fin cfg0.N) (x : S1x256x1408.Idx) : spread 1 (iblk0 V c 1 t) x = spread 4 (V c main_arg4) (((cfg0.win 4).blk t).view.emb x) := by
  refine congrArg (V c main_arg4) (funext fun a => Fin.ext ?_)
  match a with
  | ⟨0, _⟩ => show win0_1.index t 0 * 256 + 1 * (x 1).val = win0_4.index t 1 * 256 + 1 * (x 1).val; rw [(idx0 t).1.2.1, (idx0 t).2.1]
  | ⟨1, _⟩ => show win0_1.index t 1 * 1408 + 1 * (x 2).val = win0_4.index t 2 * 1408 + 1 * (x 2).val; rw [(idx0 t).1.2.2, (idx0 t).2.2]

/-- What the region leaves in its four arrays. -/
theorem arr0 : (![(dat0 V c).arrAt 4 cfg0.N, (dat0 V c).arrAt 5 cfg0.N, (dat0 V c).arrAt 6 cfg0.N, (dat0 V c).arrAt 7 cfg0.N] : Fin 4 → FVec Ideal S4x1024x1408 .f32) =
    layer 3 (V c main_arg0) (V c main_arg4) (V c main_arg5) (V c main_arg6) ![V c main_v0_0, V c main_v0_1, V c main_v0_2, V c main_v0_3] := by
  let Q : Fin 4 → FVec Ideal S4x1024x1408 .f32 := quad (V c main_arg0) (V c main_arg5) (V c main_arg6) (spread 4 (V c main_arg4))
  have key (t : Fin cfg0.N) (j : Fin 4) (x : S1x256x1408.Idx) : (![(dat0 V c).after 4 t, (dat0 V c).after 5 t, (dat0 V c).after 6 t, (dat0 V c).after 7 t] : Fin 4 → FVec Ideal S1x256x1408 .f32) j x = Q j (((cfg0.win 4).blk t).view.emb x) := by
    rw [left0]
    exact quad_at _ _ _ _ _ _ _ _ j x _ rfl rfl rfl (grad0 V c t x)
  funext j i
  match j with
  | ⟨0, _⟩ => exact ((dat0 V c).arrAt_eq_piecewise 4 (Q 0) (fun t _ => funext (key t 0)) i).trans (if_congr (drop flush0_4 (mem0 i)) rfl rfl)
  | ⟨1, _⟩ => exact ((dat0 V c).arrAt_eq_piecewise 5 (Q 1) (fun t _ => funext (key t 1)) i).trans (if_congr (drop flush0_5 (mem0 i)) rfl rfl)
  | ⟨2, _⟩ => exact ((dat0 V c).arrAt_eq_piecewise 6 (Q 2) (fun t _ => funext (key t 2)) i).trans (if_congr (drop flush0_6 (mem0 i)) rfl rfl)
  | ⟨3, _⟩ => exact ((dat0 V c).arrAt_eq_piecewise 7 (Q 3) (fun t _ => funext (key t 3)) i).trans (if_congr (drop flush0_7 (mem0 i)) rfl rfl)

/-! The region of layer 2. -/

set_option maxHeartbeats 2000000 in
theorem outs1 (t : Fin cfg1.N) : outsAt1 V c t = step (iblk1 V c 0 t) (iblk1 V c 1 t) (iblk1 V c 2 t) (iblk1 V c 3 t) := by
  refine Eq.trans ?_ (pay _ _ _ _)
  unfold outsAt1 out1_A_4 out1_A_5 out1_A_6 out1_A_7
  rw [View.read_writes_junk_eq_canon, View.read_writes_junk_eq_canon, View.read_writes_junk_eq_canon, View.read_writes_junk_eq_canon]
  unfold kernelRun1_A
  dsimp only
  sl_unfold_words
  rw [View.canon_unit_zero hz3, View.canon_unit_zero hz3, View.canon_unit_zero hz3, View.canon_unit_zero hz3]
  simp only [View.readAt_eq_ld, Memref.IsWhole.read_unread]
  simp only [View.ld_unit_zero (S := S1x256x1408) hz3, View.ld_unit_zero (S := S256x1408) hz]
  rfl

theorem left1 (t : Fin cfg1.N) : (![(dat1 V c).after 4 t, (dat1 V c).after 5 t, (dat1 V c).after 6 t, (dat1 V c).after 7 t] : Fin 4 → FVec Ideal S1x256x1408 .f32) = quad (iblk1 V c 0 t) (iblk1 V c 2 t) (iblk1 V c 3 t) (spread 1 (iblk1 V c 1 t)) := by
  rw [after1_4, after1_5, after1_6, after1_7]
  exact congrArg four (outs1 V c t)

theorem idx1 : ∀ t : Fin cfg1.N, (win1_4.index t 0 = 2 ∧ win1_4.index t 1 = t.val ∧ win1_4.index t 2 = 0) ∧ win1_1.index t 0 = t.val ∧ win1_1.index t 1 = 0 := by decide +kernel

theorem mem1 (i : S4x1024x1408.Idx) : (∃ t : Fin cfg1.N, i ∈ ((cfg1.win 4).blk t).view.set) ↔ (i 0).val = 2 :=
  (exists_congr fun t => show i ∈ ((View.whole main_v1_0).slice (win1_4.rect t)).set ↔ _ by rw [View.set_slice_whole, Rect.mem_set_unit]; exact Iff.rfl).trans
    (rows win1_4.index (by decide : 0 < 256) (show grid1.N * 256 = 1024 by rw [N_1]) (fun t => (idx1 t).1) i)

theorem grad1 (t : Fin cfg1.N) (x : S1x256x1408.Idx) : spread 1 (iblk1 V c 1 t) x = spread 4 (V c main_arg3) (((cfg1.win 4).blk t).view.emb x) := by
  refine congrArg (V c main_arg3) (funext fun a => Fin.ext ?_)
  match a with
  | ⟨0, _⟩ => show win1_1.index t 0 * 256 + 1 * (x 1).val = win1_4.index t 1 * 256 + 1 * (x 1).val; rw [(idx1 t).1.2.1, (idx1 t).2.1]
  | ⟨1, _⟩ => show win1_1.index t 1 * 1408 + 1 * (x 2).val = win1_4.index t 2 * 1408 + 1 * (x 2).val; rw [(idx1 t).1.2.2, (idx1 t).2.2]

/-- What the region leaves in its four arrays. -/
theorem arr1 : (![(dat1 V c).arrAt 4 cfg1.N, (dat1 V c).arrAt 5 cfg1.N, (dat1 V c).arrAt 6 cfg1.N, (dat1 V c).arrAt 7 cfg1.N] : Fin 4 → FVec Ideal S4x1024x1408 .f32) =
    layer 2 (V c main_arg0) (V c main_arg3) (V c main_arg5) (V c main_arg6) ![V c main_v1_0, V c main_v1_1, V c main_v1_2, V c main_v1_3] := by
  let Q : Fin 4 → FVec Ideal S4x1024x1408 .f32 := quad (V c main_arg0) (V c main_arg5) (V c main_arg6) (spread 4 (V c main_arg3))
  have key (t : Fin cfg1.N) (j : Fin 4) (x : S1x256x1408.Idx) : (![(dat1 V c).after 4 t, (dat1 V c).after 5 t, (dat1 V c).after 6 t, (dat1 V c).after 7 t] : Fin 4 → FVec Ideal S1x256x1408 .f32) j x = Q j (((cfg1.win 4).blk t).view.emb x) := by
    rw [left1]
    exact quad_at _ _ _ _ _ _ _ _ j x _ rfl rfl rfl (grad1 V c t x)
  funext j i
  match j with
  | ⟨0, _⟩ => exact ((dat1 V c).arrAt_eq_piecewise 4 (Q 0) (fun t _ => funext (key t 0)) i).trans (if_congr (drop flush1_4 (mem1 i)) rfl rfl)
  | ⟨1, _⟩ => exact ((dat1 V c).arrAt_eq_piecewise 5 (Q 1) (fun t _ => funext (key t 1)) i).trans (if_congr (drop flush1_5 (mem1 i)) rfl rfl)
  | ⟨2, _⟩ => exact ((dat1 V c).arrAt_eq_piecewise 6 (Q 2) (fun t _ => funext (key t 2)) i).trans (if_congr (drop flush1_6 (mem1 i)) rfl rfl)
  | ⟨3, _⟩ => exact ((dat1 V c).arrAt_eq_piecewise 7 (Q 3) (fun t _ => funext (key t 3)) i).trans (if_congr (drop flush1_7 (mem1 i)) rfl rfl)

/-! The region of layer 1. -/

set_option maxHeartbeats 2000000 in
theorem outs2 (t : Fin cfg2.N) : outsAt2 V c t = step (iblk2 V c 0 t) (iblk2 V c 1 t) (iblk2 V c 2 t) (iblk2 V c 3 t) := by
  refine Eq.trans ?_ (pay _ _ _ _)
  unfold outsAt2 out2_A_4 out2_A_5 out2_A_6 out2_A_7
  rw [View.read_writes_junk_eq_canon, View.read_writes_junk_eq_canon, View.read_writes_junk_eq_canon, View.read_writes_junk_eq_canon]
  unfold kernelRun2_A
  dsimp only
  sl_unfold_words
  rw [View.canon_unit_zero hz3, View.canon_unit_zero hz3, View.canon_unit_zero hz3, View.canon_unit_zero hz3]
  simp only [View.readAt_eq_ld, Memref.IsWhole.read_unread]
  simp only [View.ld_unit_zero (S := S1x256x1408) hz3, View.ld_unit_zero (S := S256x1408) hz]
  rfl

theorem left2 (t : Fin cfg2.N) : (![(dat2 V c).after 4 t, (dat2 V c).after 5 t, (dat2 V c).after 6 t, (dat2 V c).after 7 t] : Fin 4 → FVec Ideal S1x256x1408 .f32) = quad (iblk2 V c 0 t) (iblk2 V c 2 t) (iblk2 V c 3 t) (spread 1 (iblk2 V c 1 t)) := by
  rw [after2_4, after2_5, after2_6, after2_7]
  exact congrArg four (outs2 V c t)

theorem idx2 : ∀ t : Fin cfg2.N, (win2_4.index t 0 = 1 ∧ win2_4.index t 1 = t.val ∧ win2_4.index t 2 = 0) ∧ win2_1.index t 0 = t.val ∧ win2_1.index t 1 = 0 := by decide +kernel

theorem mem2 (i : S4x1024x1408.Idx) : (∃ t : Fin cfg2.N, i ∈ ((cfg2.win 4).blk t).view.set) ↔ (i 0).val = 1 :=
  (exists_congr fun t => show i ∈ ((View.whole main_v2_0).slice (win2_4.rect t)).set ↔ _ by rw [View.set_slice_whole, Rect.mem_set_unit]; exact Iff.rfl).trans
    (rows win2_4.index (by decide : 0 < 256) (show grid2.N * 256 = 1024 by rw [N_2]) (fun t => (idx2 t).1) i)

theorem grad2 (t : Fin cfg2.N) (x : S1x256x1408.Idx) : spread 1 (iblk2 V c 1 t) x = spread 4 (V c main_arg2) (((cfg2.win 4).blk t).view.emb x) := by
  refine congrArg (V c main_arg2) (funext fun a => Fin.ext ?_)
  match a with
  | ⟨0, _⟩ => show win2_1.index t 0 * 256 + 1 * (x 1).val = win2_4.index t 1 * 256 + 1 * (x 1).val; rw [(idx2 t).1.2.1, (idx2 t).2.1]
  | ⟨1, _⟩ => show win2_1.index t 1 * 1408 + 1 * (x 2).val = win2_4.index t 2 * 1408 + 1 * (x 2).val; rw [(idx2 t).1.2.2, (idx2 t).2.2]

/-- What the region leaves in its four arrays. -/
theorem arr2 : (![(dat2 V c).arrAt 4 cfg2.N, (dat2 V c).arrAt 5 cfg2.N, (dat2 V c).arrAt 6 cfg2.N, (dat2 V c).arrAt 7 cfg2.N] : Fin 4 → FVec Ideal S4x1024x1408 .f32) =
    layer 1 (V c main_arg0) (V c main_arg2) (V c main_arg5) (V c main_arg6) ![V c main_v2_0, V c main_v2_1, V c main_v2_2, V c main_v2_3] := by
  let Q : Fin 4 → FVec Ideal S4x1024x1408 .f32 := quad (V c main_arg0) (V c main_arg5) (V c main_arg6) (spread 4 (V c main_arg2))
  have key (t : Fin cfg2.N) (j : Fin 4) (x : S1x256x1408.Idx) : (![(dat2 V c).after 4 t, (dat2 V c).after 5 t, (dat2 V c).after 6 t, (dat2 V c).after 7 t] : Fin 4 → FVec Ideal S1x256x1408 .f32) j x = Q j (((cfg2.win 4).blk t).view.emb x) := by
    rw [left2]
    exact quad_at _ _ _ _ _ _ _ _ j x _ rfl rfl rfl (grad2 V c t x)
  funext j i
  match j with
  | ⟨0, _⟩ => exact ((dat2 V c).arrAt_eq_piecewise 4 (Q 0) (fun t _ => funext (key t 0)) i).trans (if_congr (drop flush2_4 (mem2 i)) rfl rfl)
  | ⟨1, _⟩ => exact ((dat2 V c).arrAt_eq_piecewise 5 (Q 1) (fun t _ => funext (key t 1)) i).trans (if_congr (drop flush2_5 (mem2 i)) rfl rfl)
  | ⟨2, _⟩ => exact ((dat2 V c).arrAt_eq_piecewise 6 (Q 2) (fun t _ => funext (key t 2)) i).trans (if_congr (drop flush2_6 (mem2 i)) rfl rfl)
  | ⟨3, _⟩ => exact ((dat2 V c).arrAt_eq_piecewise 7 (Q 3) (fun t _ => funext (key t 3)) i).trans (if_congr (drop flush2_7 (mem2 i)) rfl rfl)

/-! The region of layer 0. -/

set_option maxHeartbeats 2000000 in
theorem outs3 (t : Fin cfg3.N) : outsAt3 V c t = step (iblk3 V c 0 t) (iblk3 V c 1 t) (iblk3 V c 2 t) (iblk3 V c 3 t) := by
  refine Eq.trans ?_ (pay _ _ _ _)
  unfold outsAt3 out3_A_4 out3_A_5 out3_A_6 out3_A_7
  rw [View.read_writes_junk_eq_canon, View.read_writes_junk_eq_canon, View.read_writes_junk_eq_canon, View.read_writes_junk_eq_canon]
  unfold kernelRun3_A
  dsimp only
  sl_unfold_words
  rw [View.canon_unit_zero hz3, View.canon_unit_zero hz3, View.canon_unit_zero hz3, View.canon_unit_zero hz3]
  simp only [View.readAt_eq_ld, Memref.IsWhole.read_unread]
  simp only [View.ld_unit_zero (S := S1x256x1408) hz3, View.ld_unit_zero (S := S256x1408) hz]
  rfl

theorem left3 (t : Fin cfg3.N) : (![(dat3 V c).after 4 t, (dat3 V c).after 5 t, (dat3 V c).after 6 t, (dat3 V c).after 7 t] : Fin 4 → FVec Ideal S1x256x1408 .f32) = quad (iblk3 V c 0 t) (iblk3 V c 2 t) (iblk3 V c 3 t) (spread 1 (iblk3 V c 1 t)) := by
  rw [after3_4, after3_5, after3_6, after3_7]
  exact congrArg four (outs3 V c t)

theorem idx3 : ∀ t : Fin cfg3.N, (win3_4.index t 0 = 0 ∧ win3_4.index t 1 = t.val ∧ win3_4.index t 2 = 0) ∧ win3_1.index t 0 = t.val ∧ win3_1.index t 1 = 0 := by decide +kernel

theorem mem3 (i : S4x1024x1408.Idx) : (∃ t : Fin cfg3.N, i ∈ ((cfg3.win 4).blk t).view.set) ↔ (i 0).val = 0 :=
  (exists_congr fun t => show i ∈ ((View.whole main_v3_0).slice (win3_4.rect t)).set ↔ _ by rw [View.set_slice_whole, Rect.mem_set_unit]; exact Iff.rfl).trans
    (rows win3_4.index (by decide : 0 < 256) (show grid3.N * 256 = 1024 by rw [N_3]) (fun t => (idx3 t).1) i)

theorem grad3 (t : Fin cfg3.N) (x : S1x256x1408.Idx) : spread 1 (iblk3 V c 1 t) x = spread 4 (V c main_arg1) (((cfg3.win 4).blk t).view.emb x) := by
  refine congrArg (V c main_arg1) (funext fun a => Fin.ext ?_)
  match a with
  | ⟨0, _⟩ => show win3_1.index t 0 * 256 + 1 * (x 1).val = win3_4.index t 1 * 256 + 1 * (x 1).val; rw [(idx3 t).1.2.1, (idx3 t).2.1]
  | ⟨1, _⟩ => show win3_1.index t 1 * 1408 + 1 * (x 2).val = win3_4.index t 2 * 1408 + 1 * (x 2).val; rw [(idx3 t).1.2.2, (idx3 t).2.2]

/-- What the region leaves in its four arrays. -/
theorem arr3 : (![(dat3 V c).arrAt 4 cfg3.N, (dat3 V c).arrAt 5 cfg3.N, (dat3 V c).arrAt 6 cfg3.N, (dat3 V c).arrAt 7 cfg3.N] : Fin 4 → FVec Ideal S4x1024x1408 .f32) =
    layer 0 (V c main_arg0) (V c main_arg1) (V c main_arg5) (V c main_arg6) ![V c main_v3_0, V c main_v3_1, V c main_v3_2, V c main_v3_3] := by
  let Q : Fin 4 → FVec Ideal S4x1024x1408 .f32 := quad (V c main_arg0) (V c main_arg5) (V c main_arg6) (spread 4 (V c main_arg1))
  have key (t : Fin cfg3.N) (j : Fin 4) (x : S1x256x1408.Idx) : (![(dat3 V c).after 4 t, (dat3 V c).after 5 t, (dat3 V c).after 6 t, (dat3 V c).after 7 t] : Fin 4 → FVec Ideal S1x256x1408 .f32) j x = Q j (((cfg3.win 4).blk t).view.emb x) := by
    rw [left3]
    exact quad_at _ _ _ _ _ _ _ _ j x _ rfl rfl rfl (grad3 V c t x)
  funext j i
  match j with
  | ⟨0, _⟩ => exact ((dat3 V c).arrAt_eq_piecewise 4 (Q 0) (fun t _ => funext (key t 0)) i).trans (if_congr (drop flush3_4 (mem3 i)) rfl rfl)
  | ⟨1, _⟩ => exact ((dat3 V c).arrAt_eq_piecewise 5 (Q 1) (fun t _ => funext (key t 1)) i).trans (if_congr (drop flush3_5 (mem3 i)) rfl rfl)
  | ⟨2, _⟩ => exact ((dat3 V c).arrAt_eq_piecewise 6 (Q 2) (fun t _ => funext (key t 2)) i).trans (if_congr (drop flush3_6 (mem3 i)) rfl rfl)
  | ⟨3, _⟩ => exact ((dat3 V c).arrAt_eq_piecewise 7 (Q 3) (fun t _ => funext (key t 3)) i).trans (if_congr (drop flush3_7 (mem3 i)) rfl rfl)

end Cert.Kernel39Ideal.Body

namespace Cert.Kernel39Ideal.Body
open Cert.Kernel39Ideal Cert.Kernel39Ideal.Gen Idealize.ShloMosaic Idealize.ShloMosaic.TcCoe Idealize.SL.Sem Cert.Adam
open Idealize.ShloMosaic.StableHlo (after)
variable (m : (ℓ : Loc nD τ sig) → Buf (Elt Ideal) ℓ) (ρ : Dev nD → PrngReg) (c : Dev nD)

theorem res0 : (![V1 m ρ c main_v0_0, V1 m ρ c main_v0_1, V1 m ρ c main_v0_2, V1 m ρ c main_v0_3] : Fin 4 → FVec Ideal S4x1024x1408 .f32) = layer 3 (m ((c : Thread nD τ).loc main_arg0)) (m ((c : Thread nD τ).loc main_arg4)) (m ((c : Thread nD τ).loc main_arg5)) (m ((c : Thread nD τ).loc main_arg6)) ![V0 m ρ c main_v0_0, V0 m ρ c main_v0_1, V0 m ρ c main_v0_2, V0 m ρ c main_v0_3] := by
  have e (b) (hb : b ∈ argRefs) : V0 m ρ c b = m ((c : Thread nD τ).loc b) := W0_args m ρ c b hb
  rw [← e main_arg0 (by decide), ← e main_arg4 (by decide), ← e main_arg5 (by decide), ← e main_arg6 (by decide)]
  rw [← arr0]
  funext j
  match j with
  | ⟨0, _⟩ => exact W1_arr m ρ c 4
  | ⟨1, _⟩ => exact W1_arr m ρ c 5
  | ⟨2, _⟩ => exact W1_arr m ρ c 6
  | ⟨3, _⟩ => exact W1_arr m ρ c 7

theorem res1 : (![V3 m ρ c main_v1_0, V3 m ρ c main_v1_1, V3 m ρ c main_v1_2, V3 m ρ c main_v1_3] : Fin 4 → FVec Ideal S4x1024x1408 .f32) = layer 2 (m ((c : Thread nD τ).loc main_arg0)) (m ((c : Thread nD τ).loc main_arg3)) (m ((c : Thread nD τ).loc main_arg5)) (m ((c : Thread nD τ).loc main_arg6)) ![V1 m ρ c main_v0_0, V1 m ρ c main_v0_1, V1 m ρ c main_v0_2, V1 m ρ c main_v0_3] := by
  have e (b) (hb : b ∈ argRefs) : V2 m ρ c b = m ((c : Thread nD τ).loc b) := W2_args m ρ c b hb
  rw [← e main_arg0 (by decide), ← e main_arg3 (by decide), ← e main_arg5 (by decide), ← e main_arg6 (by decide)]
  obtain ⟨h0, h1, h2, h3⟩ : V2 m ρ c main_v1_0 = V1 m ρ c main_v0_0 ∧ V2 m ρ c main_v1_1 = V1 m ρ c main_v0_1 ∧ V2 m ρ c main_v1_2 = V1 m ρ c main_v0_2 ∧ V2 m ρ c main_v1_3 = V1 m ρ c main_v0_3 := by
    show after hostOps1 (W1 m ρ c) (Proc.devRef .tc main_v1_0) = _ ∧ after hostOps1 (W1 m ρ c) (Proc.devRef .tc main_v1_1) = _ ∧ after hostOps1 (W1 m ρ c) (Proc.devRef .tc main_v1_2) = _ ∧ after hostOps1 (W1 m ρ c) (Proc.devRef .tc main_v1_3) = _
    refine ⟨?_, ?_, ?_, ?_⟩ <;> (after_results_simp <;> rfl)
  rw [← h0, ← h1, ← h2, ← h3, ← arr1]
  funext j
  match j with
  | ⟨0, _⟩ => exact W3_arr m ρ c 4
  | ⟨1, _⟩ => exact W3_arr m ρ c 5
  | ⟨2, _⟩ => exact W3_arr m ρ c 6
  | ⟨3, _⟩ => exact W3_arr m ρ c 7

theorem res2 : (![V5 m ρ c main_v2_0, V5 m ρ c main_v2_1, V5 m ρ c main_v2_2, V5 m ρ c main_v2_3] : Fin 4 → FVec Ideal S4x1024x1408 .f32) = layer 1 (m ((c : Thread nD τ).loc main_arg0)) (m ((c : Thread nD τ).loc main_arg2)) (m ((c : Thread nD τ).loc main_arg5)) (m ((c : Thread nD τ).loc main_arg6)) ![V3 m ρ c main_v1_0, V3 m ρ c main_v1_1, V3 m ρ c main_v1_2, V3 m ρ c main_v1_3] := by
  have e (b) (hb : b ∈ argRefs) : V4 m ρ c b = m ((c : Thread nD τ).loc b) := W4_args m ρ c b hb
  rw [← e main_arg0 (by decide), ← e main_arg2 (by decide), ← e main_arg5 (by decide), ← e main_arg6 (by decide)]
  obtain ⟨h0, h1, h2, h3⟩ : V4 m ρ c main_v2_0 = V3 m ρ c main_v1_0 ∧ V4 m ρ c main_v2_1 = V3 m ρ c main_v1_1 ∧ V4 m ρ c main_v2_2 = V3 m ρ c main_v1_2 ∧ V4 m ρ c main_v2_3 = V3 m ρ c main_v1_3 := by
    show after hostOps2 (W3 m ρ c) (Proc.devRef .tc main_v2_0) = _ ∧ after hostOps2 (W3 m ρ c) (Proc.devRef .tc main_v2_1) = _ ∧ after hostOps2 (W3 m ρ c) (Proc.devRef .tc main_v2_2) = _ ∧ after hostOps2 (W3 m ρ c) (Proc.devRef .tc main_v2_3) = _
    refine ⟨?_, ?_, ?_, ?_⟩ <;> (after_results_simp <;> rfl)
  rw [← h0, ← h1, ← h2, ← h3, ← arr2]
  funext j
  match j with
  | ⟨0, _⟩ => exact W5_arr m ρ c 4
  | ⟨1, _⟩ => exact W5_arr m ρ c 5
  | ⟨2, _⟩ => exact W5_arr m ρ c 6
  | ⟨3, _⟩ => exact W5_arr m ρ c 7

theorem res3 : (![V7 m ρ c main_v3_0, V7 m ρ c main_v3_1, V7 m ρ c main_v3_2, V7 m ρ c main_v3_3] : Fin 4 → FVec Ideal S4x1024x1408 .f32) = layer 0 (m ((c : Thread nD τ).loc main_arg0)) (m ((c : Thread nD τ).loc main_arg1)) (m ((c : Thread nD τ).loc main_arg5)) (m ((c : Thread nD τ).loc main_arg6)) ![V5 m ρ c main_v2_0, V5 m ρ c main_v2_1, V5 m ρ c main_v2_2, V5 m ρ c main_v2_3] := by
  have e (b) (hb : b ∈ argRefs) : V6 m ρ c b = m ((c : Thread nD τ).loc b) := W6_args m ρ c b hb
  rw [← e main_arg0 (by decide), ← e main_arg1 (by decide), ← e main_arg5 (by decide), ← e main_arg6 (by decide)]
  obtain ⟨h0, h1, h2, h3⟩ : V6 m ρ c main_v3_0 = V5 m ρ c main_v2_0 ∧ V6 m ρ c main_v3_1 = V5 m ρ c main_v2_1 ∧ V6 m ρ c main_v3_2 = V5 m ρ c main_v2_2 ∧ V6 m ρ c main_v3_3 = V5 m ρ c main_v2_3 := by
    show after hostOps3 (W5 m ρ c) (Proc.devRef .tc main_v3_0) = _ ∧ after hostOps3 (W5 m ρ c) (Proc.devRef .tc main_v3_1) = _ ∧ after hostOps3 (W5 m ρ c) (Proc.devRef .tc main_v3_2) = _ ∧ after hostOps3 (W5 m ρ c) (Proc.devRef .tc main_v3_3) = _
    refine ⟨?_, ?_, ?_, ?_⟩ <;> (after_results_simp <;> rfl)
  rw [← h0, ← h1, ← h2, ← h3, ← arr3]
  funext j
  match j with
  | ⟨0, _⟩ => exact W7_arr m ρ c 4
  | ⟨1, _⟩ => exact W7_arr m ρ c 5
  | ⟨2, _⟩ => exact W7_arr m ρ c 6
  | ⟨3, _⟩ => exact W7_arr m ρ c 7

/-- The four results of the whole call. -/
theorem value : (![V7 m ρ c main_v3_0, V7 m ρ c main_v3_1, V7 m ρ c main_v3_2, V7 m ρ c main_v3_3] : Fin 4 → FVec Ideal S4x1024x1408 .f32) = quad (m ((c : Thread nD τ).loc main_arg0)) (m ((c : Thread nD τ).loc main_arg5)) (m ((c : Thread nD τ).loc main_arg6))
    (stack (m ((c : Thread nD τ).loc main_arg1)) (m ((c : Thread nD τ).loc main_arg2)) (m ((c : Thread nD τ).loc main_arg3)) (m ((c : Thread nD τ).loc main_arg4))) := by
  rw [res3, res2, res1, res0]
  exact layers _ _ _ _ _ _ _ _

end Cert.Kernel39Ideal.Body

namespace Cert.Kernel39Ideal.Body
open Cert.Kernel39Ideal Cert.Kernel39Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable (m : (ℓ : Loc nD τ sig) → Buf (Elt Ideal) ℓ) (ρ : Dev nD → PrngReg)

/-- The run, with the results as the four regions leave them. -/
theorem run : θ_run defs (onTc (τ := τ) (main (F := Ideal))) ⟨m, fun _ => 0, ρ⟩ fun r => ∀ c : Dev nD,
      r.2.mem ((c : Thread nD τ).loc main_v3_0) = V7 m ρ c main_v3_0
      ∧ r.2.mem ((c : Thread nD τ).loc main_v3_1) = V7 m ρ c main_v3_1
      ∧ r.2.mem ((c : Thread nD τ).loc main_v3_2) = V7 m ρ c main_v3_2
      ∧ r.2.mem ((c : Thread nD τ).loc main_v3_3) = V7 m ρ c main_v3_3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c => ⟨h c _ (mem_uc main_v3_0 (by decide)), h c _ (mem_uc main_v3_1 (by decide)), h c _ (mem_uc main_v3_2 (by decide)), h c _ (mem_uc main_v3_3 (by decide)),
      (h c _ (mem_uc main_arg0 (by decide))).trans (W7_main_arg0 m ρ c), (h c _ (mem_uc main_arg1 (by decide))).trans (W7_main_arg1 m ρ c), (h c _ (mem_uc main_arg2 (by decide))).trans (W7_main_arg2 m ρ c), (h c _ (mem_uc main_arg3 (by decide))).trans (W7_main_arg3 m ρ c), (h c _ (mem_uc main_arg4 (by decide))).trans (W7_main_arg4 m ρ c), (h c _ (mem_uc main_arg5 (by decide))).trans (W7_main_arg5 m ρ c), (h c _ (mem_uc main_arg6 (by decide))).trans (W7_main_arg6 m ρ c)⟩)

end Cert.Kernel39Ideal.Body

namespace Cert.Reference39Ideal.Read
open Cert.Reference39Ideal Cert.Reference39Ideal.Gen Idealize.ShloMosaic Idealize.ShloMosaic.TcCoe Idealize.SL.Sem Cert.Adam

theorem frame : Cert.quiescent_Reference39Ideal := fun m ρ _ =>
  (θ_run defs _ _).mono (fun r h => ⟨fun c => (h c).2.2.2.2, sem_eq_zero_of_no_sems (by decide) r.2⟩) (Value.run m ρ)

theorem stacked (g0 g1 g2 g3 : FVec Ideal S1024x1408 .f32) : (concatenate S4x1024x1408 0 [⟨S1x1024x1408, broadcastInDim S1x1024x1408 ![1, 2] bcast_S1024x1408_S1x1024x1408_1_2 g0⟩, ⟨S1x1024x1408, broadcastInDim S1x1024x1408 ![1, 2] bcast_S1024x1408_S1x1024x1408_1_2 g1⟩,
    ⟨S1x1024x1408, broadcastInDim S1x1024x1408 ![1, 2] bcast_S1024x1408_S1x1024x1408_1_2 g2⟩, ⟨S1x1024x1408, broadcastInDim S1x1024x1408 ![1, 2] bcast_S1024x1408_S1x1024x1408_1_2 g3⟩] concatenates_S1x1024x1408_S1x1024x1408_S1x1024x1408_S1x1024x1408_S4x1024x1408_d0 : FVec Ideal S4x1024x1408 .f32) = stack g0 g1 g2 g3 := by
  funext i
  obtain ⟨s, p, q, rfl⟩ : ∃ (s : Fin 4) (p : Fin 1024) (q : Fin 1408), ix3 s p q = i := ⟨i 0, i 1, i 2, funext fun b => by fin_cases b <;> rfl⟩
  match s with
  | ⟨0, _⟩ => pointwise []; rfl
  | ⟨1, _⟩ => pointwise []; rfl
  | ⟨2, _⟩ => pointwise []; rfl
  | ⟨3, _⟩ => pointwise []; rfl

end Cert.Reference39Ideal.Read

namespace Cert.Kernel39Ideal.Body
open Idealize.ShloMosaic Idealize.ShloMosaic.TcCoe Idealize.SL.Sem Cert.Adam

theorem algebraic : Cert.algebraic_Kernel39Ideal_Reference39Ideal := by
  intro m g m' g' hpre hag
  refine ⟨fun c => Cert.Kernel39Ideal.Gen.V7 m g c Cert.Kernel39Ideal.main_v3_0, fun c => Cert.Kernel39Ideal.Gen.V7 m g c Cert.Kernel39Ideal.main_v3_1, fun c => Cert.Kernel39Ideal.Gen.V7 m g c Cert.Kernel39Ideal.main_v3_2, fun c => Cert.Kernel39Ideal.Gen.V7 m g c Cert.Kernel39Ideal.main_v3_3, run m g, ?_⟩
  refine (θ_run Cert.Reference39Ideal.defs _ _).mono (fun r h c => ?_) (Cert.Reference39Ideal.Value.run m' g')
  obtain ⟨h0, h1, h2, h3, ha⟩ := h c
  obtain ⟨e0, e1, e2, e3, e4, e5, e6⟩ := hag c
  rw [Cert.Reference39Ideal.Read.stacked] at h0 h1 h2 h3
  rw [e1, e2, e3, e4] at h0
  rw [e0, e1, e2, e3, e4, e5, e6] at h1
  rw [e1, e2, e3, e4, e5] at h2
  rw [e1, e2, e3, e4, e6] at h3
  have hv := value m g c
  exact ⟨h0.trans (congrFun hv 0).symm, h1.trans (congrFun hv 1).symm, h2.trans (congrFun hv 2).symm, h3.trans (congrFun hv 3).symm, ha⟩

end Cert.Kernel39Ideal.Body

end
-- ==== Proof.AdamDown.lean ====
module

public import proofs.«01_k».proof.Defs
public import proofs.«01_k».proof.Proof.Gen.Kernel40Ideal.Frame
public import proofs.«01_k».proof.Proof.Gen.Reference40Ideal.Run
public import proofs.«01_k».proof.Proof.AdamLayers
public import Idealize.ShloMosaic.Lib.StableHlo.ReadAt
public import Idealize.ShloMosaic.Lib.Pointwise
public import Idealize.ShloMosaic.Lib.Tactic
public import Idealize.ShloMosaic.Lib.Quiescent
public import Idealize.ShloMosaic.PureOps.Ideal.Laws

/-! The optimiser's steps of w_down, one layer after the other. -/

@[expose] public section
set_option maxRecDepth 16384
noncomputable section

namespace Cert.Kernel40Ideal.Body
open Cert.Kernel40Ideal Cert.Kernel40Ideal.Gen Idealize.ShloMosaic Idealize.ShloMosaic.TcCoe Idealize.SL.Sem Cert.Adam
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

/-- One after the other, what a point leaves in the four results. -/
def four (p : FVec Ideal S1x64x1024 .f32 × FVec Ideal S1x64x1024 .f32 × FVec Ideal S1x64x1024 .f32 × FVec Ideal S1x64x1024 .f32) : Fin 4 → FVec Ideal S1x64x1024 .f32 := ![p.1, p.2.1, p.2.2.1, p.2.2.2]

/-- What a point leaves: the step of its block. -/
def step (x0 : FVec Ideal S1x64x1024 .f32) (x1 : FVec Ideal S64x1024 .f32) (x2 x3 : FVec Ideal S1x64x1024 .f32) :
    FVec Ideal S1x64x1024 .f32 × FVec Ideal S1x64x1024 .f32 × FVec Ideal S1x64x1024 .f32 × FVec Ideal S1x64x1024 .f32 :=
  (spread 1 x1, change x0 (spread 1 x1) x2 x3, first (spread 1 x1) x2, second (spread 1 x1) x3)

theorem pay (x0 : FVec Ideal S1x64x1024 .f32) (x1 : FVec Ideal S64x1024 .f32) (x2 x3 : FVec Ideal S1x64x1024 .f32) :
    (k0_pay6 x1, k0_pay1 (k0_pay7 x1 x2 x3 x0), k0_pay2 (k0_pay4 x1 x2), k0_pay3 (k0_pay5 x1 x3)) = step x0 x1 x2 x3 := by
  have up (y : FVec Ideal S64x1024 .f32) (a : Fin 1) (p : Fin 64) (q : Fin 1024) : shapeCast S1x64x1024 y shapeCasts_S64x1024_S1x64x1024 (ix3 a p q) = y (ix2 p q) := by
    obtain rfl := Subsingleton.elim a 0
    pointwise []
  have dn (y : FVec Ideal S1x64x1024 .f32) : shapeCast S64x1024 y shapeCasts_S1x64x1024_S64x1024 = fun j => y (ix3 (0 : Fin 1) (j 0 : Fin 64) (j 1 : Fin 1024)) := by
    funext j
    obtain ⟨p, q, rfl⟩ : ∃ (p : Fin 64) (q : Fin 1024), ix2 p q = j := ⟨j 0, j 1, funext fun b => by fin_cases b <;> rfl⟩
    pointwise []
  refine Prod.ext (funext fun i => ?_) (Prod.ext (funext fun i => ?_) (Prod.ext (funext fun i => ?_) (funext fun i => ?_)))
  all_goals
    obtain ⟨a, p, q, rfl⟩ : ∃ (a : Fin 1) (p : Fin 64) (q : Fin 1024), ix3 a p q = i := ⟨i 0, i 1, i 2, funext fun b => by fin_cases b <;> rfl⟩
    obtain rfl := Subsingleton.elim a 0
  · exact up x1 0 p q
  · refine (up (k0_pay7 x1 x2 x3 x0) 0 p q).trans ?_
    simp only [k0_pay7, k0_pay4, k0_pay5, dn]
    rfl
  · refine (up (k0_pay4 x1 x2) 0 p q).trans ?_
    simp only [k0_pay4, dn]
    rfl
  · refine (up (k0_pay5 x1 x3) 0 p q).trans ?_
    simp only [k0_pay5, dn]
    rfl

variable (V : (c : Dev nD) → (b : Ref sig .tc) → Buf (Elt Ideal) ((c : Thread nD τ).loc b)) (c : Dev nD)

/-! The region of layer 3. -/

def outsAt0 (t : Fin cfg0.N) : FVec Ideal S1x64x1024 .f32 × FVec Ideal S1x64x1024 .f32 × FVec Ideal S1x64x1024 .f32 × FVec Ideal S1x64x1024 .f32 :=
  (out0_4 (iblk0 V c 0 t) (iblk0 V c 1 t) (iblk0 V c 2 t) (iblk0 V c 3 t), out0_5 (iblk0 V c 0 t) (iblk0 V c 1 t) (iblk0 V c 2 t) (iblk0 V c 3 t), out0_6 (iblk0 V c 0 t) (iblk0 V c 1 t) (iblk0 V c 2 t) (iblk0 V c 3 t), out0_7 (iblk0 V c 0 t) (iblk0 V c 1 t) (iblk0 V c 2 t) (iblk0 V c 3 t))

theorem outs0 (t : Fin cfg0.N) : outsAt0 V c t = step (iblk0 V c 0 t) (iblk0 V c 1 t) (iblk0 V c 2 t) (iblk0 V c 3 t) := by
  refine Eq.trans ?_ (pay _ _ _ _)
  unfold outsAt0 out0_4 out0_5 out0_6 out0_7
  rw [View.canon_unit_zero hz3, View.canon_unit_zero hz3, View.canon_unit_zero hz3, View.canon_unit_zero hz3]
  simp only [View.ld_unit_zero (S := S1x64x1024) hz3, View.ld_unit_zero (S := S64x1024) hz]

theorem left0 (t : Fin cfg0.N) : (![(dat0 V c).after 4 t, (dat0 V c).after 5 t, (dat0 V c).after 6 t, (dat0 V c).after 7 t] : Fin 4 → FVec Ideal S1x64x1024 .f32) = quad (iblk0 V c 0 t) (iblk0 V c 2 t) (iblk0 V c 3 t) (spread 1 (iblk0 V c 1 t)) := by
  have e4 : (dat0 V c).after 4 t = (outsAt0 V c t).1 := by dsimp only [dat0, outsAt0]
  have e5 : (dat0 V c).after 5 t = (outsAt0 V c t).2.1 := by dsimp only [dat0, outsAt0]
  have e6 : (dat0 V c).after 6 t = (outsAt0 V c t).2.2.1 := by dsimp only [dat0, outsAt0]
  have e7 : (dat0 V c).after 7 t = (outsAt0 V c t).2.2.2 := by dsimp only [dat0, outsAt0]
  rw [e4, e5, e6, e7]
  exact congrArg four (outs0 V c t)

theorem idx0 : ∀ t : Fin cfg0.N, (win0_4.index t 0 = 3 ∧ win0_4.index t 1 = t.val ∧ win0_4.index t 2 = 0) ∧ win0_1.index t 0 = t.val ∧ win0_1.index t 1 = 0 := by decide +kernel

theorem mem0 (i : S4x704x1024.Idx) : (∃ t : Fin cfg0.N, i ∈ ((cfg0.win 4).blk t).view.set) ↔ (i 0).val = 3 :=
  (exists_congr fun t => show i ∈ ((View.whole main_v0_0).slice (win0_4.rect t)).set ↔ _ by rw [View.set_slice_whole, Rect.mem_set_unit]; exact Iff.rfl).trans
    (rows win0_4.index (by decide : 0 < 64) (show grid0.N * 64 = 704 by rw [N_0]) (fun t => (idx0 t).1) i)

theorem grad0 (t : Fin cfg0.N) (x : S1x64x1024.Idx) : spread 1 (iblk0 V c 1 t) x = spread 4 (V c main_arg4) (((cfg0.win 4).blk t).view.emb x) := by
  refine congrArg (V c main_arg4) (funext fun a => Fin.ext ?_)
  match a with
  | ⟨0, _⟩ => show win0_1.index t 0 * 64 + 1 * (x 1).val = win0_4.index t 1 * 64 + 1 * (x 1).val; rw [(idx0 t).1.2.1, (idx0 t).2.1]
  | ⟨1, _⟩ => show win0_1.index t 1 * 1024 + 1 * (x 2).val = win0_4.index t 2 * 1024 + 1 * (x 2).val; rw [(idx0 t).1.2.2, (idx0 t).2.2]

/-- What the region leaves in its four arrays. -/
theorem arr0 : (![(dat0 V c).arrAt 4 cfg0.N, (dat0 V c).arrAt 5 cfg0.N, (dat0 V c).arrAt 6 cfg0.N, (dat0 V c).arrAt 7 cfg0.N] : Fin 4 → FVec Ideal S4x704x1024 .f32) =
    layer 3 (V c main_arg0) (V c main_arg4) (V c main_arg5) (V c main_arg6) ![V c main_v0_0, V c main_v0_1, V c main_v0_2, V c main_v0_3] := by
  let Q : Fin 4 → FVec Ideal S4x704x1024 .f32 := quad (V c main_arg0) (V c main_arg5) (V c main_arg6) (spread 4 (V c main_arg4))
  have key (t : Fin cfg0.N) (j : Fin 4) (x : S1x64x1024.Idx) : (![(dat0 V c).after 4 t, (dat0 V c).after 5 t, (dat0 V c).after 6 t, (dat0 V c).after 7 t] : Fin 4 → FVec Ideal S1x64x1024 .f32) j x = Q j (((cfg0.win 4).blk t).view.emb x) := by
    rw [left0]
    exact quad_at _ _ _ _ _ _ _ _ j x _ rfl rfl rfl (grad0 V c t x)
  funext j i
  match j with
  | ⟨0, _⟩ => exact ((dat0 V c).arrAt_eq_piecewise 4 (Q 0) (fun t _ => funext (key t 0)) i).trans (if_congr (drop flush0_4 (mem0 i)) rfl rfl)
  | ⟨1, _⟩ => exact ((dat0 V c).arrAt_eq_piecewise 5 (Q 1) (fun t _ => funext (key t 1)) i).trans (if_congr (drop flush0_5 (mem0 i)) rfl rfl)
  | ⟨2, _⟩ => exact ((dat0 V c).arrAt_eq_piecewise 6 (Q 2) (fun t _ => funext (key t 2)) i).trans (if_congr (drop flush0_6 (mem0 i)) rfl rfl)
  | ⟨3, _⟩ => exact ((dat0 V c).arrAt_eq_piecewise 7 (Q 3) (fun t _ => funext (key t 3)) i).trans (if_congr (drop flush0_7 (mem0 i)) rfl rfl)

/-! The region of layer 2. -/

set_option maxHeartbeats 2000000 in
theorem outs1 (t : Fin cfg1.N) : outsAt1 V c t = step (iblk1 V c 0 t) (iblk1 V c 1 t) (iblk1 V c 2 t) (iblk1 V c 3 t) := by
  refine Eq.trans ?_ (pay _ _ _ _)
  unfold outsAt1 out1_A_4 out1_A_5 out1_A_6 out1_A_7
  rw [View.read_writes_junk_eq_canon, View.read_writes_junk_eq_canon, View.read_writes_junk_eq_canon, View.read_writes_junk_eq_canon]
  unfold kernelRun1_A
  dsimp only
  sl_unfold_words
  rw [View.canon_unit_zero hz3, View.canon_unit_zero hz3, View.canon_unit_zero hz3, View.canon_unit_zero hz3]
  simp only [View.readAt_eq_ld, Memref.IsWhole.read_unread]
  simp only [View.ld_unit_zero (S := S1x64x1024) hz3, View.ld_unit_zero (S := S64x1024) hz]
  rfl

theorem left1 (t : Fin cfg1.N) : (![(dat1 V c).after 4 t, (dat1 V c).after 5 t, (dat1 V c).after 6 t, (dat1 V c).after 7 t] : Fin 4 → FVec Ideal S1x64x1024 .f32) = quad (iblk1 V c 0 t) (iblk1 V c 2 t) (iblk1 V c 3 t) (spread 1 (iblk1 V c 1 t)) := by
  rw [after1_4, after1_5, after1_6, after1_7]
  exact congrArg four (outs1 V c t)

theorem idx1 : ∀ t : Fin cfg1.N, (win1_4.index t 0 = 2 ∧ win1_4.index t 1 = t.val ∧ win1_4.index t 2 = 0) ∧ win1_1.index t 0 = t.val ∧ win1_1.index t 1 = 0 := by decide +kernel

theorem mem1 (i : S4x704x1024.Idx) : (∃ t : Fin cfg1.N, i ∈ ((cfg1.win 4).blk t).view.set) ↔ (i 0).val = 2 :=
  (exists_congr fun t => show i ∈ ((View.whole main_v1_0).slice (win1_4.rect t)).set ↔ _ by rw [View.set_slice_whole, Rect.mem_set_unit]; exact Iff.rfl).trans
    (rows win1_4.index (by decide : 0 < 64) (show grid1.N * 64 = 704 by rw [N_1]) (fun t => (idx1 t).1) i)

theorem grad1 (t : Fin cfg1.N) (x : S1x64x1024.Idx) : spread 1 (iblk1 V c 1 t) x = spread 4 (V c main_arg3) (((cfg1.win 4).blk t).view.emb x) := by
  refine congrArg (V c main_arg3) (funext fun a => Fin.ext ?_)
  match a with
  | ⟨0, _⟩ => show win1_1.index t 0 * 64 + 1 * (x 1).val = win1_4.index t 1 * 64 + 1 * (x 1).val; rw [(idx1 t).1.2.1, (idx1 t).2.1]
  | ⟨1, _⟩ => show win1_1.index t 1 * 1024 + 1 * (x 2).val = win1_4.index t 2 * 1024 + 1 * (x 2).val; rw [(idx1 t).1.2.2, (idx1 t).2.2]

/-- What the region leaves in its four arrays. -/
theorem arr1 : (![(dat1 V c).arrAt 4 cfg1.N, (dat1 V c).arrAt 5 cfg1.N, (dat1 V c).arrAt 6 cfg1.N, (dat1 V c).arrAt 7 cfg1.N] : Fin 4 → FVec Ideal S4x704x1024 .f32) =
    layer 2 (V c main_arg0) (V c main_arg3) (V c main_arg5) (V c main_arg6) ![V c main_v1_0, V c main_v1_1, V c main_v1_2, V c main_v1_3] := by
  let Q : Fin 4 → FVec Ideal S4x704x1024 .f32 := quad (V c main_arg0) (V c main_arg5) (V c main_arg6) (spread 4 (V c main_arg3))
  have key (t : Fin cfg1.N) (j : Fin 4) (x : S1x64x1024.Idx) : (![(dat1 V c).after 4 t, (dat1 V c).after 5 t, (dat1 V c).after 6 t, (dat1 V c).after 7 t] : Fin 4 → FVec Ideal S1x64x1024 .f32) j x = Q j (((cfg1.win 4).blk t).view.emb x) := by
    rw [left1]
    exact quad_at _ _ _ _ _ _ _ _ j x _ rfl rfl rfl (grad1 V c t x)
  funext j i
  match j with
  | ⟨0, _⟩ => exact ((dat1 V c).arrAt_eq_piecewise 4 (Q 0) (fun t _ => funext (key t 0)) i).trans (if_congr (drop flush1_4 (mem1 i)) rfl rfl)
  | ⟨1, _⟩ => exact ((dat1 V c).arrAt_eq_piecewise 5 (Q 1) (fun t _ => funext (key t 1)) i).trans (if_congr (drop flush1_5 (mem1 i)) rfl rfl)
  | ⟨2, _⟩ => exact ((dat1 V c).arrAt_eq_piecewise 6 (Q 2) (fun t _ => funext (key t 2)) i).trans (if_congr (drop flush1_6 (mem1 i)) rfl rfl)
  | ⟨3, _⟩ => exact ((dat1 V c).arrAt_eq_piecewise 7 (Q 3) (fun t _ => funext (key t 3)) i).trans (if_congr (drop flush1_7 (mem1 i)) rfl rfl)

/-! The region of layer 1. -/

set_option maxHeartbeats 2000000 in
theorem outs2 (t : Fin cfg2.N) : outsAt2 V c t = step (iblk2 V c 0 t) (iblk2 V c 1 t) (iblk2 V c 2 t) (iblk2 V c 3 t) := by
  refine Eq.trans ?_ (pay _ _ _ _)
  unfold outsAt2 out2_A_4 out2_A_5 out2_A_6 out2_A_7
  rw [View.read_writes_junk_eq_canon, View.read_writes_junk_eq_canon, View.read_writes_junk_eq_canon, View.read_writes_junk_eq_canon]
  unfold kernelRun2_A
  dsimp only
  sl_unfold_words
  rw [View.canon_unit_zero hz3, View.canon_unit_zero hz3, View.canon_unit_zero hz3, View.canon_unit_zero hz3]
  simp only [View.readAt_eq_ld, Memref.IsWhole.read_unread]
  simp only [View.ld_unit_zero (S := S1x64x1024) hz3, View.ld_unit_zero (S := S64x1024) hz]
  rfl

theorem left2 (t : Fin cfg2.N) : (![(dat2 V c).after 4 t, (dat2 V c).after 5 t, (dat2 V c).after 6 t, (dat2 V c).after 7 t] : Fin 4 → FVec Ideal S1x64x1024 .f32) = quad (iblk2 V c 0 t) (iblk2 V c 2 t) (iblk2 V c 3 t) (spread 1 (iblk2 V c 1 t)) := by
  rw [after2_4, after2_5, after2_6, after2_7]
  exact congrArg four (outs2 V c t)

theorem idx2 : ∀ t : Fin cfg2.N, (win2_4.index t 0 = 1 ∧ win2_4.index t 1 = t.val ∧ win2_4.index t 2 = 0) ∧ win2_1.index t 0 = t.val ∧ win2_1.index t 1 = 0 := by decide +kernel

theorem mem2 (i : S4x704x1024.Idx) : (∃ t : Fin cfg2.N, i ∈ ((cfg2.win 4).blk t).view.set) ↔ (i 0).val = 1 :=
  (exists_congr fun t => show i ∈ ((View.whole main_v2_0).slice (win2_4.rect t)).set ↔ _ by rw [View.set_slice_whole, Rect.mem_set_unit]; exact Iff.rfl).trans
    (rows win2_4.index (by decide : 0 < 64) (show grid2.N * 64 = 704 by rw [N_2]) (fun t => (idx2 t).1) i)

theorem grad2 (t : Fin cfg2.N) (x : S1x64x1024.Idx) : spread 1 (iblk2 V c 1 t) x = spread 4 (V c main_arg2) (((cfg2.win 4).blk t).view.emb x) := by
  refine congrArg (V c main_arg2) (funext fun a => Fin.ext ?_)
  match a with
  | ⟨0, _⟩ => show win2_1.index t 0 * 64 + 1 * (x 1).val = win2_4.index t 1 * 64 + 1 * (x 1).val; rw [(idx2 t).1.2.1, (idx2 t).2.1]
  | ⟨1, _⟩ => show win2_1.index t 1 * 1024 + 1 * (x 2).val = win2_4.index t 2 * 1024 + 1 * (x 2).val; rw [(idx2 t).1.2.2, (idx2 t).2.2]

/-- What the region leaves in its four arrays. -/
theorem arr2 : (![(dat2 V c).arrAt 4 cfg2.N, (dat2 V c).arrAt 5 cfg2.N, (dat2 V c).arrAt 6 cfg2.N, (dat2 V c).arrAt 7 cfg2.N] : Fin 4 → FVec Ideal S4x704x1024 .f32) =
    layer 1 (V c main_arg0) (V c main_arg2) (V c main_arg5) (V c main_arg6) ![V c main_v2_0, V c main_v2_1, V c main_v2_2, V c main_v2_3] := by
  let Q : Fin 4 → FVec Ideal S4x704x1024 .f32 := quad (V c main_arg0) (V c main_arg5) (V c main_arg6) (spread 4 (V c main_arg2))
  have key (t : Fin cfg2.N) (j : Fin 4) (x : S1x64x1024.Idx) : (![(dat2 V c).after 4 t, (dat2 V c).after 5 t, (dat2 V c).after 6 t, (dat2 V c).after 7 t] : Fin 4 → FVec Ideal S1x64x1024 .f32) j x = Q j (((cfg2.win 4).blk t).view.emb x) := by
    rw [left2]
    exact quad_at _ _ _ _ _ _ _ _ j x _ rfl rfl rfl (grad2 V c t x)
  funext j i
  match j with
  | ⟨0, _⟩ => exact ((dat2 V c).arrAt_eq_piecewise 4 (Q 0) (fun t _ => funext (key t 0)) i).trans (if_congr (drop flush2_4 (mem2 i)) rfl rfl)
  | ⟨1, _⟩ => exact ((dat2 V c).arrAt_eq_piecewise 5 (Q 1) (fun t _ => funext (key t 1)) i).trans (if_congr (drop flush2_5 (mem2 i)) rfl rfl)
  | ⟨2, _⟩ => exact ((dat2 V c).arrAt_eq_piecewise 6 (Q 2) (fun t _ => funext (key t 2)) i).trans (if_congr (drop flush2_6 (mem2 i)) rfl rfl)
  | ⟨3, _⟩ => exact ((dat2 V c).arrAt_eq_piecewise 7 (Q 3) (fun t _ => funext (key t 3)) i).trans (if_congr (drop flush2_7 (mem2 i)) rfl rfl)

/-! The region of layer 0. -/

set_option maxHeartbeats 2000000 in
theorem outs3 (t : Fin cfg3.N) : outsAt3 V c t = step (iblk3 V c 0 t) (iblk3 V c 1 t) (iblk3 V c 2 t) (iblk3 V c 3 t) := by
  refine Eq.trans ?_ (pay _ _ _ _)
  unfold outsAt3 out3_A_4 out3_A_5 out3_A_6 out3_A_7
  rw [View.read_writes_junk_eq_canon, View.read_writes_junk_eq_canon, View.read_writes_junk_eq_canon, View.read_writes_junk_eq_canon]
  unfold kernelRun3_A
  dsimp only
  sl_unfold_words
  rw [View.canon_unit_zero hz3, View.canon_unit_zero hz3, View.canon_unit_zero hz3, View.canon_unit_zero hz3]
  simp only [View.readAt_eq_ld, Memref.IsWhole.read_unread]
  simp only [View.ld_unit_zero (S := S1x64x1024) hz3, View.ld_unit_zero (S := S64x1024) hz]
  rfl

theorem left3 (t : Fin cfg3.N) : (![(dat3 V c).after 4 t, (dat3 V c).after 5 t, (dat3 V c).after 6 t, (dat3 V c).after 7 t] : Fin 4 → FVec Ideal S1x64x1024 .f32) = quad (iblk3 V c 0 t) (iblk3 V c 2 t) (iblk3 V c 3 t) (spread 1 (iblk3 V c 1 t)) := by
  rw [after3_4, after3_5, after3_6, after3_7]
  exact congrArg four (outs3 V c t)

theorem idx3 : ∀ t : Fin cfg3.N, (win3_4.index t 0 = 0 ∧ win3_4.index t 1 = t.val ∧ win3_4.index t 2 = 0) ∧ win3_1.index t 0 = t.val ∧ win3_1.index t 1 = 0 := by decide +kernel

theorem mem3 (i : S4x704x1024.Idx) : (∃ t : Fin cfg3.N, i ∈ ((cfg3.win 4).blk t).view.set) ↔ (i 0).val = 0 :=
  (exists_congr fun t => show i ∈ ((View.whole main_v3_0).slice (win3_4.rect t)).set ↔ _ by rw [View.set_slice_whole, Rect.mem_set_unit]; exact Iff.rfl).trans
    (rows win3_4.index (by decide : 0 < 64) (show grid3.N * 64 = 704 by rw [N_3]) (fun t => (idx3 t).1) i)

theorem grad3 (t : Fin cfg3.N) (x : S1x64x1024.Idx) : spread 1 (iblk3 V c 1 t) x = spread 4 (V c main_arg1) (((cfg3.win 4).blk t).view.emb x) := by
  refine congrArg (V c main_arg1) (funext fun a => Fin.ext ?_)
  match a with
  | ⟨0, _⟩ => show win3_1.index t 0 * 64 + 1 * (x 1).val = win3_4.index t 1 * 64 + 1 * (x 1).val; rw [(idx3 t).1.2.1, (idx3 t).2.1]
  | ⟨1, _⟩ => show win3_1.index t 1 * 1024 + 1 * (x 2).val = win3_4.index t 2 * 1024 + 1 * (x 2).val; rw [(idx3 t).1.2.2, (idx3 t).2.2]

/-- What the region leaves in its four arrays. -/
theorem arr3 : (![(dat3 V c).arrAt 4 cfg3.N, (dat3 V c).arrAt 5 cfg3.N, (dat3 V c).arrAt 6 cfg3.N, (dat3 V c).arrAt 7 cfg3.N] : Fin 4 → FVec Ideal S4x704x1024 .f32) =
    layer 0 (V c main_arg0) (V c main_arg1) (V c main_arg5) (V c main_arg6) ![V c main_v3_0, V c main_v3_1, V c main_v3_2, V c main_v3_3] := by
  let Q : Fin 4 → FVec Ideal S4x704x1024 .f32 := quad (V c main_arg0) (V c main_arg5) (V c main_arg6) (spread 4 (V c main_arg1))
  have key (t : Fin cfg3.N) (j : Fin 4) (x : S1x64x1024.Idx) : (![(dat3 V c).after 4 t, (dat3 V c).after 5 t, (dat3 V c).after 6 t, (dat3 V c).after 7 t] : Fin 4 → FVec Ideal S1x64x1024 .f32) j x = Q j (((cfg3.win 4).blk t).view.emb x) := by
    rw [left3]
    exact quad_at _ _ _ _ _ _ _ _ j x _ rfl rfl rfl (grad3 V c t x)
  funext j i
  match j with
  | ⟨0, _⟩ => exact ((dat3 V c).arrAt_eq_piecewise 4 (Q 0) (fun t _ => funext (key t 0)) i).trans (if_congr (drop flush3_4 (mem3 i)) rfl rfl)
  | ⟨1, _⟩ => exact ((dat3 V c).arrAt_eq_piecewise 5 (Q 1) (fun t _ => funext (key t 1)) i).trans (if_congr (drop flush3_5 (mem3 i)) rfl rfl)
  | ⟨2, _⟩ => exact ((dat3 V c).arrAt_eq_piecewise 6 (Q 2) (fun t _ => funext (key t 2)) i).trans (if_congr (drop flush3_6 (mem3 i)) rfl rfl)
  | ⟨3, _⟩ => exact ((dat3 V c).arrAt_eq_piecewise 7 (Q 3) (fun t _ => funext (key t 3)) i).trans (if_congr (drop flush3_7 (mem3 i)) rfl rfl)

end Cert.Kernel40Ideal.Body

namespace Cert.Kernel40Ideal.Body
open Cert.Kernel40Ideal Cert.Kernel40Ideal.Gen Idealize.ShloMosaic Idealize.ShloMosaic.TcCoe Idealize.SL.Sem Cert.Adam
open Idealize.ShloMosaic.StableHlo (after)
variable (m : (ℓ : Loc nD τ sig) → Buf (Elt Ideal) ℓ) (ρ : Dev nD → PrngReg) (c : Dev nD)

theorem res0 : (![V1 m ρ c main_v0_0, V1 m ρ c main_v0_1, V1 m ρ c main_v0_2, V1 m ρ c main_v0_3] : Fin 4 → FVec Ideal S4x704x1024 .f32) = layer 3 (m ((c : Thread nD τ).loc main_arg0)) (m ((c : Thread nD τ).loc main_arg4)) (m ((c : Thread nD τ).loc main_arg5)) (m ((c : Thread nD τ).loc main_arg6)) ![V0 m ρ c main_v0_0, V0 m ρ c main_v0_1, V0 m ρ c main_v0_2, V0 m ρ c main_v0_3] := by
  have e (b) (hb : b ∈ argRefs) : V0 m ρ c b = m ((c : Thread nD τ).loc b) := W0_args m ρ c b hb
  rw [← e main_arg0 (by decide), ← e main_arg4 (by decide), ← e main_arg5 (by decide), ← e main_arg6 (by decide)]
  rw [← arr0]
  funext j
  match j with
  | ⟨0, _⟩ => exact W1_arr m ρ c 4
  | ⟨1, _⟩ => exact W1_arr m ρ c 5
  | ⟨2, _⟩ => exact W1_arr m ρ c 6
  | ⟨3, _⟩ => exact W1_arr m ρ c 7

theorem res1 : (![V3 m ρ c main_v1_0, V3 m ρ c main_v1_1, V3 m ρ c main_v1_2, V3 m ρ c main_v1_3] : Fin 4 → FVec Ideal S4x704x1024 .f32) = layer 2 (m ((c : Thread nD τ).loc main_arg0)) (m ((c : Thread nD τ).loc main_arg3)) (m ((c : Thread nD τ).loc main_arg5)) (m ((c : Thread nD τ).loc main_arg6)) ![V1 m ρ c main_v0_0, V1 m ρ c main_v0_1, V1 m ρ c main_v0_2, V1 m ρ c main_v0_3] := by
  have e (b) (hb : b ∈ argRefs) : V2 m ρ c b = m ((c : Thread nD τ).loc b) := W2_args m ρ c b hb
  rw [← e main_arg0 (by decide), ← e main_arg3 (by decide), ← e main_arg5 (by decide), ← e main_arg6 (by decide)]
  obtain ⟨h0, h1, h2, h3⟩ : V2 m ρ c main_v1_0 = V1 m ρ c main_v0_0 ∧ V2 m ρ c main_v1_1 = V1 m ρ c main_v0_1 ∧ V2 m ρ c main_v1_2 = V1 m ρ c main_v0_2 ∧ V2 m ρ c main_v1_3 = V1 m ρ c main_v0_3 := by
    show after hostOps1 (W1 m ρ c) (Proc.devRef .tc main_v1_0) = _ ∧ after hostOps1 (W1 m ρ c) (Proc.devRef .tc main_v1_1) = _ ∧ after hostOps1 (W1 m ρ c) (Proc.devRef .tc main_v1_2) = _ ∧ after hostOps1 (W1 m ρ c) (Proc.devRef .tc main_v1_3) = _
    refine ⟨?_, ?_, ?_, ?_⟩ <;> (after_results_simp <;> rfl)
  rw [← h0, ← h1, ← h2, ← h3, ← arr1]
  funext j
  match j with
  | ⟨0, _⟩ => exact W3_arr m ρ c 4
  | ⟨1, _⟩ => exact W3_arr m ρ c 5
  | ⟨2, _⟩ => exact W3_arr m ρ c 6
  | ⟨3, _⟩ => exact W3_arr m ρ c 7

theorem res2 : (![V5 m ρ c main_v2_0, V5 m ρ c main_v2_1, V5 m ρ c main_v2_2, V5 m ρ c main_v2_3] : Fin 4 → FVec Ideal S4x704x1024 .f32) = layer 1 (m ((c : Thread nD τ).loc main_arg0)) (m ((c : Thread nD τ).loc main_arg2)) (m ((c : Thread nD τ).loc main_arg5)) (m ((c : Thread nD τ).loc main_arg6)) ![V3 m ρ c main_v1_0, V3 m ρ c main_v1_1, V3 m ρ c main_v1_2, V3 m ρ c main_v1_3] := by
  have e (b) (hb : b ∈ argRefs) : V4 m ρ c b = m ((c : Thread nD τ).loc b) := W4_args m ρ c b hb
  rw [← e main_arg0 (by decide), ← e main_arg2 (by decide), ← e main_arg5 (by decide), ← e main_arg6 (by decide)]
  obtain ⟨h0, h1, h2, h3⟩ : V4 m ρ c main_v2_0 = V3 m ρ c main_v1_0 ∧ V4 m ρ c main_v2_1 = V3 m ρ c main_v1_1 ∧ V4 m ρ c main_v2_2 = V3 m ρ c main_v1_2 ∧ V4 m ρ c main_v2_3 = V3 m ρ c main_v1_3 := by
    show after hostOps2 (W3 m ρ c) (Proc.devRef .tc main_v2_0) = _ ∧ after hostOps2 (W3 m ρ c) (Proc.devRef .tc main_v2_1) = _ ∧ after hostOps2 (W3 m ρ c) (Proc.devRef .tc main_v2_2) = _ ∧ after hostOps2 (W3 m ρ c) (Proc.devRef .tc main_v2_3) = _
    refine ⟨?_, ?_, ?_, ?_⟩ <;> (after_results_simp <;> rfl)
  rw [← h0, ← h1, ← h2, ← h3, ← arr2]
  funext j
  match j with
  | ⟨0, _⟩ => exact W5_arr m ρ c 4
  | ⟨1, _⟩ => exact W5_arr m ρ c 5
  | ⟨2, _⟩ => exact W5_arr m ρ c 6
  | ⟨3, _⟩ => exact W5_arr m ρ c 7

theorem res3 : (![V7 m ρ c main_v3_0, V7 m ρ c main_v3_1, V7 m ρ c main_v3_2, V7 m ρ c main_v3_3] : Fin 4 → FVec Ideal S4x704x1024 .f32) = layer 0 (m ((c : Thread nD τ).loc main_arg0)) (m ((c : Thread nD τ).loc main_arg1)) (m ((c : Thread nD τ).loc main_arg5)) (m ((c : Thread nD τ).loc main_arg6)) ![V5 m ρ c main_v2_0, V5 m ρ c main_v2_1, V5 m ρ c main_v2_2, V5 m ρ c main_v2_3] := by
  have e (b) (hb : b ∈ argRefs) : V6 m ρ c b = m ((c : Thread nD τ).loc b) := W6_args m ρ c b hb
  rw [← e main_arg0 (by decide), ← e main_arg1 (by decide), ← e main_arg5 (by decide), ← e main_arg6 (by decide)]
  obtain ⟨h0, h1, h2, h3⟩ : V6 m ρ c main_v3_0 = V5 m ρ c main_v2_0 ∧ V6 m ρ c main_v3_1 = V5 m ρ c main_v2_1 ∧ V6 m ρ c main_v3_2 = V5 m ρ c main_v2_2 ∧ V6 m ρ c main_v3_3 = V5 m ρ c main_v2_3 := by
    show after hostOps3 (W5 m ρ c) (Proc.devRef .tc main_v3_0) = _ ∧ after hostOps3 (W5 m ρ c) (Proc.devRef .tc main_v3_1) = _ ∧ after hostOps3 (W5 m ρ c) (Proc.devRef .tc main_v3_2) = _ ∧ after hostOps3 (W5 m ρ c) (Proc.devRef .tc main_v3_3) = _
    refine ⟨?_, ?_, ?_, ?_⟩ <;> (after_results_simp <;> rfl)
  rw [← h0, ← h1, ← h2, ← h3, ← arr3]
  funext j
  match j with
  | ⟨0, _⟩ => exact W7_arr m ρ c 4
  | ⟨1, _⟩ => exact W7_arr m ρ c 5
  | ⟨2, _⟩ => exact W7_arr m ρ c 6
  | ⟨3, _⟩ => exact W7_arr m ρ c 7

/-- The four results of the whole call. -/
theorem value : (![V7 m ρ c main_v3_0, V7 m ρ c main_v3_1, V7 m ρ c main_v3_2, V7 m ρ c main_v3_3] : Fin 4 → FVec Ideal S4x704x1024 .f32) = quad (m ((c : Thread nD τ).loc main_arg0)) (m ((c : Thread nD τ).loc main_arg5)) (m ((c : Thread nD τ).loc main_arg6))
    (stack (m ((c : Thread nD τ).loc main_arg1)) (m ((c : Thread nD τ).loc main_arg2)) (m ((c : Thread nD τ).loc main_arg3)) (m ((c : Thread nD τ).loc main_arg4))) := by
  rw [res3, res2, res1, res0]
  exact layers _ _ _ _ _ _ _ _

end Cert.Kernel40Ideal.Body

namespace Cert.Kernel40Ideal.Body
open Cert.Kernel40Ideal Cert.Kernel40Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable (m : (ℓ : Loc nD τ sig) → Buf (Elt Ideal) ℓ) (ρ : Dev nD → PrngReg)

/-- The run, with the results as the four regions leave them. -/
theorem run : θ_run defs (onTc (τ := τ) (main (F := Ideal))) ⟨m, fun _ => 0, ρ⟩ fun r => ∀ c : Dev nD,
      r.2.mem ((c : Thread nD τ).loc main_v3_0) = V7 m ρ c main_v3_0
      ∧ r.2.mem ((c : Thread nD τ).loc main_v3_1) = V7 m ρ c main_v3_1
      ∧ r.2.mem ((c : Thread nD τ).loc main_v3_2) = V7 m ρ c main_v3_2
      ∧ r.2.mem ((c : Thread nD τ).loc main_v3_3) = V7 m ρ c main_v3_3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c => ⟨h c _ (mem_uc main_v3_0 (by decide)), h c _ (mem_uc main_v3_1 (by decide)), h c _ (mem_uc main_v3_2 (by decide)), h c _ (mem_uc main_v3_3 (by decide)),
      (h c _ (mem_uc main_arg0 (by decide))).trans (W7_main_arg0 m ρ c), (h c _ (mem_uc main_arg1 (by decide))).trans (W7_main_arg1 m ρ c), (h c _ (mem_uc main_arg2 (by decide))).trans (W7_main_arg2 m ρ c), (h c _ (mem_uc main_arg3 (by decide))).trans (W7_main_arg3 m ρ c), (h c _ (mem_uc main_arg4 (by decide))).trans (W7_main_arg4 m ρ c), (h c _ (mem_uc main_arg5 (by decide))).trans (W7_main_arg5 m ρ c), (h c _ (mem_uc main_arg6 (by decide))).trans (W7_main_arg6 m ρ c)⟩)

end Cert.Kernel40Ideal.Body

namespace Cert.Reference40Ideal.Read
open Cert.Reference40Ideal Cert.Reference40Ideal.Gen Idealize.ShloMosaic Idealize.ShloMosaic.TcCoe Idealize.SL.Sem Cert.Adam

theorem frame : Cert.quiescent_Reference40Ideal := fun m ρ _ =>
  (θ_run defs _ _).mono (fun r h => ⟨fun c => (h c).2.2.2.2, sem_eq_zero_of_no_sems (by decide) r.2⟩) (Value.run m ρ)

theorem stacked (g0 g1 g2 g3 : FVec Ideal S704x1024 .f32) : (concatenate S4x704x1024 0 [⟨S1x704x1024, broadcastInDim S1x704x1024 ![1, 2] bcast_S704x1024_S1x704x1024_1_2 g0⟩, ⟨S1x704x1024, broadcastInDim S1x704x1024 ![1, 2] bcast_S704x1024_S1x704x1024_1_2 g1⟩,
    ⟨S1x704x1024, broadcastInDim S1x704x1024 ![1, 2] bcast_S704x1024_S1x704x1024_1_2 g2⟩, ⟨S1x704x1024, broadcastInDim S1x704x1024 ![1, 2] bcast_S704x1024_S1x704x1024_1_2 g3⟩] concatenates_S1x704x1024_S1x704x1024_S1x704x1024_S1x704x1024_S4x704x1024_d0 : FVec Ideal S4x704x1024 .f32) = stack g0 g1 g2 g3 := by
  funext i
  obtain ⟨s, p, q, rfl⟩ : ∃ (s : Fin 4) (p : Fin 704) (q : Fin 1024), ix3 s p q = i := ⟨i 0, i 1, i 2, funext fun b => by fin_cases b <;> rfl⟩
  match s with
  | ⟨0, _⟩ => pointwise []; rfl
  | ⟨1, _⟩ => pointwise []; rfl
  | ⟨2, _⟩ => pointwise []; rfl
  | ⟨3, _⟩ => pointwise []; rfl

end Cert.Reference40Ideal.Read

namespace Cert.Kernel40Ideal.Body
open Idealize.ShloMosaic Idealize.ShloMosaic.TcCoe Idealize.SL.Sem Cert.Adam

theorem algebraic : Cert.algebraic_Kernel40Ideal_Reference40Ideal := by
  intro m g m' g' hpre hag
  refine ⟨fun c => Cert.Kernel40Ideal.Gen.V7 m g c Cert.Kernel40Ideal.main_v3_0, fun c => Cert.Kernel40Ideal.Gen.V7 m g c Cert.Kernel40Ideal.main_v3_1, fun c => Cert.Kernel40Ideal.Gen.V7 m g c Cert.Kernel40Ideal.main_v3_2, fun c => Cert.Kernel40Ideal.Gen.V7 m g c Cert.Kernel40Ideal.main_v3_3, run m g, ?_⟩
  refine (θ_run Cert.Reference40Ideal.defs _ _).mono (fun r h c => ?_) (Cert.Reference40Ideal.Value.run m' g')
  obtain ⟨h0, h1, h2, h3, ha⟩ := h c
  obtain ⟨e0, e1, e2, e3, e4, e5, e6⟩ := hag c
  rw [Cert.Reference40Ideal.Read.stacked] at h0 h1 h2 h3
  rw [e1, e2, e3, e4] at h0
  rw [e0, e1, e2, e3, e4, e5, e6] at h1
  rw [e1, e2, e3, e4, e5] at h2
  rw [e1, e2, e3, e4, e6] at h3
  have hv := value m g c
  exact ⟨h0.trans (congrFun hv 0).symm, h1.trans (congrFun hv 1).symm, h2.trans (congrFun hv 2).symm, h3.trans (congrFun hv 3).symm, ha⟩

end Cert.Kernel40Ideal.Body

end
-- ==== Proof.AdamPe.lean ====
module

public import proofs.«01_k».proof.Defs
public import proofs.«01_k».proof.Proof.Gen.Kernel41Ideal.Frame
public import proofs.«01_k».proof.Proof.Gen.Reference41Ideal.Run
public import proofs.«01_k».proof.Proof.AdamLayers
public import Idealize.ShloMosaic.Lib.StableHlo.ReadAt
public import Idealize.ShloMosaic.Lib.Pointwise
public import Idealize.ShloMosaic.Lib.Tactic
public import Idealize.ShloMosaic.Lib.Quiescent
public import Idealize.ShloMosaic.PureOps.Ideal.Laws

/-! The optimiser's steps of w_pe, one layer after the other. -/

@[expose] public section
set_option maxRecDepth 16384
noncomputable section

namespace Cert.Kernel41Ideal.Body
open Cert.Kernel41Ideal Cert.Kernel41Ideal.Gen Idealize.ShloMosaic Idealize.ShloMosaic.TcCoe Idealize.SL.Sem Cert.Adam
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

/-- One after the other, what a point leaves in the four results. -/
def four (p : FVec Ideal S1x256x256 .f32 × FVec Ideal S1x256x256 .f32 × FVec Ideal S1x256x256 .f32 × FVec Ideal S1x256x256 .f32) : Fin 4 → FVec Ideal S1x256x256 .f32 := ![p.1, p.2.1, p.2.2.1, p.2.2.2]

/-- What a point leaves: the step of its block. -/
def step (x0 : FVec Ideal S1x256x256 .f32) (x1 : FVec Ideal S256x256 .f32) (x2 x3 : FVec Ideal S1x256x256 .f32) :
    FVec Ideal S1x256x256 .f32 × FVec Ideal S1x256x256 .f32 × FVec Ideal S1x256x256 .f32 × FVec Ideal S1x256x256 .f32 :=
  (spread 1 x1, change x0 (spread 1 x1) x2 x3, first (spread 1 x1) x2, second (spread 1 x1) x3)

theorem pay (x0 : FVec Ideal S1x256x256 .f32) (x1 : FVec Ideal S256x256 .f32) (x2 x3 : FVec Ideal S1x256x256 .f32) :
    (k0_pay6 x1, k0_pay1 (k0_pay7 x1 x2 x3 x0), k0_pay2 (k0_pay4 x1 x2), k0_pay3 (k0_pay5 x1 x3)) = step x0 x1 x2 x3 := by
  have up (y : FVec Ideal S256x256 .f32) (a : Fin 1) (p : Fin 256) (q : Fin 256) : shapeCast S1x256x256 y shapeCasts_S256x256_S1x256x256 (ix3 a p q) = y (ix2 p q) := by
    obtain rfl := Subsingleton.elim a 0
    pointwise []
  have dn (y : FVec Ideal S1x256x256 .f32) : shapeCast S256x256 y shapeCasts_S1x256x256_S256x256 = fun j => y (ix3 (0 : Fin 1) (j 0 : Fin 256) (j 1 : Fin 256)) := by
    funext j
    obtain ⟨p, q, rfl⟩ : ∃ (p : Fin 256) (q : Fin 256), ix2 p q = j := ⟨j 0, j 1, funext fun b => by fin_cases b <;> rfl⟩
    pointwise []
  refine Prod.ext (funext fun i => ?_) (Prod.ext (funext fun i => ?_) (Prod.ext (funext fun i => ?_) (funext fun i => ?_)))
  all_goals
    obtain ⟨a, p, q, rfl⟩ : ∃ (a : Fin 1) (p : Fin 256) (q : Fin 256), ix3 a p q = i := ⟨i 0, i 1, i 2, funext fun b => by fin_cases b <;> rfl⟩
    obtain rfl := Subsingleton.elim a 0
  · exact up x1 0 p q
  · refine (up (k0_pay7 x1 x2 x3 x0) 0 p q).trans ?_
    simp only [k0_pay7, k0_pay4, k0_pay5, dn]
    rfl
  · refine (up (k0_pay4 x1 x2) 0 p q).trans ?_
    simp only [k0_pay4, dn]
    rfl
  · refine (up (k0_pay5 x1 x3) 0 p q).trans ?_
    simp only [k0_pay5, dn]
    rfl

variable (V : (c : Dev nD) → (b : Ref sig .tc) → Buf (Elt Ideal) ((c : Thread nD τ).loc b)) (c : Dev nD)

/-! The region of layer 3. -/

def outsAt0 (t : Fin cfg0.N) : FVec Ideal S1x256x256 .f32 × FVec Ideal S1x256x256 .f32 × FVec Ideal S1x256x256 .f32 × FVec Ideal S1x256x256 .f32 :=
  (out0_4 (iblk0 V c 0 t) (iblk0 V c 1 t) (iblk0 V c 2 t) (iblk0 V c 3 t), out0_5 (iblk0 V c 0 t) (iblk0 V c 1 t) (iblk0 V c 2 t) (iblk0 V c 3 t), out0_6 (iblk0 V c 0 t) (iblk0 V c 1 t) (iblk0 V c 2 t) (iblk0 V c 3 t), out0_7 (iblk0 V c 0 t) (iblk0 V c 1 t) (iblk0 V c 2 t) (iblk0 V c 3 t))

theorem outs0 (t : Fin cfg0.N) : outsAt0 V c t = step (iblk0 V c 0 t) (iblk0 V c 1 t) (iblk0 V c 2 t) (iblk0 V c 3 t) := by
  refine Eq.trans ?_ (pay _ _ _ _)
  unfold outsAt0 out0_4 out0_5 out0_6 out0_7
  rw [View.canon_unit_zero hz3, View.canon_unit_zero hz3, View.canon_unit_zero hz3, View.canon_unit_zero hz3]
  simp only [View.ld_unit_zero (S := S1x256x256) hz3, View.ld_unit_zero (S := S256x256) hz]

theorem left0 (t : Fin cfg0.N) : (![(dat0 V c).after 4 t, (dat0 V c).after 5 t, (dat0 V c).after 6 t, (dat0 V c).after 7 t] : Fin 4 → FVec Ideal S1x256x256 .f32) = quad (iblk0 V c 0 t) (iblk0 V c 2 t) (iblk0 V c 3 t) (spread 1 (iblk0 V c 1 t)) := by
  have e4 : (dat0 V c).after 4 t = (outsAt0 V c t).1 := by dsimp only [dat0, outsAt0]
  have e5 : (dat0 V c).after 5 t = (outsAt0 V c t).2.1 := by dsimp only [dat0, outsAt0]
  have e6 : (dat0 V c).after 6 t = (outsAt0 V c t).2.2.1 := by dsimp only [dat0, outsAt0]
  have e7 : (dat0 V c).after 7 t = (outsAt0 V c t).2.2.2 := by dsimp only [dat0, outsAt0]
  rw [e4, e5, e6, e7]
  exact congrArg four (outs0 V c t)

theorem idx0 : ∀ t : Fin cfg0.N, (win0_4.index t 0 = 3 ∧ win0_4.index t 1 = t.val ∧ win0_4.index t 2 = 0) ∧ win0_1.index t 0 = t.val ∧ win0_1.index t 1 = 0 := by decide +kernel

theorem mem0 (i : S4x256x256.Idx) : (∃ t : Fin cfg0.N, i ∈ ((cfg0.win 4).blk t).view.set) ↔ (i 0).val = 3 :=
  (exists_congr fun t => show i ∈ ((View.whole main_v0_0).slice (win0_4.rect t)).set ↔ _ by rw [View.set_slice_whole, Rect.mem_set_unit]; exact Iff.rfl).trans
    (rows win0_4.index (by decide : 0 < 256) (show grid0.N * 256 = 256 by rw [N_0]) (fun t => (idx0 t).1) i)

theorem grad0 (t : Fin cfg0.N) (x : S1x256x256.Idx) : spread 1 (iblk0 V c 1 t) x = spread 4 (V c main_arg4) (((cfg0.win 4).blk t).view.emb x) := by
  refine congrArg (V c main_arg4) (funext fun a => Fin.ext ?_)
  match a with
  | ⟨0, _⟩ => show win0_1.index t 0 * 256 + 1 * (x 1).val = win0_4.index t 1 * 256 + 1 * (x 1).val; rw [(idx0 t).1.2.1, (idx0 t).2.1]
  | ⟨1, _⟩ => show win0_1.index t 1 * 256 + 1 * (x 2).val = win0_4.index t 2 * 256 + 1 * (x 2).val; rw [(idx0 t).1.2.2, (idx0 t).2.2]

/-- What the region leaves in its four arrays. -/
theorem arr0 : (![(dat0 V c).arrAt 4 cfg0.N, (dat0 V c).arrAt 5 cfg0.N, (dat0 V c).arrAt 6 cfg0.N, (dat0 V c).arrAt 7 cfg0.N] : Fin 4 → FVec Ideal S4x256x256 .f32) =
    layer 3 (V c main_arg0) (V c main_arg4) (V c main_arg5) (V c main_arg6) ![V c main_v0_0, V c main_v0_1, V c main_v0_2, V c main_v0_3] := by
  let Q : Fin 4 → FVec Ideal S4x256x256 .f32 := quad (V c main_arg0) (V c main_arg5) (V c main_arg6) (spread 4 (V c main_arg4))
  have key (t : Fin cfg0.N) (j : Fin 4) (x : S1x256x256.Idx) : (![(dat0 V c).after 4 t, (dat0 V c).after 5 t, (dat0 V c).after 6 t, (dat0 V c).after 7 t] : Fin 4 → FVec Ideal S1x256x256 .f32) j x = Q j (((cfg0.win 4).blk t).view.emb x) := by
    rw [left0]
    exact quad_at _ _ _ _ _ _ _ _ j x _ rfl rfl rfl (grad0 V c t x)
  funext j i
  match j with
  | ⟨0, _⟩ => exact ((dat0 V c).arrAt_eq_piecewise 4 (Q 0) (fun t _ => funext (key t 0)) i).trans (if_congr (drop flush0_4 (mem0 i)) rfl rfl)
  | ⟨1, _⟩ => exact ((dat0 V c).arrAt_eq_piecewise 5 (Q 1) (fun t _ => funext (key t 1)) i).trans (if_congr (drop flush0_5 (mem0 i)) rfl rfl)
  | ⟨2, _⟩ => exact ((dat0 V c).arrAt_eq_piecewise 6 (Q 2) (fun t _ => funext (key t 2)) i).trans (if_congr (drop flush0_6 (mem0 i)) rfl rfl)
  | ⟨3, _⟩ => exact ((dat0 V c).arrAt_eq_piecewise 7 (Q 3) (fun t _ => funext (key t 3)) i).trans (if_congr (drop flush0_7 (mem0 i)) rfl rfl)

/-! The region of layer 2. -/

set_option maxHeartbeats 2000000 in
theorem outs1 (t : Fin cfg1.N) : outsAt1 V c t = step (iblk1 V c 0 t) (iblk1 V c 1 t) (iblk1 V c 2 t) (iblk1 V c 3 t) := by
  refine Eq.trans ?_ (pay _ _ _ _)
  unfold outsAt1 out1_A_4 out1_A_5 out1_A_6 out1_A_7
  rw [View.read_writes_junk_eq_canon, View.read_writes_junk_eq_canon, View.read_writes_junk_eq_canon, View.read_writes_junk_eq_canon]
  unfold kernelRun1_A
  dsimp only
  sl_unfold_words
  rw [View.canon_unit_zero hz3, View.canon_unit_zero hz3, View.canon_unit_zero hz3, View.canon_unit_zero hz3]
  simp only [View.readAt_eq_ld, Memref.IsWhole.read_unread]
  simp only [View.ld_unit_zero (S := S1x256x256) hz3, View.ld_unit_zero (S := S256x256) hz]
  rfl

theorem left1 (t : Fin cfg1.N) : (![(dat1 V c).after 4 t, (dat1 V c).after 5 t, (dat1 V c).after 6 t, (dat1 V c).after 7 t] : Fin 4 → FVec Ideal S1x256x256 .f32) = quad (iblk1 V c 0 t) (iblk1 V c 2 t) (iblk1 V c 3 t) (spread 1 (iblk1 V c 1 t)) := by
  rw [after1_4, after1_5, after1_6, after1_7]
  exact congrArg four (outs1 V c t)

theorem idx1 : ∀ t : Fin cfg1.N, (win1_4.index t 0 = 2 ∧ win1_4.index t 1 = t.val ∧ win1_4.index t 2 = 0) ∧ win1_1.index t 0 = t.val ∧ win1_1.index t 1 = 0 := by decide +kernel

theorem mem1 (i : S4x256x256.Idx) : (∃ t : Fin cfg1.N, i ∈ ((cfg1.win 4).blk t).view.set) ↔ (i 0).val = 2 :=
  (exists_congr fun t => show i ∈ ((View.whole main_v1_0).slice (win1_4.rect t)).set ↔ _ by rw [View.set_slice_whole, Rect.mem_set_unit]; exact Iff.rfl).trans
    (rows win1_4.index (by decide : 0 < 256) (show grid1.N * 256 = 256 by rw [N_1]) (fun t => (idx1 t).1) i)

theorem grad1 (t : Fin cfg1.N) (x : S1x256x256.Idx) : spread 1 (iblk1 V c 1 t) x = spread 4 (V c main_arg3) (((cfg1.win 4).blk t).view.emb x) := by
  refine congrArg (V c main_arg3) (funext fun a => Fin.ext ?_)
  match a with
  | ⟨0, _⟩ => show win1_1.index t 0 * 256 + 1 * (x 1).val = win1_4.index t 1 * 256 + 1 * (x 1).val; rw [(idx1 t).1.2.1, (idx1 t).2.1]
  | ⟨1, _⟩ => show win1_1.index t 1 * 256 + 1 * (x 2).val = win1_4.index t 2 * 256 + 1 * (x 2).val; rw [(idx1 t).1.2.2, (idx1 t).2.2]

/-- What the region leaves in its four arrays. -/
theorem arr1 : (![(dat1 V c).arrAt 4 cfg1.N, (dat1 V c).arrAt 5 cfg1.N, (dat1 V c).arrAt 6 cfg1.N, (dat1 V c).arrAt 7 cfg1.N] : Fin 4 → FVec Ideal S4x256x256 .f32) =
    layer 2 (V c main_arg0) (V c main_arg3) (V c main_arg5) (V c main_arg6) ![V c main_v1_0, V c main_v1_1, V c main_v1_2, V c main_v1_3] := by
  let Q : Fin 4 → FVec Ideal S4x256x256 .f32 := quad (V c main_arg0) (V c main_arg5) (V c main_arg6) (spread 4 (V c main_arg3))
  have key (t : Fin cfg1.N) (j : Fin 4) (x : S1x256x256.Idx) : (![(dat1 V c).after 4 t, (dat1 V c).after 5 t, (dat1 V c).after 6 t, (dat1 V c).after 7 t] : Fin 4 → FVec Ideal S1x256x256 .f32) j x = Q j (((cfg1.win 4).blk t).view.emb x) := by
    rw [left1]
    exact quad_at _ _ _ _ _ _ _ _ j x _ rfl rfl rfl (grad1 V c t x)
  funext j i
  match j with
  | ⟨0, _⟩ => exact ((dat1 V c).arrAt_eq_piecewise 4 (Q 0) (fun t _ => funext (key t 0)) i).trans (if_congr (drop flush1_4 (mem1 i)) rfl rfl)
  | ⟨1, _⟩ => exact ((dat1 V c).arrAt_eq_piecewise 5 (Q 1) (fun t _ => funext (key t 1)) i).trans (if_congr (drop flush1_5 (mem1 i)) rfl rfl)
  | ⟨2, _⟩ => exact ((dat1 V c).arrAt_eq_piecewise 6 (Q 2) (fun t _ => funext (key t 2)) i).trans (if_congr (drop flush1_6 (mem1 i)) rfl rfl)
  | ⟨3, _⟩ => exact ((dat1 V c).arrAt_eq_piecewise 7 (Q 3) (fun t _ => funext (key t 3)) i).trans (if_congr (drop flush1_7 (mem1 i)) rfl rfl)

/-! The region of layer 1. -/

set_option maxHeartbeats 2000000 in
theorem outs2 (t : Fin cfg2.N) : outsAt2 V c t = step (iblk2 V c 0 t) (iblk2 V c 1 t) (iblk2 V c 2 t) (iblk2 V c 3 t) := by
  refine Eq.trans ?_ (pay _ _ _ _)
  unfold outsAt2 out2_A_4 out2_A_5 out2_A_6 out2_A_7
  rw [View.read_writes_junk_eq_canon, View.read_writes_junk_eq_canon, View.read_writes_junk_eq_canon, View.read_writes_junk_eq_canon]
  unfold kernelRun2_A
  dsimp only
  sl_unfold_words
  rw [View.canon_unit_zero hz3, View.canon_unit_zero hz3, View.canon_unit_zero hz3, View.canon_unit_zero hz3]
  simp only [View.readAt_eq_ld, Memref.IsWhole.read_unread]
  simp only [View.ld_unit_zero (S := S1x256x256) hz3, View.ld_unit_zero (S := S256x256) hz]
  rfl

theorem left2 (t : Fin cfg2.N) : (![(dat2 V c).after 4 t, (dat2 V c).after 5 t, (dat2 V c).after 6 t, (dat2 V c).after 7 t] : Fin 4 → FVec Ideal S1x256x256 .f32) = quad (iblk2 V c 0 t) (iblk2 V c 2 t) (iblk2 V c 3 t) (spread 1 (iblk2 V c 1 t)) := by
  rw [after2_4, after2_5, after2_6, after2_7]
  exact congrArg four (outs2 V c t)

theorem idx2 : ∀ t : Fin cfg2.N, (win2_4.index t 0 = 1 ∧ win2_4.index t 1 = t.val ∧ win2_4.index t 2 = 0) ∧ win2_1.index t 0 = t.val ∧ win2_1.index t 1 = 0 := by decide +kernel

theorem mem2 (i : S4x256x256.Idx) : (∃ t : Fin cfg2.N, i ∈ ((cfg2.win 4).blk t).view.set) ↔ (i 0).val = 1 :=
  (exists_congr fun t => show i ∈ ((View.whole main_v2_0).slice (win2_4.rect t)).set ↔ _ by rw [View.set_slice_whole, Rect.mem_set_unit]; exact Iff.rfl).trans
    (rows win2_4.index (by decide : 0 < 256) (show grid2.N * 256 = 256 by rw [N_2]) (fun t => (idx2 t).1) i)

theorem grad2 (t : Fin cfg2.N) (x : S1x256x256.Idx) : spread 1 (iblk2 V c 1 t) x = spread 4 (V c main_arg2) (((cfg2.win 4).blk t).view.emb x) := by
  refine congrArg (V c main_arg2) (funext fun a => Fin.ext ?_)
  match a with
  | ⟨0, _⟩ => show win2_1.index t 0 * 256 + 1 * (x 1).val = win2_4.index t 1 * 256 + 1 * (x 1).val; rw [(idx2 t).1.2.1, (idx2 t).2.1]
  | ⟨1, _⟩ => show win2_1.index t 1 * 256 + 1 * (x 2).val = win2_4.index t 2 * 256 + 1 * (x 2).val; rw [(idx2 t).1.2.2, (idx2 t).2.2]

/-- What the region leaves in its four arrays. -/
theorem arr2 : (![(dat2 V c).arrAt 4 cfg2.N, (dat2 V c).arrAt 5 cfg2.N, (dat2 V c).arrAt 6 cfg2.N, (dat2 V c).arrAt 7 cfg2.N] : Fin 4 → FVec Ideal S4x256x256 .f32) =
    layer 1 (V c main_arg0) (V c main_arg2) (V c main_arg5) (V c main_arg6) ![V c main_v2_0, V c main_v2_1, V c main_v2_2, V c main_v2_3] := by
  let Q : Fin 4 → FVec Ideal S4x256x256 .f32 := quad (V c main_arg0) (V c main_arg5) (V c main_arg6) (spread 4 (V c main_arg2))
  have key (t : Fin cfg2.N) (j : Fin 4) (x : S1x256x256.Idx) : (![(dat2 V c).after 4 t, (dat2 V c).after 5 t, (dat2 V c).after 6 t, (dat2 V c).after 7 t] : Fin 4 → FVec Ideal S1x256x256 .f32) j x = Q j (((cfg2.win 4).blk t).view.emb x) := by
    rw [left2]
    exact quad_at _ _ _ _ _ _ _ _ j x _ rfl rfl rfl (grad2 V c t x)
  funext j i
  match j with
  | ⟨0, _⟩ => exact ((dat2 V c).arrAt_eq_piecewise 4 (Q 0) (fun t _ => funext (key t 0)) i).trans (if_congr (drop flush2_4 (mem2 i)) rfl rfl)
  | ⟨1, _⟩ => exact ((dat2 V c).arrAt_eq_piecewise 5 (Q 1) (fun t _ => funext (key t 1)) i).trans (if_congr (drop flush2_5 (mem2 i)) rfl rfl)
  | ⟨2, _⟩ => exact ((dat2 V c).arrAt_eq_piecewise 6 (Q 2) (fun t _ => funext (key t 2)) i).trans (if_congr (drop flush2_6 (mem2 i)) rfl rfl)
  | ⟨3, _⟩ => exact ((dat2 V c).arrAt_eq_piecewise 7 (Q 3) (fun t _ => funext (key t 3)) i).trans (if_congr (drop flush2_7 (mem2 i)) rfl rfl)

/-! The region of layer 0. -/

set_option maxHeartbeats 2000000 in
theorem outs3 (t : Fin cfg3.N) : outsAt3 V c t = step (iblk3 V c 0 t) (iblk3 V c 1 t) (iblk3 V c 2 t) (iblk3 V c 3 t) := by
  refine Eq.trans ?_ (pay _ _ _ _)
  unfold outsAt3 out3_A_4 out3_A_5 out3_A_6 out3_A_7
  rw [View.read_writes_junk_eq_canon, View.read_writes_junk_eq_canon, View.read_writes_junk_eq_canon, View.read_writes_junk_eq_canon]
  unfold kernelRun3_A
  dsimp only
  sl_unfold_words
  rw [View.canon_unit_zero hz3, View.canon_unit_zero hz3, View.canon_unit_zero hz3, View.canon_unit_zero hz3]
  simp only [View.readAt_eq_ld, Memref.IsWhole.read_unread]
  simp only [View.ld_unit_zero (S := S1x256x256) hz3, View.ld_unit_zero (S := S256x256) hz]
  rfl

theorem left3 (t : Fin cfg3.N) : (![(dat3 V c).after 4 t, (dat3 V c).after 5 t, (dat3 V c).after 6 t, (dat3 V c).after 7 t] : Fin 4 → FVec Ideal S1x256x256 .f32) = quad (iblk3 V c 0 t) (iblk3 V c 2 t) (iblk3 V c 3 t) (spread 1 (iblk3 V c 1 t)) := by
  rw [after3_4, after3_5, after3_6, after3_7]
  exact congrArg four (outs3 V c t)

theorem idx3 : ∀ t : Fin cfg3.N, (win3_4.index t 0 = 0 ∧ win3_4.index t 1 = t.val ∧ win3_4.index t 2 = 0) ∧ win3_1.index t 0 = t.val ∧ win3_1.index t 1 = 0 := by decide +kernel

theorem mem3 (i : S4x256x256.Idx) : (∃ t : Fin cfg3.N, i ∈ ((cfg3.win 4).blk t).view.set) ↔ (i 0).val = 0 :=
  (exists_congr fun t => show i ∈ ((View.whole main_v3_0).slice (win3_4.rect t)).set ↔ _ by rw [View.set_slice_whole, Rect.mem_set_unit]; exact Iff.rfl).trans
    (rows win3_4.index (by decide : 0 < 256) (show grid3.N * 256 = 256 by rw [N_3]) (fun t => (idx3 t).1) i)

theorem grad3 (t : Fin cfg3.N) (x : S1x256x256.Idx) : spread 1 (iblk3 V c 1 t) x = spread 4 (V c main_arg1) (((cfg3.win 4).blk t).view.emb x) := by
  refine congrArg (V c main_arg1) (funext fun a => Fin.ext ?_)
  match a with
  | ⟨0, _⟩ => show win3_1.index t 0 * 256 + 1 * (x 1).val = win3_4.index t 1 * 256 + 1 * (x 1).val; rw [(idx3 t).1.2.1, (idx3 t).2.1]
  | ⟨1, _⟩ => show win3_1.index t 1 * 256 + 1 * (x 2).val = win3_4.index t 2 * 256 + 1 * (x 2).val; rw [(idx3 t).1.2.2, (idx3 t).2.2]

/-- What the region leaves in its four arrays. -/
theorem arr3 : (![(dat3 V c).arrAt 4 cfg3.N, (dat3 V c).arrAt 5 cfg3.N, (dat3 V c).arrAt 6 cfg3.N, (dat3 V c).arrAt 7 cfg3.N] : Fin 4 → FVec Ideal S4x256x256 .f32) =
    layer 0 (V c main_arg0) (V c main_arg1) (V c main_arg5) (V c main_arg6) ![V c main_v3_0, V c main_v3_1, V c main_v3_2, V c main_v3_3] := by
  let Q : Fin 4 → FVec Ideal S4x256x256 .f32 := quad (V c main_arg0) (V c main_arg5) (V c main_arg6) (spread 4 (V c main_arg1))
  have key (t : Fin cfg3.N) (j : Fin 4) (x : S1x256x256.Idx) : (![(dat3 V c).after 4 t, (dat3 V c).after 5 t, (dat3 V c).after 6 t, (dat3 V c).after 7 t] : Fin 4 → FVec Ideal S1x256x256 .f32) j x = Q j (((cfg3.win 4).blk t).view.emb x) := by
    rw [left3]
    exact quad_at _ _ _ _ _ _ _ _ j x _ rfl rfl rfl (grad3 V c t x)
  funext j i
  match j with
  | ⟨0, _⟩ => exact ((dat3 V c).arrAt_eq_piecewise 4 (Q 0) (fun t _ => funext (key t 0)) i).trans (if_congr (drop flush3_4 (mem3 i)) rfl rfl)
  | ⟨1, _⟩ => exact ((dat3 V c).arrAt_eq_piecewise 5 (Q 1) (fun t _ => funext (key t 1)) i).trans (if_congr (drop flush3_5 (mem3 i)) rfl rfl)
  | ⟨2, _⟩ => exact ((dat3 V c).arrAt_eq_piecewise 6 (Q 2) (fun t _ => funext (key t 2)) i).trans (if_congr (drop flush3_6 (mem3 i)) rfl rfl)
  | ⟨3, _⟩ => exact ((dat3 V c).arrAt_eq_piecewise 7 (Q 3) (fun t _ => funext (key t 3)) i).trans (if_congr (drop flush3_7 (mem3 i)) rfl rfl)

end Cert.Kernel41Ideal.Body

namespace Cert.Kernel41Ideal.Body
open Cert.Kernel41Ideal Cert.Kernel41Ideal.Gen Idealize.ShloMosaic Idealize.ShloMosaic.TcCoe Idealize.SL.Sem Cert.Adam
open Idealize.ShloMosaic.StableHlo (after)
variable (m : (ℓ : Loc nD τ sig) → Buf (Elt Ideal) ℓ) (ρ : Dev nD → PrngReg) (c : Dev nD)

theorem res0 : (![V1 m ρ c main_v0_0, V1 m ρ c main_v0_1, V1 m ρ c main_v0_2, V1 m ρ c main_v0_3] : Fin 4 → FVec Ideal S4x256x256 .f32) = layer 3 (m ((c : Thread nD τ).loc main_arg0)) (m ((c : Thread nD τ).loc main_arg4)) (m ((c : Thread nD τ).loc main_arg5)) (m ((c : Thread nD τ).loc main_arg6)) ![V0 m ρ c main_v0_0, V0 m ρ c main_v0_1, V0 m ρ c main_v0_2, V0 m ρ c main_v0_3] := by
  have e (b) (hb : b ∈ argRefs) : V0 m ρ c b = m ((c : Thread nD τ).loc b) := W0_args m ρ c b hb
  rw [← e main_arg0 (by decide), ← e main_arg4 (by decide), ← e main_arg5 (by decide), ← e main_arg6 (by decide)]
  rw [← arr0]
  funext j
  match j with
  | ⟨0, _⟩ => exact W1_arr m ρ c 4
  | ⟨1, _⟩ => exact W1_arr m ρ c 5
  | ⟨2, _⟩ => exact W1_arr m ρ c 6
  | ⟨3, _⟩ => exact W1_arr m ρ c 7

theorem res1 : (![V3 m ρ c main_v1_0, V3 m ρ c main_v1_1, V3 m ρ c main_v1_2, V3 m ρ c main_v1_3] : Fin 4 → FVec Ideal S4x256x256 .f32) = layer 2 (m ((c : Thread nD τ).loc main_arg0)) (m ((c : Thread nD τ).loc main_arg3)) (m ((c : Thread nD τ).loc main_arg5)) (m ((c : Thread nD τ).loc main_arg6)) ![V1 m ρ c main_v0_0, V1 m ρ c main_v0_1, V1 m ρ c main_v0_2, V1 m ρ c main_v0_3] := by
  have e (b) (hb : b ∈ argRefs) : V2 m ρ c b = m ((c : Thread nD τ).loc b) := W2_args m ρ c b hb
  rw [← e main_arg0 (by decide), ← e main_arg3 (by decide), ← e main_arg5 (by decide), ← e main_arg6 (by decide)]
  obtain ⟨h0, h1, h2, h3⟩ : V2 m ρ c main_v1_0 = V1 m ρ c main_v0_0 ∧ V2 m ρ c main_v1_1 = V1 m ρ c main_v0_1 ∧ V2 m ρ c main_v1_2 = V1 m ρ c main_v0_2 ∧ V2 m ρ c main_v1_3 = V1 m ρ c main_v0_3 := by
    show after hostOps1 (W1 m ρ c) (Proc.devRef .tc main_v1_0) = _ ∧ after hostOps1 (W1 m ρ c) (Proc.devRef .tc main_v1_1) = _ ∧ after hostOps1 (W1 m ρ c) (Proc.devRef .tc main_v1_2) = _ ∧ after hostOps1 (W1 m ρ c) (Proc.devRef .tc main_v1_3) = _
    refine ⟨?_, ?_, ?_, ?_⟩ <;> (after_results_simp <;> rfl)
  rw [← h0, ← h1, ← h2, ← h3, ← arr1]
  funext j
  match j with
  | ⟨0, _⟩ => exact W3_arr m ρ c 4
  | ⟨1, _⟩ => exact W3_arr m ρ c 5
  | ⟨2, _⟩ => exact W3_arr m ρ c 6
  | ⟨3, _⟩ => exact W3_arr m ρ c 7

theorem res2 : (![V5 m ρ c main_v2_0, V5 m ρ c main_v2_1, V5 m ρ c main_v2_2, V5 m ρ c main_v2_3] : Fin 4 → FVec Ideal S4x256x256 .f32) = layer 1 (m ((c : Thread nD τ).loc main_arg0)) (m ((c : Thread nD τ).loc main_arg2)) (m ((c : Thread nD τ).loc main_arg5)) (m ((c : Thread nD τ).loc main_arg6)) ![V3 m ρ c main_v1_0, V3 m ρ c main_v1_1, V3 m ρ c main_v1_2, V3 m ρ c main_v1_3] := by
  have e (b) (hb : b ∈ argRefs) : V4 m ρ c b = m ((c : Thread nD τ).loc b) := W4_args m ρ c b hb
  rw [← e main_arg0 (by decide), ← e main_arg2 (by decide), ← e main_arg5 (by decide), ← e main_arg6 (by decide)]
  obtain ⟨h0, h1, h2, h3⟩ : V4 m ρ c main_v2_0 = V3 m ρ c main_v1_0 ∧ V4 m ρ c main_v2_1 = V3 m ρ c main_v1_1 ∧ V4 m ρ c main_v2_2 = V3 m ρ c main_v1_2 ∧ V4 m ρ c main_v2_3 = V3 m ρ c main_v1_3 := by
    show after hostOps2 (W3 m ρ c) (Proc.devRef .tc main_v2_0) = _ ∧ after hostOps2 (W3 m ρ c) (Proc.devRef .tc main_v2_1) = _ ∧ after hostOps2 (W3 m ρ c) (Proc.devRef .tc main_v2_2) = _ ∧ after hostOps2 (W3 m ρ c) (Proc.devRef .tc main_v2_3) = _
    refine ⟨?_, ?_, ?_, ?_⟩ <;> (after_results_simp <;> rfl)
  rw [← h0, ← h1, ← h2, ← h3, ← arr2]
  funext j
  match j with
  | ⟨0, _⟩ => exact W5_arr m ρ c 4
  | ⟨1, _⟩ => exact W5_arr m ρ c 5
  | ⟨2, _⟩ => exact W5_arr m ρ c 6
  | ⟨3, _⟩ => exact W5_arr m ρ c 7

theorem res3 : (![V7 m ρ c main_v3_0, V7 m ρ c main_v3_1, V7 m ρ c main_v3_2, V7 m ρ c main_v3_3] : Fin 4 → FVec Ideal S4x256x256 .f32) = layer 0 (m ((c : Thread nD τ).loc main_arg0)) (m ((c : Thread nD τ).loc main_arg1)) (m ((c : Thread nD τ).loc main_arg5)) (m ((c : Thread nD τ).loc main_arg6)) ![V5 m ρ c main_v2_0, V5 m ρ c main_v2_1, V5 m ρ c main_v2_2, V5 m ρ c main_v2_3] := by
  have e (b) (hb : b ∈ argRefs) : V6 m ρ c b = m ((c : Thread nD τ).loc b) := W6_args m ρ c b hb
  rw [← e main_arg0 (by decide), ← e main_arg1 (by decide), ← e main_arg5 (by decide), ← e main_arg6 (by decide)]
  obtain ⟨h0, h1, h2, h3⟩ : V6 m ρ c main_v3_0 = V5 m ρ c main_v2_0 ∧ V6 m ρ c main_v3_1 = V5 m ρ c main_v2_1 ∧ V6 m ρ c main_v3_2 = V5 m ρ c main_v2_2 ∧ V6 m ρ c main_v3_3 = V5 m ρ c main_v2_3 := by
    show after hostOps3 (W5 m ρ c) (Proc.devRef .tc main_v3_0) = _ ∧ after hostOps3 (W5 m ρ c) (Proc.devRef .tc main_v3_1) = _ ∧ after hostOps3 (W5 m ρ c) (Proc.devRef .tc main_v3_2) = _ ∧ after hostOps3 (W5 m ρ c) (Proc.devRef .tc main_v3_3) = _
    refine ⟨?_, ?_, ?_, ?_⟩ <;> (after_results_simp <;> rfl)
  rw [← h0, ← h1, ← h2, ← h3, ← arr3]
  funext j
  match j with
  | ⟨0, _⟩ => exact W7_arr m ρ c 4
  | ⟨1, _⟩ => exact W7_arr m ρ c 5
  | ⟨2, _⟩ => exact W7_arr m ρ c 6
  | ⟨3, _⟩ => exact W7_arr m ρ c 7

/-- The four results of the whole call. -/
theorem value : (![V7 m ρ c main_v3_0, V7 m ρ c main_v3_1, V7 m ρ c main_v3_2, V7 m ρ c main_v3_3] : Fin 4 → FVec Ideal S4x256x256 .f32) = quad (m ((c : Thread nD τ).loc main_arg0)) (m ((c : Thread nD τ).loc main_arg5)) (m ((c : Thread nD τ).loc main_arg6))
    (stack (m ((c : Thread nD τ).loc main_arg1)) (m ((c : Thread nD τ).loc main_arg2)) (m ((c : Thread nD τ).loc main_arg3)) (m ((c : Thread nD τ).loc main_arg4))) := by
  rw [res3, res2, res1, res0]
  exact layers _ _ _ _ _ _ _ _

end Cert.Kernel41Ideal.Body

namespace Cert.Kernel41Ideal.Body
open Cert.Kernel41Ideal Cert.Kernel41Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable (m : (ℓ : Loc nD τ sig) → Buf (Elt Ideal) ℓ) (ρ : Dev nD → PrngReg)

/-- The run, with the results as the four regions leave them. -/
theorem run : θ_run defs (onTc (τ := τ) (main (F := Ideal))) ⟨m, fun _ => 0, ρ⟩ fun r => ∀ c : Dev nD,
      r.2.mem ((c : Thread nD τ).loc main_v3_0) = V7 m ρ c main_v3_0
      ∧ r.2.mem ((c : Thread nD τ).loc main_v3_1) = V7 m ρ c main_v3_1
      ∧ r.2.mem ((c : Thread nD τ).loc main_v3_2) = V7 m ρ c main_v3_2
      ∧ r.2.mem ((c : Thread nD τ).loc main_v3_3) = V7 m ρ c main_v3_3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c => ⟨h c _ (mem_uc main_v3_0 (by decide)), h c _ (mem_uc main_v3_1 (by decide)), h c _ (mem_uc main_v3_2 (by decide)), h c _ (mem_uc main_v3_3 (by decide)),
      (h c _ (mem_uc main_arg0 (by decide))).trans (W7_main_arg0 m ρ c), (h c _ (mem_uc main_arg1 (by decide))).trans (W7_main_arg1 m ρ c), (h c _ (mem_uc main_arg2 (by decide))).trans (W7_main_arg2 m ρ c), (h c _ (mem_uc main_arg3 (by decide))).trans (W7_main_arg3 m ρ c), (h c _ (mem_uc main_arg4 (by decide))).trans (W7_main_arg4 m ρ c), (h c _ (mem_uc main_arg5 (by decide))).trans (W7_main_arg5 m ρ c), (h c _ (mem_uc main_arg6 (by decide))).trans (W7_main_arg6 m ρ c)⟩)

end Cert.Kernel41Ideal.Body

namespace Cert.Reference41Ideal.Read
open Cert.Reference41Ideal Cert.Reference41Ideal.Gen Idealize.ShloMosaic Idealize.ShloMosaic.TcCoe Idealize.SL.Sem Cert.Adam

theorem frame : Cert.quiescent_Reference41Ideal := fun m ρ _ =>
  (θ_run defs _ _).mono (fun r h => ⟨fun c => (h c).2.2.2.2, sem_eq_zero_of_no_sems (by decide) r.2⟩) (Value.run m ρ)

theorem stacked (g0 g1 g2 g3 : FVec Ideal S256x256 .f32) : (concatenate S4x256x256 0 [⟨S1x256x256, broadcastInDim S1x256x256 ![1, 2] bcast_S256x256_S1x256x256_1_2 g0⟩, ⟨S1x256x256, broadcastInDim S1x256x256 ![1, 2] bcast_S256x256_S1x256x256_1_2 g1⟩,
    ⟨S1x256x256, broadcastInDim S1x256x256 ![1, 2] bcast_S256x256_S1x256x256_1_2 g2⟩, ⟨S1x256x256, broadcastInDim S1x256x256 ![1, 2] bcast_S256x256_S1x256x256_1_2 g3⟩] concatenates_S1x256x256_S1x256x256_S1x256x256_S1x256x256_S4x256x256_d0 : FVec Ideal S4x256x256 .f32) = stack g0 g1 g2 g3 := by
  funext i
  obtain ⟨s, p, q, rfl⟩ : ∃ (s : Fin 4) (p : Fin 256) (q : Fin 256), ix3 s p q = i := ⟨i 0, i 1, i 2, funext fun b => by fin_cases b <;> rfl⟩
  match s with
  | ⟨0, _⟩ => pointwise []; rfl
  | ⟨1, _⟩ => pointwise []; rfl
  | ⟨2, _⟩ => pointwise []; rfl
  | ⟨3, _⟩ => pointwise []; rfl

end Cert.Reference41Ideal.Read

namespace Cert.Kernel41Ideal.Body
open Idealize.ShloMosaic Idealize.ShloMosaic.TcCoe Idealize.SL.Sem Cert.Adam

theorem algebraic : Cert.algebraic_Kernel41Ideal_Reference41Ideal := by
  intro m g m' g' hpre hag
  refine ⟨fun c => Cert.Kernel41Ideal.Gen.V7 m g c Cert.Kernel41Ideal.main_v3_0, fun c => Cert.Kernel41Ideal.Gen.V7 m g c Cert.Kernel41Ideal.main_v3_1, fun c => Cert.Kernel41Ideal.Gen.V7 m g c Cert.Kernel41Ideal.main_v3_2, fun c => Cert.Kernel41Ideal.Gen.V7 m g c Cert.Kernel41Ideal.main_v3_3, run m g, ?_⟩
  refine (θ_run Cert.Reference41Ideal.defs _ _).mono (fun r h c => ?_) (Cert.Reference41Ideal.Value.run m' g')
  obtain ⟨h0, h1, h2, h3, ha⟩ := h c
  obtain ⟨e0, e1, e2, e3, e4, e5, e6⟩ := hag c
  rw [Cert.Reference41Ideal.Read.stacked] at h0 h1 h2 h3
  rw [e1, e2, e3, e4] at h0
  rw [e0, e1, e2, e3, e4, e5, e6] at h1
  rw [e1, e2, e3, e4, e5] at h2
  rw [e1, e2, e3, e4, e6] at h3
  have hv := value m g c
  exact ⟨h0.trans (congrFun hv 0).symm, h1.trans (congrFun hv 1).symm, h2.trans (congrFun hv 2).symm, h3.trans (congrFun hv 3).symm, ha⟩

end Cert.Kernel41Ideal.Body

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.Gen.Kernel36.Frame
public import proofs.«01_k».proof.Proof.Gen.Kernel37.Frame
public import proofs.«01_k».proof.Proof.Gen.Kernel37Ideal.Frame
public import proofs.«01_k».proof.Proof.Gen.Reference37Ideal.Run
public import proofs.«01_k».proof.Proof.Gen.Kernel38.Frame
public import proofs.«01_k».proof.Proof.Gen.Kernel38Ideal.Frame
public import proofs.«01_k».proof.Proof.Gen.Reference38Ideal.Run
public import proofs.«01_k».proof.Proof.Gen.Kernel39.Frame
public import proofs.«01_k».proof.Proof.Gen.Kernel39Ideal.Frame
public import proofs.«01_k».proof.Proof.Gen.Reference39Ideal.Run
public import proofs.«01_k».proof.Proof.Gen.Kernel40.Frame
public import proofs.«01_k».proof.Proof.Gen.Kernel40Ideal.Frame
public import proofs.«01_k».proof.Proof.Gen.Reference40Ideal.Run
public import proofs.«01_k».proof.Proof.Gen.Kernel41.Frame
public import proofs.«01_k».proof.Proof.Gen.Kernel41Ideal.Frame
public import proofs.«01_k».proof.Proof.Gen.Reference41Ideal.Run
public import proofs.«01_k».proof.Proof.PoolClaim
public import proofs.«01_k».proof.Proof.MlpClaim
public import proofs.«01_k».proof.Proof.MmNormValue
public import proofs.«01_k».proof.Proof.MmWDown
public import proofs.«01_k».proof.Proof.MmNormGate
public import proofs.«01_k».proof.Proof.MmWUpGate
public import proofs.«01_k».proof.Proof.MmWUpValue
public import proofs.«01_k».proof.Proof.MmNormIn
public import proofs.«01_k».proof.Proof.MmWIn
public import proofs.«01_k».proof.Proof.MmNormMlp
public import proofs.«01_k».proof.Proof.MmDMix
public import proofs.«01_k».proof.Proof.MmWOut
public import proofs.«01_k».proof.Proof.MmWGate
public import proofs.«01_k».proof.Proof.MmDown
public import proofs.«01_k».proof.Proof.MmUpGate
public import proofs.«01_k».proof.Proof.MmUpValue
public import proofs.«01_k».proof.Proof.MmZ
public import proofs.«01_k».proof.Proof.MmOut
public import proofs.«01_k».proof.Proof.MmGate
public import proofs.«01_k».proof.Proof.MmWEmb
public import proofs.«01_k».proof.Proof.MmEmb
public import proofs.«01_k».proof.Proof.ElEmbGrad
public import proofs.«01_k».proof.Proof.ElLoss
public import proofs.«01_k».proof.Proof.ElEmbNorm
public import proofs.«01_k».proof.Proof.ElEmbLast
public import proofs.«01_k».proof.Proof.ElFirst
public import proofs.«01_k».proof.Proof.AdamFlat
public import proofs.«01_k».proof.Proof.AdamRows
public import proofs.«01_k».proof.Proof.AdamOut
public import proofs.«01_k».proof.Proof.AdamIn
public import proofs.«01_k».proof.Proof.AdamUp
public import proofs.«01_k».proof.Proof.AdamDown
public import proofs.«01_k».proof.Proof.AdamPe

/-! The claims: each frame, and the equality of the results. -/

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Kernel41.Gen.facts, Cert.Kernel41Ideal.Gen.facts, Cert.Reference41Ideal.Gen.facts,
  Cert.Pool.preFacts, Cert.Mlp.preFacts, Cert.Pool.onFacts, Cert.Kernel6Ideal.Body.onFacts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Read.frame m ρ,
  fun m ρ _ => Cert.ReferenceIdeal.Read.frame m ρ,
  fun m ρ _ => Cert.Kernel2.Gen.frame m ρ,
  fun m ρ _ => Cert.Kernel2Ideal.Gen.frame m ρ,
  fun m ρ _ => Cert.Kernel2Ideal.Gen.frame m ρ,
  fun m ρ _ => Cert.Reference2Ideal.Read.frame m ρ,
  fun m ρ _ => Cert.Reference2Ideal.Read.frame m ρ,
  fun m ρ _ => Cert.Kernel3.Gen.frame m ρ,
  fun m ρ _ => Cert.Kernel3Ideal.Gen.frame m ρ,
  fun m ρ _ => Cert.Reference3Ideal.Read.frame m ρ,
  fun m ρ _ => Cert.Kernel4.Gen.frame m ρ,
  fun m ρ _ => Cert.Kernel4Ideal.Gen.frame m ρ,
  fun m ρ _ => Cert.Reference4Ideal.Read.frame m ρ,
  fun m ρ _ => Cert.Kernel5.Gen.frame m ρ,
  fun m ρ _ => Cert.Kernel5Ideal.Gen.frame m ρ,
  fun m ρ _ => Cert.Reference5Ideal.Read.frame m ρ,
  fun m ρ _ => Cert.Kernel6.Gen.frame m ρ,
  fun m ρ _ => Cert.Kernel6Ideal.Gen.frame m ρ,
  fun m ρ _ => Cert.Reference6Ideal.Read.frame m ρ,
  fun m ρ _ => Cert.Kernel7.Gen.frame m ρ,
  fun m ρ _ => Cert.Kernel7Ideal.Gen.frame m ρ,
  fun m ρ _ => Cert.Reference7Ideal.Read.frame m ρ,
  fun m ρ _ => Cert.Kernel8.Gen.frame m ρ,
  fun m ρ _ => Cert.Kernel8Ideal.Gen.frame m ρ,
  fun m ρ _ => Cert.Reference8Ideal.Read.frame m ρ,
  fun m ρ _ => Cert.Kernel9.Gen.frame m ρ,
  fun m ρ _ => Cert.Kernel9Ideal.Gen.frame m ρ,
  fun m ρ _ => Cert.Reference9Ideal.Read.frame m ρ,
  fun m ρ _ => Cert.Kernel10.Gen.frame m ρ,
  fun m ρ _ => Cert.Kernel10Ideal.Gen.frame m ρ,
  fun m ρ _ => Cert.Reference10Ideal.Read.frame m ρ,
  fun m ρ _ => Cert.Kernel11.Gen.frame m ρ,
  fun m ρ _ => Cert.Kernel11Ideal.Gen.frame m ρ,
  fun m ρ _ => Cert.Reference11Ideal.Read.frame m ρ,
  fun m ρ _ => Cert.Kernel12.Gen.frame m ρ,
  fun m ρ _ => Cert.Kernel12Ideal.Gen.frame m ρ,
  fun m ρ _ => Cert.Reference12Ideal.Read.frame m ρ,
  fun m ρ _ => Cert.Kernel13.Gen.frame m ρ,
  fun m ρ _ => Cert.Kernel13Ideal.Gen.frame m ρ,
  fun m ρ _ => Cert.Reference13Ideal.Read.frame m ρ,
  fun m ρ _ => Cert.Kernel14.Gen.frame m ρ,
  fun m ρ _ => Cert.Kernel14Ideal.Gen.frame m ρ,
  fun m ρ _ => Cert.Reference14Ideal.Read.frame m ρ,
  fun m ρ _ => Cert.Kernel15.Gen.frame m ρ,
  fun m ρ _ => Cert.Kernel15Ideal.Gen.frame m ρ,
  fun m ρ _ => Cert.Reference15Ideal.Read.frame m ρ,
  fun m ρ _ => Cert.Kernel16.Gen.frame m ρ,
  fun m ρ _ => Cert.Kernel16Ideal.Gen.frame m ρ,
  fun m ρ _ => Cert.Reference16Ideal.Read.frame m ρ,
  fun m ρ _ => Cert.Kernel17.Gen.frame m ρ,
  fun m ρ _ => Cert.Kernel17Ideal.Gen.frame m ρ,
  fun m ρ _ => Cert.Reference17Ideal.Read.frame m ρ,
  fun m ρ _ => Cert.Kernel18.Gen.frame m ρ,
  fun m ρ _ => Cert.Kernel18Ideal.Gen.frame m ρ,
  fun m ρ _ => Cert.Reference18Ideal.Read.frame m ρ,
  fun m ρ _ => Cert.Kernel19.Gen.frame m ρ,
  fun m ρ _ => Cert.Kernel19Ideal.Gen.frame m ρ,
  fun m ρ _ => Cert.Reference19Ideal.Read.frame m ρ,
  fun m ρ _ => Cert.Kernel20.Gen.frame m ρ,
  fun m ρ _ => Cert.Kernel20Ideal.Gen.frame m ρ,
  fun m ρ _ => Cert.Reference20Ideal.Read.frame m ρ,
  fun m ρ _ => Cert.Kernel21.Gen.frame m ρ,
  fun m ρ _ => Cert.Kernel21Ideal.Gen.frame m ρ,
  fun m ρ _ => Cert.Reference21Ideal.Read.frame m ρ,
  fun m ρ _ => Cert.Kernel22.Gen.frame m ρ,
  fun m ρ _ => Cert.Kernel22Ideal.Gen.frame m ρ,
  fun m ρ _ => Cert.Reference22Ideal.Read.frame m ρ,
  fun m ρ _ => Cert.Kernel23.Gen.frame m ρ,
  fun m ρ _ => Cert.Kernel23Ideal.Gen.frame m ρ,
  fun m ρ _ => Cert.Reference23Ideal.Read.frame m ρ,
  fun m ρ _ => Cert.Kernel24.Gen.frame m ρ,
  fun m ρ _ => Cert.Kernel24Ideal.Gen.frame m ρ,
  fun m ρ _ => Cert.Reference24Ideal.Read.frame m ρ,
  fun m ρ _ => Cert.Kernel25.Gen.frame m ρ,
  fun m ρ _ => Cert.Kernel25Ideal.Gen.frame m ρ,
  fun m ρ _ => Cert.Reference25Ideal.Read.frame m ρ,
  fun m ρ _ => Cert.Kernel26.Gen.frame m ρ,
  fun m ρ _ => Cert.Kernel26Ideal.Gen.frame m ρ,
  fun m ρ _ => Cert.Reference26Ideal.Read.frame m ρ,
  fun m ρ _ => Cert.Kernel27.Gen.frame m ρ,
  fun m ρ _ => Cert.Kernel27Ideal.Gen.frame m ρ,
  Cert.Reference27Ideal.Read.frame,
  fun m ρ _ => Cert.Kernel28.Gen.frame m ρ,
  fun m ρ _ => Cert.Kernel28Ideal.Gen.frame m ρ,
  Cert.Reference28Ideal.Read.frame,
  fun m ρ _ => Cert.Kernel29.Gen.frame m ρ,
  fun m ρ _ => Cert.Kernel29Ideal.Gen.frame m ρ,
  Cert.Reference29Ideal.Read.frame,
  fun m ρ _ => Cert.Kernel30.Gen.frame m ρ,
  fun m ρ _ => Cert.Kernel30Ideal.Gen.frame m ρ,
  Cert.Reference30Ideal.Read.frame,
  fun m ρ _ => Cert.Kernel31.Gen.frame m ρ,
  fun m ρ _ => Cert.Kernel31Ideal.Gen.frame m ρ,
  Cert.Reference31Ideal.Read.frame,
  fun m ρ _ => Cert.Kernel32.Gen.frame m ρ,
  fun m ρ _ => Cert.Kernel32Ideal.Gen.frame m ρ,
  Cert.Reference32Ideal.Read.frame,
  fun m ρ _ => Cert.Kernel33.Gen.frame m ρ,
  fun m ρ _ => Cert.Kernel33Ideal.Gen.frame m ρ,
  Cert.Reference33Ideal.Read.frame,
  fun m ρ _ => Cert.Kernel34.Gen.frame m ρ,
  fun m ρ _ => Cert.Kernel34Ideal.Gen.frame m ρ,
  Cert.Reference34Ideal.Read.frame,
  fun m ρ _ => Cert.Kernel35.Gen.frame m ρ,
  fun m ρ _ => Cert.Kernel35Ideal.Gen.frame m ρ,
  Cert.Reference35Ideal.Read.frame,
  fun m ρ _ => Cert.Kernel36.Gen.frame m ρ,
  fun m ρ _ => Cert.Kernel36Ideal.Gen.frame m ρ,
  Cert.Reference36Ideal.Read.frame,
  fun m ρ _ => Cert.Kernel37.Gen.frame m ρ,
  fun m ρ _ => Cert.Kernel37Ideal.Gen.frame m ρ,
  Cert.Reference37Ideal.Read.frame,
  fun m ρ _ => Cert.Kernel38.Gen.frame m ρ,
  fun m ρ _ => Cert.Kernel38Ideal.Gen.frame m ρ,
  Cert.Reference38Ideal.Read.frame,
  fun m ρ _ => Cert.Kernel39.Gen.frame m ρ,
  fun m ρ _ => Cert.Kernel39Ideal.Gen.frame m ρ,
  Cert.Reference39Ideal.Read.frame,
  fun m ρ _ => Cert.Kernel40.Gen.frame m ρ,
  fun m ρ _ => Cert.Kernel40Ideal.Gen.frame m ρ,
  Cert.Reference40Ideal.Read.frame,
  fun m ρ _ => Cert.Kernel41.Gen.frame m ρ,
  fun m ρ _ => Cert.Kernel41Ideal.Gen.frame m ρ,
  Cert.Reference41Ideal.Read.frame,
  trivial,
  Cert.Pool.algebraic,
  Cert.Mlp.preserves,
  Cert.Mlp.algebraic,
  trivial,
  Cert.Kernel3Ideal.Body.algebraic,
  trivial,
  Cert.Kernel4Ideal.Body.algebraic,
  trivial,
  Cert.Kernel5Ideal.Body.algebraic,
  trivial,
  Cert.Kernel6Ideal.Body.algebraic,
  trivial,
  Cert.Kernel7Ideal.Body.algebraic,
  trivial,
  Cert.Kernel8Ideal.Body.algebraic,
  trivial,
  Cert.Kernel9Ideal.Body.algebraic,
  trivial,
  Cert.Kernel10Ideal.Body.algebraic,
  trivial,
  Cert.Kernel11Ideal.Body.algebraic,
  trivial,
  Cert.Kernel12Ideal.Body.algebraic,
  trivial,
  Cert.Kernel13Ideal.Body.algebraic,
  trivial,
  Cert.Kernel14Ideal.Body.algebraic,
  trivial,
  Cert.Kernel15Ideal.Body.algebraic,
  trivial,
  Cert.Kernel16Ideal.Body.algebraic,
  trivial,
  Cert.Kernel17Ideal.Body.algebraic,
  trivial,
  Cert.Kernel18Ideal.Body.algebraic,
  trivial,
  Cert.Kernel19Ideal.Body.algebraic,
  trivial,
  Cert.Kernel20Ideal.Body.algebraic,
  trivial,
  Cert.Kernel21Ideal.Body.algebraic,
  trivial,
  Cert.Kernel22Ideal.Body.algebraic,
  trivial,
  Cert.Kernel23Ideal.Body.algebraic,
  trivial,
  Cert.Kernel24Ideal.Body.algebraic,
  trivial,
  Cert.Kernel25Ideal.Body.algebraic,
  trivial,
  Cert.Kernel26Ideal.Body.algebraic,
  trivial,
  Cert.Kernel27Ideal.Body.algebraic,
  trivial,
  Cert.Kernel28Ideal.Body.algebraic,
  trivial,
  Cert.Kernel29Ideal.Body.algebraic,
  trivial,
  Cert.Kernel30Ideal.Body.algebraic,
  trivial,
  Cert.Kernel31Ideal.Body.algebraic,
  trivial,
  Cert.Kernel32Ideal.Body.algebraic,
  trivial,
  Cert.Kernel33Ideal.Body.algebraic,
  trivial,
  Cert.Kernel34Ideal.Body.algebraic,
  trivial,
  Cert.Kernel35Ideal.Body.algebraic,
  trivial,
  Cert.Kernel36Ideal.Body.algebraic,
  trivial,
  Cert.Kernel37Ideal.Body.algebraic,
  trivial,
  Cert.Kernel38Ideal.Body.algebraic,
  trivial,
  Cert.Kernel39Ideal.Body.algebraic,
  trivial,
  Cert.Kernel40Ideal.Body.algebraic,
  trivial,
  Cert.Kernel41Ideal.Body.algebraic⟩

end Cert.Proof

end
